-- ==== Defs.lean ====
def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_att [hPre_finite_att : Cert.Pre_finite_att.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_att.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_att [hPre_finite_att : Cert.Pre_finite_att.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_att.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1))) = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))) = (fun _ => 1#1)

def Pre_PrenormBwd (m : (ℓ : Loc Cert.PrenormBwd.nD Cert.PrenormBwd.τ Cert.PrenormBwd.sig) → Buf (Elt Bits) ℓ) : Prop :=
  True

def Pre_PrenormBwdIdeal (m : (ℓ : Loc Cert.PrenormBwdIdeal.nD Cert.PrenormBwdIdeal.τ Cert.PrenormBwdIdeal.sig) → Buf (Elt Ideal) ℓ) : Prop :=
  True

def Pre_PrenormBwdIdeal_finite_pren [hPre_finite_pren : Cert.Pre_finite_pren.Facts] (m : (ℓ : Loc Cert.PrenormBwdIdeal.nD Cert.PrenormBwdIdeal.τ Cert.PrenormBwdIdeal.sig) → Buf (Elt Ideal) ℓ) : Prop :=
  ∀ c : Dev Cert.PrenormBwdIdeal.nD,
    (Cert.Pre_finite_pren.fn (F := Ideal) (m ((c.tc : Thread Cert.PrenormBwdIdeal.nD Cert.PrenormBwdIdeal.τ).loc Cert.PrenormBwdIdeal.main_arg0)) (m ((c.tc : Thread Cert.PrenormBwdIdeal.nD Cert.PrenormBwdIdeal.τ).loc Cert.PrenormBwdIdeal.main_arg1)) (m ((c.tc : Thread Cert.PrenormBwdIdeal.nD Cert.PrenormBwdIdeal.τ).loc Cert.PrenormBwdIdeal.main_arg2)) (m ((c.tc : Thread Cert.PrenormBwdIdeal.nD Cert.PrenormBwdIdeal.τ).loc Cert.PrenormBwdIdeal.main_arg3)) (m ((c.tc : Thread Cert.PrenormBwdIdeal.nD Cert.PrenormBwdIdeal.τ).loc Cert.PrenormBwdIdeal.main_arg4)) (m ((c.tc : Thread Cert.PrenormBwdIdeal.nD Cert.PrenormBwdIdeal.τ).loc Cert.PrenormBwdIdeal.main_arg5))) = (fun _ => 1#1)

def Pre_PrenormBwdRefIdeal (m : (ℓ : Loc Cert.PrenormBwdRefIdeal.nD Cert.PrenormBwdRefIdeal.τ Cert.PrenormBwdRefIdeal.sig) → Buf (Elt Ideal) ℓ) : Prop :=
  True

def Pre_PrenormBwdRefIdeal_finite_pren [hPre_finite_pren : Cert.Pre_finite_pren.Facts] (m : (ℓ : Loc Cert.PrenormBwdRefIdeal.nD Cert.PrenormBwdRefIdeal.τ Cert.PrenormBwdRefIdeal.sig) → Buf (Elt Ideal) ℓ) : Prop :=
  ∀ c : Dev Cert.PrenormBwdRefIdeal.nD,
    (Cert.Pre_finite_pren.fn (F := Ideal) (m ((c.tc : Thread Cert.PrenormBwdRefIdeal.nD Cert.PrenormBwdRefIdeal.τ).loc Cert.PrenormBwdRefIdeal.main_arg0)) (m ((c.tc : Thread Cert.PrenormBwdRefIdeal.nD Cert.PrenormBwdRefIdeal.τ).loc Cert.PrenormBwdRefIdeal.main_arg1)) (m ((c.tc : Thread Cert.PrenormBwdRefIdeal.nD Cert.PrenormBwdRefIdeal.τ).loc Cert.PrenormBwdRefIdeal.main_arg2)) (m ((c.tc : Thread Cert.PrenormBwdRefIdeal.nD Cert.PrenormBwdRefIdeal.τ).loc Cert.PrenormBwdRefIdeal.main_arg3)) (m ((c.tc : Thread Cert.PrenormBwdRefIdeal.nD Cert.PrenormBwdRefIdeal.τ).loc Cert.PrenormBwdRefIdeal.main_arg4)) (m ((c.tc : Thread Cert.PrenormBwdRefIdeal.nD Cert.PrenormBwdRefIdeal.τ).loc Cert.PrenormBwdRefIdeal.main_arg5))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite_conv [hPre_finite_conv : Cert.Pre_finite_conv.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2))) = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite_pool [hPre_finite_pool : Cert.Pre_finite_pool.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))) = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_finite_pool [hPre_finite_pool : Cert.Pre_finite_pool.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attf [hPre_finite_attf : Cert.Pre_finite_attf.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attf.fn (F := Ideal) (m ((c.tc : Thread Cert.AttnFwdIdeal.nD Cert.AttnFwdIdeal.τ).loc Cert.AttnFwdIdeal.main_arg0))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attf [hPre_finite_attf : Cert.Pre_finite_attf.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attf.fn (F := Ideal) (m ((c.tc : Thread Cert.AttnFwdRefIdeal.nD Cert.AttnFwdRefIdeal.τ).loc Cert.AttnFwdRefIdeal.main_arg0))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_plf [hPre_finite_plf : Cert.Pre_finite_plf.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_plf.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_finite_plf [hPre_finite_plf : Cert.Pre_finite_plf.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_finite_plf.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_PrenormFwd (m : (ℓ : Loc Cert.PrenormFwd.nD Cert.PrenormFwd.τ Cert.PrenormFwd.sig) → Buf (Elt Bits) ℓ) : Prop :=
  True

def Pre_PrenormFwdIdeal (m : (ℓ : Loc Cert.PrenormFwdIdeal.nD Cert.PrenormFwdIdeal.τ Cert.PrenormFwdIdeal.sig) → Buf (Elt Ideal) ℓ) : Prop :=
  True

def Pre_PrenormFwdRefIdeal (m : (ℓ : Loc Cert.PrenormFwdRefIdeal.nD Cert.PrenormFwdRefIdeal.τ Cert.PrenormFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MergedGrad (m : (ℓ : Loc Cert.MergedGrad.nD Cert.MergedGrad.τ Cert.MergedGrad.sig) → Buf (Elt Bits) ℓ) : Prop :=
  True

def Pre_MergedGradIdeal (m : (ℓ : Loc Cert.MergedGradIdeal.nD Cert.MergedGradIdeal.τ Cert.MergedGradIdeal.sig) → Buf (Elt Ideal) ℓ) : Prop :=
  True

def Pre_MergedGradRefIdeal (m : (ℓ : Loc Cert.MergedGradRefIdeal.nD Cert.MergedGradRefIdeal.τ Cert.MergedGradRefIdeal.sig) → Buf (Elt Ideal) ℓ) : Prop :=
  True

def Pre_InProjGrad (m : (ℓ : Loc Cert.InProjGrad.nD Cert.InProjGrad.τ Cert.InProjGrad.sig) → Buf (Elt Bits) ℓ) : Prop :=
  True

def Pre_InProjGradIdeal (m : (ℓ : Loc Cert.InProjGradIdeal.nD Cert.InProjGradIdeal.τ Cert.InProjGradIdeal.sig) → Buf (Elt Ideal) ℓ) : Prop :=
  True

def Pre_InProjGradRefIdeal (m : (ℓ : Loc Cert.InProjGradRefIdeal.nD Cert.InProjGradRefIdeal.τ Cert.InProjGradRefIdeal.sig) → Buf (Elt Ideal) ℓ) : Prop :=
  True

def Pre_RowsGrad (m : (ℓ : Loc Cert.RowsGrad.nD Cert.RowsGrad.τ Cert.RowsGrad.sig) → Buf (Elt Bits) ℓ) : Prop :=
  True

def Pre_RowsGradIdeal (m : (ℓ : Loc Cert.RowsGradIdeal.nD Cert.RowsGradIdeal.τ Cert.RowsGradIdeal.sig) → Buf (Elt Ideal) ℓ) : Prop :=
  True

def Pre_RowsGradRefIdeal (m : (ℓ : Loc Cert.RowsGradRefIdeal.nD Cert.RowsGradRefIdeal.τ Cert.RowsGradRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1))
      ∧ r.2.sem = fun _ => 0)

def quiescent_AttnBwdIdeal_pre_finite_att [hAttnBwdIdeal : Cert.AttnBwdIdeal.Facts] [hPre_finite_att : Cert.Pre_finite_att.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_att m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1))
      ∧ r.2.sem = fun _ => 0)

def quiescent_AttnBwdRefIdeal_pre_finite_att [hAttnBwdRefIdeal : Cert.AttnBwdRefIdeal.Facts] [hPre_finite_att : Cert.Pre_finite_att.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_att m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_PrenormBwd [hPrenormBwd : Cert.PrenormBwd.Facts] : Prop :=
  ∀ (m : (ℓ : Loc Cert.PrenormBwd.nD Cert.PrenormBwd.τ Cert.PrenormBwd.sig) → Buf (Elt Bits) ℓ) (g : Dev Cert.PrenormBwd.nD → PrngReg), Pre_PrenormBwd m →
    θ_run (Cert.PrenormBwd.defs (F := Bits)) (onTc (τ := Cert.PrenormBwd.τ) (Cert.PrenormBwd.main (F := Bits))) ⟨m, fun _ => 0, g⟩ (fun r => (∀ c : Dev Cert.PrenormBwd.nD,
      r.2.mem ((c.tc : Thread Cert.PrenormBwd.nD Cert.PrenormBwd.τ).loc Cert.PrenormBwd.main_arg0) = m ((c.tc : Thread Cert.PrenormBwd.nD Cert.PrenormBwd.τ).loc Cert.PrenormBwd.main_arg0)
      ∧ r.2.mem ((c.tc : Thread Cert.PrenormBwd.nD Cert.PrenormBwd.τ).loc Cert.PrenormBwd.main_arg1) = m ((c.tc : Thread Cert.PrenormBwd.nD Cert.PrenormBwd.τ).loc Cert.PrenormBwd.main_arg1)
      ∧ r.2.mem ((c.tc : Thread Cert.PrenormBwd.nD Cert.PrenormBwd.τ).loc Cert.PrenormBwd.main_arg2) = m ((c.tc : Thread Cert.PrenormBwd.nD Cert.PrenormBwd.τ).loc Cert.PrenormBwd.main_arg2)
      ∧ r.2.mem ((c.tc : Thread Cert.PrenormBwd.nD Cert.PrenormBwd.τ).loc Cert.PrenormBwd.main_arg3) = m ((c.tc : Thread Cert.PrenormBwd.nD Cert.PrenormBwd.τ).loc Cert.PrenormBwd.main_arg3)
      ∧ r.2.mem ((c.tc : Thread Cert.PrenormBwd.nD Cert.PrenormBwd.τ).loc Cert.PrenormBwd.main_arg4) = m ((c.tc : Thread Cert.PrenormBwd.nD Cert.PrenormBwd.τ).loc Cert.PrenormBwd.main_arg4)
      ∧ r.2.mem ((c.tc : Thread Cert.PrenormBwd.nD Cert.PrenormBwd.τ).loc Cert.PrenormBwd.main_arg5) = m ((c.tc : Thread Cert.PrenormBwd.nD Cert.PrenormBwd.τ).loc Cert.PrenormBwd.main_arg5))
      ∧ r.2.sem = fun _ => 0)

def quiescent_PrenormBwdIdeal [hPrenormBwdIdeal : Cert.PrenormBwdIdeal.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg), Pre_PrenormBwdIdeal m →
    θ_run (Cert.PrenormBwdIdeal.defs (F := Ideal)) (onTc (τ := Cert.PrenormBwdIdeal.τ) (Cert.PrenormBwdIdeal.main (F := Ideal))) ⟨m, fun _ => 0, g⟩ (fun r => (∀ c : Dev Cert.PrenormBwdIdeal.nD,
      r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
      ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
      ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
      ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
      ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4)
      ∧ r.2.mem ((c.tc : Thread Cert.PrenormBwdIdeal.nD Cert.PrenormBwdIdeal.τ).loc Cert.PrenormBwdIdeal.main_arg5) = m ((c.tc : Thread Cert.PrenormBwdIdeal.nD Cert.PrenormBwdIdeal.τ).loc Cert.PrenormBwdIdeal.main_arg5))
      ∧ r.2.sem = fun _ => 0)

def quiescent_PrenormBwdIdeal_pre_finite_pren [hPrenormBwdIdeal : Cert.PrenormBwdIdeal.Facts] [hPre_finite_pren : Cert.Pre_finite_pren.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg), Pre_PrenormBwdIdeal_finite_pren m →
    θ_run (Cert.PrenormBwdIdeal.defs (F := Ideal)) (onTc (τ := Cert.PrenormBwdIdeal.τ) (Cert.PrenormBwdIdeal.main (F := Ideal))) ⟨m, fun _ => 0, g⟩ (fun r => (∀ c : Dev Cert.PrenormBwdIdeal.nD,
      r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
      ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
      ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
      ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
      ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4)
      ∧ r.2.mem ((c.tc : Thread Cert.PrenormBwdIdeal.nD Cert.PrenormBwdIdeal.τ).loc Cert.PrenormBwdIdeal.main_arg5) = m ((c.tc : Thread Cert.PrenormBwdIdeal.nD Cert.PrenormBwdIdeal.τ).loc Cert.PrenormBwdIdeal.main_arg5))
      ∧ r.2.sem = fun _ => 0)

def quiescent_PrenormBwdRefIdeal [hPrenormBwdRefIdeal : Cert.PrenormBwdRefIdeal.Facts] : Prop :=
  ∀ (m : (ℓ : Loc Cert.PrenormBwdRefIdeal.nD Cert.PrenormBwdRefIdeal.τ Cert.PrenormBwdRefIdeal.sig) → Buf (Elt Ideal) ℓ) (g : Dev Cert.PrenormBwdRefIdeal.nD → PrngReg), Pre_PrenormBwdRefIdeal m →
    θ_run (Cert.PrenormBwdRefIdeal.defs (F := Ideal)) (onTc (τ := Cert.PrenormBwdRefIdeal.τ) (Cert.PrenormBwdRefIdeal.main (F := Ideal))) ⟨m, fun _ => 0, g⟩ (fun r => (∀ c : Dev Cert.PrenormBwdRefIdeal.nD,
      r.2.mem ((c.tc : Thread Cert.PrenormBwdRefIdeal.nD Cert.PrenormBwdRefIdeal.τ).loc Cert.PrenormBwdRefIdeal.main_arg0) = m ((c.tc : Thread Cert.PrenormBwdRefIdeal.nD Cert.PrenormBwdRefIdeal.τ).loc Cert.PrenormBwdRefIdeal.main_arg0)
      ∧ r.2.mem ((c.tc : Thread Cert.PrenormBwdRefIdeal.nD Cert.PrenormBwdRefIdeal.τ).loc Cert.PrenormBwdRefIdeal.main_arg1) = m ((c.tc : Thread Cert.PrenormBwdRefIdeal.nD Cert.PrenormBwdRefIdeal.τ).loc Cert.PrenormBwdRefIdeal.main_arg1)
      ∧ r.2.mem ((c.tc : Thread Cert.PrenormBwdRefIdeal.nD Cert.PrenormBwdRefIdeal.τ).loc Cert.PrenormBwdRefIdeal.main_arg2) = m ((c.tc : Thread Cert.PrenormBwdRefIdeal.nD Cert.PrenormBwdRefIdeal.τ).loc Cert.PrenormBwdRefIdeal.main_arg2)
      ∧ r.2.mem ((c.tc : Thread Cert.PrenormBwdRefIdeal.nD Cert.PrenormBwdRefIdeal.τ).loc Cert.PrenormBwdRefIdeal.main_arg3) = m ((c.tc : Thread Cert.PrenormBwdRefIdeal.nD Cert.PrenormBwdRefIdeal.τ).loc Cert.PrenormBwdRefIdeal.main_arg3)
      ∧ r.2.mem ((c.tc : Thread Cert.PrenormBwdRefIdeal.nD Cert.PrenormBwdRefIdeal.τ).loc Cert.PrenormBwdRefIdeal.main_arg4) = m ((c.tc : Thread Cert.PrenormBwdRefIdeal.nD Cert.PrenormBwdRefIdeal.τ).loc Cert.PrenormBwdRefIdeal.main_arg4)
      ∧ r.2.mem ((c.tc : Thread Cert.PrenormBwdRefIdeal.nD Cert.PrenormBwdRefIdeal.τ).loc Cert.PrenormBwdRefIdeal.main_arg5) = m ((c.tc : Thread Cert.PrenormBwdRefIdeal.nD Cert.PrenormBwdRefIdeal.τ).loc Cert.PrenormBwdRefIdeal.main_arg5))
      ∧ r.2.sem = fun _ => 0)

def quiescent_PrenormBwdRefIdeal_pre_finite_pren [hPrenormBwdRefIdeal : Cert.PrenormBwdRefIdeal.Facts] [hPre_finite_pren : Cert.Pre_finite_pren.Facts] : Prop :=
  ∀ (m : (ℓ : Loc Cert.PrenormBwdRefIdeal.nD Cert.PrenormBwdRefIdeal.τ Cert.PrenormBwdRefIdeal.sig) → Buf (Elt Ideal) ℓ) (g : Dev Cert.PrenormBwdRefIdeal.nD → PrngReg), Pre_PrenormBwdRefIdeal_finite_pren m →
    θ_run (Cert.PrenormBwdRefIdeal.defs (F := Ideal)) (onTc (τ := Cert.PrenormBwdRefIdeal.τ) (Cert.PrenormBwdRefIdeal.main (F := Ideal))) ⟨m, fun _ => 0, g⟩ (fun r => (∀ c : Dev Cert.PrenormBwdRefIdeal.nD,
      r.2.mem ((c.tc : Thread Cert.PrenormBwdRefIdeal.nD Cert.PrenormBwdRefIdeal.τ).loc Cert.PrenormBwdRefIdeal.main_arg0) = m ((c.tc : Thread Cert.PrenormBwdRefIdeal.nD Cert.PrenormBwdRefIdeal.τ).loc Cert.PrenormBwdRefIdeal.main_arg0)
      ∧ r.2.mem ((c.tc : Thread Cert.PrenormBwdRefIdeal.nD Cert.PrenormBwdRefIdeal.τ).loc Cert.PrenormBwdRefIdeal.main_arg1) = m ((c.tc : Thread Cert.PrenormBwdRefIdeal.nD Cert.PrenormBwdRefIdeal.τ).loc Cert.PrenormBwdRefIdeal.main_arg1)
      ∧ r.2.mem ((c.tc : Thread Cert.PrenormBwdRefIdeal.nD Cert.PrenormBwdRefIdeal.τ).loc Cert.PrenormBwdRefIdeal.main_arg2) = m ((c.tc : Thread Cert.PrenormBwdRefIdeal.nD Cert.PrenormBwdRefIdeal.τ).loc Cert.PrenormBwdRefIdeal.main_arg2)
      ∧ r.2.mem ((c.tc : Thread Cert.PrenormBwdRefIdeal.nD Cert.PrenormBwdRefIdeal.τ).loc Cert.PrenormBwdRefIdeal.main_arg3) = m ((c.tc : Thread Cert.PrenormBwdRefIdeal.nD Cert.PrenormBwdRefIdeal.τ).loc Cert.PrenormBwdRefIdeal.main_arg3)
      ∧ r.2.mem ((c.tc : Thread Cert.PrenormBwdRefIdeal.nD Cert.PrenormBwdRefIdeal.τ).loc Cert.PrenormBwdRefIdeal.main_arg4) = m ((c.tc : Thread Cert.PrenormBwdRefIdeal.nD Cert.PrenormBwdRefIdeal.τ).loc Cert.PrenormBwdRefIdeal.main_arg4)
      ∧ r.2.mem ((c.tc : Thread Cert.PrenormBwdRefIdeal.nD Cert.PrenormBwdRefIdeal.τ).loc Cert.PrenormBwdRefIdeal.main_arg5) = m ((c.tc : Thread Cert.PrenormBwdRefIdeal.nD Cert.PrenormBwdRefIdeal.τ).loc Cert.PrenormBwdRefIdeal.main_arg5))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_ConvBwdRefIdeal_pre_finite_conv [hConvBwdRefIdeal : Cert.ConvBwdRefIdeal.Facts] [hPre_finite_conv : Cert.Pre_finite_conv.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite_conv m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_finite_pool [hPoolBwdIdeal : Cert.PoolBwdIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite_pool m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PoolBwdRefIdeal_pre_finite_pool [hPoolBwdRefIdeal : Cert.PoolBwdRefIdeal.Facts] [hPre_finite_pool : Cert.Pre_finite_pool.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_finite_pool m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ r.2.sem = fun _ => 0)

def quiescent_AttnFwdIdeal_pre_finite_attf [hAttnFwdIdeal : Cert.AttnFwdIdeal.Facts] [hPre_finite_attf : Cert.Pre_finite_attf.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attf m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0))
      ∧ r.2.sem = fun _ => 0)

def quiescent_AttnFwdRefIdeal_pre_finite_attf [hAttnFwdRefIdeal : Cert.AttnFwdRefIdeal.Facts] [hPre_finite_attf : Cert.Pre_finite_attf.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attf m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_finite_plf [hPoolFwdIdeal : Cert.PoolFwdIdeal.Facts] [hPre_finite_plf : Cert.Pre_finite_plf.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_plf m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_finite_plf [hPoolFwdRefIdeal : Cert.PoolFwdRefIdeal.Facts] [hPre_finite_plf : Cert.Pre_finite_plf.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_finite_plf m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2))
      ∧ r.2.sem = fun _ => 0)

def quiescent_PrenormFwd [hPrenormFwd : Cert.PrenormFwd.Facts] : Prop :=
  ∀ (m : (ℓ : Loc Cert.PrenormFwd.nD Cert.PrenormFwd.τ Cert.PrenormFwd.sig) → Buf (Elt Bits) ℓ) (g : Dev Cert.PrenormFwd.nD → PrngReg), Pre_PrenormFwd m →
    θ_run (Cert.PrenormFwd.defs (F := Bits)) (onTc (τ := Cert.PrenormFwd.τ) (Cert.PrenormFwd.main (F := Bits))) ⟨m, fun _ => 0, g⟩ (fun r => (∀ c : Dev Cert.PrenormFwd.nD,
      r.2.mem ((c.tc : Thread Cert.PrenormFwd.nD Cert.PrenormFwd.τ).loc Cert.PrenormFwd.main_arg0) = m ((c.tc : Thread Cert.PrenormFwd.nD Cert.PrenormFwd.τ).loc Cert.PrenormFwd.main_arg0)
      ∧ r.2.mem ((c.tc : Thread Cert.PrenormFwd.nD Cert.PrenormFwd.τ).loc Cert.PrenormFwd.main_arg1) = m ((c.tc : Thread Cert.PrenormFwd.nD Cert.PrenormFwd.τ).loc Cert.PrenormFwd.main_arg1)
      ∧ r.2.mem ((c.tc : Thread Cert.PrenormFwd.nD Cert.PrenormFwd.τ).loc Cert.PrenormFwd.main_arg2) = m ((c.tc : Thread Cert.PrenormFwd.nD Cert.PrenormFwd.τ).loc Cert.PrenormFwd.main_arg2)
      ∧ r.2.mem ((c.tc : Thread Cert.PrenormFwd.nD Cert.PrenormFwd.τ).loc Cert.PrenormFwd.main_arg3) = m ((c.tc : Thread Cert.PrenormFwd.nD Cert.PrenormFwd.τ).loc Cert.PrenormFwd.main_arg3))
      ∧ r.2.sem = fun _ => 0)

def quiescent_PrenormFwdIdeal [hPrenormFwdIdeal : Cert.PrenormFwdIdeal.Facts] : Prop :=
  ∀ (m : (ℓ : Loc Cert.PrenormFwdIdeal.nD Cert.PrenormFwdIdeal.τ Cert.PrenormFwdIdeal.sig) → Buf (Elt Ideal) ℓ) (g : Dev Cert.PrenormFwdIdeal.nD → PrngReg), Pre_PrenormFwdIdeal m →
    θ_run (Cert.PrenormFwdIdeal.defs (F := Ideal)) (onTc (τ := Cert.PrenormFwdIdeal.τ) (Cert.PrenormFwdIdeal.main (F := Ideal))) ⟨m, fun _ => 0, g⟩ (fun r => (∀ c : Dev Cert.PrenormFwdIdeal.nD,
      r.2.mem ((c.tc : Thread Cert.PrenormFwdIdeal.nD Cert.PrenormFwdIdeal.τ).loc Cert.PrenormFwdIdeal.main_arg0) = m ((c.tc : Thread Cert.PrenormFwdIdeal.nD Cert.PrenormFwdIdeal.τ).loc Cert.PrenormFwdIdeal.main_arg0)
      ∧ r.2.mem ((c.tc : Thread Cert.PrenormFwdIdeal.nD Cert.PrenormFwdIdeal.τ).loc Cert.PrenormFwdIdeal.main_arg1) = m ((c.tc : Thread Cert.PrenormFwdIdeal.nD Cert.PrenormFwdIdeal.τ).loc Cert.PrenormFwdIdeal.main_arg1)
      ∧ r.2.mem ((c.tc : Thread Cert.PrenormFwdIdeal.nD Cert.PrenormFwdIdeal.τ).loc Cert.PrenormFwdIdeal.main_arg2) = m ((c.tc : Thread Cert.PrenormFwdIdeal.nD Cert.PrenormFwdIdeal.τ).loc Cert.PrenormFwdIdeal.main_arg2)
      ∧ r.2.mem ((c.tc : Thread Cert.PrenormFwdIdeal.nD Cert.PrenormFwdIdeal.τ).loc Cert.PrenormFwdIdeal.main_arg3) = m ((c.tc : Thread Cert.PrenormFwdIdeal.nD Cert.PrenormFwdIdeal.τ).loc Cert.PrenormFwdIdeal.main_arg3))
      ∧ r.2.sem = fun _ => 0)

def quiescent_PrenormFwdRefIdeal [hPrenormFwdRefIdeal : Cert.PrenormFwdRefIdeal.Facts] : Prop :=
  ∀ (m : (ℓ : Loc Cert.PrenormFwdRefIdeal.nD Cert.PrenormFwdRefIdeal.τ Cert.PrenormFwdRefIdeal.sig) → Buf (Elt Ideal) ℓ) (g : Dev Cert.PrenormFwdRefIdeal.nD → PrngReg), Pre_PrenormFwdRefIdeal m →
    θ_run (Cert.PrenormFwdRefIdeal.defs (F := Ideal)) (onTc (τ := Cert.PrenormFwdRefIdeal.τ) (Cert.PrenormFwdRefIdeal.main (F := Ideal))) ⟨m, fun _ => 0, g⟩ (fun r => (∀ c : Dev Cert.PrenormFwdRefIdeal.nD,
      r.2.mem ((c.tc : Thread Cert.PrenormFwdRefIdeal.nD Cert.PrenormFwdRefIdeal.τ).loc Cert.PrenormFwdRefIdeal.main_arg0) = m ((c.tc : Thread Cert.PrenormFwdRefIdeal.nD Cert.PrenormFwdRefIdeal.τ).loc Cert.PrenormFwdRefIdeal.main_arg0)
      ∧ r.2.mem ((c.tc : Thread Cert.PrenormFwdRefIdeal.nD Cert.PrenormFwdRefIdeal.τ).loc Cert.PrenormFwdRefIdeal.main_arg1) = m ((c.tc : Thread Cert.PrenormFwdRefIdeal.nD Cert.PrenormFwdRefIdeal.τ).loc Cert.PrenormFwdRefIdeal.main_arg1)
      ∧ r.2.mem ((c.tc : Thread Cert.PrenormFwdRefIdeal.nD Cert.PrenormFwdRefIdeal.τ).loc Cert.PrenormFwdRefIdeal.main_arg2) = m ((c.tc : Thread Cert.PrenormFwdRefIdeal.nD Cert.PrenormFwdRefIdeal.τ).loc Cert.PrenormFwdRefIdeal.main_arg2)
      ∧ r.2.mem ((c.tc : Thread Cert.PrenormFwdRefIdeal.nD Cert.PrenormFwdRefIdeal.τ).loc Cert.PrenormFwdRefIdeal.main_arg3) = m ((c.tc : Thread Cert.PrenormFwdRefIdeal.nD Cert.PrenormFwdRefIdeal.τ).loc Cert.PrenormFwdRefIdeal.main_arg3))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MergedGrad [hMergedGrad : Cert.MergedGrad.Facts] : Prop :=
  ∀ (m : (ℓ : Loc Cert.MergedGrad.nD Cert.MergedGrad.τ Cert.MergedGrad.sig) → Buf (Elt Bits) ℓ) (g : Dev Cert.MergedGrad.nD → PrngReg), Pre_MergedGrad m →
    θ_run (Cert.MergedGrad.defs (F := Bits)) (onTc (τ := Cert.MergedGrad.τ) (Cert.MergedGrad.main (F := Bits))) ⟨m, fun _ => 0, g⟩ (fun r => (∀ c : Dev Cert.MergedGrad.nD,
      r.2.mem ((c.tc : Thread Cert.MergedGrad.nD Cert.MergedGrad.τ).loc Cert.MergedGrad.main_arg0) = m ((c.tc : Thread Cert.MergedGrad.nD Cert.MergedGrad.τ).loc Cert.MergedGrad.main_arg0)
      ∧ r.2.mem ((c.tc : Thread Cert.MergedGrad.nD Cert.MergedGrad.τ).loc Cert.MergedGrad.main_arg1) = m ((c.tc : Thread Cert.MergedGrad.nD Cert.MergedGrad.τ).loc Cert.MergedGrad.main_arg1))
      ∧ r.2.sem = fun _ => 0)

def quiescent_MergedGradIdeal [hMergedGradIdeal : Cert.MergedGradIdeal.Facts] : Prop :=
  ∀ (m : (ℓ : Loc Cert.MergedGradIdeal.nD Cert.MergedGradIdeal.τ Cert.MergedGradIdeal.sig) → Buf (Elt Ideal) ℓ) (g : Dev Cert.MergedGradIdeal.nD → PrngReg), Pre_MergedGradIdeal m →
    θ_run (Cert.MergedGradIdeal.defs (F := Ideal)) (onTc (τ := Cert.MergedGradIdeal.τ) (Cert.MergedGradIdeal.main (F := Ideal))) ⟨m, fun _ => 0, g⟩ (fun r => (∀ c : Dev Cert.MergedGradIdeal.nD,
      r.2.mem ((c.tc : Thread Cert.MergedGradIdeal.nD Cert.MergedGradIdeal.τ).loc Cert.MergedGradIdeal.main_arg0) = m ((c.tc : Thread Cert.MergedGradIdeal.nD Cert.MergedGradIdeal.τ).loc Cert.MergedGradIdeal.main_arg0)
      ∧ r.2.mem ((c.tc : Thread Cert.MergedGradIdeal.nD Cert.MergedGradIdeal.τ).loc Cert.MergedGradIdeal.main_arg1) = m ((c.tc : Thread Cert.MergedGradIdeal.nD Cert.MergedGradIdeal.τ).loc Cert.MergedGradIdeal.main_arg1))
      ∧ r.2.sem = fun _ => 0)

def quiescent_MergedGradRefIdeal [hMergedGradRefIdeal : Cert.MergedGradRefIdeal.Facts] : Prop :=
  ∀ (m : (ℓ : Loc Cert.MergedGradRefIdeal.nD Cert.MergedGradRefIdeal.τ Cert.MergedGradRefIdeal.sig) → Buf (Elt Ideal) ℓ) (g : Dev Cert.MergedGradRefIdeal.nD → PrngReg), Pre_MergedGradRefIdeal m →
    θ_run (Cert.MergedGradRefIdeal.defs (F := Ideal)) (onTc (τ := Cert.MergedGradRefIdeal.τ) (Cert.MergedGradRefIdeal.main (F := Ideal))) ⟨m, fun _ => 0, g⟩ (fun r => (∀ c : Dev Cert.MergedGradRefIdeal.nD,
      r.2.mem ((c.tc : Thread Cert.MergedGradRefIdeal.nD Cert.MergedGradRefIdeal.τ).loc Cert.MergedGradRefIdeal.main_arg0) = m ((c.tc : Thread Cert.MergedGradRefIdeal.nD Cert.MergedGradRefIdeal.τ).loc Cert.MergedGradRefIdeal.main_arg0)
      ∧ r.2.mem ((c.tc : Thread Cert.MergedGradRefIdeal.nD Cert.MergedGradRefIdeal.τ).loc Cert.MergedGradRefIdeal.main_arg1) = m ((c.tc : Thread Cert.MergedGradRefIdeal.nD Cert.MergedGradRefIdeal.τ).loc Cert.MergedGradRefIdeal.main_arg1))
      ∧ r.2.sem = fun _ => 0)

def quiescent_InProjGrad [hInProjGrad : Cert.InProjGrad.Facts] : Prop :=
  ∀ (m : (ℓ : Loc Cert.InProjGrad.nD Cert.InProjGrad.τ Cert.InProjGrad.sig) → Buf (Elt Bits) ℓ) (g : Dev Cert.InProjGrad.nD → PrngReg), Pre_InProjGrad m →
    θ_run (Cert.InProjGrad.defs (F := Bits)) (onTc (τ := Cert.InProjGrad.τ) (Cert.InProjGrad.main (F := Bits))) ⟨m, fun _ => 0, g⟩ (fun r => (∀ c : Dev Cert.InProjGrad.nD,
      r.2.mem ((c.tc : Thread Cert.InProjGrad.nD Cert.InProjGrad.τ).loc Cert.InProjGrad.main_arg0) = m ((c.tc : Thread Cert.InProjGrad.nD Cert.InProjGrad.τ).loc Cert.InProjGrad.main_arg0)
      ∧ r.2.mem ((c.tc : Thread Cert.InProjGrad.nD Cert.InProjGrad.τ).loc Cert.InProjGrad.main_arg1) = m ((c.tc : Thread Cert.InProjGrad.nD Cert.InProjGrad.τ).loc Cert.InProjGrad.main_arg1))
      ∧ r.2.sem = fun _ => 0)

def quiescent_InProjGradIdeal [hInProjGradIdeal : Cert.InProjGradIdeal.Facts] : Prop :=
  ∀ (m : (ℓ : Loc Cert.InProjGradIdeal.nD Cert.InProjGradIdeal.τ Cert.InProjGradIdeal.sig) → Buf (Elt Ideal) ℓ) (g : Dev Cert.InProjGradIdeal.nD → PrngReg), Pre_InProjGradIdeal m →
    θ_run (Cert.InProjGradIdeal.defs (F := Ideal)) (onTc (τ := Cert.InProjGradIdeal.τ) (Cert.InProjGradIdeal.main (F := Ideal))) ⟨m, fun _ => 0, g⟩ (fun r => (∀ c : Dev Cert.InProjGradIdeal.nD,
      r.2.mem ((c.tc : Thread Cert.InProjGradIdeal.nD Cert.InProjGradIdeal.τ).loc Cert.InProjGradIdeal.main_arg0) = m ((c.tc : Thread Cert.InProjGradIdeal.nD Cert.InProjGradIdeal.τ).loc Cert.InProjGradIdeal.main_arg0)
      ∧ r.2.mem ((c.tc : Thread Cert.InProjGradIdeal.nD Cert.InProjGradIdeal.τ).loc Cert.InProjGradIdeal.main_arg1) = m ((c.tc : Thread Cert.InProjGradIdeal.nD Cert.InProjGradIdeal.τ).loc Cert.InProjGradIdeal.main_arg1))
      ∧ r.2.sem = fun _ => 0)

def quiescent_InProjGradRefIdeal [hInProjGradRefIdeal : Cert.InProjGradRefIdeal.Facts] : Prop :=
  ∀ (m : (ℓ : Loc Cert.InProjGradRefIdeal.nD Cert.InProjGradRefIdeal.τ Cert.InProjGradRefIdeal.sig) → Buf (Elt Ideal) ℓ) (g : Dev Cert.InProjGradRefIdeal.nD → PrngReg), Pre_InProjGradRefIdeal m →
    θ_run (Cert.InProjGradRefIdeal.defs (F := Ideal)) (onTc (τ := Cert.InProjGradRefIdeal.τ) (Cert.InProjGradRefIdeal.main (F := Ideal))) ⟨m, fun _ => 0, g⟩ (fun r => (∀ c : Dev Cert.InProjGradRefIdeal.nD,
      r.2.mem ((c.tc : Thread Cert.InProjGradRefIdeal.nD Cert.InProjGradRefIdeal.τ).loc Cert.InProjGradRefIdeal.main_arg0) = m ((c.tc : Thread Cert.InProjGradRefIdeal.nD Cert.InProjGradRefIdeal.τ).loc Cert.InProjGradRefIdeal.main_arg0)
      ∧ r.2.mem ((c.tc : Thread Cert.InProjGradRefIdeal.nD Cert.InProjGradRefIdeal.τ).loc Cert.InProjGradRefIdeal.main_arg1) = m ((c.tc : Thread Cert.InProjGradRefIdeal.nD Cert.InProjGradRefIdeal.τ).loc Cert.InProjGradRefIdeal.main_arg1))
      ∧ r.2.sem = fun _ => 0)

def quiescent_RowsGrad [hRowsGrad : Cert.RowsGrad.Facts] : Prop :=
  ∀ (m : (ℓ : Loc Cert.RowsGrad.nD Cert.RowsGrad.τ Cert.RowsGrad.sig) → Buf (Elt Bits) ℓ) (g : Dev Cert.RowsGrad.nD → PrngReg), Pre_RowsGrad m →
    θ_run (Cert.RowsGrad.defs (F := Bits)) (onTc (τ := Cert.RowsGrad.τ) (Cert.RowsGrad.main (F := Bits))) ⟨m, fun _ => 0, g⟩ (fun r => (∀ c : Dev Cert.RowsGrad.nD,
      r.2.mem ((c.tc : Thread Cert.RowsGrad.nD Cert.RowsGrad.τ).loc Cert.RowsGrad.main_arg0) = m ((c.tc : Thread Cert.RowsGrad.nD Cert.RowsGrad.τ).loc Cert.RowsGrad.main_arg0)
      ∧ r.2.mem ((c.tc : Thread Cert.RowsGrad.nD Cert.RowsGrad.τ).loc Cert.RowsGrad.main_arg1) = m ((c.tc : Thread Cert.RowsGrad.nD Cert.RowsGrad.τ).loc Cert.RowsGrad.main_arg1)
      ∧ r.2.mem ((c.tc : Thread Cert.RowsGrad.nD Cert.RowsGrad.τ).loc Cert.RowsGrad.main_arg2) = m ((c.tc : Thread Cert.RowsGrad.nD Cert.RowsGrad.τ).loc Cert.RowsGrad.main_arg2)
      ∧ r.2.mem ((c.tc : Thread Cert.RowsGrad.nD Cert.RowsGrad.τ).loc Cert.RowsGrad.main_arg3) = m ((c.tc : Thread Cert.RowsGrad.nD Cert.RowsGrad.τ).loc Cert.RowsGrad.main_arg3))
      ∧ r.2.sem = fun _ => 0)

def quiescent_RowsGradIdeal [hRowsGradIdeal : Cert.RowsGradIdeal.Facts] : Prop :=
  ∀ (m : (ℓ : Loc Cert.RowsGradIdeal.nD Cert.RowsGradIdeal.τ Cert.RowsGradIdeal.sig) → Buf (Elt Ideal) ℓ) (g : Dev Cert.RowsGradIdeal.nD → PrngReg), Pre_RowsGradIdeal m →
    θ_run (Cert.RowsGradIdeal.defs (F := Ideal)) (onTc (τ := Cert.RowsGradIdeal.τ) (Cert.RowsGradIdeal.main (F := Ideal))) ⟨m, fun _ => 0, g⟩ (fun r => (∀ c : Dev Cert.RowsGradIdeal.nD,
      r.2.mem ((c.tc : Thread Cert.RowsGradIdeal.nD Cert.RowsGradIdeal.τ).loc Cert.RowsGradIdeal.main_arg0) = m ((c.tc : Thread Cert.RowsGradIdeal.nD Cert.RowsGradIdeal.τ).loc Cert.RowsGradIdeal.main_arg0)
      ∧ r.2.mem ((c.tc : Thread Cert.RowsGradIdeal.nD Cert.RowsGradIdeal.τ).loc Cert.RowsGradIdeal.main_arg1) = m ((c.tc : Thread Cert.RowsGradIdeal.nD Cert.RowsGradIdeal.τ).loc Cert.RowsGradIdeal.main_arg1)
      ∧ r.2.mem ((c.tc : Thread Cert.RowsGradIdeal.nD Cert.RowsGradIdeal.τ).loc Cert.RowsGradIdeal.main_arg2) = m ((c.tc : Thread Cert.RowsGradIdeal.nD Cert.RowsGradIdeal.τ).loc Cert.RowsGradIdeal.main_arg2)
      ∧ r.2.mem ((c.tc : Thread Cert.RowsGradIdeal.nD Cert.RowsGradIdeal.τ).loc Cert.RowsGradIdeal.main_arg3) = m ((c.tc : Thread Cert.RowsGradIdeal.nD Cert.RowsGradIdeal.τ).loc Cert.RowsGradIdeal.main_arg3))
      ∧ r.2.sem = fun _ => 0)

def quiescent_RowsGradRefIdeal [hRowsGradRefIdeal : Cert.RowsGradRefIdeal.Facts] : Prop :=
  ∀ (m : (ℓ : Loc Cert.RowsGradRefIdeal.nD Cert.RowsGradRefIdeal.τ Cert.RowsGradRefIdeal.sig) → Buf (Elt Ideal) ℓ) (g : Dev Cert.RowsGradRefIdeal.nD → PrngReg), Pre_RowsGradRefIdeal m →
    θ_run (Cert.RowsGradRefIdeal.defs (F := Ideal)) (onTc (τ := Cert.RowsGradRefIdeal.τ) (Cert.RowsGradRefIdeal.main (F := Ideal))) ⟨m, fun _ => 0, g⟩ (fun r => (∀ c : Dev Cert.RowsGradRefIdeal.nD,
      r.2.mem ((c.tc : Thread Cert.RowsGradRefIdeal.nD Cert.RowsGradRefIdeal.τ).loc Cert.RowsGradRefIdeal.main_arg0) = m ((c.tc : Thread Cert.RowsGradRefIdeal.nD Cert.RowsGradRefIdeal.τ).loc Cert.RowsGradRefIdeal.main_arg0)
      ∧ r.2.mem ((c.tc : Thread Cert.RowsGradRefIdeal.nD Cert.RowsGradRefIdeal.τ).loc Cert.RowsGradRefIdeal.main_arg1) = m ((c.tc : Thread Cert.RowsGradRefIdeal.nD Cert.RowsGradRefIdeal.τ).loc Cert.RowsGradRefIdeal.main_arg1)
      ∧ r.2.mem ((c.tc : Thread Cert.RowsGradRefIdeal.nD Cert.RowsGradRefIdeal.τ).loc Cert.RowsGradRefIdeal.main_arg2) = m ((c.tc : Thread Cert.RowsGradRefIdeal.nD Cert.RowsGradRefIdeal.τ).loc Cert.RowsGradRefIdeal.main_arg2)
      ∧ r.2.mem ((c.tc : Thread Cert.RowsGradRefIdeal.nD Cert.RowsGradRefIdeal.τ).loc Cert.RowsGradRefIdeal.main_arg3) = m ((c.tc : Thread Cert.RowsGradRefIdeal.nD Cert.RowsGradRefIdeal.τ).loc Cert.RowsGradRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)) →
    ∃ (v0 : (c : Dev Cert.OutBwdIdeal.nD) → Buf (Elt Ideal) ((c.tc : Thread Cert.OutBwdIdeal.nD Cert.OutBwdIdeal.τ).loc Cert.OutBwdIdeal.main_v1_0)) (v1 : (c : Dev Cert.OutBwdIdeal.nD) → Buf (Elt Ideal) ((c.tc : Thread Cert.OutBwdIdeal.nD Cert.OutBwdIdeal.τ).loc Cert.OutBwdIdeal.main_v1_1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1_0) = v0 c
          ∧ r.2.mem ((c.tc : Thread Cert.OutBwdIdeal.nD Cert.OutBwdIdeal.τ).loc Cert.OutBwdIdeal.main_v1_1) = v1 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v10) = v0 c
          ∧ r.2.mem ((c.tc : Thread Cert.OutBwdRefIdeal.nD Cert.OutBwdRefIdeal.τ).loc Cert.OutBwdRefIdeal.main_v11) = v1 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2))

def preserves_AttnBwd_AttnBwdIdeal : Prop :=
  True

def algebraic_AttnBwdIdeal_AttnBwdRefIdeal_pre_finite_att [hAttnBwdIdeal : Cert.AttnBwdIdeal.Facts] [hAttnBwdRefIdeal : Cert.AttnBwdRefIdeal.Facts] [hPre_finite_att : Cert.Pre_finite_att.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_att m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)) →
    ∃ (v0 : (c : Dev Cert.AttnBwdIdeal.nD) → Buf (Elt Ideal) ((c.tc : Thread Cert.AttnBwdIdeal.nD Cert.AttnBwdIdeal.τ).loc Cert.AttnBwdIdeal.main_v51_0)) (v1 : (c : Dev Cert.AttnBwdIdeal.nD) → Buf (Elt Ideal) ((c.tc : Thread Cert.AttnBwdIdeal.nD Cert.AttnBwdIdeal.τ).loc Cert.AttnBwdIdeal.main_v51_1)) (v2 : (c : Dev Cert.AttnBwdIdeal.nD) → Buf (Elt Ideal) ((c.tc : Thread Cert.AttnBwdIdeal.nD Cert.AttnBwdIdeal.τ).loc Cert.AttnBwdIdeal.main_v51_2)) (v3 : (c : Dev Cert.AttnBwdIdeal.nD) → Buf (Elt Ideal) ((c.tc : Thread Cert.AttnBwdIdeal.nD Cert.AttnBwdIdeal.τ).loc Cert.AttnBwdIdeal.main_v51_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v51_0) = v0 c
          ∧ r.2.mem ((c.tc : Thread Cert.AttnBwdIdeal.nD Cert.AttnBwdIdeal.τ).loc Cert.AttnBwdIdeal.main_v51_1) = v1 c
          ∧ r.2.mem ((c.tc : Thread Cert.AttnBwdIdeal.nD Cert.AttnBwdIdeal.τ).loc Cert.AttnBwdIdeal.main_v51_2) = v2 c
          ∧ r.2.mem ((c.tc : Thread Cert.AttnBwdIdeal.nD Cert.AttnBwdIdeal.τ).loc Cert.AttnBwdIdeal.main_v51_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v60) = v0 c
          ∧ r.2.mem ((c.tc : Thread Cert.AttnBwdRefIdeal.nD Cert.AttnBwdRefIdeal.τ).loc Cert.AttnBwdRefIdeal.main_v61) = v1 c
          ∧ r.2.mem ((c.tc : Thread Cert.AttnBwdRefIdeal.nD Cert.AttnBwdRefIdeal.τ).loc Cert.AttnBwdRefIdeal.main_v62) = v2 c
          ∧ r.2.mem ((c.tc : Thread Cert.AttnBwdRefIdeal.nD Cert.AttnBwdRefIdeal.τ).loc Cert.AttnBwdRefIdeal.main_v63) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v5_0)) (v1 : (c : Dev Cert.MergeBwdIdeal.nD) → Buf (Elt Ideal) ((c.tc : Thread Cert.MergeBwdIdeal.nD Cert.MergeBwdIdeal.τ).loc Cert.MergeBwdIdeal.main_v5_1)) (v2 : (c : Dev Cert.MergeBwdIdeal.nD) → Buf (Elt Ideal) ((c.tc : Thread Cert.MergeBwdIdeal.nD Cert.MergeBwdIdeal.τ).loc Cert.MergeBwdIdeal.main_v5_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v5_0) = v0 c
          ∧ r.2.mem ((c.tc : Thread Cert.MergeBwdIdeal.nD Cert.MergeBwdIdeal.τ).loc Cert.MergeBwdIdeal.main_v5_1) = v1 c
          ∧ r.2.mem ((c.tc : Thread Cert.MergeBwdIdeal.nD Cert.MergeBwdIdeal.τ).loc Cert.MergeBwdIdeal.main_v5_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v59) = v0 c
          ∧ r.2.mem ((c.tc : Thread Cert.MergeBwdRefIdeal.nD Cert.MergeBwdRefIdeal.τ).loc Cert.MergeBwdRefIdeal.main_v60) = v1 c
          ∧ r.2.mem ((c.tc : Thread Cert.MergeBwdRefIdeal.nD Cert.MergeBwdRefIdeal.τ).loc Cert.MergeBwdRefIdeal.main_v58) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_PrenormBwd_PrenormBwdIdeal : Prop :=
  True

def algebraic_PrenormBwdIdeal_PrenormBwdRefIdeal_pre_finite_pren [hPrenormBwdIdeal : Cert.PrenormBwdIdeal.Facts] [hPrenormBwdRefIdeal : Cert.PrenormBwdRefIdeal.Facts] [hPre_finite_pren : Cert.Pre_finite_pren.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg)
    (m' : (ℓ : Loc Cert.PrenormBwdRefIdeal.nD Cert.PrenormBwdRefIdeal.τ Cert.PrenormBwdRefIdeal.sig) → Buf (Elt Ideal) ℓ) (g' : Dev Cert.PrenormBwdRefIdeal.nD → PrngReg), Pre_PrenormBwdIdeal_finite_pren m →
    (∀ c : Dev Cert.PrenormBwdIdeal.nD,
      m' ((c.tc : Thread Cert.PrenormBwdRefIdeal.nD Cert.PrenormBwdRefIdeal.τ).loc Cert.PrenormBwdRefIdeal.main_arg0) = m ((c.tc : Thread Cert.PrenormBwdIdeal.nD Cert.PrenormBwdIdeal.τ).loc Cert.PrenormBwdIdeal.main_arg0)
      ∧ m' ((c.tc : Thread Cert.PrenormBwdRefIdeal.nD Cert.PrenormBwdRefIdeal.τ).loc Cert.PrenormBwdRefIdeal.main_arg1) = m ((c.tc : Thread Cert.PrenormBwdIdeal.nD Cert.PrenormBwdIdeal.τ).loc Cert.PrenormBwdIdeal.main_arg1)
      ∧ m' ((c.tc : Thread Cert.PrenormBwdRefIdeal.nD Cert.PrenormBwdRefIdeal.τ).loc Cert.PrenormBwdRefIdeal.main_arg2) = m ((c.tc : Thread Cert.PrenormBwdIdeal.nD Cert.PrenormBwdIdeal.τ).loc Cert.PrenormBwdIdeal.main_arg2)
      ∧ m' ((c.tc : Thread Cert.PrenormBwdRefIdeal.nD Cert.PrenormBwdRefIdeal.τ).loc Cert.PrenormBwdRefIdeal.main_arg3) = m ((c.tc : Thread Cert.PrenormBwdIdeal.nD Cert.PrenormBwdIdeal.τ).loc Cert.PrenormBwdIdeal.main_arg3)
      ∧ m' ((c.tc : Thread Cert.PrenormBwdRefIdeal.nD Cert.PrenormBwdRefIdeal.τ).loc Cert.PrenormBwdRefIdeal.main_arg4) = m ((c.tc : Thread Cert.PrenormBwdIdeal.nD Cert.PrenormBwdIdeal.τ).loc Cert.PrenormBwdIdeal.main_arg4)
      ∧ m' ((c.tc : Thread Cert.PrenormBwdRefIdeal.nD Cert.PrenormBwdRefIdeal.τ).loc Cert.PrenormBwdRefIdeal.main_arg5) = m ((c.tc : Thread Cert.PrenormBwdIdeal.nD Cert.PrenormBwdIdeal.τ).loc Cert.PrenormBwdIdeal.main_arg5)) →
    ∃ (v0 : (c : Dev Cert.PrenormBwdIdeal.nD) → Buf (Elt Ideal) ((c.tc : Thread Cert.PrenormBwdIdeal.nD Cert.PrenormBwdIdeal.τ).loc Cert.PrenormBwdIdeal.main_v2_0)) (v1 : (c : Dev Cert.PrenormBwdIdeal.nD) → Buf (Elt Ideal) ((c.tc : Thread Cert.PrenormBwdIdeal.nD Cert.PrenormBwdIdeal.τ).loc Cert.PrenormBwdIdeal.main_v2_1)) (v2 : (c : Dev Cert.PrenormBwdIdeal.nD) → Buf (Elt Ideal) ((c.tc : Thread Cert.PrenormBwdIdeal.nD Cert.PrenormBwdIdeal.τ).loc Cert.PrenormBwdIdeal.main_v2_2)) (v3 : (c : Dev Cert.PrenormBwdIdeal.nD) → Buf (Elt Ideal) ((c.tc : Thread Cert.PrenormBwdIdeal.nD Cert.PrenormBwdIdeal.τ).loc Cert.PrenormBwdIdeal.main_v2_3)),
      θ_run (Cert.PrenormBwdIdeal.defs (F := Ideal)) (onTc (τ := Cert.PrenormBwdIdeal.τ) (Cert.PrenormBwdIdeal.main (F := Ideal))) ⟨m, fun _ => 0, g⟩ (fun r => ∀ c : Dev Cert.PrenormBwdIdeal.nD,
          r.2.mem ((c.tc : Thread Cert.PrenormBwdIdeal.nD Cert.PrenormBwdIdeal.τ).loc Cert.PrenormBwdIdeal.main_v2_0) = v0 c
          ∧ r.2.mem ((c.tc : Thread Cert.PrenormBwdIdeal.nD Cert.PrenormBwdIdeal.τ).loc Cert.PrenormBwdIdeal.main_v2_1) = v1 c
          ∧ r.2.mem ((c.tc : Thread Cert.PrenormBwdIdeal.nD Cert.PrenormBwdIdeal.τ).loc Cert.PrenormBwdIdeal.main_v2_2) = v2 c
          ∧ r.2.mem ((c.tc : Thread Cert.PrenormBwdIdeal.nD Cert.PrenormBwdIdeal.τ).loc Cert.PrenormBwdIdeal.main_v2_3) = v3 c
          ∧ r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
          ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
          ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
          ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
          ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4)
          ∧ r.2.mem ((c.tc : Thread Cert.PrenormBwdIdeal.nD Cert.PrenormBwdIdeal.τ).loc Cert.PrenormBwdIdeal.main_arg5) = m ((c.tc : Thread Cert.PrenormBwdIdeal.nD Cert.PrenormBwdIdeal.τ).loc Cert.PrenormBwdIdeal.main_arg5))
      ∧ θ_run (Cert.PrenormBwdRefIdeal.defs (F := Ideal)) (onTc (τ := Cert.PrenormBwdRefIdeal.τ) (Cert.PrenormBwdRefIdeal.main (F := Ideal))) ⟨m', fun _ => 0, g'⟩ (fun r => ∀ c : Dev Cert.PrenormBwdRefIdeal.nD,
          r.2.mem ((c.tc : Thread Cert.PrenormBwdRefIdeal.nD Cert.PrenormBwdRefIdeal.τ).loc Cert.PrenormBwdRefIdeal.main_v54) = v0 c
          ∧ r.2.mem ((c.tc : Thread Cert.PrenormBwdRefIdeal.nD Cert.PrenormBwdRefIdeal.τ).loc Cert.PrenormBwdRefIdeal.main_v55) = v1 c
          ∧ r.2.mem ((c.tc : Thread Cert.PrenormBwdRefIdeal.nD Cert.PrenormBwdRefIdeal.τ).loc Cert.PrenormBwdRefIdeal.main_v56) = v2 c
          ∧ r.2.mem ((c.tc : Thread Cert.PrenormBwdRefIdeal.nD Cert.PrenormBwdRefIdeal.τ).loc Cert.PrenormBwdRefIdeal.main_v57) = v3 c
          ∧ r.2.mem ((c.tc : Thread Cert.PrenormBwdRefIdeal.nD Cert.PrenormBwdRefIdeal.τ).loc Cert.PrenormBwdRefIdeal.main_arg0) = m' ((c.tc : Thread Cert.PrenormBwdRefIdeal.nD Cert.PrenormBwdRefIdeal.τ).loc Cert.PrenormBwdRefIdeal.main_arg0)
          ∧ r.2.mem ((c.tc : Thread Cert.PrenormBwdRefIdeal.nD Cert.PrenormBwdRefIdeal.τ).loc Cert.PrenormBwdRefIdeal.main_arg1) = m' ((c.tc : Thread Cert.PrenormBwdRefIdeal.nD Cert.PrenormBwdRefIdeal.τ).loc Cert.PrenormBwdRefIdeal.main_arg1)
          ∧ r.2.mem ((c.tc : Thread Cert.PrenormBwdRefIdeal.nD Cert.PrenormBwdRefIdeal.τ).loc Cert.PrenormBwdRefIdeal.main_arg2) = m' ((c.tc : Thread Cert.PrenormBwdRefIdeal.nD Cert.PrenormBwdRefIdeal.τ).loc Cert.PrenormBwdRefIdeal.main_arg2)
          ∧ r.2.mem ((c.tc : Thread Cert.PrenormBwdRefIdeal.nD Cert.PrenormBwdRefIdeal.τ).loc Cert.PrenormBwdRefIdeal.main_arg3) = m' ((c.tc : Thread Cert.PrenormBwdRefIdeal.nD Cert.PrenormBwdRefIdeal.τ).loc Cert.PrenormBwdRefIdeal.main_arg3)
          ∧ r.2.mem ((c.tc : Thread Cert.PrenormBwdRefIdeal.nD Cert.PrenormBwdRefIdeal.τ).loc Cert.PrenormBwdRefIdeal.main_arg4) = m' ((c.tc : Thread Cert.PrenormBwdRefIdeal.nD Cert.PrenormBwdRefIdeal.τ).loc Cert.PrenormBwdRefIdeal.main_arg4)
          ∧ r.2.mem ((c.tc : Thread Cert.PrenormBwdRefIdeal.nD Cert.PrenormBwdRefIdeal.τ).loc Cert.PrenormBwdRefIdeal.main_arg5) = m' ((c.tc : Thread Cert.PrenormBwdRefIdeal.nD Cert.PrenormBwdRefIdeal.τ).loc Cert.PrenormBwdRefIdeal.main_arg5))

def preserves_ConvBwd_ConvBwdIdeal : Prop :=
  True

def algebraic_ConvBwdIdeal_ConvBwdRefIdeal_pre_finite_conv [hConvBwdIdeal : Cert.ConvBwdIdeal.Facts] [hConvBwdRefIdeal : Cert.ConvBwdRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite_conv m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v1_1)) (v2 : (c : Dev Cert.ConvBwdIdeal.nD) → Buf (Elt Ideal) ((c.tc : Thread Cert.ConvBwdIdeal.nD Cert.ConvBwdIdeal.τ).loc Cert.ConvBwdIdeal.main_v1_2)) (v3 : (c : Dev Cert.ConvBwdIdeal.nD) → Buf (Elt Ideal) ((c.tc : Thread Cert.ConvBwdIdeal.nD Cert.ConvBwdIdeal.τ).loc Cert.ConvBwdIdeal.main_v1_3)) (v4 : (c : Dev Cert.ConvBwdIdeal.nD) → Buf (Elt Ideal) ((c.tc : Thread Cert.ConvBwdIdeal.nD Cert.ConvBwdIdeal.τ).loc Cert.ConvBwdIdeal.main_v1_4)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v1_1) = v1 c
          ∧ r.2.mem ((c.tc : Thread Cert.ConvBwdIdeal.nD Cert.ConvBwdIdeal.τ).loc Cert.ConvBwdIdeal.main_v1_2) = v2 c
          ∧ r.2.mem ((c.tc : Thread Cert.ConvBwdIdeal.nD Cert.ConvBwdIdeal.τ).loc Cert.ConvBwdIdeal.main_v1_3) = v3 c
          ∧ r.2.mem ((c.tc : Thread Cert.ConvBwdIdeal.nD Cert.ConvBwdIdeal.τ).loc Cert.ConvBwdIdeal.main_v1_4) = v4 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v76) = v0 c
          ∧ r.2.mem ((c.tc : Thread Cert.ConvBwdRefIdeal.nD Cert.ConvBwdRefIdeal.τ).loc Cert.ConvBwdRefIdeal.main_v77) = v1 c
          ∧ r.2.mem ((c.tc : Thread Cert.ConvBwdRefIdeal.nD Cert.ConvBwdRefIdeal.τ).loc Cert.ConvBwdRefIdeal.main_v78) = v2 c
          ∧ r.2.mem ((c.tc : Thread Cert.ConvBwdRefIdeal.nD Cert.ConvBwdRefIdeal.τ).loc Cert.ConvBwdRefIdeal.main_v79) = v3 c
          ∧ r.2.mem ((c.tc : Thread Cert.ConvBwdRefIdeal.nD Cert.ConvBwdRefIdeal.τ).loc Cert.ConvBwdRefIdeal.main_v80) = v4 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_PoolBwd_PoolBwdIdeal : Prop :=
  True

def algebraic_PoolBwdIdeal_PoolBwdRefIdeal_pre_finite_pool [hPoolBwdIdeal : Cert.PoolBwdIdeal.Facts] [hPoolBwdRefIdeal : Cert.PoolBwdRefIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_finite_pool m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v2_0)) (v1 : (c : Dev Cert.PoolBwdIdeal.nD) → Buf (Elt Ideal) ((c.tc : Thread Cert.PoolBwdIdeal.nD Cert.PoolBwdIdeal.τ).loc Cert.PoolBwdIdeal.main_v2_1)) (v2 : (c : Dev Cert.PoolBwdIdeal.nD) → Buf (Elt Ideal) ((c.tc : Thread Cert.PoolBwdIdeal.nD Cert.PoolBwdIdeal.τ).loc Cert.PoolBwdIdeal.main_v2_2)) (v3 : (c : Dev Cert.PoolBwdIdeal.nD) → Buf (Elt Ideal) ((c.tc : Thread Cert.PoolBwdIdeal.nD Cert.PoolBwdIdeal.τ).loc Cert.PoolBwdIdeal.main_v2_3)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v2_0) = v0 c
          ∧ r.2.mem ((c.tc : Thread Cert.PoolBwdIdeal.nD Cert.PoolBwdIdeal.τ).loc Cert.PoolBwdIdeal.main_v2_1) = v1 c
          ∧ r.2.mem ((c.tc : Thread Cert.PoolBwdIdeal.nD Cert.PoolBwdIdeal.τ).loc Cert.PoolBwdIdeal.main_v2_2) = v2 c
          ∧ r.2.mem ((c.tc : Thread Cert.PoolBwdIdeal.nD Cert.PoolBwdIdeal.τ).loc Cert.PoolBwdIdeal.main_v2_3) = v3 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v197) = v0 c
          ∧ r.2.mem ((c.tc : Thread Cert.PoolBwdRefIdeal.nD Cert.PoolBwdRefIdeal.τ).loc Cert.PoolBwdRefIdeal.main_v198) = v1 c
          ∧ r.2.mem ((c.tc : Thread Cert.PoolBwdRefIdeal.nD Cert.PoolBwdRefIdeal.τ).loc Cert.PoolBwdRefIdeal.main_v147) = v2 c
          ∧ r.2.mem ((c.tc : Thread Cert.PoolBwdRefIdeal.nD Cert.PoolBwdRefIdeal.τ).loc Cert.PoolBwdRefIdeal.main_v199) = v3 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_AttnFwd_AttnFwdIdeal : Prop :=
  True

def algebraic_AttnFwdIdeal_AttnFwdRefIdeal_pre_finite_attf [hAttnFwdIdeal : Cert.AttnFwdIdeal.Facts] [hAttnFwdRefIdeal : Cert.AttnFwdRefIdeal.Facts] [hPre_finite_attf : Cert.Pre_finite_attf.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attf m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)) (v2 : (c : Dev Cert.AttnFwdIdeal.nD) → Buf (Elt Ideal) ((c.tc : Thread Cert.AttnFwdIdeal.nD Cert.AttnFwdIdeal.τ).loc Cert.AttnFwdIdeal.main_v0_2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_v0_2) = v2 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v47) = v0 c
          ∧ r.2.mem ((c.tc : Thread Cert.AttnFwdRefIdeal.nD Cert.AttnFwdRefIdeal.τ).loc Cert.AttnFwdRefIdeal.main_v50) = v1 c
          ∧ r.2.mem ((c.tc : Thread Cert.AttnFwdRefIdeal.nD Cert.AttnFwdRefIdeal.τ).loc Cert.AttnFwdRefIdeal.main_v46) = v2 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v34) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_PoolFwd_PoolFwdIdeal : Prop :=
  True

def algebraic_PoolFwdIdeal_PoolFwdRefIdeal_pre_finite_plf [hPoolFwdIdeal : Cert.PoolFwdIdeal.Facts] [hPoolFwdRefIdeal : Cert.PoolFwdRefIdeal.Facts] [hPre_finite_plf : Cert.Pre_finite_plf.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_finite_plf m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v2)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v2) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v131) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)) →
    ∃ (v0 : (c : Dev Cert.MergeFwdIdeal.nD) → Buf (Elt Ideal) ((c.tc : Thread Cert.MergeFwdIdeal.nD Cert.MergeFwdIdeal.τ).loc Cert.MergeFwdIdeal.main_v4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v4) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v27) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2))

def preserves_PrenormFwd_PrenormFwdIdeal : Prop :=
  True

def algebraic_PrenormFwdIdeal_PrenormFwdRefIdeal [hPrenormFwdIdeal : Cert.PrenormFwdIdeal.Facts] [hPrenormFwdRefIdeal : Cert.PrenormFwdRefIdeal.Facts] : Prop :=
  ∀ (m : (ℓ : Loc Cert.PrenormFwdIdeal.nD Cert.PrenormFwdIdeal.τ Cert.PrenormFwdIdeal.sig) → Buf (Elt Ideal) ℓ) (g : Dev Cert.PrenormFwdIdeal.nD → PrngReg)
    (m' : (ℓ : Loc Cert.PrenormFwdRefIdeal.nD Cert.PrenormFwdRefIdeal.τ Cert.PrenormFwdRefIdeal.sig) → Buf (Elt Ideal) ℓ) (g' : Dev Cert.PrenormFwdRefIdeal.nD → PrngReg), Pre_PrenormFwdIdeal m →
    (∀ c : Dev Cert.PrenormFwdIdeal.nD,
      m' ((c.tc : Thread Cert.PrenormFwdRefIdeal.nD Cert.PrenormFwdRefIdeal.τ).loc Cert.PrenormFwdRefIdeal.main_arg0) = m ((c.tc : Thread Cert.PrenormFwdIdeal.nD Cert.PrenormFwdIdeal.τ).loc Cert.PrenormFwdIdeal.main_arg0)
      ∧ m' ((c.tc : Thread Cert.PrenormFwdRefIdeal.nD Cert.PrenormFwdRefIdeal.τ).loc Cert.PrenormFwdRefIdeal.main_arg1) = m ((c.tc : Thread Cert.PrenormFwdIdeal.nD Cert.PrenormFwdIdeal.τ).loc Cert.PrenormFwdIdeal.main_arg1)
      ∧ m' ((c.tc : Thread Cert.PrenormFwdRefIdeal.nD Cert.PrenormFwdRefIdeal.τ).loc Cert.PrenormFwdRefIdeal.main_arg2) = m ((c.tc : Thread Cert.PrenormFwdIdeal.nD Cert.PrenormFwdIdeal.τ).loc Cert.PrenormFwdIdeal.main_arg2)
      ∧ m' ((c.tc : Thread Cert.PrenormFwdRefIdeal.nD Cert.PrenormFwdRefIdeal.τ).loc Cert.PrenormFwdRefIdeal.main_arg3) = m ((c.tc : Thread Cert.PrenormFwdIdeal.nD Cert.PrenormFwdIdeal.τ).loc Cert.PrenormFwdIdeal.main_arg3)) →
    ∃ (v0 : (c : Dev Cert.PrenormFwdIdeal.nD) → Buf (Elt Ideal) ((c.tc : Thread Cert.PrenormFwdIdeal.nD Cert.PrenormFwdIdeal.τ).loc Cert.PrenormFwdIdeal.main_v3)),
      θ_run (Cert.PrenormFwdIdeal.defs (F := Ideal)) (onTc (τ := Cert.PrenormFwdIdeal.τ) (Cert.PrenormFwdIdeal.main (F := Ideal))) ⟨m, fun _ => 0, g⟩ (fun r => ∀ c : Dev Cert.PrenormFwdIdeal.nD,
          r.2.mem ((c.tc : Thread Cert.PrenormFwdIdeal.nD Cert.PrenormFwdIdeal.τ).loc Cert.PrenormFwdIdeal.main_v3) = v0 c
          ∧ r.2.mem ((c.tc : Thread Cert.PrenormFwdIdeal.nD Cert.PrenormFwdIdeal.τ).loc Cert.PrenormFwdIdeal.main_arg0) = m ((c.tc : Thread Cert.PrenormFwdIdeal.nD Cert.PrenormFwdIdeal.τ).loc Cert.PrenormFwdIdeal.main_arg0)
          ∧ r.2.mem ((c.tc : Thread Cert.PrenormFwdIdeal.nD Cert.PrenormFwdIdeal.τ).loc Cert.PrenormFwdIdeal.main_arg1) = m ((c.tc : Thread Cert.PrenormFwdIdeal.nD Cert.PrenormFwdIdeal.τ).loc Cert.PrenormFwdIdeal.main_arg1)
          ∧ r.2.mem ((c.tc : Thread Cert.PrenormFwdIdeal.nD Cert.PrenormFwdIdeal.τ).loc Cert.PrenormFwdIdeal.main_arg2) = m ((c.tc : Thread Cert.PrenormFwdIdeal.nD Cert.PrenormFwdIdeal.τ).loc Cert.PrenormFwdIdeal.main_arg2)
          ∧ r.2.mem ((c.tc : Thread Cert.PrenormFwdIdeal.nD Cert.PrenormFwdIdeal.τ).loc Cert.PrenormFwdIdeal.main_arg3) = m ((c.tc : Thread Cert.PrenormFwdIdeal.nD Cert.PrenormFwdIdeal.τ).loc Cert.PrenormFwdIdeal.main_arg3))
      ∧ θ_run (Cert.PrenormFwdRefIdeal.defs (F := Ideal)) (onTc (τ := Cert.PrenormFwdRefIdeal.τ) (Cert.PrenormFwdRefIdeal.main (F := Ideal))) ⟨m', fun _ => 0, g'⟩ (fun r => ∀ c : Dev Cert.PrenormFwdRefIdeal.nD,
          r.2.mem ((c.tc : Thread Cert.PrenormFwdRefIdeal.nD Cert.PrenormFwdRefIdeal.τ).loc Cert.PrenormFwdRefIdeal.main_v21) = v0 c
          ∧ r.2.mem ((c.tc : Thread Cert.PrenormFwdRefIdeal.nD Cert.PrenormFwdRefIdeal.τ).loc Cert.PrenormFwdRefIdeal.main_arg0) = m' ((c.tc : Thread Cert.PrenormFwdRefIdeal.nD Cert.PrenormFwdRefIdeal.τ).loc Cert.PrenormFwdRefIdeal.main_arg0)
          ∧ r.2.mem ((c.tc : Thread Cert.PrenormFwdRefIdeal.nD Cert.PrenormFwdRefIdeal.τ).loc Cert.PrenormFwdRefIdeal.main_arg1) = m' ((c.tc : Thread Cert.PrenormFwdRefIdeal.nD Cert.PrenormFwdRefIdeal.τ).loc Cert.PrenormFwdRefIdeal.main_arg1)
          ∧ r.2.mem ((c.tc : Thread Cert.PrenormFwdRefIdeal.nD Cert.PrenormFwdRefIdeal.τ).loc Cert.PrenormFwdRefIdeal.main_arg2) = m' ((c.tc : Thread Cert.PrenormFwdRefIdeal.nD Cert.PrenormFwdRefIdeal.τ).loc Cert.PrenormFwdRefIdeal.main_arg2)
          ∧ r.2.mem ((c.tc : Thread Cert.PrenormFwdRefIdeal.nD Cert.PrenormFwdRefIdeal.τ).loc Cert.PrenormFwdRefIdeal.main_arg3) = m' ((c.tc : Thread Cert.PrenormFwdRefIdeal.nD Cert.PrenormFwdRefIdeal.τ).loc Cert.PrenormFwdRefIdeal.main_arg3))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v2_0)) (v1 : (c : Dev Cert.OutFwdIdeal.nD) → Buf (Elt Ideal) ((c.tc : Thread Cert.OutFwdIdeal.nD Cert.OutFwdIdeal.τ).loc Cert.OutFwdIdeal.main_v2_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v2_0) = v0 c
          ∧ r.2.mem ((c.tc : Thread Cert.OutFwdIdeal.nD Cert.OutFwdIdeal.τ).loc Cert.OutFwdIdeal.main_v2_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v5) = v0 c
          ∧ r.2.mem ((c.tc : Thread Cert.OutFwdRefIdeal.nD Cert.OutFwdRefIdeal.τ).loc Cert.OutFwdRefIdeal.main_v6) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MergedGrad_MergedGradIdeal : Prop :=
  True

def algebraic_MergedGradIdeal_MergedGradRefIdeal [hMergedGradIdeal : Cert.MergedGradIdeal.Facts] [hMergedGradRefIdeal : Cert.MergedGradRefIdeal.Facts] : Prop :=
  ∀ (m : (ℓ : Loc Cert.MergedGradIdeal.nD Cert.MergedGradIdeal.τ Cert.MergedGradIdeal.sig) → Buf (Elt Ideal) ℓ) (g : Dev Cert.MergedGradIdeal.nD → PrngReg)
    (m' : (ℓ : Loc Cert.MergedGradRefIdeal.nD Cert.MergedGradRefIdeal.τ Cert.MergedGradRefIdeal.sig) → Buf (Elt Ideal) ℓ) (g' : Dev Cert.MergedGradRefIdeal.nD → PrngReg), Pre_MergedGradIdeal m →
    (∀ c : Dev Cert.MergedGradIdeal.nD,
      m' ((c.tc : Thread Cert.MergedGradRefIdeal.nD Cert.MergedGradRefIdeal.τ).loc Cert.MergedGradRefIdeal.main_arg0) = m ((c.tc : Thread Cert.MergedGradIdeal.nD Cert.MergedGradIdeal.τ).loc Cert.MergedGradIdeal.main_arg0)
      ∧ m' ((c.tc : Thread Cert.MergedGradRefIdeal.nD Cert.MergedGradRefIdeal.τ).loc Cert.MergedGradRefIdeal.main_arg1) = m ((c.tc : Thread Cert.MergedGradIdeal.nD Cert.MergedGradIdeal.τ).loc Cert.MergedGradIdeal.main_arg1)) →
    ∃ (v0 : (c : Dev Cert.MergedGradIdeal.nD) → Buf (Elt Ideal) ((c.tc : Thread Cert.MergedGradIdeal.nD Cert.MergedGradIdeal.τ).loc Cert.MergedGradIdeal.main_v2)),
      θ_run (Cert.MergedGradIdeal.defs (F := Ideal)) (onTc (τ := Cert.MergedGradIdeal.τ) (Cert.MergedGradIdeal.main (F := Ideal))) ⟨m, fun _ => 0, g⟩ (fun r => ∀ c : Dev Cert.MergedGradIdeal.nD,
          r.2.mem ((c.tc : Thread Cert.MergedGradIdeal.nD Cert.MergedGradIdeal.τ).loc Cert.MergedGradIdeal.main_v2) = v0 c
          ∧ r.2.mem ((c.tc : Thread Cert.MergedGradIdeal.nD Cert.MergedGradIdeal.τ).loc Cert.MergedGradIdeal.main_arg0) = m ((c.tc : Thread Cert.MergedGradIdeal.nD Cert.MergedGradIdeal.τ).loc Cert.MergedGradIdeal.main_arg0)
          ∧ r.2.mem ((c.tc : Thread Cert.MergedGradIdeal.nD Cert.MergedGradIdeal.τ).loc Cert.MergedGradIdeal.main_arg1) = m ((c.tc : Thread Cert.MergedGradIdeal.nD Cert.MergedGradIdeal.τ).loc Cert.MergedGradIdeal.main_arg1))
      ∧ θ_run (Cert.MergedGradRefIdeal.defs (F := Ideal)) (onTc (τ := Cert.MergedGradRefIdeal.τ) (Cert.MergedGradRefIdeal.main (F := Ideal))) ⟨m', fun _ => 0, g'⟩ (fun r => ∀ c : Dev Cert.MergedGradRefIdeal.nD,
          r.2.mem ((c.tc : Thread Cert.MergedGradRefIdeal.nD Cert.MergedGradRefIdeal.τ).loc Cert.MergedGradRefIdeal.main_v3) = v0 c
          ∧ r.2.mem ((c.tc : Thread Cert.MergedGradRefIdeal.nD Cert.MergedGradRefIdeal.τ).loc Cert.MergedGradRefIdeal.main_arg0) = m' ((c.tc : Thread Cert.MergedGradRefIdeal.nD Cert.MergedGradRefIdeal.τ).loc Cert.MergedGradRefIdeal.main_arg0)
          ∧ r.2.mem ((c.tc : Thread Cert.MergedGradRefIdeal.nD Cert.MergedGradRefIdeal.τ).loc Cert.MergedGradRefIdeal.main_arg1) = m' ((c.tc : Thread Cert.MergedGradRefIdeal.nD Cert.MergedGradRefIdeal.τ).loc Cert.MergedGradRefIdeal.main_arg1))

def preserves_InProjGrad_InProjGradIdeal : Prop :=
  True

def algebraic_InProjGradIdeal_InProjGradRefIdeal [hInProjGradIdeal : Cert.InProjGradIdeal.Facts] [hInProjGradRefIdeal : Cert.InProjGradRefIdeal.Facts] : Prop :=
  ∀ (m : (ℓ : Loc Cert.InProjGradIdeal.nD Cert.InProjGradIdeal.τ Cert.InProjGradIdeal.sig) → Buf (Elt Ideal) ℓ) (g : Dev Cert.InProjGradIdeal.nD → PrngReg)
    (m' : (ℓ : Loc Cert.InProjGradRefIdeal.nD Cert.InProjGradRefIdeal.τ Cert.InProjGradRefIdeal.sig) → Buf (Elt Ideal) ℓ) (g' : Dev Cert.InProjGradRefIdeal.nD → PrngReg), Pre_InProjGradIdeal m →
    (∀ c : Dev Cert.InProjGradIdeal.nD,
      m' ((c.tc : Thread Cert.InProjGradRefIdeal.nD Cert.InProjGradRefIdeal.τ).loc Cert.InProjGradRefIdeal.main_arg0) = m ((c.tc : Thread Cert.InProjGradIdeal.nD Cert.InProjGradIdeal.τ).loc Cert.InProjGradIdeal.main_arg0)
      ∧ m' ((c.tc : Thread Cert.InProjGradRefIdeal.nD Cert.InProjGradRefIdeal.τ).loc Cert.InProjGradRefIdeal.main_arg1) = m ((c.tc : Thread Cert.InProjGradIdeal.nD Cert.InProjGradIdeal.τ).loc Cert.InProjGradIdeal.main_arg1)) →
    ∃ (v0 : (c : Dev Cert.InProjGradIdeal.nD) → Buf (Elt Ideal) ((c.tc : Thread Cert.InProjGradIdeal.nD Cert.InProjGradIdeal.τ).loc Cert.InProjGradIdeal.main_v0)),
      θ_run (Cert.InProjGradIdeal.defs (F := Ideal)) (onTc (τ := Cert.InProjGradIdeal.τ) (Cert.InProjGradIdeal.main (F := Ideal))) ⟨m, fun _ => 0, g⟩ (fun r => ∀ c : Dev Cert.InProjGradIdeal.nD,
          r.2.mem ((c.tc : Thread Cert.InProjGradIdeal.nD Cert.InProjGradIdeal.τ).loc Cert.InProjGradIdeal.main_v0) = v0 c
          ∧ r.2.mem ((c.tc : Thread Cert.InProjGradIdeal.nD Cert.InProjGradIdeal.τ).loc Cert.InProjGradIdeal.main_arg0) = m ((c.tc : Thread Cert.InProjGradIdeal.nD Cert.InProjGradIdeal.τ).loc Cert.InProjGradIdeal.main_arg0)
          ∧ r.2.mem ((c.tc : Thread Cert.InProjGradIdeal.nD Cert.InProjGradIdeal.τ).loc Cert.InProjGradIdeal.main_arg1) = m ((c.tc : Thread Cert.InProjGradIdeal.nD Cert.InProjGradIdeal.τ).loc Cert.InProjGradIdeal.main_arg1))
      ∧ θ_run (Cert.InProjGradRefIdeal.defs (F := Ideal)) (onTc (τ := Cert.InProjGradRefIdeal.τ) (Cert.InProjGradRefIdeal.main (F := Ideal))) ⟨m', fun _ => 0, g'⟩ (fun r => ∀ c : Dev Cert.InProjGradRefIdeal.nD,
          r.2.mem ((c.tc : Thread Cert.InProjGradRefIdeal.nD Cert.InProjGradRefIdeal.τ).loc Cert.InProjGradRefIdeal.main_v6) = v0 c
          ∧ r.2.mem ((c.tc : Thread Cert.InProjGradRefIdeal.nD Cert.InProjGradRefIdeal.τ).loc Cert.InProjGradRefIdeal.main_arg0) = m' ((c.tc : Thread Cert.InProjGradRefIdeal.nD Cert.InProjGradRefIdeal.τ).loc Cert.InProjGradRefIdeal.main_arg0)
          ∧ r.2.mem ((c.tc : Thread Cert.InProjGradRefIdeal.nD Cert.InProjGradRefIdeal.τ).loc Cert.InProjGradRefIdeal.main_arg1) = m' ((c.tc : Thread Cert.InProjGradRefIdeal.nD Cert.InProjGradRefIdeal.τ).loc Cert.InProjGradRefIdeal.main_arg1))

def preserves_RowsGrad_RowsGradIdeal : Prop :=
  True

def algebraic_RowsGradIdeal_RowsGradRefIdeal [hRowsGradIdeal : Cert.RowsGradIdeal.Facts] [hRowsGradRefIdeal : Cert.RowsGradRefIdeal.Facts] : Prop :=
  ∀ (m : (ℓ : Loc Cert.RowsGradIdeal.nD Cert.RowsGradIdeal.τ Cert.RowsGradIdeal.sig) → Buf (Elt Ideal) ℓ) (g : Dev Cert.RowsGradIdeal.nD → PrngReg)
    (m' : (ℓ : Loc Cert.RowsGradRefIdeal.nD Cert.RowsGradRefIdeal.τ Cert.RowsGradRefIdeal.sig) → Buf (Elt Ideal) ℓ) (g' : Dev Cert.RowsGradRefIdeal.nD → PrngReg), Pre_RowsGradIdeal m →
    (∀ c : Dev Cert.RowsGradIdeal.nD,
      m' ((c.tc : Thread Cert.RowsGradRefIdeal.nD Cert.RowsGradRefIdeal.τ).loc Cert.RowsGradRefIdeal.main_arg0) = m ((c.tc : Thread Cert.RowsGradIdeal.nD Cert.RowsGradIdeal.τ).loc Cert.RowsGradIdeal.main_arg0)
      ∧ m' ((c.tc : Thread Cert.RowsGradRefIdeal.nD Cert.RowsGradRefIdeal.τ).loc Cert.RowsGradRefIdeal.main_arg1) = m ((c.tc : Thread Cert.RowsGradIdeal.nD Cert.RowsGradIdeal.τ).loc Cert.RowsGradIdeal.main_arg1)
      ∧ m' ((c.tc : Thread Cert.RowsGradRefIdeal.nD Cert.RowsGradRefIdeal.τ).loc Cert.RowsGradRefIdeal.main_arg2) = m ((c.tc : Thread Cert.RowsGradIdeal.nD Cert.RowsGradIdeal.τ).loc Cert.RowsGradIdeal.main_arg2)
      ∧ m' ((c.tc : Thread Cert.RowsGradRefIdeal.nD Cert.RowsGradRefIdeal.τ).loc Cert.RowsGradRefIdeal.main_arg3) = m ((c.tc : Thread Cert.RowsGradIdeal.nD Cert.RowsGradIdeal.τ).loc Cert.RowsGradIdeal.main_arg3)) →
    ∃ (v0 : (c : Dev Cert.RowsGradIdeal.nD) → Buf (Elt Ideal) ((c.tc : Thread Cert.RowsGradIdeal.nD Cert.RowsGradIdeal.τ).loc Cert.RowsGradIdeal.main_v6)),
      θ_run (Cert.RowsGradIdeal.defs (F := Ideal)) (onTc (τ := Cert.RowsGradIdeal.τ) (Cert.RowsGradIdeal.main (F := Ideal))) ⟨m, fun _ => 0, g⟩ (fun r => ∀ c : Dev Cert.RowsGradIdeal.nD,
          r.2.mem ((c.tc : Thread Cert.RowsGradIdeal.nD Cert.RowsGradIdeal.τ).loc Cert.RowsGradIdeal.main_v6) = v0 c
          ∧ r.2.mem ((c.tc : Thread Cert.RowsGradIdeal.nD Cert.RowsGradIdeal.τ).loc Cert.RowsGradIdeal.main_arg0) = m ((c.tc : Thread Cert.RowsGradIdeal.nD Cert.RowsGradIdeal.τ).loc Cert.RowsGradIdeal.main_arg0)
          ∧ r.2.mem ((c.tc : Thread Cert.RowsGradIdeal.nD Cert.RowsGradIdeal.τ).loc Cert.RowsGradIdeal.main_arg1) = m ((c.tc : Thread Cert.RowsGradIdeal.nD Cert.RowsGradIdeal.τ).loc Cert.RowsGradIdeal.main_arg1)
          ∧ r.2.mem ((c.tc : Thread Cert.RowsGradIdeal.nD Cert.RowsGradIdeal.τ).loc Cert.RowsGradIdeal.main_arg2) = m ((c.tc : Thread Cert.RowsGradIdeal.nD Cert.RowsGradIdeal.τ).loc Cert.RowsGradIdeal.main_arg2)
          ∧ r.2.mem ((c.tc : Thread Cert.RowsGradIdeal.nD Cert.RowsGradIdeal.τ).loc Cert.RowsGradIdeal.main_arg3) = m ((c.tc : Thread Cert.RowsGradIdeal.nD Cert.RowsGradIdeal.τ).loc Cert.RowsGradIdeal.main_arg3))
      ∧ θ_run (Cert.RowsGradRefIdeal.defs (F := Ideal)) (onTc (τ := Cert.RowsGradRefIdeal.τ) (Cert.RowsGradRefIdeal.main (F := Ideal))) ⟨m', fun _ => 0, g'⟩ (fun r => ∀ c : Dev Cert.RowsGradRefIdeal.nD,
          r.2.mem ((c.tc : Thread Cert.RowsGradRefIdeal.nD Cert.RowsGradRefIdeal.τ).loc Cert.RowsGradRefIdeal.main_v6) = v0 c
          ∧ r.2.mem ((c.tc : Thread Cert.RowsGradRefIdeal.nD Cert.RowsGradRefIdeal.τ).loc Cert.RowsGradRefIdeal.main_arg0) = m' ((c.tc : Thread Cert.RowsGradRefIdeal.nD Cert.RowsGradRefIdeal.τ).loc Cert.RowsGradRefIdeal.main_arg0)
          ∧ r.2.mem ((c.tc : Thread Cert.RowsGradRefIdeal.nD Cert.RowsGradRefIdeal.τ).loc Cert.RowsGradRefIdeal.main_arg1) = m' ((c.tc : Thread Cert.RowsGradRefIdeal.nD Cert.RowsGradRefIdeal.τ).loc Cert.RowsGradRefIdeal.main_arg1)
          ∧ r.2.mem ((c.tc : Thread Cert.RowsGradRefIdeal.nD Cert.RowsGradRefIdeal.τ).loc Cert.RowsGradRefIdeal.main_arg2) = m' ((c.tc : Thread Cert.RowsGradRefIdeal.nD Cert.RowsGradRefIdeal.τ).loc Cert.RowsGradRefIdeal.main_arg2)
          ∧ r.2.mem ((c.tc : Thread Cert.RowsGradRefIdeal.nD Cert.RowsGradRefIdeal.τ).loc Cert.RowsGradRefIdeal.main_arg3) = m' ((c.tc : Thread Cert.RowsGradRefIdeal.nD Cert.RowsGradRefIdeal.τ).loc Cert.RowsGradRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v1) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hOutBwd : Cert.OutBwd.Facts) (hOutBwdIdeal : Cert.OutBwdIdeal.Facts) (hOutBwdRefIdeal : Cert.OutBwdRefIdeal.Facts) (hAttnBwd : Cert.AttnBwd.Facts) (hAttnBwdIdeal : Cert.AttnBwdIdeal.Facts) (hAttnBwdRefIdeal : Cert.AttnBwdRefIdeal.Facts) (hMergeBwd : Cert.MergeBwd.Facts) (hMergeBwdIdeal : Cert.MergeBwdIdeal.Facts) (hMergeBwdRefIdeal : Cert.MergeBwdRefIdeal.Facts) (hLossHead : Cert.LossHead.Facts) (hLossHeadIdeal : Cert.LossHeadIdeal.Facts) (hLossHeadRefIdeal : Cert.LossHeadRefIdeal.Facts) (hPrenormBwd : Cert.PrenormBwd.Facts) (hPrenormBwdIdeal : Cert.PrenormBwdIdeal.Facts) (hPrenormBwdRefIdeal : Cert.PrenormBwdRefIdeal.Facts) (hConvBwd : Cert.ConvBwd.Facts) (hConvBwdIdeal : Cert.ConvBwdIdeal.Facts) (hConvBwdRefIdeal : Cert.ConvBwdRefIdeal.Facts) (hPoolBwd : Cert.PoolBwd.Facts) (hPoolBwdIdeal : Cert.PoolBwdIdeal.Facts) (hPoolBwdRefIdeal : Cert.PoolBwdRefIdeal.Facts) (hAttnFwd : Cert.AttnFwd.Facts) (hAttnFwdIdeal : Cert.AttnFwdIdeal.Facts) (hAttnFwdRefIdeal : Cert.AttnFwdRefIdeal.Facts) (hConvFwd : Cert.ConvFwd.Facts) (hConvFwdIdeal : Cert.ConvFwdIdeal.Facts) (hConvFwdRefIdeal : Cert.ConvFwdRefIdeal.Facts) (hPoolFwd : Cert.PoolFwd.Facts) (hPoolFwdIdeal : Cert.PoolFwdIdeal.Facts) (hPoolFwdRefIdeal : Cert.PoolFwdRefIdeal.Facts) (hMergeFwd : Cert.MergeFwd.Facts) (hMergeFwdIdeal : Cert.MergeFwdIdeal.Facts) (hMergeFwdRefIdeal : Cert.MergeFwdRefIdeal.Facts) (hPrenormFwd : Cert.PrenormFwd.Facts) (hPrenormFwdIdeal : Cert.PrenormFwdIdeal.Facts) (hPrenormFwdRefIdeal : Cert.PrenormFwdRefIdeal.Facts) (hOutFwd : Cert.OutFwd.Facts) (hOutFwdIdeal : Cert.OutFwdIdeal.Facts) (hOutFwdRefIdeal : Cert.OutFwdRefIdeal.Facts) (hInProj : Cert.InProj.Facts) (hInProjIdeal : Cert.InProjIdeal.Facts) (hInProjRefIdeal : Cert.InProjRefIdeal.Facts) (hMergedGrad : Cert.MergedGrad.Facts) (hMergedGradIdeal : Cert.MergedGradIdeal.Facts) (hMergedGradRefIdeal : Cert.MergedGradRefIdeal.Facts) (hInProjGrad : Cert.InProjGrad.Facts) (hInProjGradIdeal : Cert.InProjGradIdeal.Facts) (hInProjGradRefIdeal : Cert.InProjGradRefIdeal.Facts) (hRowsGrad : Cert.RowsGrad.Facts) (hRowsGradIdeal : Cert.RowsGradIdeal.Facts) (hRowsGradRefIdeal : Cert.RowsGradRefIdeal.Facts) (hAdaBwd : Cert.AdaBwd.Facts) (hAdaBwdIdeal : Cert.AdaBwdIdeal.Facts) (hAdaBwdRefIdeal : Cert.AdaBwdRefIdeal.Facts) (hAdam : Cert.Adam.Facts) (hAdamIdeal : Cert.AdamIdeal.Facts) (hAdamRefIdeal : Cert.AdamRefIdeal.Facts) (hPre_finite_att : Cert.Pre_finite_att.Facts) (hPre_finite_loss : Cert.Pre_finite_loss.Facts) (hPre_finite_pren : Cert.Pre_finite_pren.Facts) (hPre_finite_conv : Cert.Pre_finite_conv.Facts) (hPre_finite_pool : Cert.Pre_finite_pool.Facts) (hPre_finite_attf : Cert.Pre_finite_attf.Facts) (hPre_finite_plf : Cert.Pre_finite_plf.Facts),
    quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_AttnBwd (hAttnBwd := hAttnBwd)
    ∧ quiescent_AttnBwdIdeal (hAttnBwdIdeal := hAttnBwdIdeal)
    ∧ quiescent_AttnBwdIdeal_pre_finite_att (hAttnBwdIdeal := hAttnBwdIdeal) (hPre_finite_att := hPre_finite_att)
    ∧ quiescent_AttnBwdRefIdeal (hAttnBwdRefIdeal := hAttnBwdRefIdeal)
    ∧ quiescent_AttnBwdRefIdeal_pre_finite_att (hAttnBwdRefIdeal := hAttnBwdRefIdeal) (hPre_finite_att := hPre_finite_att)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ quiescent_PrenormBwd (hPrenormBwd := hPrenormBwd)
    ∧ quiescent_PrenormBwdIdeal (hPrenormBwdIdeal := hPrenormBwdIdeal)
    ∧ quiescent_PrenormBwdIdeal_pre_finite_pren (hPrenormBwdIdeal := hPrenormBwdIdeal) (hPre_finite_pren := hPre_finite_pren)
    ∧ quiescent_PrenormBwdRefIdeal (hPrenormBwdRefIdeal := hPrenormBwdRefIdeal)
    ∧ quiescent_PrenormBwdRefIdeal_pre_finite_pren (hPrenormBwdRefIdeal := hPrenormBwdRefIdeal) (hPre_finite_pren := hPre_finite_pren)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvBwdRefIdeal (hConvBwdRefIdeal := hConvBwdRefIdeal)
    ∧ quiescent_ConvBwdRefIdeal_pre_finite_conv (hConvBwdRefIdeal := hConvBwdRefIdeal) (hPre_finite_conv := hPre_finite_conv)
    ∧ quiescent_PoolBwd (hPoolBwd := hPoolBwd)
    ∧ quiescent_PoolBwdIdeal (hPoolBwdIdeal := hPoolBwdIdeal)
    ∧ quiescent_PoolBwdIdeal_pre_finite_pool (hPoolBwdIdeal := hPoolBwdIdeal) (hPre_finite_pool := hPre_finite_pool)
    ∧ quiescent_PoolBwdRefIdeal (hPoolBwdRefIdeal := hPoolBwdRefIdeal)
    ∧ quiescent_PoolBwdRefIdeal_pre_finite_pool (hPoolBwdRefIdeal := hPoolBwdRefIdeal) (hPre_finite_pool := hPre_finite_pool)
    ∧ quiescent_AttnFwd (hAttnFwd := hAttnFwd)
    ∧ quiescent_AttnFwdIdeal (hAttnFwdIdeal := hAttnFwdIdeal)
    ∧ quiescent_AttnFwdIdeal_pre_finite_attf (hAttnFwdIdeal := hAttnFwdIdeal) (hPre_finite_attf := hPre_finite_attf)
    ∧ quiescent_AttnFwdRefIdeal (hAttnFwdRefIdeal := hAttnFwdRefIdeal)
    ∧ quiescent_AttnFwdRefIdeal_pre_finite_attf (hAttnFwdRefIdeal := hAttnFwdRefIdeal) (hPre_finite_attf := hPre_finite_attf)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_PoolFwd (hPoolFwd := hPoolFwd)
    ∧ quiescent_PoolFwdIdeal (hPoolFwdIdeal := hPoolFwdIdeal)
    ∧ quiescent_PoolFwdIdeal_pre_finite_plf (hPoolFwdIdeal := hPoolFwdIdeal) (hPre_finite_plf := hPre_finite_plf)
    ∧ quiescent_PoolFwdRefIdeal (hPoolFwdRefIdeal := hPoolFwdRefIdeal)
    ∧ quiescent_PoolFwdRefIdeal_pre_finite_plf (hPoolFwdRefIdeal := hPoolFwdRefIdeal) (hPre_finite_plf := hPre_finite_plf)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_PrenormFwd (hPrenormFwd := hPrenormFwd)
    ∧ quiescent_PrenormFwdIdeal (hPrenormFwdIdeal := hPrenormFwdIdeal)
    ∧ quiescent_PrenormFwdRefIdeal (hPrenormFwdRefIdeal := hPrenormFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_InProj (hInProj := hInProj)
    ∧ quiescent_InProjIdeal (hInProjIdeal := hInProjIdeal)
    ∧ quiescent_InProjRefIdeal (hInProjRefIdeal := hInProjRefIdeal)
    ∧ quiescent_MergedGrad (hMergedGrad := hMergedGrad)
    ∧ quiescent_MergedGradIdeal (hMergedGradIdeal := hMergedGradIdeal)
    ∧ quiescent_MergedGradRefIdeal (hMergedGradRefIdeal := hMergedGradRefIdeal)
    ∧ quiescent_InProjGrad (hInProjGrad := hInProjGrad)
    ∧ quiescent_InProjGradIdeal (hInProjGradIdeal := hInProjGradIdeal)
    ∧ quiescent_InProjGradRefIdeal (hInProjGradRefIdeal := hInProjGradRefIdeal)
    ∧ quiescent_RowsGrad (hRowsGrad := hRowsGrad)
    ∧ quiescent_RowsGradIdeal (hRowsGradIdeal := hRowsGradIdeal)
    ∧ quiescent_RowsGradRefIdeal (hRowsGradRefIdeal := hRowsGradRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_Adam (hAdam := hAdam)
    ∧ quiescent_AdamIdeal (hAdamIdeal := hAdamIdeal)
    ∧ quiescent_AdamRefIdeal (hAdamRefIdeal := hAdamRefIdeal)
    ∧ preserves_OutBwd_OutBwdIdeal
    ∧ algebraic_OutBwdIdeal_OutBwdRefIdeal (hOutBwdIdeal := hOutBwdIdeal) (hOutBwdRefIdeal := hOutBwdRefIdeal)
    ∧ preserves_AttnBwd_AttnBwdIdeal
    ∧ algebraic_AttnBwdIdeal_AttnBwdRefIdeal_pre_finite_att (hAttnBwdIdeal := hAttnBwdIdeal) (hAttnBwdRefIdeal := hAttnBwdRefIdeal) (hPre_finite_att := hPre_finite_att)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
    ∧ preserves_PrenormBwd_PrenormBwdIdeal
    ∧ algebraic_PrenormBwdIdeal_PrenormBwdRefIdeal_pre_finite_pren (hPrenormBwdIdeal := hPrenormBwdIdeal) (hPrenormBwdRefIdeal := hPrenormBwdRefIdeal) (hPre_finite_pren := hPre_finite_pren)
    ∧ preserves_ConvBwd_ConvBwdIdeal
    ∧ algebraic_ConvBwdIdeal_ConvBwdRefIdeal_pre_finite_conv (hConvBwdIdeal := hConvBwdIdeal) (hConvBwdRefIdeal := hConvBwdRefIdeal) (hPre_finite_conv := hPre_finite_conv)
    ∧ preserves_PoolBwd_PoolBwdIdeal
    ∧ algebraic_PoolBwdIdeal_PoolBwdRefIdeal_pre_finite_pool (hPoolBwdIdeal := hPoolBwdIdeal) (hPoolBwdRefIdeal := hPoolBwdRefIdeal) (hPre_finite_pool := hPre_finite_pool)
    ∧ preserves_AttnFwd_AttnFwdIdeal
    ∧ algebraic_AttnFwdIdeal_AttnFwdRefIdeal_pre_finite_attf (hAttnFwdIdeal := hAttnFwdIdeal) (hAttnFwdRefIdeal := hAttnFwdRefIdeal) (hPre_finite_attf := hPre_finite_attf)
    ∧ preserves_ConvFwd_ConvFwdIdeal
    ∧ algebraic_ConvFwdIdeal_ConvFwdRefIdeal (hConvFwdIdeal := hConvFwdIdeal) (hConvFwdRefIdeal := hConvFwdRefIdeal)
    ∧ preserves_PoolFwd_PoolFwdIdeal
    ∧ algebraic_PoolFwdIdeal_PoolFwdRefIdeal_pre_finite_plf (hPoolFwdIdeal := hPoolFwdIdeal) (hPoolFwdRefIdeal := hPoolFwdRefIdeal) (hPre_finite_plf := hPre_finite_plf)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_PrenormFwd_PrenormFwdIdeal
    ∧ algebraic_PrenormFwdIdeal_PrenormFwdRefIdeal (hPrenormFwdIdeal := hPrenormFwdIdeal) (hPrenormFwdRefIdeal := hPrenormFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_InProj_InProjIdeal
    ∧ algebraic_InProjIdeal_InProjRefIdeal (hInProjIdeal := hInProjIdeal) (hInProjRefIdeal := hInProjRefIdeal)
    ∧ preserves_MergedGrad_MergedGradIdeal
    ∧ algebraic_MergedGradIdeal_MergedGradRefIdeal (hMergedGradIdeal := hMergedGradIdeal) (hMergedGradRefIdeal := hMergedGradRefIdeal)
    ∧ preserves_InProjGrad_InProjGradIdeal
    ∧ algebraic_InProjGradIdeal_InProjGradRefIdeal (hInProjGradIdeal := hInProjGradIdeal) (hInProjGradRefIdeal := hInProjGradRefIdeal)
    ∧ preserves_RowsGrad_RowsGradIdeal
    ∧ algebraic_RowsGradIdeal_RowsGradRefIdeal (hRowsGradIdeal := hRowsGradIdeal) (hRowsGradRefIdeal := hRowsGradRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_Adam_AdamIdeal
    ∧ algebraic_AdamIdeal_AdamRefIdeal (hAdamIdeal := hAdamIdeal) (hAdamRefIdeal := hAdamRefIdeal)
-- ==== Pre_finite_att.lean ====
abbrev S4096x14336 : Shape := ⟨2, ![4096, 14336]⟩
abbrev S4096x2048 : Shape := ⟨2, ![4096, 2048]⟩
abbrev S_ : Shape := ⟨0, ![]⟩

class Facts : Prop where
  bitsLt_bf16_f32 : FTy.bits .bf16 < FTy.bits .f32
  bcast_S_S4096x14336 : S_.BroadcastsInDim S4096x14336 (![] : Fin 0 → Fin S4096x14336.rank)
  reducesTo_S4096x14336_S_d0_1 : S4096x14336.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x14336 .bf16) (main_arg1 : FVec F S4096x2048 .bf16) : IVec S_ 1 :=
  let main_v0 : FVec F S4096x14336 .f32 := (extf .f32 · bitsLt_bf16_f32) main_arg0
  let main_v1 : FVec F S4096x14336 .f32 := Host.absf main_v0
  let main_cst : FVec F S_ .f32 := constant S_ .f32 0x7F800000#32
  let main_v2 : FVec F S4096x14336 .f32 := broadcastInDim S4096x14336 ![] bcast_S_S4096x14336 main_cst
  let main_v3 : IVec S4096x14336 1 := cmpf .olt main_v1 main_v2
  let main_c : IVec S_ 1 := constantI S_ 1 1#1
  let main_v4 : IVec S_ 1 := (fun x v => Host.reduce IntOp.andi x v reducesTo_S4096x14336_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : IVec S_ 1 := andi main_v4 main_v9
  main_v10
-- ==== Pre_finite_attf.lean ====
abbrev S4096x14336 : Shape := ⟨2, ![4096, 14336]⟩
abbrev S_ : Shape := ⟨0, ![]⟩

class Facts : Prop where
  bitsLt_bf16_f32 : FTy.bits .bf16 < FTy.bits .f32
  bcast_S_S4096x14336 : S_.BroadcastsInDim S4096x14336 (![] : Fin 0 → Fin S4096x14336.rank)
  reducesTo_S4096x14336_S_d0_1 : S4096x14336.ReducesTo [0, 1] S_
  h_S_ : 0 < S_.numel

variable [Facts]

def fn {F : FTy → Type} [FloatOps F] (main_arg0 : FVec F S4096x14336 .bf16) : IVec S_ 1 :=
  let main_v0 : FVec F S4096x14336 .f32 := (extf .f32 · bitsLt_bf16_f32) main_arg0
  let main_v1 : FVec F S4096x14336 .f32 := Host.absf main_v0
  let main_cst : FVec F S_ .f32 := constant S_ .f32 0x7F800000#32
  let main_v2 : FVec F S4096x14336 .f32 := broadcastInDim S4096x14336 ![] bcast_S_S4096x14336 main_cst
  let main_v3 : IVec S4096x14336 1 := cmpf .olt main_v1 main_v2
  let main_c : IVec S_ 1 := constantI S_ 1 1#1
  let main_v4 : IVec S_ 1 := (fun x v => Host.reduce IntOp.andi x v reducesTo_S4096x14336_S_d0_1 h_S_) main_v3 main_c
  main_v4
-- ==== Pre_finite_conv.lean ====
abbrev S4096x14336 : Shape := ⟨2, ![4096, 14336]⟩
abbrev S3x1024 : Shape := ⟨2, ![3, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x14336 : S_.BroadcastsInDim S4096x14336 (![] : Fin 0 → Fin S4096x14336.rank)
  reducesTo_S4096x14336_S_d0_1 : S4096x14336.ReducesTo [0, 1] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x14336 .bf16) (main_arg1 : FVec F S3x1024 .f32) (main_arg2 : FVec F S4096x1024 .bf16) : IVec S_ 1 :=
  let main_v0 : FVec F S4096x14336 .f32 := (extf .f32 · bitsLt_bf16_f32) main_arg0
  let main_v1 : FVec F S4096x14336 .f32 := Host.absf main_v0
  let main_cst : FVec F S_ .f32 := constant S_ .f32 0x7F800000#32
  let main_v2 : FVec F S4096x14336 .f32 := broadcastInDim S4096x14336 ![] bcast_S_S4096x14336 main_cst
  let main_v3 : IVec S4096x14336 1 := cmpf .olt main_v1 main_v2
  let main_c : IVec S_ 1 := constantI S_ 1 1#1
  let main_v4 : IVec S_ 1 := (fun x v => Host.reduce IntOp.andi x v reducesTo_S4096x14336_S_d0_1 h_S_) main_v3 main_c
  let main_v5 : FVec F S3x1024 .f32 := Host.absf main_arg1
  let main_cst_0 : FVec F S_ .f32 := constant S_ .f32 0x7F800000#32
  let main_v6 : FVec F S3x1024 .f32 := broadcastInDim S3x1024 ![] bcast_S_S3x1024 main_cst_0
  let main_v7 : IVec S3x1024 1 := cmpf .olt main_v5 main_v6
  let main_c_1 : IVec S_ 1 := constantI S_ 1 1#1
  let main_v8 : IVec S_ 1 := (fun x v => Host.reduce IntOp.andi x v reducesTo_S3x1024_S_d0_1 h_S_) main_v7 main_c_1
  let main_v9 : IVec S_ 1 := andi main_v4 main_v8
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  main_v15
-- ==== Pre_finite_loss.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S4096x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Pre_finite_plf.lean ====
abbrev S4096x14336 : Shape := ⟨2, ![4096, 14336]⟩
abbrev S4x256x256 : Shape := ⟨3, ![4, 256, 256]⟩
abbrev S1024 : Shape := ⟨1, ![1024]⟩
abbrev S_ : Shape := ⟨0, ![]⟩

class Facts : Prop where
  bitsLt_bf16_f32 : FTy.bits .bf16 < FTy.bits .f32
  bcast_S_S4096x14336 : S_.BroadcastsInDim S4096x14336 (![] : Fin 0 → Fin S4096x14336.rank)
  reducesTo_S4096x14336_S_d0_1 : S4096x14336.ReducesTo [0, 1] S_
  h_S_ : 0 < S_.numel

variable [Facts]

def fn {F : FTy → Type} [FloatOps F] (main_arg0 : FVec F S4096x14336 .bf16) (main_arg1 : FVec F S4x256x256 .f32) (main_arg2 : FVec F S1024 .f32) : IVec S_ 1 :=
  let main_v0 : FVec F S4096x14336 .f32 := (extf .f32 · bitsLt_bf16_f32) main_arg0
  let main_v1 : FVec F S4096x14336 .f32 := Host.absf main_v0
  let main_cst : FVec F S_ .f32 := constant S_ .f32 0x7F800000#32
  let main_v2 : FVec F S4096x14336 .f32 := broadcastInDim S4096x14336 ![] bcast_S_S4096x14336 main_cst
  let main_v3 : IVec S4096x14336 1 := cmpf .olt main_v1 main_v2
  let main_c : IVec S_ 1 := constantI S_ 1 1#1
  let main_v4 : IVec S_ 1 := (fun x v => Host.reduce IntOp.andi x v reducesTo_S4096x14336_S_d0_1 h_S_) main_v3 main_c
  main_v4
-- ==== Pre_finite_pool.lean ====
abbrev S4096x14336 : Shape := ⟨2, ![4096, 14336]⟩
abbrev S4x256x256 : Shape := ⟨3, ![4, 256, 256]⟩
abbrev S1024 : Shape := ⟨1, ![1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x14336 : S_.BroadcastsInDim S4096x14336 (![] : Fin 0 → Fin S4096x14336.rank)
  reducesTo_S4096x14336_S_d0_1 : S4096x14336.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v14 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v14 main_v19
  main_v20

def fn {F : FTy → Type} [FloatOps F] (main_arg0 : FVec F S4096x14336 .bf16) (main_arg1 : FVec F S4x256x256 .f32) (main_arg2 : FVec F S1024 .f32) (main_arg3 : FVec F S4096x1024 .bf16) : IVec S_ 1 :=
  let main_v0 : FVec F S4096x14336 .f32 := (extf .f32 · bitsLt_bf16_f32) main_arg0
  let main_v1 : FVec F S4096x14336 .f32 := Host.absf main_v0
  let main_cst : FVec F S_ .f32 := constant S_ .f32 0x7F800000#32
  let main_v2 : FVec F S4096x14336 .f32 := broadcastInDim S4096x14336 ![] bcast_S_S4096x14336 main_cst
  let main_v3 : IVec S4096x14336 1 := cmpf .olt main_v1 main_v2
  let main_c : IVec S_ 1 := constantI S_ 1 1#1
  let main_v4 : IVec S_ 1 := (fun x v => Host.reduce IntOp.andi x v reducesTo_S4096x14336_S_d0_1 h_S_) main_v3 main_c
  let main_v5 : FVec F S4x256x256 .f32 := Host.absf main_arg1
  let main_cst_0 : FVec F S_ .f32 := constant S_ .f32 0x7F800000#32
  let main_v6 : FVec F S4x256x256 .f32 := broadcastInDim S4x256x256 ![] bcast_S_S4x256x256 main_cst_0
  let main_v7 : IVec S4x256x256 1 := cmpf .olt main_v5 main_v6
  let main_c_1 : IVec S_ 1 := constantI S_ 1 1#1
  let main_v8 : IVec S_ 1 := (fun x v => Host.reduce IntOp.andi x v reducesTo_S4x256x256_S_d0_1_2 h_S_) main_v7 main_c_1
  let main_v9 : IVec S_ 1 := andi main_v4 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S4096x1024 .f32 := (extf .f32 · bitsLt_bf16_f32) main_arg3
  let main_v16 : FVec F S4096x1024 .f32 := Host.absf main_v15
  let main_cst_4 : FVec F S_ .f32 := constant S_ .f32 0x7F800000#32
  fn_part1 (F := F) main_v14 main_v16 main_cst_4
-- ==== Pre_finite_pren.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .f32) (main_arg1 : FVec F S2048 .f32) (main_arg2 : FVec F S2048 .f32) (main_arg3 : FVec F S2048 .f32) (main_arg4 : FVec F S4096x2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S4096x2048 .f32 := Host.absf main_arg4
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_v13 main_v16
-- ==== OutBwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_7 : BitVec 32 := 0#32
  let v14 : BitVec 1 := Scalar.cmpi .ne v13 c0_i32_7
  v14

def k0_cond2 (i : grid0.Coords) : BitVec 1 :=
  let arg0 : BitVec 32 := BitVec.ofNat 32 (i 0).val
  let c0_i32_8 : BitVec 32 := 0#32
  let v15 : BitVec 1 := Scalar.cmpi .sgt arg0 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== OutBwdRefIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S_, .f32⟩
  | .hbm, ⟨14, _⟩ => ⟨S2048, .f32⟩
  | .hbm, ⟨15, _⟩ => ⟨S4096x2048, .bf16⟩
  | .hbm, ⟨16, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== AttnBwd.lean ====
abbrev S4096x14336 : Shape := ⟨2, ![4096, 14336]⟩
abbrev S4096x2048 : Shape := ⟨2, ![4096, 2048]⟩
abbrev S4096x16x128 : Shape := ⟨3, ![4096, 16, 128]⟩
abbrev S_ : Shape := ⟨0, ![]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S4096x16x4096 : Shape := ⟨3, ![4096, 16, 4096]⟩
abbrev S4096x1x4096 : Shape := ⟨3, ![4096, 1, 4096]⟩
abbrev S4096x16 : Shape := ⟨2, ![4096, 16]⟩
abbrev S4096x16x1 : Shape := ⟨3, ![4096, 16, 1]⟩
abbrev S512x256 : Shape := ⟨2, ![512, 256]⟩
abbrev S4096x256 : Shape := ⟨2, ![4096, 256]⟩
abbrev S512x128 : Shape := ⟨2, ![512, 128]⟩
abbrev S512x512 : Shape := ⟨2, ![512, 512]⟩
abbrev S256x256 : Shape := ⟨2, ![256, 256]⟩
abbrev S512x1 : Shape := ⟨2, ![512, 1]⟩
abbrev S256x128 : Shape := ⟨2, ![256, 128]⟩
abbrev S256x1 : Shape := ⟨2, ![256, 1]⟩
abbrev S256x512 : Shape := ⟨2, ![256, 512]⟩

abbrev nBuf : Space → Nat
  | .hbm => 115
  | .vmem => 24
  | .smem => 0
  | _ => 0

abbrev bufTy : (tb : Table) → Fin (tcTables nBuf tb) → BufTy
  | .hbm, ⟨0, _⟩ => ⟨S4096x14336, .bf16⟩
  | .hbm, ⟨1, _⟩ => ⟨S4096x2048, .bf16⟩
  | .hbm, ⟨2, _⟩ => ⟨S4096x14336, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x16x128, .f32⟩
  | .hbm, ⟨8, _⟩ => ⟨S4096x16x128, .f32⟩
  | .hbm, ⟨9, _⟩ => ⟨S4096x16x128, .f32⟩
  | .hbm, ⟨10, _⟩ => ⟨S_, .f32⟩
  | .hbm, ⟨11, _⟩ => ⟨S4096x16x128, .f32⟩
  | .hbm, ⟨12, _⟩ => ⟨S4096x16x128, .f32⟩
  | .hbm, ⟨13, _⟩ => ⟨S16x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .i1⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S_, .f32⟩
  | .hbm, ⟨38, _⟩ => ⟨S16x4096x4096, .i1⟩
  | .hbm, ⟨39, _⟩ => ⟨S16x4096x4096, .f32⟩
  | .hbm, ⟨40, _⟩ => ⟨S16x4096x4096, .f32⟩
  | .hbm, ⟨41, _⟩ => ⟨S_, .f32⟩
  | .hbm, ⟨42, _⟩ => ⟨S_, .f32⟩
  | .hbm, ⟨43, _⟩ => ⟨S16x4096x4096, .f32⟩
  | .hbm, ⟨44, _⟩ => ⟨S16x4096x4096, .f32⟩
  | .hbm, ⟨45, _⟩ => ⟨S16x4096x4096, .f32⟩
  | .hbm, ⟨46, _⟩ => ⟨S_, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S16x4096x4096, .i1⟩
  | .hbm, ⟨52, _⟩ => ⟨S16x4096x4096, .f32⟩
  | .hbm, ⟨53, _⟩ => ⟨S16x4096x4096, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S_, .f32⟩
  | .hbm, ⟨65, _⟩ => ⟨S16x4096x4096, .i1⟩
  | .hbm, ⟨66, _⟩ => ⟨S16x4096x4096, .f32⟩
  | .hbm, ⟨67, _⟩ => ⟨S16x4096x4096, .f32⟩
  | .hbm, ⟨68, _⟩ => ⟨S16x128x4096, .f32⟩
  | .hbm, ⟨69, _⟩ => ⟨S4096x16x128, .f32⟩
  | .hbm, ⟨70, _⟩ => ⟨S4096x2048, .f32⟩
  | .hbm, ⟨71, _⟩ => ⟨S4096x2048, .bf16⟩
  | .hbm, ⟨72, _⟩ => ⟨S4096x16x128, .f32⟩
  | .hbm, ⟨73, _⟩ => ⟨S_, .f32⟩
  | .hbm, ⟨74, _⟩ => ⟨S4096x16x128, .f32⟩
  | .hbm, ⟨75, _⟩ => ⟨S4096x16x128, .f32⟩
  | .hbm, ⟨76, _⟩ => ⟨S4096x16x128, .f32⟩
  | .hbm, ⟨77, _⟩ => ⟨S16x4096x4096, .f32⟩
  | .hbm, ⟨78, _⟩ => ⟨S4096x16x4096, .f32⟩
  | .hbm, ⟨79, _⟩ => ⟨S4096, .i32⟩
  | .hbm, ⟨80, _⟩ => ⟨S1x4096, .i32⟩
  | .hbm, ⟨81, _⟩ => ⟨S4096, .i32⟩
  | .hbm, ⟨82, _⟩ => ⟨S4096x1, .i32⟩
  | .hbm, ⟨83, _⟩ => ⟨S4096x4096, .i32⟩
  | .hbm, ⟨84, _⟩ => ⟨S4096x4096, .i32⟩
  | .hbm, ⟨85, _⟩ => ⟨S4096x4096, .i1⟩
  | .hbm, ⟨86, _⟩ => ⟨S4096x1x4096, .i1⟩
  | .hbm, ⟨87, _⟩ => ⟨S_, .f32⟩
  | .hbm, ⟨88, _⟩ => ⟨S4096x16x4096, .f32⟩
  | .hbm, ⟨89, _⟩ => ⟨S4096x16x4096, .f32⟩
  | .hbm, ⟨90, _⟩ => ⟨S4096x16x4096, .f32⟩
  | .hbm, ⟨91, _⟩ => ⟨S4096x16x4096, .f32⟩
  | .hbm, ⟨92, _⟩ => ⟨S4096x16x4096, .i1⟩
  | .hbm, ⟨93, _⟩ => ⟨S4096x16x4096, .f32⟩
  | .hbm, ⟨94, _⟩ => ⟨S4096x16x4096, .f32⟩
  | .hbm, ⟨95, _⟩ => ⟨S4096x16x4096, .f32⟩
  | .hbm, ⟨96, _⟩ => ⟨S4096x16x4096, .f32⟩
  | .hbm, ⟨97, _⟩ => ⟨S4096x16x4096, .f32⟩
  | .hbm, ⟨98, _⟩ => ⟨S4096x16x4096, .f32⟩
  | .hbm, ⟨99, _⟩ => ⟨S4096x16x4096, .f32⟩
  | .hbm, ⟨100, _⟩ => ⟨S4096x16x4096, .f32⟩
  | .hbm, ⟨101, _⟩ => ⟨S_, .f32⟩
  | .hbm, ⟨102, _⟩ => ⟨S_, .f32⟩
  | .hbm, ⟨103, _⟩ => ⟨S4096x16x4096, .i1⟩
  | .hbm, ⟨104, _⟩ => ⟨S4096x16x4096, .f32⟩
  | .hbm, ⟨105, _⟩ => ⟨S4096x16x4096, .f32⟩
  | .hbm, ⟨106, _⟩ => ⟨S_, .f32⟩
  | .hbm, ⟨107, _⟩ => ⟨S4096x16, .f32⟩
  | .hbm, ⟨108, _⟩ => ⟨S4096x16x1, .f32⟩
  | .hbm, ⟨109, _⟩ => ⟨S4096x16x128, .f32⟩
  | .hbm, ⟨110, _⟩ => ⟨S4096x2048, .f32⟩
  | .hbm, ⟨111, _⟩ => ⟨S4096x2048, .bf16⟩
  | .hbm, ⟨112, _⟩ => ⟨S4096x2048, .bf16⟩
  | .hbm, ⟨113, _⟩ => ⟨S4096x2048, .bf16⟩
  | .hbm, ⟨114, _⟩ => ⟨S4096x2048, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .bf16⟩
  | .local _ .vmem, ⟨20, _⟩ => ⟨S512x256, .bf16⟩
  | .local _ .vmem, ⟨21, _⟩ => ⟨S512x256, .bf16⟩
  | .local _ .vmem, ⟨22, _⟩ => ⟨S4096x256, .f32⟩
  | .local _ .vmem, ⟨23, _⟩ => ⟨S4096x256, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_2 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_call5_cst : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_call5_v7 : Ref sig .tc := ⟨.hbm, 95, rfl⟩
abbrev main_call5_v8 : Ref sig .tc := ⟨.hbm, 96, rfl⟩
abbrev main_call5_v9 : Ref sig .tc := ⟨.hbm, 97, rfl⟩
abbrev main_call5_v10 : Ref sig .tc := ⟨.hbm, 98, rfl⟩
abbrev main_call5_v11 : Ref sig .tc := ⟨.hbm, 99, rfl⟩
abbrev main_v45 : Ref sig .tc := ⟨.hbm, 100, rfl⟩
abbrev main_cst_3 : Ref sig .tc := ⟨.hbm, 101, rfl⟩
abbrev main_call6_v0 : Ref sig .tc := ⟨.hbm, 102, rfl⟩
abbrev main_call6_v1 : Ref sig .tc := ⟨.hbm, 103, rfl⟩
abbrev main_call6_v2 : Ref sig .tc := ⟨.hbm, 104, rfl⟩
abbrev main_v46 : Ref sig .tc := ⟨.hbm, 105, rfl⟩
abbrev main_cst_4 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51_0 : Ref sig .tc := ⟨.hbm, 111, rfl⟩
abbrev main_v51_1 : Ref sig .tc := ⟨.hbm, 112, rfl⟩
abbrev main_v51_2 : Ref sig .tc := ⟨.hbm, 113, rfl⟩
abbrev main_v51_3 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_53 : BitVec 32 := 1#32
  ⟨c0_i32_51, v115, c1_i32_53⟩
def k0_mult1 (i : grid0.Coords) (k0_t1 : Fin (k0_t1_loop i).trips) : BitVec 32 :=
  let c2_i32_149 : BitVec 32 := 2#32
  let c0_i32_51 : BitVec 32 := 0#32
  let c1_i32_53 : BitVec 32 := 1#32
  let arg15 : BitVec 32 := Scf.iv c0_i32_51 c1_i32_53 k0_t1
  let v459 : BitVec 32 := Scalar.muli c2_i32_149 arg15
  let c512_i32_150 : BitVec 32 := 512#32
  let v460 : BitVec 32 := Scalar.muli v459 c512_i32_150
  v460
def k0_off1 (i : grid0.Coords) (k0_t1 : Fin (k0_t1_loop i).trips) : Fin 2 → Nat :=
  let c2_i32_149 : BitVec 32 := 2#32
  let c0_i32_51 : BitVec 32 := 0#32
  let c1_i32_53 : BitVec 32 := 1#32
  let arg15 : BitVec 32 := Scf.iv c0_i32_51 c1_i32_53 k0_t1
  let v459 : BitVec 32 := Scalar.muli c2_i32_149 arg15
  let c512_i32_150 : BitVec 32 := 512#32
  let v460 : BitVec 32 := Scalar.muli v459 c512_i32_150
  let v461 : BitVec 32 := v460
  let v462 : Index := Scalar.indexCast v461
  let c0_151 : Index := 0#32
  ![v462.toNat, 0]
def k0_off2 (i : grid0.Coords) (k0_t1 : Fin (k0_t1_loop i).trips) : Fin 2 → Nat :=
  let c2_i32_149 : BitVec 32 := 2#32
  let c0_i32_51 : BitVec 32 := 0#32
  let c1_i32_53 : BitVec 32 := 1#32
  let arg15 : BitVec 32 := Scf.iv c0_i32_51 c1_i32_53 k0_t1
  let v459 : BitVec 32 := Scalar.muli c2_i32_149 arg15
  let c512_i32_150 : BitVec 32 := 512#32
  let v460 : BitVec 32 := Scalar.muli v459 c512_i32_150
  let v461 : BitVec 32 := v460
  let v536 : Index := Scalar.indexCast v461
  let c128_169 : Index := 128#32
  ![v536.toNat, 128]
def k0_mult2 (i : grid0.Coords) (k0_t1 : Fin (k0_t1_loop i).trips) : BitVec 32 :=
  let c2_i32_147 : BitVec 32 := 2#32
  let c0_i32_51 : BitVec 32 := 0#32
  let c1_i32_53 : BitVec 32 := 1#32
  let arg15 : BitVec 32 := Scf.iv c0_i32_51 c1_i32_53 k0_t1
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  v610
def k0_off3 (i : grid0.Coords) (k0_t1 : Fin (k0_t1_loop i).trips) : Fin 2 → Nat :=
  let c2_i32_147 : BitVec 32 := 2#32
  let c0_i32_51 : BitVec 32 := 0#32
  let c1_i32_53 : BitVec 32 := 1#32
  let arg15 : BitVec 32 := Scf.iv c0_i32_51 c1_i32_53 k0_t1
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  let v611 : BitVec 32 := v610
  let v612 : Index := Scalar.indexCast v611
  let c0_188 : Index := 0#32
  ![v612.toNat, 0]
def k0_off4 (i : grid0.Coords) (k0_t1 : Fin (k0_t1_loop i).trips) : Fin 2 → Nat :=
  let c2_i32_147 : BitVec 32 := 2#32
  let c0_i32_51 : BitVec 32 := 0#32
  let c1_i32_53 : BitVec 32 := 1#32
  let arg15 : BitVec 32 := Scf.iv c0_i32_51 c1_i32_53 k0_t1
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  let v611 : BitVec 32 := v610
  let v686 : Index := Scalar.indexCast v611
  let c128_206 : Index := 128#32
  ![v686.toNat, 128]
@[reducible] def k0_t2_loop (i : grid0.Coords) : Scf.Loop 32 :=
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let v112 : BitVec 32 := Scalar.addi c0_i32_51 v111
  let c1_i32_54 : BitVec 32 := 1#32
  ⟨v115, v112, c1_i32_54⟩
def k0_mult3 (i : grid0.Coords) (k0_t2 : Fin (k0_t2_loop i).trips) : BitVec 32 :=
  let c2_i32_149 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v459 : BitVec 32 := Scalar.muli c2_i32_149 arg15
  let c512_i32_150 : BitVec 32 := 512#32
  let v460 : BitVec 32 := Scalar.muli v459 c512_i32_150
  v460
def k0_off5 (i : grid0.Coords) (k0_t2 : Fin (k0_t2_loop i).trips) : Fin 2 → Nat :=
  let c2_i32_149 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v459 : BitVec 32 := Scalar.muli c2_i32_149 arg15
  let c512_i32_150 : BitVec 32 := 512#32
  let v460 : BitVec 32 := Scalar.muli v459 c512_i32_150
  let v461 : BitVec 32 := v460
  let v462 : Index := Scalar.indexCast v461
  let c0_151 : Index := 0#32
  ![v462.toNat, 0]
def k0_off6 (i : grid0.Coords) (k0_t2 : Fin (k0_t2_loop i).trips) : Fin 2 → Nat :=
  let c2_i32_149 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v459 : BitVec 32 := Scalar.muli c2_i32_149 arg15
  let c512_i32_150 : BitVec 32 := 512#32
  let v460 : BitVec 32 := Scalar.muli v459 c512_i32_150
  let v461 : BitVec 32 := v460
  let v536 : Index := Scalar.indexCast v461
  let c128_169 : Index := 128#32
  ![v536.toNat, 128]
def k0_mult4 (i : grid0.Coords) (k0_t2 : Fin (k0_t2_loop i).trips) : BitVec 32 :=
  let c2_i32_147 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  v610
def k0_off7 (i : grid0.Coords) (k0_t2 : Fin (k0_t2_loop i).trips) : Fin 2 → Nat :=
  let c2_i32_147 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  let v611 : BitVec 32 := v610
  let v612 : Index := Scalar.indexCast v611
  let c0_188 : Index := 0#32
  ![v612.toNat, 0]
def k0_off8 (i : grid0.Coords) (k0_t2 : Fin (k0_t2_loop i).trips) : Fin 2 → Nat :=
  let c2_i32_147 : BitVec 32 := 2#32
  let c0_i32_51 : BitVec 32 := 0#32
  let arg1 : BitVec 32 := BitVec.ofNat 32 (i 1).val
  let c1_i32 : BitVec 32 := 1#32
  let v82 : BitVec 32 := Scalar.muli arg1 c1_i32
  let c0_i32_45 : BitVec 32 := 0#32
  let v95 : BitVec 1 := Scalar.cmpi .sgt v82 c0_i32_45
  let v96 : BitVec 32 := Scalar.extui v95
  let c0_i32_46 : BitVec 32 := 0#32
  let v97 : BitVec 1 := Scalar.cmpi .slt v82 c0_i32_46
  let v98 : BitVec 32 := Scalar.extui v97
  let v99 : BitVec 32 := Scalar.subi v96 v98
  let c2_i32_44 : BitVec 32 := 2#32
  let c0_i32_47 : BitVec 32 := 0#32
  let v100 : BitVec 1 := Scalar.cmpi .sgt c2_i32_44 c0_i32_47
  let v101 : BitVec 32 := Scalar.extui v100
  let c0_i32_48 : BitVec 32 := 0#32
  let v102 : BitVec 1 := Scalar.cmpi .slt c2_i32_44 c0_i32_48
  let v103 : BitVec 32 := Scalar.extui v102
  let v104 : BitVec 32 := Scalar.subi v101 v103
  let v105 : BitVec 1 := Scalar.cmpi .ne v99 v104
  let v106 : BitVec 32 := Scalar.remsi v82 c2_i32_44
  let c0_i32_49 : BitVec 32 := 0#32
  let v107 : BitVec 1 := Scalar.cmpi .ne v106 c0_i32_49
  let v108 : BitVec 1 := Scalar.andi v105 v107
  let v94 : BitVec 32 := Scalar.divsi v82 c2_i32_44
  let c1_i32_50 : BitVec 32 := 1#32
  let v109 : BitVec 32 := Scalar.subi v94 c1_i32_50
  let v110 : BitVec 32 := Scalar.select v108 v109 v94
  let v111 : BitVec 32 := Scalar.subi v110 c0_i32_51
  let c1_i32_52 : BitVec 32 := 1#32
  let v113 : BitVec 32 := Scalar.divsi v111 c1_i32_52
  let v114 : BitVec 32 := Scalar.muli v113 c1_i32_52
  let v115 : BitVec 32 := Scalar.addi c0_i32_51 v114
  let c1_i32_54 : BitVec 32 := 1#32
  let arg15 : BitVec 32 := Scf.iv v115 c1_i32_54 k0_t2
  let v457 : BitVec 32 := Scalar.muli c2_i32_147 arg15
  let c1_i32_148 : BitVec 32 := 1#32
  let v458 : BitVec 32 := Scalar.addi v457 c1_i32_148
  let c512_i32_187 : BitVec 32 := 512#32
  let v610 : BitVec 32 := Scalar.muli v458 c512_i32_187
  let v611 : BitVec 32 := v610
  let v686 : Index := Scalar.indexCast v611
  let c128_206 : Index := 128#32
  ![v686.toNat, 128]
def k0_cond2 (i : grid0.Coords) : BitVec 1 :=
  let arg1 : BitVec 32 := BitVec.ofNat 32 (i 1).val
  let c1_i32 : BitVec 32 := 1#32
  let v82 : BitVec 32 := Scalar.muli arg1 c1_i32
  let c2_i32 : BitVec 32 := 2#32
  let c0_i32_38 : BitVec 32 := 0#32
  let v83 : BitVec 1 := Scalar.cmpi .eq c2_i32 c0_i32_38
  let c1_i32_39 : BitVec 32 := 1#32
  let v84 : BitVec 32 := Scalar.select v83 c1_i32_39 c2_i32
  let v85 : BitVec 32 := Scalar.remsi v82 v84
  let c0_i32_41 : BitVec 32 := 0#32
  let v87 : BitVec 1 := Scalar.cmpi .slt v85 c0_i32_41
  let c0_i32_42 : BitVec 32 := 0#32
  let v88 : BitVec 1 := Scalar.cmpi .slt v84 c0_i32_42
  let v89 : BitVec 1 := Scalar.xori v87 v88
  let c0_i32_40 : BitVec 32 := 0#32
  let v86 : BitVec 1 := Scalar.cmpi .ne v85 c0_i32_40
  let v90 : BitVec 1 := Scalar.andi v89 v86
  let v91 : BitVec 32 := Scalar.addi v85 v84
  let v92 : BitVec 32 := Scalar.select v90 v91 v85
  let c1_i32_43 : BitVec 32 := 1#32
  let v93 : BitVec 1 := Scalar.cmpi .eq v92 c1_i32_43
  let v118 : BitVec 32 := Scalar.extui v93
  let c0_i32_55 : BitVec 32 := 0#32
  let v119 : BitVec 1 := Scalar.cmpi .ne v118 c0_i32_55
  v119

def k0_mult5 (i : grid0.Coords) : BitVec 32 :=
  let arg1 : BitVec 32 := BitVec.ofNat 32 (i 1).val
  let c1_i32 : BitVec 32 := 1#32
  let v82 : BitVec 32 := Scalar.muli arg1 c1_i32
  let c1_i32_147 : BitVec 32 := 1#32
  let v457 : BitVec 32 := Scalar.subi v82 c1_i32_147
  let c512_i32_148 : BitVec 32 := 512#32
  let v458 : BitVec 32 := Scalar.muli v457 c512_i32_148
  v458
def k0_off9 (i : grid0.Coords) : Fin 2 → Nat :=
  let arg1 : BitVec 32 := BitVec.ofNat 32 (i 1).val
  let c1_i32 : BitVec 32 := 1#32
  let v82 : BitVec 32 := Scalar.muli arg1 c1_i32
  let c1_i32_147 : BitVec 32 := 1#32
  let v457 : BitVec 32 := Scalar.subi v82 c1_i32_147
  let c512_i32_148 : BitVec 32 := 512#32
  let v458 : BitVec 32 := Scalar.muli v457 c512_i32_148
  let v459 : BitVec 32 := v458
  let v460 : Index := Scalar.indexCast v459
  let c0_149 : Index := 0#32
  ![v460.toNat, 0]
def k0_off10 (i : grid0.Coords) : Fin 2 → Nat :=
  let arg1 : BitVec 32 := BitVec.ofNat 32 (i 1).val
  let c1_i32 : BitVec 32 := 1#32
  let v82 : BitVec 32 := Scalar.muli arg1 c1_i32
  let c1_i32_147 : BitVec 32 := 1#32
  let v457 : BitVec 32 := Scalar.subi v82 c1_i32_147
  let c512_i32_148 : BitVec 32 := 512#32
  let v458 : BitVec 32 := Scalar.muli v457 c512_i32_148
  let v459 : BitVec 32 := v458
  let v534 : Index := Scalar.indexCast v459
  let c128_167 : Index := 128#32
  ![v534.toNat, 128]
def k0_mult6 (i : grid0.Coords) : BitVec 32 :=
  let arg1 : BitVec 32 := BitVec.ofNat 32 (i 1).val
  let c1_i32 : BitVec 32 := 1#32
  let v82 : BitVec 32 := Scalar.muli arg1 c1_i32
  let c0_i32_56 : BitVec 32 := 0#32
  let v121 : BitVec 32 := Scalar.addi v82 c0_i32_56
  let c512_i32 : BitVec 32 := 512#32
  let v122 : BitVec 32 := Scalar.muli v121 c512_i32
  v122
def k0_off11 (i : grid0.Coords) : Fin 2 → Nat :=
  let arg1 : BitVec 32 := BitVec.ofNat 32 (i 1).val
  let c1_i32 : BitVec 32 := 1#32
  let v82 : BitVec 32 := Scalar.muli arg1 c1_i32
  let c0_i32_56 : BitVec 32 := 0#32
  let v121 : BitVec 32 := Scalar.addi v82 c0_i32_56
  let c512_i32 : BitVec 32 := 512#32
  let v122 : BitVec 32 := Scalar.muli v121 c512_i32
  let v123 : BitVec 32 := v122
  let v127 : Index := Scalar.indexCast v123
  let c0_57 : Index := 0#32
  ![v127.toNat, 0]
def k0_off12 (i : grid0.Coords) : Fin 2 → Nat :=
  let arg1 : BitVec 32 := BitVec.ofNat 32 (i 1).val
  let c1_i32 : BitVec 32 := 1#32
  let v82 : BitVec 32 := Scalar.muli arg1 c1_i32
  let c0_i32_56 : BitVec 32 := 0#32
  let v121 : BitVec 32 := Scalar.addi v82 c0_i32_56
  let c512_i32 : BitVec 32 := 512#32
  let v122 : BitVec 32 := Scalar.muli v121 c512_i32
  let v123 : BitVec 32 := v122
  let v198 : Index := Scalar.indexCast v123
  let c0_77 : Index := 0#32
  ![v198.toNat, 0]
def k0_off13 (i : grid0.Coords) : Fin 2 → Nat :=
  let arg1 : BitVec 32 := BitVec.ofNat 32 (i 1).val
  let c1_i32 : BitVec 32 := 1#32
  let v82 : BitVec 32 := Scalar.muli arg1 c1_i32
  let c0_i32_56 : BitVec 32 := 0#32
  let v121 : BitVec 32 := Scalar.addi v82 c0_i32_56
  let c512_i32 : BitVec 32 := 512#32
  let v122 : BitVec 32 := Scalar.muli v121 c512_i32
  let v123 : BitVec 32 := v122
  let v288 : Index := Scalar.indexCast v123
  let c128_98 : Index := 128#32
  ![v288.toNat, 128]
def k0_off14 (i : grid0.Coords) : Fin 2 → Nat :=
  let arg1 : BitVec 32 := BitVec.ofNat 32 (i 1).val
  let c1_i32 : BitVec 32 := 1#32
  let v82 : BitVec 32 := Scalar.muli arg1 c1_i32
  let c0_i32_56 : BitVec 32 := 0#32
  let v121 : BitVec 32 := Scalar.addi v82 c0_i32_56
  let c512_i32 : BitVec 32 := 512#32
  let v122 : BitVec 32 := Scalar.muli v121 c512_i32
  let v123 : BitVec 32 := v122
  let v359 : Index := Scalar.indexCast v123
  let c128_118 : Index := 128#32
  ![v359.toNat, 128]
def k0_cond3 (i : grid0.Coords) : BitVec 1 :=
  let arg1 : BitVec 32 := BitVec.ofNat 32 (i 1).val
  let c7_i32 : BitVec 32 := 7#32
  let v454 : BitVec 1 := Scalar.cmpi .eq arg1 c7_i32
  let v455 : BitVec 32 := Scalar.extui v454
  let c0_i32_146 : BitVec 32 := 0#32
  let v456 : BitVec 1 := Scalar.cmpi .ne v455 c0_i32_146
  v456

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AttnBwdRefIdeal.lean ====
abbrev S4096x14336 : Shape := ⟨2, ![4096, 14336]⟩
abbrev S4096x2048 : Shape := ⟨2, ![4096, 2048]⟩
abbrev S4096x16x128 : Shape := ⟨3, ![4096, 16, 128]⟩
abbrev S_ : Shape := ⟨0, ![]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096x128 : Shape := ⟨3, ![16, 4096, 128]⟩

abbrev nBuf : Space → Nat
  | .hbm => 197
  | .vmem => 0
  | .smem => 0
  | _ => 0

abbrev hbmTy0_0 (i : Nat) : BufTy := match i % 128 with
  | 0 => ⟨S4096x14336, .bf16⟩
  | 1 => ⟨S4096x2048, .bf16⟩
  | 2 => ⟨S4096x14336, .f32⟩
  | 3 => ⟨S4096x2048, .f32⟩
  | 4 => ⟨S4096x2048, .f32⟩
  | 5 => ⟨S4096x2048, .f32⟩
  | 6 => ⟨S4096x2048, .f32⟩
  | 7 => ⟨S4096x16x128, .f32⟩
  | 8 => ⟨S4096x16x128, .f32⟩
  | 9 => ⟨S4096x16x128, .f32⟩
  | 10 => ⟨S_, .f32⟩
  | 11 => ⟨S4096x16x128, .f32⟩
  | 12 => ⟨S4096x16x128, .f32⟩
  | 13 => ⟨S16x4096x4096, .f32⟩
  | 14 => ⟨S4096, .i32⟩
  | 15 => ⟨S1x4096, .i32⟩
  | 16 => ⟨S4096, .i32⟩
  | 17 => ⟨S4096x1, .i32⟩
  | 18 => ⟨S4096x4096, .i32⟩
  | 19 => ⟨S4096x4096, .i32⟩
  | 20 => ⟨S4096x4096, .i1⟩
  | 21 => ⟨S_, .f32⟩
  | 22 => ⟨S16x4096x4096, .f32⟩
  | 23 => ⟨S16x4096x4096, .f32⟩
  | 24 => ⟨S16x4096x4096, .f32⟩
  | 25 => ⟨S16x4096x4096, .f32⟩
  | 26 => ⟨S16x4096x4096, .i1⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S_, .f32⟩
  | 36 => ⟨S16x4096x4096, .f32⟩
  | 37 => ⟨S16x4096x4096, .i1⟩
  | 38 => ⟨S_, .f32⟩
  | 39 => ⟨S16x4096x4096, .f32⟩
  | 40 => ⟨S16x4096x4096, .f32⟩
  | 41 => ⟨S_, .f32⟩
  | 42 => ⟨S16x4096x4096, .f32⟩
  | 43 => ⟨S16x4096x4096, .i1⟩
  | 44 => ⟨S_, .f32⟩
  | 45 => ⟨S16x4096x4096, .f32⟩
  | 46 => ⟨S16x4096x4096, .f32⟩
  | 47 => ⟨S16x4096x4096, .f32⟩
  | 48 => ⟨S16x4096x4096, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S16x4096x4096, .f32⟩
  | 57 => ⟨S16x4096x4096, .i1⟩
  | 58 => ⟨S_, .f32⟩
  | 59 => ⟨S16x4096x4096, .f32⟩
  | 60 => ⟨S16x4096x4096, .f32⟩
  | 61 => ⟨S16x4096x4096, .f32⟩
  | 62 => ⟨S16x4096x4096, .f32⟩
  | 63 => ⟨S16x4096x4096, .f32⟩
  | 64 => ⟨S_, .f32⟩
  | 65 => ⟨S16x4096x4096, .f32⟩
  | 66 => ⟨S16x4096x4096, .f32⟩
  | 67 => ⟨S16x4096x4096, .f32⟩
  | 68 => ⟨S_, .f32⟩
  | 69 => ⟨S_, .f32⟩
  | 70 => ⟨S16x4096x4096, .i1⟩
  | 71 => ⟨S16x4096x4096, .f32⟩
  | 72 => ⟨S16x4096x4096, .f32⟩
  | 73 => ⟨S_, .f32⟩
  | 74 => ⟨S16x4096x4096, .f32⟩
  | 75 => ⟨S_, .f32⟩
  | 76 => ⟨S_, .f32⟩
  | 77 => ⟨S16x4096x4096, .f32⟩
  | 78 => ⟨S16x4096x4096, .f32⟩
  | 79 => ⟨S16x4096x4096, .f32⟩
  | 80 => ⟨S_, .f32⟩
  | 81 => ⟨S16x4096x4096, .f32⟩
  | 82 => ⟨S16x4096x4096, .f32⟩
  | 83 => ⟨S16x4096x4096, .f32⟩
  | 84 => ⟨S16x4096x4096, .f32⟩
  | 85 => ⟨S16x4096x4096, .i1⟩
  | 86 => ⟨S16x4096x4096, .f32⟩
  | 87 => ⟨S16x4096x4096, .f32⟩
  | 88 => ⟨S16x4096x4096, .f32⟩
  | 89 => ⟨S16x4096x4096, .f32⟩
  | 90 => ⟨S16x4096x4096, .f32⟩
  | 91 => ⟨S16x4096x4096, .f32⟩
  | 92 => ⟨S16x4096x4096, .f32⟩
  | 93 => ⟨S16x4096x4096, .f32⟩
  | 94 => ⟨S_, .f32⟩
  | 95 => ⟨S16x4096x4096, .f32⟩
  | 96 => ⟨S16x4096x4096, .i1⟩
  | 97 => ⟨S_, .f32⟩
  | 98 => ⟨S16x4096x4096, .f32⟩
  | 99 => ⟨S16x4096x4096, .f32⟩
  | 100 => ⟨S_, .f32⟩
  | 101 => ⟨S16x4096x4096, .f32⟩
  | 102 => ⟨S16x4096x4096, .i1⟩
  | 103 => ⟨S_, .f32⟩
  | 104 => ⟨S16x4096x4096, .f32⟩
  | 105 => ⟨S16x4096x4096, .f32⟩
  | 106 => ⟨S16x4096x4096, .f32⟩
  | 107 => ⟨S16x4096x4096, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S16x4096x4096, .f32⟩
  | 116 => ⟨S16x4096x4096, .i1⟩
  | 117 => ⟨S_, .f32⟩
  | 118 => ⟨S16x4096x4096, .f32⟩
  | 119 => ⟨S16x4096x4096, .f32⟩
  | 120 => ⟨S16x4096x4096, .f32⟩
  | 121 => ⟨S16x4096x4096, .f32⟩
  | 122 => ⟨S16x4096x4096, .f32⟩
  | 123 => ⟨S_, .f32⟩
  | 124 => ⟨S16x4096x4096, .f32⟩
  | 125 => ⟨S16x4096x4096, .f32⟩
  | 126 => ⟨S16x4096x4096, .f32⟩
  | 127 => ⟨S16x4096x4096, .f32⟩
  | _ => ⟨S4096x14336, .bf16⟩

abbrev hbmTy0_1 (i : Nat) : BufTy := match i % 128 with
  | 0 => ⟨S16x4096x4096, .f32⟩
  | 1 => ⟨S_, .f32⟩
  | 2 => ⟨S_, .f32⟩
  | 3 => ⟨S16x4096x4096, .i1⟩
  | 4 => ⟨S16x4096x4096, .f32⟩
  | 5 => ⟨S16x4096x4096, .f32⟩
  | 6 => ⟨S_, .f32⟩
  | 7 => ⟨S16x4096x4096, .f32⟩
  | 8 => ⟨S16x128x4096, .f32⟩
  | 9 => ⟨S4096x16x128, .f32⟩
  | 10 => ⟨S4096x2048, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S4096x2048, .f32⟩
  | 23 => ⟨S4096x2048, .f32⟩
  | 24 => ⟨S4096x2048, .f32⟩
  | 25 => ⟨S4096x2048, .f32⟩
  | 26 => ⟨S4096x2048, .f32⟩
  | 27 => ⟨S4096x2048, .f32⟩
  | 28 => ⟨S4096x2048, .f32⟩
  | 29 => ⟨S4096x2048, .f32⟩
  | 30 => ⟨S4096x2048, .f32⟩
  | 31 => ⟨S4096x2048, .f32⟩
  | 32 => ⟨S4096x16x128, .f32⟩
  | 33 => ⟨S16x128x4096, .f32⟩
  | 34 => ⟨S16x4096x4096, .f32⟩
  | 35 => ⟨S16x128x4096, .f32⟩
  | 36 => ⟨S4096x16x128, .f32⟩
  | 37 => ⟨S_, .f32⟩
  | 38 => ⟨S16x4096x4096, .f32⟩
  | 39 => ⟨S16x4096x4096, .f32⟩
  | 40 => ⟨S16x4096x4096, .f32⟩
  | 41 => ⟨S16x4096x4096, .f32⟩
  | 42 => ⟨S16x4096x4096, .f32⟩
  | 43 => ⟨S16x4096x4096, .f32⟩
  | 44 => ⟨S16x4096x4096, .f32⟩
  | 45 => ⟨S_, .f32⟩
  | 46 => ⟨S_, .f32⟩
  | 47 => ⟨S16x4096x4096, .f32⟩
  | 48 => ⟨S16x4096x4096, .f32⟩
  | 49 => ⟨S_, .f32⟩
  | 50 => ⟨S16x4096x4096, .f32⟩
  | 51 => ⟨S16x4096x4096, .f32⟩
  | 52 => ⟨S16x4096x4096, .f32⟩
  | 53 => ⟨S16x4096x4096, .f32⟩
  | 54 => ⟨S16x4096x4096, .f32⟩
  | 55 => ⟨S16x4096x128, .f32⟩
  | 56 => ⟨S4096x16x128, .f32⟩
  | 57 => ⟨S16x4096x128, .f32⟩
  | 58 => ⟨S4096x16x128, .f32⟩
  | 59 => ⟨S_, .f32⟩
  | 60 => ⟨S4096x16x128, .f32⟩
  | 61 => ⟨S4096x16x128, .f32⟩
  | 62 => ⟨S4096x2048, .f32⟩
  | 63 => ⟨S4096x2048, .f32⟩
  | 64 => ⟨S4096x2048, .f32⟩
  | 65 => ⟨S4096x2048, .bf16⟩
  | 66 => ⟨S4096x2048, .bf16⟩
  | 67 => ⟨S4096x2048, .bf16⟩
  | 68 => ⟨S4096x2048, .bf16⟩
  | _ => ⟨S4096x14336, .bf16⟩

abbrev hbmTy (i : Nat) : BufTy := match i / 128 with
  | 0 => hbmTy0_0 i
  | 1 => hbmTy0_1 i
  | _ => ⟨S4096x14336, .bf16⟩

abbrev bufTy : (tb : Table) → Fin (tcTables nBuf tb) → BufTy
  | .hbm, ⟨i, _⟩ => hbmTy i
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v18_0 : Ref sig .tc := ⟨.hbm, 34, rfl⟩
abbrev main_call0_cst_0 : Ref sig .tc := ⟨.hbm, 35, rfl⟩
abbrev main_call0_v13 : Ref sig .tc := ⟨.hbm, 36, rfl⟩
abbrev main_call0_v14 : Ref sig .tc := ⟨.hbm, 37, rfl⟩
abbrev main_call0_cst_1 : Ref sig .tc := ⟨.hbm, 38, rfl⟩
abbrev main_call0_v15 : Ref sig .tc := ⟨.hbm, 39, rfl⟩
abbrev main_call0_v16 : Ref sig .tc := ⟨.hbm, 40, rfl⟩
abbrev main_call0_cst_2 : Ref sig .tc := ⟨.hbm, 41, rfl⟩
abbrev main_call0_v17 : Ref sig .tc := ⟨.hbm, 42, rfl⟩
abbrev main_call0_v18 : Ref sig .tc := ⟨.hbm, 43, rfl⟩
abbrev main_call0_cst_3 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_v18_1 : Ref sig .tc := ⟨.hbm, 48, rfl⟩
abbrev main_call0_cst_4 : Ref sig .tc := ⟨.hbm, 49, rfl⟩
abbrev main_call0_cst_5 : Ref sig .tc := ⟨.hbm, 50, rfl⟩
abbrev main_call0_v23 : Ref sig .tc := ⟨.hbm, 51, rfl⟩
abbrev main_call0_cst_6 : Ref sig .tc := ⟨.hbm, 52, rfl⟩
abbrev main_call0_cst_7 : Ref sig .tc := ⟨.hbm, 53, rfl⟩
abbrev main_call0_v24 : Ref sig .tc := ⟨.hbm, 54, rfl⟩
abbrev main_call0_cst_8 : Ref sig .tc := ⟨.hbm, 55, rfl⟩
abbrev main_call0_v25 : Ref sig .tc := ⟨.hbm, 56, rfl⟩
abbrev main_call0_v26 : Ref sig .tc := ⟨.hbm, 57, rfl⟩
abbrev main_call0_cst_9 : Ref sig .tc := ⟨.hbm, 58, rfl⟩
abbrev main_call0_v27 : Ref sig .tc := ⟨.hbm, 59, rfl⟩
abbrev main_call0_v28 : Ref sig .tc := ⟨.hbm, 60, rfl⟩
abbrev main_call0_v29 : Ref sig .tc := ⟨.hbm, 61, rfl⟩
abbrev main_call0_v30 : Ref sig .tc := ⟨.hbm, 62, rfl⟩
abbrev main_call0_v31 : Ref sig .tc := ⟨.hbm, 63, rfl⟩
abbrev main_call0_cst_10 : Ref sig .tc := ⟨.hbm, 64, rfl⟩
abbrev main_call0_v32 : Ref sig .tc := ⟨.hbm, 65, rfl⟩
abbrev main_v18_2 : Ref sig .tc := ⟨.hbm, 66, rfl⟩
abbrev main_v19 : Ref sig .tc := ⟨.hbm, 67, rfl⟩
abbrev main_cst_0 : Ref sig .tc := ⟨.hbm, 68, rfl⟩
abbrev main_call1_v0 : Ref sig .tc := ⟨.hbm, 69, rfl⟩
abbrev main_v20_1 : Ref sig .tc := ⟨.hbm, 70, rfl⟩
abbrev main_call1_v2 : Ref sig .tc := ⟨.hbm, 71, rfl⟩
abbrev main_v20_0 : Ref sig .tc := ⟨.hbm, 72, rfl⟩
abbrev main_call1_cst : Ref sig .tc := ⟨.hbm, 73, rfl⟩
abbrev main_v20_2 : Ref sig .tc := ⟨.hbm, 74, rfl⟩
abbrev main_call2_cst : Ref sig .tc := ⟨.hbm, 75, rfl⟩
abbrev main_call2_v0 : Ref sig .tc := ⟨.hbm, 76, rfl⟩
abbrev main_v21 : Ref sig .tc := ⟨.hbm, 77, rfl⟩
abbrev main_v22 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v23_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v23_2 : Ref sig .tc := ⟨.hbm, 125, rfl⟩
abbrev main_v23_0 : Ref sig .tc := ⟨.hbm, 126, rfl⟩
abbrev main_v24 : Ref sig .tc := ⟨.hbm, 127, rfl⟩
abbrev main_v25 : Ref sig .tc := ⟨.hbm, 128, rfl⟩
abbrev main_cst_1 : Ref sig .tc := ⟨.hbm, 129, rfl⟩
abbrev main_call4_v0 : Ref sig .tc := ⟨.hbm, 130, rfl⟩
abbrev main_v26_1 : Ref sig .tc := ⟨.hbm, 131, rfl⟩
abbrev main_call4_v2 : Ref sig .tc := ⟨.hbm, 132, rfl⟩
abbrev main_v26_0 : Ref sig .tc := ⟨.hbm, 133, rfl⟩
abbrev main_call4_cst : Ref sig .tc := ⟨.hbm, 134, rfl⟩
abbrev main_v26_2 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_call5_v0 : Ref sig .tc := ⟨.hbm, 139, rfl⟩
abbrev main_call5_v1 : Ref sig .tc := ⟨.hbm, 140, rfl⟩
abbrev main_call5_cst : Ref sig .tc := ⟨.hbm, 141, rfl⟩
abbrev main_call5_v2 : Ref sig .tc := ⟨.hbm, 142, rfl⟩
abbrev main_call5_v3 : Ref sig .tc := ⟨.hbm, 143, rfl⟩
abbrev main_call5_cst_0 : Ref sig .tc := ⟨.hbm, 144, rfl⟩
abbrev main_call5_v4 : Ref sig .tc := ⟨.hbm, 145, rfl⟩
abbrev main_v30_2 : Ref sig .tc := ⟨.hbm, 146, rfl⟩
abbrev main_call5_cst_1 : Ref sig .tc := ⟨.hbm, 147, rfl⟩
abbrev main_call5_v6 : Ref sig .tc := ⟨.hbm, 148, rfl⟩
abbrev main_call5_v7 : Ref sig .tc := ⟨.hbm, 149, rfl⟩
abbrev main_v30_1 : Ref sig .tc := ⟨.hbm, 150, rfl⟩
abbrev main_v30_0 : Ref sig .tc := ⟨.hbm, 151, rfl⟩
abbrev main_v31 : Ref sig .tc := ⟨.hbm, 152, rfl⟩
abbrev main_v32 : Ref sig .tc := ⟨.hbm, 153, rfl⟩
abbrev main_v33 : Ref sig .tc := ⟨.hbm, 154, rfl⟩
abbrev main_v34 : Ref sig .tc := ⟨.hbm, 155, rfl⟩
abbrev main_call6_v0 : Ref sig .tc := ⟨.hbm, 156, rfl⟩
abbrev main_call6_v1 : Ref sig .tc := ⟨.hbm, 157, rfl⟩
abbrev main_call6_v2 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_call7_cst : Ref sig .tc := ⟨.hbm, 165, rfl⟩
abbrev main_call7_v0 : Ref sig .tc := ⟨.hbm, 166, rfl⟩
abbrev main_v41 : Ref sig .tc := ⟨.hbm, 167, rfl⟩
abbrev main_v42 : Ref sig .tc := ⟨.hbm, 168, rfl⟩
abbrev main_call8_v0 : Ref sig .tc := ⟨.hbm, 169, rfl⟩
abbrev main_call8_v1 : Ref sig .tc := ⟨.hbm, 170, rfl⟩
abbrev main_v43 : Ref sig .tc := ⟨.hbm, 171, rfl⟩
abbrev main_v44 : Ref sig .tc := ⟨.hbm, 172, rfl⟩
abbrev main_call9_cst : Ref sig .tc := ⟨.hbm, 173, rfl⟩
abbrev main_call9_v0 : Ref sig .tc := ⟨.hbm, 174, rfl⟩
abbrev main_v45 : Ref sig .tc := ⟨.hbm, 175, rfl⟩
abbrev main_v46 : Ref sig .tc := ⟨.hbm, 176, rfl⟩
abbrev main_call10_cst : Ref sig .tc := ⟨.hbm, 177, rfl⟩
abbrev main_call10_v0 : Ref sig .tc := ⟨.hbm, 178, rfl⟩
abbrev main_v47 : Ref sig .tc := ⟨.hbm, 179, rfl⟩
abbrev main_v48 : Ref sig .tc := ⟨.hbm, 180, rfl⟩
abbrev main_v49 : Ref sig .tc := ⟨.hbm, 181, rfl⟩
abbrev main_v50 : Ref sig .tc := ⟨.hbm, 182, rfl⟩
abbrev main_v51 : Ref sig .tc := ⟨.hbm, 183, rfl⟩
abbrev main_v52 : Ref sig .tc := ⟨.hbm, 184, rfl⟩
abbrev main_v53 : Ref sig .tc := ⟨.hbm, 185, rfl⟩
abbrev main_v54 : Ref sig .tc := ⟨.hbm, 186, rfl⟩
abbrev main_cst_2 : Ref sig .tc := ⟨.hbm, 187, rfl⟩
abbrev main_v55 : Ref sig .tc := ⟨.hbm, 188, rfl⟩
abbrev main_v56 : Ref sig .tc := ⟨.hbm, 189, rfl⟩
abbrev main_v57 : Ref sig .tc := ⟨.hbm, 190, rfl⟩
abbrev main_v58 : Ref sig .tc := ⟨.hbm, 191, rfl⟩
abbrev main_v59 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩
abbrev main_v63 : Ref sig .tc := ⟨.hbm, 196, rfl⟩

abbrev nD : Nat := 1
abbrev τ : Topo := Topo.v7x

variable {F : FTy → Type} [FloatOps F]
-- ==== MergeBwd.lean ====
abbrev S4096x6144 : Shape := ⟨2, ![4096, 6144]⟩
abbrev S1x6144 : Shape := ⟨2, ![1, 6144]⟩
abbrev S4096x2048 : Shape := ⟨2, ![4096, 2048]⟩
abbrev S512x512 : Shape := ⟨2, ![512, 512]⟩
abbrev S1x512 : Shape := ⟨2, ![1, 512]⟩
abbrev S512 : Shape := ⟨1, ![512]⟩

abbrev nBuf : Space → Nat
  | .hbm => 12
  | .vmem => 12
  | .smem => 0
  | _ => 0

abbrev bufTy : (tb : Table) → Fin (tcTables nBuf tb) → BufTy
  | .hbm, ⟨0, _⟩ => ⟨S4096x6144, .f32⟩
  | .hbm, ⟨1, _⟩ => ⟨S1x6144, .f32⟩
  | .hbm, ⟨2, _⟩ => ⟨S4096x6144, .f32⟩
  | .hbm, ⟨3, _⟩ => ⟨S4096x2048, .f32⟩
  | .hbm, ⟨4, _⟩ => ⟨S4096x6144, .f32⟩
  | .hbm, ⟨5, _⟩ => ⟨S4096x6144, .f32⟩
  | .hbm, ⟨6, _⟩ => ⟨S4096x6144, .bf16⟩
  | .hbm, ⟨7, _⟩ => ⟨S4096x2048, .bf16⟩
  | .hbm, ⟨8, _⟩ => ⟨S4096x6144, .bf16⟩
  | .hbm, ⟨9, _⟩ => ⟨S4096x6144, .bf16⟩
  | .hbm, ⟨10, _⟩ => ⟨S4096x6144, .bf16⟩
  | .hbm, ⟨11, _⟩ => ⟨S1x6144, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S1x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![3, 4, 8], ![false, false, false]⟩

def k0_cond1 (i : grid0.Coords) : BitVec 1 :=
  let arg2 : BitVec 32 := BitVec.ofNat 32 (i 2).val
  let c0_i32 : BitVec 32 := 0#32
  let v28 : BitVec 1 := Scalar.cmpi .eq arg2 c0_i32
  let v29 : BitVec 32 := Scalar.extui v28
  let c0_i32_13 : BitVec 32 := 0#32
  let v30 : BitVec 1 := Scalar.cmpi .ne v29 c0_i32_13
  v30

def k0_cond2 (i : grid0.Coords) : BitVec 1 :=
  let arg2 : BitVec 32 := BitVec.ofNat 32 (i 2).val
  let c0_i32_14 : BitVec 32 := 0#32
  let v31 : BitVec 1 := Scalar.cmpi .sgt arg2 c0_i32_14
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MergeBwdRefIdeal.lean ====
abbrev S4096x6144 : Shape := ⟨2, ![4096, 6144]⟩
abbrev S1x6144 : Shape := ⟨2, ![1, 6144]⟩
abbrev S4096x2048 : Shape := ⟨2, ![4096, 2048]⟩
abbrev S_ : Shape := ⟨0, ![]⟩
abbrev S4096x3x2048 : Shape := ⟨3, ![4096, 3, 2048]⟩
abbrev S4096x1x2048 : Shape := ⟨3, ![4096, 1, 2048]⟩
abbrev S6144 : Shape := ⟨1, ![6144]⟩

abbrev nBuf : Space → Nat
  | .hbm => 75
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S1x6144, .f32⟩
  | .hbm, ⟨2, _⟩ => ⟨S4096x6144, .f32⟩
  | .hbm, ⟨3, _⟩ => ⟨S4096x2048, .f32⟩
  | .hbm, ⟨4, _⟩ => ⟨S4096x6144, .f32⟩
  | .hbm, ⟨5, _⟩ => ⟨S4096x6144, .f32⟩
  | .hbm, ⟨6, _⟩ => ⟨S4096x6144, .f32⟩
  | .hbm, ⟨7, _⟩ => ⟨S4096x6144, .f32⟩
  | .hbm, ⟨8, _⟩ => ⟨S_, .f32⟩
  | .hbm, ⟨9, _⟩ => ⟨S4096x6144, .f32⟩
  | .hbm, ⟨10, _⟩ => ⟨S4096x6144, .f32⟩
  | .hbm, ⟨11, _⟩ => ⟨S_, .f32⟩
  | .hbm, ⟨12, _⟩ => ⟨S4096x6144, .f32⟩
  | .hbm, ⟨13, _⟩ => ⟨S4096x6144, .f32⟩
  | .hbm, ⟨14, _⟩ => ⟨S_, .f32⟩
  | .hbm, ⟨15, _⟩ => ⟨S4096x6144, .f32⟩
  | .hbm, ⟨16, _⟩ => ⟨S4096x6144, .f32⟩
  | .hbm, ⟨17, _⟩ => ⟨S4096x6144, .f32⟩
  | .hbm, ⟨18, _⟩ => ⟨S4096x3x2048, .f32⟩
  | .hbm, ⟨19, _⟩ => ⟨S4096x3x2048, .f32⟩
  | .hbm, ⟨20, _⟩ => ⟨S4096x1x2048, .f32⟩
  | .hbm, ⟨21, _⟩ => ⟨S4096x2048, .f32⟩
  | .hbm, ⟨22, _⟩ => ⟨S4096x1x2048, .f32⟩
  | .hbm, ⟨23, _⟩ => ⟨S4096x2048, .f32⟩
  | .hbm, ⟨24, _⟩ => ⟨S4096x2048, .f32⟩
  | .hbm, ⟨25, _⟩ => ⟨S4096x1x2048, .f32⟩
  | .hbm, ⟨26, _⟩ => ⟨S4096x2048, .f32⟩
  | .hbm, ⟨27, _⟩ => ⟨S4096x1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x1x2048, .f32⟩
  | .hbm, ⟨32, _⟩ => ⟨S4096x2048, .f32⟩
  | .hbm, ⟨33, _⟩ => ⟨S4096x1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1x2048, .f32⟩
  | .hbm, ⟨42, _⟩ => ⟨S_, .f32⟩
  | .hbm, ⟨43, _⟩ => ⟨S4096x3x2048, .f32⟩
  | .hbm, ⟨44, _⟩ => ⟨S4096x1x2048, .f32⟩
  | .hbm, ⟨45, _⟩ => ⟨S_, .f32⟩
  | .hbm, ⟨46, _⟩ => ⟨S4096x3x2048, .f32⟩
  | .hbm, ⟨47, _⟩ => ⟨S4096x2048, .f32⟩
  | .hbm, ⟨48, _⟩ => ⟨S4096x2048, .f32⟩
  | .hbm, ⟨49, _⟩ => ⟨S4096x1x2048, .f32⟩
  | .hbm, ⟨50, _⟩ => ⟨S_, .f32⟩
  | .hbm, ⟨51, _⟩ => ⟨S4096x3x2048, .f32⟩
  | .hbm, ⟨52, _⟩ => ⟨S4096x3x2048, .f32⟩
  | .hbm, ⟨53, _⟩ => ⟨S4096x1x2048, .f32⟩
  | .hbm, ⟨54, _⟩ => ⟨S_, .f32⟩
  | .hbm, ⟨55, _⟩ => ⟨S4096x3x2048, .f32⟩
  | .hbm, ⟨56, _⟩ => ⟨S4096x3x2048, .f32⟩
  | .hbm, ⟨57, _⟩ => ⟨S4096x2048, .f32⟩
  | .hbm, ⟨58, _⟩ => ⟨S4096x2048, .f32⟩
  | .hbm, ⟨59, _⟩ => ⟨S4096x1x2048, .f32⟩
  | .hbm, ⟨60, _⟩ => ⟨S_, .f32⟩
  | .hbm, ⟨61, _⟩ => ⟨S4096x3x2048, .f32⟩
  | .hbm, ⟨62, _⟩ => ⟨S4096x3x2048, .f32⟩
  | .hbm, ⟨63, _⟩ => ⟨S4096x1x2048, .f32⟩
  | .hbm, ⟨64, _⟩ => ⟨S_, .f32⟩
  | .hbm, ⟨65, _⟩ => ⟨S4096x3x2048, .f32⟩
  | .hbm, ⟨66, _⟩ => ⟨S4096x3x2048, .f32⟩
  | .hbm, ⟨67, _⟩ => ⟨S4096x6144, .f32⟩
  | .hbm, ⟨68, _⟩ => ⟨S4096x6144, .f32⟩
  | .hbm, ⟨69, _⟩ => ⟨S4096x6144, .f32⟩
  | .hbm, ⟨70, _⟩ => ⟨S_, .f32⟩
  | .hbm, ⟨71, _⟩ => ⟨S6144, .f32⟩
  | .hbm, ⟨72, _⟩ => ⟨S1x6144, .f32⟩
  | .hbm, ⟨73, _⟩ => ⟨S4096x6144, .bf16⟩
  | .hbm, ⟨74, _⟩ => ⟨S4096x6144, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S1x2048, .f32⟩
  | .hbm, ⟨4, _⟩ => ⟨S4096x2048, .f32⟩
  | .hbm, ⟨5, _⟩ => ⟨S8x128, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S8x128, .f32⟩
  | .local _ .vmem, ⟨8, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_18 : BitVec 32 := 0#32
  let v46 : BitVec 1 := Scalar.cmpi .ne v45 c0_i32_18
  v46

def k0_cond2 (i : grid0.Coords) : BitVec 1 :=
  let arg0 : BitVec 32 := BitVec.ofNat 32 (i 0).val
  let c0_i32_19 : BitVec 32 := 0#32
  let v47 : BitVec 1 := Scalar.cmpi .sgt arg0 c0_i32_19
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S8x128, .f32⟩
  | .hbm, ⟨72, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== PrenormBwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S1x2048, .f32⟩
  | .hbm, ⟨10, _⟩ => ⟨S1x2048, .f32⟩
  | .hbm, ⟨11, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_24 : BitVec 32 := 0#32
  let v53 : BitVec 1 := Scalar.cmpi .ne v52 c0_i32_24
  v53

def k0_cond2 (i : grid0.Coords) : BitVec 1 :=
  let arg0 : BitVec 32 := BitVec.ofNat 32 (i 0).val
  let c0_i32_25 : BitVec 32 := 0#32
  let v54 : BitVec 1 := Scalar.cmpi .sgt arg0 c0_i32_25
  let v55 : BitVec 32 := Scalar.extui v54
  let c0_i32_26 : BitVec 32 := 0#32
  let v56 : BitVec 1 := Scalar.cmpi .ne v55 c0_i32_26
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PrenormBwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S_, .f32⟩
  | .hbm, ⟨40, _⟩ => ⟨S2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S1x2048, .f32⟩
  | .hbm, ⟨76, _⟩ => ⟨S1x2048, .f32⟩
  | .hbm, ⟨77, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== ConvBwd.lean ====
abbrev S4096x14336 : Shape := ⟨2, ![4096, 14336]⟩
abbrev S3x1024 : Shape := ⟨2, ![3, 1024]⟩
abbrev S4096x1024 : Shape := ⟨2, ![4096, 1024]⟩
abbrev S_ : Shape := ⟨0, ![]⟩
abbrev S8x1024 : Shape := ⟨2, ![8, 1024]⟩
abbrev S512x256 : Shape := ⟨2, ![512, 256]⟩
abbrev S16x256 : Shape := ⟨2, ![16, 256]⟩
abbrev S8x256 : Shape := ⟨2, ![8, 256]⟩
abbrev S528x256 : Shape := ⟨2, ![528, 256]⟩
abbrev S1x256 : Shape := ⟨2, ![1, 256]⟩
abbrev S256 : Shape := ⟨1, ![256]⟩

abbrev nBuf : Space → Nat
  | .hbm => 11
  | .vmem => 32
  | .smem => 0
  | _ => 0

abbrev bufTy : (tb : Table) → Fin (tcTables nBuf tb) → BufTy
  | .hbm, ⟨0, _⟩ => ⟨S4096x14336, .bf16⟩
  | .hbm, ⟨1, _⟩ => ⟨S3x1024, .f32⟩
  | .hbm, ⟨2, _⟩ => ⟨S4096x1024, .bf16⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S8x1024, .f32⟩
  | .local _ .vmem, ⟨0, _⟩ => ⟨S512x256, .bf16⟩
  | .local _ .vmem, ⟨1, _⟩ => ⟨S512x256, .bf16⟩
  | .local _ .vmem, ⟨2, _⟩ => ⟨S16x256, .bf16⟩
  | .local _ .vmem, ⟨3, _⟩ => ⟨S16x256, .bf16⟩
  | .local _ .vmem, ⟨4, _⟩ => ⟨S512x256, .bf16⟩
  | .local _ .vmem, ⟨5, _⟩ => ⟨S512x256, .bf16⟩
  | .local _ .vmem, ⟨6, _⟩ => ⟨S16x256, .bf16⟩
  | .local _ .vmem, ⟨7, _⟩ => ⟨S16x256, .bf16⟩
  | .local _ .vmem, ⟨8, _⟩ => ⟨S512x256, .bf16⟩
  | .local _ .vmem, ⟨9, _⟩ => ⟨S512x256, .bf16⟩
  | .local _ .vmem, ⟨10, _⟩ => ⟨S16x256, .bf16⟩
  | .local _ .vmem, ⟨11, _⟩ => ⟨S16x256, .bf16⟩
  | .local _ .vmem, ⟨12, _⟩ => ⟨S512x256, .bf16⟩
  | .local _ .vmem, ⟨13, _⟩ => ⟨S512x256, .bf16⟩
  | .local _ .vmem, ⟨14, _⟩ => ⟨S16x256, .bf16⟩
  | .local _ .vmem, ⟨15, _⟩ => ⟨S16x256, .bf16⟩
  | .local _ .vmem, ⟨16, _⟩ => ⟨S512x256, .bf16⟩
  | .local _ .vmem, ⟨17, _⟩ => ⟨S512x256, .bf16⟩
  | .local _ .vmem, ⟨18, _⟩ => ⟨S16x256, .bf16⟩
  | .local _ .vmem, ⟨19, _⟩ => ⟨S16x256, .bf16⟩
  | .local _ .vmem, ⟨20, _⟩ => ⟨S8x256, .f32⟩
  | .local _ .vmem, ⟨21, _⟩ => ⟨S8x256, .f32⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S8x256, .f32⟩
  | .local _ .vmem, ⟨31, _⟩ => ⟨S8x256, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_47 : BitVec 32 := 0#32
  let v134 : BitVec 1 := Scalar.cmpi .eq arg1 c0_i32_47
  let v135 : BitVec 32 := Scalar.extui v134
  let c0_i32_48 : BitVec 32 := 0#32
  let v136 : BitVec 1 := Scalar.cmpi .ne v135 c0_i32_48
  v136

def k0_cond2 (i : grid0.Coords) : BitVec 1 :=
  let arg1 : BitVec 32 := BitVec.ofNat 32 (i 1).val
  let c0_i32_49 : BitVec 32 := 0#32
  let v137 : BitVec 1 := Scalar.cmpi .sgt arg1 c0_i32_49
  let v138 : BitVec 32 := Scalar.extui v137
  let c0_i32_50 : BitVec 32 := 0#32
  let v139 : BitVec 1 := Scalar.cmpi .ne v138 c0_i32_50
  v139

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c40_i32 : BitVec 32 := 40#32
  let v3 : BitVec 32 := Scalar.addi c40_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c48_i32 : BitVec 32 := 48#32
  let v3 : BitVec 32 := Scalar.addi c48_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c44_i32 : BitVec 32 := 44#32
  let v3 : BitVec 32 := Scalar.addi c44_i32 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c52_i32 : BitVec 32 := 52#32
  let v3 : BitVec 32 := Scalar.addi c52_i32 arg0
  let c0_i32 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ConvBwdRefIdeal.lean ====
abbrev S4096x14336 : Shape := ⟨2, ![4096, 14336]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 115
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S3x1024, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S2x1024, .f32⟩
  | .hbm, ⟨14, _⟩ => ⟨S4098x1024, .f32⟩
  | .hbm, ⟨15, _⟩ => ⟨S_, .f32⟩
  | .hbm, ⟨16, _⟩ => ⟨S2x1024, .f32⟩
  | .hbm, ⟨17, _⟩ => ⟨S1x1024, .f32⟩
  | .hbm, ⟨18, _⟩ => ⟨S1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S_, .f32⟩
  | .hbm, ⟨70, _⟩ => ⟨S4098x1024, .f32⟩
  | .hbm, ⟨71, _⟩ => ⟨S1x1024, .f32⟩
  | .hbm, ⟨72, _⟩ => ⟨S_, .f32⟩
  | .hbm, ⟨73, _⟩ => ⟨S3x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S_, .f32⟩
  | .hbm, ⟨81, _⟩ => ⟨S1024, .f32⟩
  | .hbm, ⟨82, _⟩ => ⟨S_, .f32⟩
  | .hbm, ⟨83, _⟩ => ⟨S4098x1024, .f32⟩
  | .hbm, ⟨84, _⟩ => ⟨S4098x1024, .f32⟩
  | .hbm, ⟨85, _⟩ => ⟨S1x1024, .f32⟩
  | .hbm, ⟨86, _⟩ => ⟨S_, .f32⟩
  | .hbm, ⟨87, _⟩ => ⟨S3x1024, .f32⟩
  | .hbm, ⟨88, _⟩ => ⟨S3x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S_, .f32⟩
  | .hbm, ⟨96, _⟩ => ⟨S1024, .f32⟩
  | .hbm, ⟨97, _⟩ => ⟨S_, .f32⟩
  | .hbm, ⟨98, _⟩ => ⟨S4098x1024, .f32⟩
  | .hbm, ⟨99, _⟩ => ⟨S4098x1024, .f32⟩
  | .hbm, ⟨100, _⟩ => ⟨S1x1024, .f32⟩
  | .hbm, ⟨101, _⟩ => ⟨S_, .f32⟩
  | .hbm, ⟨102, _⟩ => ⟨S3x1024, .f32⟩
  | .hbm, ⟨103, _⟩ => ⟨S3x1024, .f32⟩
  | .hbm, ⟨104, _⟩ => ⟨S2x1024, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x1024, .bf16⟩
  | .hbm, ⟨109, _⟩ => ⟨S4096x1024, .bf16⟩
  | .hbm, ⟨110, _⟩ => ⟨S4096x1024, .bf16⟩
  | .hbm, ⟨111, _⟩ => ⟨S4096x1024, .bf16⟩
  | .hbm, ⟨112, _⟩ => ⟨S_, .i32⟩
  | .hbm, ⟨113, _⟩ => ⟨S_, .f32⟩
  | .hbm, ⟨114, _⟩ => ⟨S8x1024, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v33_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v33_1 : Ref sig .tc := ⟨.hbm, 49, rfl⟩
abbrev main_v33_0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_1 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_5 : Ref sig .tc := ⟨.hbm, 77, rfl⟩
abbrev main_v53 : Ref sig .tc := ⟨.hbm, 78, rfl⟩
abbrev main_v54 : Ref sig .tc := ⟨.hbm, 79, rfl⟩
abbrev main_cst_6 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_8 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_cst_10 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c : Ref sig .tc := ⟨.hbm, 112, rfl⟩
abbrev main_call2_v0 : Ref sig .tc := ⟨.hbm, 113, rfl⟩
abbrev main_v80 : Ref sig .tc := ⟨.hbm, 114, rfl⟩

abbrev nD : Nat := 1
abbrev τ : Topo := Topo.v7x

variable {F : FTy → Type} [FloatOps F]
-- ==== PoolBwd.lean ====
abbrev S4096x14336 : Shape := ⟨2, ![4096, 14336]⟩
abbrev S4x256x256 : Shape := ⟨3, ![4, 256, 256]⟩
abbrev S1024 : Shape := ⟨1, ![1024]⟩
abbrev S4096x1024 : Shape := ⟨2, ![4096, 1024]⟩
abbrev S1x1024 : Shape := ⟨2, ![1, 1024]⟩
abbrev S512x256 : Shape := ⟨2, ![512, 256]⟩
abbrev S16x256 : Shape := ⟨2, ![16, 256]⟩
abbrev S1x256x256 : Shape := ⟨3, ![1, 256, 256]⟩
abbrev S1x256 : Shape := ⟨2, ![1, 256]⟩
abbrev S528x256 : Shape := ⟨2, ![528, 256]⟩
abbrev S256x256 : Shape := ⟨2, ![256, 256]⟩
abbrev S256 : Shape := ⟨1, ![256]⟩

abbrev nBuf : Space → Nat
  | .hbm => 10
  | .vmem => 24
  | .smem => 0
  | _ => 0

abbrev bufTy : (tb : Table) → Fin (tcTables nBuf tb) → BufTy
  | .hbm, ⟨0, _⟩ => ⟨S4096x14336, .bf16⟩
  | .hbm, ⟨1, _⟩ => ⟨S4x256x256, .f32⟩
  | .hbm, ⟨2, _⟩ => ⟨S1024, .f32⟩
  | .hbm, ⟨3, _⟩ => ⟨S4096x1024, .bf16⟩
  | .hbm, ⟨4, _⟩ => ⟨S4x256x256, .bf16⟩
  | .hbm, ⟨5, _⟩ => ⟨S1x1024, .f32⟩
  | .hbm, ⟨6, _⟩ => ⟨S4096x1024, .bf16⟩
  | .hbm, ⟨7, _⟩ => ⟨S4096x1024, .bf16⟩
  | .hbm, ⟨8, _⟩ => ⟨S4x256x256, .f32⟩
  | .hbm, ⟨9, _⟩ => ⟨S1x1024, .f32⟩
  | .local _ .vmem, ⟨0, _⟩ => ⟨S512x256, .bf16⟩
  | .local _ .vmem, ⟨1, _⟩ => ⟨S512x256, .bf16⟩
  | .local _ .vmem, ⟨2, _⟩ => ⟨S16x256, .bf16⟩
  | .local _ .vmem, ⟨3, _⟩ => ⟨S16x256, .bf16⟩
  | .local _ .vmem, ⟨4, _⟩ => ⟨S512x256, .bf16⟩
  | .local _ .vmem, ⟨5, _⟩ => ⟨S512x256, .bf16⟩
  | .local _ .vmem, ⟨6, _⟩ => ⟨S16x256, .bf16⟩
  | .local _ .vmem, ⟨7, _⟩ => ⟨S16x256, .bf16⟩
  | .local _ .vmem, ⟨8, _⟩ => ⟨S512x256, .bf16⟩
  | .local _ .vmem, ⟨9, _⟩ => ⟨S512x256, .bf16⟩
  | .local _ .vmem, ⟨10, _⟩ => ⟨S16x256, .bf16⟩
  | .local _ .vmem, ⟨11, _⟩ => ⟨S16x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256, .f32⟩
  | .local _ .vmem, ⟨15, _⟩ => ⟨S1x256, .f32⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S1x256x256, .f32⟩
  | .local _ .vmem, ⟨21, _⟩ => ⟨S1x256x256, .f32⟩
  | .local _ .vmem, ⟨22, _⟩ => ⟨S1x256, .f32⟩
  | .local _ .vmem, ⟨23, _⟩ => ⟨S1x256, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_52 : BitVec 32 := 0#32
  let v133 : BitVec 1 := Scalar.cmpi .eq arg1 c0_i32_52
  let v134 : BitVec 32 := Scalar.extui v133
  let c0_i32_53 : BitVec 32 := 0#32
  let v135 : BitVec 1 := Scalar.cmpi .ne v134 c0_i32_53
  v135

def k0_cond2 (i : grid0.Coords) : BitVec 1 :=
  let arg1 : BitVec 32 := BitVec.ofNat 32 (i 1).val
  let c0_i32_54 : BitVec 32 := 0#32
  let v136 : BitVec 1 := Scalar.cmpi .sgt arg1 c0_i32_54
  let v137 : BitVec 32 := Scalar.extui v136
  let c0_i32_55 : BitVec 32 := 0#32
  let v138 : BitVec 1 := Scalar.cmpi .ne v137 c0_i32_55
  v138

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c4_i32 : BitVec 32 := 4#32
  let v3 : BitVec 32 := Scalar.addi c4_i32 arg0
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let v3 : BitVec 32 := Scalar.addi c0_i32 arg0
  let c0_i32_0 : BitVec 32 := 0#32
  ![v2.toNat, v3.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== PoolBwdRefIdeal.lean ====
abbrev S4096x14336 : Shape := ⟨2, ![4096, 14336]⟩
abbrev S4x256x256 : Shape := ⟨3, ![4, 256, 256]⟩
abbrev S1024 : Shape := ⟨1, ![1024]⟩
abbrev S4096x1024 : Shape := ⟨2, ![4096, 1024]⟩
abbrev S4096x4x256 : Shape := ⟨3, ![4096, 4, 256]⟩
abbrev S_ : Shape := ⟨0, ![]⟩
abbrev S1x4x256 : Shape := ⟨3, ![1, 4, 256]⟩
abbrev S4097x4x256 : Shape := ⟨3, ![4097, 4, 256]⟩
abbrev S4096 : Shape := ⟨1, ![4096]⟩
abbrev S4096x1x256 : Shape := ⟨3, ![4096, 1, 256]⟩
abbrev S4096x256 : Shape := ⟨2, ![4096, 256]⟩
abbrev S4096x1 : Shape := ⟨2, ![4096, 1]⟩
abbrev S4096x2 : Shape := ⟨2, ![4096, 2]⟩
abbrev S4x256x4096 : Shape := ⟨3, ![4, 256, 4096]⟩
abbrev S1x1024 : Shape := ⟨2, ![1, 1024]⟩
abbrev S4x4096x256 : Shape := ⟨3, ![4, 4096, 256]⟩

abbrev nBuf : Space → Nat
  | .hbm => 263
  | .vmem => 0
  | .smem => 0
  | _ => 0

abbrev hbmTy0_0 (i : Nat) : BufTy := match i % 128 with
  | 0 => ⟨S4096x14336, .bf16⟩
  | 1 => ⟨S4x256x256, .f32⟩
  | 2 => ⟨S1024, .f32⟩
  | 3 => ⟨S4096x1024, .bf16⟩
  | 4 => ⟨S4096x1024, .bf16⟩
  | 5 => ⟨S4096x1024, .f32⟩
  | 6 => ⟨S4096x1024, .bf16⟩
  | 7 => ⟨S4096x1024, .f32⟩
  | 8 => ⟨S4096x4x256, .f32⟩
  | 9 => ⟨S_, .f32⟩
  | 10 => ⟨S1x4x256, .f32⟩
  | 11 => ⟨S_, .f32⟩
  | 12 => ⟨S_, .f32⟩
  | 13 => ⟨S4096x4x256, .f32⟩
  | 14 => ⟨S4097x4x256, .f32⟩
  | 15 => ⟨S_, .f32⟩
  | 16 => ⟨S1x4x256, .f32⟩
  | 17 => ⟨S4096, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .i32⟩
  | 31 => ⟨S4096, .f32⟩
  | 32 => ⟨S4096x1x256, .f32⟩
  | 33 => ⟨S4096x256, .f32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096x1, .i32⟩
  | 45 => ⟨S4096x1, .i32⟩
  | 46 => ⟨S4096x2, .i32⟩
  | 47 => ⟨S4096x256, .f32⟩
  | 48 => ⟨S4096x256, .f32⟩
  | 49 => ⟨S4096x1, .f32⟩
  | 50 => ⟨S4096x256, .f32⟩
  | 51 => ⟨S4096x256, .f32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096, .i32⟩
  | 65 => ⟨S4096, .f32⟩
  | 66 => ⟨S4096x1x256, .f32⟩
  | 67 => ⟨S4096x256, .f32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S_, .i32⟩
  | 76 => ⟨S4096, .i32⟩
  | 77 => ⟨S4096, .i32⟩
  | 78 => ⟨S4096x1, .i32⟩
  | 79 => ⟨S4096x1, .i32⟩
  | 80 => ⟨S4096x2, .i32⟩
  | 81 => ⟨S4096x256, .f32⟩
  | 82 => ⟨S4096x256, .f32⟩
  | 83 => ⟨S4096x1, .f32⟩
  | 84 => ⟨S4096x256, .f32⟩
  | 85 => ⟨S4096x256, .f32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S4096, .i32⟩
  | 99 => ⟨S4096, .f32⟩
  | 100 => ⟨S4096x1x256, .f32⟩
  | 101 => ⟨S4096x256, .f32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S_, .i32⟩
  | 110 => ⟨S4096, .i32⟩
  | 111 => ⟨S4096, .i32⟩
  | 112 => ⟨S4096x1, .i32⟩
  | 113 => ⟨S4096x1, .i32⟩
  | 114 => ⟨S4096x2, .i32⟩
  | 115 => ⟨S4096x256, .f32⟩
  | 116 => ⟨S4096x256, .f32⟩
  | 117 => ⟨S4096x1, .f32⟩
  | 118 => ⟨S4096x256, .f32⟩
  | 119 => ⟨S4096x256, .f32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S_, .i32⟩
  | 127 => ⟨S4096, .i32⟩
  | _ => ⟨S4096x14336, .bf16⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S4096, .i32⟩
  | 5 => ⟨S4096, .f32⟩
  | 6 => ⟨S4096x1x256, .f32⟩
  | 7 => ⟨S4096x256, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i32⟩
  | 18 => ⟨S4096x1, .i32⟩
  | 19 => ⟨S4096x1, .i32⟩
  | 20 => ⟨S4096x2, .i32⟩
  | 21 => ⟨S4096x256, .f32⟩
  | 22 => ⟨S4096x256, .f32⟩
  | 23 => ⟨S4096x1, .f32⟩
  | 24 => ⟨S4096x256, .f32⟩
  | 25 => ⟨S4096x256, .f32⟩
  | 26 => ⟨S4096x1x256, .f32⟩
  | 27 => ⟨S4096x1x256, .f32⟩
  | 28 => ⟨S4096x1x256, .f32⟩
  | 29 => ⟨S4096x1x256, .f32⟩
  | 30 => ⟨S4096x4x256, .f32⟩
  | 31 => ⟨S4096x4x256, .f32⟩
  | 32 => ⟨S4x256x4096, .f32⟩
  | 33 => ⟨S4096x4x256, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S_, .f32⟩
  | 61 => ⟨S1024, .f32⟩
  | 62 => ⟨S1x1024, .f32⟩
  | 63 => ⟨S4096x1024, .f32⟩
  | 64 => ⟨S4096x1024, .f32⟩
  | 65 => ⟨S_, .f32⟩
  | 66 => ⟨S1024, .f32⟩
  | 67 => ⟨S4096x4x256, .f32⟩
  | 68 => ⟨S4x256x4096, .f32⟩
  | 69 => ⟨S4x4096x256, .f32⟩
  | 70 => ⟨S4096x4x256, .f32⟩
  | 71 => ⟨S4x256x256, .f32⟩
  | 72 => ⟨S4x256x256, .f32⟩
  | 73 => ⟨S4096x4x256, .f32⟩
  | 74 => ⟨S4096x1x256, .f32⟩
  | 75 => ⟨S4096x256, .f32⟩
  | 76 => ⟨S4096x1x256, .f32⟩
  | 77 => ⟨S4096x256, .f32⟩
  | 78 => ⟨S4096x1x256, .f32⟩
  | 79 => ⟨S4096x256, .f32⟩
  | 80 => ⟨S4096x1x256, .f32⟩
  | 81 => ⟨S4096x256, .f32⟩
  | 82 => ⟨S4096x256, .f32⟩
  | 83 => ⟨S4096x256, .f32⟩
  | 84 => ⟨S4096x256, .f32⟩
  | 85 => ⟨S_, .f32⟩
  | 86 => ⟨S4097x4x256, .f32⟩
  | 87 => ⟨S4097x4x256, .f32⟩
  | 88 => ⟨S4096x1x256, .f32⟩
  | 89 => ⟨S_, .f32⟩
  | 90 => ⟨S4097x4x256, .f32⟩
  | 91 => ⟨S4097x4x256, .f32⟩
  | 92 => ⟨S4096x256, .f32⟩
  | 93 => ⟨S4096x256, .f32⟩
  | 94 => ⟨S4096x256, .f32⟩
  | 95 => ⟨S_, .f32⟩
  | 96 => ⟨S4097x4x256, .f32⟩
  | 97 => ⟨S4097x4x256, .f32⟩
  | 98 => ⟨S4097x4x256, .f32⟩
  | 99 => ⟨S4096x1x256, .f32⟩
  | 100 => ⟨S_, .f32⟩
  | 101 => ⟨S4097x4x256, .f32⟩
  | 102 => ⟨S4097x4x256, .f32⟩
  | 103 => ⟨S4096x256, .f32⟩
  | 104 => ⟨S4096x256, .f32⟩
  | 105 => ⟨S4096x256, .f32⟩
  | 106 => ⟨S_, .f32⟩
  | 107 => ⟨S4097x4x256, .f32⟩
  | 108 => ⟨S4097x4x256, .f32⟩
  | 109 => ⟨S4097x4x256, .f32⟩
  | 110 => ⟨S4096x1x256, .f32⟩
  | 111 => ⟨S_, .f32⟩
  | 112 => ⟨S4097x4x256, .f32⟩
  | 113 => ⟨S4097x4x256, .f32⟩
  | 114 => ⟨S4096x256, .f32⟩
  | 115 => ⟨S4096x256, .f32⟩
  | 116 => ⟨S4096x256, .f32⟩
  | 117 => ⟨S_, .f32⟩
  | 118 => ⟨S4097x4x256, .f32⟩
  | 119 => ⟨S4097x4x256, .f32⟩
  | 120 => ⟨S4097x4x256, .f32⟩
  | 121 => ⟨S4096x1x256, .f32⟩
  | 122 => ⟨S_, .f32⟩
  | 123 => ⟨S4097x4x256, .f32⟩
  | 124 => ⟨S4097x4x256, .f32⟩
  | 125 => ⟨S1x4x256, .f32⟩
  | 126 => ⟨S4096x4x256, .f32⟩
  | 127 => ⟨S_, .f32⟩
  | _ => ⟨S4096x14336, .bf16⟩

abbrev hbmTy0_2 (i : Nat) : BufTy := match i % 128 with
  | 0 => ⟨S_, .f32⟩
  | 1 => ⟨S4096x4x256, .f32⟩
  | 2 => ⟨S4096x4x256, .f32⟩
  | 3 => ⟨S4096x1024, .f32⟩
  | 4 => ⟨S4096x1024, .bf16⟩
  | 5 => ⟨S4096x1024, .bf16⟩
  | 6 => ⟨S1x1024, .f32⟩
  | _ => ⟨S4096x14336, .bf16⟩

abbrev hbmTy (i : Nat) : BufTy := match i / 128 with
  | 0 => hbmTy0_0 i
  | 1 => hbmTy0_1 i
  | 2 => hbmTy0_2 i
  | _ => ⟨S4096x14336, .bf16⟩

abbrev bufTy : (tb : Table) → Fin (tcTables nBuf tb) → BufTy
  | .hbm, ⟨i, _⟩ => hbmTy i
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_call0_call0_cst : Ref sig .tc := ⟨.hbm, 11, rfl⟩
abbrev main_call0_call0_v0 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_14 : Ref sig .tc := ⟨.hbm, 86, rfl⟩
abbrev main_v64 : Ref sig .tc := ⟨.hbm, 87, rfl⟩
abbrev main_v65 : Ref sig .tc := ⟨.hbm, 88, rfl⟩
abbrev main_c_15 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_c_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_18 : Ref sig .tc := ⟨.hbm, 102, rfl⟩
abbrev main_v76 : Ref sig .tc := ⟨.hbm, 103, rfl⟩
abbrev main_v77 : Ref sig .tc := ⟨.hbm, 104, rfl⟩
abbrev main_c_19 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_20 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_c_21 : Ref sig .tc := ⟨.hbm, 120, rfl⟩
abbrev main_v91 : Ref sig .tc := ⟨.hbm, 121, rfl⟩
abbrev main_v92 : Ref sig .tc := ⟨.hbm, 122, rfl⟩
abbrev main_c_22 : Ref sig .tc := ⟨.hbm, 123, rfl⟩
abbrev main_v93 : Ref sig .tc := ⟨.hbm, 124, rfl⟩
abbrev main_v94 : Ref sig .tc := ⟨.hbm, 125, rfl⟩
abbrev main_c_23 : Ref sig .tc := ⟨.hbm, 126, rfl⟩
abbrev main_v95 : Ref sig .tc := ⟨.hbm, 127, rfl⟩
abbrev main_v96 : Ref sig .tc := ⟨.hbm, 128, rfl⟩
abbrev main_c_24 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_25 : Ref sig .tc := ⟨.hbm, 136, rfl⟩
abbrev main_v103 : Ref sig .tc := ⟨.hbm, 137, rfl⟩
abbrev main_v104 : Ref sig .tc := ⟨.hbm, 138, rfl⟩
abbrev main_c_26 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_27 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_call1_v0 : Ref sig .tc := ⟨.hbm, 166, rfl⟩
abbrev main_call1_v1 : Ref sig .tc := ⟨.hbm, 167, rfl⟩
abbrev main_call1_cst : Ref sig .tc := ⟨.hbm, 168, rfl⟩
abbrev main_call1_v2 : Ref sig .tc := ⟨.hbm, 169, rfl⟩
abbrev main_call1_v3 : Ref sig .tc := ⟨.hbm, 170, rfl⟩
abbrev main_call1_cst_0 : Ref sig .tc := ⟨.hbm, 171, rfl⟩
abbrev main_call1_v4 : Ref sig .tc := ⟨.hbm, 172, rfl⟩
abbrev main_v130_2 : Ref sig .tc := ⟨.hbm, 173, rfl⟩
abbrev main_call1_cst_1 : Ref sig .tc := ⟨.hbm, 174, rfl⟩
abbrev main_call1_v6 : Ref sig .tc := ⟨.hbm, 175, rfl⟩
abbrev main_call1_v7 : Ref sig .tc := ⟨.hbm, 176, rfl⟩
abbrev main_v130_1 : Ref sig .tc := ⟨.hbm, 177, rfl⟩
abbrev main_v130_0 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_v135 : Ref sig .tc := ⟨.hbm, 186, rfl⟩
abbrev main_v136 : Ref sig .tc := ⟨.hbm, 187, rfl⟩
abbrev main_cst_28 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_cst_29 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_cst_30 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_cst_31 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_32 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_cst_33 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst_34 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_cst_35 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_cst_36 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_cst_37 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_call3_call0_cst : Ref sig .tc := ⟨.hbm, 255, rfl⟩
abbrev main_call3_call0_v0 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩

abbrev nD : Nat := 1
abbrev τ : Topo := Topo.v7x

variable {F : FTy → Type} [FloatOps F]
-- ==== AttnFwd.lean ====
abbrev S4096x14336 : Shape := ⟨2, ![4096, 14336]⟩
abbrev S4096x2048 : Shape := ⟨2, ![4096, 2048]⟩
abbrev S512x256 : Shape := ⟨2, ![512, 256]⟩
abbrev S4096x256 : Shape := ⟨2, ![4096, 256]⟩
abbrev S512x128 : Shape := ⟨2, ![512, 128]⟩
abbrev S256x256 : Shape := ⟨2, ![256, 256]⟩
abbrev S512x1 : Shape := ⟨2, ![512, 1]⟩
abbrev S256x128 : Shape := ⟨2, ![256, 128]⟩
abbrev S256x1 : Shape := ⟨2, ![256, 1]⟩
abbrev S256x512 : Shape := ⟨2, ![256, 512]⟩
abbrev S512x512 : Shape := ⟨2, ![512, 512]⟩

abbrev nBuf : Space → Nat
  | .hbm => 4
  | .vmem => 14
  | .smem => 0
  | _ => 0

abbrev bufTy : (tb : Table) → Fin (tcTables nBuf tb) → BufTy
  | .hbm, ⟨0, _⟩ => ⟨S4096x14336, .bf16⟩
  | .hbm, ⟨1, _⟩ => ⟨S4096x2048, .bf16⟩
  | .hbm, ⟨2, _⟩ => ⟨S4096x2048, .bf16⟩
  | .hbm, ⟨3, _⟩ => ⟨S4096x2048, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1_i32 : BitVec 32 := 1#32
  let v19 : BitVec 32 := Scalar.muli arg1 c1_i32
  let c0_i32_12 : BitVec 32 := 0#32
  let v31 : BitVec 32 := Scalar.addi v19 c0_i32_12
  let c512_i32 : BitVec 32 := 512#32
  let v32 : BitVec 32 := Scalar.muli v31 c512_i32
  v32
def k0_off1 (i : grid0.Coords) : Fin 2 → Nat :=
  let arg1 : BitVec 32 := BitVec.ofNat 32 (i 1).val
  let c1_i32 : BitVec 32 := 1#32
  let v19 : BitVec 32 := Scalar.muli arg1 c1_i32
  let c0_i32_12 : BitVec 32 := 0#32
  let v31 : BitVec 32 := Scalar.addi v19 c0_i32_12
  let c512_i32 : BitVec 32 := 512#32
  let v32 : BitVec 32 := Scalar.muli v31 c512_i32
  let v33 : BitVec 32 := v32
  let v42 : Index := Scalar.indexCast v33
  let c0_14 : Index := 0#32
  ![v42.toNat, 0]
def k0_off2 (i : grid0.Coords) : Fin 2 → Nat :=
  let arg1 : BitVec 32 := BitVec.ofNat 32 (i 1).val
  let c1_i32 : BitVec 32 := 1#32
  let v19 : BitVec 32 := Scalar.muli arg1 c1_i32
  let c0_i32_12 : BitVec 32 := 0#32
  let v31 : BitVec 32 := Scalar.addi v19 c0_i32_12
  let c512_i32 : BitVec 32 := 512#32
  let v32 : BitVec 32 := Scalar.muli v31 c512_i32
  let v33 : BitVec 32 := v32
  let v84 : Index := Scalar.indexCast v33
  let c0_24 : Index := 0#32
  ![v84.toNat, 0]
def k0_off3 (i : grid0.Coords) : Fin 2 → Nat :=
  let arg1 : BitVec 32 := BitVec.ofNat 32 (i 1).val
  let c1_i32 : BitVec 32 := 1#32
  let v19 : BitVec 32 := Scalar.muli arg1 c1_i32
  let c0_i32_12 : BitVec 32 := 0#32
  let v31 : BitVec 32 := Scalar.addi v19 c0_i32_12
  let c512_i32 : BitVec 32 := 512#32
  let v32 : BitVec 32 := Scalar.muli v31 c512_i32
  let v33 : BitVec 32 := v32
  let v140 : Index := Scalar.indexCast v33
  let c128_36 : Index := 128#32
  ![v140.toNat, 128]
def k0_off4 (i : grid0.Coords) : Fin 2 → Nat :=
  let arg1 : BitVec 32 := BitVec.ofNat 32 (i 1).val
  let c1_i32 : BitVec 32 := 1#32
  let v19 : BitVec 32 := Scalar.muli arg1 c1_i32
  let c0_i32_12 : BitVec 32 := 0#32
  let v31 : BitVec 32 := Scalar.addi v19 c0_i32_12
  let c512_i32 : BitVec 32 := 512#32
  let v32 : BitVec 32 := Scalar.muli v31 c512_i32
  let v33 : BitVec 32 := v32
  let v182 : Index := Scalar.indexCast v33
  let c128_47 : Index := 128#32
  ![v182.toNat, 128]
@[reducible] def k0_t1_loop (i : grid0.Coords) : Scf.Loop 32 :=
  let c0_i32_65 : BitVec 32 := 0#32
  let arg1 : BitVec 32 := BitVec.ofNat 32 (i 1).val
  let c1_i32 : BitVec 32 := 1#32
  let v19 : BitVec 32 := Scalar.muli arg1 c1_i32
  let c0_i32_59 : BitVec 32 := 0#32
  let v231 : BitVec 1 := Scalar.cmpi .sgt v19 c0_i32_59
  let v232 : BitVec 32 := Scalar.extui v231
  let c0_i32_60 : BitVec 32 := 0#32
  let v233 : BitVec 1 := Scalar.cmpi .slt v19 c0_i32_60
  let v234 : BitVec 32 := Scalar.extui v233
  let v235 : BitVec 32 := Scalar.subi v232 v234
  let c2_i32_58 : BitVec 32 := 2#32
  let c0_i32_61 : BitVec 32 := 0#32
  let v236 : BitVec 1 := Scalar.cmpi .sgt c2_i32_58 c0_i32_61
  let v237 : BitVec 32 := Scalar.extui v236
  let c0_i32_62 : BitVec 32 := 0#32
  let v238 : BitVec 1 := Scalar.cmpi .slt c2_i32_58 c0_i32_62
  let v239 : BitVec 32 := Scalar.extui v238
  let v240 : BitVec 32 := Scalar.subi v237 v239
  let v241 : BitVec 1 := Scalar.cmpi .ne v235 v240
  let v242 : BitVec 32 := Scalar.remsi v19 c2_i32_58
  let c0_i32_63 : BitVec 32 := 0#32
  let v243 : BitVec 1 := Scalar.cmpi .ne v242 c0_i32_63
  let v244 : BitVec 1 := Scalar.andi v241 v243
  let v230 : BitVec 32 := Scalar.divsi v19 c2_i32_58
  let c1_i32_64 : BitVec 32 := 1#32
  let v245 : BitVec 32 := Scalar.subi v230 c1_i32_64
  let v246 : BitVec 32 := Scalar.select v244 v245 v230
  let v247 : BitVec 32 := Scalar.subi v246 c0_i32_65
  let c1_i32_66 : BitVec 32 := 1#32
  let v249 : BitVec 32 := Scalar.divsi v247 c1_i32_66
  let v250 : BitVec 32 := Scalar.muli v249 c1_i32_66
  let v251 : BitVec 32 := Scalar.addi c0_i32_65 v250
  let c1_i32_67 : BitVec 32 := 1#32
  ⟨c0_i32_65, v251, c1_i32_67⟩
def k0_mult2 (i : grid0.Coords) (k0_t1 : Fin (k0_t1_loop i).trips) : BitVec 32 :=
  let arg1 : BitVec 32 := BitVec.ofNat 32 (i 1).val
  let c1_i32 : BitVec 32 := 1#32
  let v19 : BitVec 32 := Scalar.muli arg1 c1_i32
  let c1_i32_94 : BitVec 32 := 1#32
  let v296 : BitVec 32 := Scalar.subi v19 c1_i32_94
  let c2_i32_95 : BitVec 32 := 2#32
  let c0_i32_65 : BitVec 32 := 0#32
  let c1_i32_67 : BitVec 32 := 1#32
  let arg9 : BitVec 32 := Scf.iv c0_i32_65 c1_i32_67 k0_t1
  let v297 : BitVec 32 := Scalar.muli c2_i32_95 arg9
  let v298 : BitVec 32 := Scalar.subi v296 v297
  let c512_i32_96 : BitVec 32 := 512#32
  let v299 : BitVec 32 := Scalar.muli v298 c512_i32_96
  v299
def k0_off5 (i : grid0.Coords) (k0_t1 : Fin (k0_t1_loop i).trips) (c1_i32_94 : BitVec 32) : Fin 2 → Nat :=
  let arg1 : BitVec 32 := BitVec.ofNat 32 (i 1).val
  let c1_i32 : BitVec 32 := 1#32
  let v19 : BitVec 32 := Scalar.muli arg1 c1_i32
  let v296 : BitVec 32 := Scalar.subi v19 c1_i32_94
  let c2_i32_95 : BitVec 32 := 2#32
  let c0_i32_65 : BitVec 32 := 0#32
  let c1_i32_67 : BitVec 32 := 1#32
  let arg9 : BitVec 32 := Scf.iv c0_i32_65 c1_i32_67 k0_t1
  let v297 : BitVec 32 := Scalar.muli c2_i32_95 arg9
  let v298 : BitVec 32 := Scalar.subi v296 v297
  let c512_i32_96 : BitVec 32 := 512#32
  let v299 : BitVec 32 := Scalar.muli v298 c512_i32_96
  let v300 : BitVec 32 := v299
  let v301 : Index := Scalar.indexCast v300
  let c0_97 : Index := 0#32
  ![v301.toNat, 0]
def k0_off6 (i : grid0.Coords) (k0_t1 : Fin (k0_t1_loop i).trips) (c1_i32_94 : BitVec 32) : Fin 2 → Nat :=
  let arg1 : BitVec 32 := BitVec.ofNat 32 (i 1).val
  let c1_i32 : BitVec 32 := 1#32
  let v19 : BitVec 32 := Scalar.muli arg1 c1_i32
  let v296 : BitVec 32 := Scalar.subi v19 c1_i32_94
  let c2_i32_95 : BitVec 32 := 2#32
  let c0_i32_65 : BitVec 32 := 0#32
  let c1_i32_67 : BitVec 32 := 1#32
  let arg9 : BitVec 32 := Scf.iv c0_i32_65 c1_i32_67 k0_t1
  let v297 : BitVec 32 := Scalar.muli c2_i32_95 arg9
  let v298 : BitVec 32 := Scalar.subi v296 v297
  let c512_i32_96 : BitVec 32 := 512#32
  let v299 : BitVec 32 := Scalar.muli v298 c512_i32_96
  let v300 : BitVec 32 := v299
  let v343 : Index := Scalar.indexCast v300
  let c128_106 : Index := 128#32
  ![v343.toNat, 128]
def k0_mult3 (i : grid0.Coords) (k0_t1 : Fin (k0_t1_loop i).trips) : BitVec 32 :=
  let arg1 : BitVec 32 := BitVec.ofNat 32 (i 1).val
  let c1_i32 : BitVec 32 := 1#32
  let v19 : BitVec 32 := Scalar.muli arg1 c1_i32
  let c2_i32_92 : BitVec 32 := 2#32
  let v293 : BitVec 32 := Scalar.subi v19 c2_i32_92
  let c2_i32_93 : BitVec 32 := 2#32
  let c0_i32_65 : BitVec 32 := 0#32
  let c1_i32_67 : BitVec 32 := 1#32
  let arg9 : BitVec 32 := Scf.iv c0_i32_65 c1_i32_67 k0_t1
  let v294 : BitVec 32 := Scalar.muli c2_i32_93 arg9
  let v295 : BitVec 32 := Scalar.subi v293 v294
  let c512_i32_115 : BitVec 32 := 512#32
  let v385 : BitVec 32 := Scalar.muli v295 c512_i32_115
  v385
@[reducible] def k0_t2_loop (i : grid0.Coords) : Scf.Loop 32 :=
  let c0_i32_65 : BitVec 32 := 0#32
  let arg1 : BitVec 32 := BitVec.ofNat 32 (i 1).val
  let c1_i32 : BitVec 32 := 1#32
  let v19 : BitVec 32 := Scalar.muli arg1 c1_i32
  let c0_i32_59 : BitVec 32 := 0#32
  let v231 : BitVec 1 := Scalar.cmpi .sgt v19 c0_i32_59
  let v232 : BitVec 32 := Scalar.extui v231
  let c0_i32_60 : BitVec 32 := 0#32
  let v233 : BitVec 1 := Scalar.cmpi .slt v19 c0_i32_60
  let v234 : BitVec 32 := Scalar.extui v233
  let v235 : BitVec 32 := Scalar.subi v232 v234
  let c2_i32_58 : BitVec 32 := 2#32
  let c0_i32_61 : BitVec 32 := 0#32
  let v236 : BitVec 1 := Scalar.cmpi .sgt c2_i32_58 c0_i32_61
  let v237 : BitVec 32 := Scalar.extui v236
  let c0_i32_62 : BitVec 32 := 0#32
  let v238 : BitVec 1 := Scalar.cmpi .slt c2_i32_58 c0_i32_62
  let v239 : BitVec 32 := Scalar.extui v238
  let v240 : BitVec 32 := Scalar.subi v237 v239
  let v241 : BitVec 1 := Scalar.cmpi .ne v235 v240
  let v242 : BitVec 32 := Scalar.remsi v19 c2_i32_58
  let c0_i32_63 : BitVec 32 := 0#32
  let v243 : BitVec 1 := Scalar.cmpi .ne v242 c0_i32_63
  let v244 : BitVec 1 := Scalar.andi v241 v243
  let v230 : BitVec 32 := Scalar.divsi v19 c2_i32_58
  let c1_i32_64 : BitVec 32 := 1#32
  let v245 : BitVec 32 := Scalar.subi v230 c1_i32_64
  let v246 : BitVec 32 := Scalar.select v244 v245 v230
  let v247 : BitVec 32 := Scalar.subi v246 c0_i32_65
  let c1_i32_66 : BitVec 32 := 1#32
  let v249 : BitVec 32 := Scalar.divsi v247 c1_i32_66
  let v250 : BitVec 32 := Scalar.muli v249 c1_i32_66
  let v251 : BitVec 32 := Scalar.addi c0_i32_65 v250
  let v248 : BitVec 32 := Scalar.addi c0_i32_65 v247
  let c1_i32_68 : BitVec 32 := 1#32
  ⟨v251, v248, c1_i32_68⟩
def k0_mult4 (i : grid0.Coords) (k0_t2 : Fin (k0_t2_loop i).trips) : BitVec 32 :=
  let arg1 : BitVec 32 := BitVec.ofNat 32 (i 1).val
  let c1_i32 : BitVec 32 := 1#32
  let v19 : BitVec 32 := Scalar.muli arg1 c1_i32
  let c1_i32_94 : BitVec 32 := 1#32
  let v296 : BitVec 32 := Scalar.subi v19 c1_i32_94
  let c2_i32_95 : BitVec 32 := 2#32
  let c0_i32_65 : BitVec 32 := 0#32
  let c0_i32_59 : BitVec 32 := 0#32
  let v231 : BitVec 1 := Scalar.cmpi .sgt v19 c0_i32_59
  let v232 : BitVec 32 := Scalar.extui v231
  let c0_i32_60 : BitVec 32 := 0#32
  let v233 : BitVec 1 := Scalar.cmpi .slt v19 c0_i32_60
  let v234 : BitVec 32 := Scalar.extui v233
  let v235 : BitVec 32 := Scalar.subi v232 v234
  let c2_i32_58 : BitVec 32 := 2#32
  let c0_i32_61 : BitVec 32 := 0#32
  let v236 : BitVec 1 := Scalar.cmpi .sgt c2_i32_58 c0_i32_61
  let v237 : BitVec 32 := Scalar.extui v236
  let c0_i32_62 : BitVec 32 := 0#32
  let v238 : BitVec 1 := Scalar.cmpi .slt c2_i32_58 c0_i32_62
  let v239 : BitVec 32 := Scalar.extui v238
  let v240 : BitVec 32 := Scalar.subi v237 v239
  let v241 : BitVec 1 := Scalar.cmpi .ne v235 v240
  let v242 : BitVec 32 := Scalar.remsi v19 c2_i32_58
  let c0_i32_63 : BitVec 32 := 0#32
  let v243 : BitVec 1 := Scalar.cmpi .ne v242 c0_i32_63
  let v244 : BitVec 1 := Scalar.andi v241 v243
  let v230 : BitVec 32 := Scalar.divsi v19 c2_i32_58
  let c1_i32_64 : BitVec 32 := 1#32
  let v245 : BitVec 32 := Scalar.subi v230 c1_i32_64
  let v246 : BitVec 32 := Scalar.select v244 v245 v230
  let v247 : BitVec 32 := Scalar.subi v246 c0_i32_65
  let c1_i32_66 : BitVec 32 := 1#32
  let v249 : BitVec 32 := Scalar.divsi v247 c1_i32_66
  let v250 : BitVec 32 := Scalar.muli v249 c1_i32_66
  let v251 : BitVec 32 := Scalar.addi c0_i32_65 v250
  let c1_i32_68 : BitVec 32 := 1#32
  let arg9 : BitVec 32 := Scf.iv v251 c1_i32_68 k0_t2
  let v297 : BitVec 32 := Scalar.muli c2_i32_95 arg9
  let v298 : BitVec 32 := Scalar.subi v296 v297
  let c512_i32_96 : BitVec 32 := 512#32
  let v299 : BitVec 32 := Scalar.muli v298 c512_i32_96
  v299
def k0_off7 (i : grid0.Coords) (k0_t2 : Fin (k0_t2_loop i).trips) (c1_i32_94 : BitVec 32) : Fin 2 → Nat :=
  let arg1 : BitVec 32 := BitVec.ofNat 32 (i 1).val
  let c1_i32 : BitVec 32 := 1#32
  let v19 : BitVec 32 := Scalar.muli arg1 c1_i32
  let v296 : BitVec 32 := Scalar.subi v19 c1_i32_94
  let c2_i32_95 : BitVec 32 := 2#32
  let c0_i32_65 : BitVec 32 := 0#32
  let c0_i32_59 : BitVec 32 := 0#32
  let v231 : BitVec 1 := Scalar.cmpi .sgt v19 c0_i32_59
  let v232 : BitVec 32 := Scalar.extui v231
  let c0_i32_60 : BitVec 32 := 0#32
  let v233 : BitVec 1 := Scalar.cmpi .slt v19 c0_i32_60
  let v234 : BitVec 32 := Scalar.extui v233
  let v235 : BitVec 32 := Scalar.subi v232 v234
  let c2_i32_58 : BitVec 32 := 2#32
  let c0_i32_61 : BitVec 32 := 0#32
  let v236 : BitVec 1 := Scalar.cmpi .sgt c2_i32_58 c0_i32_61
  let v237 : BitVec 32 := Scalar.extui v236
  let c0_i32_62 : BitVec 32 := 0#32
  let v238 : BitVec 1 := Scalar.cmpi .slt c2_i32_58 c0_i32_62
  let v239 : BitVec 32 := Scalar.extui v238
  let v240 : BitVec 32 := Scalar.subi v237 v239
  let v241 : BitVec 1 := Scalar.cmpi .ne v235 v240
  let v242 : BitVec 32 := Scalar.remsi v19 c2_i32_58
  let c0_i32_63 : BitVec 32 := 0#32
  let v243 : BitVec 1 := Scalar.cmpi .ne v242 c0_i32_63
  let v244 : BitVec 1 := Scalar.andi v241 v243
  let v230 : BitVec 32 := Scalar.divsi v19 c2_i32_58
  let c1_i32_64 : BitVec 32 := 1#32
  let v245 : BitVec 32 := Scalar.subi v230 c1_i32_64
  let v246 : BitVec 32 := Scalar.select v244 v245 v230
  let v247 : BitVec 32 := Scalar.subi v246 c0_i32_65
  let c1_i32_66 : BitVec 32 := 1#32
  let v249 : BitVec 32 := Scalar.divsi v247 c1_i32_66
  let v250 : BitVec 32 := Scalar.muli v249 c1_i32_66
  let v251 : BitVec 32 := Scalar.addi c0_i32_65 v250
  let c1_i32_68 : BitVec 32 := 1#32
  let arg9 : BitVec 32 := Scf.iv v251 c1_i32_68 k0_t2
  let v297 : BitVec 32 := Scalar.muli c2_i32_95 arg9
  let v298 : BitVec 32 := Scalar.subi v296 v297
  let c512_i32_96 : BitVec 32 := 512#32
  let v299 : BitVec 32 := Scalar.muli v298 c512_i32_96
  let v300 : BitVec 32 := v299
  let v301 : Index := Scalar.indexCast v300
  let c0_97 : Index := 0#32
  ![v301.toNat, 0]
def k0_off8 (i : grid0.Coords) (k0_t2 : Fin (k0_t2_loop i).trips) (c1_i32_94 : BitVec 32) : Fin 2 → Nat :=
  let arg1 : BitVec 32 := BitVec.ofNat 32 (i 1).val
  let c1_i32 : BitVec 32 := 1#32
  let v19 : BitVec 32 := Scalar.muli arg1 c1_i32
  let v296 : BitVec 32 := Scalar.subi v19 c1_i32_94
  let c2_i32_95 : BitVec 32 := 2#32
  let c0_i32_65 : BitVec 32 := 0#32
  let c0_i32_59 : BitVec 32 := 0#32
  let v231 : BitVec 1 := Scalar.cmpi .sgt v19 c0_i32_59
  let v232 : BitVec 32 := Scalar.extui v231
  let c0_i32_60 : BitVec 32 := 0#32
  let v233 : BitVec 1 := Scalar.cmpi .slt v19 c0_i32_60
  let v234 : BitVec 32 := Scalar.extui v233
  let v235 : BitVec 32 := Scalar.subi v232 v234
  let c2_i32_58 : BitVec 32 := 2#32
  let c0_i32_61 : BitVec 32 := 0#32
  let v236 : BitVec 1 := Scalar.cmpi .sgt c2_i32_58 c0_i32_61
  let v237 : BitVec 32 := Scalar.extui v236
  let c0_i32_62 : BitVec 32 := 0#32
  let v238 : BitVec 1 := Scalar.cmpi .slt c2_i32_58 c0_i32_62
  let v239 : BitVec 32 := Scalar.extui v238
  let v240 : BitVec 32 := Scalar.subi v237 v239
  let v241 : BitVec 1 := Scalar.cmpi .ne v235 v240
  let v242 : BitVec 32 := Scalar.remsi v19 c2_i32_58
  let c0_i32_63 : BitVec 32 := 0#32
  let v243 : BitVec 1 := Scalar.cmpi .ne v242 c0_i32_63
  let v244 : BitVec 1 := Scalar.andi v241 v243
  let v230 : BitVec 32 := Scalar.divsi v19 c2_i32_58
  let c1_i32_64 : BitVec 32 := 1#32
  let v245 : BitVec 32 := Scalar.subi v230 c1_i32_64
  let v246 : BitVec 32 := Scalar.select v244 v245 v230
  let v247 : BitVec 32 := Scalar.subi v246 c0_i32_65
  let c1_i32_66 : BitVec 32 := 1#32
  let v249 : BitVec 32 := Scalar.divsi v247 c1_i32_66
  let v250 : BitVec 32 := Scalar.muli v249 c1_i32_66
  let v251 : BitVec 32 := Scalar.addi c0_i32_65 v250
  let c1_i32_68 : BitVec 32 := 1#32
  let arg9 : BitVec 32 := Scf.iv v251 c1_i32_68 k0_t2
  let v297 : BitVec 32 := Scalar.muli c2_i32_95 arg9
  let v298 : BitVec 32 := Scalar.subi v296 v297
  let c512_i32_96 : BitVec 32 := 512#32
  let v299 : BitVec 32 := Scalar.muli v298 c512_i32_96
  let v300 : BitVec 32 := v299
  let v343 : Index := Scalar.indexCast v300
  let c128_106 : Index := 128#32
  ![v343.toNat, 128]
def k0_mult5 (i : grid0.Coords) (k0_t2 : Fin (k0_t2_loop i).trips) : BitVec 32 :=
  let arg1 : BitVec 32 := BitVec.ofNat 32 (i 1).val
  let c1_i32 : BitVec 32 := 1#32
  let v19 : BitVec 32 := Scalar.muli arg1 c1_i32
  let c2_i32_92 : BitVec 32 := 2#32
  let v293 : BitVec 32 := Scalar.subi v19 c2_i32_92
  let c2_i32_93 : BitVec 32 := 2#32
  let c0_i32_65 : BitVec 32 := 0#32
  let c0_i32_59 : BitVec 32 := 0#32
  let v231 : BitVec 1 := Scalar.cmpi .sgt v19 c0_i32_59
  let v232 : BitVec 32 := Scalar.extui v231
  let c0_i32_60 : BitVec 32 := 0#32
  let v233 : BitVec 1 := Scalar.cmpi .slt v19 c0_i32_60
  let v234 : BitVec 32 := Scalar.extui v233
  let v235 : BitVec 32 := Scalar.subi v232 v234
  let c2_i32_58 : BitVec 32 := 2#32
  let c0_i32_61 : BitVec 32 := 0#32
  let v236 : BitVec 1 := Scalar.cmpi .sgt c2_i32_58 c0_i32_61
  let v237 : BitVec 32 := Scalar.extui v236
  let c0_i32_62 : BitVec 32 := 0#32
  let v238 : BitVec 1 := Scalar.cmpi .slt c2_i32_58 c0_i32_62
  let v239 : BitVec 32 := Scalar.extui v238
  let v240 : BitVec 32 := Scalar.subi v237 v239
  let v241 : BitVec 1 := Scalar.cmpi .ne v235 v240
  let v242 : BitVec 32 := Scalar.remsi v19 c2_i32_58
  let c0_i32_63 : BitVec 32 := 0#32
  let v243 : BitVec 1 := Scalar.cmpi .ne v242 c0_i32_63
  let v244 : BitVec 1 := Scalar.andi v241 v243
  let v230 : BitVec 32 := Scalar.divsi v19 c2_i32_58
  let c1_i32_64 : BitVec 32 := 1#32
  let v245 : BitVec 32 := Scalar.subi v230 c1_i32_64
  let v246 : BitVec 32 := Scalar.select v244 v245 v230
  let v247 : BitVec 32 := Scalar.subi v246 c0_i32_65
  let c1_i32_66 : BitVec 32 := 1#32
  let v249 : BitVec 32 := Scalar.divsi v247 c1_i32_66
  let v250 : BitVec 32 := Scalar.muli v249 c1_i32_66
  let v251 : BitVec 32 := Scalar.addi c0_i32_65 v250
  let c1_i32_68 : BitVec 32 := 1#32
  let arg9 : BitVec 32 := Scf.iv v251 c1_i32_68 k0_t2
  let v294 : BitVec 32 := Scalar.muli c2_i32_93 arg9
  let v295 : BitVec 32 := Scalar.subi v293 v294
  let c512_i32_115 : BitVec 32 := 512#32
  let v385 : BitVec 32 := Scalar.muli v295 c512_i32_115
  v385
def k0_cond1 (i : grid0.Coords) : BitVec 1 :=
  let arg1 : BitVec 32 := BitVec.ofNat 32 (i 1).val
  let c1_i32 : BitVec 32 := 1#32
  let v19 : BitVec 32 := Scalar.muli arg1 c1_i32
  let c2_i32 : BitVec 32 := 2#32
  let c0_i32 : BitVec 32 := 0#32
  let v20 : BitVec 1 := Scalar.cmpi .eq c2_i32 c0_i32
  let c1_i32_7 : BitVec 32 := 1#32
  let v21 : BitVec 32 := Scalar.select v20 c1_i32_7 c2_i32
  let v22 : BitVec 32 := Scalar.remsi v19 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 1 := Scalar.cmpi .eq v29 c1_i32_11
  let v254 : BitVec 32 := Scalar.extui v30
  let c0_i32_69 : BitVec 32 := 0#32
  let v255 : BitVec 1 := Scalar.cmpi .ne v254 c0_i32_69
  v255

def k0_mult6 : BitVec 32 :=
  let c0_i32_92 : BitVec 32 := 0#32
  c0_i32_92
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdRefIdeal.lean ====
abbrev S4096x14336 : Shape := ⟨2, ![4096, 14336]⟩
abbrev S4096x2048 : Shape := ⟨2, ![4096, 2048]⟩
abbrev S4096x16x128 : Shape := ⟨3, ![4096, 16, 128]⟩
abbrev S_ : Shape := ⟨0, ![]⟩
abbrev S16x4096x4096 : Shape := ⟨3, ![16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096 : Shape := ⟨2, ![16, 4096]⟩
abbrev S4096x16 : Shape := ⟨2, ![4096, 16]⟩
abbrev S4096x16x1 : Shape := ⟨3, ![4096, 16, 1]⟩

abbrev nBuf : Space → Nat
  | .hbm => 118
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S4096x14336, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x16x128, .f32⟩
  | .hbm, ⟨7, _⟩ => ⟨S4096x16x128, .f32⟩
  | .hbm, ⟨8, _⟩ => ⟨S4096x16x128, .f32⟩
  | .hbm, ⟨9, _⟩ => ⟨S_, .f32⟩
  | .hbm, ⟨10, _⟩ => ⟨S4096x16x128, .f32⟩
  | .hbm, ⟨11, _⟩ => ⟨S4096x16x128, .f32⟩
  | .hbm, ⟨12, _⟩ => ⟨S16x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S16x4096x4096, .f32⟩
  | .hbm, ⟨25, _⟩ => ⟨S16x4096x4096, .i1⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S_, .f32⟩
  | .hbm, ⟨36, _⟩ => ⟨S_, .f32⟩
  | .hbm, ⟨37, _⟩ => ⟨S16x4096x4096, .i1⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S_, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S_, .f32⟩
  | .hbm, ⟨46, _⟩ => ⟨S16x4096x4096, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S16x4096x4096, .i1⟩
  | .hbm, ⟨51, _⟩ => ⟨S16x4096x4096, .f32⟩
  | .hbm, ⟨52, _⟩ => ⟨S16x4096x4096, .f32⟩
  | .hbm, ⟨53, _⟩ => ⟨S16x4096x4096, .f32⟩
  | .hbm, ⟨54, _⟩ => ⟨S16x4096x4096, .f32⟩
  | .hbm, ⟨55, _⟩ => ⟨S16x4096x4096, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S_, .f32⟩
  | .hbm, ⟨63, _⟩ => ⟨S_, .f32⟩
  | .hbm, ⟨64, _⟩ => ⟨S16x4096x4096, .i1⟩
  | .hbm, ⟨65, _⟩ => ⟨S16x4096x4096, .f32⟩
  | .hbm, ⟨66, _⟩ => ⟨S16x4096x4096, .f32⟩
  | .hbm, ⟨67, _⟩ => ⟨S16x128x4096, .f32⟩
  | .hbm, ⟨68, _⟩ => ⟨S4096x16x128, .f32⟩
  | .hbm, ⟨69, _⟩ => ⟨S4096x2048, .f32⟩
  | .hbm, ⟨70, _⟩ => ⟨S_, .f32⟩
  | .hbm, ⟨71, _⟩ => ⟨S4096x16x128, .f32⟩
  | .hbm, ⟨72, _⟩ => ⟨S4096x16x128, .f32⟩
  | .hbm, ⟨73, _⟩ => ⟨S16x4096x4096, .f32⟩
  | .hbm, ⟨74, _⟩ => ⟨S4096, .i32⟩
  | .hbm, ⟨75, _⟩ => ⟨S1x4096, .i32⟩
  | .hbm, ⟨76, _⟩ => ⟨S4096, .i32⟩
  | .hbm, ⟨77, _⟩ => ⟨S4096x1, .i32⟩
  | .hbm, ⟨78, _⟩ => ⟨S4096x4096, .i32⟩
  | .hbm, ⟨79, _⟩ => ⟨S4096x4096, .i32⟩
  | .hbm, ⟨80, _⟩ => ⟨S4096x4096, .i1⟩
  | .hbm, ⟨81, _⟩ => ⟨S_, .f32⟩
  | .hbm, ⟨82, _⟩ => ⟨S16x4096x4096, .f32⟩
  | .hbm, ⟨83, _⟩ => ⟨S16x4096x4096, .f32⟩
  | .hbm, ⟨84, _⟩ => ⟨S16x4096x4096, .f32⟩
  | .hbm, ⟨85, _⟩ => ⟨S16x4096x4096, .f32⟩
  | .hbm, ⟨86, _⟩ => ⟨S16x4096x4096, .i1⟩
  | .hbm, ⟨87, _⟩ => ⟨S16x4096x4096, .f32⟩
  | .hbm, ⟨88, _⟩ => ⟨S16x4096x4096, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S16x4096x4096, .f32⟩
  | .hbm, ⟨93, _⟩ => ⟨S16x4096x4096, .f32⟩
  | .hbm, ⟨94, _⟩ => ⟨S16x4096x4096, .f32⟩
  | .hbm, ⟨95, _⟩ => ⟨S_, .f32⟩
  | .hbm, ⟨96, _⟩ => ⟨S_, .f32⟩
  | .hbm, ⟨97, _⟩ => ⟨S16x4096x4096, .i1⟩
  | .hbm, ⟨98, _⟩ => ⟨S16x4096x4096, .f32⟩
  | .hbm, ⟨99, _⟩ => ⟨S16x4096x4096, .f32⟩
  | .hbm, ⟨100, _⟩ => ⟨S_, .f32⟩
  | .hbm, ⟨101, _⟩ => ⟨S16x4096, .f32⟩
  | .hbm, ⟨102, _⟩ => ⟨S4096x16, .f32⟩
  | .hbm, ⟨103, _⟩ => ⟨S4096x16x1, .f32⟩
  | .hbm, ⟨104, _⟩ => ⟨S4096x16x128, .f32⟩
  | .hbm, ⟨105, _⟩ => ⟨S4096x2048, .f32⟩
  | .hbm, ⟨106, _⟩ => ⟨S4096x2048, .bf16⟩
  | .hbm, ⟨107, _⟩ => ⟨S4096x2048, .f32⟩
  | .hbm, ⟨108, _⟩ => ⟨S4096x2048, .f32⟩
  | .hbm, ⟨109, _⟩ => ⟨S_, .f32⟩
  | .hbm, ⟨110, _⟩ => ⟨S4096x2048, .f32⟩
  | .hbm, ⟨111, _⟩ => ⟨S4096x2048, .f32⟩
  | .hbm, ⟨112, _⟩ => ⟨S_, .f32⟩
  | .hbm, ⟨113, _⟩ => ⟨S4096x2048, .f32⟩
  | .hbm, ⟨114, _⟩ => ⟨S4096x2048, .f32⟩
  | .hbm, ⟨115, _⟩ => ⟨S4096x2048, .f32⟩
  | .hbm, ⟨116, _⟩ => ⟨S4096x2048, .f32⟩
  | .hbm, ⟨117, _⟩ => ⟨S4096x2048, .bf16⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v20 : Ref sig .tc := ⟨.hbm, 39, rfl⟩
abbrev main_call2_cst : Ref sig .tc := ⟨.hbm, 40, rfl⟩
abbrev main_call2_v0 : Ref sig .tc := ⟨.hbm, 41, rfl⟩
abbrev main_v21 : Ref sig .tc := ⟨.hbm, 42, rfl⟩
abbrev main_v22 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_2 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_call5_cst : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_call5_v5 : Ref sig .tc := ⟨.hbm, 87, rfl⟩
abbrev main_call5_v6 : Ref sig .tc := ⟨.hbm, 88, rfl⟩
abbrev main_call5_v7 : Ref sig .tc := ⟨.hbm, 89, rfl⟩
abbrev main_call5_v8 : Ref sig .tc := ⟨.hbm, 90, rfl⟩
abbrev main_call5_v9 : Ref sig .tc := ⟨.hbm, 91, rfl⟩
abbrev main_call5_v10 : Ref sig .tc := ⟨.hbm, 92, rfl⟩
abbrev main_call5_v11 : Ref sig .tc := ⟨.hbm, 93, rfl⟩
abbrev main_v40 : Ref sig .tc := ⟨.hbm, 94, rfl⟩
abbrev main_cst_3 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_v41 : Ref sig .tc := ⟨.hbm, 99, rfl⟩
abbrev main_cst_4 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_call7_v0 : Ref sig .tc := ⟨.hbm, 107, rfl⟩
abbrev main_call7_v1 : Ref sig .tc := ⟨.hbm, 108, rfl⟩
abbrev main_call7_cst : Ref sig .tc := ⟨.hbm, 109, rfl⟩
abbrev main_call7_v2 : Ref sig .tc := ⟨.hbm, 110, rfl⟩
abbrev main_call7_v3 : Ref sig .tc := ⟨.hbm, 111, rfl⟩
abbrev main_call7_cst_0 : Ref sig .tc := ⟨.hbm, 112, rfl⟩
abbrev main_call7_v4 : Ref sig .tc := ⟨.hbm, 113, rfl⟩
abbrev main_call7_v5 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩

abbrev nD : Nat := 1
abbrev τ : Topo := Topo.v7x

variable {F : FTy → Type} [FloatOps F]
-- ==== ConvFwd.lean ====
abbrev S4096x14336 : Shape := ⟨2, ![4096, 14336]⟩
abbrev S3x1024 : Shape := ⟨2, ![3, 1024]⟩
abbrev S_ : Shape := ⟨0, ![]⟩
abbrev S8x1024 : Shape := ⟨2, ![8, 1024]⟩
abbrev S4096x1024 : Shape := ⟨2, ![4096, 1024]⟩
abbrev S512x256 : Shape := ⟨2, ![512, 256]⟩
abbrev S16x256 : Shape := ⟨2, ![16, 256]⟩
abbrev S8x256 : Shape := ⟨2, ![8, 256]⟩
abbrev S528x256 : Shape := ⟨2, ![528, 256]⟩
abbrev S1x256 : Shape := ⟨2, ![1, 256]⟩

abbrev nBuf : Space → Nat
  | .hbm => 6
  | .vmem => 16
  | .smem => 0
  | _ => 0

abbrev bufTy : (tb : Table) → Fin (tcTables nBuf tb) → BufTy
  | .hbm, ⟨0, _⟩ => ⟨S4096x14336, .bf16⟩
  | .hbm, ⟨1, _⟩ => ⟨S3x1024, .f32⟩
  | .hbm, ⟨2, _⟩ => ⟨S_, .i32⟩
  | .hbm, ⟨3, _⟩ => ⟨S_, .f32⟩
  | .hbm, ⟨4, _⟩ => ⟨S8x1024, .f32⟩
  | .hbm, ⟨5, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S16x256, .bf16⟩
  | .local _ .vmem, ⟨3, _⟩ => ⟨S16x256, .bf16⟩
  | .local _ .vmem, ⟨4, _⟩ => ⟨S512x256, .bf16⟩
  | .local _ .vmem, ⟨5, _⟩ => ⟨S512x256, .bf16⟩
  | .local _ .vmem, ⟨6, _⟩ => ⟨S16x256, .bf16⟩
  | .local _ .vmem, ⟨7, _⟩ => ⟨S16x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S8x256, .f32⟩
  | .local _ .vmem, ⟨13, _⟩ => ⟨S8x256, .f32⟩
  | .local _ .vmem, ⟨14, _⟩ => ⟨S512x256, .bf16⟩
  | .local _ .vmem, ⟨15, _⟩ => ⟨S512x256, .bf16⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c40_i32 : BitVec 32 := 40#32
  let v3 : BitVec 32 := Scalar.addi c40_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c48_i32 : BitVec 32 := 48#32
  let v3 : BitVec 32 := Scalar.addi c48_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ConvFwdRefIdeal.lean ====
abbrev S4096x14336 : Shape := ⟨2, ![4096, 14336]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S3x1024, .f32⟩
  | .hbm, ⟨2, _⟩ => ⟨S4096x1024, .bf16⟩
  | .hbm, ⟨3, _⟩ => ⟨S4096x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S2x1024, .f32⟩
  | .hbm, ⟨13, _⟩ => ⟨S4098x1024, .f32⟩
  | .hbm, ⟨14, _⟩ => ⟨S1x1024, .f32⟩
  | .hbm, ⟨15, _⟩ => ⟨S1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== PoolFwd.lean ====
abbrev S4096x14336 : Shape := ⟨2, ![4096, 14336]⟩
abbrev S4x256x256 : Shape := ⟨3, ![4, 256, 256]⟩
abbrev S1024 : Shape := ⟨1, ![1024]⟩
abbrev S1x1024 : Shape := ⟨2, ![1, 1024]⟩
abbrev S4096x1024 : Shape := ⟨2, ![4096, 1024]⟩
abbrev S512x256 : Shape := ⟨2, ![512, 256]⟩
abbrev S16x256 : Shape := ⟨2, ![16, 256]⟩
abbrev S1x256x256 : Shape := ⟨3, ![1, 256, 256]⟩
abbrev S1x256 : Shape := ⟨2, ![1, 256]⟩
abbrev S528x256 : Shape := ⟨2, ![528, 256]⟩
abbrev S256x256 : Shape := ⟨2, ![256, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x14336, .bf16⟩
  | .hbm, ⟨1, _⟩ => ⟨S4x256x256, .f32⟩
  | .hbm, ⟨2, _⟩ => ⟨S1024, .f32⟩
  | .hbm, ⟨3, _⟩ => ⟨S4x256x256, .bf16⟩
  | .hbm, ⟨4, _⟩ => ⟨S1x1024, .f32⟩
  | .hbm, ⟨5, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S16x256, .bf16⟩
  | .local _ .vmem, ⟨3, _⟩ => ⟨S16x256, .bf16⟩
  | .local _ .vmem, ⟨4, _⟩ => ⟨S512x256, .bf16⟩
  | .local _ .vmem, ⟨5, _⟩ => ⟨S512x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256, .f32⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PoolFwdRefIdeal.lean ====
abbrev S4096x14336 : Shape := ⟨2, ![4096, 14336]⟩
abbrev S4x256x256 : Shape := ⟨3, ![4, 256, 256]⟩
abbrev S1024 : Shape := ⟨1, ![1024]⟩
abbrev S4096x1024 : Shape := ⟨2, ![4096, 1024]⟩
abbrev S4096x4x256 : Shape := ⟨3, ![4096, 4, 256]⟩
abbrev S_ : Shape := ⟨0, ![]⟩
abbrev S1x4x256 : Shape := ⟨3, ![1, 4, 256]⟩
abbrev S4097x4x256 : Shape := ⟨3, ![4097, 4, 256]⟩
abbrev S4096 : Shape := ⟨1, ![4096]⟩
abbrev S4096x1x256 : Shape := ⟨3, ![4096, 1, 256]⟩
abbrev S4096x256 : Shape := ⟨2, ![4096, 256]⟩
abbrev S4096x1 : Shape := ⟨2, ![4096, 1]⟩
abbrev S4096x2 : Shape := ⟨2, ![4096, 2]⟩
abbrev S4x256x4096 : Shape := ⟨3, ![4, 256, 4096]⟩
abbrev S1x1024 : Shape := ⟨2, ![1, 1024]⟩

abbrev nBuf : Space → Nat
  | .hbm => 174
  | .vmem => 0
  | .smem => 0
  | _ => 0

abbrev hbmTy0_0 (i : Nat) : BufTy := match i % 128 with
  | 0 => ⟨S4096x14336, .bf16⟩
  | 1 => ⟨S4x256x256, .f32⟩
  | 2 => ⟨S1024, .f32⟩
  | 3 => ⟨S4096x1024, .bf16⟩
  | 4 => ⟨S4096x1024, .f32⟩
  | 5 => ⟨S4096x1024, .bf16⟩
  | 6 => ⟨S4096x1024, .f32⟩
  | 7 => ⟨S4096x4x256, .f32⟩
  | 8 => ⟨S_, .f32⟩
  | 9 => ⟨S1x4x256, .f32⟩
  | 10 => ⟨S_, .f32⟩
  | 11 => ⟨S_, .f32⟩
  | 12 => ⟨S4096x4x256, .f32⟩
  | 13 => ⟨S4097x4x256, .f32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .i32⟩
  | 28 => ⟨S4096, .f32⟩
  | 29 => ⟨S4096x1x256, .f32⟩
  | 30 => ⟨S4096x256, .f32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S_, .i32⟩
  | 39 => ⟨S4096, .i32⟩
  | 40 => ⟨S4096, .i32⟩
  | 41 => ⟨S4096x1, .i32⟩
  | 42 => ⟨S4096x1, .i32⟩
  | 43 => ⟨S4096x2, .i32⟩
  | 44 => ⟨S4096x256, .f32⟩
  | 45 => ⟨S4096x256, .f32⟩
  | 46 => ⟨S4096x1, .f32⟩
  | 47 => ⟨S4096x256, .f32⟩
  | 48 => ⟨S4096x256, .f32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096, .i32⟩
  | 62 => ⟨S4096, .f32⟩
  | 63 => ⟨S4096x1x256, .f32⟩
  | 64 => ⟨S4096x256, .f32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S_, .i32⟩
  | 73 => ⟨S4096, .i32⟩
  | 74 => ⟨S4096, .i32⟩
  | 75 => ⟨S4096x1, .i32⟩
  | 76 => ⟨S4096x1, .i32⟩
  | 77 => ⟨S4096x2, .i32⟩
  | 78 => ⟨S4096x256, .f32⟩
  | 79 => ⟨S4096x256, .f32⟩
  | 80 => ⟨S4096x1, .f32⟩
  | 81 => ⟨S4096x256, .f32⟩
  | 82 => ⟨S4096x256, .f32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S_, .i32⟩
  | 93 => ⟨S4096, .i32⟩
  | 94 => ⟨S4096, .i32⟩
  | 95 => ⟨S4096, .i32⟩
  | 96 => ⟨S4096, .f32⟩
  | 97 => ⟨S4096x1x256, .f32⟩
  | 98 => ⟨S4096x256, .f32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S_, .i32⟩
  | 107 => ⟨S4096, .i32⟩
  | 108 => ⟨S4096, .i32⟩
  | 109 => ⟨S4096x1, .i32⟩
  | 110 => ⟨S4096x1, .i32⟩
  | 111 => ⟨S4096x2, .i32⟩
  | 112 => ⟨S4096x256, .f32⟩
  | 113 => ⟨S4096x256, .f32⟩
  | 114 => ⟨S4096x1, .f32⟩
  | 115 => ⟨S4096x256, .f32⟩
  | 116 => ⟨S4096x256, .f32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S_, .i32⟩
  | 127 => ⟨S4096, .i32⟩
  | _ => ⟨S4096x14336, .bf16⟩

abbrev hbmTy0_1 (i : Nat) : BufTy := match i % 128 with
  | 0 => ⟨S4096, .i32⟩
  | 1 => ⟨S4096, .i32⟩
  | 2 => ⟨S4096, .f32⟩
  | 3 => ⟨S4096x1x256, .f32⟩
  | 4 => ⟨S4096x256, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S_, .i32⟩
  | 13 => ⟨S4096, .i32⟩
  | 14 => ⟨S4096, .i32⟩
  | 15 => ⟨S4096x1, .i32⟩
  | 16 => ⟨S4096x1, .i32⟩
  | 17 => ⟨S4096x2, .i32⟩
  | 18 => ⟨S4096x256, .f32⟩
  | 19 => ⟨S4096x256, .f32⟩
  | 20 => ⟨S4096x1, .f32⟩
  | 21 => ⟨S4096x256, .f32⟩
  | 22 => ⟨S4096x256, .f32⟩
  | 23 => ⟨S4096x1x256, .f32⟩
  | 24 => ⟨S4096x1x256, .f32⟩
  | 25 => ⟨S4096x1x256, .f32⟩
  | 26 => ⟨S4096x1x256, .f32⟩
  | 27 => ⟨S4096x4x256, .f32⟩
  | 28 => ⟨S4096x4x256, .f32⟩
  | 29 => ⟨S4x256x4096, .f32⟩
  | 30 => ⟨S4096x4x256, .f32⟩
  | 31 => ⟨S4096x1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S4096x1024, .f32⟩
  | 44 => ⟨S4096x1024, .f32⟩
  | 45 => ⟨S4096x1024, .bf16⟩
  | _ => ⟨S4096x14336, .bf16⟩

abbrev hbmTy (i : Nat) : BufTy := match i / 128 with
  | 0 => hbmTy0_0 i
  | 1 => hbmTy0_1 i
  | _ => ⟨S4096x14336, .bf16⟩

abbrev bufTy : (tb : Table) → Fin (tcTables nBuf tb) → BufTy
  | .hbm, ⟨i, _⟩ => hbmTy i
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_call0_call0_cst : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_c_8 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_c_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_13 : Ref sig .tc := ⟨.hbm, 83, rfl⟩
abbrev main_v63 : Ref sig .tc := ⟨.hbm, 84, rfl⟩
abbrev main_v64 : Ref sig .tc := ⟨.hbm, 85, rfl⟩
abbrev main_c_14 : Ref sig .tc := ⟨.hbm, 86, rfl⟩
abbrev main_v65 : Ref sig .tc := ⟨.hbm, 87, rfl⟩
abbrev main_v66 : Ref sig .tc := ⟨.hbm, 88, rfl⟩
abbrev main_c_15 : Ref sig .tc := ⟨.hbm, 89, rfl⟩
abbrev main_v67 : Ref sig .tc := ⟨.hbm, 90, rfl⟩
abbrev main_v68 : Ref sig .tc := ⟨.hbm, 91, rfl⟩
abbrev main_c_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_17 : Ref sig .tc := ⟨.hbm, 99, rfl⟩
abbrev main_v75 : Ref sig .tc := ⟨.hbm, 100, rfl⟩
abbrev main_v76 : Ref sig .tc := ⟨.hbm, 101, rfl⟩
abbrev main_c_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_19 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_20 : Ref sig .tc := ⟨.hbm, 117, rfl⟩
abbrev main_v90 : Ref sig .tc := ⟨.hbm, 118, rfl⟩
abbrev main_v91 : Ref sig .tc := ⟨.hbm, 119, rfl⟩
abbrev main_c_21 : Ref sig .tc := ⟨.hbm, 120, rfl⟩
abbrev main_v92 : Ref sig .tc := ⟨.hbm, 121, rfl⟩
abbrev main_v93 : Ref sig .tc := ⟨.hbm, 122, rfl⟩
abbrev main_c_22 : Ref sig .tc := ⟨.hbm, 123, rfl⟩
abbrev main_v94 : Ref sig .tc := ⟨.hbm, 124, rfl⟩
abbrev main_v95 : Ref sig .tc := ⟨.hbm, 125, rfl⟩
abbrev main_c_23 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_24 : Ref sig .tc := ⟨.hbm, 133, rfl⟩
abbrev main_v102 : Ref sig .tc := ⟨.hbm, 134, rfl⟩
abbrev main_v103 : Ref sig .tc := ⟨.hbm, 135, rfl⟩
abbrev main_c_25 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_c_26 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_call1_v0 : Ref sig .tc := ⟨.hbm, 163, rfl⟩
abbrev main_call1_v1 : Ref sig .tc := ⟨.hbm, 164, rfl⟩
abbrev main_call1_cst : Ref sig .tc := ⟨.hbm, 165, rfl⟩
abbrev main_call1_v2 : Ref sig .tc := ⟨.hbm, 166, rfl⟩
abbrev main_call1_v3 : Ref sig .tc := ⟨.hbm, 167, rfl⟩
abbrev main_call1_cst_0 : Ref sig .tc := ⟨.hbm, 168, rfl⟩
abbrev main_call1_v4 : Ref sig .tc := ⟨.hbm, 169, rfl⟩
abbrev main_call1_v5 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩

abbrev nD : Nat := 1
abbrev τ : Topo := Topo.v7x

variable {F : FTy → Type} [FloatOps F]
-- ==== MergeFwd.lean ====
abbrev S4096x6144 : Shape := ⟨2, ![4096, 6144]⟩
abbrev S1x6144 : Shape := ⟨2, ![1, 6144]⟩
abbrev S4096x2048 : Shape := ⟨2, ![4096, 2048]⟩
abbrev S512x512 : Shape := ⟨2, ![512, 512]⟩

abbrev nBuf : Space → Nat
  | .hbm => 8
  | .vmem => 14
  | .smem => 0
  | _ => 0

abbrev bufTy : (tb : Table) → Fin (tcTables nBuf tb) → BufTy
  | .hbm, ⟨0, _⟩ => ⟨S4096x6144, .f32⟩
  | .hbm, ⟨1, _⟩ => ⟨S1x6144, .f32⟩
  | .hbm, ⟨2, _⟩ => ⟨S4096x6144, .f32⟩
  | .hbm, ⟨3, _⟩ => ⟨S4096x6144, .f32⟩
  | .hbm, ⟨4, _⟩ => ⟨S4096x6144, .f32⟩
  | .hbm, ⟨5, _⟩ => ⟨S4096x6144, .bf16⟩
  | .hbm, ⟨6, _⟩ => ⟨S4096x6144, .bf16⟩
  | .hbm, ⟨7, _⟩ => ⟨S4096x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeFwdRefIdeal.lean ====
abbrev S4096x6144 : Shape := ⟨2, ![4096, 6144]⟩
abbrev S1x6144 : Shape := ⟨2, ![1, 6144]⟩
abbrev S_ : Shape := ⟨0, ![]⟩
abbrev S4096x3x2048 : Shape := ⟨3, ![4096, 3, 2048]⟩
abbrev S4096x1x2048 : Shape := ⟨3, ![4096, 1, 2048]⟩
abbrev S4096x2048 : Shape := ⟨2, ![4096, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S1x6144, .f32⟩
  | .hbm, ⟨2, _⟩ => ⟨S4096x6144, .f32⟩
  | .hbm, ⟨3, _⟩ => ⟨S4096x6144, .f32⟩
  | .hbm, ⟨4, _⟩ => ⟨S4096x6144, .f32⟩
  | .hbm, ⟨5, _⟩ => ⟨S4096x6144, .f32⟩
  | .hbm, ⟨6, _⟩ => ⟨S4096x6144, .f32⟩
  | .hbm, ⟨7, _⟩ => ⟨S_, .f32⟩
  | .hbm, ⟨8, _⟩ => ⟨S4096x6144, .f32⟩
  | .hbm, ⟨9, _⟩ => ⟨S4096x6144, .f32⟩
  | .hbm, ⟨10, _⟩ => ⟨S_, .f32⟩
  | .hbm, ⟨11, _⟩ => ⟨S4096x6144, .f32⟩
  | .hbm, ⟨12, _⟩ => ⟨S4096x6144, .f32⟩
  | .hbm, ⟨13, _⟩ => ⟨S4096x3x2048, .f32⟩
  | .hbm, ⟨14, _⟩ => ⟨S4096x3x2048, .f32⟩
  | .hbm, ⟨15, _⟩ => ⟨S4096x1x2048, .f32⟩
  | .hbm, ⟨16, _⟩ => ⟨S4096x2048, .f32⟩
  | .hbm, ⟨17, _⟩ => ⟨S4096x1x2048, .f32⟩
  | .hbm, ⟨18, _⟩ => ⟨S4096x2048, .f32⟩
  | .hbm, ⟨19, _⟩ => ⟨S4096x2048, .f32⟩
  | .hbm, ⟨20, _⟩ => ⟨S4096x1x2048, .f32⟩
  | .hbm, ⟨21, _⟩ => ⟨S4096x2048, .f32⟩
  | .hbm, ⟨22, _⟩ => ⟨S4096x1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x1x2048, .f32⟩
  | .hbm, ⟨27, _⟩ => ⟨S4096x2048, .f32⟩
  | .hbm, ⟨28, _⟩ => ⟨S4096x1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== PrenormFwd.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrenormFwdRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== OutFwd.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S4096x2048, .f32⟩
  | .hbm, ⟨7, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdRefIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InProj.lean ====
abbrev S4096x2048 : Shape := ⟨2, ![4096, 2048]⟩
abbrev S2048x14336 : Shape := ⟨2, ![2048, 14336]⟩
abbrev S2048x8x1792 : Shape := ⟨3, ![2048, 8, 1792]⟩
abbrev S8x2048x1792 : Shape := ⟨3, ![8, 2048, 1792]⟩
abbrev S4096x14336 : Shape := ⟨2, ![4096, 14336]⟩
abbrev S512x2048 : Shape := ⟨2, ![512, 2048]⟩
abbrev S1x2048x1792 : Shape := ⟨3, ![1, 2048, 1792]⟩
abbrev S512x1792 : Shape := ⟨2, ![512, 1792]⟩
abbrev S2048x1792 : Shape := ⟨2, ![2048, 1792]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .f32⟩
  | .hbm, ⟨2, _⟩ => ⟨S2048x14336, .bf16⟩
  | .hbm, ⟨3, _⟩ => ⟨S2048x8x1792, .bf16⟩
  | .hbm, ⟨4, _⟩ => ⟨S8x2048x1792, .bf16⟩
  | .hbm, ⟨5, _⟩ => ⟨S4096x14336, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S512x1792, .bf16⟩
  | .local _ .vmem, ⟨5, _⟩ => ⟨S512x1792, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4096x2048 : Shape := ⟨2, ![4096, 2048]⟩
abbrev S2048x14336 : Shape := ⟨2, ![2048, 14336]⟩
abbrev S4096x14336 : Shape := ⟨2, ![4096, 14336]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .f32⟩
  | .hbm, ⟨2, _⟩ => ⟨S4096x2048, .f32⟩
  | .hbm, ⟨3, _⟩ => ⟨S4096x14336, .f32⟩
  | .hbm, ⟨4, _⟩ => ⟨S4096x14336, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergedGrad.lean ====
abbrev S4096x2048 : Shape := ⟨2, ![4096, 2048]⟩
abbrev S2048x2048 : Shape := ⟨2, ![2048, 2048]⟩
abbrev S1x2048x2048 : Shape := ⟨3, ![1, 2048, 2048]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S1x2048x2048, .bf16⟩
  | .hbm, ⟨4, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_7 : BitVec 32 := 0#32
  let v10 : BitVec 1 := Scalar.cmpi .eq arg1 c0_i32_7
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MergedGradRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjGrad.lean ====
abbrev S4096x2048 : Shape := ⟨2, ![4096, 2048]⟩
abbrev S4096x14336 : Shape := ⟨2, ![4096, 14336]⟩
abbrev S8x2048x1792 : Shape := ⟨3, ![8, 2048, 1792]⟩
abbrev S1024x1024 : Shape := ⟨2, ![1024, 1024]⟩
abbrev S1024x1792 : Shape := ⟨2, ![1024, 1792]⟩
abbrev S1x1024x1792 : Shape := ⟨3, ![1, 1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S8x2048x1792, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1024x1792, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjGradRefIdeal.lean ====
abbrev S4096x2048 : Shape := ⟨2, ![4096, 2048]⟩
abbrev S4096x14336 : Shape := ⟨2, ![4096, 14336]⟩
abbrev S2048x4096 : Shape := ⟨2, ![2048, 4096]⟩
abbrev S2048x14336 : Shape := ⟨2, ![2048, 14336]⟩
abbrev S2048x8x1792 : Shape := ⟨3, ![2048, 8, 1792]⟩
abbrev S8x2048x1792 : Shape := ⟨3, ![8, 2048, 1792]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S4096x2048, .f32⟩
  | .hbm, ⟨3, _⟩ => ⟨S2048x4096, .f32⟩
  | .hbm, ⟨4, _⟩ => ⟨S4096x14336, .f32⟩
  | .hbm, ⟨5, _⟩ => ⟨S2048x14336, .f32⟩
  | .hbm, ⟨6, _⟩ => ⟨S2048x14336, .bf16⟩
  | .hbm, ⟨7, _⟩ => ⟨S2048x8x1792, .bf16⟩
  | .hbm, ⟨8, _⟩ => ⟨S8x2048x1792, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== RowsGrad.lean ====
abbrev S4096x14336 : Shape := ⟨2, ![4096, 14336]⟩
abbrev S2048x14336 : Shape := ⟨2, ![2048, 14336]⟩
abbrev S4096x6144 : Shape := ⟨2, ![4096, 6144]⟩
abbrev S2048x6144 : Shape := ⟨2, ![2048, 6144]⟩
abbrev S2048x8x1792 : Shape := ⟨3, ![2048, 8, 1792]⟩
abbrev S8x2048x1792 : Shape := ⟨3, ![8, 2048, 1792]⟩
abbrev S2048x8x768 : Shape := ⟨3, ![2048, 8, 768]⟩
abbrev S8x2048x768 : Shape := ⟨3, ![8, 2048, 768]⟩
abbrev S4096x2048 : Shape := ⟨2, ![4096, 2048]⟩
abbrev S512x1792 : Shape := ⟨2, ![512, 1792]⟩
abbrev S1x2048x1792 : Shape := ⟨3, ![1, 2048, 1792]⟩
abbrev S512x768 : Shape := ⟨2, ![512, 768]⟩
abbrev S1x2048x768 : Shape := ⟨3, ![1, 2048, 768]⟩
abbrev S512x2048 : Shape := ⟨2, ![512, 2048]⟩
abbrev S2048x1792 : Shape := ⟨2, ![2048, 1792]⟩
abbrev S2048x768 : Shape := ⟨2, ![2048, 768]⟩

abbrev nBuf : Space → Nat
  | .hbm => 11
  | .vmem => 10
  | .smem => 0
  | _ => 0

abbrev bufTy : (tb : Table) → Fin (tcTables nBuf tb) → BufTy
  | .hbm, ⟨0, _⟩ => ⟨S4096x14336, .bf16⟩
  | .hbm, ⟨1, _⟩ => ⟨S2048x14336, .f32⟩
  | .hbm, ⟨2, _⟩ => ⟨S4096x6144, .bf16⟩
  | .hbm, ⟨3, _⟩ => ⟨S2048x6144, .f32⟩
  | .hbm, ⟨4, _⟩ => ⟨S2048x14336, .bf16⟩
  | .hbm, ⟨5, _⟩ => ⟨S2048x8x1792, .bf16⟩
  | .hbm, ⟨6, _⟩ => ⟨S8x2048x1792, .bf16⟩
  | .hbm, ⟨7, _⟩ => ⟨S2048x6144, .bf16⟩
  | .hbm, ⟨8, _⟩ => ⟨S2048x8x768, .bf16⟩
  | .hbm, ⟨9, _⟩ => ⟨S8x2048x768, .bf16⟩
  | .hbm, ⟨10, _⟩ => ⟨S4096x2048, .f32⟩
  | .local _ .vmem, ⟨0, _⟩ => ⟨S512x1792, .bf16⟩
  | .local _ .vmem, ⟨1, _⟩ => ⟨S512x1792, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S512x768, .bf16⟩
  | .local _ .vmem, ⟨5, _⟩ => ⟨S512x768, .bf16⟩
  | .local _ .vmem, ⟨6, _⟩ => ⟨S1x2048x768, .bf16⟩
  | .local _ .vmem, ⟨7, _⟩ => ⟨S1x2048x768, .bf16⟩
  | .local _ .vmem, ⟨8, _⟩ => ⟨S512x2048, .f32⟩
  | .local _ .vmem, ⟨9, _⟩ => ⟨S512x2048, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c8_i32 : BitVec 32 := 8#32
  let v4 : BitVec 1 := Scalar.cmpi .slt arg1 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c8_i32_3 : BitVec 32 := 8#32
  let v8 : BitVec 1 := Scalar.cmpi .sge arg1 c8_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RowsGradRefIdeal.lean ====
abbrev S4096x14336 : Shape := ⟨2, ![4096, 14336]⟩
abbrev S2048x14336 : Shape := ⟨2, ![2048, 14336]⟩
abbrev S4096x6144 : Shape := ⟨2, ![4096, 6144]⟩
abbrev S2048x6144 : Shape := ⟨2, ![2048, 6144]⟩
abbrev S14336x2048 : Shape := ⟨2, ![14336, 2048]⟩
abbrev S4096x2048 : Shape := ⟨2, ![4096, 2048]⟩
abbrev S6144x2048 : Shape := ⟨2, ![6144, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S2048x14336, .f32⟩
  | .hbm, ⟨2, _⟩ => ⟨S4096x6144, .bf16⟩
  | .hbm, ⟨3, _⟩ => ⟨S2048x6144, .f32⟩
  | .hbm, ⟨4, _⟩ => ⟨S4096x14336, .f32⟩
  | .hbm, ⟨5, _⟩ => ⟨S14336x2048, .f32⟩
  | .hbm, ⟨6, _⟩ => ⟨S4096x2048, .f32⟩
  | .hbm, ⟨7, _⟩ => ⟨S4096x6144, .f32⟩
  | .hbm, ⟨8, _⟩ => ⟨S6144x2048, .f32⟩
  | .hbm, ⟨9, _⟩ => ⟨S4096x2048, .f32⟩
  | .hbm, ⟨10, _⟩ => ⟨S4096x2048, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AdaBwd.lean ====
abbrev S8x2048 : Shape := ⟨2, ![8, 2048]⟩
abbrev S2x8x768 : Shape := ⟨3, ![2, 8, 768]⟩
abbrev S2x2048x768 : Shape := ⟨3, ![2, 2048, 768]⟩
abbrev S1x8x768 : Shape := ⟨3, ![1, 8, 768]⟩
abbrev S8x768 : Shape := ⟨2, ![8, 768]⟩
abbrev S2048x768 : Shape := ⟨2, ![2048, 768]⟩
abbrev S1x2048x768 : Shape := ⟨3, ![1, 2048, 768]⟩

abbrev nBuf : Space → Nat
  | .hbm => 3
  | .vmem => 3
  | .smem => 0
  | _ => 0

abbrev bufTy : (tb : Table) → Fin (tcTables nBuf tb) → BufTy
  | .hbm, ⟨0, _⟩ => ⟨S8x2048, .f32⟩
  | .hbm, ⟨1, _⟩ => ⟨S2x8x768, .f32⟩
  | .hbm, ⟨2, _⟩ => ⟨S2x2048x768, .f32⟩
  | .local _ .vmem, ⟨0, _⟩ => ⟨S8x2048, .f32⟩
  | .local _ .vmem, ⟨1, _⟩ => ⟨S2x8x768, .f32⟩
  | .local _ .vmem, ⟨2, _⟩ => ⟨S2x2048x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaBwdRefIdeal.lean ====
abbrev S8x2048 : Shape := ⟨2, ![8, 2048]⟩
abbrev S2x8x768 : Shape := ⟨3, ![2, 8, 768]⟩
abbrev S2x768x2048 : Shape := ⟨3, ![2, 768, 2048]⟩
abbrev S2x2048x768 : Shape := ⟨3, ![2, 2048, 768]⟩

abbrev nBuf : Space → Nat
  | .hbm => 4
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x8x768, .f32⟩
  | .hbm, ⟨2, _⟩ => ⟨S2x768x2048, .f32⟩
  | .hbm, ⟨3, _⟩ => ⟨S2x2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adam.lean ====
abbrev S1x304x128 : Shape := ⟨3, ![1, 304, 128]⟩
abbrev S8x304x128 : Shape := ⟨3, ![8, 304, 128]⟩
abbrev S304x128 : Shape := ⟨2, ![304, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x304x128, .f32⟩
  | .hbm, ⟨1, _⟩ => ⟨S1x304x128, .f32⟩
  | .hbm, ⟨2, _⟩ => ⟨S1x304x128, .f32⟩
  | .hbm, ⟨3, _⟩ => ⟨S8x304x128, .f32⟩
  | .hbm, ⟨4, _⟩ => ⟨S1x304x128, .f32⟩
  | .hbm, ⟨5, _⟩ => ⟨S1x304x128, .f32⟩
  | .hbm, ⟨6, _⟩ => ⟨S1x304x128, .f32⟩
  | .hbm, ⟨7, _⟩ => ⟨S1x304x128, .f32⟩
  | .local _ .vmem, ⟨0, _⟩ => ⟨S1x304x128, .f32⟩
  | .local _ .vmem, ⟨1, _⟩ => ⟨S1x304x128, .f32⟩
  | .local _ .vmem, ⟨2, _⟩ => ⟨S1x304x128, .f32⟩
  | .local _ .vmem, ⟨3, _⟩ => ⟨S8x304x128, .f32⟩
  | .local _ .vmem, ⟨4, _⟩ => ⟨S1x304x128, .f32⟩
  | .local _ .vmem, ⟨5, _⟩ => ⟨S1x304x128, .f32⟩
  | .local _ .vmem, ⟨6, _⟩ => ⟨S1x304x128, .f32⟩
  | .local _ .vmem, ⟨7, _⟩ => ⟨S1x304x128, .f32⟩
  | _, _ => ⟨S1x304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x304x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x304x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x304x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x304x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x304x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x304x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x304x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRefIdeal.lean ====
abbrev S1x304x128 : Shape := ⟨3, ![1, 304, 128]⟩
abbrev S8x304x128 : Shape := ⟨3, ![8, 304, 128]⟩
abbrev S_ : Shape := ⟨0, ![]⟩
abbrev S304x128 : Shape := ⟨2, ![304, 128]⟩

abbrev nBuf : Space → Nat
  | .hbm => 40
  | .vmem => 0
  | .smem => 0
  | _ => 0

abbrev bufTy : (tb : Table) → Fin (tcTables nBuf tb) → BufTy
  | .hbm, ⟨0, _⟩ => ⟨S1x304x128, .f32⟩
  | .hbm, ⟨1, _⟩ => ⟨S1x304x128, .f32⟩
  | .hbm, ⟨2, _⟩ => ⟨S1x304x128, .f32⟩
  | .hbm, ⟨3, _⟩ => ⟨S8x304x128, .f32⟩
  | .hbm, ⟨4, _⟩ => ⟨S_, .f32⟩
  | .hbm, ⟨5, _⟩ => ⟨S304x128, .f32⟩
  | .hbm, ⟨6, _⟩ => ⟨S1x304x128, .f32⟩
  | .hbm, ⟨7, _⟩ => ⟨S_, .f32⟩
  | .hbm, ⟨8, _⟩ => ⟨S1x304x128, .f32⟩
  | .hbm, ⟨9, _⟩ => ⟨S1x304x128, .f32⟩
  | .hbm, ⟨10, _⟩ => ⟨S_, .f32⟩
  | .hbm, ⟨11, _⟩ => ⟨S1x304x128, .f32⟩
  | .hbm, ⟨12, _⟩ => ⟨S1x304x128, .f32⟩
  | .hbm, ⟨13, _⟩ => ⟨S1x304x128, .f32⟩
  | .hbm, ⟨14, _⟩ => ⟨S_, .f32⟩
  | .hbm, ⟨15, _⟩ => ⟨S1x304x128, .f32⟩
  | .hbm, ⟨16, _⟩ => ⟨S1x304x128, .f32⟩
  | .hbm, ⟨17, _⟩ => ⟨S1x304x128, .f32⟩
  | .hbm, ⟨18, _⟩ => ⟨S_, .f32⟩
  | .hbm, ⟨19, _⟩ => ⟨S1x304x128, .f32⟩
  | .hbm, ⟨20, _⟩ => ⟨S1x304x128, .f32⟩
  | .hbm, ⟨21, _⟩ => ⟨S1x304x128, .f32⟩
  | .hbm, ⟨22, _⟩ => ⟨S_, .f32⟩
  | .hbm, ⟨23, _⟩ => ⟨S1x304x128, .f32⟩
  | .hbm, ⟨24, _⟩ => ⟨S1x304x128, .f32⟩
  | .hbm, ⟨25, _⟩ => ⟨S_, .f32⟩
  | .hbm, ⟨26, _⟩ => ⟨S1x304x128, .f32⟩
  | .hbm, ⟨27, _⟩ => ⟨S1x304x128, .f32⟩
  | .hbm, ⟨28, _⟩ => ⟨S1x304x128, .f32⟩
  | .hbm, ⟨29, _⟩ => ⟨S_, .f32⟩
  | .hbm, ⟨30, _⟩ => ⟨S1x304x128, .f32⟩
  | .hbm, ⟨31, _⟩ => ⟨S1x304x128, .f32⟩
  | .hbm, ⟨32, _⟩ => ⟨S1x304x128, .f32⟩
  | .hbm, ⟨33, _⟩ => ⟨S_, .f32⟩
  | .hbm, ⟨34, _⟩ => ⟨S1x304x128, .f32⟩
  | .hbm, ⟨35, _⟩ => ⟨S1x304x128, .f32⟩
  | .hbm, ⟨36, _⟩ => ⟨S1x304x128, .f32⟩
  | .hbm, ⟨37, _⟩ => ⟨S_, .f32⟩
  | .hbm, ⟨38, _⟩ => ⟨S1x304x128, .f32⟩
  | .hbm, ⟨39, _⟩ => ⟨S1x304x128, .f32⟩
  | _, _ => ⟨S1x304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Common.lean ====
module

public import Idealize.ShloMosaic.Lib.Pointwise
public import Idealize.ShloMosaic.Lib.ValueIdx
public import Idealize.ShloMosaic.Lib.Tactic
public import Idealize.ShloMosaic.Lib.Pipeline.Value

@[expose] public section

namespace Cert.Common

open Idealize.ShloMosaic

/-- Offsets `![0, 0]` are the zero offsets. -/
theorem hz : (![0, 0] : Fin 2 → Nat) = fun _ => 0 := funext fun a => by fin_cases a <;> rfl

/-- A family over `Fin n` continued by zero to all natural numbers. -/
def ext {M : Type*} [Zero M] {n : Nat} (f : Fin n → M) (k : Nat) : M := if h : k < n then f ⟨k, h⟩ else 0

theorem ext_of_lt {M : Type*} [Zero M] {n : Nat} (f : Fin n → M) {k : Nat} (h : k < n) : ext f k = f ⟨k, h⟩ := dif_pos h

theorem sum_ext {M : Type*} [AddCommMonoid M] {n : Nat} (f : Fin n → M) : ∑ k ∈ Finset.range n, ext f k = ∑ k, f k := by
  rw [Finset.sum_range]
  exact Finset.sum_congr rfl fun k _ => ext_of_lt f k.isLt

/-- A sum over the first `a * b` naturals, block by block. -/
theorem sum_blocks {M : Type*} [AddCommMonoid M] (F : Nat → M) (b : Nat) :
    ∀ a : Nat, ∑ k ∈ Finset.range (b * a), F k = ∑ s ∈ Finset.range a, ∑ r : Fin b, F (b * s + r)
  | 0 => by simp
  | a + 1 => by
    rw [Nat.mul_succ, Finset.sum_range_add, sum_blocks F b a, Finset.sum_range_succ]
    exact congrArg _ (Finset.sum_range fun r => F (b * a + r))

/-- A sum over `Fin n` is the sum of its blocks of `b`. -/
theorem sum_tiles {M : Type*} [AddCommMonoid M] {n : Nat} (f : Fin n → M) (a b : Nat) (h : b * a = n) :
    ∑ s ∈ Finset.range a, ∑ r : Fin b, ext f (b * s + r) = ∑ k, f k := by
  rw [← sum_blocks, h, sum_ext]

/-- A value that starts anew at every eighth step and adds a summand at every other one is the sum since the last start. -/
theorem run_sum {N : ℕ} (f : (n : ℕ) → n < N → EReal) (g : ℕ → EReal) (hA : ∀ n h, n % 8 = 0 → f n h = g n)
    (hB : ∀ n (h : n + 1 < N), ¬(n + 1) % 8 = 0 → f (n + 1) h = f n (Nat.lt_of_succ_lt h) + g (n + 1)) :
    ∀ n h, f n h = ∑ s ∈ Finset.range (n % 8 + 1), g (8 * (n / 8) + s)
  | 0, h => by rw [hA 0 h rfl, Finset.sum_range_one]
  | n + 1, h => by
    by_cases h0 : (n + 1) % 8 = 0
    · rw [hA _ h h0, h0, Finset.sum_range_one]
      exact congrArg g (by omega)
    · rw [hB n h h0, run_sum f g hA hB n _, show (n + 1) % 8 = n % 8 + 1 by omega, show (n + 1) / 8 = n / 8 by omega, Finset.sum_range_succ _ (n % 8 + 1)]
      have e : n + 1 = 8 * (n / 8) + (n % 8 + 1) := by omega
      exact congrArg (HAdd.hAdd _) (congrArg g e)

end Cert.Common
-- ==== Proof.OutBwdValue.lean ====
module

public import proofs.«01_k».proof.Defs
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.Common
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutBwdIdeal.Hand

open Cert.OutBwdIdeal Cert.OutBwdIdeal.Gen Cert.Common

theorem pay1_apply (x : Vec Ideal S512x2048 .f32) (g : Vec Ideal S1x2048 .f32) (r : Fin 512) (l : Fin 2048) :
    k0_pay1 x g (ix2 r l) = x (ix2 r l) * g (ix2 0 l) := by
  unfold_payloads
  pointwise

theorem pay2_apply (x : Vec Ideal S512x2048 .f32) (o : Vec Ideal S512x2048 .bf16) (l : Fin 2048) :
    k0_pay2 x o (ix2 0 l) = ∑ r : Fin 512, x (ix2 r l) * o (ix2 r l) := by
  unfold_payloads
  pointwise

theorem pay3_apply (x : Vec Ideal S512x2048 .f32) (o : Vec Ideal S512x2048 .bf16) (a : Vec Ideal S1x2048 .f32) (l : Fin 2048) :
    k0_pay3 x o a (ix2 0 l) = a (ix2 0 l) + ∑ r : Fin 512, x (ix2 r l) * o (ix2 r l) := by
  unfold_payloads
  pointwise

theorem out_A_3 (c : Dev nD) (i : grid0.Coords) (a1 : Memref sig .tc .vmem S512x2048 .f32) (h1 : a1.IsWhole) (a2 : Memref sig .tc .vmem S512x2048 .bf16) (h2 : a2.IsWhole) (a3 : Memref sig .tc .vmem S1x2048 .f32) (h3 : a3.IsWhole) (a4 : Memref sig .tc .vmem S512x2048 .bf16) (h4 : a4.IsWhole) (a5 : Memref sig .tc .vmem S1x2048 .f32) (h5 : a5.IsWhole) (hc0 : cond0_0 i) (hc1 : ¬cond0_1 i)
    (x0 : Vec Ideal S512x2048 .f32) (x1 : Vec Ideal S512x2048 .bf16) (x2 : Vec Ideal S1x2048 .f32) :
    out0_A_3 c i a1 h1 a2 h2 a3 h3 a4 h4 a5 h5 hc0 hc1 x0 x1 x2 = k0_pay1 x0 x2 := by
  unfold out0_A_3
  rw [View.read_writes_eq_canon _ _ _ (cover0_A_3 c i a1 h1 a2 h2 a3 h3 a4 h4 a5 h5 hc0 hc1 x0 x1 x2)]
  unfold kernelRun0_A
  dsimp only
  sl_unfold_words
  rw [View.canon_unit_zero hz]
  simp only [View.readAt_eq_ld, h1.read_unread, h3.read_unread, View.ld_unit_zero (S := S512x2048) hz, View.ld_unit_zero (S := S1x2048) hz]

theorem out_A_4 (c : Dev nD) (i : grid0.Coords) (a1 : Memref sig .tc .vmem S512x2048 .f32) (h1 : a1.IsWhole) (a2 : Memref sig .tc .vmem S512x2048 .bf16) (h2 : a2.IsWhole) (a3 : Memref sig .tc .vmem S1x2048 .f32) (h3 : a3.IsWhole) (a4 : Memref sig .tc .vmem S512x2048 .bf16) (h4 : a4.IsWhole) (a5 : Memref sig .tc .vmem S1x2048 .f32) (h5 : a5.IsWhole) (hc0 : cond0_0 i) (hc1 : ¬cond0_1 i)
    (x0 : Vec Ideal S512x2048 .f32) (x1 : Vec Ideal S512x2048 .bf16) (x2 : Vec Ideal S1x2048 .f32) :
    out0_A_4 c i a1 h1 a2 h2 a3 h3 a4 h4 a5 h5 hc0 hc1 x0 x1 x2 = k0_pay2 x0 x1 := by
  unfold out0_A_4
  rw [View.read_writes_eq_canon _ _ _ (cover0_A_4 c i a1 h1 a2 h2 a3 h3 a4 h4 a5 h5 hc0 hc1 x0 x1 x2)]
  unfold kernelRun0_A
  dsimp only
  sl_unfold_words
  rw [View.canon_unit_zero hz]
  simp only [View.readAt_eq_ld, h1.read_unread, h2.read_unread, View.ld_unit_zero (S := S512x2048) hz, View.ld_unit_zero (S := S1x2048) hz]

theorem out_B_3 (c : Dev nD) (i : grid0.Coords) (a1 : Memref sig .tc .vmem S512x2048 .f32) (h1 : a1.IsWhole) (a2 : Memref sig .tc .vmem S512x2048 .bf16) (h2 : a2.IsWhole) (a3 : Memref sig .tc .vmem S1x2048 .f32) (h3 : a3.IsWhole) (a4 : Memref sig .tc .vmem S512x2048 .bf16) (h4 : a4.IsWhole) (a5 : Memref sig .tc .vmem S1x2048 .f32) (h5 : a5.IsWhole) (hc0 : ¬cond0_0 i) (hc1 : cond0_1 i)
    (x0 : Vec Ideal S512x2048 .f32) (x1 : Vec Ideal S512x2048 .bf16) (x2 xo : Vec Ideal S1x2048 .f32) :
    out0_B_3 c i a1 h1 a2 h2 a3 h3 a4 h4 a5 h5 hc0 hc1 x0 x1 x2 xo = k0_pay1 x0 x2 := by
  unfold out0_B_3
  rw [View.read_writes_eq_canon _ _ _ (cover0_B_3 c i a1 h1 a2 h2 a3 h3 a4 h4 a5 h5 hc0 hc1 x0 x1 x2 xo)]
  unfold kernelRun0_B
  dsimp only
  sl_unfold_words
  rw [View.canon_unit_zero hz]
  simp only [View.readAt_eq_ld, h1.read_unread, h3.read_unread, View.ld_unit_zero (S := S512x2048) hz, View.ld_unit_zero (S := S1x2048) hz]

theorem out_B_4 (c : Dev nD) (i : grid0.Coords) (a1 : Memref sig .tc .vmem S512x2048 .f32) (h1 : a1.IsWhole) (a2 : Memref sig .tc .vmem S512x2048 .bf16) (h2 : a2.IsWhole) (a3 : Memref sig .tc .vmem S1x2048 .f32) (h3 : a3.IsWhole) (a4 : Memref sig .tc .vmem S512x2048 .bf16) (h4 : a4.IsWhole) (a5 : Memref sig .tc .vmem S1x2048 .f32) (h5 : a5.IsWhole) (hc0 : ¬cond0_0 i) (hc1 : cond0_1 i)
    (x0 : Vec Ideal S512x2048 .f32) (x1 : Vec Ideal S512x2048 .bf16) (x2 xo : Vec Ideal S1x2048 .f32) :
    out0_B_4 c i a1 h1 a2 h2 a3 h3 a4 h4 a5 h5 hc0 hc1 x0 x1 x2 xo = k0_pay3 x0 x1 xo := by
  unfold out0_B_4
  rw [View.read_writes_eq_canon _ _ _ (cover0_B_4 c i a1 h1 a2 h2 a3 h3 a4 h4 a5 h5 hc0 hc1 x0 x1 x2 xo)]
  unfold kernelRun0_B
  dsimp only
  sl_unfold_words
  rw [View.canon_unit_zero hz]
  simp only [View.readAt_eq_ld, h1.read_unread, h2.read_unread, h5.read_unread, View.ld_unit_zero (S := S512x2048) hz, View.ld_unit_zero (S := S1x2048) hz]

variable (m : (ℓ : Loc nD τ sig) → Buf (Elt Ideal) ℓ)

/-- The printed index maps over the eight points. -/
theorem idx_facts : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![0, 0])

theorem N8 (t : Fin cfg0.N) : t.val < 8 := lt_of_lt_of_eq t.isLt N_0

/-- A row of the array that row `r` of tile `t` is. -/
abbrev row (t : Fin cfg0.N) (r : Fin 512) : Fin 4096 := ⟨512 * t.val + r.val, by have := N8 t; omega⟩

theorem iblk0_apply (c : Dev nD) (t : Fin cfg0.N) (r : Fin 512) (l : Fin 2048) :
    (iblk m c 0 t : Vec Ideal S512x2048 .f32) (ix2 r l) = m ((c : Thread nD τ).loc main_arg2) (ix2 (row t r) l) := by
  unfold iblk
  rw [View.read_apply]
  show V m c main_arg2 _ = _
  rw [V_main_arg2]
  have hi := (idx_facts t).1
  congr 1
  refine Shape.idx_ext₂ ?_ ?_
  · show win0_0.index t 0 * 512 + 1 * r.val = 512 * t.val + r.val
    rw [hi]; show t.val * 512 + 1 * r.val = _; omega
  · show win0_0.index t 1 * 2048 + 1 * l.val = l.val
    rw [hi]; show 0 * 2048 + 1 * l.val = _; omega

theorem iblk1_apply (c : Dev nD) (t : Fin cfg0.N) (r : Fin 512) (l : Fin 2048) :
    (iblk m c 1 t : Vec Ideal S512x2048 .bf16) (ix2 r l) = m ((c : Thread nD τ).loc main_arg0) (ix2 (row t r) l) := by
  unfold iblk
  rw [View.read_apply]
  show V m c main_arg0 _ = _
  rw [V_main_arg0]
  have hi := (idx_facts t).2.1
  congr 1
  refine Shape.idx_ext₂ ?_ ?_
  · show win0_1.index t 0 * 512 + 1 * r.val = 512 * t.val + r.val
    rw [hi]; show t.val * 512 + 1 * r.val = _; omega
  · show win0_1.index t 1 * 2048 + 1 * l.val = l.val
    rw [hi]; show 0 * 2048 + 1 * l.val = _; omega

theorem V_v0 (c : Dev nD) (l : Fin 2048) : (V m c main_v0 : Vec Ideal S1x2048 .f32) (ix2 0 l) = m ((c : Thread nD τ).loc main_arg1) (ix1 l) := by
  have : V m c main_v0 = broadcastInDim S1x2048 ![1] bcast_S2048_S1x2048_1 (m ((c.tc : Thread nD τ).loc main_arg1)) := by
    unfold V hostOps0
    after_results <;> rfl
  rw [this]
  pointwise

theorem iblk2_apply (c : Dev nD) (t : Fin cfg0.N) (l : Fin 2048) :
    (iblk m c 2 t : Vec Ideal S1x2048 .f32) (ix2 0 l) = m ((c : Thread nD τ).loc main_arg1) (ix1 l) := by
  rw [← V_v0 m c l]
  unfold iblk
  rw [View.read_apply]
  show V m c main_v0 _ = _
  have hi := (idx_facts t).2.2.1
  congr 1
  refine Shape.idx_ext₂ ?_ ?_
  · show win0_2.index t 0 * 1 + 1 * 0 = 0
    rw [hi]; rfl
  · show win0_2.index t 1 * 2048 + 1 * l.val = l.val
    rw [hi]; show 0 * 2048 + 1 * l.val = _; omega

/-- The arguments as arrays: the merged rows, the gate, the incoming gradient. -/
abbrev MO (c : Dev nD) : Vec Ideal S4096x2048 .bf16 := m ((c : Thread nD τ).loc main_arg0)
abbrev RG (c : Dev nD) : Vec Ideal S2048 .f32 := m ((c : Thread nD τ).loc main_arg1)
abbrev DO (c : Dev nD) : Vec Ideal S4096x2048 .f32 := m ((c : Thread nD τ).loc main_arg2)

/-- The gradient of the merged row: the incoming gradient times the gate of its column. -/
def dmo (c : Dev nD) : Vec Ideal S4096x2048 .bf16 :=
  fun i => (DO m c i * RG m c (ix1 (i 1)) : EReal)

/-- One row's part of the gate's gradient. -/
def part (c : Dev nD) (l : Fin 2048) (k : Fin 4096) : EReal :=
  DO m c (ix2 k l) * MO m c (ix2 k l)

/-- The gradient of the gate: the column sums of the incoming gradient times the merged rows. -/
def drg (c : Dev nD) : Vec Ideal S1x2048 .f32 :=
  fun i => (∑ k : Fin 4096, part m c (i 1) k : EReal)

theorem outs_fst (c : Dev nD) (t : Fin cfg0.N) : (outsAt0 m c t.val t.isLt).1 = k0_pay1 (iblk m c 0 t) (iblk m c 2 t) := by
  by_cases h : t.val % 8 = 0
  · have h1 : ¬1 ≤ t.val := by have := N8 t; omega
    rw [outsAt0_A m c t h h1]
    dsimp only
    rw [out_A_3]
  · have h1 : 1 ≤ t.val := by omega
    rw [outsAt0_B m c t h h1]
    dsimp only
    rw [out_B_3]

theorem tile_eq (c : Dev nD) (t : Fin cfg0.N) (l : Fin 2048) :
    k0_pay2 (iblk m c 0 t) (iblk m c 1 t) (ix2 0 l) = ∑ r : Fin 512, ext (part m c l) (512 * t.val + r) := by
  rw [pay2_apply]
  refine Finset.sum_congr rfl fun r _ => ?_
  rw [ext_of_lt _ (by have := N8 t; omega), iblk0_apply, iblk1_apply]
  rfl

theorem outs_snd (c : Dev nD) (l : Fin 2048) : ∀ (n : ℕ) (h : n < cfg0.N),
    (outsAt0 m c n h).2 (ix2 0 l) = ∑ s ∈ Finset.range (n + 1), ∑ r : Fin 512, ext (part m c l) (512 * s + r)
  | 0, h => by
    rw [outsAt0_A m c ⟨0, h⟩ rfl (by simp), Finset.sum_range_one]
    dsimp only
    rw [out_A_4]
    exact tile_eq m c ⟨0, h⟩ l
  | n + 1, h => by
    have hN : n + 1 < 8 := N8 ⟨n + 1, h⟩
    rw [outsAt0_B m c ⟨n + 1, h⟩ (by dsimp only; omega) (by dsimp only; omega), Finset.sum_range_succ]
    dsimp only
    rw [out_B_4, pay3_apply, ← pay2_apply, tile_eq]
    exact congrArg (· + _) (outs_snd c l n _)

theorem final3 (c : Dev nD) : (dats m 0 c).arrAt 3 cfg0.N = dmo m c := by
  refine (dats m 0 c).arrAt_eq_of_cover 3 (dmo m c) (fun t _ => ?_) fun i => ?_
  · rw [Value.flushed3, outs_fst]
    funext y
    rw [View.read_apply]
    have hi := (idx_facts t).2.2.2.1
    obtain ⟨r, l, rfl⟩ : ∃ (r : Fin 512) (l : Fin 2048), y = ix2 r l := ⟨y 0, y 1, by funext a; match a with | ⟨0, _⟩ => rfl | ⟨1, _⟩ => rfl⟩
    show k0_pay1 _ _ (ix2 r l) = _
    rw [pay1_apply, iblk0_apply, iblk2_apply]
    have e : (((cfg0.win 3).blk t).view.emb (ix2 r l) : S4096x2048.Idx) = ix2 (row t r) l := by
      refine Shape.idx_ext₂ ?_ ?_
      · show win0_3.index t 0 * 512 + 1 * r.val = 512 * t.val + r.val
        rw [hi]; show t.val * 512 + 1 * r.val = _; omega
      · show win0_3.index t 1 * 2048 + 1 * l.val = l.val
        rw [hi]; show 0 * 2048 + 1 * l.val = _; omega
    show _ = dmo m c (((cfg0.win 3).blk t).view.emb (ix2 r l))
    rw [e]
    rfl
  · have hN : cfg0.N = 8 := N_0
    have hi0 : (i 0 : ℕ) < 4096 := (i 0).isLt
    have hi1 : (i 1 : ℕ) < 2048 := (i 1).isLt
    obtain ⟨t, ht⟩ : ∃ t : Fin cfg0.N, t.val = (i 0 : ℕ) / 512 := ⟨⟨(i 0 : ℕ) / 512, by omega⟩, rfl⟩
    refine ⟨t, flush0_3 t, ?_⟩
    show i ∈ ((View.whole main_v1_0).slice (win0_3.rect t)).set
    rw [View.set_slice_whole, Rect.mem_set_unit]
    have hi := (idx_facts t).2.2.2.1
    intro a
    match a with
    | ⟨0, _⟩ =>
      show win0_3.index t 0 * 512 ≤ (i 0 : ℕ) ∧ (i 0 : ℕ) < win0_3.index t 0 * 512 + 512
      rw [hi]; show t.val * 512 ≤ (i 0 : ℕ) ∧ (i 0 : ℕ) < t.val * 512 + 512; omega
    | ⟨1, _⟩ =>
      show win0_3.index t 1 * 2048 ≤ (i 1 : ℕ) ∧ (i 1 : ℕ) < win0_3.index t 1 * 2048 + 2048
      rw [hi]; show 0 * 2048 ≤ (i 1 : ℕ) ∧ (i 1 : ℕ) < 0 * 2048 + 2048; omega

theorem final4 (c : Dev nD) : (dats m 0 c).arrAt 4 cfg0.N = drg m c := by
  refine (dats m 0 c).arrAt_eq_of_cover 4 (drg m c) (fun t hf => ?_) fun i => ?_
  · have h7 : t.val % 8 = 7 := (flush0_4 t).mp hf
    rw [Value.flushed4]
    funext y
    rw [View.read_apply]
    have hi := (idx_facts t).2.2.2.2
    obtain ⟨l, rfl⟩ : ∃ (l : Fin 2048), y = ix2 (0 : Fin 1) l := ⟨y 1, by funext a; match a with | ⟨0, _⟩ => exact Fin.fin_one_eq_zero _ | ⟨1, _⟩ => rfl⟩
    show (outsAt0 m c t.val t.isLt).2 (ix2 0 l) = _
    rw [outs_snd]
    have e : (((cfg0.win 4).blk t).view.emb (ix2 (0 : Fin 1) l) : S1x2048.Idx) = ix2 0 l := by
      refine Shape.idx_ext₂ ?_ ?_
      · show win0_4.index t 0 * 1 + 1 * 0 = 0
        rw [hi]; rfl
      · show win0_4.index t 1 * 2048 + 1 * l.val = l.val
        rw [hi]; show 0 * 2048 + 1 * l.val = _; omega
    show _ = drg m c (((cfg0.win 4).blk t).view.emb (ix2 (0 : Fin 1) l))
    rw [e, show t.val + 1 = 8 by have := N8 t; omega]
    exact sum_tiles (part m c l) 8 512 (by norm_num)
  · have hN : cfg0.N = 8 := N_0
    have hi0 : (i 0 : ℕ) < 1 := (i 0).isLt
    have hi1 : (i 1 : ℕ) < 2048 := (i 1).isLt
    obtain ⟨t, ht⟩ : ∃ t : Fin cfg0.N, t.val = 7 := ⟨⟨7, by omega⟩, rfl⟩
    refine ⟨t, (flush0_4 t).mpr (by omega), ?_⟩
    show i ∈ ((View.whole main_v1_1).slice (win0_4.rect t)).set
    rw [View.set_slice_whole, Rect.mem_set_unit]
    have hi := (idx_facts t).2.2.2.2
    intro a
    match a with
    | ⟨0, _⟩ =>
      show win0_4.index t 0 * 1 ≤ (i 0 : ℕ) ∧ (i 0 : ℕ) < win0_4.index t 0 * 1 + 1
      rw [hi]; show 0 * 1 ≤ (i 0 : ℕ) ∧ (i 0 : ℕ) < 0 * 1 + 1; omega
    | ⟨1, _⟩ =>
      show win0_4.index t 1 * 2048 ≤ (i 1 : ℕ) ∧ (i 1 : ℕ) < win0_4.index t 1 * 2048 + 2048
      rw [hi]; show 0 * 2048 ≤ (i 1 : ℕ) ∧ (i 1 : ℕ) < 0 * 2048 + 2048; omega

end Cert.OutBwdIdeal.Hand

namespace Cert.OutBwdRefIdeal.Hand

open Cert.OutBwdRefIdeal Cert.OutBwdRefIdeal.Gen Cert.OutBwdRefIdeal.Read

theorem ref0 (x1 : Vec Ideal S2048 .f32) (x2 : Vec Ideal S4096x2048 .f32) (k : Fin 4096) (l : Fin 2048) :
    (truncf .bf16 (mulf (broadcastInDim S4096x2048 ![0, 1] bcast_S1x2048_S4096x2048_0_1 (broadcastInDim S1x2048 ![1] bcast_S2048_S1x2048_1 x1)) x2 : FVec Ideal S4096x2048 .f32) bitsLt_bf16_f32 : FVec Ideal S4096x2048 .bf16) (ix2 k l)
      = (x2 (ix2 k l) * x1 (ix1 l) : EReal) := by
  pointwise
  exact mul_comm _ _

theorem ref1 (x0 : Vec Ideal S4096x2048 .bf16) (x2 : Vec Ideal S4096x2048 .f32) (l : Fin 2048) :
    (broadcastInDim S1x2048 ![1] bcast_S2048_S1x2048_1 (Host.reduceAdd (shapeCast _ (Host.reduceAdd (mulf x2 (extf .f32 x0 bitsLt_bf16_f32)) (constant S_ .f32 0x00000000#32) reducesTo_S4096x2048_S2048_d0 h_S_ : FVec Ideal S2048 .f32) shapeCasts_S2048_S1x2048) (constant S_ .f32 0x00000000#32) reducesTo_S1x2048_S2048_d0 h_S_ : FVec Ideal S2048 .f32) : FVec Ideal S1x2048 .f32) (ix2 (0 : Fin 1) l)
      = (∑ k : Fin 4096, x2 (ix2 k l) * x0 (ix2 k l) : EReal) := by
  pointwise
  simp

end Cert.OutBwdRefIdeal.Hand

namespace Cert.Proof

open Cert.OutBwdIdeal.Hand

/-- The gradients of the gated output: the kernel's two arrays are the reference's. -/
theorem out_bwd : Cert.algebraic_OutBwdIdeal_OutBwdRefIdeal := by
  intro m g m' g' _ hagree
  refine ⟨dmo m, drg m, ?_, ?_⟩
  · refine (θ_run _ _ _).mono (fun r h c => ?_) (Cert.OutBwdIdeal.Value.run_blocks (F := Ideal) m g)
    exact ⟨(h c).1.trans (final3 m c), (h c).2.1.trans (final4 m c), (h c).2.2⟩
  · refine (θ_run _ _ _).mono (fun r h c => ?_) (Cert.OutBwdRefIdeal.Value.run (F := Ideal) m' g')
    refine ⟨(h c).1.trans ?_, (h c).2.1.trans ?_, (h c).2.2⟩
    · rw [(hagree c).2.1, (hagree c).2.2]
      funext i
      rw [eq_ix2 i]
      exact Cert.OutBwdRefIdeal.Hand.ref0 _ _ _ _
    · rw [(hagree c).1, (hagree c).2.2]
      funext i
      obtain ⟨l, rfl⟩ : ∃ (l : Fin 2048), i = ix2 (0 : Fin 1) l := ⟨i 1, by funext a; match a with | ⟨0, _⟩ => exact Fin.fin_one_eq_zero _ | ⟨1, _⟩ => rfl⟩
      exact Cert.OutBwdRefIdeal.Hand.ref1 _ _ _

end Cert.Proof

end
-- ==== Proof.AttnTrip.lean ====
module

public import proofs.«01_k».proof.Proof.Gen.AttnBwdIdeal.Frame
public import proofs.«01_k».proof.Proof.Gen.AttnBwdIdeal.Loops
public import proofs.«01_k».proof.Proof.Gen.AttnBwdIdeal.Points
public import Idealize.ShloMosaic.Lib.VecWindow
public import Idealize.ShloMosaic.Lib.Tactic

@[expose] public section

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Where the loops read and write -/

/-- The main loop runs once for every two key blocks before the diagonal one. -/
theorem trips1 : ∀ i : grid0.Coords, (k0_t1_loop i).trips = (i 1).val / 2 := by decide +kernel
/-- The remainder loop never runs. -/
theorem trips2 : ∀ i : grid0.Coords, (k0_t2_loop i).trips = 0 := by decide +kernel

theorem off1_eq : ∀ (i : grid0.Coords) (k : Fin (k0_t1_loop i).trips), k0_off1 i k = ![1024 * k.val, 0] := by decide +kernel
theorem off2_eq : ∀ (i : grid0.Coords) (k : Fin (k0_t1_loop i).trips), k0_off2 i k = ![1024 * k.val, 128] := by decide +kernel
theorem off3_eq : ∀ (i : grid0.Coords) (k : Fin (k0_t1_loop i).trips), k0_off3 i k = ![1024 * k.val + 512, 0] := by decide +kernel
theorem off4_eq : ∀ (i : grid0.Coords) (k : Fin (k0_t1_loop i).trips), k0_off4 i k = ![1024 * k.val + 512, 128] := by decide +kernel

instance (i : grid0.Coords) (k : Fin (k0_t1_loop i).trips) : ClosedOff (k0_off1 i k) := ⟨_, off1_eq i k⟩
instance (i : grid0.Coords) (k : Fin (k0_t1_loop i).trips) : ClosedOff (k0_off2 i k) := ⟨_, off2_eq i k⟩
instance (i : grid0.Coords) (k : Fin (k0_t1_loop i).trips) : ClosedOff (k0_off3 i k) := ⟨_, off3_eq i k⟩
instance (i : grid0.Coords) (k : Fin (k0_t1_loop i).trips) : ClosedOff (k0_off4 i k) := ⟨_, off4_eq i k⟩

/-- What the loop over key blocks carries: for each head the query gradient and the two running row sums. -/
abbrev Carry (F : FTy → Type) [FloatOps F] : Type :=
  FVec F S512x128 .f32 × FVec F S512x1 .f32 × FVec F S512x1 .f32 × FVec F S512x128 .f32 × FVec F S512x1 .f32 × FVec F S512x1 .f32

/-! ## One key block, as functions of its values -/

/-- The rectangle of one head's lanes in one block of 512 rows lies within the array. -/
theorem blk_inb (n : Fin 8) (h : Fin 2) : ∀ a, (![512 * n.val, 128 * h.val] : Fin 2 → ℕ) a + S512x128.size a ≤ S4096x256.size a := by
  revert n h; decide

/-- Block `n`'s rows of head `h`'s lanes. -/
abbrev blk {α : Type} (x : S4096x256.Idx → α) (n : Fin 8) (h : Fin 2) : S512x128.Idx → α :=
  VecWindow.window x ![512 * n.val, 128 * h.val] S512x128.size (blk_inb n h)

/-- The array with block `n`'s rows of head `h`'s lanes replaced. -/
abbrev putBlk {α : Type} (x : S4096x256.Idx → α) (n : Fin 8) (h : Fin 2) (w : S512x128.Idx → α) : S4096x256.Idx → α :=
  VecWindow.put x ![512 * n.val, 128 * h.val] S512x128.size w

/-- The running sum of the softplus terms past one block. -/
abbrev nextS (q : FVec F S512x128 .bf16) (t : FVec F S256x256 .bf16) (s : FVec F S512x1 .f32) (k : FVec F S512x128 .bf16) : FVec F S512x1 .f32 := k0_pay12 q t s k
/-- One block's attention weights. -/
abbrev wts (q : FVec F S512x128 .bf16) (p : FVec F S512x512 .f32) (t : FVec F S256x256 .bf16) (s : FVec F S512x1 .f32) (k : FVec F S512x128 .bf16) : FVec F S512x512 .f32 := k0_pay13 q p t s k
/-- One block's weights times their cotangents. -/
abbrev wgt (q d : FVec F S512x128 .bf16) (p : FVec F S512x512 .f32) (t : FVec F S256x256 .bf16) (s : FVec F S512x1 .f32) (k v : FVec F S512x128 .bf16) : FVec F S512x512 .f32 := k0_pay14 q d p t s k v
/-- The running sum of those past one block. -/
abbrev nextG (q d : FVec F S512x128 .bf16) (p : FVec F S512x512 .f32) (t : FVec F S256x256 .bf16) (s g : FVec F S512x1 .f32) (k v : FVec F S512x128 .bf16) : FVec F S512x1 .f32 :=
  k0_pay19 t g (k0_pay14 q d p t s k v) (k0_pay16 q d p t s k v)
/-- The query gradient past one block. -/
abbrev nextQ (q d : FVec F S512x128 .bf16) (p : FVec F S512x512 .f32) (t : FVec F S256x256 .bf16) (o : FVec F S512x128 .f32) (s g : FVec F S512x1 .f32) (k v : FVec F S512x128 .bf16) : FVec F S512x128 .f32 :=
  k0_pay21 t o g k (k0_pay8 q k) (k0_pay14 q d p t s k v) (k0_pay15 q d p t s k v) (k0_pay16 q d p t s k v)
/-- The key gradient's block with this query tile's share added. -/
abbrev addK (q d : FVec F S512x128 .bf16) (p : FVec F S512x512 .f32) (t : FVec F S256x256 .bf16) (s g : FVec F S512x1 .f32) (k v : FVec F S512x128 .bf16) (w : FVec F S512x128 .f32) : FVec F S512x128 .f32 :=
  k0_pay22 q t g (k0_pay8 q k) (k0_pay14 q d p t s k v) (k0_pay15 q d p t s k v) (k0_pay16 q d p t s k v) w
/-- The value gradient's block with this query tile's share added. -/
abbrev addV (q d : FVec F S512x128 .bf16) (p : FVec F S512x512 .f32) (t : FVec F S256x256 .bf16) (s : FVec F S512x1 .f32) (k : FVec F S512x128 .bf16) (w : FVec F S512x128 .f32) : FVec F S512x128 .f32 :=
  k0_pay23 d (k0_pay13 q p t s k) w

/-- What the loop over key blocks changes: what it carries, and the two accumulators. -/
abbrev St (F : FTy → Type) [FloatOps F] : Type := Carry F × FVec F S4096x256 .f32 × FVec F S4096x256 .f32

/-- One key block, both heads. -/
def step (q0 d0 : FVec F S512x128 .bf16) (p0 : FVec F S512x512 .f32) (q1 d1 : FVec F S512x128 .bf16) (p1 : FVec F S512x512 .f32) (t : FVec F S256x256 .bf16)
    (x3 x4 : FVec F S4096x256 .bf16) (n : Fin 8) (s : St F) : St F :=
  ⟨(nextQ q0 d0 p0 t s.1.1 s.1.2.1 s.1.2.2.1 (blk x3 n 0) (blk x4 n 0), nextS q0 t s.1.2.1 (blk x3 n 0), nextG q0 d0 p0 t s.1.2.1 s.1.2.2.1 (blk x3 n 0) (blk x4 n 0),
    nextQ q1 d1 p1 t s.1.2.2.2.1 s.1.2.2.2.2.1 s.1.2.2.2.2.2 (blk x3 n 1) (blk x4 n 1), nextS q1 t s.1.2.2.2.2.1 (blk x3 n 1), nextG q1 d1 p1 t s.1.2.2.2.2.1 s.1.2.2.2.2.2 (blk x3 n 1) (blk x4 n 1)),
   putBlk (putBlk s.2.1 n 0 (addK q0 d0 p0 t s.1.2.1 s.1.2.2.1 (blk x3 n 0) (blk x4 n 0) (blk s.2.1 n 0))) n 1
     (addK q1 d1 p1 t s.1.2.2.2.2.1 s.1.2.2.2.2.2 (blk x3 n 1) (blk x4 n 1) (blk s.2.1 n 1)),
   putBlk (putBlk s.2.2 n 0 (addV q0 d0 p0 t s.1.2.1 (blk x3 n 0) (blk s.2.2 n 0))) n 1
     (addV q1 d1 p1 t s.1.2.2.2.2.1 (blk x3 n 1) (blk s.2.2 n 1))⟩

/-! ### The printed copies of a block compute the same -/

variable (q d : FVec F S512x128 .bf16) (p : FVec F S512x512 .f32) (t : FVec F S256x256 .bf16) (o : FVec F S512x128 .f32) (s g : FVec F S512x1 .f32)
  (k v : FVec F S512x128 .bf16) (w : FVec F S512x128 .f32)

theorem b_s : k0_pay32 t s (k0_pay25 q k) (k0_pay26 q k) = nextS q t s k := rfl
theorem b_a : k0_pay33 p t s (k0_pay24 q k) (k0_pay25 q k) (k0_pay26 q k) = wts q p t s k := rfl
theorem b_g : k0_pay38 d p t s g v (k0_pay24 q k) (k0_pay25 q k) (k0_pay26 q k) = nextG q d p t s g k v := rfl
theorem b_q : k0_pay40 d p t o s g k v (k0_pay24 q k) (k0_pay25 q k) (k0_pay26 q k) = nextQ q d p t o s g k v := rfl
theorem b_k : k0_pay42 (k0_pay41 q d p t s g v (k0_pay24 q k) (k0_pay25 q k) (k0_pay26 q k) w) = addK q d p t s g k v w := rfl
theorem b_v (a : FVec F S512x512 .f32) : k0_pay43 d a w = k0_pay23 d a w := rfl
theorem c_s : k0_pay50 q t s k = nextS q t s k := rfl
theorem c_g : k0_pay57 d p t g v (k0_pay46 q k) (k0_pay51 q t s k) = nextG q d p t s g k v := rfl
theorem c_q : k0_pay59 d p t g o k v (k0_pay46 q k) (k0_pay51 q t s k) = nextQ q d p t o s g k v := rfl
theorem c_k : k0_pay60 q d p t g v (k0_pay46 q k) (k0_pay51 q t s k) w = addK q d p t s g k v w := rfl
theorem c_v : k0_pay61 d p (k0_pay46 q k) (k0_pay51 q t s k) w = addV q d p t s k w := rfl
theorem d_s : k0_pay68 q t s k = nextS q t s k := rfl
theorem d_a : k0_pay69 q p t s k = wts q p t s k := rfl
theorem d_g : k0_pay74 q d p t s g k v = nextG q d p t s g k v := rfl
theorem d_q : k0_pay202 o k (k0_pay75 q d p t s g k v) = nextQ q d p t o s g k v := rfl
theorem d_k : k0_pay203 q (k0_pay75 q d p t s g k v) w = addK q d p t s g k v w := rfl
theorem d_v (a : FVec F S512x512 .f32) : k0_pay204 d a w = k0_pay23 d a w := rfl

section Trip

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .bf16) (harg5 : arg5.IsWhole)
  (arg6 : Memref sig .tc .vmem S512x256 .bf16) (harg6 : arg6.IsWhole) (arg7 : Memref sig .tc .vmem S512x256 .f32) (harg7 : arg7.IsWhole)
  (arg8 : Memref sig .tc .vmem S512x256 .bf16) (harg8 : arg8.IsWhole) (arg9 : Memref sig .tc .vmem S512x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S512x256 .bf16) (harg12 : arg12.IsWhole) (arg13 : Memref sig .tc .vmem S4096x256 .f32) (harg13 : arg13.IsWhole)
  (arg14 : Memref sig .tc .vmem S4096x256 .f32) (harg14 : arg14.IsWhole)
  (v7 v34 : FVec F S512x128 .bf16) (v37 : FVec F S512x512 .f32) (v42 v69 : FVec F S512x128 .bf16) (v72 : FVec F S512x512 .f32)
  (v79 : FVec F S256x256 .bf16) (v80 : FVec F S512x1 .f32) (v81 : FVec F S512x128 .f32) (v82 : BitVec 32) (v93 : BitVec 1)
  (c0_i32_51 v115 : BitVec 32)

/-- What a trip touches: keys, values, and the two accumulators. -/
abbrev Trip (X3 : Buf (Elt F) (arg3.view.loc (c : Thread nD τ))) (X4 : Buf (Elt F) (arg4.view.loc (c : Thread nD τ)))
    (f13 : Buf (Elt F) (arg13.view.loc (c : Thread nD τ))) (f14 : Buf (Elt F) (arg14.view.loc (c : Thread nD τ))) : sProp 𝕄 :=
  iprop((arg3.view.loc (c : Thread nD τ) ↦[arg3.view.set]{fullShare} X3) ∗ (arg4.view.loc (c : Thread nD τ) ↦[arg4.view.set]{fullShare} X4)
    ∗ (arg13.view.loc (c : Thread nD τ) ↦[arg13.view.set]{fullShare} f13) ∗ (arg14.view.loc (c : Thread nD τ) ↦[arg14.view.set]{fullShare} f14))

set_option maxHeartbeats 4000000 in
/-- One trip of the main loop. -/
def trip (k : Fin (k0_t1_loop i).trips) (a16 : FVec F S512x128 .f32) (a17 a18 : FVec F S512x1 .f32) (a19 : FVec F S512x128 .f32) (a20 a21 : FVec F S512x1 .f32)
    (X3 : Buf (Elt F) (arg3.view.loc (c : Thread nD τ))) (X4 : Buf (Elt F) (arg4.view.loc (c : Thread nD τ)))
    (f13 : Buf (Elt F) (arg13.view.loc (c : Thread nD τ))) (f14 : Buf (Elt F) (arg14.view.loc (c : Thread nD τ))) :
    Σ' (L13 : List (View.Piece (Elt F) S4096x256 .f32)) (L14 : List (View.Piece (Elt F) S4096x256 .f32)), { y : Carry F //
      Trip (F := F) c arg3 arg4 arg13 arg14 X3 X4 f13 f14 ⊢ wp frame (wpE (defs₀ (F := F)) Variants.none c none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 k (a16, a17, a18, a19, a20, a21))
        (fun a => iprop(⌜a = y⌝ ∗ Trip (F := F) c arg3 arg4 arg13 arg14 X3 X4 (arg13.view.writes (Elt F) f13 L13) (arg14.view.writes (Elt F) f14 L14))) } := by
  refine ⟨?_, ?_, ?_, ?run⟩
  case run =>
    unfold Gen.k0_t1_body
    unfold Trip
    iintro ⟨H3, H4, H13, H14⟩
    sl_exec_parts
    sl_step
    isplitr
    · ipureintro; rfl
    isplitl [H3]; · iexact H3
    isplitl [H4]; · iexact H4
    isplitl [H13]; · iexact H13
    iexact H14

end Trip

theorem blk_putBlk {α : Type} (x : S4096x256.Idx → α) (n n' : Fin 8) (h h' : Fin 2) (w : S512x128.Idx → α) (e : n ≠ n' ∨ h ≠ h') :
    blk (putBlk x n h w) n' h' = blk x n' h' := by
  rcases e with e | e
  · refine VecWindow.window_put_of_disjoint x _ _ _ _ _ w 0 ?_
    have : n.val ≠ n'.val := fun e' => e (Fin.ext e')
    show 512 * n'.val + 512 ≤ 512 * n.val ∨ 512 * n.val + 512 ≤ 512 * n'.val
    omega
  · refine VecWindow.window_put_of_disjoint x _ _ _ _ _ w 1 ?_
    have : h.val ≠ h'.val := fun e' => e (Fin.ext e')
    show 128 * h'.val + 128 ≤ 128 * h.val ∨ 128 * h.val + 128 ≤ 128 * h'.val
    omega

section TripEq

variable {c : Dev nD} {i : grid0.Coords}

theorem trip_lt (k : Fin (k0_t1_loop i).trips) : 2 * k.val + 1 < 8 := by
  have h1 := k.isLt
  have h2 := trips1 i
  have h3 : (i 1).val < 8 := (i 1).isLt
  omega

/-- The two blocks of trip `k`. -/
abbrev ev (k : Fin (k0_t1_loop i).trips) : Fin 8 := ⟨2 * k.val, by have := trip_lt k; omega⟩
abbrev od (k : Fin (k0_t1_loop i).trips) : Fin 8 := ⟨2 * k.val + 1, trip_lt k⟩

theorem off1_blk (k : Fin (k0_t1_loop i).trips) : k0_off1 i k = ![512 * (ev k).val, 128 * (0 : Fin 2).val] := by
  rw [off1_eq]; funext a; fin_cases a <;> simp <;> omega
theorem off2_blk (k : Fin (k0_t1_loop i).trips) : k0_off2 i k = ![512 * (ev k).val, 128 * (1 : Fin 2).val] := by
  rw [off2_eq]; funext a; fin_cases a <;> simp <;> omega
theorem off3_blk (k : Fin (k0_t1_loop i).trips) : k0_off3 i k = ![512 * (od k).val, 128 * (0 : Fin 2).val] := by
  rw [off3_eq]; funext a; fin_cases a <;> simp <;> omega
theorem off4_blk (k : Fin (k0_t1_loop i).trips) : k0_off4 i k = ![512 * (od k).val, 128 * (1 : Fin 2).val] := by
  rw [off4_eq]; funext a; fin_cases a <;> simp <;> omega

/-- A load at an offset that is a block's corner reads that block. -/
theorem load_blk {e : EltTy} {sp : Space} (M : Memref sig .tc sp S4096x256 e) (f : M.view.ty.Contents (Elt F)) {off : Fin 2 → ℕ}
    (inb : ∀ a, off a + S512x128.size a ≤ S4096x256.size a) (n : Fin 8) (h : Fin 2) (e' : off = ![512 * n.val, 128 * h.val]) :
    M.view.readAt (Elt F) (Rect.unit (s := S4096x256) off S512x128.size inb).toLoadRect f = blk (M.view.read (Elt F) f) n h :=
  View.readAt_unit M.view f inb e' (blk_inb n h)

/-- A store at an offset that is a block's corner replaces that block. -/
theorem store_blk {e : EltTy} {sp : Space} (M : Memref sig .tc sp S4096x256 e) (f : M.view.ty.Contents (Elt F)) {off : Fin 2 → ℕ}
    (inb : ∀ a, off a + S512x128.size a ≤ S4096x256.size a) (w : (Rect.unit (s := S4096x256) off S512x128.size inb).shape.Idx → Elt F e) (L : List (View.Piece (Elt F) S4096x256 e))
    (n : Fin 8) (h : Fin 2) (e' : off = ![512 * n.val, 128 * h.val]) :
    M.view.read (Elt F) (M.view.writes (Elt F) f (⟨Rect.unit (s := S4096x256) off S512x128.size inb, w⟩ :: L)) = putBlk (M.view.read (Elt F) (M.view.writes (Elt F) f L)) n h w :=
  View.read_writes_cons_put M.view f inb w L e'

theorem ev_ne_od (k : Fin (k0_t1_loop i).trips) : ev k ≠ od k := by simp [ev, od]

end TripEq

section TripEq2

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .bf16) (harg5 : arg5.IsWhole)
  (arg6 : Memref sig .tc .vmem S512x256 .bf16) (harg6 : arg6.IsWhole) (arg7 : Memref sig .tc .vmem S512x256 .f32) (harg7 : arg7.IsWhole)
  (arg8 : Memref sig .tc .vmem S512x256 .bf16) (harg8 : arg8.IsWhole) (arg9 : Memref sig .tc .vmem S512x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S512x256 .bf16) (harg12 : arg12.IsWhole) (arg13 : Memref sig .tc .vmem S4096x256 .f32) (harg13 : arg13.IsWhole)
  (arg14 : Memref sig .tc .vmem S4096x256 .f32) (harg14 : arg14.IsWhole)
  (v7 v34 : FVec F S512x128 .bf16) (v37 : FVec F S512x512 .f32) (v42 v69 : FVec F S512x128 .bf16) (v72 : FVec F S512x512 .f32)
  (v79 : FVec F S256x256 .bf16) (v80 : FVec F S512x1 .f32) (v81 : FVec F S512x128 .f32) (v82 : BitVec 32) (v93 : BitVec 1)
  (c0_i32_51 v115 : BitVec 32)

/-- A load of one head's lanes of a key block, as a trip makes it. -/
abbrev ldAt {e : EltTy} (M : Memref sig .tc .vmem S4096x256 e) (f : M.view.ty.Contents (Elt F)) (off : Fin 2 → ℕ) (inb : ∀ a, off a + S512x128.size a ≤ S4096x256.size a) :
    S512x128.Idx → Elt F e := M.view.readAt (Elt F) (Rect.unit (s := S4096x256) off S512x128.size inb).toLoadRect f

set_option maxHeartbeats 4000000 in
/-- What one trip of the main loop leaves is two steps. -/
theorem trip_eq (k : Fin (k0_t1_loop i).trips) (s : St F)
    (X3 : Buf (Elt F) (arg3.view.loc (c : Thread nD τ))) (X4 : Buf (Elt F) (arg4.view.loc (c : Thread nD τ)))
    (f13 : Buf (Elt F) (arg13.view.loc (c : Thread nD τ))) (f14 : Buf (Elt F) (arg14.view.loc (c : Thread nD τ)))
    (e13 : arg13.view.read (Elt F) f13 = s.2.1) (e14 : arg14.view.read (Elt F) f14 = s.2.2) :
    let T := trip (F := F) c i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 k s.1.1 s.1.2.1 s.1.2.2.1 s.1.2.2.2.1 s.1.2.2.2.2.1 s.1.2.2.2.2.2 X3 X4 f13 f14
    let s' := step v7 v34 v37 v42 v69 v72 v79 (arg3.view.read (Elt F) X3) (arg4.view.read (Elt F) X4) (od k)
      (step v7 v34 v37 v42 v69 v72 v79 (arg3.view.read (Elt F) X3) (arg4.view.read (Elt F) X4) (ev k) s)
    T.2.2.1 = s'.1 ∧ arg13.view.read (Elt F) (arg13.view.writes (Elt F) f13 T.1) = s'.2.1
      ∧ arg14.view.read (Elt F) (arg14.view.writes (Elt F) f14 T.2.1) = s'.2.2 := by
  have l1 {e : EltTy} (M : Memref sig .tc .vmem S4096x256 e) (f : M.view.ty.Contents (Elt F)) (inb) :
    M.view.readAt (Elt F) (Rect.unit (s := S4096x256) (k0_off1 i k) S512x128.size inb).toLoadRect f = blk (M.view.read (Elt F) f) (ev k) 0 := load_blk M f inb _ _ (off1_blk k)
  have l2 {e : EltTy} (M : Memref sig .tc .vmem S4096x256 e) (f : M.view.ty.Contents (Elt F)) (inb) :
    M.view.readAt (Elt F) (Rect.unit (s := S4096x256) (k0_off2 i k) S512x128.size inb).toLoadRect f = blk (M.view.read (Elt F) f) (ev k) 1 := load_blk M f inb _ _ (off2_blk k)
  have l3 {e : EltTy} (M : Memref sig .tc .vmem S4096x256 e) (f : M.view.ty.Contents (Elt F)) (inb) :
    M.view.readAt (Elt F) (Rect.unit (s := S4096x256) (k0_off3 i k) S512x128.size inb).toLoadRect f = blk (M.view.read (Elt F) f) (od k) 0 := load_blk M f inb _ _ (off3_blk k)
  have l4 {e : EltTy} (M : Memref sig .tc .vmem S4096x256 e) (f : M.view.ty.Contents (Elt F)) (inb) :
    M.view.readAt (Elt F) (Rect.unit (s := S4096x256) (k0_off4 i k) S512x128.size inb).toLoadRect f = blk (M.view.read (Elt F) f) (od k) 1 := load_blk M f inb _ _ (off4_blk k)
  have ne := ev_ne_od k
  have n1 (x : S4096x256.Idx → Elt F .f32) (h h' : Fin 2) (w) : blk (putBlk x (ev k) h w) (od k) h' = blk x (od k) h' := blk_putBlk x _ _ h h' w (Or.inl ne)
  intro T s'
  have hC : T.2.2.1 = (nextQ v7 v34 v37 v79 (nextQ v7 v34 v37 v79 s.1.1 s.1.2.1 s.1.2.2.1 (ldAt arg3 X3 (k0_off1 i k) (k0_off1_inb i k)) (ldAt arg4 X4 (k0_off1 i k) (k0_off1_inb i k))) (nextS v7 v79 s.1.2.1 (ldAt arg3 X3 (k0_off1 i k) (k0_off1_inb i k))) (nextG v7 v34 v37 v79 s.1.2.1 s.1.2.2.1 (ldAt arg3 X3 (k0_off1 i k) (k0_off1_inb i k)) (ldAt arg4 X4 (k0_off1 i k) (k0_off1_inb i k))) (ldAt arg3 X3 (k0_off3 i k) (k0_off3_inb i k)) (ldAt arg4 X4 (k0_off3 i k) (k0_off3_inb i k)),
      nextS v7 v79 (nextS v7 v79 s.1.2.1 (ldAt arg3 X3 (k0_off1 i k) (k0_off1_inb i k))) (ldAt arg3 X3 (k0_off3 i k) (k0_off3_inb i k)), nextG v7 v34 v37 v79 (nextS v7 v79 s.1.2.1 (ldAt arg3 X3 (k0_off1 i k) (k0_off1_inb i k))) (nextG v7 v34 v37 v79 s.1.2.1 s.1.2.2.1 (ldAt arg3 X3 (k0_off1 i k) (k0_off1_inb i k)) (ldAt arg4 X4 (k0_off1 i k) (k0_off1_inb i k))) (ldAt arg3 X3 (k0_off3 i k) (k0_off3_inb i k)) (ldAt arg4 X4 (k0_off3 i k) (k0_off3_inb i k)),
      nextQ v42 v69 v72 v79 (nextQ v42 v69 v72 v79 s.1.2.2.2.1 s.1.2.2.2.2.1 s.1.2.2.2.2.2 (ldAt arg3 X3 (k0_off2 i k) (k0_off2_inb i k)) (ldAt arg4 X4 (k0_off2 i k) (k0_off2_inb i k))) (nextS v42 v79 s.1.2.2.2.2.1 (ldAt arg3 X3 (k0_off2 i k) (k0_off2_inb i k))) (nextG v42 v69 v72 v79 s.1.2.2.2.2.1 s.1.2.2.2.2.2 (ldAt arg3 X3 (k0_off2 i k) (k0_off2_inb i k)) (ldAt arg4 X4 (k0_off2 i k) (k0_off2_inb i k))) (ldAt arg3 X3 (k0_off4 i k) (k0_off4_inb i k)) (ldAt arg4 X4 (k0_off4 i k) (k0_off4_inb i k)),
      nextS v42 v79 (nextS v42 v79 s.1.2.2.2.2.1 (ldAt arg3 X3 (k0_off2 i k) (k0_off2_inb i k))) (ldAt arg3 X3 (k0_off4 i k) (k0_off4_inb i k)), nextG v42 v69 v72 v79 (nextS v42 v79 s.1.2.2.2.2.1 (ldAt arg3 X3 (k0_off2 i k) (k0_off2_inb i k))) (nextG v42 v69 v72 v79 s.1.2.2.2.2.1 s.1.2.2.2.2.2 (ldAt arg3 X3 (k0_off2 i k) (k0_off2_inb i k)) (ldAt arg4 X4 (k0_off2 i k) (k0_off2_inb i k))) (ldAt arg3 X3 (k0_off4 i k) (k0_off4_inb i k)) (ldAt arg4 X4 (k0_off4 i k) (k0_off4_inb i k))) := rfl
  have h13 : T.1 = [⟨Rect.unit (s := S4096x256) (k0_off4 i k) S512x128.size (k0_off4_inb i k), addK v42 v69 v72 v79 (nextS v42 v79 s.1.2.2.2.2.1 (ldAt arg3 X3 (k0_off2 i k) (k0_off2_inb i k))) (nextG v42 v69 v72 v79 s.1.2.2.2.2.1 s.1.2.2.2.2.2 (ldAt arg3 X3 (k0_off2 i k) (k0_off2_inb i k)) (ldAt arg4 X4 (k0_off2 i k) (k0_off2_inb i k))) (ldAt arg3 X3 (k0_off4 i k) (k0_off4_inb i k)) (ldAt arg4 X4 (k0_off4 i k) (k0_off4_inb i k)) (ldAt arg13 f13 (k0_off4 i k) (k0_off4_inb i k))⟩,
      ⟨Rect.unit (s := S4096x256) (k0_off3 i k) S512x128.size (k0_off3_inb i k), addK v7 v34 v37 v79 (nextS v7 v79 s.1.2.1 (ldAt arg3 X3 (k0_off1 i k) (k0_off1_inb i k))) (nextG v7 v34 v37 v79 s.1.2.1 s.1.2.2.1 (ldAt arg3 X3 (k0_off1 i k) (k0_off1_inb i k)) (ldAt arg4 X4 (k0_off1 i k) (k0_off1_inb i k))) (ldAt arg3 X3 (k0_off3 i k) (k0_off3_inb i k)) (ldAt arg4 X4 (k0_off3 i k) (k0_off3_inb i k)) (ldAt arg13 f13 (k0_off3 i k) (k0_off3_inb i k))⟩,
      ⟨Rect.unit (s := S4096x256) (k0_off2 i k) S512x128.size (k0_off2_inb i k), addK v42 v69 v72 v79 s.1.2.2.2.2.1 s.1.2.2.2.2.2 (ldAt arg3 X3 (k0_off2 i k) (k0_off2_inb i k)) (ldAt arg4 X4 (k0_off2 i k) (k0_off2_inb i k)) (ldAt arg13 f13 (k0_off2 i k) (k0_off2_inb i k))⟩,
      ⟨Rect.unit (s := S4096x256) (k0_off1 i k) S512x128.size (k0_off1_inb i k), addK v7 v34 v37 v79 s.1.2.1 s.1.2.2.1 (ldAt arg3 X3 (k0_off1 i k) (k0_off1_inb i k)) (ldAt arg4 X4 (k0_off1 i k) (k0_off1_inb i k)) (ldAt arg13 f13 (k0_off1 i k) (k0_off1_inb i k))⟩] := rfl
  have h14 : T.2.1 = [⟨Rect.unit (s := S4096x256) (k0_off4 i k) S512x128.size (k0_off4_inb i k), addV v42 v69 v72 v79 (nextS v42 v79 s.1.2.2.2.2.1 (ldAt arg3 X3 (k0_off2 i k) (k0_off2_inb i k))) (ldAt arg3 X3 (k0_off4 i k) (k0_off4_inb i k)) (ldAt arg14 f14 (k0_off4 i k) (k0_off4_inb i k))⟩,
      ⟨Rect.unit (s := S4096x256) (k0_off3 i k) S512x128.size (k0_off3_inb i k), addV v7 v34 v37 v79 (nextS v7 v79 s.1.2.1 (ldAt arg3 X3 (k0_off1 i k) (k0_off1_inb i k))) (ldAt arg3 X3 (k0_off3 i k) (k0_off3_inb i k)) (ldAt arg14 f14 (k0_off3 i k) (k0_off3_inb i k))⟩,
      ⟨Rect.unit (s := S4096x256) (k0_off2 i k) S512x128.size (k0_off2_inb i k), addV v42 v69 v72 v79 s.1.2.2.2.2.1 (ldAt arg3 X3 (k0_off2 i k) (k0_off2_inb i k)) (ldAt arg14 f14 (k0_off2 i k) (k0_off2_inb i k))⟩,
      ⟨Rect.unit (s := S4096x256) (k0_off1 i k) S512x128.size (k0_off1_inb i k), addV v7 v34 v37 v79 s.1.2.1 (ldAt arg3 X3 (k0_off1 i k) (k0_off1_inb i k)) (ldAt arg14 f14 (k0_off1 i k) (k0_off1_inb i k))⟩] := rfl
  refine ⟨?_, ?_, ?_⟩
  · rw [hC]
    simp only [ldAt, l1, l2, l3, l4]
    rfl
  · rw [h13, store_blk arg13 f13 _ _ _ (od k) 1 (off4_blk k), store_blk arg13 f13 _ _ _ (od k) 0 (off3_blk k), store_blk arg13 f13 _ _ _ (ev k) 1 (off2_blk k),
      store_blk arg13 f13 _ _ _ (ev k) 0 (off1_blk k)]
    simp only [s', ldAt, l1, l2, l3, l4, step, View.writes_nil, e13, n1]
  · rw [h14, store_blk arg14 f14 _ _ _ (od k) 1 (off4_blk k), store_blk arg14 f14 _ _ _ (od k) 0 (off3_blk k), store_blk arg14 f14 _ _ _ (ev k) 1 (off2_blk k),
      store_blk arg14 f14 _ _ _ (ev k) 0 (off1_blk k)]
    simp only [s', ldAt, l1, l2, l3, l4, step, View.writes_nil, e14, n1]

end TripEq2

end Cert.AttnBwdIdeal.Hand

end
-- ==== Proof.AttnLoops.lean ====
module

public import proofs.«01_k».proof.Proof.AttnTrip

@[expose] public section

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A block number, from a counter. -/
abbrev fin8 (n : ℕ) : Fin 8 := ⟨n % 8, Nat.mod_lt _ (by decide)⟩

/-- The state after the first `n` key blocks. -/
def steps (q0 d0 : FVec F S512x128 .bf16) (p0 : FVec F S512x512 .f32) (q1 d1 : FVec F S512x128 .bf16) (p1 : FVec F S512x512 .f32) (t : FVec F S256x256 .bf16)
    (x3 x4 : FVec F S4096x256 .bf16) (s : St F) : ℕ → St F
  | 0 => s
  | n + 1 => step q0 d0 p0 q1 d1 p1 t x3 x4 (fin8 n) (steps q0 d0 p0 q1 d1 p1 t x3 x4 s n)

section Loops

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .bf16) (harg5 : arg5.IsWhole)
  (arg6 : Memref sig .tc .vmem S512x256 .bf16) (harg6 : arg6.IsWhole) (arg7 : Memref sig .tc .vmem S512x256 .f32) (harg7 : arg7.IsWhole)
  (arg8 : Memref sig .tc .vmem S512x256 .bf16) (harg8 : arg8.IsWhole) (arg9 : Memref sig .tc .vmem S512x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S512x256 .bf16) (harg12 : arg12.IsWhole) (arg13 : Memref sig .tc .vmem S4096x256 .f32) (harg13 : arg13.IsWhole)
  (arg14 : Memref sig .tc .vmem S4096x256 .f32) (harg14 : arg14.IsWhole)
  (v7 v34 : FVec F S512x128 .bf16) (v37 : FVec F S512x512 .f32) (v42 v69 : FVec F S512x128 .bf16) (v72 : FVec F S512x512 .f32)
  (v79 : FVec F S256x256 .bf16) (v80 : FVec F S512x1 .f32) (v81 : FVec F S512x128 .f32) (v82 : BitVec 32) (v93 : BitVec 1)
  (c0_i32_51 v115 : BitVec 32)

  (x3 x4 : FVec F S4096x256 .bf16) (init : Carry F)
  (f13 : Buf (Elt F) (arg13.view.loc (c : Thread nD τ))) (f14 : Buf (Elt F) (arg14.view.loc (c : Thread nD τ)))

/-- The state after `n` key blocks, from the buffers the loop finds. -/
abbrev stAt (n : ℕ) : St F := steps v7 v34 v37 v42 v69 v72 v79 x3 x4 (init, arg13.view.read (Elt F) f13, arg14.view.read (Elt F) f14) n

/-- The first accumulator's buffer before trip `k`. -/
def buf13 : ℕ → Buf (Elt F) (arg13.view.loc (c : Thread nD τ))
  | 0 => f13
  | k + 1 => harg13.unread (stAt c arg13 arg14 v7 v34 v37 v42 v69 v72 v79 x3 x4 init f13 f14 (2 * (k + 1))).2.1
/-- The second accumulator's buffer before trip `k`. -/
def buf14 : ℕ → Buf (Elt F) (arg14.view.loc (c : Thread nD τ))
  | 0 => f14
  | k + 1 => harg14.unread (stAt c arg13 arg14 v7 v34 v37 v42 v69 v72 v79 x3 x4 init f13 f14 (2 * (k + 1))).2.2

theorem read_buf13 (k : ℕ) : arg13.view.read (Elt F) (buf13 c arg13 harg13 arg14 v7 v34 v37 v42 v69 v72 v79 x3 x4 init f13 f14 k)
    = (stAt c arg13 arg14 v7 v34 v37 v42 v69 v72 v79 x3 x4 init f13 f14 (2 * k)).2.1 := by
  cases k with
  | zero => rfl
  | succ k => exact harg13.read_unread _
theorem read_buf14 (k : ℕ) : arg14.view.read (Elt F) (buf14 c arg13 arg14 harg14 v7 v34 v37 v42 v69 v72 v79 x3 x4 init f13 f14 k)
    = (stAt c arg13 arg14 v7 v34 v37 v42 v69 v72 v79 x3 x4 init f13 f14 (2 * k)).2.2 := by
  cases k with
  | zero => rfl
  | succ k => exact harg14.read_unread _

/-- Before trip `k` of the main loop: what it carries, and the two accumulators, are the state after `2 k` blocks. -/
abbrev inv1 (k : ℕ) (acc : Carry F) : sProp 𝕄 :=
  iprop(⌜acc = (stAt c arg13 arg14 v7 v34 v37 v42 v69 v72 v79 x3 x4 init f13 f14 (2 * k)).1⌝
    ∗ Trip (F := F) c arg3 arg4 arg13 arg14 (harg3.unread x3) (harg4.unread x4) (buf13 c arg13 harg13 arg14 v7 v34 v37 v42 v69 v72 v79 x3 x4 init f13 f14 k)
        (buf14 c arg13 arg14 harg14 v7 v34 v37 v42 v69 v72 v79 x3 x4 init f13 f14 k))

set_option maxHeartbeats 1000000 in
set_option warn.classDefReducibility false in
/-- The main loop's invariant. -/
@[sl_loop] def loopInv1 : LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 init where
  inv k acc := inv1 c arg3 harg3 arg4 harg4 arg13 harg13 arg14 harg14 v7 v34 v37 v42 v69 v72 v79 x3 x4 init f13 f14 k acc
  step k acc := by
    obtain ⟨h1, h2, h3⟩ := trip_eq (F := F) c i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 k (stAt c arg13 arg14 v7 v34 v37 v42 v69 v72 v79 x3 x4 init f13 f14 (2 * k.val))
      (harg3.unread x3) (harg4.unread x4) _ _ (read_buf13 c arg13 harg13 arg14 v7 v34 v37 v42 v69 v72 v79 x3 x4 init f13 f14 k.val)
      (read_buf14 c arg13 arg14 harg14 v7 v34 v37 v42 v69 v72 v79 x3 x4 init f13 f14 k.val)
    have hk := trip_lt k
    have e1 : fin8 (2 * k.val) = ev k := Fin.ext (by show 2 * k.val % 8 = 2 * k.val; omega)
    have e2 : fin8 (2 * k.val + 1) = od k := Fin.ext (by show (2 * k.val + 1) % 8 = 2 * k.val + 1; omega)
    have e : stAt c arg13 arg14 v7 v34 v37 v42 v69 v72 v79 x3 x4 init f13 f14 (2 * (k.val + 1))
        = step v7 v34 v37 v42 v69 v72 v79 x3 x4 (od k) (step v7 v34 v37 v42 v69 v72 v79 x3 x4 (ev k) (stAt c arg13 arg14 v7 v34 v37 v42 v69 v72 v79 x3 x4 init f13 f14 (2 * k.val))) := by
      rw [← e1, ← e2]; rfl
    rw [harg3.read_unread, harg4.read_unread, ← e] at h1 h2 h3
    unfold inv1
    iintro ⟨%ha, H⟩
    subst ha
    iapply (wp_wand_r Idealize.ShloMosaic.frame (wpE (defs₀ (F := F)) Variants.none (c : Thread nD τ) none) Set.univ)
    isplitl [H]
    · iapply (trip (F := F) c i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 k _ _ _ _ _ _ (harg3.unread x3) (harg4.unread x4) _ _).2.2.2; iexact H
    · iintro %y ⟨%hy, H'⟩
      isplitr; · ipureintro; rw [hy]; exact h1
      have b13 : buf13 c arg13 harg13 arg14 v7 v34 v37 v42 v69 v72 v79 x3 x4 init f13 f14 (k.val + 1) = _ := (harg13.eq_unread h2).symm
      have b14 : buf14 c arg13 arg14 harg14 v7 v34 v37 v42 v69 v72 v79 x3 x4 init f13 f14 (k.val + 1) = _ := (harg14.eq_unread h3).symm
      rw [b13, b14]
      iexact H'

set_option warn.classDefReducibility false in
/-- The remainder loop makes no trip: it hands on what it starts from. -/
@[sl_loop] def loopInv2 : LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 v7 v34 v37 v42 v69 v72 v79 v80 v81 v82 v93 c0_i32_51 v115 init where
  inv k acc := iprop(⌜acc = init⌝)
  step k acc := by
    exact absurd (Nat.lt_of_lt_of_eq k.isLt (trips2 i)) (Nat.not_lt_zero _)

end Loops

end Cert.AttnBwdIdeal.Hand

end
-- ==== Proof.AttnBodyDefs.lean ====
module

public import proofs.«01_k».proof.Proof.AttnLoops
public import Idealize.ShloMosaic.Lib.Pointwise

@[expose] public section

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem off9_eq : ∀ i : grid0.Coords, k0_off9 i = ![(512 * (i 1).val + 4294966784) % 4294967296, 0] := by decide +kernel
theorem off10_eq : ∀ i : grid0.Coords, k0_off10 i = ![(512 * (i 1).val + 4294966784) % 4294967296, 128] := by decide +kernel
theorem off11_eq : ∀ i : grid0.Coords, k0_off11 i = ![512 * (i 1).val, 0] := by decide +kernel
theorem off12_eq : ∀ i : grid0.Coords, k0_off12 i = ![512 * (i 1).val, 0] := by decide +kernel
theorem off13_eq : ∀ i : grid0.Coords, k0_off13 i = ![512 * (i 1).val, 128] := by decide +kernel
theorem off14_eq : ∀ i : grid0.Coords, k0_off14 i = ![512 * (i 1).val, 128] := by decide +kernel

instance (i : grid0.Coords) : ClosedOff (k0_off9 i) := ⟨_, off9_eq i⟩
instance (i : grid0.Coords) : ClosedOff (k0_off10 i) := ⟨_, off10_eq i⟩
instance (i : grid0.Coords) : ClosedOff (k0_off11 i) := ⟨_, off11_eq i⟩
instance (i : grid0.Coords) : ClosedOff (k0_off12 i) := ⟨_, off12_eq i⟩
instance (i : grid0.Coords) : ClosedOff (k0_off13 i) := ⟨_, off13_eq i⟩
instance (i : grid0.Coords) : ClosedOff (k0_off14 i) := ⟨_, off14_eq i⟩

/-- The condition of the body's first branch. -/
abbrev cond1 (i : grid0.Coords) : Prop := (Scalar.cmpi .ne (Scalar.extui (Scalar.cmpi .eq (BitVec.ofNat 32 (i 1).val) 0#32)) 0#32) = 1#1

/-! ## The diagonal block, as functions of its values -/

theorem win_inb (n : Fin 8) (h : Fin 2) : ∀ a, (![512 * n.val, 128 * h.val] : Fin 2 → ℕ) a + S256x128.size a ≤ S4096x256.size a := by
  revert n h; decide

/-- The first 256 of block `n`'s rows, of head `h`'s lanes. -/
abbrev win {α : Type} (x : S4096x256.Idx → α) (n : Fin 8) (h : Fin 2) : S256x128.Idx → α :=
  VecWindow.window x ![512 * n.val, 128 * h.val] S256x128.size (win_inb n h)
/-- The array with those replaced. -/
abbrev putWin {α : Type} (x : S4096x256.Idx → α) (n : Fin 8) (h : Fin 2) (w : S256x128.Idx → α) : S4096x256.Idx → α :=
  VecWindow.put x ![512 * n.val, 128 * h.val] S256x128.size w

theorem half_inb (h : Fin 2) : ∀ a, (![0, 128 * h.val] : Fin 2 → ℕ) a + S512x128.size a ≤ S512x256.size a := by
  revert h; decide
/-- One head's lanes of a query tile. -/
abbrev half {α : Type} (x : S512x256.Idx → α) (h : Fin 2) : S512x128.Idx → α :=
  VecWindow.window x ![0, 128 * h.val] S512x128.size (half_inb h)
/-- Two heads' lanes side by side. -/
def cat2 {α : Type} (a b : S512x128.Idx → α) : S512x256.Idx → α :=
  fun y => if h : (y 1).val < 128 then a (ix2 (n0 := 512) (n1 := 128) ⟨(y 0).val, (y 0).isLt⟩ ⟨(y 1).val, h⟩)
    else b (ix2 (n0 := 512) (n1 := 128) ⟨(y 0).val, (y 0).isLt⟩ ⟨(y 1).val - 128, by have h1 : (y 1).val < 256 := (y 1).isLt; omega⟩)

/-- The key gradient's rows of the diagonal block's first half, this tile's upper half added. -/
abbrev dgK1 (q d : FVec F S512x128 .bf16) (p : FVec F S512x512 .f32) (t : FVec F S256x256 .bf16) (s g : FVec F S512x1 .f32) (k v : FVec F S256x128 .bf16) (w : FVec F S256x128 .f32) : FVec F S256x128 .f32 :=
  k0_pay219 q d t (k0_pay211 g) v k0_pay212 (k0_pay215 q k) (k0_pay216 q p t s k) w
/-- The value gradient's, likewise. -/
abbrev dgV1 (q d : FVec F S512x128 .bf16) (p : FVec F S512x512 .f32) (t : FVec F S256x256 .bf16) (s : FVec F S512x1 .f32) (k : FVec F S256x128 .bf16) (w : FVec F S256x128 .f32) : FVec F S256x128 .f32 :=
  k0_pay220 d (k0_pay216 q p t s k) w
/-- The query gradient of the tile's upper half. -/
abbrev dgQ1 (q d : FVec F S512x128 .bf16) (p : FVec F S512x512 .f32) (t : FVec F S256x256 .bf16) (o : FVec F S512x128 .f32) (s g : FVec F S512x1 .f32) (k v : FVec F S256x128 .bf16) : FVec F S256x128 .f32 :=
  k0_pay218 d t (k0_pay210 o) (k0_pay211 g) k v k0_pay212 (k0_pay215 q k) (k0_pay216 q p t s k)

/-- The lane numbers of a masked block. -/
abbrev lanes : IVec S256x512 32 := iota .tc S256x512 32 [1] iota_S256x512_d1_w32

/-- The key gradient's rows of the diagonal block, this tile's lower half added. -/
abbrev dgK2 (q d : FVec F S512x128 .bf16) (p : FVec F S512x512 .f32) (t : FVec F S256x256 .bf16) (s g : FVec F S512x1 .f32) (k v : FVec F S512x128 .bf16) (w : FVec F S512x128 .f32) : FVec F S512x128 .f32 :=
  k0_pay236 q (k0_pay225 k0_pay224 lanes) (k0_pay228 q k) (k0_pay230 q d p t (k0_pay222 s) k v k0_pay224 lanes) (k0_pay232 q d p t (k0_pay222 s) (k0_pay223 g) k v k0_pay224 lanes)
    (k0_pay233 q d p t (k0_pay222 s) k v k0_pay224 lanes) (k0_pay234 q d p t (k0_pay222 s) (k0_pay223 g) k v k0_pay224 lanes) w
/-- The value gradient's, likewise. -/
abbrev dgV2 (q d : FVec F S512x128 .bf16) (p : FVec F S512x512 .f32) (t : FVec F S256x256 .bf16) (s : FVec F S512x1 .f32) (k : FVec F S512x128 .bf16) (w : FVec F S512x128 .f32) : FVec F S512x128 .f32 :=
  k0_pay237 d (k0_pay229 q p t (k0_pay222 s) k k0_pay224 lanes) w
/-- The query gradient's tile, finished. -/
abbrev dgQ (q d : FVec F S512x128 .bf16) (p : FVec F S512x512 .f32) (t : FVec F S256x256 .bf16) (o : FVec F S512x128 .f32) (s g : FVec F S512x1 .f32) (k v : FVec F S256x128 .bf16) (k' v' : FVec F S512x128 .bf16) : FVec F S512x128 .bf16 :=
  k0_pay2 (k0_pay238 (dgQ1 q d p t o s g k v) (k0_pay221 o) k' (k0_pay225 k0_pay224 lanes) (k0_pay228 q k') (k0_pay230 q d p t (k0_pay222 s) k' v' k0_pay224 lanes)
    (k0_pay232 q d p t (k0_pay222 s) (k0_pay223 g) k' v' k0_pay224 lanes) (k0_pay233 q d p t (k0_pay222 s) k' v' k0_pay224 lanes) (k0_pay234 q d p t (k0_pay222 s) (k0_pay223 g) k' v' k0_pay224 lanes))

/-! ## The whole body, as functions of its values -/

/-- A query tile's rows, two heads of them: scaled queries, gated cotangents, row totals spread over the lanes; and the triangle of ones. -/
structure Rows (F : FTy → Type) [FloatOps F] where
  (q0 d0 q1 d1 : FVec F S512x128 .bf16)
  (p0 p1 : FVec F S512x512 .f32)
  t : FVec F S256x256 .bf16

/-- The diagonal block's keys and values: the first half of head 0, the whole of head 0, and so of head 1. -/
structure Keys (F : FTy → Type) [FloatOps F] where
  (kA vA kC vC : FVec F S256x128 .bf16)
  (kB vB kD vD : FVec F S512x128 .bf16)

/-- The carried values at the start. -/
abbrev carry0 : Carry F := (k0_pay200, k0_pay199, k0_pay199, k0_pay200, k0_pay199, k0_pay199)

section Acc
variable (U : Rows F) (W : Keys F) (S : St F) (n : Fin 8)

/-- The key gradient's accumulator past the diagonal block. -/
def accKR : FVec F S4096x256 .f32 :=
  let A1 := putWin S.2.1 n 0 (dgK1 U.q0 U.d0 U.p0 U.t S.1.2.1 S.1.2.2.1 W.kA W.vA (win S.2.1 n 0))
  let A2 := putBlk A1 n 0 (dgK2 U.q0 U.d0 U.p0 U.t S.1.2.1 S.1.2.2.1 W.kB W.vB (blk A1 n 0))
  let A3 := putWin A2 n 1 (dgK1 U.q1 U.d1 U.p1 U.t S.1.2.2.2.2.1 S.1.2.2.2.2.2 W.kC W.vC (win A2 n 1))
  putBlk A3 n 1 (dgK2 U.q1 U.d1 U.p1 U.t S.1.2.2.2.2.1 S.1.2.2.2.2.2 W.kD W.vD (blk A3 n 1))
/-- The value gradient's accumulator past the diagonal block. -/
def accVR : FVec F S4096x256 .f32 :=
  let A1 := putWin S.2.2 n 0 (dgV1 U.q0 U.d0 U.p0 U.t S.1.2.1 W.kA (win S.2.2 n 0))
  let A2 := putBlk A1 n 0 (dgV2 U.q0 U.d0 U.p0 U.t S.1.2.1 W.kB (blk A1 n 0))
  let A3 := putWin A2 n 1 (dgV1 U.q1 U.d1 U.p1 U.t S.1.2.2.2.2.1 W.kC (win A2 n 1))
  putBlk A3 n 1 (dgV2 U.q1 U.d1 U.p1 U.t S.1.2.2.2.2.1 W.kD (blk A3 n 1))
/-- The query gradient's tile. -/
def outQR : FVec F S512x256 .bf16 :=
  cat2 (dgQ U.q0 U.d0 U.p0 U.t S.1.1 S.1.2.1 S.1.2.2.1 W.kA W.vA W.kB W.vB)
    (dgQ U.q1 U.d1 U.p1 U.t S.1.2.2.2.1 S.1.2.2.2.2.1 S.1.2.2.2.2.2 W.kC W.vC W.kD W.vD)

end Acc

/-- The rows of a tile's values. -/
def rowsOf (x2 x5 : FVec F S512x256 .bf16) (x7 : FVec F S512x256 .f32) (x8 : FVec F S512x256 .bf16) : Rows F where
  q0 := k0_pay183 (half x2 0)
  d0 := k0_pay188 (half x5 0) (half x8 0)
  q1 := k0_pay183 (half x2 1)
  d1 := k0_pay188 (half x5 1) (half x8 1)
  p0 := k0_pay189 (half x7 0)
  p1 := k0_pay189 (half x7 1)
  t := k0_pay198 k0_pay197 (FloatOps.ofBits FTy.f32 1065353216#32)
/-- The diagonal block's keys and values. -/
def keysOf (x3 x4 : FVec F S4096x256 .bf16) (n : Fin 8) : Keys F where
  kA := win x3 n 0
  vA := win x4 n 0
  kB := blk x3 n 0
  vB := blk x4 n 0
  kC := win x3 n 1
  vC := win x4 n 1
  kD := blk x3 n 1
  vD := blk x4 n 1

section Whole
variable (x2 : FVec F S512x256 .bf16) (x3 x4 : FVec F S4096x256 .bf16) (x5 x6 : FVec F S512x256 .bf16) (x7 : FVec F S512x256 .f32) (x8 : FVec F S512x256 .bf16)

/-- The state before key block `n` of a tile whose rows are `U`. -/
abbrev stepsU (U : Rows F) (s : St F) (n : ℕ) : St F := steps U.q0 U.d0 U.p0 U.q1 U.d1 U.p1 U.t x3 x4 s n

/-- The state at the diagonal block of query tile `n`. -/
def before (n : ℕ) (A B : FVec F S4096x256 .f32) : St F :=
  stepsU x3 x4 (rowsOf x2 x5 x7 x8) (carry0, if n = 0 then k0_pay181 else A, if n = 0 then k0_pay182 else B) n

/-- The key gradient's accumulator after query tile `n`. -/
def accK (n : ℕ) (A B : FVec F S4096x256 .f32) : FVec F S4096x256 .f32 :=
  accKR (rowsOf x2 x5 x7 x8) (keysOf x3 x4 (fin8 n)) (before x2 x3 x4 x5 x7 x8 n A B) (fin8 n)
/-- The value gradient's accumulator after query tile `n`. -/
def accV (n : ℕ) (A B : FVec F S4096x256 .f32) : FVec F S4096x256 .f32 :=
  accVR (rowsOf x2 x5 x7 x8) (keysOf x3 x4 (fin8 n)) (before x2 x3 x4 x5 x7 x8 n A B) (fin8 n)
/-- The query gradient's tile. -/
def outQ (n : ℕ) (A B : FVec F S4096x256 .f32) : FVec F S512x256 .bf16 :=
  outQR (rowsOf x2 x5 x7 x8) (keysOf x3 x4 (fin8 n)) (before x2 x3 x4 x5 x7 x8 n A B)
/-- The gate's gradient's tile. -/
def outZ : FVec F S512x256 .bf16 :=
  cat2 (k0_pay187 (half x5 0) (half x8 0) (half x6 0)) (k0_pay187 (half x5 1) (half x8 1) (half x6 1))
end Whole

/-! ## What the buffers read, after the body's stores -/

section Stores
variable {i : grid0.Coords}

theorem off11_win (i : grid0.Coords) : k0_off11 i = ![512 * (fin8 (i 1).val).val, 128 * (0 : Fin 2).val] := by
  have h : (i 1).val < 8 := (i 1).isLt
  rw [off11_eq]; simp only [fin8, Nat.mod_eq_of_lt h]; rfl
theorem off12_win (i : grid0.Coords) : k0_off12 i = ![512 * (fin8 (i 1).val).val, 128 * (0 : Fin 2).val] := by
  have h : (i 1).val < 8 := (i 1).isLt
  rw [off12_eq]; simp only [fin8, Nat.mod_eq_of_lt h]; rfl
theorem off13_win (i : grid0.Coords) : k0_off13 i = ![512 * (fin8 (i 1).val).val, 128 * (1 : Fin 2).val] := by
  have h : (i 1).val < 8 := (i 1).isLt
  rw [off13_eq]; simp only [fin8, Nat.mod_eq_of_lt h]; rfl
theorem off14_win (i : grid0.Coords) : k0_off14 i = ![512 * (fin8 (i 1).val).val, 128 * (1 : Fin 2).val] := by
  have h : (i 1).val < 8 := (i 1).isLt
  rw [off14_eq]; simp only [fin8, Nat.mod_eq_of_lt h]; rfl
theorem off9_win : ∀ i : grid0.Coords, (i 1).val ≠ 0 → k0_off9 i = ![512 * (fin8 ((i 1).val - 1)).val, 128 * (0 : Fin 2).val] := by decide +kernel
theorem off10_win : ∀ i : grid0.Coords, (i 1).val ≠ 0 → k0_off10 i = ![512 * (fin8 ((i 1).val - 1)).val, 128 * (1 : Fin 2).val] := by decide +kernel

variable {e : EltTy} (M : Memref sig .tc .vmem S4096x256 e)

/-- A load of the first half of one head's lanes of a key block. -/
abbrev ldWin (f : M.view.ty.Contents (Elt F)) (off : Fin 2 → ℕ) (inb : ∀ a, off a + S256x128.size a ≤ S4096x256.size a) : S256x128.Idx → Elt F e :=
  M.view.readAt (Elt F) (Rect.unit (s := S4096x256) off S256x128.size inb).toLoadRect f

theorem load_win (f : M.view.ty.Contents (Elt F)) {off : Fin 2 → ℕ} (inb : ∀ a, off a + S256x128.size a ≤ S4096x256.size a) (n : Fin 8) (h : Fin 2)
    (e' : off = ![512 * n.val, 128 * h.val]) : ldWin M f off inb = win (M.view.read (Elt F) f) n h :=
  View.readAt_unit M.view f inb e' (win_inb n h)

theorem store_win (f : M.view.ty.Contents (Elt F)) {off : Fin 2 → ℕ} (inb : ∀ a, off a + S256x128.size a ≤ S4096x256.size a)
    (w : (Rect.unit (s := S4096x256) off S256x128.size inb).shape.Idx → Elt F e) (L : List (View.Piece (Elt F) S4096x256 e)) (n : Fin 8) (h : Fin 2)
    (e' : off = ![512 * n.val, 128 * h.val]) :
    M.view.read (Elt F) (M.view.writes (Elt F) f (⟨Rect.unit (s := S4096x256) off S256x128.size inb, w⟩ :: L)) = putWin (M.view.read (Elt F) (M.view.writes (Elt F) f L)) n h w :=
  View.read_writes_cons_put M.view f inb w L e'

/-- A store to a key block of a function of what was there. -/
abbrev onBlk (f : M.view.ty.Contents (Elt F)) (off : Fin 2 → ℕ) (inb : ∀ a, off a + S512x128.size a ≤ S4096x256.size a) (G : (S512x128.Idx → Elt F e) → S512x128.Idx → Elt F e)
    (L : List (View.Piece (Elt F) S4096x256 e)) : List (View.Piece (Elt F) S4096x256 e) :=
  ⟨Rect.unit (s := S4096x256) off S512x128.size inb, G (ldAt M (M.view.writes (Elt F) f L) off inb)⟩ :: L
/-- A store to the first half of a key block of a function of what was there. -/
abbrev onWin (f : M.view.ty.Contents (Elt F)) (off : Fin 2 → ℕ) (inb : ∀ a, off a + S256x128.size a ≤ S4096x256.size a) (G : (S256x128.Idx → Elt F e) → S256x128.Idx → Elt F e)
    (L : List (View.Piece (Elt F) S4096x256 e)) : List (View.Piece (Elt F) S4096x256 e) :=
  ⟨Rect.unit (s := S4096x256) off S256x128.size inb, G (ldWin M (M.view.writes (Elt F) f L) off inb)⟩ :: L

/-- The four stores of a diagonal block. -/
abbrev onDiag (f : M.view.ty.Contents (Elt F)) (i : grid0.Coords) (b11 : ∀ a, k0_off11 i a + S256x128.size a ≤ S4096x256.size a) (b12 : ∀ a, k0_off12 i a + S512x128.size a ≤ S4096x256.size a) (b13 : ∀ a, k0_off13 i a + S256x128.size a ≤ S4096x256.size a) (b14 : ∀ a, k0_off14 i a + S512x128.size a ≤ S4096x256.size a) (G11 G13 : (S256x128.Idx → Elt F e) → S256x128.Idx → Elt F e) (G12 G14 : (S512x128.Idx → Elt F e) → S512x128.Idx → Elt F e)
    (L : List (View.Piece (Elt F) S4096x256 e)) : List (View.Piece (Elt F) S4096x256 e) :=
  onBlk M f (k0_off14 i) b14 G14 (onWin M f (k0_off13 i) b13 G13 (onBlk M f (k0_off12 i) b12 G12 (onWin M f (k0_off11 i) b11 G11 L)))

theorem read_onBlk (f : M.view.ty.Contents (Elt F)) {off : Fin 2 → ℕ} (inb) (G : (S512x128.Idx → Elt F e) → S512x128.Idx → Elt F e)
    (L : List (View.Piece (Elt F) S4096x256 e)) (n : Fin 8) (h : Fin 2) (e' : off = ![512 * n.val, 128 * h.val]) (A : S4096x256.Idx → Elt F e) (hA : M.view.read (Elt F) (M.view.writes (Elt F) f L) = A) :
    M.view.read (Elt F) (M.view.writes (Elt F) f (onBlk M f off inb G L)) = putBlk A n h (G (blk A n h)) := by
  subst hA
  exact (store_blk M f inb _ L n h e').trans (congrArg (fun w => putBlk _ n h (G w)) (load_blk M _ inb n h e'))
theorem read_onWin (f : M.view.ty.Contents (Elt F)) {off : Fin 2 → ℕ} (inb) (G : (S256x128.Idx → Elt F e) → S256x128.Idx → Elt F e)
    (L : List (View.Piece (Elt F) S4096x256 e)) (n : Fin 8) (h : Fin 2) (e' : off = ![512 * n.val, 128 * h.val]) (A : S4096x256.Idx → Elt F e) (hA : M.view.read (Elt F) (M.view.writes (Elt F) f L) = A) :
    M.view.read (Elt F) (M.view.writes (Elt F) f (onWin M f off inb G L)) = putWin A n h (G (win A n h)) := by
  subst hA
  exact (store_win M f inb _ L n h e').trans (congrArg (fun w => putWin _ n h (G w)) (load_win M _ inb n h e'))

theorem read_onDiag (f : M.view.ty.Contents (Elt F)) (i : grid0.Coords) (b11 : ∀ a, k0_off11 i a + S256x128.size a ≤ S4096x256.size a) (b12 : ∀ a, k0_off12 i a + S512x128.size a ≤ S4096x256.size a) (b13 : ∀ a, k0_off13 i a + S256x128.size a ≤ S4096x256.size a) (b14 : ∀ a, k0_off14 i a + S512x128.size a ≤ S4096x256.size a) (G11 G13 : (S256x128.Idx → Elt F e) → S256x128.Idx → Elt F e) (G12 G14 : (S512x128.Idx → Elt F e) → S512x128.Idx → Elt F e)
    (L : List (View.Piece (Elt F) S4096x256 e)) (A : S4096x256.Idx → Elt F e) (hA : M.view.read (Elt F) (M.view.writes (Elt F) f L) = A) :
    M.view.read (Elt F) (M.view.writes (Elt F) f (onDiag M f i b11 b12 b13 b14 G11 G13 G12 G14 L)) =
      (let n := fin8 (i 1).val
       let A1 := putWin A n 0 (G11 (win A n 0))
       let A2 := putBlk A1 n 0 (G12 (blk A1 n 0))
       let A3 := putWin A2 n 1 (G13 (win A2 n 1))
       putBlk A3 n 1 (G14 (blk A3 n 1))) :=
  read_onBlk M f b14 G14 _ _ 1 (off14_win i) _ (read_onWin M f b13 G13 _ _ 1 (off13_win i) _
    (read_onBlk M f b12 G12 _ _ 0 (off12_win i) _ (read_onWin M f b11 G11 _ _ 0 (off11_win i) _ hA)))

end Stores

end Cert.AttnBwdIdeal.Hand

end
-- ==== Proof.AttnRaw.lean ====
module

public import proofs.«01_k».proof.Proof.AttnBodyDefs

@[expose] public section

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Raw

/-- A load of one head's lanes of a query tile. -/
abbrev ldHalf {e : EltTy} (M : Memref sig .tc .vmem S512x256 e) (f : M.view.ty.Contents (Elt F)) (h : Fin 2) : S512x128.Idx → Elt F e :=
  M.view.readAt (Elt F) (Rect.unit (s := S512x256) ![0, 128 * h.val] S512x128.size (half_inb h)).toLoadRect f

theorem load_half {e : EltTy} (M : Memref sig .tc .vmem S512x256 e) (f : M.view.ty.Contents (Elt F)) (h : Fin 2) : ldHalf M f h = half (M.view.read (Elt F) f) h :=
  View.readAt_unit M.view f _ rfl (half_inb h)

/-- A tile's two halves, stored one after the other, are all it reads. -/
theorem read_cat2 {e : EltTy} (M : Memref sig .tc .vmem S512x256 e) (f : M.view.ty.Contents (Elt F)) (a b : S512x128.Idx → Elt F e) :
    M.view.read (Elt F) (M.view.writes (Elt F) f [⟨Rect.unit (s := S512x256) ![0, 128] S512x128.size inb_S512x256_S512x128_0_128, b⟩,
      ⟨Rect.unit (s := S512x256) ![0, 0] S512x128.size inb_S512x256_S512x128_0_0, a⟩]) = cat2 a b := by
  have e1 := View.read_writes_cons_put M.view f inb_S512x256_S512x128_0_128 b [⟨Rect.unit (s := S512x256) ![0, 0] S512x128.size inb_S512x256_S512x128_0_0, a⟩] rfl
  have e2 := View.read_writes_cons_put M.view f inb_S512x256_S512x128_0_0 a [] rfl
  rw [e1, e2]
  funext y
  have h0 : (y 0).val < 512 := (y 0).isLt
  have h1 : (y 1).val < 256 := (y 1).isLt
  unfold cat2 VecWindow.put
  by_cases h : (y 1).val < 128
  · rw [dif_neg (by intro hh; have := (hh 1).1; simp at this; omega), dif_pos (by intro k; fin_cases k <;> simp <;> omega), dif_pos h]
    refine congrArg a (funext fun k => Fin.ext ?_)
    fin_cases k <;> rfl
  · rw [dif_pos (by intro k; fin_cases k <;> simp <;> omega), dif_neg h]
    refine congrArg b (funext fun k => Fin.ext ?_)
    fin_cases k <;> rfl

/-- The rows of a query tile, as loaded. -/
def rawRows (M2 M5 : Memref sig .tc .vmem S512x256 .bf16) (M7 : Memref sig .tc .vmem S512x256 .f32) (M8 : Memref sig .tc .vmem S512x256 .bf16)
    (f2 : M2.view.ty.Contents (Elt F)) (f5 : M5.view.ty.Contents (Elt F)) (f7 : M7.view.ty.Contents (Elt F)) (f8 : M8.view.ty.Contents (Elt F)) : Rows F where
  q0 := k0_pay183 (ldHalf M2 f2 0)
  d0 := k0_pay188 (ldHalf M5 f5 0) (ldHalf M8 f8 0)
  q1 := k0_pay190 (ldHalf M2 f2 1)
  d1 := k0_pay195 (ldHalf M5 f5 1) (ldHalf M8 f8 1)
  p0 := k0_pay189 (ldHalf M7 f7 0)
  p1 := k0_pay196 (ldHalf M7 f7 1)
  t := k0_pay198 k0_pay197 (FloatOps.ofBits FTy.f32 1065353216#32)

theorem rawRows_eq (M2 M5 : Memref sig .tc .vmem S512x256 .bf16) (M7 : Memref sig .tc .vmem S512x256 .f32) (M8 : Memref sig .tc .vmem S512x256 .bf16) (f2 f5 f7 f8) :
    rawRows (F := F) M2 M5 M7 M8 f2 f5 f7 f8 = rowsOf (M2.view.read (Elt F) f2) (M5.view.read (Elt F) f5) (M7.view.read (Elt F) f7) (M8.view.read (Elt F) f8) := by
  unfold rawRows rowsOf
  simp only [load_half]
  rfl

/-- The diagonal block's keys and values, as loaded. -/
def rawKeys (i : grid0.Coords) (M3 M4 : Memref sig .tc .vmem S4096x256 .bf16) (f3 : M3.view.ty.Contents (Elt F)) (f4 : M4.view.ty.Contents (Elt F)) : Keys F where
  kA := ldWin M3 f3 (k0_off11 i) (k0_off11_inb i)
  vA := ldWin M4 f4 (k0_off11 i) (k0_off11_inb i)
  kB := ldAt M3 f3 (k0_off12 i) (k0_off12_inb i)
  vB := ldAt M4 f4 (k0_off12 i) (k0_off12_inb i)
  kC := ldWin M3 f3 (k0_off13 i) (k0_off13_inb i)
  vC := ldWin M4 f4 (k0_off13 i) (k0_off13_inb i)
  kD := ldAt M3 f3 (k0_off14 i) (k0_off14_inb i)
  vD := ldAt M4 f4 (k0_off14 i) (k0_off14_inb i)

theorem rawKeys_eq (i : grid0.Coords) (M3 M4 : Memref sig .tc .vmem S4096x256 .bf16) (f3 f4) :
    rawKeys (F := F) i M3 M4 f3 f4 = keysOf (M3.view.read (Elt F) f3) (M4.view.read (Elt F) f4) (fin8 (i 1).val) := by
  unfold rawKeys keysOf ldAt
  simp only [load_win _ _ _ _ _ (off11_win i), load_win _ _ _ _ _ (off13_win i), load_blk _ _ _ _ _ (off12_win i), load_blk _ _ _ _ _ (off14_win i)]

section Printed
variable (q d : FVec F S512x128 .bf16) (p : FVec F S512x512 .f32) (t : FVec F S256x256 .bf16) (o : FVec F S512x128 .f32) (s g : FVec F S512x1 .f32) (k v : FVec F S512x128 .bf16) (w : FVec F S512x128 .f32)
  (k' v' : FVec F S256x128 .bf16) (w' : FVec F S256x128 .f32)
/-! The same functions as the program prints them in its second copies. -/
abbrev gS := k0_pay152 q t s k
abbrev gG := k0_pay160 t (k0_pay157 q d p t s g k v) (k0_pay158 q d p t s k v)
abbrev gQ := k0_pay162 t o k (k0_pay148 q k) (k0_pay154 q d p t s k v) (k0_pay156 q d p t s g k v) (k0_pay157 q d p t s g k v) (k0_pay158 q d p t s k v)
abbrev gK := k0_pay163 q t (k0_pay148 q k) (k0_pay154 q d p t s k v) (k0_pay156 q d p t s g k v) (k0_pay157 q d p t s g k v) (k0_pay158 q d p t s k v) w
abbrev gV := k0_pay164 d (k0_pay153 q p t s k) w
abbrev hS := k0_pay171 t s (k0_pay166 q k)
abbrev hG := k0_pay177 d p t s g v (k0_pay165 q k) (k0_pay166 q k)
abbrev hQ := k0_pay179 d p t o s g k v (k0_pay165 q k) (k0_pay166 q k)
abbrev hK := k0_pay180 q d p t s g v (k0_pay165 q k) (k0_pay166 q k) w
abbrev hV := k0_pay209 d (k0_pay172 p t s (k0_pay165 q k) (k0_pay166 q k)) w
abbrev eK1 := k0_pay250 q d p t (k0_pay240 s) (k0_pay241 g) v' k0_pay242 (k0_pay243 q k') (k0_pay244 q k') (FloatOps.ofBits FTy.f32 0#32) w'
abbrev eV1 := k0_pay251 d (k0_pay247 p t (k0_pay240 s) k0_pay242 (k0_pay243 q k') (k0_pay244 q k') (FloatOps.ofBits FTy.f32 0#32)) w'
abbrev eQ1 := k0_pay249 d p t (k0_pay239 o) (k0_pay240 s) (k0_pay241 g) k' v' k0_pay242 (k0_pay243 q k') (k0_pay244 q k') (FloatOps.ofBits FTy.f32 0#32)
abbrev eK2 := k0_pay267 q d p t (k0_pay254 g) v k0_pay255 (k0_pay258 q k) (k0_pay261 q t s k) (k0_pay262 q t s k) (k0_pay263 q t k) w
abbrev eV2 := k0_pay1 (k0_pay268 d p k0_pay255 (k0_pay258 q k) (k0_pay261 q t s k) (k0_pay262 q t s k) (k0_pay263 q t k) w)
abbrev eQ := k0_pay3 (eQ1 q d p t o s g k' v') (k0_pay266 d p t (k0_pay252 o) (k0_pay254 g) k v k0_pay255 (k0_pay258 q k) (k0_pay261 q t s k) (k0_pay262 q t s k) (k0_pay263 q t k))

theorem gS_eq : gS q t s k = nextS q t s k := rfl
theorem gG_eq : gG q d p t s g k v = nextG q d p t s g k v := rfl
theorem gQ_eq : gQ q d p t o s g k v = nextQ q d p t o s g k v := rfl
theorem gK_eq : gK q d p t s g k v w = addK q d p t s g k v w := rfl
theorem gV_eq : gV q d p t s k w = addV q d p t s k w := rfl
theorem hS_eq : hS q t s k = nextS q t s k := rfl
theorem hG_eq : hG q d p t s g k v = nextG q d p t s g k v := rfl
theorem hQ_eq : hQ q d p t o s g k v = nextQ q d p t o s g k v := rfl
theorem hK_eq : hK q d p t s g k v w = addK q d p t s g k v w := rfl
theorem hV_eq : hV q d p t s k w = addV q d p t s k w := rfl
theorem eK1_eq : eK1 q d p t s g k' v' w' = dgK1 q d p t s g k' v' w' := rfl
theorem eV1_eq : eV1 q d p t s k' w' = dgV1 q d p t s k' w' := rfl
theorem eK2_eq : eK2 q d p t s g k v w = dgK2 q d p t s g k v w := rfl
theorem eV2_eq : eV2 q d p t s k w = dgV2 q d p t s k w := rfl
theorem eQ_eq : eQ q d p t o s g k v k' v' = dgQ q d p t o s g k' v' k v := rfl
end Printed

section Lists
variable (U : Rows F) (W : Keys F) (S : St F) (M : Memref sig .tc .vmem S4096x256 .f32) (f : M.view.ty.Contents (Elt F)) (i : grid0.Coords)

/-- The stores of a diagonal block to the key gradient's accumulator. -/
abbrev listK (L : List (View.Piece (Elt F) S4096x256 .f32)) : List (View.Piece (Elt F) S4096x256 .f32) :=
  onDiag M f i (k0_off11_inb i) (k0_off12_inb i) (k0_off13_inb i) (k0_off14_inb i)
    (fun w => dgK1 U.q0 U.d0 U.p0 U.t S.1.2.1 S.1.2.2.1 W.kA W.vA w) (fun w => eK1 U.q1 U.d1 U.p1 U.t S.1.2.2.2.2.1 S.1.2.2.2.2.2 W.kC W.vC w)
    (fun w => dgK2 U.q0 U.d0 U.p0 U.t S.1.2.1 S.1.2.2.1 W.kB W.vB w) (fun w => eK2 U.q1 U.d1 U.p1 U.t S.1.2.2.2.2.1 S.1.2.2.2.2.2 W.kD W.vD w) L
/-- The stores of a diagonal block to the value gradient's accumulator. -/
abbrev listV (L : List (View.Piece (Elt F) S4096x256 .f32)) : List (View.Piece (Elt F) S4096x256 .f32) :=
  onDiag M f i (k0_off11_inb i) (k0_off12_inb i) (k0_off13_inb i) (k0_off14_inb i)
    (fun w => dgV1 U.q0 U.d0 U.p0 U.t S.1.2.1 W.kA w) (fun w => eV1 U.q1 U.d1 U.p1 U.t S.1.2.2.2.2.1 W.kC w)
    (fun w => dgV2 U.q0 U.d0 U.p0 U.t S.1.2.1 W.kB w) (fun w => eV2 U.q1 U.d1 U.p1 U.t S.1.2.2.2.2.1 W.kD w) L

theorem read_listK (L) (hA : M.view.read (Elt F) (M.view.writes (Elt F) f L) = S.2.1) :
    M.view.read (Elt F) (M.view.writes (Elt F) f (listK U W S M f i L)) = accKR U W S (fin8 (i 1).val) := read_onDiag M f i _ _ _ _ _ _ _ _ L _ hA
theorem read_listV (L) (hA : M.view.read (Elt F) (M.view.writes (Elt F) f L) = S.2.2) :
    M.view.read (Elt F) (M.view.writes (Elt F) f (listV U W S M f i L)) = accVR U W S (fin8 (i 1).val) := read_onDiag M f i _ _ _ _ _ _ _ _ L _ hA

variable (h2 : k0_cond2 i = 1#1) (M3 M4 : Memref sig .tc .vmem S4096x256 .bf16) (f3 : M3.view.ty.Contents (Elt F)) (f4 : M4.view.ty.Contents (Elt F))

/-- One key block's step, from the loads of the block before the diagonal. -/
def rawStep : St F :=
  let k0 := ldAt M3 f3 (k0_off9 i) (k0_off9_inb i h2)
  let v0 := ldAt M4 f4 (k0_off9 i) (k0_off9_inb i h2)
  let k1 := ldAt M3 f3 (k0_off10 i) (k0_off10_inb i h2)
  let v1 := ldAt M4 f4 (k0_off10 i) (k0_off10_inb i h2)
  let n := fin8 ((i 1).val - 1)
  ⟨(gQ U.q0 U.d0 U.p0 U.t S.1.1 S.1.2.1 S.1.2.2.1 k0 v0, gS U.q0 U.t S.1.2.1 k0, gG U.q0 U.d0 U.p0 U.t S.1.2.1 S.1.2.2.1 k0 v0,
    hQ U.q1 U.d1 U.p1 U.t S.1.2.2.2.1 S.1.2.2.2.2.1 S.1.2.2.2.2.2 k1 v1, hS U.q1 U.t S.1.2.2.2.2.1 k1, hG U.q1 U.d1 U.p1 U.t S.1.2.2.2.2.1 S.1.2.2.2.2.2 k1 v1),
   putBlk (putBlk S.2.1 n 0 (gK U.q0 U.d0 U.p0 U.t S.1.2.1 S.1.2.2.1 k0 v0 (blk S.2.1 n 0))) n 1 (hK U.q1 U.d1 U.p1 U.t S.1.2.2.2.2.1 S.1.2.2.2.2.2 k1 v1 (blk S.2.1 n 1)),
   putBlk (putBlk S.2.2 n 0 (gV U.q0 U.d0 U.p0 U.t S.1.2.1 k0 (blk S.2.2 n 0))) n 1 (hV U.q1 U.d1 U.p1 U.t S.1.2.2.2.2.1 k1 (blk S.2.2 n 1))⟩

/-- The stores of that step. -/
abbrev oddK : List (View.Piece (Elt F) S4096x256 .f32) :=
  [⟨Rect.unit (s := S4096x256) (k0_off10 i) S512x128.size (k0_off10_inb i h2), hK U.q1 U.d1 U.p1 U.t S.1.2.2.2.2.1 S.1.2.2.2.2.2 (ldAt M3 f3 (k0_off10 i) (k0_off10_inb i h2)) (ldAt M4 f4 (k0_off10 i) (k0_off10_inb i h2)) (ldAt M f (k0_off10 i) (k0_off10_inb i h2))⟩,
   ⟨Rect.unit (s := S4096x256) (k0_off9 i) S512x128.size (k0_off9_inb i h2), gK U.q0 U.d0 U.p0 U.t S.1.2.1 S.1.2.2.1 (ldAt M3 f3 (k0_off9 i) (k0_off9_inb i h2)) (ldAt M4 f4 (k0_off9 i) (k0_off9_inb i h2)) (ldAt M f (k0_off9 i) (k0_off9_inb i h2))⟩]
abbrev oddV : List (View.Piece (Elt F) S4096x256 .f32) :=
  [⟨Rect.unit (s := S4096x256) (k0_off10 i) S512x128.size (k0_off10_inb i h2), hV U.q1 U.d1 U.p1 U.t S.1.2.2.2.2.1 (ldAt M3 f3 (k0_off10 i) (k0_off10_inb i h2)) (ldAt M f (k0_off10 i) (k0_off10_inb i h2))⟩,
   ⟨Rect.unit (s := S4096x256) (k0_off9 i) S512x128.size (k0_off9_inb i h2), gV U.q0 U.d0 U.p0 U.t S.1.2.1 (ldAt M3 f3 (k0_off9 i) (k0_off9_inb i h2)) (ldAt M f (k0_off9 i) (k0_off9_inb i h2))⟩]

variable (hi : (i 1).val ≠ 0)
include hi

theorem read_oddK (hA : M.view.read (Elt F) f = S.2.1) :
    M.view.read (Elt F) (M.view.writes (Elt F) f (oddK U S M f i h2 M3 M4 f3 f4)) = (rawStep U S i h2 M3 M4 f3 f4).2.1 := by
  unfold oddK ldAt
  rw [store_blk M f _ _ _ _ 1 (off10_win i hi), store_blk M f _ _ _ _ 0 (off9_win i hi), load_blk M f _ _ _ (off9_win i hi), load_blk M f _ _ _ (off10_win i hi), View.writes_nil, hA]
  rfl
theorem read_oddV (hA : M.view.read (Elt F) f = S.2.2) :
    M.view.read (Elt F) (M.view.writes (Elt F) f (oddV U S M f i h2 M3 f3)) = (rawStep U S i h2 M3 M4 f3 f4).2.2 := by
  unfold oddV ldAt
  rw [store_blk M f _ _ _ _ 1 (off10_win i hi), store_blk M f _ _ _ _ 0 (off9_win i hi), load_blk M f _ _ _ (off9_win i hi), load_blk M f _ _ _ (off10_win i hi), View.writes_nil, hA]
  rfl
theorem rawStep_eq : rawStep U S i h2 M3 M4 f3 f4 = step U.q0 U.d0 U.p0 U.q1 U.d1 U.p1 U.t (M3.view.read (Elt F) f3) (M4.view.read (Elt F) f4) (fin8 ((i 1).val - 1)) S := by
  unfold rawStep step ldAt
  simp only [load_blk _ _ _ _ _ (off9_win i hi), load_blk _ _ _ _ _ (off10_win i hi)]
  rfl

end Lists

end Raw

end Cert.AttnBwdIdeal.Hand

end
-- ==== Proof.AttnFacts.lean ====
module

public import proofs.«01_k».proof.Proof.AttnRaw

@[expose] public section

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem steps_pred (q0 d0 : FVec F S512x128 .bf16) (p0 : FVec F S512x512 .f32) (q1 d1 : FVec F S512x128 .bf16) (p1 : FVec F S512x512 .f32) (t : FVec F S256x256 .bf16)
    (x3 x4 : FVec F S4096x256 .bf16) (s : St F) (n : ℕ) (h : n ≠ 0) :
    steps q0 d0 p0 q1 d1 p1 t x3 x4 s n = step q0 d0 p0 q1 d1 p1 t x3 x4 (fin8 (n - 1)) (steps q0 d0 p0 q1 d1 p1 t x3 x4 s (n - 1)) := by
  cases n with
  | zero => exact absurd rfl h
  | succ n => rfl

section Peel
variable {e : EltTy} (M : Memref sig .tc .vmem S4096x256 e)
/-- One store taken off the list: the block it writes is a function of the block that was there. -/
theorem peel_Blk (f : M.view.ty.Contents (Elt F)) {off : Fin 2 → ℕ} (inb) (w : S512x128.Idx → Elt F e) (L : List (View.Piece (Elt F) S4096x256 e)) (n : Fin 8) (h : Fin 2)
    (e' : off = ![512 * n.val, 128 * h.val]) (A : S4096x256.Idx → Elt F e) (G : (S512x128.Idx → Elt F e) → S512x128.Idx → Elt F e)
    (hw : w = G (ldAt M (M.view.writes (Elt F) f L) off inb)) (hA : M.view.read (Elt F) (M.view.writes (Elt F) f L) = A) :
    M.view.read (Elt F) (M.view.writes (Elt F) f (⟨Rect.unit (s := S4096x256) off S512x128.size inb, w⟩ :: L)) = putBlk A n h (G (blk A n h)) := by
  subst hw; exact read_onBlk M f inb G L n h e' A hA
theorem peel_Win (f : M.view.ty.Contents (Elt F)) {off : Fin 2 → ℕ} (inb) (w : S256x128.Idx → Elt F e) (L : List (View.Piece (Elt F) S4096x256 e)) (n : Fin 8) (h : Fin 2)
    (e' : off = ![512 * n.val, 128 * h.val]) (A : S4096x256.Idx → Elt F e) (G : (S256x128.Idx → Elt F e) → S256x128.Idx → Elt F e)
    (hw : w = G (ldWin M (M.view.writes (Elt F) f L) off inb)) (hA : M.view.read (Elt F) (M.view.writes (Elt F) f L) = A) :
    M.view.read (Elt F) (M.view.writes (Elt F) f (⟨Rect.unit (s := S4096x256) off S256x128.size inb, w⟩ :: L)) = putWin A n h (G (win A n h)) := by
  subst hw; exact read_onWin M f inb G L n h e' A hA
/-- The same where the window's own words were loaded some other way. -/
theorem peel_Win_of (f : M.view.ty.Contents (Elt F)) {off : Fin 2 → ℕ} (inb) (w : S256x128.Idx → Elt F e) (L : List (View.Piece (Elt F) S4096x256 e)) (n : Fin 8) (h : Fin 2)
    (e' : off = ![512 * n.val, 128 * h.val]) (A : S4096x256.Idx → Elt F e) (G : (S256x128.Idx → Elt F e) → S256x128.Idx → Elt F e)
    (x : S256x128.Idx → Elt F e) (hw : w = G x) (hA : M.view.read (Elt F) (M.view.writes (Elt F) f L) = A) (hx : x = win A n h) :
    M.view.read (Elt F) (M.view.writes (Elt F) f (⟨Rect.unit (s := S4096x256) off S256x128.size inb, w⟩ :: L)) = putWin A n h (G (win A n h)) := by
  subst hw hx; exact (store_win M f inb _ L n h e').trans (congrArg (fun A => putWin A n h _) hA)
/-- What head 0 stores leaves head 1's window alone. -/
theorem win_apart {α : Type} (A : S4096x256.Idx → α) (n : Fin 8) (w : S256x128.Idx → α) (v : S512x128.Idx → α) :
    win (putBlk (putWin A n 0 w) n 0 v) n 1 = win A n 1 :=
  (VecWindow.window_put_of_disjoint _ _ _ _ _ _ _ 1 (.inr (show 128 * 0 + 128 ≤ 128 * 1 by decide))).trans (VecWindow.window_put_of_disjoint _ _ _ _ _ _ _ 1 (.inr (show 128 * 0 + 128 ≤ 128 * 1 by decide)))
end Peel

section AccP
variable (U : Rows F) (W : Keys F) (S : St F) (n : Fin 8)

/-- The key gradient's accumulator past the diagonal block, in the program's own copies. -/
def accKP : FVec F S4096x256 .f32 :=
  let A1 := putWin S.2.1 n 0 (dgK1 U.q0 U.d0 U.p0 U.t S.1.2.1 S.1.2.2.1 W.kA W.vA (win S.2.1 n 0))
  let A2 := putBlk A1 n 0 (dgK2 U.q0 U.d0 U.p0 U.t S.1.2.1 S.1.2.2.1 W.kB W.vB (blk A1 n 0))
  let A3 := putWin A2 n 1 (eK1 U.q1 U.d1 U.p1 U.t S.1.2.2.2.2.1 S.1.2.2.2.2.2 W.kC W.vC (win A2 n 1))
  putBlk A3 n 1 (eK2 U.q1 U.d1 U.p1 U.t S.1.2.2.2.2.1 S.1.2.2.2.2.2 W.kD W.vD (blk A3 n 1))
/-- The value gradient's. -/
def accVP : FVec F S4096x256 .f32 :=
  let A1 := putWin S.2.2 n 0 (dgV1 U.q0 U.d0 U.p0 U.t S.1.2.1 W.kA (win S.2.2 n 0))
  let A2 := putBlk A1 n 0 (dgV2 U.q0 U.d0 U.p0 U.t S.1.2.1 W.kB (blk A1 n 0))
  let A3 := putWin A2 n 1 (eV1 U.q1 U.d1 U.p1 U.t S.1.2.2.2.2.1 W.kC (win A2 n 1))
  putBlk A3 n 1 (eV2 U.q1 U.d1 U.p1 U.t S.1.2.2.2.2.1 W.kD (blk A3 n 1))
theorem accKP_eq : accKP U W S n = accKR U W S n := rfl
theorem accVP_eq : accVP U W S n = accVR U W S n := rfl
end AccP

section Body

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .bf16) (harg5 : arg5.IsWhole)
  (arg6 : Memref sig .tc .vmem S512x256 .bf16) (harg6 : arg6.IsWhole) (arg7 : Memref sig .tc .vmem S512x256 .f32) (harg7 : arg7.IsWhole)
  (arg8 : Memref sig .tc .vmem S512x256 .bf16) (harg8 : arg8.IsWhole) (arg9 : Memref sig .tc .vmem S512x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S512x256 .bf16) (harg12 : arg12.IsWhole) (arg13 : Memref sig .tc .vmem S4096x256 .f32) (harg13 : arg13.IsWhole)
  (arg14 : Memref sig .tc .vmem S4096x256 .f32) (harg14 : arg14.IsWhole)

variable (x2 : FVec F S512x256 .bf16) (x3 x4 : FVec F S4096x256 .bf16) (x5 x6 : FVec F S512x256 .bf16) (x7 : FVec F S512x256 .f32) (x8 : FVec F S512x256 .bf16) (A B : FVec F S4096x256 .f32)
variable (f13 : Buf (Elt F) (arg13.view.loc (c : Thread nD τ))) (f14 : Buf (Elt F) (arg14.view.loc (c : Thread nD τ)))
section Facts
include c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B

theorem rows_eq : (rawRows arg2 arg5 arg7 arg8 (harg2.unread x2) (harg5.unread x5) (harg7.unread x7) (harg8.unread x8)) = rowsOf x2 x5 x7 x8 := by
  rw [rawRows_eq, harg2.read_unread, harg5.read_unread, harg7.read_unread, harg8.read_unread]
theorem keys_eq : (rawKeys i arg3 arg4 (harg3.unread x3) (harg4.unread x4)) = keysOf x3 x4 (fin8 (i 1).val) := by
  rw [rawKeys_eq, harg3.read_unread, harg4.read_unread]

variable (r13 : arg13.view.read (Elt F) f13 = if (i 1).val = 0 then k0_pay181 else A) (r14 : arg14.view.read (Elt F) f14 = if (i 1).val = 0 then k0_pay182 else B)
include r13 r14

theorem state_loop : (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 f13 f14 (2 * (k0_t1_loop i).trips)) = stepsU x3 x4 (rowsOf x2 x5 x7 x8) (carry0, if (i 1).val = 0 then k0_pay181 else A, if (i 1).val = 0 then k0_pay182 else B) (2 * ((i 1).val / 2)) := by
  rw [trips1]; unfold stAt; rw [r13, r14, rows_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B ]

section Even
variable (hev : (i 1).val % 2 = 0)
include hev
theorem state_even : (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 f13 f14 (2 * (k0_t1_loop i).trips)) = before x2 x3 x4 x5 x7 x8 (i 1).val A B := by
  rw [state_loop c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B f13 f14 r13 r14, show 2 * ((i 1).val / 2) = (i 1).val by omega]; rfl
theorem accK_even : accKP (rawRows arg2 arg5 arg7 arg8 (harg2.unread x2) (harg5.unread x5) (harg7.unread x7) (harg8.unread x8)) (rawKeys i arg3 arg4 (harg3.unread x3) (harg4.unread x4)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 f13 f14 (2 * (k0_t1_loop i).trips)) (fin8 (i 1).val) = accK x2 x3 x4 x5 x7 x8 (i 1).val A B := by
  rw [accKP_eq, state_even c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B f13 f14 r13 r14 hev, rows_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B , keys_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B ]; rfl
theorem accV_even : accVP (rawRows arg2 arg5 arg7 arg8 (harg2.unread x2) (harg5.unread x5) (harg7.unread x7) (harg8.unread x8)) (rawKeys i arg3 arg4 (harg3.unread x3) (harg4.unread x4)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 f13 f14 (2 * (k0_t1_loop i).trips)) (fin8 (i 1).val) = accV x2 x3 x4 x5 x7 x8 (i 1).val A B := by
  rw [accVP_eq, state_even c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B f13 f14 r13 r14 hev, rows_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B , keys_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B ]; rfl
theorem outQ_even : outQR (rawRows arg2 arg5 arg7 arg8 (harg2.unread x2) (harg5.unread x5) (harg7.unread x7) (harg8.unread x8)) (rawKeys i arg3 arg4 (harg3.unread x3) (harg4.unread x4)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 f13 f14 (2 * (k0_t1_loop i).trips)) = outQ x2 x3 x4 x5 x7 x8 (i 1).val A B := by
  rw [state_even c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B f13 f14 r13 r14 hev, rows_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B , keys_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B ]; rfl
end Even

section Odd
variable (h2 : k0_cond2 i = 1#1) (hod : (i 1).val % 2 = 1)
include hod
theorem state_odd : (rawStep (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 f13 f14 (2 * (k0_t1_loop i).trips)) i h2 arg3 arg4 (harg3.unread x3) (harg4.unread x4)) = before x2 x3 x4 x5 x7 x8 (i 1).val A B := by
  have e : (i 1).val = (i 1).val - 1 + 1 := by omega
  rw [rawStep_eq _ _ _ _ _ _ _ _ (by omega), state_loop c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B f13 f14 r13 r14, show 2 * ((i 1).val / 2) = (i 1).val - 1 by omega, rows_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B , harg3.read_unread, harg4.read_unread]
  exact (steps_pred _ _ _ _ _ _ _ _ _ _ (i 1).val (by omega)).symm
theorem accK_odd : accKP (rawRows arg2 arg5 arg7 arg8 (harg2.unread x2) (harg5.unread x5) (harg7.unread x7) (harg8.unread x8)) (rawKeys i arg3 arg4 (harg3.unread x3) (harg4.unread x4)) (rawStep (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 f13 f14 (2 * (k0_t1_loop i).trips)) i h2 arg3 arg4 (harg3.unread x3) (harg4.unread x4)) (fin8 (i 1).val) = accK x2 x3 x4 x5 x7 x8 (i 1).val A B := by
  rw [accKP_eq, state_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B f13 f14 r13 r14 h2 hod, rows_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B , keys_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B ]; rfl
theorem accV_odd : accVP (rawRows arg2 arg5 arg7 arg8 (harg2.unread x2) (harg5.unread x5) (harg7.unread x7) (harg8.unread x8)) (rawKeys i arg3 arg4 (harg3.unread x3) (harg4.unread x4)) (rawStep (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 f13 f14 (2 * (k0_t1_loop i).trips)) i h2 arg3 arg4 (harg3.unread x3) (harg4.unread x4)) (fin8 (i 1).val) = accV x2 x3 x4 x5 x7 x8 (i 1).val A B := by
  rw [accVP_eq, state_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B f13 f14 r13 r14 h2 hod, rows_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B , keys_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B ]; rfl
theorem outQ_odd : outQR (rawRows arg2 arg5 arg7 arg8 (harg2.unread x2) (harg5.unread x5) (harg7.unread x7) (harg8.unread x8)) (rawKeys i arg3 arg4 (harg3.unread x3) (harg4.unread x4)) (rawStep (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 f13 f14 (2 * (k0_t1_loop i).trips)) i h2 arg3 arg4 (harg3.unread x3) (harg4.unread x4)) = outQ x2 x3 x4 x5 x7 x8 (i 1).val A B := by
  rw [state_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B f13 f14 r13 r14 h2 hod, rows_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B , keys_eq c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B ]; rfl
end Odd

end Facts

theorem read_outQ (U : Rows F) (W : Keys F) (S : St F) (M : Memref sig .tc .vmem S512x256 .bf16) (f : M.view.ty.Contents (Elt F)) :
    M.view.read (Elt F) (M.view.writes (Elt F) f [⟨Rect.unit (s := S512x256) ![0, 128] S512x128.size inb_S512x256_S512x128_0_128, eQ U.q1 U.d1 U.p1 U.t S.1.2.2.2.1 S.1.2.2.2.2.1 S.1.2.2.2.2.2 W.kD W.vD W.kC W.vC⟩,
      ⟨Rect.unit (s := S512x256) ![0, 0] S512x128.size inb_S512x256_S512x128_0_0, dgQ U.q0 U.d0 U.p0 U.t S.1.1 S.1.2.1 S.1.2.2.1 W.kA W.vA W.kB W.vB⟩]) = outQR U W S :=
  read_cat2 M f _ _

theorem read_outZ (M M5 M6 M8 : Memref sig .tc .vmem S512x256 .bf16) (f : M.view.ty.Contents (Elt F)) (f5 f6 f8) :
    M.view.read (Elt F) (M.view.writes (Elt F) f [⟨Rect.unit (s := S512x256) ![0, 128] S512x128.size inb_S512x256_S512x128_0_128, k0_pay194 (ldHalf M5 f5 1) (ldHalf M8 f8 1) (ldHalf M6 f6 1)⟩,
      ⟨Rect.unit (s := S512x256) ![0, 0] S512x128.size inb_S512x256_S512x128_0_0, k0_pay187 (ldHalf M5 f5 0) (ldHalf M8 f8 0) (ldHalf M6 f6 0)⟩])
      = outZ (M5.view.read (Elt F) f5) (M6.view.read (Elt F) f6) (M8.view.read (Elt F) f8) := by
  refine (read_cat2 M f _ _).trans ?_
  simp only [load_half]; rfl

end Body

end Cert.AttnBwdIdeal.Hand

end
-- ==== Proof.AttnBody.lean ====
module

public import proofs.«01_k».proof.Proof.AttnFacts

@[expose] public section

set_option maxRecDepth 16384

noncomputable section

namespace Cert.AttnBwdIdeal.Hand

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Body

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .bf16) (harg5 : arg5.IsWhole)
  (arg6 : Memref sig .tc .vmem S512x256 .bf16) (harg6 : arg6.IsWhole) (arg7 : Memref sig .tc .vmem S512x256 .f32) (harg7 : arg7.IsWhole)
  (arg8 : Memref sig .tc .vmem S512x256 .bf16) (harg8 : arg8.IsWhole) (arg9 : Memref sig .tc .vmem S512x256 .bf16) (harg9 : arg9.IsWhole)
  (arg10 : Memref sig .tc .vmem S4096x256 .bf16) (harg10 : arg10.IsWhole) (arg11 : Memref sig .tc .vmem S4096x256 .bf16) (harg11 : arg11.IsWhole)
  (arg12 : Memref sig .tc .vmem S512x256 .bf16) (harg12 : arg12.IsWhole) (arg13 : Memref sig .tc .vmem S4096x256 .f32) (harg13 : arg13.IsWhole)
  (arg14 : Memref sig .tc .vmem S4096x256 .f32) (harg14 : arg14.IsWhole)

variable (x2 : FVec F S512x256 .bf16) (x3 x4 : FVec F S4096x256 .bf16) (x5 x6 : FVec F S512x256 .bf16) (x7 : FVec F S512x256 .f32) (x8 : FVec F S512x256 .bf16) (A B : FVec F S4096x256 .f32)

theorem conds : ∀ i : grid0.Coords, (cond1 i ↔ (i 1).val = 0) ∧ (k0_cond2 i = 1#1 ↔ (i 1).val % 2 = 1) ∧ (k0_cond3 i = 1#1 ↔ (i 1).val = 7) := by decide +kernel

theorem read_full {s : Shape} {e : EltTy} (M : Memref sig .tc .vmem s e) (f : M.view.ty.Contents (Elt F)) {off : Fin s.rank → ℕ} {inb : ∀ a, off a + s.size a ≤ s.size a} (w : s.Idx → Elt F e) {L} :
    M.view.read (Elt F) (M.view.writes (Elt F) f (⟨Rect.unit off s.size inb, w⟩ :: L)) = w := View.read_writes_full M.view f inb w L

attribute [local irreducible] Scf.trips

set_option maxHeartbeats 16000000 in
/-- The body's run at a grid point. -/
theorem body (y10 y11 : Vec F S4096x256 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare y10 ∗ owns (c : Thread nD τ) arg11 fullShare y11 ∗ (∃ d, owns (c : Thread nD τ) arg12 fullShare d) ∗ owns (c : Thread nD τ) arg13 fullShare A ∗ owns (c : Thread nD τ) arg14 fullShare B
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outQ x2 x3 x4 x5 x7 x8 (i 1).val A B) ∗ owns (c : Thread nD τ) arg10 fullShare (if (i 1).val = 7 then k0_pay4 (accK x2 x3 x4 x5 x7 x8 (i 1).val A B) else y10) ∗ owns (c : Thread nD τ) arg11 fullShare (if (i 1).val = 7 then k0_pay5 (accV x2 x3 x4 x5 x7 x8 (i 1).val A B) else y11) ∗ owns (c : Thread nD τ) arg12 fullShare (outZ x5 x6 x8) ∗ owns (c : Thread nD τ) arg13 fullShare (accK x2 x3 x4 x5 x7 x8 (i 1).val A B) ∗ owns (c : Thread nD τ) arg14 fullShare (accV x2 x3 x4 x5 x7 x8 (i 1).val A B)) -∗ K ⟨⟩))
      ⊢ wp frame (wpE (defs₀ (F := F)) Variants.none c none) Set.univ (cc0_attn_bwd_l1 i arg2 harg2 arg3 harg3 arg4 harg4 arg5 harg5 arg6 harg6 arg7 harg7 arg8 harg8 arg9 harg9 arg10 harg10 arg11 harg11 arg12 harg12 arg13 harg13 arg14 harg14) K := by
  obtain ⟨c1, c2, c3⟩ := conds i
  have hi8 : (i 1).val < 8 := (i 1).isLt
  simp only [cc0_attn_bwd_l1_eq_skeleton]; unfold cc0_attn_bwd_l1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%f10, %e10, H10⟩, ⟨%f11, %e11, H11⟩, ⟨%d12, %f12, -, H12⟩, ⟨%f13, %e13, H13⟩, ⟨%f14, %e14, H14⟩, Hk⟩
  obtain rfl := harg2.eq_unread e2; obtain rfl := harg3.eq_unread e3; obtain rfl := harg4.eq_unread e4; obtain rfl := harg5.eq_unread e5
  obtain rfl := harg6.eq_unread e6; obtain rfl := harg7.eq_unread e7; obtain rfl := harg8.eq_unread e8; obtain rfl := harg10.eq_unread e10
  obtain rfl := harg11.eq_unread e11; obtain rfl := harg13.eq_unread e13; obtain rfl := harg14.eq_unread e14
  rcases (show ((i 1).val = 0 ∨ (i 1).val = 7) ∨ ((i 1).val ≠ 0 ∧ (i 1).val ≠ 7) ∧ ((i 1).val % 2 = 0 ∨ (i 1).val % 2 = 1) by omega) with (hz | hs) | ⟨⟨hz, hs⟩, hp | hp⟩
  · have h1 := c1.2 hz; have h2 : ¬ k0_cond2 i = 1#1 := fun h => by have := c2.1 h; omega
    have h3 : ¬ k0_cond3 i = 1#1 := fun h => by have := c3.1 h; omega
    have hp : (i 1).val % 2 = 0 := by omega
    have hs : ¬ (i 1).val = 7 := by omega
    sl_exec_parts (disch := first | sl_exact h1 | sl_exact h2 | sl_exact h3)
    sl_step
    iapply Hk
    isplitl [H2]
    · iexists _; isplitr; rotate_left
      · iexact H2
      · ipureintro; exact harg2.read_unread _
    isplitl [H3]
    · iexists _; isplitr; rotate_left
      · iexact H3
      · ipureintro; exact harg3.read_unread _
    isplitl [H4]
    · iexists _; isplitr; rotate_left
      · iexact H4
      · ipureintro; exact harg4.read_unread _
    isplitl [H5]
    · iexists _; isplitr; rotate_left
      · iexact H5
      · ipureintro; exact harg5.read_unread _
    isplitl [H6]
    · iexists _; isplitr; rotate_left
      · iexact H6
      · ipureintro; exact harg6.read_unread _
    isplitl [H7]
    · iexists _; isplitr; rotate_left
      · iexact H7
      · ipureintro; exact harg7.read_unread _
    isplitl [H8]
    · iexists _; isplitr; rotate_left
      · iexact H8
      · ipureintro; exact harg8.read_unread _
    isplitl [H9]
    · iexists _; isplitr; rotate_left
      · iexact H9
      · ipureintro; exact (read_outQ (rawRows arg2 arg5 arg7 arg8 (harg2.unread x2) (harg5.unread x5) (harg7.unread x7) (harg8.unread x8)) (rawKeys i arg3 arg4 (harg3.unread x3) (harg4.unread x4)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)) arg9 _).trans (outQ_even c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (by rw [if_pos hz]; exact read_full arg13 _ _) (by rw [if_pos hz]; exact read_full arg14 _ _) hp)
    isplitl [H10]
    · iexists _; isplitr; rotate_left
      · iexact H10
      · ipureintro; rw [if_neg hs]; exact harg10.read_unread _
    isplitl [H11]
    · iexists _; isplitr; rotate_left
      · iexact H11
      · ipureintro; rw [if_neg hs]; exact harg11.read_unread _
    isplitl [H12]
    · iexists _; isplitr; rotate_left
      · iexact H12
      · ipureintro; refine (read_outZ arg12 arg5 arg6 arg8 _ (harg5.unread x5) (harg6.unread x6) (harg8.unread x8)).trans ?_; rw [harg5.read_unread, harg6.read_unread, harg8.read_unread]
    isplitl [H13]
    · iexists _; isplitr; rotate_left
      · iexact H13
      · ipureintro; have e := accK_even c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (by rw [if_pos hz]; exact read_full arg13 _ _) (by rw [if_pos hz]; exact read_full arg14 _ _) hp
        dsimp only [accKP, rawRows, rawKeys, rawStep] at e
        refine Eq.trans ?_ e
        refine peel_Blk arg13 _ _ _ _ (fin8 (i 1).val) 1 (off14_win i) _ (fun w => eK2 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.2.2.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.2.2.2.2 (ldAt arg3 (harg3.unread x3) (k0_off14 i) (k0_off14_inb i)) (ldAt arg4 (harg4.unread x4) (k0_off14 i) (k0_off14_inb i)) w) (by rfl) ?_
        refine peel_Win_of arg13 _ _ _ _ (fin8 (i 1).val) 1 (off13_win i) _ (fun w => eK1 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.2.2.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.2.2.2.2 (ldWin arg3 (harg3.unread x3) (k0_off13 i) (k0_off13_inb i)) (ldWin arg4 (harg4.unread x4) (k0_off13 i) (k0_off13_inb i)) w) (ldWin arg13 (buf13 c arg13 harg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (k0_t1_loop i).trips) (k0_off13 i) (k0_off13_inb i)) (by rfl) ?_ ?_
        refine peel_Blk arg13 _ _ _ _ (fin8 (i 1).val) 0 (off12_win i) _ (fun w => dgK2 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.2.1 (ldAt arg3 (harg3.unread x3) (k0_off12 i) (k0_off12_inb i)) (ldAt arg4 (harg4.unread x4) (k0_off12 i) (k0_off12_inb i)) w) (by rfl) ?_
        refine peel_Win arg13 _ _ _ _ (fin8 (i 1).val) 0 (off11_win i) _ (fun w => dgK1 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.2.1 (ldWin arg3 (harg3.unread x3) (k0_off11 i) (k0_off11_inb i)) (ldWin arg4 (harg4.unread x4) (k0_off11 i) (k0_off11_inb i)) w) (by rfl) ?_
        · exact (read_buf13 c arg13 harg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (k0_t1_loop i).trips)
        · exact (load_win arg13 _ _ _ 1 (off13_win i)).trans ((congrArg (fun A => win A (fin8 (i 1).val) 1) (read_buf13 c arg13 harg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (k0_t1_loop i).trips)).trans (win_apart _ _ _ _).symm)
    · iexists _; isplitr; rotate_left
      · iexact H14
      · ipureintro; have e := accV_even c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (by rw [if_pos hz]; exact read_full arg13 _ _) (by rw [if_pos hz]; exact read_full arg14 _ _) hp
        dsimp only [accVP, rawRows, rawKeys, rawStep] at e
        refine Eq.trans ?_ e
        refine peel_Blk arg14 _ _ _ _ (fin8 (i 1).val) 1 (off14_win i) _ (fun w => eV2 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.2.2.2.1 (ldAt arg3 (harg3.unread x3) (k0_off14 i) (k0_off14_inb i)) w) (by rfl) ?_
        refine peel_Win_of arg14 _ _ _ _ (fin8 (i 1).val) 1 (off13_win i) _ (fun w => eV1 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.2.2.2.1 (ldWin arg3 (harg3.unread x3) (k0_off13 i) (k0_off13_inb i)) w) (ldWin arg14 (buf14 c arg13 arg14 harg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (k0_t1_loop i).trips) (k0_off13 i) (k0_off13_inb i)) (by rfl) ?_ ?_
        refine peel_Blk arg14 _ _ _ _ (fin8 (i 1).val) 0 (off12_win i) _ (fun w => dgV2 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.1 (ldAt arg3 (harg3.unread x3) (k0_off12 i) (k0_off12_inb i)) w) (by rfl) ?_
        refine peel_Win arg14 _ _ _ _ (fin8 (i 1).val) 0 (off11_win i) _ (fun w => dgV1 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (2 * (k0_t1_loop i).trips)).1.2.1 (ldWin arg3 (harg3.unread x3) (k0_off11 i) (k0_off11_inb i)) w) (by rfl) ?_
        · exact (read_buf14 c arg13 arg14 harg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (k0_t1_loop i).trips)
        · exact (load_win arg14 _ _ _ 1 (off13_win i)).trans ((congrArg (fun A => win A (fin8 (i 1).val) 1) (read_buf14 c arg13 arg14 harg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (arg13.view.writes (Elt F) arg13.view.junk [⟨Rect.unit (s := S4096x256) ![0, 0] S4096x256.size inb_S4096x256_S4096x256_0_0, k0_pay181⟩]) (arg14.view.writes (Elt F) arg14.view.junk [⟨Rect.unit (s := S4096x256) ![0, 0] S4096x256.size inb_S4096x256_S4096x256_0_0, k0_pay182⟩]) (k0_t1_loop i).trips)).trans (win_apart _ _ _ _).symm)
  · have hz : ¬ (i 1).val = 0 := by omega
    have h1 : ¬ cond1 i := fun h => hz (c1.1 h)
    have hp : (i 1).val % 2 = 1 := by omega
    have h2 := c2.2 hp; have h3 := c3.2 hs
    sl_exec_parts (disch := first | sl_exact h1 | sl_exact h2 | sl_exact h3)
    sl_step
    iapply Hk
    isplitl [H2]
    · iexists _; isplitr; rotate_left
      · iexact H2
      · ipureintro; exact harg2.read_unread _
    isplitl [H3]
    · iexists _; isplitr; rotate_left
      · iexact H3
      · ipureintro; exact harg3.read_unread _
    isplitl [H4]
    · iexists _; isplitr; rotate_left
      · iexact H4
      · ipureintro; exact harg4.read_unread _
    isplitl [H5]
    · iexists _; isplitr; rotate_left
      · iexact H5
      · ipureintro; exact harg5.read_unread _
    isplitl [H6]
    · iexists _; isplitr; rotate_left
      · iexact H6
      · ipureintro; exact harg6.read_unread _
    isplitl [H7]
    · iexists _; isplitr; rotate_left
      · iexact H7
      · ipureintro; exact harg7.read_unread _
    isplitl [H8]
    · iexists _; isplitr; rotate_left
      · iexact H8
      · ipureintro; exact harg8.read_unread _
    isplitl [H9]
    · iexists _; isplitr; rotate_left
      · iexact H9
      · ipureintro; exact (read_outQ (rawRows arg2 arg5 arg7 arg8 (harg2.unread x2) (harg5.unread x5) (harg7.unread x7) (harg8.unread x8)) (rawKeys i arg3 arg4 (harg3.unread x3) (harg4.unread x4)) (rawStep (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 (harg13.unread A) (harg14.unread B) (2 * (k0_t1_loop i).trips)) i h2 arg3 arg4 (harg3.unread x3) (harg4.unread x4)) arg9 _).trans (outQ_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) h2 hp)
    isplitl [H10]
    · iexists _; isplitr; rotate_left
      · iexact H10
      · ipureintro; rw [if_pos hs]; refine (read_full arg10 _ _).trans (congrArg k0_pay4 ((View.readAt_full arg13.view _ _).trans ?_))
        have e := accK_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) h2 hp
        dsimp only [accKP, rawRows, rawKeys, rawStep] at e
        refine Eq.trans ?_ e
        refine peel_Blk arg13 _ _ _ _ (fin8 (i 1).val) 1 (off14_win i) _ (fun w => eK2 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (hG (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.2 (ldAt arg3 (harg3.unread x3) (k0_off10 i) (k0_off10_inb i h2)) (ldAt arg4 (harg4.unread x4) (k0_off10 i) (k0_off10_inb i h2))) (ldAt arg3 (harg3.unread x3) (k0_off14 i) (k0_off14_inb i)) (ldAt arg4 (harg4.unread x4) (k0_off14 i) (k0_off14_inb i)) w) (by rfl) ?_
        refine peel_Win arg13 _ _ _ _ (fin8 (i 1).val) 1 (off13_win i) _ (fun w => eK1 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (hG (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.2 (ldAt arg3 (harg3.unread x3) (k0_off10 i) (k0_off10_inb i h2)) (ldAt arg4 (harg4.unread x4) (k0_off10 i) (k0_off10_inb i h2))) (ldWin arg3 (harg3.unread x3) (k0_off13 i) (k0_off13_inb i)) (ldWin arg4 (harg4.unread x4) (k0_off13 i) (k0_off13_inb i)) w) (by rfl) ?_
        refine peel_Blk arg13 _ _ _ _ (fin8 (i 1).val) 0 (off12_win i) _ (fun w => dgK2 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (gG (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.1 (ldAt arg3 (harg3.unread x3) (k0_off9 i) (k0_off9_inb i h2)) (ldAt arg4 (harg4.unread x4) (k0_off9 i) (k0_off9_inb i h2))) (ldAt arg3 (harg3.unread x3) (k0_off12 i) (k0_off12_inb i)) (ldAt arg4 (harg4.unread x4) (k0_off12 i) (k0_off12_inb i)) w) (by rfl) ?_
        refine peel_Win arg13 _ _ _ _ (fin8 (i 1).val) 0 (off11_win i) _ (fun w => dgK1 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (gG (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.1 (ldAt arg3 (harg3.unread x3) (k0_off9 i) (k0_off9_inb i h2)) (ldAt arg4 (harg4.unread x4) (k0_off9 i) (k0_off9_inb i h2))) (ldWin arg3 (harg3.unread x3) (k0_off11 i) (k0_off11_inb i)) (ldWin arg4 (harg4.unread x4) (k0_off11 i) (k0_off11_inb i)) w) (by rfl) ?_
        exact read_oddK (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 (harg13.unread A) (harg14.unread B) (2 * (k0_t1_loop i).trips)) arg13 _ i h2 arg3 arg4 (harg3.unread x3) (harg4.unread x4) (by omega) (read_buf13 c arg13 harg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips)
    isplitl [H11]
    · iexists _; isplitr; rotate_left
      · iexact H11
      · ipureintro; rw [if_pos hs]; refine (read_full arg11 _ _).trans (congrArg k0_pay5 ((View.readAt_full arg14.view _ _).trans ?_))
        have e := accV_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) h2 hp
        dsimp only [accVP, rawRows, rawKeys, rawStep] at e
        refine Eq.trans ?_ e
        refine peel_Blk arg14 _ _ _ _ (fin8 (i 1).val) 1 (off14_win i) _ (fun w => eV2 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (ldAt arg3 (harg3.unread x3) (k0_off14 i) (k0_off14_inb i)) w) (by rfl) ?_
        refine peel_Win arg14 _ _ _ _ (fin8 (i 1).val) 1 (off13_win i) _ (fun w => eV1 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (ldWin arg3 (harg3.unread x3) (k0_off13 i) (k0_off13_inb i)) w) (by rfl) ?_
        refine peel_Blk arg14 _ _ _ _ (fin8 (i 1).val) 0 (off12_win i) _ (fun w => dgV2 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (ldAt arg3 (harg3.unread x3) (k0_off12 i) (k0_off12_inb i)) w) (by rfl) ?_
        refine peel_Win arg14 _ _ _ _ (fin8 (i 1).val) 0 (off11_win i) _ (fun w => dgV1 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (ldWin arg3 (harg3.unread x3) (k0_off11 i) (k0_off11_inb i)) w) (by rfl) ?_
        exact read_oddV (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 (harg13.unread A) (harg14.unread B) (2 * (k0_t1_loop i).trips)) arg14 _ i h2 arg3 arg4 (harg3.unread x3) (harg4.unread x4) (by omega) (read_buf14 c arg13 arg14 harg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips)
    isplitl [H12]
    · iexists _; isplitr; rotate_left
      · iexact H12
      · ipureintro; refine (read_outZ arg12 arg5 arg6 arg8 _ (harg5.unread x5) (harg6.unread x6) (harg8.unread x8)).trans ?_; rw [harg5.read_unread, harg6.read_unread, harg8.read_unread]
    isplitl [H13]
    · iexists _; isplitr; rotate_left
      · iexact H13
      · ipureintro; have e := accK_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) h2 hp
        dsimp only [accKP, rawRows, rawKeys, rawStep] at e
        refine Eq.trans ?_ e
        refine peel_Blk arg13 _ _ _ _ (fin8 (i 1).val) 1 (off14_win i) _ (fun w => eK2 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (hG (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.2 (ldAt arg3 (harg3.unread x3) (k0_off10 i) (k0_off10_inb i h2)) (ldAt arg4 (harg4.unread x4) (k0_off10 i) (k0_off10_inb i h2))) (ldAt arg3 (harg3.unread x3) (k0_off14 i) (k0_off14_inb i)) (ldAt arg4 (harg4.unread x4) (k0_off14 i) (k0_off14_inb i)) w) (by rfl) ?_
        refine peel_Win arg13 _ _ _ _ (fin8 (i 1).val) 1 (off13_win i) _ (fun w => eK1 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (hG (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.2 (ldAt arg3 (harg3.unread x3) (k0_off10 i) (k0_off10_inb i h2)) (ldAt arg4 (harg4.unread x4) (k0_off10 i) (k0_off10_inb i h2))) (ldWin arg3 (harg3.unread x3) (k0_off13 i) (k0_off13_inb i)) (ldWin arg4 (harg4.unread x4) (k0_off13 i) (k0_off13_inb i)) w) (by rfl) ?_
        refine peel_Blk arg13 _ _ _ _ (fin8 (i 1).val) 0 (off12_win i) _ (fun w => dgK2 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (gG (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.1 (ldAt arg3 (harg3.unread x3) (k0_off9 i) (k0_off9_inb i h2)) (ldAt arg4 (harg4.unread x4) (k0_off9 i) (k0_off9_inb i h2))) (ldAt arg3 (harg3.unread x3) (k0_off12 i) (k0_off12_inb i)) (ldAt arg4 (harg4.unread x4) (k0_off12 i) (k0_off12_inb i)) w) (by rfl) ?_
        refine peel_Win arg13 _ _ _ _ (fin8 (i 1).val) 0 (off11_win i) _ (fun w => dgK1 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (gG (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.1 (ldAt arg3 (harg3.unread x3) (k0_off9 i) (k0_off9_inb i h2)) (ldAt arg4 (harg4.unread x4) (k0_off9 i) (k0_off9_inb i h2))) (ldWin arg3 (harg3.unread x3) (k0_off11 i) (k0_off11_inb i)) (ldWin arg4 (harg4.unread x4) (k0_off11 i) (k0_off11_inb i)) w) (by rfl) ?_
        exact read_oddK (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 (harg13.unread A) (harg14.unread B) (2 * (k0_t1_loop i).trips)) arg13 _ i h2 arg3 arg4 (harg3.unread x3) (harg4.unread x4) (by omega) (read_buf13 c arg13 harg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips)
    · iexists _; isplitr; rotate_left
      · iexact H14
      · ipureintro; have e := accV_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) h2 hp
        dsimp only [accVP, rawRows, rawKeys, rawStep] at e
        refine Eq.trans ?_ e
        refine peel_Blk arg14 _ _ _ _ (fin8 (i 1).val) 1 (off14_win i) _ (fun w => eV2 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (ldAt arg3 (harg3.unread x3) (k0_off14 i) (k0_off14_inb i)) w) (by rfl) ?_
        refine peel_Win arg14 _ _ _ _ (fin8 (i 1).val) 1 (off13_win i) _ (fun w => eV1 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (ldWin arg3 (harg3.unread x3) (k0_off13 i) (k0_off13_inb i)) w) (by rfl) ?_
        refine peel_Blk arg14 _ _ _ _ (fin8 (i 1).val) 0 (off12_win i) _ (fun w => dgV2 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (ldAt arg3 (harg3.unread x3) (k0_off12 i) (k0_off12_inb i)) w) (by rfl) ?_
        refine peel_Win arg14 _ _ _ _ (fin8 (i 1).val) 0 (off11_win i) _ (fun w => dgV1 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (ldWin arg3 (harg3.unread x3) (k0_off11 i) (k0_off11_inb i)) w) (by rfl) ?_
        exact read_oddV (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 (harg13.unread A) (harg14.unread B) (2 * (k0_t1_loop i).trips)) arg14 _ i h2 arg3 arg4 (harg3.unread x3) (harg4.unread x4) (by omega) (read_buf14 c arg13 arg14 harg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips)
  · have h1 : ¬ cond1 i := fun h => hz (c1.1 h)
    have h2 : ¬ k0_cond2 i = 1#1 := fun h => by have := c2.1 h; omega
    have h3 : ¬ k0_cond3 i = 1#1 := fun h => hs (c3.1 h)
    sl_exec_parts (disch := first | sl_exact h1 | sl_exact h2 | sl_exact h3)
    sl_step
    iapply Hk
    isplitl [H2]
    · iexists _; isplitr; rotate_left
      · iexact H2
      · ipureintro; exact harg2.read_unread _
    isplitl [H3]
    · iexists _; isplitr; rotate_left
      · iexact H3
      · ipureintro; exact harg3.read_unread _
    isplitl [H4]
    · iexists _; isplitr; rotate_left
      · iexact H4
      · ipureintro; exact harg4.read_unread _
    isplitl [H5]
    · iexists _; isplitr; rotate_left
      · iexact H5
      · ipureintro; exact harg5.read_unread _
    isplitl [H6]
    · iexists _; isplitr; rotate_left
      · iexact H6
      · ipureintro; exact harg6.read_unread _
    isplitl [H7]
    · iexists _; isplitr; rotate_left
      · iexact H7
      · ipureintro; exact harg7.read_unread _
    isplitl [H8]
    · iexists _; isplitr; rotate_left
      · iexact H8
      · ipureintro; exact harg8.read_unread _
    isplitl [H9]
    · iexists _; isplitr; rotate_left
      · iexact H9
      · ipureintro; exact (read_outQ (rawRows arg2 arg5 arg7 arg8 (harg2.unread x2) (harg5.unread x5) (harg7.unread x7) (harg8.unread x8)) (rawKeys i arg3 arg4 (harg3.unread x3) (harg4.unread x4)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 (harg13.unread A) (harg14.unread B) (2 * (k0_t1_loop i).trips)) arg9 _).trans (outQ_even c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) hp)
    isplitl [H10]
    · iexists _; isplitr; rotate_left
      · iexact H10
      · ipureintro; rw [if_neg hs]; exact harg10.read_unread _
    isplitl [H11]
    · iexists _; isplitr; rotate_left
      · iexact H11
      · ipureintro; rw [if_neg hs]; exact harg11.read_unread _
    isplitl [H12]
    · iexists _; isplitr; rotate_left
      · iexact H12
      · ipureintro; refine (read_outZ arg12 arg5 arg6 arg8 _ (harg5.unread x5) (harg6.unread x6) (harg8.unread x8)).trans ?_; rw [harg5.read_unread, harg6.read_unread, harg8.read_unread]
    isplitl [H13]
    · iexists _; isplitr; rotate_left
      · iexact H13
      · ipureintro; have e := accK_even c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) hp
        dsimp only [accKP, rawRows, rawKeys, rawStep] at e
        refine Eq.trans ?_ e
        refine peel_Blk arg13 _ _ _ _ (fin8 (i 1).val) 1 (off14_win i) _ (fun w => eK2 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.2 (ldAt arg3 (harg3.unread x3) (k0_off14 i) (k0_off14_inb i)) (ldAt arg4 (harg4.unread x4) (k0_off14 i) (k0_off14_inb i)) w) (by rfl) ?_
        refine peel_Win_of arg13 _ _ _ _ (fin8 (i 1).val) 1 (off13_win i) _ (fun w => eK1 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.2 (ldWin arg3 (harg3.unread x3) (k0_off13 i) (k0_off13_inb i)) (ldWin arg4 (harg4.unread x4) (k0_off13 i) (k0_off13_inb i)) w) (ldWin arg13 (buf13 c arg13 harg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips) (k0_off13 i) (k0_off13_inb i)) (by rfl) ?_ ?_
        refine peel_Blk arg13 _ _ _ _ (fin8 (i 1).val) 0 (off12_win i) _ (fun w => dgK2 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.1 (ldAt arg3 (harg3.unread x3) (k0_off12 i) (k0_off12_inb i)) (ldAt arg4 (harg4.unread x4) (k0_off12 i) (k0_off12_inb i)) w) (by rfl) ?_
        refine peel_Win arg13 _ _ _ _ (fin8 (i 1).val) 0 (off11_win i) _ (fun w => dgK1 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.1 (ldWin arg3 (harg3.unread x3) (k0_off11 i) (k0_off11_inb i)) (ldWin arg4 (harg4.unread x4) (k0_off11 i) (k0_off11_inb i)) w) (by rfl) ?_
        · exact (read_buf13 c arg13 harg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips)
        · exact (load_win arg13 _ _ _ 1 (off13_win i)).trans ((congrArg (fun A => win A (fin8 (i 1).val) 1) (read_buf13 c arg13 harg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips)).trans (win_apart _ _ _ _).symm)
    · iexists _; isplitr; rotate_left
      · iexact H14
      · ipureintro; have e := accV_even c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) hp
        dsimp only [accVP, rawRows, rawKeys, rawStep] at e
        refine Eq.trans ?_ e
        refine peel_Blk arg14 _ _ _ _ (fin8 (i 1).val) 1 (off14_win i) _ (fun w => eV2 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off14 i) (k0_off14_inb i)) w) (by rfl) ?_
        refine peel_Win_of arg14 _ _ _ _ (fin8 (i 1).val) 1 (off13_win i) _ (fun w => eV1 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldWin arg3 (harg3.unread x3) (k0_off13 i) (k0_off13_inb i)) w) (ldWin arg14 (buf14 c arg13 arg14 harg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips) (k0_off13 i) (k0_off13_inb i)) (by rfl) ?_ ?_
        refine peel_Blk arg14 _ _ _ _ (fin8 (i 1).val) 0 (off12_win i) _ (fun w => dgV2 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off12 i) (k0_off12_inb i)) w) (by rfl) ?_
        refine peel_Win arg14 _ _ _ _ (fin8 (i 1).val) 0 (off11_win i) _ (fun w => dgV1 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldWin arg3 (harg3.unread x3) (k0_off11 i) (k0_off11_inb i)) w) (by rfl) ?_
        · exact (read_buf14 c arg13 arg14 harg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips)
        · exact (load_win arg14 _ _ _ 1 (off13_win i)).trans ((congrArg (fun A => win A (fin8 (i 1).val) 1) (read_buf14 c arg13 arg14 harg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips)).trans (win_apart _ _ _ _).symm)
  · have h1 : ¬ cond1 i := fun h => hz (c1.1 h)
    have h2 := c2.2 hp
    have h3 : ¬ k0_cond3 i = 1#1 := fun h => hs (c3.1 h)
    sl_exec_parts (disch := first | sl_exact h1 | sl_exact h2 | sl_exact h3)
    sl_step
    iapply Hk
    isplitl [H2]
    · iexists _; isplitr; rotate_left
      · iexact H2
      · ipureintro; exact harg2.read_unread _
    isplitl [H3]
    · iexists _; isplitr; rotate_left
      · iexact H3
      · ipureintro; exact harg3.read_unread _
    isplitl [H4]
    · iexists _; isplitr; rotate_left
      · iexact H4
      · ipureintro; exact harg4.read_unread _
    isplitl [H5]
    · iexists _; isplitr; rotate_left
      · iexact H5
      · ipureintro; exact harg5.read_unread _
    isplitl [H6]
    · iexists _; isplitr; rotate_left
      · iexact H6
      · ipureintro; exact harg6.read_unread _
    isplitl [H7]
    · iexists _; isplitr; rotate_left
      · iexact H7
      · ipureintro; exact harg7.read_unread _
    isplitl [H8]
    · iexists _; isplitr; rotate_left
      · iexact H8
      · ipureintro; exact harg8.read_unread _
    isplitl [H9]
    · iexists _; isplitr; rotate_left
      · iexact H9
      · ipureintro; exact (read_outQ (rawRows arg2 arg5 arg7 arg8 (harg2.unread x2) (harg5.unread x5) (harg7.unread x7) (harg8.unread x8)) (rawKeys i arg3 arg4 (harg3.unread x3) (harg4.unread x4)) (rawStep (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 (harg13.unread A) (harg14.unread B) (2 * (k0_t1_loop i).trips)) i h2 arg3 arg4 (harg3.unread x3) (harg4.unread x4)) arg9 _).trans (outQ_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) h2 hp)
    isplitl [H10]
    · iexists _; isplitr; rotate_left
      · iexact H10
      · ipureintro; rw [if_neg hs]; exact harg10.read_unread _
    isplitl [H11]
    · iexists _; isplitr; rotate_left
      · iexact H11
      · ipureintro; rw [if_neg hs]; exact harg11.read_unread _
    isplitl [H12]
    · iexists _; isplitr; rotate_left
      · iexact H12
      · ipureintro; refine (read_outZ arg12 arg5 arg6 arg8 _ (harg5.unread x5) (harg6.unread x6) (harg8.unread x8)).trans ?_; rw [harg5.read_unread, harg6.read_unread, harg8.read_unread]
    isplitl [H13]
    · iexists _; isplitr; rotate_left
      · iexact H13
      · ipureintro; have e := accK_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) h2 hp
        dsimp only [accKP, rawRows, rawKeys, rawStep] at e
        refine Eq.trans ?_ e
        refine peel_Blk arg13 _ _ _ _ (fin8 (i 1).val) 1 (off14_win i) _ (fun w => eK2 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (hG (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.2 (ldAt arg3 (harg3.unread x3) (k0_off10 i) (k0_off10_inb i h2)) (ldAt arg4 (harg4.unread x4) (k0_off10 i) (k0_off10_inb i h2))) (ldAt arg3 (harg3.unread x3) (k0_off14 i) (k0_off14_inb i)) (ldAt arg4 (harg4.unread x4) (k0_off14 i) (k0_off14_inb i)) w) (by rfl) ?_
        refine peel_Win arg13 _ _ _ _ (fin8 (i 1).val) 1 (off13_win i) _ (fun w => eK1 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (hG (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.2 (ldAt arg3 (harg3.unread x3) (k0_off10 i) (k0_off10_inb i h2)) (ldAt arg4 (harg4.unread x4) (k0_off10 i) (k0_off10_inb i h2))) (ldWin arg3 (harg3.unread x3) (k0_off13 i) (k0_off13_inb i)) (ldWin arg4 (harg4.unread x4) (k0_off13 i) (k0_off13_inb i)) w) (by rfl) ?_
        refine peel_Blk arg13 _ _ _ _ (fin8 (i 1).val) 0 (off12_win i) _ (fun w => dgK2 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (gG (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.1 (ldAt arg3 (harg3.unread x3) (k0_off9 i) (k0_off9_inb i h2)) (ldAt arg4 (harg4.unread x4) (k0_off9 i) (k0_off9_inb i h2))) (ldAt arg3 (harg3.unread x3) (k0_off12 i) (k0_off12_inb i)) (ldAt arg4 (harg4.unread x4) (k0_off12 i) (k0_off12_inb i)) w) (by rfl) ?_
        refine peel_Win arg13 _ _ _ _ (fin8 (i 1).val) 0 (off11_win i) _ (fun w => dgK1 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (gG (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.1 (ldAt arg3 (harg3.unread x3) (k0_off9 i) (k0_off9_inb i h2)) (ldAt arg4 (harg4.unread x4) (k0_off9 i) (k0_off9_inb i h2))) (ldWin arg3 (harg3.unread x3) (k0_off11 i) (k0_off11_inb i)) (ldWin arg4 (harg4.unread x4) (k0_off11 i) (k0_off11_inb i)) w) (by rfl) ?_
        exact read_oddK (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 (harg13.unread A) (harg14.unread B) (2 * (k0_t1_loop i).trips)) arg13 _ i h2 arg3 arg4 (harg3.unread x3) (harg4.unread x4) (by omega) (read_buf13 c arg13 harg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips)
    · iexists _; isplitr; rotate_left
      · iexact H14
      · ipureintro; have e := accV_odd c i arg2 harg2 arg3 harg3 arg4 harg4 arg5 harg5 arg6 harg6 arg7 harg7 arg8 harg8 arg9 harg9 arg10 harg10 arg11 harg11 arg12 harg12 arg13 harg13 arg14 harg14 x2 x3 x4 x5 x6 x7 x8 A B (harg13.unread A) (harg14.unread B) (by rw [if_neg hz]; exact harg13.read_unread _) (by rw [if_neg hz]; exact harg14.read_unread _) h2 hp
        dsimp only [accVP, rawRows, rawKeys, rawStep] at e
        refine Eq.trans ?_ e
        refine peel_Blk arg14 _ _ _ _ (fin8 (i 1).val) 1 (off14_win i) _ (fun w => eV2 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (ldAt arg3 (harg3.unread x3) (k0_off14 i) (k0_off14_inb i)) w) (by rfl) ?_
        refine peel_Win arg14 _ _ _ _ (fin8 (i 1).val) 1 (off13_win i) _ (fun w => eV1 (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) (hS (k0_pay190 (ldHalf arg2 (harg2.unread x2) 1)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.2.2.2.1 (ldAt arg3 (harg3.unread x3) (k0_off10 i) (k0_off10_inb i h2))) (ldWin arg3 (harg3.unread x3) (k0_off13 i) (k0_off13_inb i)) w) (by rfl) ?_
        refine peel_Blk arg14 _ _ _ _ (fin8 (i 1).val) 0 (off12_win i) _ (fun w => dgV2 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (ldAt arg3 (harg3.unread x3) (k0_off12 i) (k0_off12_inb i)) w) (by rfl) ?_
        refine peel_Win arg14 _ _ _ _ (fin8 (i 1).val) 0 (off11_win i) _ (fun w => dgV1 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay198 k0_pay197 (FloatOps.ofBits FTy.f32 1065353216#32)) (gS (k0_pay183 (ldHalf arg2 (harg2.unread x2) 0)) (k0_pay198 k0_pay197 (FloatOps.ofBits FTy.f32 1065353216#32)) (stAt c arg13 arg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (2 * (k0_t1_loop i).trips)).1.2.1 (ldAt arg3 (harg3.unread x3) (k0_off9 i) (k0_off9_inb i h2))) (ldWin arg3 (harg3.unread x3) (k0_off11 i) (k0_off11_inb i)) w) (by rfl) ?_
        exact read_oddV (rawRows arg2 arg5 arg7 arg8 (harg2.unread x2) (harg5.unread x5) (harg7.unread x7) (harg8.unread x8)) (stAt c arg13 arg14 (rawRows arg2 arg5 arg7 arg8 (harg2.unread x2) (harg5.unread x5) (harg7.unread x7) (harg8.unread x8)).q0 (rawRows arg2 arg5 arg7 arg8 (harg2.unread x2) (harg5.unread x5) (harg7.unread x7) (harg8.unread x8)).d0 (rawRows arg2 arg5 arg7 arg8 (harg2.unread x2) (harg5.unread x5) (harg7.unread x7) (harg8.unread x8)).p0 (rawRows arg2 arg5 arg7 arg8 (harg2.unread x2) (harg5.unread x5) (harg7.unread x7) (harg8.unread x8)).q1 (rawRows arg2 arg5 arg7 arg8 (harg2.unread x2) (harg5.unread x5) (harg7.unread x7) (harg8.unread x8)).d1 (rawRows arg2 arg5 arg7 arg8 (harg2.unread x2) (harg5.unread x5) (harg7.unread x7) (harg8.unread x8)).p1 (rawRows arg2 arg5 arg7 arg8 (harg2.unread x2) (harg5.unread x5) (harg7.unread x7) (harg8.unread x8)).t x3 x4 carry0 (harg13.unread A) (harg14.unread B) (2 * (k0_t1_loop i).trips)) arg14 _ i h2 arg3 arg4 (harg3.unread x3) (harg4.unread x4) (by omega) (read_buf14 c arg13 arg14 harg14 (k0_pay183 (ldHalf arg2 (harg2.unread x2) 0)) (k0_pay188 (ldHalf arg5 (harg5.unread x5) 0) (ldHalf arg8 (harg8.unread x8) 0)) (k0_pay189 (ldHalf arg7 (harg7.unread x7) 0)) (k0_pay190 (ldHalf arg2 (harg2.unread x2) 1)) (k0_pay195 (ldHalf arg5 (harg5.unread x5) 1) (ldHalf arg8 (harg8.unread x8) 1)) (k0_pay196 (ldHalf arg7 (harg7.unread x7) 1)) (k0_pay198 k0_pay197 (FloatOps.ofBits FTy.f32 1065353216#32)) x3 x4 carry0 (harg13.unread A) (harg14.unread B) (k0_t1_loop i).trips)

end Body

end Cert.AttnBwdIdeal.Hand

end
-- ==== Proof.AttnFrame.lean ====
module

public import proofs.«01_k».proof.Proof.AttnBody
public import proofs.«01_k».proof.Proof.Gen.AttnBwdIdeal.Launch
public import proofs.«01_k».proof.Proof.Gen.AttnBwdIdeal.Points
public import proofs.«01_k».proof.Proof.Gen.AttnBwdIdeal.Frame
public import Idealize.ShloMosaic.Lib.Pipeline.FrameBody
public import Idealize.ShloMosaic.Lib.Claim

@[expose] public section

set_option maxRecDepth 16384

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal Cert.AttnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The query tile a point stands at. -/
abbrev tile (t : Fin cfg0.N) : ℕ := (grid0.coords t 1).val

theorem tile_eq (t : Fin cfg0.N) : tile t = t.val % 8 := by
  have e : (grid0.coords t 1).val = t.val / 1 % 8 := Pipeline.Grid.coords_val t 1 (by decide) rfl
  exact e.trans (by rw [Nat.div_one])

/-! ## Where the two key outputs are stored -/

theorem live8 : ∀ t : Fin cfg0.N, tile t = 7 → cfg0.idle 8 (grid0.coords t) = false := by decide +kernel
theorem live9 : ∀ t : Fin cfg0.N, tile t = 7 → cfg0.idle 9 (grid0.coords t) = false := by decide +kernel
theorem idle8 : ∀ t : Fin cfg0.N, tile t ≠ 7 → cfg0.idle 8 (grid0.coords t) = true := by decide +kernel
theorem idle9 : ∀ t : Fin cfg0.N, tile t ≠ 7 → cfg0.idle 9 (grid0.coords t) = true := by decide +kernel
theorem kept8 : ∀ t : Fin cfg0.N, tile t ≠ 7 → (cfg0.win 8).flush t = false := by decide +kernel
theorem kept9 : ∀ t : Fin cfg0.N, tile t ≠ 7 → (cfg0.win 9).flush t = false := by decide +kernel

/-! ## The staging buffers and the scratch, as the pipeline passes them -/

abbrev g0 (t : Fin cfg0.N) : Memref sig .tc .vmem S512x256 .bf16 := win0_0.stage (cfg0.slots t 0)
abbrev g1 (t : Fin cfg0.N) : Memref sig .tc .vmem S4096x256 .bf16 := win0_1.stage (cfg0.slots t 1)
abbrev g2 (t : Fin cfg0.N) : Memref sig .tc .vmem S4096x256 .bf16 := win0_2.stage (cfg0.slots t 2)
abbrev g3 (t : Fin cfg0.N) : Memref sig .tc .vmem S512x256 .bf16 := win0_3.stage (cfg0.slots t 3)
abbrev g4 (t : Fin cfg0.N) : Memref sig .tc .vmem S512x256 .bf16 := win0_4.stage (cfg0.slots t 4)
abbrev g5 (t : Fin cfg0.N) : Memref sig .tc .vmem S512x256 .f32 := win0_5.stage (cfg0.slots t 5)
abbrev g6 (t : Fin cfg0.N) : Memref sig .tc .vmem S512x256 .bf16 := win0_6.stage (cfg0.slots t 6)
abbrev g7 (t : Fin cfg0.N) : Memref sig .tc .vmem S512x256 .bf16 := win0_7.stage (cfg0.slots t 7)
abbrev g8 (t : Fin cfg0.N) : Memref sig .tc .vmem S4096x256 .bf16 := win0_8.stage (cfg0.slots t 8)
abbrev g9 (t : Fin cfg0.N) : Memref sig .tc .vmem S4096x256 .bf16 := win0_9.stage (cfg0.slots t 9)
abbrev g10 (t : Fin cfg0.N) : Memref sig .tc .vmem S512x256 .bf16 := win0_10.stage (cfg0.slots t 10)
abbrev sK : Memref sig .tc .vmem S4096x256 .f32 := Memref.whole cc0_scratch0
abbrev sV : Memref sig .tc .vmem S4096x256 .f32 := Memref.whole cc0_scratch1

/-- What the launch hands over beside the windows: both scratches at anything, and the generator's register. -/
theorem rest_eq (c : Dev nD) : (Pipeline.ΦA spec0 c : sProp 𝕄)
    = iprop(((∃ d, owns (c : Thread nD τ) sK fullShare d) ∗ (∃ d, owns (c : Thread nD τ) sV fullShare d)) ∗ (∃ r, prngReg c r)) := by
  unfold Pipeline.ΦA; rw [scopedRest0_eq]; simp only [sK, sV, owns_whole]; rfl

/-! ## What the points leave -/

/-- The two accumulators after a point whose tile is entered with `A`, `B`. -/
def leave (c : Dev nD) (t : Fin cfg0.N) (A B : FVec F S4096x256 .f32) : FVec F S4096x256 .f32 × FVec F S4096x256 .f32 :=
  (accK (iblk m c 0 t) (iblk m c 1 t) (iblk m c 2 t) (iblk m c 3 t) (iblk m c 5 t) (iblk m c 6 t) (tile t) A B,
   accV (iblk m c 0 t) (iblk m c 1 t) (iblk m c 2 t) (iblk m c 3 t) (iblk m c 5 t) (iblk m c 6 t) (tile t) A B)

/-- The accumulators before position `n`: at the first, any word. -/
def acc (c : Dev nD) : (n : ℕ) → n ≤ cfg0.N → FVec F S4096x256 .f32 × FVec F S4096x256 .f32
  | 0, _ => (k0_pay181, k0_pay182)
  | n + 1, hn => leave m c ⟨n, hn⟩ (acc c n (Nat.le_of_lt hn)).1 (acc c n (Nat.le_of_lt hn)).2

/-- The query gradient's tile at a point. -/
def tileQ (c : Dev nD) (t : Fin cfg0.N) : FVec F S512x256 .bf16 :=
  outQ (iblk m c 0 t) (iblk m c 1 t) (iblk m c 2 t) (iblk m c 3 t) (iblk m c 5 t) (iblk m c 6 t) (tile t)
    (acc m c t.val (Nat.le_of_lt t.isLt)).1 (acc m c t.val (Nat.le_of_lt t.isLt)).2
/-- The gate's gradient's tile at a point. -/
def tileZ (c : Dev nD) (t : Fin cfg0.N) : FVec F S512x256 .bf16 := outZ (iblk m c 3 t) (iblk m c 4 t) (iblk m c 6 t)

/-- A tile that starts a head pair clears the accumulators, so what they held is not looked at. -/
theorem before_first (x2 : FVec F S512x256 .bf16) (x3 x4 : FVec F S4096x256 .bf16) (x5 : FVec F S512x256 .bf16) (x7 : FVec F S512x256 .f32) (x8 : FVec F S512x256 .bf16)
    (n : ℕ) (h : n = 0) (A B A' B' : FVec F S4096x256 .f32) : before x2 x3 x4 x5 x7 x8 n A B = before x2 x3 x4 x5 x7 x8 n A' B' := by
  subst h; rfl
theorem leave_first (c : Dev nD) (t : Fin cfg0.N) (h : tile t = 0) (A B A' B' : FVec F S4096x256 .f32) : leave m c t A B = leave m c t A' B' := by
  unfold leave accK accV; rw [before_first _ _ _ _ _ _ _ h A B A' B']

/-- The invariant between points: the scratches at the accumulators, except before the first point. -/
def inv (c : Dev nD) : (n : ℕ) → n ≤ cfg0.N → sProp 𝕄
  | 0, _ => Pipeline.ΦA spec0 c
  | n + 1, hn => iprop((owns (c : Thread nD τ) sK fullShare (acc m c (n + 1) hn).1 ∗ owns (c : Thread nD τ) sV fullShare (acc m c (n + 1) hn).2) ∗ (∃ r, prngReg c r))

theorem inv_pos (c : Dev nD) (n : ℕ) (h : n ≤ cfg0.N) (hz : n ≠ 0) :
    inv m c n h = iprop((owns (c : Thread nD τ) sK fullShare (acc m c n h).1 ∗ owns (c : Thread nD τ) sV fullShare (acc m c n h).2) ∗ (∃ r, prngReg c r)) := by
  cases n with
  | zero => exact absurd rfl hz
  | succ n => rfl

/-- The pipeline's proof data. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => tileQ m c t
    | ⟨8, _⟩ => k0_pay4 (acc m c (t.val + 1) t.isLt).1
    | ⟨9, _⟩ => k0_pay5 (acc m c (t.val + 1) t.isLt).2
    | ⟨10, _⟩ => tileZ m c t
  Φ t := inv m c t.val (Nat.le_of_lt_succ t.isLt)
  q w := Pipeline.shareOf spec0 w
  owed _ := 0

theorem data_A (c : Dev nD) (w : Fin cfg0.W) : (data m 0 c).A w = V m c (Pipeline.arrRef spec0 w) := by dsimp only [data]
theorem inv_start (c : Dev nD) (t : Fin cfg0.N) : (data m 0 c).Φ t.castSucc = inv m c t.val (Nat.le_of_lt t.isLt) := by
  dsimp only [data]; exact Pipeline.Dat.Φ_castSucc (inv m c) t

theorem a0 (c : Dev nD) (t : Fin cfg0.N) : (data m 0 c).after 0 t = iblk m c 0 t := by dsimp only [data]
theorem a1 (c : Dev nD) (t : Fin cfg0.N) : (data m 0 c).after 1 t = iblk m c 1 t := by dsimp only [data]
theorem a2 (c : Dev nD) (t : Fin cfg0.N) : (data m 0 c).after 2 t = iblk m c 2 t := by dsimp only [data]
theorem a3 (c : Dev nD) (t : Fin cfg0.N) : (data m 0 c).after 3 t = iblk m c 3 t := by dsimp only [data]
theorem a4 (c : Dev nD) (t : Fin cfg0.N) : (data m 0 c).after 4 t = iblk m c 4 t := by dsimp only [data]
theorem a5 (c : Dev nD) (t : Fin cfg0.N) : (data m 0 c).after 5 t = iblk m c 5 t := by dsimp only [data]
theorem a6 (c : Dev nD) (t : Fin cfg0.N) : (data m 0 c).after 6 t = iblk m c 6 t := by dsimp only [data]
theorem a7 (c : Dev nD) (t : Fin cfg0.N) : (data m 0 c).after 7 t = tileQ m c t := by dsimp only [data]
theorem a8 (c : Dev nD) (t : Fin cfg0.N) : (data m 0 c).after 8 t = k0_pay4 (acc m c (t.val + 1) t.isLt).1 := by dsimp only [data]
theorem a9 (c : Dev nD) (t : Fin cfg0.N) : (data m 0 c).after 9 t = k0_pay5 (acc m c (t.val + 1) t.isLt).2 := by dsimp only [data]
theorem a10 (c : Dev nD) (t : Fin cfg0.N) : (data m 0 c).after 10 t = tileZ m c t := by dsimp only [data]

theorem b0 (c : Dev nD) (t : Fin cfg0.N) (d) : (data m 0 c).before 0 t d = iblk m c 0 t := before0_0_of m (data m 0 c) (data_A m c 0) (a0 m c) t d
theorem b1 (c : Dev nD) (t : Fin cfg0.N) (d) : (data m 0 c).before 1 t d = iblk m c 1 t := before0_1_of m (data m 0 c) (data_A m c 1) (a1 m c) t d
theorem b2 (c : Dev nD) (t : Fin cfg0.N) (d) : (data m 0 c).before 2 t d = iblk m c 2 t := before0_2_of m (data m 0 c) (data_A m c 2) (a2 m c) t d
theorem b3 (c : Dev nD) (t : Fin cfg0.N) (d) : (data m 0 c).before 3 t d = iblk m c 3 t := before0_3_of m (data m 0 c) (data_A m c 3) (a3 m c) t d
theorem b4 (c : Dev nD) (t : Fin cfg0.N) (d) : (data m 0 c).before 4 t d = iblk m c 4 t := before0_4_of m (data m 0 c) (data_A m c 4) (a4 m c) t d
theorem b5 (c : Dev nD) (t : Fin cfg0.N) (d) : (data m 0 c).before 5 t d = iblk m c 5 t := before0_5_of m (data m 0 c) (data_A m c 5) (a5 m c) t d
theorem b6 (c : Dev nD) (t : Fin cfg0.N) (d) : (data m 0 c).before 6 t d = iblk m c 6 t := before0_6_of m (data m 0 c) (data_A m c 6) (a6 m c) t d

/-- A window stored into at a point is left at the proof data's contents. -/
theorem leaves_live (c : Dev nD) (w : Fin cfg0.W) (t : Fin cfg0.N) (h : cfg0.idle w (grid0.coords t) = false) :
    (data m 0 c).leavesExact w t = owns (c : Thread nD τ) ((cfg0.win w).stage (cfg0.slots t w)) fullShare ((data m 0 c).after w t) := by
  unfold Dat.leavesExact; rw [h]

/-! ## The body at a point -/

def entry (c : Dev nD) (t : Fin cfg0.N) : sProp 𝕄 :=
  iprop((data m 0 c).Φ t.castSucc ∗ (data m 0 c).owesAt () t.castSucc
    ∗ (∃ d, owns (c : Thread nD τ) (g0 t) fullShare ((data m 0 c).before 0 t d))
    ∗ (∃ d, owns (c : Thread nD τ) (g1 t) fullShare ((data m 0 c).before 1 t d))
    ∗ (∃ d, owns (c : Thread nD τ) (g2 t) fullShare ((data m 0 c).before 2 t d))
    ∗ (∃ d, owns (c : Thread nD τ) (g3 t) fullShare ((data m 0 c).before 3 t d))
    ∗ (∃ d, owns (c : Thread nD τ) (g4 t) fullShare ((data m 0 c).before 4 t d))
    ∗ (∃ d, owns (c : Thread nD τ) (g5 t) fullShare ((data m 0 c).before 5 t d))
    ∗ (∃ d, owns (c : Thread nD τ) (g6 t) fullShare ((data m 0 c).before 6 t d))
    ∗ (∃ d, owns (c : Thread nD τ) (g7 t) fullShare ((data m 0 c).before 7 t d))
    ∗ (∃ d, owns (c : Thread nD τ) (g8 t) fullShare ((data m 0 c).before 8 t d))
    ∗ (∃ d, owns (c : Thread nD τ) (g9 t) fullShare ((data m 0 c).before 9 t d))
    ∗ (∃ d, owns (c : Thread nD τ) (g10 t) fullShare ((data m 0 c).before 10 t d)))

def exit (c : Dev nD) (t : Fin cfg0.N) : sProp 𝕄 :=
  iprop((data m 0 c).Φ t.succ ∗ (data m 0 c).owesAt () t.succ
    ∗ (data m 0 c).leavesExact 0 t ∗ (data m 0 c).leavesExact 1 t ∗ (data m 0 c).leavesExact 2 t ∗ (data m 0 c).leavesExact 3 t
    ∗ (data m 0 c).leavesExact 4 t ∗ (data m 0 c).leavesExact 5 t ∗ (data m 0 c).leavesExact 6 t ∗ (data m 0 c).leavesExact 7 t
    ∗ (data m 0 c).leavesExact 8 t ∗ (data m 0 c).leavesExact 9 t ∗ (data m 0 c).leavesExact 10 t)

/-- What a key output is left at: stored at the last tile, untouched before. -/
theorem leaves8 (c : Dev nD) (t : Fin cfg0.N) (d) (y) (hy : y = (data m 0 c).before 8 t d) :
    owns (c : Thread nD τ) (g8 t) fullShare (if tile t = 7 then k0_pay4 (acc m c (t.val + 1) t.isLt).1 else y) ⊢ (data m 0 c).leavesExact 8 t := by
  subst hy
  by_cases h : tile t = 7
  · rw [if_pos h, leaves_live m c 8 t (live8 t h), a8]
  · rw [if_neg h, Dat.leavesExact_idle (data m 0 c) 8 t (idle8 t h) (kept8 t h)]
    iintro H; iexists _; iexact H
theorem leaves9 (c : Dev nD) (t : Fin cfg0.N) (d) (y) (hy : y = (data m 0 c).before 9 t d) :
    owns (c : Thread nD τ) (g9 t) fullShare (if tile t = 7 then k0_pay5 (acc m c (t.val + 1) t.isLt).2 else y) ⊢ (data m 0 c).leavesExact 9 t := by
  subst hy
  by_cases h : tile t = 7
  · rw [if_pos h, leaves_live m c 9 t (live9 t h), a9]
  · rw [if_neg h, Dat.leavesExact_idle (data m 0 c) 9 t (idle9 t h) (kept9 t h)]
    iintro H; iexists _; iexact H

set_option maxHeartbeats 4800000 in
/-- The body at a point whose accumulators are `A`, `B` on entry. -/
theorem sound_of (c : Dev nD) (t : Fin cfg0.N) (A B : FVec F S4096x256 .f32) (hA : leave m c t A B = acc m c (t.val + 1) t.isLt)
    (hQ : outQ (iblk m c 0 t) (iblk m c 1 t) (iblk m c 2 t) (iblk m c 3 t) (iblk m c 5 t) (iblk m c 6 t) (tile t) A B = tileQ m c t) :
    iprop(((owns (c : Thread nD τ) sK fullShare A ∗ owns (c : Thread nD τ) sV fullShare B) ∗ (∃ r, prngReg c r)) ∗ (data m 0 c).owesAt () t.castSucc
      ∗ (∃ d : Unit, owns (c : Thread nD τ) (g0 t) fullShare (iblk m c 0 t)) ∗ (∃ d : Unit, owns (c : Thread nD τ) (g1 t) fullShare (iblk m c 1 t))
      ∗ (∃ d : Unit, owns (c : Thread nD τ) (g2 t) fullShare (iblk m c 2 t)) ∗ (∃ d : Unit, owns (c : Thread nD τ) (g3 t) fullShare (iblk m c 3 t))
      ∗ (∃ d : Unit, owns (c : Thread nD τ) (g4 t) fullShare (iblk m c 4 t)) ∗ (∃ d : Unit, owns (c : Thread nD τ) (g5 t) fullShare (iblk m c 5 t))
      ∗ (∃ d : Unit, owns (c : Thread nD τ) (g6 t) fullShare (iblk m c 6 t))
      ∗ (∃ d, owns (c : Thread nD τ) (g7 t) fullShare ((data m 0 c).before 7 t d))
      ∗ (∃ d, owns (c : Thread nD τ) (g8 t) fullShare ((data m 0 c).before 8 t d))
      ∗ (∃ d, owns (c : Thread nD τ) (g9 t) fullShare ((data m 0 c).before 9 t d))
      ∗ (∃ d, owns (c : Thread nD τ) (g10 t) fullShare ((data m 0 c).before 10 t d)))
      ⊢ wp frame (wpE (defs₀ (F := F)) Variants.none c none) Set.univ (bodyAt0 t) (fun _ => exit m c t) := by
  have hK : accK (iblk m c 0 t) (iblk m c 1 t) (iblk m c 2 t) (iblk m c 3 t) (iblk m c 5 t) (iblk m c 6 t) (tile t) A B = (acc m c (t.val + 1) t.isLt).1 := congrArg Prod.fst hA
  have hV : accV (iblk m c 0 t) (iblk m c 1 t) (iblk m c 2 t) (iblk m c 3 t) (iblk m c 5 t) (iblk m c 6 t) (tile t) A B = (acc m c (t.val + 1) t.isLt).2 := congrArg Prod.snd hA
  unfold exit bodyAt0
  rw [show (data m 0 c).owesAt () t.succ = (data m 0 c).owesAt () t.castSucc from rfl,
    show (data m 0 c).Φ t.succ = inv m c (t.val + 1) t.isLt from rfl, inv_pos m c (t.val + 1) t.isLt (Nat.succ_ne_zero _),
    leaves_live m c 0 t rfl, leaves_live m c 1 t rfl, leaves_live m c 2 t rfl, leaves_live m c 3 t rfl, leaves_live m c 4 t rfl,
    leaves_live m c 5 t rfl, leaves_live m c 6 t rfl, leaves_live m c 7 t rfl, leaves_live m c 10 t rfl, a0, a1, a2, a3, a4, a5, a6, a7, a10]
  iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) A B ((data m 0 c).before 8 t d8) ((data m 0 c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [H10]; · iexists _; iexact H10
  isplitl [HK]; · iexact HK
  isplitl [HV]; · iexact HV
  rw [hK, hV, hQ]
  iintro ⟨H0, H1, H2, H3, H4, H5, H6, H7, H8, H9, H10, HK, HV⟩
  isplitl [HK HV Hg]
  · isplitl [HK HV]
    · isplitl [HK]; · iexact HK
      iexact HV
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (leaves8 m c t d8 _ rfl); iexact H8
  isplitl [H9]; · iapply (leaves9 m c t d9 _ rfl); iexact H9
  iexact H10

/-- The body at any point. -/
theorem sound (c : Dev nD) (t : Fin cfg0.N) : entry m c t ⊢ wp frame (wpE (defs₀ (F := F)) Variants.none c none) Set.univ (bodyAt0 t) (fun _ => exit m c t) := by
  unfold entry
  simp only [b0, b1, b2, b3, b4, b5, b6]
  rw [inv_start m c t]
  obtain ⟨n, hn⟩ := t
  cases n with
  | zero =>
    have h0 : tile (⟨0, hn⟩ : Fin cfg0.N) = 0 := tile_eq _
    rw [show inv m c 0 (Nat.le_of_lt hn) = Pipeline.ΦA spec0 c from rfl, rest_eq]
    iintro ⟨⟨⟨⟨%A, HK⟩, ⟨%B, HV⟩⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
    iapply (sound_of m c ⟨0, hn⟩ A B (leave_first m c _ h0 _ _ _ _) (by unfold tileQ outQ; rw [before_first _ _ _ _ _ _ _ h0]))
    isplitl [HK HV Hg]
    · isplitl [HK HV]
      · isplitl [HK]; · iexact HK
        iexact HV
      iexact Hg
    isplitl [Ho]; · iexact Ho
    isplitl [H0]; · iexists (); iexact H0
    isplitl [H1]; · iexists (); iexact H1
    isplitl [H2]; · iexists (); iexact H2
    isplitl [H3]; · iexists (); iexact H3
    isplitl [H4]; · iexists (); iexact H4
    isplitl [H5]; · iexists (); iexact H5
    isplitl [H6]; · iexists (); iexact H6
    isplitl [H7]; · iexact H7
    isplitl [H8]; · iexact H8
    isplitl [H9]; · iexact H9
    iexact H10
  | succ n =>
    rw [inv_pos m c (n + 1) (Nat.le_of_lt hn) (Nat.succ_ne_zero _)]
    iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
    iapply (sound_of m c ⟨n + 1, hn⟩ _ _ rfl rfl)
    isplitl [HK HV Hg]
    · isplitl [HK HV]
      · isplitl [HK]; · iexact HK
        iexact HV
      iexact Hg
    isplitl [Ho]; · iexact Ho
    isplitl [H0]; · iexists (); iexact H0
    isplitl [H1]; · iexists (); iexact H1
    isplitl [H2]; · iexists (); iexact H2
    isplitl [H3]; · iexists (); iexact H3
    isplitl [H4]; · iexists (); iexact H4
    isplitl [H5]; · iexists (); iexact H5
    isplitl [H6]; · iexists (); iexact H6
    isplitl [H7]; · iexact H7
    isplitl [H8]; · iexact H8
    isplitl [H9]; · iexact H9
    iexact H10

theorem table_row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, table_row]
  exact triple_restated (sound m c t) rfl .rfl fun _ => .rfl

theorem enters (c : Dev nD) : Pipeline.ΦA spec0 c ⊢ (data m 0 c).Φ 0 := by
  rw [show (data m 0 c).Φ 0 = Pipeline.ΦA spec0 c from rfl]

theorem leaves (c : Dev nD) : (data m 0 c).Φ (Fin.last cfg0.N) ⊢ Pipeline.ΦA spec0 c := by
  have h : (Fin.last cfg0.N).val ≠ 0 := by rw [Fin.val_last]; have : cfg0.N = 64 := N_0; omega
  rw [show (data m 0 c).Φ (Fin.last cfg0.N) = inv m c (Fin.last cfg0.N).val (Nat.le_of_lt_succ (Fin.last cfg0.N).isLt) from rfl, inv_pos m c _ _ h, rest_eq]
  iintro ⟨⟨HK, HV⟩, Hg⟩
  isplitl [HK HV]
  · isplitl [HK]
    · iexists _; iexact HK
    iexists _; iexact HV
  iexact Hg

set_option backward.isDefEq.respectTransparency.types false in
/-- The run: every array of the pipeline ends as the proof data computes it, and every counter at zero. -/
theorem run_quiet : θ_run defs (onTc (τ := τ) (main (F := F))) (s₀ m ρ) (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hin := enters m) (hout := leaves m)

theorem run : θ_run defs (onTc (τ := τ) (main (F := F))) (s₀ m ρ) (Pipeline.FramePost cfgs (data m) 0 (V m)) :=
  (θ_run defs _ _).mono (fun _ h => h.1) (run_quiet m ρ)

/-- The arguments end as they were, and no counter is left standing. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (data m) (data_A m) (run m ρ)) ((θ_run defs _ _).mono (fun _ h => h.2) (run_quiet m ρ))

end Cert.AttnBwdIdeal.Hand

end
-- ==== Proof.AttnPays.lean ====
module

public import proofs.«01_k».proof.Proof.AttnBodyDefs
public import Idealize.ShloMosaic.Lib.Pointwise
public import Idealize.ShloMosaic.Lib.ValueIdx
public import Idealize.ShloMosaic.Lib.Tactic
public import Idealize.ShloMosaic.Lib.WordCmp

@[expose] public section

set_option maxRecDepth 16384

noncomputable section

namespace Cert.AttnBwdIdeal.Hand

open Idealize.ShloMosaic Idealize.ShloMosaic.TcCoe
open Cert.AttnBwdIdeal Cert.AttnBwdIdeal.Gen

/-- The softplus of a logit, as the body computes it. -/
def spl (z : EReal) : EReal := max z 0 + Ideal.log (1 + Ideal.exp (0 - max z (-z)))

/-- The product of a row of `q` with a row of `k`. -/
def zz {a b : ℕ} (q : (⟨2, ![a, 128]⟩ : Shape).Idx → EReal) (k : (⟨2, ![b, 128]⟩ : Shape).Idx → EReal) (r : Fin a) (c : Fin b) : EReal :=
  ∑ l : Fin 128, q (ix2 r l) * k (ix2 c l)

section Block
variable (q k d v : FVec Ideal S512x128 .bf16) (p : FVec Ideal S512x512 .f32) (t : FVec Ideal S256x256 .bf16) (s g : FVec Ideal S512x1 .f32)

theorem pay8_apply (r c : Fin 512) : k0_pay8 q k (ix2 r c) = zz q k r c - spl (zz q k r c) := by
  unfold_payloads
  pointwise
  rfl

theorem pay12_apply (r : Fin 512) : k0_pay12 q t s k (ix2 r 0)
    = s (ix2 r 0) + ∑ x : Fin 256, spl (zz q k r ⟨x.val, by omega⟩) * t (ix2 x 255) + ∑ x : Fin 256, spl (zz q k r ⟨256 + x.val, by omega⟩) * t (ix2 x 255) := by
  unfold_payloads
  pointwise
  rfl

theorem pay13_apply (r c : Fin 512) : k0_pay13 q p t s k (ix2 r c)
    = Ideal.exp (zz q k r c - spl (zz q k r c) - (p (ix2 r c) -
        if h : c.val < 256 then ∑ x : Fin 256, spl (zz q k r ⟨x.val, by omega⟩) * t (ix2 x ⟨c.val, h⟩) + s (ix2 r 0)
        else ∑ x : Fin 256, spl (zz q k r ⟨256 + x.val, by omega⟩) * t (ix2 x ⟨c.val - 256, by omega⟩)
          + (s (ix2 r 0) + ∑ x : Fin 256, spl (zz q k r ⟨x.val, by omega⟩) * t (ix2 x 255)))) := by
  unfold_payloads
  pointwise
  rfl

theorem pay14_apply (r c : Fin 512) : k0_pay14 q d p t s k v (ix2 r c) = k0_pay13 q p t s k (ix2 r c) * zz d v r c := by
  unfold k0_pay14
  pointwise
  rfl

theorem pay15_apply (r : Fin 512) (c : Fin 256) : k0_pay15 q d p t s k v (ix2 r c)
    = ∑ x : Fin 256, k0_pay14 q d p t s k v (ix2 r ⟨x.val, by omega⟩) * t (ix2 x c) := by
  unfold k0_pay15
  pointwise

theorem pay16_apply (r : Fin 512) : k0_pay16 q d p t s k v (ix2 r 0)
    = ∑ x : Fin 256, k0_pay14 q d p t s k v (ix2 r ⟨x.val, by omega⟩) * t (ix2 x 255) := by
  unfold k0_pay16 k0_pay15
  pointwise

variable (b w : FVec Ideal S512x512 .f32) (e : FVec Ideal S512x256 .f32) (u : FVec Ideal S512x1 .f32) (o : FVec Ideal S512x128 .f32)

theorem pay19_apply (r : Fin 512) : k0_pay19 t g w u (ix2 r 0) = g (ix2 r 0) + u (ix2 r 0) + ∑ x : Fin 256, w (ix2 r ⟨256 + x.val, by omega⟩) * t (ix2 x 255) := by
  unfold_payloads
  pointwise

/-- One block's logit gradients. -/
theorem pay20_apply (r c : Fin 512) : k0_pay20 t g b w e u (ix2 r c) = w (ix2 r c) - Ideal.exp (b (ix2 r c)) *
    (if h : c.val < 256 then e (ix2 r ⟨c.val, h⟩) + g (ix2 r 0)
      else ∑ x : Fin 256, w (ix2 r ⟨256 + x.val, by omega⟩) * t (ix2 x ⟨c.val - 256, by omega⟩) + (g (ix2 r 0) + u (ix2 r 0))) := by
  unfold_payloads
  pointwise

theorem pay21_apply (r : Fin 512) (l : Fin 128) : k0_pay21 t o g k b w e u (ix2 r l) = o (ix2 r l) + ∑ c : Fin 512, k0_pay20 t g b w e u (ix2 r c) * k (ix2 c l) := by
  unfold k0_pay21
  pointwise

theorem pay22_apply (c : Fin 512) (l : Fin 128) : k0_pay22 q t g b w e u o (ix2 c l) = o (ix2 c l) + ∑ r : Fin 512, k0_pay20 t g b w e u (ix2 r c) * q (ix2 r l) := by
  unfold k0_pay22
  pointwise

theorem pay23_apply (c : Fin 512) (l : Fin 128) : k0_pay23 d w o (ix2 c l) = o (ix2 c l) + ∑ r : Fin 512, w (ix2 r c) * d (ix2 r l) := by
  unfold k0_pay23
  pointwise

end Block

/-! ## The diagonal block's upper half -/

theorem sel_slt {a b : ℕ} (ha : a < 2 ^ 31) (hb : b < 2 ^ 31) (x y : EReal) : Scalar.select (IntOp.cmpi .slt (BitVec.ofNat 32 a) (BitVec.ofNat 32 b)) x y = if a < b then x else y := by
  rw [Idealize.ShloMosaic.WordCmp.cmpi_slt_ofNat ha hb]
  by_cases h : a < b <;> simp [h, Scalar.select]

theorem pay198_apply (r c : Fin 256) :
    k0_pay198 (F := Ideal) k0_pay197 (FloatOps.ofBits FTy.f32 1065353216#32) (ix2 r c) = if r.val ≤ c.val then 1 else 0 := by
  unfold_payloads
  pointwise
  rw [Idealize.ShloMosaic.WordCmp.cmpi_sle_ofNat (by omega) (by omega)]
  by_cases h : r.val ≤ c.val <;> simp [h, Scalar.select]

theorem pay189_apply (x : FVec Ideal S512x128 .f32) (T : Fin 512 → EReal) (hx : ∀ r l, x (ix2 r l) = T r) (r c : Fin 512) :
    (k0_pay189 x : FVec Ideal S512x512 .f32) (ix2 r c) = T r := by
  unfold_payloads
  pointwise
  simp only [hx]
  split_ifs <;> rfl

/-- The mask of the upper half: a key before its query. -/
theorem mask1_apply (x y : FVec Ideal S256x256 .f32) (r c : Fin 256) : (select k0_pay212 x y : FVec Ideal S256x256 .f32) (ix2 r c) = if c.val < r.val then x (ix2 r c) else y (ix2 r c) := by
  unfold_payloads
  pointwise
  rw [show IntOp.addi 0#32 (BitVec.ofNat 32 r.val) = BitVec.ofNat 32 r.val from BitVec.zero_add _]
  exact sel_slt (by omega) (by omega) _ _

/-- The same mask, one lane at a time. -/
theorem mask1_sel (x y : EReal) (r c : Fin 256) : Scalar.select (k0_pay212 (ix2 r c)) x y = if c.val < r.val then x else y :=
  mask1_apply (fun _ => x) (fun _ => y) r c

section Half
variable (q d : FVec Ideal S512x128 .bf16) (k v : FVec Ideal S256x128 .bf16) (p : FVec Ideal S512x512 .f32) (t : FVec Ideal S256x256 .bf16) (s g : FVec Ideal S512x1 .f32)

/-- A row of the upper half. -/
abbrev up (r : Fin 256) : Fin 512 := ⟨r.val, by omega⟩
/-- A row of the lower half. -/
abbrev lo (r : Fin 256) : Fin 512 := ⟨256 + r.val, by omega⟩

theorem pay214_apply (r c : Fin 256) : k0_pay214 q k (ix2 r c) = spl (zz q k (up r) c) := by
  unfold_payloads
  pointwise
  rfl

theorem pay215_apply (r c : Fin 256) : k0_pay215 q k (ix2 r c) = zz q k (up r) c - spl (zz q k (up r) c) := by
  unfold_payloads
  pointwise
  rfl

theorem pay216_apply (r c : Fin 256) : k0_pay216 q p t s k (ix2 r c)
    = if c.val < r.val then Ideal.exp (k0_pay215 q k (ix2 r c) - (p (ix2 (up r) (up c)) -
        (∑ x : Fin 256, (if x.val < r.val then spl (zz q k (up r) x) else 0) * t (ix2 x c) + s (ix2 (up r) 0)))) else 0 := by
  unfold k0_pay216
  rw [mask1_apply]
  pointwise
  simp only [pay214_apply, mask1_sel, ite_mul, zero_mul]

theorem pay217_apply (b w : FVec Ideal S256x256 .f32) (r c : Fin 256) : k0_pay217 d t (k0_pay211 g) v k0_pay212 b w (ix2 r c)
    = if c.val < r.val then w (ix2 r c) * zz d v (up r) c - Ideal.exp (b (ix2 r c)) * (∑ x : Fin 256, w (ix2 r x) * zz d v (up r) x * t (ix2 x c) + g (ix2 (up r) 0)) else 0 := by
  unfold k0_pay217 k0_pay211
  dsimp only
  show (select k0_pay212 _ _ : FVec Ideal S256x256 .f32) (ix2 r c) = _
  rw [mask1_apply]
  pointwise
  rfl

variable (b w : FVec Ideal S256x256 .f32) (o : FVec Ideal S256x128 .f32)

theorem pay218_apply (o : FVec Ideal S512x128 .f32) (r : Fin 256) (l : Fin 128) : k0_pay218 d t (k0_pay210 o) (k0_pay211 g) k v k0_pay212 b w (ix2 r l)
    = o (ix2 (up r) l) + ∑ c : Fin 256, k0_pay217 d t (k0_pay211 g) v k0_pay212 b w (ix2 r c) * k (ix2 c l) := by
  unfold k0_pay218 k0_pay210
  pointwise

theorem pay219_apply (c : Fin 256) (l : Fin 128) : k0_pay219 q d t (k0_pay211 g) v k0_pay212 b w o (ix2 c l)
    = o (ix2 c l) + ∑ r : Fin 256, k0_pay217 d t (k0_pay211 g) v k0_pay212 b w (ix2 r c) * q (ix2 (up r) l) := by
  unfold k0_pay219
  pointwise

theorem pay220_apply (c : Fin 256) (l : Fin 128) : k0_pay220 d w o (ix2 c l) = o (ix2 c l) + ∑ r : Fin 256, w (ix2 r c) * d (ix2 (up r) l) := by
  unfold k0_pay220
  pointwise

end Half

/-! ## The diagonal block's lower half -/

/-- The mask of the lower half: a key before its query. -/
theorem mask2_apply (x y : FVec Ideal S256x512 .f32) (r : Fin 256) (c : Fin 512) :
    (select (k0_pay225 k0_pay224 lanes) x y : FVec Ideal S256x512 .f32) (ix2 r c) = if c.val < 256 + r.val then x (ix2 r c) else y (ix2 r c) := by
  unfold_payloads
  pointwise
  rw [show IntOp.addi 256#32 (BitVec.ofNat 32 r.val) = BitVec.ofNat 32 (256 + r.val) from (BitVec.ofNat_add _ _).symm]
  exact sel_slt (by omega) (by omega) _ _

/-- The same mask, one lane at a time. -/
theorem mask2_sel (x y : EReal) (r : Fin 256) (c : Fin 512) : Scalar.select (k0_pay225 k0_pay224 lanes (ix2 r c)) x y = if c.val < 256 + r.val then x else y :=
  mask2_apply (fun _ => x) (fun _ => y) r c

section Low
variable (q d k v : FVec Ideal S512x128 .bf16) (p : FVec Ideal S512x512 .f32) (t : FVec Ideal S256x256 .bf16) (s g : FVec Ideal S512x1 .f32)

theorem pay227_apply (r : Fin 256) (c : Fin 512) : k0_pay227 q k (ix2 r c) = spl (zz q k (lo r) c) := by
  unfold_payloads
  pointwise
  rfl

theorem pay228_apply (r : Fin 256) (c : Fin 512) : k0_pay228 q k (ix2 r c) = zz q k (lo r) c - spl (zz q k (lo r) c) := by
  unfold_payloads
  pointwise
  rfl

theorem pay229_apply (r : Fin 256) (c : Fin 512) : k0_pay229 q p t (k0_pay222 s) k k0_pay224 lanes (ix2 r c)
    = if c.val < 256 + r.val then Ideal.exp (k0_pay228 q k (ix2 r c) - (p (ix2 (lo r) c) -
        if h : c.val < 256 then ∑ x : Fin 256, (if x.val < 256 + r.val then spl (zz q k (lo r) (up x)) else 0) * t (ix2 x ⟨c.val, h⟩) + s (ix2 (lo r) 0)
        else ∑ x : Fin 256, (if 256 + x.val < 256 + r.val then spl (zz q k (lo r) (lo x)) else 0) * t (ix2 x ⟨c.val - 256, by omega⟩)
          + (s (ix2 (lo r) 0) + ∑ x : Fin 256, (if x.val < 256 + r.val then spl (zz q k (lo r) (up x)) else 0) * t (ix2 x 255)))) else 0 := by
  unfold k0_pay229 k0_pay222
  dsimp only
  rw [mask2_apply]
  pointwise
  simp only [pay227_apply, mask2_sel, ite_mul, zero_mul]

theorem pay230_apply (r : Fin 256) (c : Fin 512) : k0_pay230 q d p t (k0_pay222 s) k v k0_pay224 lanes (ix2 r c)
    = k0_pay229 q p t (k0_pay222 s) k k0_pay224 lanes (ix2 r c) * zz d v (lo r) c := by
  unfold k0_pay230
  pointwise
  rfl

/-- The lower half's logit gradients. -/
abbrev low : FVec Ideal S256x512 .bf16 :=
  k0_pay235 (k0_pay225 k0_pay224 lanes) (k0_pay228 q k) (k0_pay230 q d p t (k0_pay222 s) k v k0_pay224 lanes) (k0_pay232 q d p t (k0_pay222 s) (k0_pay223 g) k v k0_pay224 lanes)
    (k0_pay233 q d p t (k0_pay222 s) k v k0_pay224 lanes) (k0_pay234 q d p t (k0_pay222 s) (k0_pay223 g) k v k0_pay224 lanes)

theorem pay235_apply (r : Fin 256) (c : Fin 512) : low q d k v p t s g (ix2 r c)
    = if c.val < 256 + r.val then k0_pay230 q d p t (k0_pay222 s) k v k0_pay224 lanes (ix2 r c) - Ideal.exp (k0_pay228 q k (ix2 r c)) *
        (if h : c.val < 256 then ∑ x : Fin 256, k0_pay230 q d p t (k0_pay222 s) k v k0_pay224 lanes (ix2 r (up x)) * t (ix2 x ⟨c.val, h⟩) + g (ix2 (lo r) 0)
        else ∑ x : Fin 256, k0_pay230 q d p t (k0_pay222 s) k v k0_pay224 lanes (ix2 r (lo x)) * t (ix2 x ⟨c.val - 256, by omega⟩)
          + (g (ix2 (lo r) 0) + ∑ x : Fin 256, k0_pay230 q d p t (k0_pay222 s) k v k0_pay224 lanes (ix2 r (up x)) * t (ix2 x 255))) else 0 := by
  unfold low k0_pay235 k0_pay232 k0_pay233 k0_pay234 k0_pay231 k0_pay223
  dsimp only
  show (select (k0_pay225 k0_pay224 lanes) _ _ : FVec Ideal S256x512 .f32) (ix2 r c) = _
  rw [mask2_apply]
  pointwise

variable (w a : FVec Ideal S256x512 .f32) (e f j : FVec Ideal S256x256 .f32) (o : FVec Ideal S512x128 .f32)

theorem pay236_apply (h : IVec S256x512 1) (c : Fin 512) (l : Fin 128) : k0_pay236 q h a w e f j o (ix2 c l)
    = o (ix2 c l) + ∑ r : Fin 256, k0_pay235 h a w e f j (ix2 r c) * q (ix2 (lo r) l) := by
  unfold k0_pay236
  pointwise

theorem pay237_apply (c : Fin 512) (l : Fin 128) : k0_pay237 d w o (ix2 c l) = o (ix2 c l) + ∑ r : Fin 256, w (ix2 r c) * d (ix2 (lo r) l) := by
  unfold k0_pay237
  pointwise

theorem pay2_apply (x : FVec Ideal S512x128 .f32) (r : Fin 512) (l : Fin 128) : k0_pay2 x (ix2 r l) = x (ix2 r l) * Ideal.ofBits .f32 0x3DB504F3#32 := by
  unfold_payloads
  pointwise

theorem pay183_apply (x : FVec Ideal S512x128 .bf16) (r : Fin 512) (l : Fin 128) : k0_pay183 x (ix2 r l) = x (ix2 r l) * Ideal.ofBits .f32 0x3DB504F3#32 := by
  unfold_payloads
  pointwise

theorem pay238_apply (x y : FVec Ideal S256x128 .f32) (h : IVec S256x512 1) (r : Fin 512) (l : Fin 128) : k0_pay238 x y k h a w e f j (ix2 r l)
    = if h' : r.val < 256 then x (ix2 ⟨r.val, h'⟩ l) else y (ix2 ⟨r.val - 256, by omega⟩ l) + ∑ c : Fin 512, k0_pay235 h a w e f j (ix2 ⟨r.val - 256, by omega⟩ c) * k (ix2 c l) := by
  unfold k0_pay238
  pointwise

/-- The sigmoid of a gate. -/
def sg (z : EReal) : EReal := Ideal.div 1 (1 + Ideal.exp (0 - z))

theorem pay188_apply (z y : FVec Ideal S512x128 .bf16) (r : Fin 512) (l : Fin 128) : k0_pay188 z y (ix2 r l) = y (ix2 r l) * (z (ix2 r l) * sg (z (ix2 r l))) := by
  unfold_payloads
  pointwise
  rfl

theorem pay187_apply (z y x : FVec Ideal S512x128 .bf16) (r : Fin 512) (l : Fin 128) : k0_pay187 z y x (ix2 r l)
    = y (ix2 r l) * x (ix2 r l) * (sg (z (ix2 r l)) * (1 + z (ix2 r l) * (1 - sg (z (ix2 r l))))) := by
  unfold_payloads
  pointwise
  rfl

theorem pay199_apply (r : Fin 512) : (k0_pay199 (F := Ideal)) (ix2 r 0) = 0 := by
  unfold_payloads
  pointwise

theorem pay200_apply (r : Fin 512) (l : Fin 128) : (k0_pay200 (F := Ideal)) (ix2 r l) = 0 := by
  unfold_payloads
  pointwise

theorem pay181_apply (r : Fin 4096) (l : Fin 256) : (k0_pay181 (F := Ideal)) (ix2 r l) = 0 := by
  unfold_payloads
  pointwise

theorem pay182_apply (r : Fin 4096) (l : Fin 256) : (k0_pay182 (F := Ideal)) (ix2 r l) = 0 := by
  unfold_payloads
  pointwise

theorem pay4_apply (x : FVec Ideal S4096x256 .f32) (r : Fin 4096) (l : Fin 256) : (k0_pay4 (F := Ideal) x) (ix2 r l) = x (ix2 r l) := by
  unfold_payloads
  pointwise

theorem pay5_apply (x : FVec Ideal S4096x256 .f32) (r : Fin 4096) (l : Fin 256) : (k0_pay5 (F := Ideal) x) (ix2 r l) = x (ix2 r l) := by
  unfold_payloads
  pointwise

end Low

end Cert.AttnBwdIdeal.Hand

end
-- ==== Proof.AttnHead.lean ====
module

public import proofs.«01_k».proof.Proof.AttnPays

@[expose] public section

set_option maxRecDepth 16384

noncomputable section

namespace Cert.AttnBwdIdeal.Hand

open Idealize.ShloMosaic Idealize.ShloMosaic.TcCoe
open Cert.AttnBwdIdeal Cert.AttnBwdIdeal.Gen

/-- One head's scaled queries, keys, values and gated cotangents by row, and its row totals. -/
structure Head where
  (Q K V D : ℕ → Fin 128 → EReal)
  P : ℕ → EReal

namespace Head
variable (H : Head) (R : ℕ)

/-- The logit of query `R` and key `c`. -/
def z (c : ℕ) : EReal := ∑ l : Fin 128, H.Q R l * H.K c l
/-- Its softplus, of the keys before the query. -/
def sp (c : ℕ) : EReal := if c < R then spl (H.z R c) else 0
/-- The running sum of those over the first `n` keys. -/
def S (n : ℕ) : EReal := ∑ c ∈ Finset.range n, H.sp R c
/-- The logarithm of the share a key takes of what is left. -/
def lb (c : ℕ) : EReal := H.z R c - spl (H.z R c)
/-- The attention weight. -/
def a (c : ℕ) : EReal := if c < R then Ideal.exp (H.lb R c - (H.P R - H.S R (c + 1))) else 0
/-- The cotangent of the attention weight. -/
def da (c : ℕ) : EReal := ∑ l : Fin 128, H.D R l * H.V c l
/-- The weight times its cotangent. -/
def g (c : ℕ) : EReal := H.a R c * H.da R c
/-- The running sum of those. -/
def G (n : ℕ) : EReal := ∑ c ∈ Finset.range n, H.g R c
/-- The gradient of the logit. -/
def dz (c : ℕ) : EReal := if c < R then H.g R c - Ideal.exp (H.lb R c) * H.G R (c + 1) else 0
/-- The gradient of the scaled query over the first `n` keys. -/
def dq (n : ℕ) (l : Fin 128) : EReal := ∑ c ∈ Finset.range n, H.dz R c * H.K c l

end Head

/-- A triangle of ones sums the terms up to its column. -/
theorem tri (f : ℕ → EReal) (b : ℕ) (t : FVec Ideal S256x256 .bf16) (ht : ∀ r c : Fin 256, t (ix2 r c) = if r.val ≤ c.val then 1 else 0) (c : Fin 256) :
    ∑ x : Fin 256, f (b + x.val) * t (ix2 x c) + ∑ y ∈ Finset.range b, f y = ∑ y ∈ Finset.range (b + c.val + 1), f y := by
  have e : ∑ x : Fin 256, f (b + x.val) * t (ix2 x c) = ∑ x ∈ Finset.range (c.val + 1), f (b + x) := by
    rw [← Finset.sum_range (n := 256) (fun x => f (b + x) * if x ≤ c.val then 1 else 0) |>.trans (Finset.sum_congr rfl fun x _ => by rw [ht])]
    have hc := c.isLt
    rw [← Finset.sum_subset (Finset.range_mono (show c.val + 1 ≤ 256 by omega))
      (fun x _ hx => by rw [if_neg (by simpa using hx), mul_zero])]
    exact Finset.sum_congr rfl fun x hx => by rw [if_pos (by simp at hx; omega), mul_one]
  rw [e, add_comm, add_assoc b]
  exact (Finset.sum_range_add f b (c.val + 1)).symm

/-- A block's sum continues the running sum. -/
theorem more (f : ℕ → EReal) (b n : ℕ) : ∑ y ∈ Finset.range b, f y + ∑ x : Fin n, f (b + x.val) = ∑ y ∈ Finset.range (b + n), f y := by
  rw [Finset.sum_range_add, Finset.sum_range (n := n)]

section Tile
variable (H : Head) (i n : ℕ)
  (q d k v : FVec Ideal S512x128 .bf16) (p : FVec Ideal S512x512 .f32) (t : FVec Ideal S256x256 .bf16) (s g : FVec Ideal S512x1 .f32)
  (hq : ∀ r l, q (ix2 r l) = H.Q (512 * i + r.val) l) (hd : ∀ r l, d (ix2 r l) = H.D (512 * i + r.val) l)
  (hp : ∀ r c, p (ix2 r c) = H.P (512 * i + r.val))
  (ht : ∀ r c : Fin 256, t (ix2 r c) = if r.val ≤ c.val then 1 else 0)

section Block
variable (hk : ∀ c l, k (ix2 c l) = H.K (512 * n + c.val) l) (hv : ∀ c l, v (ix2 c l) = H.V (512 * n + c.val) l)
  (hs : ∀ r, s (ix2 r 0) = H.S (512 * i + r.val) (512 * n)) (hg : ∀ r, g (ix2 r 0) = H.G (512 * i + r.val) (512 * n))

include hq hk in
theorem z_eq (r c : Fin 512) : zz q k r c = H.z (512 * i + r.val) (512 * n + c.val) := by
  unfold zz Head.z; simp only [hq, hk]

include hd hv in
theorem da_eq (r c : Fin 512) : zz d v r c = H.da (512 * i + r.val) (512 * n + c.val) := by
  unfold zz Head.da; simp only [hd, hv]

variable (hn : n < i)

include hq hk hn in
theorem sp_eq (r c : Fin 512) : spl (zz q k r c) = H.sp (512 * i + r.val) (512 * n + c.val) := by
  rw [z_eq H i n q k hq hk]; exact (if_pos (by omega)).symm

include hq hk in
theorem lb_eq (r c : Fin 512) : zz q k r c - spl (zz q k r c) = H.lb (512 * i + r.val) (512 * n + c.val) := by
  rw [z_eq H i n q k hq hk]; rfl

include hq hk hn ht hs in
/-- The softplus sums past a block. -/
theorem nextS_eq (r : Fin 512) : nextS q t s k (ix2 r 0) = H.S (512 * i + r.val) (512 * (n + 1)) := by
  show k0_pay12 q t s k (ix2 r 0) = _
  rw [pay12_apply]
  simp only [sp_eq H i n q k hq hk hn, hs]
  have e1 := tri (H.sp (512 * i + r.val)) (512 * n) t ht 255
  have e2 := tri (H.sp (512 * i + r.val)) (512 * n + 256) t ht 255
  simp only [add_assoc (512 * n)] at e1 e2
  unfold Head.S
  rw [add_comm (∑ y ∈ _, _) (∑ x, _)]
  erw [e1]
  rw [add_comm]
  exact e2

include hq hk hp hn ht hs in
/-- A block's attention weights. -/
theorem wts_eq (r c : Fin 512) : wts q p t s k (ix2 r c) = H.a (512 * i + r.val) (512 * n + c.val) := by
  show k0_pay13 q p t s k (ix2 r c) = _
  rw [pay13_apply, lb_eq H i n q k hq hk, hp]
  simp only [sp_eq H i n q k hq hk hn, hs]
  unfold Head.a
  rw [if_pos (show 512 * n + c.val < 512 * i + r.val by omega)]
  congr 3
  have e1 := fun c => tri (H.sp (512 * i + r.val)) (512 * n) t ht c
  have e2 := fun c => tri (H.sp (512 * i + r.val)) (512 * n + 256) t ht c
  simp only [add_assoc (512 * n)] at e1 e2
  unfold Head.S
  split
  · next h => exact (e1 ⟨c.val, h⟩)
  · next h =>
    rw [add_comm (∑ y ∈ _, _) (∑ x, _)]
    erw [e1 255]
    refine (e2 ⟨c.val - 256, by omega⟩).trans ?_
    congr 2
    show 512 * n + (256 + (c.val - 256 + 1)) = 512 * n + c.val + 1
    omega

include hq hk hp hd hv hn ht hs in
theorem wgt_eq (r c : Fin 512) : k0_pay14 q d p t s k v (ix2 r c) = H.g (512 * i + r.val) (512 * n + c.val) := by
  rw [pay14_apply, da_eq H i n d v hd hv]
  exact congrArg (· * _) (wts_eq H i n q k p t s hq hp ht hk hs hn r c)

include hq hk hp hd hv hn ht hs hg in
/-- The running sum of the weights' cotangents past a block. -/
theorem nextG_eq (r : Fin 512) : nextG q d p t s g k v (ix2 r 0) = H.G (512 * i + r.val) (512 * (n + 1)) := by
  show k0_pay19 t g (k0_pay14 q d p t s k v) (k0_pay16 q d p t s k v) (ix2 r 0) = _
  rw [pay19_apply, pay16_apply, hg]
  simp only [wgt_eq H i n q d k v p t s hq hd hp ht hk hv hs hn]
  have e1 := tri (H.g (512 * i + r.val)) (512 * n) t ht 255
  have e2 := tri (H.g (512 * i + r.val)) (512 * n + 256) t ht 255
  simp only [add_assoc (512 * n)] at e1 e2
  unfold Head.G
  rw [add_comm (∑ y ∈ _, _) (∑ x, _)]
  erw [e1]
  rw [add_comm]
  exact e2

include hq hk hp hd hv hn ht hs hg in
/-- A block's logit gradients. -/
theorem dz_eq (r c : Fin 512) : k0_pay20 t g (k0_pay8 q k) (k0_pay14 q d p t s k v) (k0_pay15 q d p t s k v) (k0_pay16 q d p t s k v) (ix2 r c)
    = H.dz (512 * i + r.val) (512 * n + c.val) := by
  rw [pay20_apply, pay16_apply, pay8_apply, lb_eq H i n q k hq hk, hg]
  simp only [pay15_apply, wgt_eq H i n q d k v p t s hq hd hp ht hk hv hs hn]
  unfold Head.dz
  rw [if_pos (show 512 * n + c.val < 512 * i + r.val by omega)]
  congr 2
  have e1 := fun c => tri (H.g (512 * i + r.val)) (512 * n) t ht c
  have e2 := fun c => tri (H.g (512 * i + r.val)) (512 * n + 256) t ht c
  simp only [add_assoc (512 * n)] at e1 e2
  unfold Head.G
  split
  · next h => exact (e1 ⟨c.val, h⟩)
  · next h =>
    rw [add_comm (∑ y ∈ _, _) (∑ x, _)]
    erw [e1 255]
    refine (e2 ⟨c.val - 256, by omega⟩).trans ?_
    congr 2
    show 512 * n + (256 + (c.val - 256 + 1)) = 512 * n + c.val + 1
    omega

include hq hk hp hd hv hn ht hs hg in
/-- The query gradient past a block. -/
theorem nextQ_eq (o : FVec Ideal S512x128 .f32) (ho : ∀ r l, o (ix2 r l) = H.dq (512 * i + r.val) (512 * n) l) (r : Fin 512) (l : Fin 128) :
    nextQ q d p t o s g k v (ix2 r l) = H.dq (512 * i + r.val) (512 * (n + 1)) l := by
  show k0_pay21 t o g k (k0_pay8 q k) (k0_pay14 q d p t s k v) (k0_pay15 q d p t s k v) (k0_pay16 q d p t s k v) (ix2 r l) = _
  rw [pay21_apply, ho]
  simp only [dz_eq H i n q d k v p t s g hq hd hp ht hk hv hs hg hn, hk]
  exact more (fun c => H.dz (512 * i + r.val) c * H.K c l) (512 * n) 512

include hq hk hp hd hv hn ht hs hg in
/-- The key gradient's block with a tile's share. -/
theorem addK_eq (w : FVec Ideal S512x128 .f32) (c : Fin 512) (l : Fin 128) :
    addK q d p t s g k v w (ix2 c l) = w (ix2 c l) + ∑ r : Fin 512, H.dz (512 * i + r.val) (512 * n + c.val) * H.Q (512 * i + r.val) l := by
  show k0_pay22 q t g (k0_pay8 q k) (k0_pay14 q d p t s k v) (k0_pay15 q d p t s k v) (k0_pay16 q d p t s k v) w (ix2 c l) = _
  rw [pay22_apply]
  simp only [dz_eq H i n q d k v p t s g hq hd hp ht hk hv hs hg hn, hq]

include hq hk hp hd hn ht hs in
/-- The value gradient's block with a tile's share. -/
theorem addV_eq (w : FVec Ideal S512x128 .f32) (c : Fin 512) (l : Fin 128) :
    addV q d p t s k w (ix2 c l) = w (ix2 c l) + ∑ r : Fin 512, H.a (512 * i + r.val) (512 * n + c.val) * H.D (512 * i + r.val) l := by
  show k0_pay23 d (k0_pay13 q p t s k) w (ix2 c l) = _
  rw [pay23_apply]
  have e := fun r c => wts_eq H i n q k p t s hq hp ht hk hs hn r c
  simp only [show ∀ r c, k0_pay13 q p t s k (ix2 r c) = _ from e, hd]

end Block

/-! ## The diagonal block -/

section Diagonal
variable (hs : ∀ r, s (ix2 r 0) = H.S (512 * i + r.val) (512 * i)) (hg : ∀ r, g (ix2 r 0) = H.G (512 * i + r.val) (512 * i))

section Upper
variable (k v : FVec Ideal S256x128 .bf16)
  (hk : ∀ c l, k (ix2 c l) = H.K (512 * i + c.val) l) (hv : ∀ c l, v (ix2 c l) = H.V (512 * i + c.val) l)

include hq hk in
theorem z_up (r c : Fin 256) : zz q k (up r) c = H.z (512 * i + r.val) (512 * i + c.val) := by
  unfold zz Head.z; simp only [hq, hk]

include hd hv in
theorem da_up (r c : Fin 256) : zz d v (up r) c = H.da (512 * i + r.val) (512 * i + c.val) := by
  unfold zz Head.da; simp only [hd, hv]

include hq hk in
theorem sp_up (r c : Fin 256) : (if c.val < r.val then spl (zz q k (up r) c) else 0) = H.sp (512 * i + r.val) (512 * i + c.val) := by
  rw [z_up H i q hq k hk]; unfold Head.sp; simp only [Nat.add_lt_add_iff_left]

include hq hk in
theorem lb_up (r c : Fin 256) : k0_pay215 q k (ix2 r c) = H.lb (512 * i + r.val) (512 * i + c.val) := by
  rw [pay215_apply, z_up H i q hq k hk]; rfl

include hq hp ht hk hs in
/-- The diagonal block's weights, upper half. -/
theorem a_up (r c : Fin 256) : k0_pay216 q p t s k (ix2 r c) = H.a (512 * i + r.val) (512 * i + c.val) := by
  rw [pay216_apply, lb_up H i q hq k hk, hp]
  simp only [sp_up H i q hq k hk, hs]
  unfold Head.a
  simp only [Nat.add_lt_add_iff_left]
  congr 4
  exact tri (H.sp (512 * i + r.val)) (512 * i) t ht c

include hq hp ht hk hs hd hv hg in
/-- The diagonal block's logit gradients, upper half. -/
theorem dz_up (r c : Fin 256) : k0_pay217 d t (k0_pay211 g) v k0_pay212 (k0_pay215 q k) (k0_pay216 q p t s k) (ix2 r c) = H.dz (512 * i + r.val) (512 * i + c.val) := by
  rw [pay217_apply, lb_up H i q hq k hk, hg]
  simp only [a_up H i q p t s hq hp ht hs k hk, da_up H i d hd v hv]
  unfold Head.dz
  simp only [Nat.add_lt_add_iff_left]
  congr 3
  exact tri (H.g (512 * i + r.val)) (512 * i) t ht c

include hq hp ht hk hs hd hv hg in
theorem dgK1_eq (w : FVec Ideal S256x128 .f32) (c : Fin 256) (l : Fin 128) :
    dgK1 q d p t s g k v w (ix2 c l) = w (ix2 c l) + ∑ r : Fin 256, H.dz (512 * i + r.val) (512 * i + c.val) * H.Q (512 * i + r.val) l := by
  show k0_pay219 q d t (k0_pay211 g) v k0_pay212 (k0_pay215 q k) (k0_pay216 q p t s k) w (ix2 c l) = _
  rw [pay219_apply]
  simp only [dz_up H i q d p t s g hq hd hp ht hs hg k v hk hv, hq]

include hq hp ht hk hs hd in
theorem dgV1_eq (w : FVec Ideal S256x128 .f32) (c : Fin 256) (l : Fin 128) :
    dgV1 q d p t s k w (ix2 c l) = w (ix2 c l) + ∑ r : Fin 256, H.a (512 * i + r.val) (512 * i + c.val) * H.D (512 * i + r.val) l := by
  show k0_pay220 d (k0_pay216 q p t s k) w (ix2 c l) = _
  rw [pay220_apply]
  simp only [a_up H i q p t s hq hp ht hs k hk, hd]

include hq hp ht hk hs hd hv hg in
theorem dgQ1_eq (o : FVec Ideal S512x128 .f32) (ho : ∀ r l, o (ix2 r l) = H.dq (512 * i + r.val) (512 * i) l) (r : Fin 256) (l : Fin 128) :
    dgQ1 q d p t o s g k v (ix2 r l) = H.dq (512 * i + r.val) (512 * i + 256) l := by
  show k0_pay218 d t (k0_pay210 o) (k0_pay211 g) k v k0_pay212 (k0_pay215 q k) (k0_pay216 q p t s k) (ix2 r l) = _
  rw [pay218_apply, ho]
  simp only [dz_up H i q d p t s g hq hd hp ht hs hg k v hk hv, hk]
  exact more (fun c => H.dz (512 * i + r.val) c * H.K c l) (512 * i) 256

end Upper

section Lower
variable (hk : ∀ c l, k (ix2 c l) = H.K (512 * i + c.val) l) (hv : ∀ c l, v (ix2 c l) = H.V (512 * i + c.val) l)

include hq hk in
theorem sp_lo (r : Fin 256) (c : Fin 512) : (if c.val < 256 + r.val then spl (zz q k (lo r) c) else 0) = H.sp (512 * i + (256 + r.val)) (512 * i + c.val) := by
  rw [z_eq H i i q k hq hk]; unfold Head.sp; simp only [Nat.add_lt_add_iff_left]

include hq hk in
theorem lb_lo (r : Fin 256) (c : Fin 512) : k0_pay228 q k (ix2 r c) = H.lb (512 * i + (256 + r.val)) (512 * i + c.val) := by
  rw [pay228_apply, z_eq H i i q k hq hk]; rfl

include ht in
/-- The running sum at a column of a block, from the block's two triangles. -/
theorem two (f : ℕ → EReal) (b : ℕ) (c : Fin 512) :
    (if h : c.val < 256 then ∑ x : Fin 256, f (b + (up x).val) * t (ix2 x ⟨c.val, h⟩) + ∑ y ∈ Finset.range b, f y
      else ∑ x : Fin 256, f (b + (lo x).val) * t (ix2 x ⟨c.val - 256, by omega⟩) + (∑ y ∈ Finset.range b, f y + ∑ x : Fin 256, f (b + (up x).val) * t (ix2 x 255)))
      = ∑ y ∈ Finset.range (b + c.val + 1), f y := by
  have e1 := fun c => tri f b t ht c
  have e2 := fun c => tri f (b + 256) t ht c
  simp only [add_assoc b] at e1 e2 ⊢
  split
  · next h => exact (e1 ⟨c.val, h⟩)
  · next h =>
    rw [add_comm (∑ y ∈ _, _) (∑ x, _)]
    erw [e1 255]
    refine (e2 ⟨c.val - 256, by omega⟩).trans ?_
    congr 2
    show b + (256 + (c.val - 256 + 1)) = b + (c.val + 1)
    omega

include hq hp ht hk hs in
/-- The diagonal block's weights, lower half. -/
theorem a_lo (r : Fin 256) (c : Fin 512) : k0_pay229 q p t (k0_pay222 s) k k0_pay224 lanes (ix2 r c) = H.a (512 * i + (256 + r.val)) (512 * i + c.val) := by
  rw [pay229_apply, lb_lo H i q k hq hk, hp]
  have f1 : ∀ x : Fin 256, (if x.val < 256 + r.val then spl (zz q k (lo r) (up x)) else 0) = H.sp (512 * i + (256 + r.val)) (512 * i + (up x).val) :=
    fun x => sp_lo H i q k hq hk r (up x)
  have f2 : ∀ x : Fin 256, (if 256 + x.val < 256 + r.val then spl (zz q k (lo r) (lo x)) else 0) = H.sp (512 * i + (256 + r.val)) (512 * i + (lo x).val) :=
    fun x => sp_lo H i q k hq hk r (lo x)
  simp only [f1, f2]
  unfold Head.a
  simp only [Nat.add_lt_add_iff_left]
  congr 4
  rw [hs]
  exact two t ht (H.sp (512 * i + (256 + r.val))) (512 * i) c

include hq hp ht hk hs hd hv in
theorem g_lo (r : Fin 256) (c : Fin 512) : k0_pay230 q d p t (k0_pay222 s) k v k0_pay224 lanes (ix2 r c) = H.g (512 * i + (256 + r.val)) (512 * i + c.val) := by
  rw [pay230_apply, a_lo H i q k p t s hq hp ht hs hk, da_eq H i i d v hd hv]; rfl

include hq hp ht hk hs hd hv hg in
/-- The diagonal block's logit gradients, lower half. -/
theorem dz_lo (r : Fin 256) (c : Fin 512) : low q d k v p t s g (ix2 r c) = H.dz (512 * i + (256 + r.val)) (512 * i + c.val) := by
  rw [pay235_apply, lb_lo H i q k hq hk, hg]
  simp only [g_lo H i q d k v p t s hq hd hp ht hs hk hv]
  unfold Head.dz
  simp only [Nat.add_lt_add_iff_left]
  congr 3
  exact two t ht (H.g (512 * i + (256 + r.val))) (512 * i) c

include hq hp ht hk hs hd hv hg in
theorem dgK2_eq (w : FVec Ideal S512x128 .f32) (c : Fin 512) (l : Fin 128) :
    dgK2 q d p t s g k v w (ix2 c l) = w (ix2 c l) + ∑ r : Fin 256, H.dz (512 * i + (256 + r.val)) (512 * i + c.val) * H.Q (512 * i + (256 + r.val)) l := by
  unfold dgK2
  rw [pay236_apply]
  have e := fun r c => dz_lo H i q d k v p t s g hq hd hp ht hs hg hk hv r c
  unfold low at e
  simp only [e, hq]

include hq hp ht hk hs hd in
theorem dgV2_eq (w : FVec Ideal S512x128 .f32) (c : Fin 512) (l : Fin 128) :
    dgV2 q d p t s k w (ix2 c l) = w (ix2 c l) + ∑ r : Fin 256, H.a (512 * i + (256 + r.val)) (512 * i + c.val) * H.D (512 * i + (256 + r.val)) l := by
  unfold dgV2
  rw [pay237_apply]
  simp only [a_lo H i q k p t s hq hp ht hs hk, hd]

/-- Past the query the gradient's sum does not change. -/
theorem dq_stop (R n : ℕ) (l : Fin 128) (h : R ≤ n) : H.dq R n l = H.dq R R l := by
  unfold Head.dq
  refine (Finset.sum_subset (Finset.range_mono h) fun c _ hc => ?_).symm
  unfold Head.dz
  rw [if_neg (by simpa using hc), zero_mul]

include hq hp ht hk hs hd hv hg in
/-- The query gradient's tile. -/
theorem dgQ_eq (kA vA : FVec Ideal S256x128 .bf16) (hkA : ∀ c l, kA (ix2 c l) = H.K (512 * i + c.val) l) (hvA : ∀ c l, vA (ix2 c l) = H.V (512 * i + c.val) l)
    (o : FVec Ideal S512x128 .f32) (ho : ∀ r l, o (ix2 r l) = H.dq (512 * i + r.val) (512 * i) l) (r : Fin 512) (l : Fin 128) :
    dgQ q d p t o s g kA vA k v (ix2 r l) = H.dq (512 * i + r.val) (512 * i + r.val) l * Ideal.ofBits .f32 0x3DB504F3#32 := by
  unfold dgQ
  rw [pay2_apply, pay238_apply]
  congr 1
  split
  · next h =>
    exact (dgQ1_eq H i q d p t s g hq hd hp ht hs hg kA vA hkA hvA o ho ⟨r.val, h⟩ l).trans (dq_stop H _ _ _ (by show _ + r.val ≤ _; omega))
  · next h =>
    have e := fun c => dz_lo H i q d k v p t s g hq hd hp ht hs hg hk hv ⟨r.val - 256, by omega⟩ c
    have er : 512 * i + (256 + (r.val - 256)) = 512 * i + r.val := by omega
    unfold low at e
    simp only [e, hk, er]
    rw [show k0_pay221 o (ix2 ⟨r.val - 256, by omega⟩ l) = o (ix2 r l) from ?_, ho]
    · exact (more (fun c => H.dz (512 * i + r.val) c * H.K c l) (512 * i) 512).trans (dq_stop H _ _ _ (by omega))
    · unfold k0_pay221
      pointwise
      congr 2
      exact Fin.ext (by show 256 + (r.val - 256) = r.val; omega)

end Lower
end Diagonal
end Tile

end Cert.AttnBwdIdeal.Hand

end
-- ==== Proof.AttnTile.lean ====
module

public import proofs.«01_k».proof.Proof.AttnHead

@[expose] public section

set_option maxRecDepth 16384

noncomputable section

namespace Cert.AttnBwdIdeal.Hand

open Idealize.ShloMosaic Idealize.ShloMosaic.TcCoe
open Cert.AttnBwdIdeal Cert.AttnBwdIdeal.Gen

/-! ## Reading and replacing blocks -/

/-- Lane `l` of head `h` of a pair. -/
abbrev lane (h : Fin 2) (l : Fin 128) : Fin 256 := ⟨128 * h.val + l.val, by omega⟩
/-- Row `c` of block `n`. -/
abbrev rw8 (n : Fin 8) (c : ℕ) (hc : c < 512) : Fin 4096 := ⟨512 * n.val + c, by omega⟩

section Blocks
variable {α : Type}

theorem blk_apply (x : S4096x256.Idx → α) (n : Fin 8) (h : Fin 2) (c : Fin 512) (l : Fin 128) : blk x n h (ix2 c l) = x (ix2 (rw8 n c.val c.isLt) (lane h l)) := by
  refine congrArg x (Shape.idx_ext₂ ?_ ?_)
  · show 512 * n.val + 1 * c.val = 512 * n.val + c.val; omega
  · show 128 * h.val + 1 * l.val = 128 * h.val + l.val; omega

theorem win_apply (x : S4096x256.Idx → α) (n : Fin 8) (h : Fin 2) (c : Fin 256) (l : Fin 128) : win x n h (ix2 c l) = x (ix2 (rw8 n c.val (by omega)) (lane h l)) := by
  refine congrArg x (Shape.idx_ext₂ ?_ ?_)
  · show 512 * n.val + 1 * c.val = 512 * n.val + c.val; omega
  · show 128 * h.val + 1 * l.val = 128 * h.val + l.val; omega

theorem half_apply (x : S512x256.Idx → α) (h : Fin 2) (r : Fin 512) (l : Fin 128) : half x h (ix2 r l) = x (ix2 r (lane h l)) := by
  refine congrArg x (Shape.idx_ext₂ ?_ ?_)
  · show 0 + 1 * r.val = r.val; omega
  · show 128 * h.val + 1 * l.val = 128 * h.val + l.val; omega

theorem cat2_apply (a : Fin 2 → S512x128.Idx → α) (h : Fin 2) (r : Fin 512) (l : Fin 128) : cat2 (a 0) (a 1) (ix2 r (lane h l)) = a h (ix2 r l) := by
  have hl := l.isLt
  match h with
  | 0 => exact (dif_pos (show 128 * 0 + l.val < 128 by omega)).trans <| congrArg (a 0) (Shape.idx_ext₂ rfl (by show 128 * 0 + l.val = l.val; omega))
  | 1 => exact (dif_neg (show ¬ 128 * 1 + l.val < 128 by omega)).trans <| congrArg (a 1) (Shape.idx_ext₂ rfl (by show 128 * 1 + l.val - 128 = l.val; omega))

theorem put_in (b : ℕ) (hb : b ≤ 512) (x : S4096x256.Idx → α) (n : Fin 8) (h : Fin 2) (w : ((a : Fin 2) → Fin ((![b, 128] : Fin 2 → ℕ) a)) → α) (c : Fin b) (l : Fin 128) :
    VecWindow.put (s := S4096x256) x ![512 * n.val, 128 * h.val] ![b, 128] w (ix2 (rw8 n c.val (by omega)) (lane h l)) = w (ix2 c l) := by
  unfold VecWindow.put
  rw [dif_pos]
  · refine congrArg w (Shape.idx_ext₂ (n := ![b, 128]) ?_ ?_)
    · show 512 * n.val + c.val - 512 * n.val = c.val; omega
    · show 128 * h.val + l.val - 128 * h.val = l.val; omega
  · intro a
    match a with
    | 0 => exact ⟨by show 512 * n.val ≤ 512 * n.val + c.val; omega, by show 512 * n.val + c.val < 512 * n.val + b; omega⟩
    | 1 => exact ⟨by show 128 * h.val ≤ 128 * h.val + l.val; omega, by show 128 * h.val + l.val < 128 * h.val + 128; omega⟩

theorem put_out (b : ℕ) (x : S4096x256.Idx → α) (n : Fin 8) (h h' : Fin 2) (w : ((a : Fin 2) → Fin ((![b, 128] : Fin 2 → ℕ) a)) → α) (R : Fin 4096) (l : Fin 128)
    (ho : ¬ (512 * n.val ≤ R.val ∧ R.val < 512 * n.val + b ∧ h' = h)) :
    VecWindow.put (s := S4096x256) x ![512 * n.val, 128 * h.val] ![b, 128] w (ix2 R (lane h' l)) = x (ix2 R (lane h' l)) := by
  unfold VecWindow.put
  rw [dif_neg]
  intro ha
  have h0 : 512 * n.val ≤ R.val ∧ R.val < 512 * n.val + b := ha 0
  have h1 : 128 * h.val ≤ 128 * h'.val + l.val ∧ 128 * h'.val + l.val < 128 * h.val + 128 := ha 1
  exact ho ⟨h0.1, h0.2, Fin.ext (by omega)⟩

end Blocks

/-! ## Accumulating -/

/-- A tile's share of a gradient at key `c`. -/
def cc (f : ℕ → ℕ → EReal) (X : ℕ → Fin 128 → EReal) (i c : ℕ) (l : Fin 128) : EReal := ∑ r : Fin 512, f (512 * i + r.val) c * X (512 * i + r.val) l

/-- A block replaced by itself with a share added. -/
theorem addBlk (S : S4096x256.Idx → EReal) (n : Fin 8) (h : Fin 2) (w : S512x128.Idx → EReal) (U : ℕ → Fin 128 → EReal)
    (hw : ∀ (c : Fin 512) l, w (ix2 c l) = blk S n h (ix2 c l) + U (512 * n.val + c.val) l) (h' : Fin 2) (R : Fin 4096) (l : Fin 128) :
    putBlk S n h w (ix2 R (lane h' l)) = S (ix2 R (lane h' l)) + if 512 * n.val ≤ R.val ∧ R.val < 512 * n.val + 512 ∧ h' = h then U R.val l else 0 := by
  by_cases hin : 512 * n.val ≤ R.val ∧ R.val < 512 * n.val + 512 ∧ h' = h
  · obtain ⟨h0, h1, rfl⟩ := hin
    obtain ⟨R, hR⟩ := R
    obtain ⟨c, rfl⟩ := Nat.exists_eq_add_of_le h0
    rw [if_pos ⟨h0, h1, rfl⟩]
    have e := put_in 512 (le_refl _) S n h' w ⟨c, by simp at h1; omega⟩ l
    refine e.trans ((hw _ l).trans ?_)
    rw [blk_apply]
  · rw [if_neg hin, add_zero]
    exact put_out 512 S n h h' w R l hin

/-- The first half of a block replaced by itself with a share added. -/
theorem addWin (S : S4096x256.Idx → EReal) (n : Fin 8) (h : Fin 2) (w : S256x128.Idx → EReal) (U : ℕ → Fin 128 → EReal)
    (hw : ∀ (c : Fin 256) l, w (ix2 c l) = win S n h (ix2 c l) + U (512 * n.val + c.val) l) (h' : Fin 2) (R : Fin 4096) (l : Fin 128) :
    putWin S n h w (ix2 R (lane h' l)) = S (ix2 R (lane h' l)) + if 512 * n.val ≤ R.val ∧ R.val < 512 * n.val + 256 ∧ h' = h then U R.val l else 0 := by
  by_cases hin : 512 * n.val ≤ R.val ∧ R.val < 512 * n.val + 256 ∧ h' = h
  · obtain ⟨h0, h1, rfl⟩ := hin
    obtain ⟨R, hR⟩ := R
    obtain ⟨c, rfl⟩ := Nat.exists_eq_add_of_le h0
    rw [if_pos ⟨h0, h1, rfl⟩]
    have e := put_in 256 (by omega) S n h' w ⟨c, by simp at h1; omega⟩ l
    refine e.trans ((hw _ l).trans ?_)
    rw [win_apply]
  · rw [if_neg hin, add_zero]
    exact put_out 256 S n h h' w R l hin

/-- The diagonal block of one head: the upper half's share of its first half, then the lower half's of all of it. -/
theorem addDiag (f : ℕ → ℕ → EReal) (hf : ∀ R c, R ≤ c → f R c = 0) (X : ℕ → Fin 128 → EReal) (S : S4096x256.Idx → EReal) (n : Fin 8) (h : Fin 2)
    (w1 : S256x128.Idx → EReal) (hw1 : ∀ (c : Fin 256) l, w1 (ix2 c l) = win S n h (ix2 c l) + ∑ r : Fin 256, f (512 * n.val + r.val) (512 * n.val + c.val) * X (512 * n.val + r.val) l)
    (w2 : S512x128.Idx → EReal) (hw2 : ∀ (c : Fin 512) l, w2 (ix2 c l) = blk (putWin S n h w1) n h (ix2 c l) +
      ∑ r : Fin 256, f (512 * n.val + (256 + r.val)) (512 * n.val + c.val) * X (512 * n.val + (256 + r.val)) l)
    (h' : Fin 2) (R : Fin 4096) (l : Fin 128) :
    putBlk (putWin S n h w1) n h w2 (ix2 R (lane h' l)) = S (ix2 R (lane h' l)) + if 512 * n.val ≤ R.val ∧ R.val < 512 * n.val + 512 ∧ h' = h then cc f X n.val R.val l else 0 := by
  rw [addBlk _ n h w2 (fun c l => ∑ r : Fin 256, f (512 * n.val + (256 + r.val)) c * X (512 * n.val + (256 + r.val)) l) hw2,
    addWin S n h w1 (fun c l => ∑ r : Fin 256, f (512 * n.val + r.val) c * X (512 * n.val + r.val) l) hw1, add_assoc]
  congr 1
  have e : cc f X n.val R.val l = ∑ r : Fin 256, f (512 * n.val + r.val) R.val * X (512 * n.val + r.val) l
      + ∑ r : Fin 256, f (512 * n.val + (256 + r.val)) R.val * X (512 * n.val + (256 + r.val)) l := by
    unfold cc
    rw [← Finset.sum_range (n := 512) (fun r => f (512 * n.val + r) R.val * X (512 * n.val + r) l),
      ← Finset.sum_range (n := 256) (fun r => f (512 * n.val + r) R.val * X (512 * n.val + r) l),
      ← Finset.sum_range (n := 256) (fun r => f (512 * n.val + (256 + r)) R.val * X (512 * n.val + (256 + r)) l), Finset.sum_range_add _ 256 256]
  by_cases hin : 512 * n.val ≤ R.val ∧ R.val < 512 * n.val + 512 ∧ h' = h
  · rw [if_pos hin, if_pos hin, e]
    congr 1
    split
    · rfl
    · next hu =>
      refine (Finset.sum_eq_zero fun r _ => ?_).symm
      rw [hf _ _ (by have := r.isLt; by_contra hc; exact hu ⟨hin.1, by omega, hin.2.2⟩), zero_mul]
  · rw [if_neg hin, if_neg hin, if_neg (fun hu => hin ⟨hu.1, by omega, hu.2.2⟩), add_zero]

/-! ## One tile -/

/-- A tile's rows are head `H`'s. -/
structure RowsOk (H : Head) (i : ℕ) (q d : FVec Ideal S512x128 .bf16) (p : FVec Ideal S512x512 .f32) (t : FVec Ideal S256x256 .bf16) : Prop where
  hq : ∀ r l, q (ix2 r l) = H.Q (512 * i + r.val) l
  hd : ∀ r l, d (ix2 r l) = H.D (512 * i + r.val) l
  hp : ∀ r c, p (ix2 r c) = H.P (512 * i + r.val)
  ht : ∀ r c : Fin 256, t (ix2 r c) = if r.val ≤ c.val then 1 else 0

/-- What is carried for one head after `n` keys. -/
structure CarryOk (H : Head) (i n : ℕ) (o : FVec Ideal S512x128 .f32) (s g : FVec Ideal S512x1 .f32) : Prop where
  ho : ∀ r l, o (ix2 r l) = H.dq (512 * i + r.val) n l
  hs : ∀ r, s (ix2 r 0) = H.S (512 * i + r.val) n
  hg : ∀ r, g (ix2 r 0) = H.G (512 * i + r.val) n

/-- The pair's keys and values. -/
structure KeysOk (H : Fin 2 → Head) (x3 x4 : FVec Ideal S4096x256 .bf16) : Prop where
  hk : ∀ h (R : Fin 4096) l, x3 (ix2 R (lane h l)) = (H h).K R.val l
  hv : ∀ h (R : Fin 4096) l, x4 (ix2 R (lane h l)) = (H h).V R.val l

theorem KeysOk.kblk {H : Fin 2 → Head} {x3 x4} (hX : KeysOk H x3 x4) (n : Fin 8) (h : Fin 2) (c : Fin 512) (l : Fin 128) : blk x3 n h (ix2 c l) = (H h).K (512 * n.val + c.val) l := by
  rw [blk_apply, hX.hk]
theorem KeysOk.vblk {H : Fin 2 → Head} {x3 x4} (hX : KeysOk H x3 x4) (n : Fin 8) (h : Fin 2) (c : Fin 512) (l : Fin 128) : blk x4 n h (ix2 c l) = (H h).V (512 * n.val + c.val) l := by
  rw [blk_apply, hX.hv]
theorem KeysOk.kwin {H : Fin 2 → Head} {x3 x4} (hX : KeysOk H x3 x4) (n : Fin 8) (h : Fin 2) (c : Fin 256) (l : Fin 128) : win x3 n h (ix2 c l) = (H h).K (512 * n.val + c.val) l := by
  rw [win_apply, hX.hk]
theorem KeysOk.vwin {H : Fin 2 → Head} {x3 x4} (hX : KeysOk H x3 x4) (n : Fin 8) (h : Fin 2) (c : Fin 256) (l : Fin 128) : win x4 n h (ix2 c l) = (H h).V (512 * n.val + c.val) l := by
  rw [win_apply, hX.hv]

theorem a_zero (H : Head) (R c : ℕ) (h : R ≤ c) : H.a R c = 0 := if_neg (by omega)
theorem dz_zero (H : Head) (R c : ℕ) (h : R ≤ c) : H.dz R c = 0 := if_neg (by omega)

section Tile
variable (H : Fin 2 → Head) (i : ℕ) (hi : i < 8) (U : Rows Ideal) (u0 : RowsOk (H 0) i U.q0 U.d0 U.p0 U.t) (u1 : RowsOk (H 1) i U.q1 U.d1 U.p1 U.t)
  (x3 x4 : FVec Ideal S4096x256 .bf16) (hX : KeysOk H x3 x4) (A B : FVec Ideal S4096x256 .f32)

/-- The state after the first `n` key blocks of a tile entered with accumulators `A` and `B`. -/
structure StOk (n : ℕ) (s : St Ideal) : Prop where
  c0 : CarryOk (H 0) i (512 * n) s.1.1 s.1.2.1 s.1.2.2.1
  c1 : CarryOk (H 1) i (512 * n) s.1.2.2.2.1 s.1.2.2.2.2.1 s.1.2.2.2.2.2
  k : ∀ h (R : Fin 4096) l, s.2.1 (ix2 R (lane h l)) = A (ix2 R (lane h l)) + if R.val < 512 * n then cc (H h).dz (H h).Q i R.val l else 0
  v : ∀ h (R : Fin 4096) l, s.2.2 (ix2 R (lane h l)) = B (ix2 R (lane h l)) + if R.val < 512 * n then cc (H h).a (H h).D i R.val l else 0

include hi hX u0 u1 in
theorem stOk_step (n : ℕ) (hn : n < i) (s : St Ideal) (hs : StOk H i A B n s) : StOk H i A B (n + 1) (step U.q0 U.d0 U.p0 U.q1 U.d1 U.p1 U.t x3 x4 (fin8 n) s) := by
  have e8 : (fin8 n).val = n := Nat.mod_eq_of_lt (by omega)
  have k0 := hX.kblk (fin8 n) 0; have v0 := hX.vblk (fin8 n) 0; have k1 := hX.kblk (fin8 n) 1; have v1 := hX.vblk (fin8 n) 1
  rw [e8] at k0 v0 k1 v1
  have cases2 : ∀ (S : S4096x256.Idx → EReal) (U : Fin 2 → ℕ → Fin 128 → EReal) (w0 w1 : S512x128.Idx → EReal)
      (h0 : ∀ (c : Fin 512) l, w0 (ix2 c l) = blk S (fin8 n) 0 (ix2 c l) + U 0 (512 * (fin8 n).val + c.val) l)
      (h1 : ∀ (c : Fin 512) l, w1 (ix2 c l) = blk S (fin8 n) 1 (ix2 c l) + U 1 (512 * (fin8 n).val + c.val) l)
      (T : FVec Ideal S4096x256 .f32) (hT : ∀ h (R : Fin 4096) l, S (ix2 R (lane h l)) = T (ix2 R (lane h l)) + if R.val < 512 * n then U h R.val l else 0)
      (h : Fin 2) (R : Fin 4096) (l : Fin 128),
      putBlk (putBlk S (fin8 n) 0 w0) (fin8 n) 1 w1 (ix2 R (lane h l)) = T (ix2 R (lane h l)) + if R.val < 512 * (n + 1) then U h R.val l else 0 := by
    intro S U w0 w1 h0 h1 T hT h R l
    rw [addBlk _ (fin8 n) 1 w1 (U 1) (fun c l => by
        rw [h1, blk_apply, blk_apply]
        exact congrArg (· + _) (put_out 512 S (fin8 n) 0 1 w0 _ l (by simp)).symm), addBlk S (fin8 n) 0 w0 (U 0) h0, hT, e8, add_assoc, add_assoc]
    congr 1
    match h with
    | 0 =>
      by_cases ha : R.val < 512 * n
      · simp [ha, show R.val < 512 * (n + 1) by omega, show ¬ 512 * n ≤ R.val by omega]
      · by_cases hb : R.val < 512 * (n + 1)
        · simp [ha, hb, show 512 * n ≤ R.val by omega, show R.val < 512 * n + 512 by omega]
        · simp [ha, hb, show ¬ R.val < 512 * n + 512 by omega]
    | 1 =>
      by_cases ha : R.val < 512 * n
      · simp [ha, show R.val < 512 * (n + 1) by omega, show ¬ 512 * n ≤ R.val by omega]
      · by_cases hb : R.val < 512 * (n + 1)
        · simp [ha, hb, show 512 * n ≤ R.val by omega, show R.val < 512 * n + 512 by omega]
        · simp [ha, hb, show ¬ R.val < 512 * n + 512 by omega]
  refine ⟨⟨?_, ?_, ?_⟩, ⟨?_, ?_, ?_⟩, ?_, ?_⟩
  · exact nextQ_eq (H 0) i n _ _ _ _ _ _ _ _ u0.hq u0.hd u0.hp u0.ht k0 v0 hs.c0.hs hs.c0.hg hn _ hs.c0.ho
  · exact nextS_eq (H 0) i n _ _ _ _ u0.hq u0.ht k0 hs.c0.hs hn
  · exact nextG_eq (H 0) i n _ _ _ _ _ _ _ _ u0.hq u0.hd u0.hp u0.ht k0 v0 hs.c0.hs hs.c0.hg hn
  · exact nextQ_eq (H 1) i n _ _ _ _ _ _ _ _ u1.hq u1.hd u1.hp u1.ht k1 v1 hs.c1.hs hs.c1.hg hn _ hs.c1.ho
  · exact nextS_eq (H 1) i n _ _ _ _ u1.hq u1.ht k1 hs.c1.hs hn
  · exact nextG_eq (H 1) i n _ _ _ _ _ _ _ _ u1.hq u1.hd u1.hp u1.ht k1 v1 hs.c1.hs hs.c1.hg hn
  · refine cases2 s.2.1 (fun h => cc (H h).dz (H h).Q i) _ _ (fun c l => ?_) (fun c l => ?_) A hs.k
    · rw [e8]; exact addK_eq (H 0) i n _ _ _ _ _ _ _ _ u0.hq u0.hd u0.hp u0.ht k0 v0 hs.c0.hs hs.c0.hg hn _ c l
    · rw [e8]; exact addK_eq (H 1) i n _ _ _ _ _ _ _ _ u1.hq u1.hd u1.hp u1.ht k1 v1 hs.c1.hs hs.c1.hg hn _ c l
  · refine cases2 s.2.2 (fun h => cc (H h).a (H h).D i) _ _ (fun c l => ?_) (fun c l => ?_) B hs.v
    · rw [e8]; exact addV_eq (H 0) i n _ _ _ _ _ _ u0.hq u0.hd u0.hp u0.ht k0 hs.c0.hs hn _ c l
    · rw [e8]; exact addV_eq (H 1) i n _ _ _ _ _ _ u1.hq u1.hd u1.hp u1.ht k1 hs.c1.hs hn _ c l

theorem stOk_zero : StOk H i A B 0 (carry0, A, B) where
  c0 := ⟨fun r l => (pay200_apply r l).trans rfl, fun r => (pay199_apply r).trans rfl, fun r => (pay199_apply r).trans rfl⟩
  c1 := ⟨fun r l => (pay200_apply r l).trans rfl, fun r => (pay199_apply r).trans rfl, fun r => (pay199_apply r).trans rfl⟩
  k h R l := by rw [if_neg (by omega), add_zero]
  v h R l := by rw [if_neg (by omega), add_zero]

include hi hX u0 u1 in
/-- The state at the diagonal block. -/
theorem stOk_all (n : ℕ) (hn : n ≤ i) : StOk H i A B n (stepsU x3 x4 U (carry0, A, B) n) := by
  induction n with
  | zero => exact stOk_zero H i A B
  | succ n ih => exact stOk_step H i hi U u0 u1 x3 x4 hX A B n (by omega) _ (ih (by omega))

/-- The rows of an array past the diagonal block of both heads. -/
theorem diag2 (n : Fin 8) (f : Fin 2 → ℕ → ℕ → EReal) (hf : ∀ h R c, R ≤ c → f h R c = 0) (X : Fin 2 → ℕ → Fin 128 → EReal) (S T : FVec Ideal S4096x256 .f32)
    (hS : ∀ h (R : Fin 4096) l, S (ix2 R (lane h l)) = T (ix2 R (lane h l)) + if R.val < 512 * n.val then cc (f h) (X h) n.val R.val l else 0)
    (w1 w3 : S256x128.Idx → EReal) (w2 w4 : S512x128.Idx → EReal) (A2 : FVec Ideal S4096x256 .f32) (hA2 : A2 = putBlk (putWin S n 0 w1) n 0 w2)
    (h1 : ∀ (c : Fin 256) l, w1 (ix2 c l) = win S n 0 (ix2 c l) + ∑ r : Fin 256, f 0 (512 * n.val + r.val) (512 * n.val + c.val) * X 0 (512 * n.val + r.val) l)
    (h2 : ∀ (c : Fin 512) l, w2 (ix2 c l) = blk (putWin S n 0 w1) n 0 (ix2 c l) + ∑ r : Fin 256, f 0 (512 * n.val + (256 + r.val)) (512 * n.val + c.val) * X 0 (512 * n.val + (256 + r.val)) l)
    (h3 : ∀ (c : Fin 256) l, w3 (ix2 c l) = win A2 n 1 (ix2 c l) + ∑ r : Fin 256, f 1 (512 * n.val + r.val) (512 * n.val + c.val) * X 1 (512 * n.val + r.val) l)
    (h4 : ∀ (c : Fin 512) l, w4 (ix2 c l) = blk (putWin A2 n 1 w3) n 1 (ix2 c l) + ∑ r : Fin 256, f 1 (512 * n.val + (256 + r.val)) (512 * n.val + c.val) * X 1 (512 * n.val + (256 + r.val)) l)
    (h : Fin 2) (R : Fin 4096) (l : Fin 128) :
    putBlk (putWin A2 n 1 w3) n 1 w4 (ix2 R (lane h l)) = T (ix2 R (lane h l)) + cc (f h) (X h) n.val R.val l := by
  rw [addDiag (f 1) (hf 1) (X 1) A2 n 1 w3 h3 w4 h4, hA2, addDiag (f 0) (hf 0) (X 0) S n 0 w1 h1 w2 h2, hS, add_assoc, add_assoc]
  congr 1
  have hz : 512 * n.val + 512 ≤ R.val → cc (f h) (X h) n.val R.val l = 0 := fun hR => by
    unfold cc
    exact Finset.sum_eq_zero fun r _ => by rw [hf _ _ _ (by omega), zero_mul]
  by_cases ha : R.val < 512 * n.val
  · simp [ha, show ¬ 512 * n.val ≤ R.val by omega]
  · by_cases hb : R.val < 512 * n.val + 512
    · match h with
      | 0 => simp [ha, hb, show 512 * n.val ≤ R.val by omega]
      | 1 => simp [ha, hb, show 512 * n.val ≤ R.val by omega]
    · simp [ha, hb, hz (by omega)]

section Diag
variable (W : Keys Ideal) (S : St Ideal) (hS : StOk H i A B i S) (n : Fin 8) (hn : n.val = i) (hW : W = keysOf x3 x4 n)

include u0 u1 hX hS hn hW in
theorem accKR_eq (h : Fin 2) (R : Fin 4096) (l : Fin 128) : accKR U W S n (ix2 R (lane h l)) = A (ix2 R (lane h l)) + cc (H h).dz (H h).Q i R.val l := by
  subst hn hW
  unfold accKR
  refine diag2 n (fun h => (H h).dz) (fun h => dz_zero (H h)) (fun h => (H h).Q) S.2.1 A hS.k _ _ _ _ _ rfl ?_ ?_ ?_ ?_ h R l
  · exact dgK1_eq (H 0) n.val _ _ _ _ _ _ u0.hq u0.hd u0.hp u0.ht hS.c0.hs hS.c0.hg _ _ (hX.kwin n 0) (hX.vwin n 0) _
  · exact dgK2_eq (H 0) n.val _ _ _ _ _ _ _ _ u0.hq u0.hd u0.hp u0.ht hS.c0.hs hS.c0.hg (hX.kblk n 0) (hX.vblk n 0) _
  · exact dgK1_eq (H 1) n.val _ _ _ _ _ _ u1.hq u1.hd u1.hp u1.ht hS.c1.hs hS.c1.hg _ _ (hX.kwin n 1) (hX.vwin n 1) _
  · exact dgK2_eq (H 1) n.val _ _ _ _ _ _ _ _ u1.hq u1.hd u1.hp u1.ht hS.c1.hs hS.c1.hg (hX.kblk n 1) (hX.vblk n 1) _

include u0 u1 hX hS hn hW in
theorem accVR_eq (h : Fin 2) (R : Fin 4096) (l : Fin 128) : accVR U W S n (ix2 R (lane h l)) = B (ix2 R (lane h l)) + cc (H h).a (H h).D i R.val l := by
  subst hn hW
  unfold accVR
  refine diag2 n (fun h => (H h).a) (fun h => a_zero (H h)) (fun h => (H h).D) S.2.2 B hS.v _ _ _ _ _ rfl ?_ ?_ ?_ ?_ h R l
  · exact dgV1_eq (H 0) n.val _ _ _ _ _ u0.hq u0.hd u0.hp u0.ht hS.c0.hs _ (hX.kwin n 0) _
  · exact dgV2_eq (H 0) n.val _ _ _ _ _ _ u0.hq u0.hd u0.hp u0.ht hS.c0.hs (hX.kblk n 0) _
  · exact dgV1_eq (H 1) n.val _ _ _ _ _ u1.hq u1.hd u1.hp u1.ht hS.c1.hs _ (hX.kwin n 1) _
  · exact dgV2_eq (H 1) n.val _ _ _ _ _ _ u1.hq u1.hd u1.hp u1.ht hS.c1.hs (hX.kblk n 1) _

include u0 u1 hX hS hn hW in
theorem outQR_eq (h : Fin 2) (r : Fin 512) (l : Fin 128) : outQR U W S (ix2 r (lane h l)) = (H h).dq (512 * i + r.val) (512 * i + r.val) l * Ideal.ofBits .f32 0x3DB504F3#32 := by
  subst hn hW
  unfold outQR
  have e := cat2_apply (![dgQ U.q0 U.d0 U.p0 U.t S.1.1 S.1.2.1 S.1.2.2.1 (win x3 n 0) (win x4 n 0) (blk x3 n 0) (blk x4 n 0),
    dgQ U.q1 U.d1 U.p1 U.t S.1.2.2.2.1 S.1.2.2.2.2.1 S.1.2.2.2.2.2 (win x3 n 1) (win x4 n 1) (blk x3 n 1) (blk x4 n 1)]) h r l
  refine e.trans ?_
  match h with
  | 0 => exact dgQ_eq (H 0) n.val _ _ _ _ _ _ _ _ u0.hq u0.hd u0.hp u0.ht hS.c0.hs hS.c0.hg (hX.kblk n 0) (hX.vblk n 0) _ _ (hX.kwin n 0) (hX.vwin n 0) _ hS.c0.ho r l
  | 1 => exact dgQ_eq (H 1) n.val _ _ _ _ _ _ _ _ u1.hq u1.hd u1.hp u1.ht hS.c1.hs hS.c1.hg (hX.kblk n 1) (hX.vblk n 1) _ _ (hX.kwin n 1) (hX.vwin n 1) _ hS.c1.ho r l

end Diag
end Tile

/-! ## One tile, from its windows -/

section Windows
variable (H : Fin 2 → Head) (i : ℕ) (hi : i < 8) (x2 : FVec Ideal S512x256 .bf16) (x3 x4 : FVec Ideal S4096x256 .bf16) (x5 x6 : FVec Ideal S512x256 .bf16)
  (x7 : FVec Ideal S512x256 .f32) (x8 : FVec Ideal S512x256 .bf16) (hX : KeysOk H x3 x4)
  (h2 : ∀ h r l, x2 (ix2 r (lane h l)) * Ideal.ofBits .f32 0x3DB504F3#32 = (H h).Q (512 * i + r.val) l)
  (h5 : ∀ h r l, x8 (ix2 r (lane h l)) * (x5 (ix2 r (lane h l)) * sg (x5 (ix2 r (lane h l)))) = (H h).D (512 * i + r.val) l)
  (h7 : ∀ h r l, x7 (ix2 r (lane h l)) = (H h).P (512 * i + r.val))
  (A B : FVec Ideal S4096x256 .f32)

include h2 h5 h7 in
theorem rows_ok (h : Fin 2) : RowsOk (H h) i (k0_pay183 (half x2 h)) (k0_pay188 (half x5 h) (half x8 h)) (k0_pay189 (half x7 h)) (rowsOf x2 x5 x7 x8).t where
  hq r l := by rw [pay183_apply, half_apply, h2]
  hd r l := by rw [pay188_apply, half_apply, half_apply, h5]
  hp r c := pay189_apply _ (fun r => (H h).P (512 * i + r.val)) (fun r l => by rw [half_apply, h7]) r c
  ht r c := pay198_apply r c

include hi hX h2 h5 h7 in
theorem before_ok : StOk H i (if i = 0 then k0_pay181 else A) (if i = 0 then k0_pay182 else B) i (before x2 x3 x4 x5 x7 x8 i A B) :=
  stOk_all H i hi (rowsOf x2 x5 x7 x8) (rows_ok H i x2 x5 x7 x8 h2 h5 h7 0) (rows_ok H i x2 x5 x7 x8 h2 h5 h7 1) x3 x4 hX _ _ i (le_refl i)

include hi hX h2 h5 h7 in
/-- A tile adds its rows' share to every key's gradient. -/
theorem accK_eq (h : Fin 2) (R : Fin 4096) (l : Fin 128) :
    accK x2 x3 x4 x5 x7 x8 i A B (ix2 R (lane h l)) = (if i = 0 then 0 else A (ix2 R (lane h l))) + cc (H h).dz (H h).Q i R.val l := by
  unfold accK
  rw [accKR_eq H i (rowsOf x2 x5 x7 x8) (rows_ok H i x2 x5 x7 x8 h2 h5 h7 0) (rows_ok H i x2 x5 x7 x8 h2 h5 h7 1) x3 x4 hX _ _ _ _ (before_ok H i hi x2 x3 x4 x5 x7 x8 hX h2 h5 h7 A B) (fin8 i) (Nat.mod_eq_of_lt hi) rfl]
  congr 1
  split
  · exact pay181_apply R _
  · rfl

include hi hX h2 h5 h7 in
/-- A tile adds its rows' share to every value's gradient. -/
theorem accV_eq (h : Fin 2) (R : Fin 4096) (l : Fin 128) :
    accV x2 x3 x4 x5 x7 x8 i A B (ix2 R (lane h l)) = (if i = 0 then 0 else B (ix2 R (lane h l))) + cc (H h).a (H h).D i R.val l := by
  unfold accV
  rw [accVR_eq H i (rowsOf x2 x5 x7 x8) (rows_ok H i x2 x5 x7 x8 h2 h5 h7 0) (rows_ok H i x2 x5 x7 x8 h2 h5 h7 1) x3 x4 hX _ _ _ _ (before_ok H i hi x2 x3 x4 x5 x7 x8 hX h2 h5 h7 A B) (fin8 i) (Nat.mod_eq_of_lt hi) rfl]
  congr 1
  split
  · exact pay182_apply R _
  · rfl

include hi hX h2 h5 h7 in
/-- The query gradient's tile. -/
theorem outQ_eq (h : Fin 2) (r : Fin 512) (l : Fin 128) :
    outQ x2 x3 x4 x5 x7 x8 i A B (ix2 r (lane h l)) = (H h).dq (512 * i + r.val) (512 * i + r.val) l * Ideal.ofBits .f32 0x3DB504F3#32 := by
  unfold outQ
  exact outQR_eq H i (rowsOf x2 x5 x7 x8) (rows_ok H i x2 x5 x7 x8 h2 h5 h7 0) (rows_ok H i x2 x5 x7 x8 h2 h5 h7 1) x3 x4 hX _ _ _ _ (before_ok H i hi x2 x3 x4 x5 x7 x8 hX h2 h5 h7 A B) (fin8 i) (Nat.mod_eq_of_lt hi) rfl h r l

/-- The gate's gradient's tile. -/
theorem outZ_eq (h : Fin 2) (r : Fin 512) (l : Fin 128) : outZ x5 x6 x8 (ix2 r (lane h l))
    = x8 (ix2 r (lane h l)) * x6 (ix2 r (lane h l)) * (sg (x5 (ix2 r (lane h l))) * (1 + x5 (ix2 r (lane h l)) * (1 - sg (x5 (ix2 r (lane h l)))))) := by
  unfold outZ
  refine (cat2_apply (fun h => k0_pay187 (F := Ideal) (half x5 h) (half x8 h) (half x6 h)) h r l).trans ?_
  rw [pay187_apply, half_apply, half_apply, half_apply]

end Windows

end Cert.AttnBwdIdeal.Hand

end
-- ==== Proof.Reals.lean ====
module

public import Idealize.ShloMosaic.PureOps.Ideal
public import Idealize.ShloMosaic.Lib.Pointwise

@[expose] public section

noncomputable section

namespace Cert.Common

open Idealize.ShloMosaic

/-! ## Numbers that are real, among the extended reals of the ideal machine -/

/-- A value that is a real number. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.neg {x : EReal} (hx : IsR x) : IsR (-x) := by
  obtain ⟨a, rfl⟩ := hx; exact ⟨-a, (EReal.coe_neg a).symm⟩
theorem IsR.exp {x : EReal} (hx : IsR x) : IsR (Ideal.exp x) := by
  obtain ⟨a, rfl⟩ := hx; exact ⟨_, Ideal.exp_coe a⟩
theorem IsR.ite {p : Prop} [Decidable p] {x y : EReal} (hx : IsR x) (hy : IsR y) : IsR (if p then x else y) := by
  split <;> assumption
theorem isR_sum {ι : Type*} (s : Finset ι) (f : ι → EReal) (h : ∀ i ∈ s, IsR (f i)) : IsR (∑ i ∈ s, f i) := by
  classical
  induction s using Finset.induction_on with
  | empty => exact isR_zero
  | insert a s ha ih => rw [Finset.sum_insert ha]; exact (h a (Finset.mem_insert_self a s)).add (ih fun i hi => h i (Finset.mem_insert_of_mem hi))

/-- A float's word stands for a real unless its exponent is all ones. -/
theorem isR_f32 (b : BitVec 32) (h : (b.extractLsb' 23 8).toNat ≠ 2 ^ 8 - 1) : IsR (Ideal.ofBits .f32 b) := by
  show IsR (Ideal.ieee 8 23 b)
  unfold Ideal.ieee
  dsimp only
  rw [if_neg h]
  split <;> exact isR_coe _

/-- A finite sum of reals is real, term by term. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The softplus of a real, in the form that does not overflow. -/
def softplus (z : ℝ) : ℝ := max z 0 + Real.log (1 + Real.exp (-|z|))

theorem softplus_eq (z : ℝ) : softplus z = Real.log (1 + Real.exp z) := by
  unfold softplus
  rcases le_total 0 z with h | h
  · rw [max_eq_left h, abs_of_nonneg h]
    have e : 1 + Real.exp z = Real.exp z * (1 + Real.exp (-z)) := by
      rw [mul_add, mul_one, ← Real.exp_add, add_neg_cancel, Real.exp_zero, add_comm]
    rw [e, Real.log_mul (Real.exp_pos z).ne' (by positivity), Real.log_exp]
  · rw [max_eq_right h, abs_of_nonpos h, neg_neg, zero_add]

theorem softplus_neg (z : ℝ) : softplus (-z) = softplus z - z := by
  unfold softplus
  rw [abs_neg]
  rcases le_total 0 z with h | h
  · rw [max_eq_left h, max_eq_right (by linarith)]; ring
  · rw [max_eq_right h, max_eq_left (by linarith)]; ring

theorem exp_softplus (z : ℝ) : Real.exp (softplus z) = 1 + Real.exp z := by rw [softplus_eq, Real.exp_log (by positivity)]

theorem exp_share (z : ℝ) : Real.exp (-softplus z) = 1 - Real.exp (z - softplus z) := by
  have h := exp_softplus z
  have p := (Real.exp_pos (softplus z)).ne'
  rw [Real.exp_neg, Real.exp_sub]
  field_simp
  linarith

/-- The ideal machine's softplus of a real is the real one. -/
theorem softplus_coe (z : ℝ) : max (z : EReal) 0 + Ideal.log (1 + Ideal.exp (0 - max (z : EReal) (-(z : EReal)))) = ((softplus z : ℝ) : EReal) := by
  have e1 : max (z : EReal) (-(z : EReal)) = ((|z| : ℝ) : EReal) := by
    rw [← EReal.coe_neg, abs_eq_max_neg]; exact (EReal.coe_strictMono.monotone.map_max (a := z) (b := -z)).symm
  have e2 : max (z : EReal) 0 = ((max z 0 : ℝ) : EReal) := (EReal.coe_strictMono.monotone.map_max (a := z) (b := 0)).symm
  rw [e1, e2, zero_sub, ← EReal.coe_neg, Ideal.exp_coe, show (1 : EReal) = ((1 : ℝ) : EReal) from rfl, ← EReal.coe_add, Ideal.log_coe,
    if_neg (not_le.mpr (by positivity)), ← EReal.coe_add]
  rfl

end Cert.Common

end
-- ==== Proof.AttnRef.lean ====
module

public import proofs.«01_k».proof.Proof.AttnTile
public import proofs.«01_k».proof.Proof.Gen.AttnBwdRefIdeal.Read
public import proofs.«01_k».proof.Proof.Reals
public import Idealize.ShloMosaic.Lib.Pointwise
public import Idealize.ShloMosaic.Lib.Tactic

@[expose] public section

set_option maxRecDepth 16384

noncomputable section

namespace Cert.AttnBwdIdeal.Hand

open Idealize.ShloMosaic Idealize.ShloMosaic.TcCoe Idealize.ShloMosaic.Tactic
open Cert.AttnBwdIdeal Cert.AttnBwdRefIdeal.Read Cert.Common

/-- An entry of a matrix, zero outside it. -/
def ent {a b : ℕ} (x : (⟨2, ![a, b]⟩ : Shape).Idx → EReal) (R C : ℕ) : EReal := if h : R < a ∧ C < b then x (ix2 ⟨R, h.1⟩ ⟨C, h.2⟩) else 0

theorem ent_eq {a b : ℕ} (x : (⟨2, ![a, b]⟩ : Shape).Idx → EReal) (R C : ℕ) (hR : R < a) (hC : C < b) : ent x R C = x (ix2 ⟨R, hR⟩ ⟨C, hC⟩) :=
  dif_pos ⟨hR, hC⟩

/-- The factor the queries are scaled by: the float nearest to one over the square root of 128. -/
abbrev qs : EReal := Ideal.ofBits .f32 0x3DB504F3#32

variable (x0 : FVec Ideal S4096x14336 .bf16) (x1 : FVec Ideal S4096x2048 .bf16)

/-- The numbers a head works on, from the projection and the cotangent. -/
def headOf (hd : ℕ) : Head where
  Q R l := ent x0 R (2048 + 128 * hd + l.val) * qs
  K R l := ent x0 R (4096 + 128 * hd + l.val)
  V R l := ent x0 R (6144 + 128 * hd + l.val)
  D R l := ent x1 R (128 * hd + l.val) * (ent x0 R (8192 + 128 * hd + l.val) * sg (ent x0 R (8192 + 128 * hd + l.val)))
  P R := ∑ c ∈ Finset.range 4096, if c < R then spl (∑ l : Fin 128, ent x0 R (2048 + 128 * hd + l.val) * qs * ent x0 c (4096 + 128 * hd + l.val)) else 0

section Read
variable (R c : Fin 4096) (h : Fin 16) (l : Fin 128)

theorem v9_eq : val_main_v9 (F := Ideal) x0 (ix3 R h l) = (headOf x0 x1 h).Q R l := by
  show _ = ent x0 R (2048 + 128 * h.val + l.val) * qs
  rw [ent_eq x0 R _ R.isLt (by omega)]
  unfold val_main_v9 val_main_v8 val_main_cst val_main_v5 val_main_v1 val_main_v0
  pointwise
  exact congrArg (· * qs) (congrArg x0 (Shape.idx_ext₂ rfl (by show 2048 + (h.val * 128 + l.val) = 2048 + 128 * h.val + l.val; omega)))

theorem v6_eq : val_main_v6 (F := Ideal) x0 (ix3 R h l) = (headOf x0 x1 h).K R l := by
  show _ = ent x0 R (4096 + 128 * h.val + l.val)
  rw [ent_eq x0 R _ R.isLt (by omega)]
  unfold val_main_v6 val_main_v2 val_main_v0
  pointwise
  exact congrArg x0 (Shape.idx_ext₂ rfl (by show 4096 + (h.val * 128 + l.val) = 4096 + 128 * h.val + l.val; omega))

theorem v7_eq : val_main_v7 (F := Ideal) x0 (ix3 R h l) = (headOf x0 x1 h).V R l := by
  show _ = ent x0 R (6144 + 128 * h.val + l.val)
  rw [ent_eq x0 R _ R.isLt (by omega)]
  unfold val_main_v7 val_main_v3 val_main_v0
  pointwise
  exact congrArg x0 (Shape.idx_ext₂ rfl (by show 6144 + (h.val * 128 + l.val) = 6144 + 128 * h.val + l.val; omega))

/-- The logits. -/
theorem v10_eq : val_main_v10 (F := Ideal) x0 (ix3 h R c) = (headOf x0 x1 h).z R c := by
  unfold val_main_v10
  pointwise
  simp only [v9_eq x0 x1, v6_eq x0 x1]
  rfl

/-- The strict causal mask. -/
theorem v17_sel (x y : EReal) : Scalar.select (val_main_v17 (F := Ideal) (ix2 R c)) x y = if c.val < R.val then x else y := by
  unfold val_main_v17 val_main_v15 val_main_v16 val_main_v12 val_main_v14 val_main_v11 val_main_v13
  pointwise
  exact sel_slt (by omega) (by omega) _ _

/-- The host's softplus is the kernel's. -/
theorem spl_host (z : EReal) : (if z ≠ z then z else max z 0 + Ideal.log1p (Ideal.exp (-FloatOps.absf (F := Ideal) (φ := .f32) z))) = spl z := by
  rw [if_neg (fun e => e rfl)]
  unfold spl
  rw [zero_sub]
  rfl

theorem v18_eq : val_main_v18_0 (F := Ideal) x0 (ix3 h R c) = spl ((headOf x0 x1 h).z R c) := by
  rw [← v10_eq]
  unfold val_main_v18_0 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_cst
  pointwise
  exact spl_host _

theorem v23_eq : val_main_v23_0 (F := Ideal) x0 (ix3 h R c) = -spl (-(headOf x0 x1 h).z R c) := by
  rw [← v10_eq]
  unfold val_main_v23_0 val_main_call3_v1_0 val_main_call3_call0_v11 val_main_call3_call0_v10 val_main_call3_call0_v9 val_main_call3_call0_v8 val_main_call3_call0_v7 val_main_call3_call0_v6 val_main_call3_call0_v5 val_main_call3_call0_v4 val_main_call3_call0_v3 val_main_call3_call0_v2 val_main_call3_call0_v1 val_main_call3_call0_v0 val_main_call3_call0_cst val_main_call3_v0
  pointwise
  exact congrArg (-·) (spl_host _)

/-- The derivative of a softplus as the host writes it: its tests for infinity fail at real numbers. -/
theorem share_host (z s : ℝ) : Ideal.exp ((if (z : EReal) = Ideal.ofBits .f32 0x7F800000#32 then 0 else (z : EReal)) - if (s : EReal) = Ideal.ofBits .f32 0x7F800000#32 then 0 else (s : EReal))
    = ((Real.exp (z - s) : ℝ) : EReal) := by
  have e : Ideal.ofBits .f32 0x7F800000#32 = ⊤ := by simp [Ideal.ofBits, Ideal.ieee]
  rw [e, if_neg (EReal.coe_ne_top z), if_neg (EReal.coe_ne_top s), ← EReal.coe_sub, Ideal.exp_coe]

theorem v18_1_eq (z : ℝ) (hz : (headOf x0 x1 h).z R c = z) : val_main_v18_1 (F := Ideal) x0 (ix3 h R c) = ((Real.exp (z - softplus z) : ℝ) : EReal) := by
  have e : val_main_v18_0 (F := Ideal) x0 (ix3 h R c) = ((softplus z : ℝ) : EReal) := by rw [v18_eq x0 x1, hz]; exact softplus_coe z
  unfold val_main_v18_1 val_main_call0_v21 val_main_call0_v20 val_main_call0_v19 val_main_call0_v18 val_main_call0_v17 val_main_call0_v16 val_main_call0_v15 val_main_call0_v14 val_main_call0_v13 val_main_call0_cst_0 val_main_call0_cst_1 val_main_call0_cst_2 val_main_call0_cst_3
  pointwise
  rw [e, v10_eq x0 x1, hz]
  exact share_host _ _

theorem v23_1_eq (z : ℝ) (hz : (headOf x0 x1 h).z R c = z) : val_main_v23_1 (F := Ideal) x0 (ix3 h R c) = ((Real.exp (-softplus z) : ℝ) : EReal) := by
  have e : val_main_call3_v1_0 (F := Ideal) x0 (ix3 h R c) = ((softplus (-z) : ℝ) : EReal) := by
    have q := v23_eq x0 x1 R c h
    rw [hz] at q
    exact (neg_inj.mp q).trans (by rw [← EReal.coe_neg]; exact softplus_coe (-z))
  unfold val_main_v23_1 val_main_call3_call0_v21 val_main_call3_call0_v20 val_main_call3_call0_v19 val_main_call3_call0_v18 val_main_call3_call0_v17 val_main_call3_call0_v16 val_main_call3_call0_v15 val_main_call3_call0_v14 val_main_call3_call0_v13 val_main_call3_call0_cst_0 val_main_call3_call0_cst_1 val_main_call3_call0_cst_2 val_main_call3_call0_cst_3 val_main_call3_v0
  pointwise
  rw [e, v10_eq x0 x1, hz, ← EReal.coe_neg]
  refine (share_host _ _).trans ?_
  rw [softplus_neg]
  congr 2
  ring

theorem v20_eq : val_main_v20_0 (F := Ideal) x0 (ix3 h R c) = -(headOf x0 x1 h).sp R c := by
  unfold val_main_v20_0 val_main_call1_v2 val_main_call1_v0 val_main_cst_0 val_main_v20_1 val_main_v19
  pointwise
  rw [v17_sel, v18_eq x0 x1]
  unfold Head.sp
  split
  · rfl
  · exact (by simp : Ideal.ofBits .f32 0x00000000#32 = -0)

theorem foldl_plus {ι : Type*} (f : ι → EReal) (l : List ι) (v : EReal) : l.foldl (fun r n => r + f n) v = v + (l.map f).sum := by
  induction l generalizing v with
  | nil => simp
  | cons a l ih => rw [List.foldl_cons, ih, List.map_cons, List.sum_cons, add_assoc]

end Read

section Window
variable {p q n : ℕ}

/-- The positions of a window along the last axis. -/
def lastAxis (n : ℕ) : Fin n ≃ (⟨3, ![1, 1, n]⟩ : Shape).Idx where
  toFun k := ix3 0 0 k
  invFun i := i 2
  left_inv _ := rfl
  right_inv i := by
    funext a
    match a with
    | 0 => exact Subsingleton.elim (α := Fin 1) _ _
    | 1 => exact Subsingleton.elim (α := Fin 1) _ _
    | 2 => rfl

/-- A window sum along the last axis, padded by `L` before: the entries it covers, the padding counting nothing. -/
theorem window_eq (L U : ℕ) (hw : (⟨3, ![p, q, n]⟩ : Shape).ReduceWindows ![1, 1, n] ![1, 1, 1] ![0, 0, L] ![0, 0, U] ⟨3, ![p, q, n]⟩) (x : FVec Ideal ⟨3, ![p, q, n]⟩ .f32)
    (o : FVec Ideal S_ .f32) (hu : 0 < S_.numel) (ho : ∀ i, o i = 0) (X : ℕ → EReal) (h : Fin p) (R : Fin q) (c : Fin n) (hX : ∀ k : Fin n, x (ix3 h R k) = X k) :
    Host.reduceWindowAdd (t := ⟨3, ![p, q, n]⟩) ![1, 1, n] ![1, 1, 1] ![0, 0, L] ![0, 0, U] x o hw hu (ix3 h R c)
      = ∑ k ∈ Finset.range n, if L ≤ c.val + k ∧ c.val + k - L < n then X (c.val + k - L) else 0 := by
  unfold Host.reduceWindowAdd
  rw [Ideal.hostReduceWindowAdd_def]
  unfold Ideal.hostReduceWindowAdd Host.reduceWindow
  dsimp only
  rw [ho, foldl_plus, zero_add, ← Fin.sum_univ_def, ← Equiv.sum_comp ((lastAxis n).trans (Shape.rowMajor (⟨3, ![1, 1, n]⟩ : Shape))), Finset.sum_range]
  refine Finset.sum_congr rfl fun k _ => ?_
  rw [Equiv.trans_apply]
  simp only [Equiv.symm_apply_apply]
  by_cases hk : L ≤ c.val + k.val ∧ c.val + k.val - L < n
  · rw [if_pos hk]
    refine (dif_pos fun a => ?_).trans ((congrArg x ?_).trans (hX ⟨c.val + k.val - L, hk.2⟩))
    · match a with
      | 0 => exact ⟨Nat.zero_le _, show h.val * 1 + 0 - 0 < p by omega⟩
      | 1 => exact ⟨Nat.zero_le _, show R.val * 1 + 0 - 0 < q by omega⟩
      | 2 => exact ⟨show L ≤ c.val * 1 + k.val by omega, show c.val * 1 + k.val - L < n by omega⟩
    · funext a
      match a with
      | 0 => exact Fin.ext (show h.val * 1 + 0 - 0 = h.val by omega)
      | 1 => exact Fin.ext (show R.val * 1 + 0 - 0 = R.val by omega)
      | 2 => exact Fin.ext (show c.val * 1 + k.val - L = c.val + k.val - L by omega)
  · rw [if_neg hk]
    refine dif_neg fun hin => hk ?_
    have h2 : L ≤ c.val * 1 + k.val ∧ c.val * 1 + k.val - L < n := hin 2
    rwa [Nat.mul_one] at h2

/-- Padded behind, the window sums the entries from a position on. -/
theorem suffix_eq (X : ℕ → EReal) (c : ℕ) (hc : c < n) :
    (∑ k ∈ Finset.range n, if 0 ≤ c + k ∧ c + k - 0 < n then X (c + k - 0) else 0) = ∑ k ∈ Finset.range (n - c), X (c + k) := by
  rw [show Finset.range n = Finset.range (n - c + c) by rw [Nat.sub_add_cancel (by omega)], Finset.sum_range_add,
    Finset.sum_eq_zero (s := Finset.range c) (fun k _ => if_neg (by omega)), add_zero]
  exact Finset.sum_congr rfl fun k hk => if_pos (by rw [Finset.mem_range] at hk; omega)

/-- Padded before, it sums the entries up to a position. -/
theorem prefix_eq (X : ℕ → EReal) (c L : ℕ) (hc : c ≤ L) :
    (∑ k ∈ Finset.range (L + 1), if L ≤ c + k ∧ c + k - L < L + 1 then X (c + k - L) else 0) = ∑ k ∈ Finset.range (c + 1), X k := by
  rw [show Finset.range (L + 1) = Finset.range (L - c + (c + 1)) by congr 1; omega, Finset.sum_range_add,
    Finset.sum_eq_zero (s := Finset.range (L - c)) (fun k hk => if_neg (by rw [Finset.mem_range] at hk; omega)), zero_add]
  refine Finset.sum_congr rfl fun k hk => ?_
  rw [Finset.mem_range] at hk
  rw [if_pos (by omega)]
  congr 1
  omega

end Window

/-! ## Everything is a real number when the arguments are -/

section Real
variable (hd R c : ℕ) (l : Fin 128) (f0 : ∀ i, IsR (x0 i)) (f1 : ∀ i, IsR (x1 i))

theorem isR_ent {a b : ℕ} (x : (⟨2, ![a, b]⟩ : Shape).Idx → EReal) (f : ∀ i, IsR (x i)) (R C : ℕ) : IsR (ent x R C) := by
  unfold ent
  split
  · exact f _
  · exact isR_zero

theorem isR_qs : IsR qs := isR_f32 _ (by decide)

theorem isR_spl {z : EReal} (hz : IsR z) : IsR (spl z) := by obtain ⟨z, rfl⟩ := hz; exact ⟨_, softplus_coe z⟩

theorem isR_sg {z : EReal} (hz : IsR z) : IsR (sg z) := by
  obtain ⟨z, rfl⟩ := hz
  unfold sg
  rw [zero_sub, ← EReal.coe_neg, Ideal.exp_coe, ← EReal.coe_one, ← EReal.coe_add, Ideal.div_coe (by positivity)]
  exact (isR_coe _).mul (isR_coe _)

include f0 in
theorem isR_z : IsR ((headOf x0 x1 hd).z R c) := isR_sum _ _ fun l _ => ((isR_ent x0 f0 _ _).mul isR_qs).mul (isR_ent x0 f0 _ _)
include f0 in
theorem isR_sp : IsR ((headOf x0 x1 hd).sp R c) := (isR_spl (isR_z x0 x1 hd R c f0)).ite isR_zero
include f0 in
theorem isR_S : IsR ((headOf x0 x1 hd).S R c) := isR_sum _ _ fun k _ => isR_sp x0 x1 hd R k f0
/-- The row's total is the running sum over all keys. -/
theorem P_eq : (headOf x0 x1 hd).P R = (headOf x0 x1 hd).S R 4096 := by
  simp only [headOf, Head.S, Head.sp, Head.z]
include f0 in
theorem isR_a : IsR ((headOf x0 x1 hd).a R c) :=
  ((((isR_z x0 x1 hd R c f0).sub (isR_spl (isR_z x0 x1 hd R c f0))).sub ((isR_S x0 x1 hd R _ f0).sub (isR_S x0 x1 hd R _ f0))).exp).ite isR_zero
include f0 f1 in
theorem isR_D : IsR ((headOf x0 x1 hd).D R l) := (isR_ent x1 f1 _ _).mul ((isR_ent x0 f0 _ _).mul (isR_sg (isR_ent x0 f0 _ _)))
include f0 f1 in
theorem isR_g : IsR ((headOf x0 x1 hd).g R c) :=
  (isR_a x0 x1 hd R c f0).mul (isR_sum _ _ fun l _ => (isR_D x0 x1 hd R l f0 f1).mul (isR_ent x0 f0 _ _))
include f0 f1 in
theorem isR_G : IsR ((headOf x0 x1 hd).G R c) := isR_sum _ _ fun k _ => isR_g x0 x1 hd R k f0 f1

end Real

section Rest
variable (R c : Fin 4096) (h : Fin 16) (l : Fin 128)

/-- The sum of the negated softplus values from a key on. -/
theorem v21_eq : val_main_v21 (F := Ideal) x0 (ix3 h R c) = ∑ k ∈ Finset.range (4096 - c.val), -(headOf x0 x1 h).sp R (c.val + k) := by
  unfold val_main_v21
  refine (window_eq 0 4095 _ _ _ _ (fun i => ?_) (fun n => -(headOf x0 x1 h).sp R n) h R c (fun k => v20_eq x0 x1 R k h)).trans (suffix_eq (n := 4096) (fun n => -(headOf x0 x1 h).sp R n) c.val c.isLt)
  unfold val_main_call2_v0 val_main_call2_cst
  exact (by simp : Ideal.ofBits .f32 0x00000000#32 = 0)

theorem neg_sum (f : ℕ → ℝ) (n c : ℕ) : ∑ k ∈ Finset.range n, -((f (c + k) : ℝ) : EReal) = -((∑ k ∈ Finset.range n, f (c + k) : ℝ) : EReal) := by
  rw [← EReal.coe_neg, ← Finset.sum_neg_distrib, coe_sum]
  exact Finset.sum_congr rfl fun k _ => (EReal.coe_neg _).symm

variable (f0 : ∀ i, IsR (x0 i)) (f1 : ∀ i, IsR (x1 i))

include f0 in
/-- The attention weight, before the mask: the kernel's total less the running sum is the reference's sum over the later keys. -/
theorem v25_eq (hc : c.val < R.val) : val_main_v25 (F := Ideal) x0 (ix3 h R c) = (headOf x0 x1 h).a R c := by
  unfold val_main_v25 val_main_v24 val_main_v22
  pointwise
  rw [v23_eq x0 x1, v21_eq x0 x1, v20_eq x0 x1]
  obtain ⟨z, hz⟩ := isR_z x0 x1 h R c f0
  choose s hs using fun k => isR_sp x0 x1 h R k f0
  have e1 : spl (z : EReal) = ((softplus z : ℝ) : EReal) := softplus_coe z
  have e2 : spl (-(z : EReal)) = ((softplus z - z : ℝ) : EReal) := by rw [← EReal.coe_neg, ← softplus_neg]; exact softplus_coe (-z)
  have e3 : s c.val = softplus z := by
    have q := hs c.val
    unfold Head.sp at q
    rw [if_pos hc, hz, e1] at q
    exact (EReal.coe_eq_coe_iff.mp q).symm
  unfold Head.a
  rw [if_pos hc, P_eq]
  unfold Head.lb Head.S
  rw [hz, e1, e2]
  simp only [hs]
  rw [neg_sum, ← coe_sum, ← coe_sum, show Finset.range 4096 = Finset.range (c.val + (4096 - c.val)) by congr 1; omega, Finset.sum_range_add, Finset.sum_range_succ, e3]
  simp only [← EReal.coe_neg, ← EReal.coe_sub, ← EReal.coe_add]
  congr 2
  ring

include f0 in
theorem v26_eq : val_main_v26_0 (F := Ideal) x0 (ix3 h R c) = (headOf x0 x1 h).a R c := by
  unfold val_main_v26_0 val_main_call4_v2 val_main_call4_v0 val_main_cst_1 val_main_v26_1
  pointwise
  rw [v17_sel]
  split
  · exact v25_eq x0 x1 R c h f0 (by assumption)
  · unfold Head.a
    rw [if_neg (by assumption)]
    exact (by simp : Ideal.ofBits .f32 0x00000000#32 = 0)

theorem sg_eq (C : Fin 2048) : val_main_v30_2 (F := Ideal) x0 (ix2 R C) = sg (ent x0 R (8192 + C.val)) := by
  rw [ent_eq x0 R _ R.isLt (by omega)]
  unfold val_main_v30_2 val_main_call5_v4 val_main_call5_v3 val_main_call5_v2 val_main_call5_v1 val_main_call5_v0 val_main_call5_cst val_main_call5_cst_0 val_main_v4 val_main_v0
  pointwise
  unfold sg
  rw [zero_sub]

theorem v4_eq (C : Fin 2048) : val_main_v4 (F := Ideal) x0 (ix2 R C) = ent x0 R (8192 + C.val) := by
  rw [ent_eq x0 R _ R.isLt (by omega)]
  unfold val_main_v4 val_main_v0
  pointwise

/-- The cotangent of the head's output. -/
theorem v36_eq : val_main_v36 (F := Ideal) x0 x1 (ix3 R h l) = (headOf x0 x1 h).D R l := by
  show _ = ent x1 R (128 * h.val + l.val) * (ent x0 R (8192 + 128 * h.val + l.val) * sg (ent x0 R (8192 + 128 * h.val + l.val)))
  unfold val_main_v36 val_main_v34 val_main_v32 val_main_v30_0
  pointwise
  rw [sg_eq, v4_eq, ent_eq x1 R _ R.isLt (show 128 * h.val + l.val < 2048 by omega)]
  simp only [show 8192 + (h.val * 128 + l.val) = 8192 + 128 * h.val + l.val by omega]
  exact congrArg (· * _) (congrArg x1 (Shape.idx_ext₂ rfl (show h.val * 128 + l.val = 128 * h.val + l.val by omega)))

include f0 in
theorem v42_eq : val_main_v42 (F := Ideal) x0 x1 (ix3 h R c) = (headOf x0 x1 h).g R c := by
  unfold val_main_v42 val_main_v41 val_main_v38 val_main_v37 val_main_call7_v0 val_main_call7_cst val_main_v26_1
  pointwise
  simp only [v36_eq, v7_eq x0 x1]
  rw [v17_sel]
  unfold Head.g
  split
  · rw [v25_eq x0 x1 R c h f0 (by assumption), mul_comm]
    rfl
  · unfold Head.a
    rw [if_neg (by assumption), zero_mul]

include f0 in
theorem v45_eq : val_main_v45 (F := Ideal) x0 x1 (ix3 h R c) = (headOf x0 x1 h).G R (c.val + 1) := by
  unfold val_main_v45
  refine (window_eq 4095 0 _ _ _ _ (fun i => ?_) ((headOf x0 x1 h).g R) h R c (fun k => v42_eq x0 x1 R k h f0)).trans (prefix_eq ((headOf x0 x1 h).g R) c.val 4095 (by omega))
  unfold val_main_call9_v0 val_main_call9_cst
  exact (by simp : Ideal.ofBits .f32 0x00000000#32 = 0)

include f0 f1 in
/-- The gradient of the logit: the derivative of the log-sigmoid at one end of the chain and the sum's at the other are the kernel's one line. -/
theorem v50_eq : val_main_v50 (F := Ideal) x0 x1 (ix3 h R c) = (headOf x0 x1 h).dz R c := by
  unfold val_main_v50 val_main_v49 val_main_v48 val_main_v47 val_main_v46 val_main_v44 val_main_v43 val_main_call8_v1 val_main_call8_v0 val_main_call10_v0 val_main_call10_cst val_main_v20_1
  pointwise
  obtain ⟨z, hz⟩ := isR_z x0 x1 h R c f0
  obtain ⟨g, hg⟩ := isR_g x0 x1 h R c f0 f1
  obtain ⟨G, hG⟩ := isR_G x0 x1 h R (c.val + 1) f0 f1
  rw [v17_sel, v42_eq x0 x1 _ _ _ f0, v45_eq x0 x1 _ _ _ f0, v18_1_eq x0 x1 R c h z hz, v23_1_eq x0 x1 R c h z hz]
  unfold Head.dz
  split
  · unfold Head.lb
    rw [hz, hg, hG, show spl (z : EReal) = ((softplus z : ℝ) : EReal) from softplus_coe z, exp_share]
    simp only [← EReal.coe_neg, ← EReal.coe_sub, ← EReal.coe_add, ← EReal.coe_mul, Ideal.exp_coe]
    congr 1
    ring
  · have e : (headOf x0 x1 h).g R c = 0 := by
      unfold Head.g Head.a
      rw [if_neg (by assumption), zero_mul]
    rw [e]
    simp

include f0 f1 in
/-- The queries' gradient. -/
theorem v60_eq : val_main_v60 (F := Ideal) x0 x1 (ix2 R ⟨128 * h.val + l.val, by omega⟩) = (headOf x0 x1 h).dq R R l * qs := by
  unfold val_main_v60 val_main_v59 val_main_v56 val_main_v55 val_main_cst_2 val_main_v54 val_main_v53
  pointwise
  simp only [v50_eq x0 x1 _ _ _ f0 f1, v6_eq x0 x1]
  rw [← dq_stop (headOf x0 x1 h) R 4096 l (by omega)]
  unfold Head.dq
  rw [Finset.sum_range]

include f0 f1 in
/-- The keys' gradient. -/
theorem v61_eq : val_main_v61 (F := Ideal) x0 x1 (ix2 c ⟨128 * h.val + l.val, by omega⟩) = ∑ r ∈ Finset.range 4096, (headOf x0 x1 h).dz r c * (headOf x0 x1 h).Q r l := by
  unfold val_main_v61 val_main_v58 val_main_v52 val_main_v51
  pointwise
  simp only [v50_eq x0 x1 _ _ _ f0 f1, v9_eq x0 x1]
  rw [Finset.sum_range]

include f0 f1 in
/-- The values' gradient. -/
theorem v62_eq : val_main_v62 (F := Ideal) x0 x1 (ix2 c ⟨128 * h.val + l.val, by omega⟩) = ∑ r ∈ Finset.range 4096, (headOf x0 x1 h).a r c * (headOf x0 x1 h).D r l := by
  unfold val_main_v62 val_main_v57 val_main_v40 val_main_v39 val_main_v37
  pointwise
  simp only [v36_eq x0 x1, v26_eq x0 x1 _ _ _ f0]
  rw [Finset.sum_range]
  exact Finset.sum_congr rfl fun r _ => mul_comm _ _

include x1 f0 in
/-- The head's output is real. -/
theorem isR_v29 (C : Fin 2048) : IsR (val_main_v29 (F := Ideal) x0 (ix2 R C)) := by
  unfold val_main_v29 val_main_v28 val_main_v27
  pointwise
  refine isR_sum _ _ fun k _ => ?_
  rw [v7_eq x0 x1, v26_eq x0 x1 _ _ _ f0]
  exact (isR_ent x0 f0 _ _).mul (isR_a x0 x1 _ _ _ f0)

include f0 f1 in
/-- The gate's gradient. -/
theorem v63_eq (C : Fin 2048) : val_main_v63 (F := Ideal) x0 x1 (ix2 R C) = x1 (ix2 R C) * val_main_v29 (F := Ideal) x0 (ix2 R C) * (sg (ent x0 R (8192 + C.val)) * (1 + ent x0 R (8192 + C.val) * (1 - sg (ent x0 R (8192 + C.val))))) := by
  unfold val_main_v63 val_main_v35 val_main_call6_v2 val_main_call6_v1 val_main_call6_v0 val_main_v33 val_main_v32 val_main_v30_1 val_main_call5_v7 val_main_call5_v6 val_main_call5_cst_1
  pointwise
  rw [sg_eq, v4_eq]
  obtain ⟨o, ho⟩ := isR_v29 x0 x1 R f0 C
  obtain ⟨y, hy⟩ := f1 (ix2 R C)
  obtain ⟨s, hs⟩ := isR_sg (isR_ent x0 f0 R (8192 + C.val))
  obtain ⟨b, hb⟩ := isR_ent x0 f0 R (8192 + C.val)
  rw [ho, hy, hs, hb]
  rw [show (1 : EReal) = ((1 : ℝ) : EReal) from rfl]
  simp only [← EReal.coe_sub, ← EReal.coe_add, ← EReal.coe_mul]
  congr 1
  ring

end Rest

/-! ## Arrays by row, head and lane -/

/-- A matrix at an index is its entry. -/
theorem ent_at {a b : ℕ} (x : (⟨2, ![a, b]⟩ : Shape).Idx → EReal) (i : (⟨2, ![a, b]⟩ : Shape).Idx) : x i = ent x (i 0).val (i 1).val := by
  rw [ent_eq x _ _ (i 0).isLt (i 1).isLt]
  exact congrArg x (Shape.idx_ext₂ rfl rfl)

/-- Lane of a column within its head. -/
abbrev lan (C : ℕ) : Fin 128 := ⟨C % 128, Nat.mod_lt _ (by norm_num)⟩

/-- An array given by its entries. -/
def arr (f : ℕ → ℕ → EReal) : FVec Ideal S4096x2048 .bf16 := fun i => f (i 0).val (i 1).val

/-- An index of a block by head and lane. -/
theorem split_idx {n : ℕ} (y : (⟨2, ![n, 256]⟩ : Shape).Idx) : ∃ (r : Fin n) (e : Fin 2) (l : Fin 128), y = ix2 r (lane e l) := by
  have h : (y 1).val < 256 := (y 1).isLt
  exact ⟨y 0, ⟨(y 1).val / 128, by omega⟩, lan (y 1).val, Shape.idx_ext₂ rfl (by show (y 1).val = 128 * ((y 1).val / 128) + (y 1).val % 128; omega)⟩

/-- A column's head and lane. -/
theorem col_head (p e l : ℕ) (hl : l < 128) : (128 * (2 * p + e) + l) / 128 = 2 * p + e := by omega
theorem col_lane (p e : ℕ) (l : Fin 128) : lan (128 * (2 * p + e) + l.val) = l := Fin.ext (by show (128 * (2 * p + e) + l.val) % 128 = l.val; omega)

/-- Two arrays that agree at every row, head and lane are equal. -/
theorem arr_ext (f : ℕ → ℕ → EReal) (y : FVec Ideal S4096x2048 .bf16) (h : ∀ (R : Fin 4096) (e : Fin 16) (l : Fin 128), y (ix2 R ⟨128 * e.val + l.val, by omega⟩) = f R.val (128 * e.val + l.val)) : y = arr f := by
  funext i
  have h1 : (i 1).val < 2048 := (i 1).isLt
  have e : i = ix2 (i 0) (⟨128 * ((i 1).val / 128) + (i 1).val % 128, by omega⟩ : Fin 2048) := Shape.idx_ext₂ rfl (by show (i 1).val = 128 * ((i 1).val / 128) + (i 1).val % 128; omega)
  have g : 128 * ((i 1).val / 128) + (i 1).val % 128 = (i 1).val := by omega
  refine (congrArg y e).trans ((h (i 0) ⟨(i 1).val / 128, by omega⟩ (lan (i 1).val)).trans ?_)
  exact congrArg (f (i 0).val) g

theorem head_lane (e l : ℕ) (hl : l < 128) : (128 * e + l) / 128 = e := by omega
theorem lane_lane (e : ℕ) (l : Fin 128) : lan (128 * e + l.val) = l := Fin.ext (by show (128 * e + l.val) % 128 = l.val; omega)

end Cert.AttnBwdIdeal.Hand

end
-- ==== Proof.AttnHost.lean ====
module

public import proofs.«01_k».proof.Proof.AttnFrame
public import proofs.«01_k».proof.Proof.AttnHead
public import proofs.«01_k».proof.Proof.Gen.AttnBwdRefIdeal.Read
public import Idealize.ShloMosaic.Lib.Tactic
public import Idealize.ShloMosaic.Lib.StableHlo.RunHlo

@[expose] public section

set_option maxRecDepth 16384

noncomputable section

namespace Cert.AttnBwdIdeal.Hand

open Idealize.ShloMosaic Idealize.ShloMosaic.TcCoe Idealize.ShloMosaic.Tactic
open Cert.AttnBwdIdeal Cert.AttnBwdIdeal.Gen

variable {F : FTy → Type} [FloatOps F] (x0 : FVec F S4096x14336 .bf16)

/-! ## What the host prepares: the forward pass's total of each row, as functions of the projection -/

/-- The scaled queries, by heads. -/
def hostQ : FVec F S4096x16x128 .f32 :=
  mulf (shapeCast S4096x16x128 (extractStridedSlice S4096x2048 ![0, 2048] (extf .f32 x0 bitsLt_bf16_f32) slices_S4096x14336_S4096x2048_0_2048) shapeCasts_S4096x2048_S4096x16x128)
    (broadcastInDim S4096x16x128 ![] bcast_S_S4096x16x128 (constant S_ .f32 0x3DB504F3#32))
/-- The keys, by heads. -/
def hostK : FVec F S4096x16x128 .f32 :=
  shapeCast S4096x16x128 (extractStridedSlice S4096x2048 ![0, 4096] (extf .f32 x0 bitsLt_bf16_f32) slices_S4096x14336_S4096x2048_0_4096) shapeCasts_S4096x2048_S4096x16x128
/-- The scores, keys first. -/
def hostKQ : FVec F S16x4096x4096 .f32 := Host.dotGeneral dot_S4096x16x128_S4096x16x128_S16x4096x4096_2_2_0_0_1_1 none (hostK x0) (hostQ x0)
/-- The scores, by query row, head and key. -/
def hostZ : FVec F S4096x16x4096 .f32 := transpose S4096x16x4096 [2, 0, 1] (hostKQ x0) transposes_S16x4096x4096_S4096x16x4096_2_0_1
/-- The strict causal mask. -/
def hostMask : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The float zero, at every entry. -/
def hostZero : FVec F S4096x16x4096 .f32 := broadcastInDim S4096x16x4096 ![] bcast_S_S4096x16x4096 (constant S_ .f32 0x00000000#32)
/-- The softplus of the scores. -/
def hostSp : FVec F S4096x16x4096 .f32 :=
  select (cmpf .une (subf (hostZ x0) hostZero) (subf (hostZ x0) hostZero)) (addf (hostZ x0) hostZero)
    (addf (maximumf (hostZ x0) hostZero) (Host.log1p (Host.exp (Host.negf (Host.absf (subf (hostZ x0) hostZero))))))
/-- The row totals, as the kernel is given them: one value for the 128 lanes of a head. -/
def hostTot : FVec F S4096x16 .f32 :=
  Host.reduceAdd (select (broadcastInDim S4096x16x4096 ![0, 1, 2] bcast_S4096x1x4096_S4096x16x4096_0_1_2 (broadcastInDim S4096x1x4096 ![0, 2] bcast_S4096x4096_S4096x1x4096_0_2 hostMask))
    (hostSp x0) hostZero) (constant S_ .f32 0x00000000#32) reducesTo_S4096x16x4096_S4096x16_d2 h_S_

variable (m : (ℓ : Loc nD τ sig) → Buf (Elt F) ℓ) (c : Dev nD)

/-- The array of totals the kernel reads. -/
theorem V_v50 : V m c main_v50 = shapeCast S4096x2048 (broadcastInDim S4096x16x128 ![0, 1, 2] bcast_S4096x16x1_S4096x16x128_0_1_2
    (broadcastInDim S4096x16x1 ![0, 1] bcast_S4096x16_S4096x16x1_0_1 (hostTot (m ((c.tc : Thread nD τ).loc main_arg0))))) shapeCasts_S4096x16x128_S4096x2048 := by
  unfold V hostOps0 hostOps0_1 hostOps0_2 hostOps0_3 hostOps0_4 hostOps0_5 hostOps0_6 hostOps0_7 hostOps0_8 hostOps0_9 hostOps0_10 hostOps0_11 hostOps0_12 hostOps0_13
  simp only [List.flatten_cons, List.flatten_nil, List.cons_append, List.nil_append, List.append_nil]
  after_results
  all_goals rfl

/-- The saved output the kernel reads is the reference's forward output, rounded. -/
theorem V_v30 : V m c main_v30 = truncf .bf16 (Cert.AttnBwdRefIdeal.Read.val_main_v29 (m ((c.tc : Thread nD τ).loc main_arg0))) bitsLt_bf16_f32 := by
  unfold V hostOps0 hostOps0_1 hostOps0_2 hostOps0_3 hostOps0_4 hostOps0_5 hostOps0_6 hostOps0_7 hostOps0_8 hostOps0_9 hostOps0_10 hostOps0_11 hostOps0_12 hostOps0_13
  simp only [List.flatten_cons, List.flatten_nil, List.cons_append, List.nil_append, List.append_nil]
  after_results
  all_goals rfl

end Cert.AttnBwdIdeal.Hand

end
-- ==== Proof.AttnTot.lean ====
module

public import proofs.«01_k».proof.Proof.AttnRef
public import proofs.«01_k».proof.Proof.AttnHost

@[expose] public section

set_option maxRecDepth 16384

noncomputable section

namespace Cert.AttnBwdIdeal.Hand

open Idealize.ShloMosaic Idealize.ShloMosaic.TcCoe Idealize.ShloMosaic.Tactic
open Cert.AttnBwdIdeal Cert.AttnBwdIdeal.Gen Cert.Common

variable (x0 : FVec Ideal S4096x14336 .bf16) (x1 : FVec Ideal S4096x2048 .bf16) (R c : Fin 4096) (h : Fin 16) (l : Fin 128)

theorem hostQ_eq : hostQ (F := Ideal) x0 (ix3 R h l) = (headOf x0 x1 h).Q R l := v9_eq x0 x1 R h l
theorem hostK_eq : hostK (F := Ideal) x0 (ix3 R h l) = (headOf x0 x1 h).K R l := v6_eq x0 x1 R h l

theorem hostZ_eq : hostZ (F := Ideal) x0 (ix3 R h c) = (headOf x0 x1 h).z R c := by
  unfold hostZ hostKQ
  pointwise
  simp only [hostQ_eq x0 x1, hostK_eq x0 x1]
  exact Finset.sum_congr rfl fun l _ => mul_comm _ _

theorem hostSp_eq : hostSp (F := Ideal) x0 (ix3 R h c) = spl ((headOf x0 x1 h).z R c) := by
  rw [← hostZ_eq]
  unfold hostSp hostZero
  pointwise
  exact spl_host _

/-- The row totals the host hands over are the heads'. -/
theorem hostTot_eq : hostTot (F := Ideal) x0 (ix2 R h) = (headOf x0 x1 h).P R := by
  rw [P_eq]
  unfold Head.S Head.sp
  rw [Finset.sum_range]
  unfold hostTot
  pointwise
  refine Finset.sum_congr rfl fun k _ => ?_
  rw [hostSp_eq x0 x1]
  refine Eq.trans ?_ (v17_sel R k (spl ((headOf x0 x1 h).z R k)) 0)
  unfold hostZero
  pointwise
  rfl

variable (m : (ℓ : Loc nD τ sig) → Buf (Elt Ideal) ℓ) (d : Dev nD)

theorem tot_eq (x1 : FVec Ideal S4096x2048 .bf16) : (V m d main_v50 : FVec Ideal S4096x2048 .f32) (ix2 R ⟨128 * h.val + l.val, by omega⟩) = (headOf (m ((d.tc : Thread nD τ).loc main_arg0)) x1 h).P R := by
  rw [V_v50, ← hostTot_eq]
  pointwise

end Cert.AttnBwdIdeal.Hand

end
-- ==== Proof.AttnArrays.lean ====
module

public import proofs.«01_k».proof.Proof.AttnTot
public import proofs.«01_k».proof.Proof.AttnTile

@[expose] public section

set_option maxRecDepth 16384

noncomputable section

namespace Cert.AttnBwdIdeal.Hand

open Idealize.ShloMosaic Idealize.ShloMosaic.TcCoe Idealize.ShloMosaic.Tactic
open Cert.AttnBwdIdeal Cert.AttnBwdIdeal.Gen Cert.Common

/-- The printed index maps over the points. -/
theorem idx_facts : ∀ t : Fin cfg0.N, win0_0.index t = ![t.val % 8, 8 + t.val / 8] ∧ win0_1.index t = ![0, 16 + t.val / 8] ∧ win0_2.index t = ![0, 24 + t.val / 8]
    ∧ win0_3.index t = ![t.val % 8, 32 + t.val / 8] ∧ win0_4.index t = ![t.val % 8, t.val / 8] ∧ win0_5.index t = ![t.val % 8, t.val / 8] ∧ win0_6.index t = ![t.val % 8, t.val / 8]
    ∧ win0_7.index t = ![t.val % 8, t.val / 8] ∧ win0_8.index t = ![0, t.val / 8] ∧ win0_9.index t = ![0, t.val / 8] ∧ win0_10.index t = ![t.val % 8, t.val / 8] :=
  (by decide +kernel : ∀ t : Fin grid0.N, win0_0.index t = ![t.val % 8, 8 + t.val / 8] ∧ win0_1.index t = ![0, 16 + t.val / 8] ∧ win0_2.index t = ![0, 24 + t.val / 8]
    ∧ win0_3.index t = ![t.val % 8, 32 + t.val / 8] ∧ win0_4.index t = ![t.val % 8, t.val / 8] ∧ win0_5.index t = ![t.val % 8, t.val / 8] ∧ win0_6.index t = ![t.val % 8, t.val / 8]
    ∧ win0_7.index t = ![t.val % 8, t.val / 8] ∧ win0_8.index t = ![0, t.val / 8] ∧ win0_9.index t = ![0, t.val / 8] ∧ win0_10.index t = ![t.val % 8, t.val / 8])

theorem N64 (t : Fin cfg0.N) : t.val < 64 := lt_of_lt_of_eq t.isLt N_0

variable (m : (ℓ : Loc nD τ sig) → Buf (Elt Ideal) ℓ) (d : Dev nD)

/-- The projection and the cotangent. -/
abbrev X0 : FVec Ideal S4096x14336 .bf16 := m ((d.tc : Thread nD τ).loc main_arg0)
abbrev X1 : FVec Ideal S4096x2048 .bf16 := m ((d.tc : Thread nD τ).loc main_arg1)

/-- The two heads of a point. -/
def pair (t : Fin cfg0.N) (e : Fin 2) : Head := headOf (X0 m d) (X1 m d) (2 * (t.val / 8) + e.val)

section Blocks
variable (t : Fin cfg0.N)

theorem blk0 (r : Fin 512) (e : Fin 2) (l : Fin 128) : (iblk m d 0 t : FVec Ideal S512x256 .bf16) (ix2 r (lane e l)) = ent (X0 m d) (512 * (t.val % 8) + r.val) (2048 + 128 * (2 * (t.val / 8) + e.val) + l.val) := by
  unfold iblk
  rw [View.read_apply]
  show V m d main_arg0 _ = _
  rw [V_main_arg0]
  have hi := (idx_facts t).1
  refine (ent_at (X0 m d) _).trans (congrArg₂ (ent _) ?_ ?_)
  · show win0_0.index t 0 * 512 + 1 * r.val = 512 * (t.val % 8) + r.val
    rw [hi]; show t.val % 8 * 512 + 1 * r.val = 512 * (t.val % 8) + r.val; omega
  · show win0_0.index t 1 * 256 + 1 * (128 * e.val + l.val) = 2048 + 128 * (2 * (t.val / 8) + e.val) + l.val
    rw [hi]; show (8 + t.val / 8) * 256 + 1 * (128 * e.val + l.val) = 2048 + 128 * (2 * (t.val / 8) + e.val) + l.val; omega

theorem blk1 (R : Fin 4096) (e : Fin 2) (l : Fin 128) : (iblk m d 1 t : FVec Ideal S4096x256 .bf16) (ix2 R (lane e l)) = ent (X0 m d) (R.val) (4096 + 128 * (2 * (t.val / 8) + e.val) + l.val) := by
  unfold iblk
  rw [View.read_apply]
  show V m d main_arg0 _ = _
  rw [V_main_arg0]
  have hi := (idx_facts t).2.1
  refine (ent_at (X0 m d) _).trans (congrArg₂ (ent _) ?_ ?_)
  · show win0_1.index t 0 * 4096 + 1 * R.val = R.val
    rw [hi]; show 0 * 4096 + 1 * R.val = R.val; omega
  · show win0_1.index t 1 * 256 + 1 * (128 * e.val + l.val) = 4096 + 128 * (2 * (t.val / 8) + e.val) + l.val
    rw [hi]; show (16 + t.val / 8) * 256 + 1 * (128 * e.val + l.val) = 4096 + 128 * (2 * (t.val / 8) + e.val) + l.val; omega

theorem blk2 (R : Fin 4096) (e : Fin 2) (l : Fin 128) : (iblk m d 2 t : FVec Ideal S4096x256 .bf16) (ix2 R (lane e l)) = ent (X0 m d) (R.val) (6144 + 128 * (2 * (t.val / 8) + e.val) + l.val) := by
  unfold iblk
  rw [View.read_apply]
  show V m d main_arg0 _ = _
  rw [V_main_arg0]
  have hi := (idx_facts t).2.2.1
  refine (ent_at (X0 m d) _).trans (congrArg₂ (ent _) ?_ ?_)
  · show win0_2.index t 0 * 4096 + 1 * R.val = R.val
    rw [hi]; show 0 * 4096 + 1 * R.val = R.val; omega
  · show win0_2.index t 1 * 256 + 1 * (128 * e.val + l.val) = 6144 + 128 * (2 * (t.val / 8) + e.val) + l.val
    rw [hi]; show (24 + t.val / 8) * 256 + 1 * (128 * e.val + l.val) = 6144 + 128 * (2 * (t.val / 8) + e.val) + l.val; omega

theorem blk3 (r : Fin 512) (e : Fin 2) (l : Fin 128) : (iblk m d 3 t : FVec Ideal S512x256 .bf16) (ix2 r (lane e l)) = ent (X0 m d) (512 * (t.val % 8) + r.val) (8192 + 128 * (2 * (t.val / 8) + e.val) + l.val) := by
  unfold iblk
  rw [View.read_apply]
  show V m d main_arg0 _ = _
  rw [V_main_arg0]
  have hi := (idx_facts t).2.2.2.1
  refine (ent_at (X0 m d) _).trans (congrArg₂ (ent _) ?_ ?_)
  · show win0_3.index t 0 * 512 + 1 * r.val = 512 * (t.val % 8) + r.val
    rw [hi]; show t.val % 8 * 512 + 1 * r.val = 512 * (t.val % 8) + r.val; omega
  · show win0_3.index t 1 * 256 + 1 * (128 * e.val + l.val) = 8192 + 128 * (2 * (t.val / 8) + e.val) + l.val
    rw [hi]; show (32 + t.val / 8) * 256 + 1 * (128 * e.val + l.val) = 8192 + 128 * (2 * (t.val / 8) + e.val) + l.val; omega

theorem blk4 (r : Fin 512) (e : Fin 2) (l : Fin 128) : (iblk m d 4 t : FVec Ideal S512x256 .bf16) (ix2 r (lane e l)) = ent (V m d main_v30 : FVec Ideal S4096x2048 .bf16) (512 * (t.val % 8) + r.val) (128 * (2 * (t.val / 8) + e.val) + l.val) := by
  unfold iblk
  rw [View.read_apply]
  show V m d main_v30 _ = _
  have hi := (idx_facts t).2.2.2.2.1
  refine (ent_at (V m d main_v30 : FVec Ideal S4096x2048 .bf16) _).trans (congrArg₂ (ent _) ?_ ?_)
  · show win0_4.index t 0 * 512 + 1 * r.val = 512 * (t.val % 8) + r.val
    rw [hi]; show t.val % 8 * 512 + 1 * r.val = 512 * (t.val % 8) + r.val; omega
  · show win0_4.index t 1 * 256 + 1 * (128 * e.val + l.val) = 128 * (2 * (t.val / 8) + e.val) + l.val
    rw [hi]; show (t.val / 8) * 256 + 1 * (128 * e.val + l.val) = 128 * (2 * (t.val / 8) + e.val) + l.val; omega

theorem blk5 (r : Fin 512) (e : Fin 2) (l : Fin 128) : (iblk m d 5 t : FVec Ideal S512x256 .f32) (ix2 r (lane e l)) = ent (V m d main_v50 : FVec Ideal S4096x2048 .f32) (512 * (t.val % 8) + r.val) (128 * (2 * (t.val / 8) + e.val) + l.val) := by
  unfold iblk
  rw [View.read_apply]
  show V m d main_v50 _ = _
  have hi := (idx_facts t).2.2.2.2.2.1
  refine (ent_at (V m d main_v50 : FVec Ideal S4096x2048 .f32) _).trans (congrArg₂ (ent _) ?_ ?_)
  · show win0_5.index t 0 * 512 + 1 * r.val = 512 * (t.val % 8) + r.val
    rw [hi]; show t.val % 8 * 512 + 1 * r.val = 512 * (t.val % 8) + r.val; omega
  · show win0_5.index t 1 * 256 + 1 * (128 * e.val + l.val) = 128 * (2 * (t.val / 8) + e.val) + l.val
    rw [hi]; show (t.val / 8) * 256 + 1 * (128 * e.val + l.val) = 128 * (2 * (t.val / 8) + e.val) + l.val; omega

theorem blk6 (r : Fin 512) (e : Fin 2) (l : Fin 128) : (iblk m d 6 t : FVec Ideal S512x256 .bf16) (ix2 r (lane e l)) = ent (X1 m d) (512 * (t.val % 8) + r.val) (128 * (2 * (t.val / 8) + e.val) + l.val) := by
  unfold iblk
  rw [View.read_apply]
  show V m d main_arg1 _ = _
  rw [V_main_arg1]
  have hi := (idx_facts t).2.2.2.2.2.2.1
  refine (ent_at (X1 m d) _).trans (congrArg₂ (ent _) ?_ ?_)
  · show win0_6.index t 0 * 512 + 1 * r.val = 512 * (t.val % 8) + r.val
    rw [hi]; show t.val % 8 * 512 + 1 * r.val = 512 * (t.val % 8) + r.val; omega
  · show win0_6.index t 1 * 256 + 1 * (128 * e.val + l.val) = 128 * (2 * (t.val / 8) + e.val) + l.val
    rw [hi]; show (t.val / 8) * 256 + 1 * (128 * e.val + l.val) = 128 * (2 * (t.val / 8) + e.val) + l.val; omega

theorem keys_ok : KeysOk (pair m d t) (iblk m d 1 t) (iblk m d 2 t) where
  hk e R l := blk1 m d t R e l
  hv e R l := blk2 m d t R e l

/-- The tiles of a point: queries, gates, cotangents. -/
abbrev tq : FVec Ideal S512x256 .bf16 := iblk m d 0 t
abbrev tz : FVec Ideal S512x256 .bf16 := iblk m d 3 t
abbrev ty : FVec Ideal S512x256 .bf16 := iblk m d 6 t

theorem query_ok (e : Fin 2) (r : Fin 512) (l : Fin 128) : tq m d t (ix2 r (lane e l)) * Ideal.ofBits .f32 0x3DB504F3#32 = (pair m d t e).Q (512 * tile t + r.val) l := by
  rw [tile_eq]; exact congrArg (· * qs) (blk0 m d t r e l)

theorem cot_ok (e : Fin 2) (r : Fin 512) (l : Fin 128) : ty m d t (ix2 r (lane e l))
    * (tz m d t (ix2 r (lane e l)) * sg (tz m d t (ix2 r (lane e l)))) = (pair m d t e).D (512 * tile t + r.val) l := by
  rw [tile_eq]; exact congrArg₂ (fun y z : EReal => y * (z * sg z)) (blk6 m d t r e l) (blk3 m d t r e l)

theorem total_ok (e : Fin 2) (r : Fin 512) (l : Fin 128) : (iblk m d 5 t : FVec Ideal S512x256 .f32) (ix2 r (lane e l)) = (pair m d t e).P (512 * tile t + r.val) := by
  have ht := N64 t
  rw [tile_eq, blk5 m d t r e l, ent_eq _ _ _ (by omega) (by omega)]
  exact tot_eq ⟨512 * (t.val % 8) + r.val, by omega⟩ ⟨2 * (t.val / 8) + e.val, by omega⟩ l m d (X1 m d)

theorem tile_lt : tile t < 8 := by rw [tile_eq]; omega

end Blocks

/-! ## The accumulators over the grid -/

/-- Sums restarted every eighth step. -/
theorem restart (f : ℕ → ℕ → EReal) (S : (n : ℕ) → n ≤ cfg0.N → EReal)
    (h : ∀ n (hn : n < cfg0.N), S (n + 1) hn = (if n % 8 = 0 then 0 else S n (Nat.le_of_lt hn)) + ∑ r : Fin 512, f (n / 8) (512 * (n % 8) + r.val)) :
    ∀ n (hn : n < cfg0.N), S (n + 1) hn = ∑ r ∈ Finset.range (512 * (n % 8) + 512), f (n / 8) r
  | 0, hn => by
    rw [h 0 hn, if_pos rfl, zero_add, Finset.sum_range]; simp
  | n + 1, hn => by
    rw [h (n + 1) hn, ← more]
    congr 1
    split
    · rename_i h0; rw [h0]; simp
    · rw [restart f S h n (by omega), show n / 8 = (n + 1) / 8 by omega, show 512 * (n % 8) + 512 = 512 * ((n + 1) % 8) by omega]

theorem accK_all (R : Fin 4096) (e : Fin 2) (l : Fin 128) (t : Fin cfg0.N) : (acc m d (t.val + 1) t.isLt).1 (ix2 R (lane e l))
    = ∑ r ∈ Finset.range (512 * (t.val % 8) + 512), (pair m d t e).dz r R.val * (pair m d t e).Q r l := by
  refine restart (fun p r => (headOf (X0 m d) (X1 m d) (2 * p + e.val)).dz r R.val * (headOf (X0 m d) (X1 m d) (2 * p + e.val)).Q r l)
    (fun n hn => (acc m d n hn).1 (ix2 R (lane e l))) (fun n hn => ?_) t.val t.isLt
  refine (accK_eq (pair m d ⟨n, hn⟩) (tile ⟨n, hn⟩) (tile_lt _) _ _ _ _ _ _ (keys_ok m d ⟨n, hn⟩) (query_ok m d ⟨n, hn⟩) (cot_ok m d ⟨n, hn⟩) (total_ok m d ⟨n, hn⟩) _ _ e R l).trans ?_
  rw [tile_eq]; rfl

theorem accV_all (R : Fin 4096) (e : Fin 2) (l : Fin 128) (t : Fin cfg0.N) : (acc m d (t.val + 1) t.isLt).2 (ix2 R (lane e l))
    = ∑ r ∈ Finset.range (512 * (t.val % 8) + 512), (pair m d t e).a r R.val * (pair m d t e).D r l := by
  refine restart (fun p r => (headOf (X0 m d) (X1 m d) (2 * p + e.val)).a r R.val * (headOf (X0 m d) (X1 m d) (2 * p + e.val)).D r l)
    (fun n hn => (acc m d n hn).2 (ix2 R (lane e l))) (fun n hn => ?_) t.val t.isLt
  refine (accV_eq (pair m d ⟨n, hn⟩) (tile ⟨n, hn⟩) (tile_lt _) _ _ _ _ _ _ (keys_ok m d ⟨n, hn⟩) (query_ok m d ⟨n, hn⟩) (cot_ok m d ⟨n, hn⟩) (total_ok m d ⟨n, hn⟩) _ _ e R l).trans ?_
  rw [tile_eq]; rfl

/-! ## The final arrays -/

/-- The four gradients as arrays. -/
def dqN (x0 : FVec Ideal S4096x14336 .bf16) (x1 : FVec Ideal S4096x2048 .bf16) (R C : ℕ) : EReal := (headOf x0 x1 (C / 128)).dq R R (lan C) * qs
def dkN (x0 : FVec Ideal S4096x14336 .bf16) (x1 : FVec Ideal S4096x2048 .bf16) (R C : ℕ) : EReal := ∑ r ∈ Finset.range 4096, (headOf x0 x1 (C / 128)).dz r R * (headOf x0 x1 (C / 128)).Q r (lan C)
def dvN (x0 : FVec Ideal S4096x14336 .bf16) (x1 : FVec Ideal S4096x2048 .bf16) (R C : ℕ) : EReal := ∑ r ∈ Finset.range 4096, (headOf x0 x1 (C / 128)).a r R * (headOf x0 x1 (C / 128)).D r (lan C)
def dzN (x0 : FVec Ideal S4096x14336 .bf16) (x1 : FVec Ideal S4096x2048 .bf16) (R C : ℕ) : EReal := ent x1 R C * ent (Cert.AttnBwdRefIdeal.Read.val_main_v29 (F := Ideal) x0) R C * (sg (ent x0 R (8192 + C)) * (1 + ent x0 R (8192 + C) * (1 - sg (ent x0 R (8192 + C)))))

theorem final7 : (data m 0 d).arrAt 7 cfg0.N = arr (dqN (X0 m d) (X1 m d)) := by
  refine (data m 0 d).arrAt_eq_of_cover 7 _ (fun t hf => ?_) fun i => ?_
  · have ht := N64 t
    have hi := (idx_facts t).2.2.2.2.2.2.2.1
    show (cfg0.win 7).cut (grid0.coords t) ((data m 0 d).after 7 t) = _
    rw [a7]
    funext y
    rw [View.read_apply]
    obtain ⟨r, e, l, rfl⟩ := split_idx (n := 512) y
    have hr : ((((cfg0.win 7).blk t).view.emb (ix2 r (lane e l)) : S4096x2048.Idx) 0).val = 512 * (t.val % 8) + r.val := by
      show win0_7.index t 0 * 512 + 1 * r.val = 512 * (t.val % 8) + r.val
      rw [hi]; show t.val % 8 * 512 + 1 * r.val = 512 * (t.val % 8) + r.val; omega
    have hc : ((((cfg0.win 7).blk t).view.emb (ix2 r (lane e l)) : S4096x2048.Idx) 1).val = 128 * (2 * (t.val / 8) + e.val) + l.val := by
      show win0_7.index t 1 * 256 + 1 * (128 * e.val + l.val) = 128 * (2 * (t.val / 8) + e.val) + l.val
      rw [hi]; show t.val / 8 * 256 + 1 * (128 * e.val + l.val) = 128 * (2 * (t.val / 8) + e.val) + l.val; omega
    show _ = arr (dqN (X0 m d) (X1 m d)) (((cfg0.win 7).blk t).view.emb (ix2 r (lane e l)))
    unfold arr
    rw [hr, hc]
    unfold dqN
    rw [col_head _ _ _ l.isLt, col_lane]
    refine (outQ_eq (pair m d t) (tile t) (tile_lt t) _ _ _ _ _ _ (keys_ok m d t) (query_ok m d t) (cot_ok m d t) (total_ok m d t) _ _ e r l).trans ?_
    rw [tile_eq]; rfl
  · have hN : cfg0.N = 64 := N_0
    have hi0 : (i 0 : ℕ) < 4096 := (i 0).isLt
    have hi1 : (i 1 : ℕ) < 2048 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_7 t, ?_⟩
    show i ∈ ((View.whole main_v51_0).slice (win0_7.rect t)).set
    rw [View.set_slice_whole, Rect.mem_set_unit]
    have hi := (idx_facts t).2.2.2.2.2.2.2.1
    intro a
    match a with
    | ⟨0, _⟩ =>
      show win0_7.index t 0 * 512 ≤ (i 0 : ℕ) ∧ (i 0 : ℕ) < win0_7.index t 0 * 512 + 512
      rw [hi]; show t.val % 8 * 512 ≤ (i 0 : ℕ) ∧ (i 0 : ℕ) < t.val % 8 * 512 + 512; omega
    | ⟨1, _⟩ =>
      show win0_7.index t 1 * 256 ≤ (i 1 : ℕ) ∧ (i 1 : ℕ) < win0_7.index t 1 * 256 + 256
      rw [hi]; show t.val / 8 * 256 ≤ (i 1 : ℕ) ∧ (i 1 : ℕ) < t.val / 8 * 256 + 256; omega

theorem final8 : (data m 0 d).arrAt 8 cfg0.N = arr (dkN (X0 m d) (X1 m d)) := by
  refine (data m 0 d).arrAt_eq_of_cover 8 _ (fun t hf => ?_) fun i => ?_
  · have ht := N64 t
    have hi := (idx_facts t).2.2.2.2.2.2.2.2.1
    show (cfg0.win 8).cut (grid0.coords t) ((data m 0 d).after 8 t) = _
    rw [a8]
    funext y
    rw [View.read_apply]
    obtain ⟨r, e, l, rfl⟩ := split_idx (n := 4096) y
    have hr : ((((cfg0.win 8).blk t).view.emb (ix2 r (lane e l)) : S4096x2048.Idx) 0).val = r.val := by
      show win0_8.index t 0 * 4096 + 1 * r.val = r.val
      rw [hi]; show 0 * 4096 + 1 * r.val = r.val; omega
    have hc : ((((cfg0.win 8).blk t).view.emb (ix2 r (lane e l)) : S4096x2048.Idx) 1).val = 128 * (2 * (t.val / 8) + e.val) + l.val := by
      show win0_8.index t 1 * 256 + 1 * (128 * e.val + l.val) = 128 * (2 * (t.val / 8) + e.val) + l.val
      rw [hi]; show t.val / 8 * 256 + 1 * (128 * e.val + l.val) = 128 * (2 * (t.val / 8) + e.val) + l.val; omega
    show _ = arr (dkN (X0 m d) (X1 m d)) (((cfg0.win 8).blk t).view.emb (ix2 r (lane e l)))
    unfold arr
    rw [hr, hc]
    unfold dkN
    rw [col_head _ _ _ l.isLt, col_lane]
    show k0_pay4 (F := Ideal) _ (ix2 r (lane e l)) = _
    have h7 : t.val % 8 = 7 := (flush0_8 t).mp hf
    rw [pay4_apply, accK_all, h7]; rfl
  · have hN : cfg0.N = 64 := N_0
    have hi0 : (i 0 : ℕ) < 4096 := (i 0).isLt
    have hi1 : (i 1 : ℕ) < 2048 := (i 1).isLt
    obtain ⟨t, ht⟩ : ∃ t : Fin cfg0.N, t.val = 8 * ((i 1 : ℕ) / 256) + 7 := ⟨⟨8 * ((i 1 : ℕ) / 256) + 7, by omega⟩, rfl⟩
    refine ⟨t, (flush0_8 t).mpr (by omega), ?_⟩
    show i ∈ ((View.whole main_v51_1).slice (win0_8.rect t)).set
    rw [View.set_slice_whole, Rect.mem_set_unit]
    have hi := (idx_facts t).2.2.2.2.2.2.2.2.1
    intro a
    match a with
    | ⟨0, _⟩ =>
      show win0_8.index t 0 * 4096 ≤ (i 0 : ℕ) ∧ (i 0 : ℕ) < win0_8.index t 0 * 4096 + 4096
      rw [hi]; show 0 * 4096 ≤ (i 0 : ℕ) ∧ (i 0 : ℕ) < 0 * 4096 + 4096; omega
    | ⟨1, _⟩ =>
      show win0_8.index t 1 * 256 ≤ (i 1 : ℕ) ∧ (i 1 : ℕ) < win0_8.index t 1 * 256 + 256
      rw [hi]; show t.val / 8 * 256 ≤ (i 1 : ℕ) ∧ (i 1 : ℕ) < t.val / 8 * 256 + 256; omega

theorem final9 : (data m 0 d).arrAt 9 cfg0.N = arr (dvN (X0 m d) (X1 m d)) := by
  refine (data m 0 d).arrAt_eq_of_cover 9 _ (fun t hf => ?_) fun i => ?_
  · have ht := N64 t
    have hi := (idx_facts t).2.2.2.2.2.2.2.2.2.1
    show (cfg0.win 9).cut (grid0.coords t) ((data m 0 d).after 9 t) = _
    rw [a9]
    funext y
    rw [View.read_apply]
    obtain ⟨r, e, l, rfl⟩ := split_idx (n := 4096) y
    have hr : ((((cfg0.win 9).blk t).view.emb (ix2 r (lane e l)) : S4096x2048.Idx) 0).val = r.val := by
      show win0_9.index t 0 * 4096 + 1 * r.val = r.val
      rw [hi]; show 0 * 4096 + 1 * r.val = r.val; omega
    have hc : ((((cfg0.win 9).blk t).view.emb (ix2 r (lane e l)) : S4096x2048.Idx) 1).val = 128 * (2 * (t.val / 8) + e.val) + l.val := by
      show win0_9.index t 1 * 256 + 1 * (128 * e.val + l.val) = 128 * (2 * (t.val / 8) + e.val) + l.val
      rw [hi]; show t.val / 8 * 256 + 1 * (128 * e.val + l.val) = 128 * (2 * (t.val / 8) + e.val) + l.val; omega
    show _ = arr (dvN (X0 m d) (X1 m d)) (((cfg0.win 9).blk t).view.emb (ix2 r (lane e l)))
    unfold arr
    rw [hr, hc]
    unfold dvN
    rw [col_head _ _ _ l.isLt, col_lane]
    show k0_pay5 (F := Ideal) _ (ix2 r (lane e l)) = _
    have h7 : t.val % 8 = 7 := (flush0_9 t).mp hf
    rw [pay5_apply, accV_all, h7]; rfl
  · have hN : cfg0.N = 64 := N_0
    have hi0 : (i 0 : ℕ) < 4096 := (i 0).isLt
    have hi1 : (i 1 : ℕ) < 2048 := (i 1).isLt
    obtain ⟨t, ht⟩ : ∃ t : Fin cfg0.N, t.val = 8 * ((i 1 : ℕ) / 256) + 7 := ⟨⟨8 * ((i 1 : ℕ) / 256) + 7, by omega⟩, rfl⟩
    refine ⟨t, (flush0_9 t).mpr (by omega), ?_⟩
    show i ∈ ((View.whole main_v51_2).slice (win0_9.rect t)).set
    rw [View.set_slice_whole, Rect.mem_set_unit]
    have hi := (idx_facts t).2.2.2.2.2.2.2.2.2.1
    intro a
    match a with
    | ⟨0, _⟩ =>
      show win0_9.index t 0 * 4096 ≤ (i 0 : ℕ) ∧ (i 0 : ℕ) < win0_9.index t 0 * 4096 + 4096
      rw [hi]; show 0 * 4096 ≤ (i 0 : ℕ) ∧ (i 0 : ℕ) < 0 * 4096 + 4096; omega
    | ⟨1, _⟩ =>
      show win0_9.index t 1 * 256 ≤ (i 1 : ℕ) ∧ (i 1 : ℕ) < win0_9.index t 1 * 256 + 256
      rw [hi]; show t.val / 8 * 256 ≤ (i 1 : ℕ) ∧ (i 1 : ℕ) < t.val / 8 * 256 + 256; omega

theorem final10 : (data m 0 d).arrAt 10 cfg0.N = arr (dzN (X0 m d) (X1 m d)) := by
  refine (data m 0 d).arrAt_eq_of_cover 10 _ (fun t hf => ?_) fun i => ?_
  · have ht := N64 t
    have hi := (idx_facts t).2.2.2.2.2.2.2.2.2.2
    show (cfg0.win 10).cut (grid0.coords t) ((data m 0 d).after 10 t) = _
    rw [a10]
    funext y
    rw [View.read_apply]
    obtain ⟨r, e, l, rfl⟩ := split_idx (n := 512) y
    have hr : ((((cfg0.win 10).blk t).view.emb (ix2 r (lane e l)) : S4096x2048.Idx) 0).val = 512 * (t.val % 8) + r.val := by
      show win0_10.index t 0 * 512 + 1 * r.val = 512 * (t.val % 8) + r.val
      rw [hi]; show t.val % 8 * 512 + 1 * r.val = 512 * (t.val % 8) + r.val; omega
    have hc : ((((cfg0.win 10).blk t).view.emb (ix2 r (lane e l)) : S4096x2048.Idx) 1).val = 128 * (2 * (t.val / 8) + e.val) + l.val := by
      show win0_10.index t 1 * 256 + 1 * (128 * e.val + l.val) = 128 * (2 * (t.val / 8) + e.val) + l.val
      rw [hi]; show t.val / 8 * 256 + 1 * (128 * e.val + l.val) = 128 * (2 * (t.val / 8) + e.val) + l.val; omega
    show _ = arr (dzN (X0 m d) (X1 m d)) (((cfg0.win 10).blk t).view.emb (ix2 r (lane e l)))
    unfold arr
    rw [hr, hc]
    unfold dzN
    refine (outZ_eq _ _ _ e r l).trans ?_
    rw [blk6, blk3, blk4, V_v30, show 8192 + 128 * (2 * (t.val / 8) + e.val) + l.val = 8192 + (128 * (2 * (t.val / 8) + e.val) + l.val) by omega]
    rfl
  · have hN : cfg0.N = 64 := N_0
    have hi0 : (i 0 : ℕ) < 4096 := (i 0).isLt
    have hi1 : (i 1 : ℕ) < 2048 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_10 t, ?_⟩
    show i ∈ ((View.whole main_v51_3).slice (win0_10.rect t)).set
    rw [View.set_slice_whole, Rect.mem_set_unit]
    have hi := (idx_facts t).2.2.2.2.2.2.2.2.2.2
    intro a
    match a with
    | ⟨0, _⟩ =>
      show win0_10.index t 0 * 512 ≤ (i 0 : ℕ) ∧ (i 0 : ℕ) < win0_10.index t 0 * 512 + 512
      rw [hi]; show t.val % 8 * 512 ≤ (i 0 : ℕ) ∧ (i 0 : ℕ) < t.val % 8 * 512 + 512; omega
    | ⟨1, _⟩ =>
      show win0_10.index t 1 * 256 ≤ (i 1 : ℕ) ∧ (i 1 : ℕ) < win0_10.index t 1 * 256 + 256
      rw [hi]; show t.val / 8 * 256 ≤ (i 1 : ℕ) ∧ (i 1 : ℕ) < t.val / 8 * 256 + 256; omega

end Cert.AttnBwdIdeal.Hand

end
-- ==== Proof.Finite.lean ====
module

public import proofs.«01_k».proof.Proof.Reals
public import Idealize.ShloMosaic.Lib.ReduceAll

@[expose] public section

set_option maxRecDepth 16384

noncomputable section

namespace Cert.Common

open Idealize.ShloMosaic Idealize.ShloMosaic.Tactic

/-- A number of absolute value below infinity is real. -/
theorem isR_of_abs (x : EReal) (h : max x (-x) < ⊤) : IsR x := by
  induction x with
  | bot => simp at h
  | top => simp at h
  | coe r => exact ⟨r, rfl⟩

/-- Both of two bits whose conjunction is set. -/
theorem and_one {a b : BitVec 1} (h : a &&& b = 1#1) : a = 1#1 ∧ b = 1#1 := by
  revert a b; decide

/-- An array whose entries all compare below infinity holds real numbers. -/
theorem real_of_reduce {s t u : Shape} {axes : List (Fin s.rank)} [Subsingleton t.Idx] (x : FVec Ideal s .f32) (bc : FVec Ideal s .f32) (hbc : ∀ i, bc i = Ideal.ofBits .f32 0x7F800000#32)
    (init : u.Idx → BitVec 1) (h : s.ReducesTo axes t) (hu : 0 < u.numel) (j : t.Idx)
    (e : Host.reduce IntOp.andi (cmpf .olt (Host.absf x) bc) init h hu j = 1#1) (i : s.Idx) : IsR (x i) := by
  have h1 : Ideal.cmp .olt (max (x i) (-(x i))) (bc i) = 1#1 := Host.reduce_andi_all _ _ h hu j e i
  have h2 : max (x i) (-(x i)) < bc i := by
    by_contra hn
    simp [Ideal.cmp, hn] at h1
  rw [hbc, show Ideal.ofBits .f32 0x7F800000#32 = (⊤ : EReal) by simp [Ideal.ofBits, Ideal.ieee]] at h2
  exact isR_of_abs _ h2

/-- A scalar has one index. -/
instance scalar_sub : Subsingleton (⟨0, ![]⟩ : Shape).Idx := ⟨fun a b => funext fun i => i.elim0⟩

end Cert.Common

end
-- ==== Proof.AttnValue.lean ====
module

public import proofs.«01_k».proof.Proof.AttnArrays
public import proofs.«01_k».proof.Proof.Finite
public import proofs.«01_k».proof.Proof.Gen.AttnBwdRefIdeal.Run
public import proofs.«01_k».proof.Proof.Gen.Pre_finite_att
public import proofs.«01_k».proof.Defs

@[expose] public section

set_option maxRecDepth 16384

noncomputable section

namespace Cert.AttnBwdIdeal.Hand

open Idealize.ShloMosaic Idealize.ShloMosaic.TcCoe Idealize.ShloMosaic.Tactic Idealize.SL.Sem
open Cert.AttnBwdIdeal Cert.AttnBwdIdeal.Gen Cert.Common

/-- Finite arguments are real numbers. -/
theorem finite_args (x0 : FVec Ideal S4096x14336 .bf16) (x1 : FVec Ideal S4096x2048 .bf16) (h : Cert.Pre_finite_att.fn (F := Ideal) x0 x1 = fun _ => 1#1) :
    (∀ i, IsR (x0 i)) ∧ ∀ i, IsR (x1 i) := by
  have h0 := congrFun h ix0
  unfold Cert.Pre_finite_att.fn at h0
  have h1 := and_one h0
  exact ⟨fun i => real_of_reduce (extf .f32 x0 bitsLt_bf16_f32) _ (fun _ => rfl) _ _ _ _ h1.1 i, fun i => real_of_reduce (extf .f32 x1 bitsLt_bf16_f32) _ (fun _ => rfl) _ _ _ _ h1.2 i⟩

section Ref
variable (x0 : FVec Ideal S4096x14336 .bf16) (x1 : FVec Ideal S4096x2048 .bf16) (f0 : ∀ i, IsR (x0 i)) (f1 : ∀ i, IsR (x1 i))

include f0 f1 in
/-- The reference's query gradient. -/
theorem ref_q : Cert.AttnBwdRefIdeal.Read.val_main_v60 (F := Ideal) x0 x1 = arr (dqN x0 x1) := arr_ext _ _ fun R e l => by
  unfold dqN
  rw [v60_eq x0 x1 R e l f0 f1, head_lane _ _ l.isLt, lane_lane]
include f0 f1 in
/-- The reference's key gradient. -/
theorem ref_k : Cert.AttnBwdRefIdeal.Read.val_main_v61 (F := Ideal) x0 x1 = arr (dkN x0 x1) := arr_ext _ _ fun R e l => by
  unfold dkN
  rw [v61_eq x0 x1 R e l f0 f1, head_lane _ _ l.isLt, lane_lane]
include f0 f1 in
/-- The reference's value gradient. -/
theorem ref_v : Cert.AttnBwdRefIdeal.Read.val_main_v62 (F := Ideal) x0 x1 = arr (dvN x0 x1) := arr_ext _ _ fun R e l => by
  unfold dvN
  rw [v62_eq x0 x1 R e l f0 f1, head_lane _ _ l.isLt, lane_lane]
include f0 f1 in
/-- The reference's gate gradient. -/
theorem ref_z : Cert.AttnBwdRefIdeal.Read.val_main_v63 (F := Ideal) x0 x1 = arr (dzN x0 x1) := arr_ext _ _ fun R e l => by
  unfold dzN
  rw [v63_eq x0 x1 R f0 f1, ent_eq x1 _ _ R.isLt (by omega), ent_eq (Cert.AttnBwdRefIdeal.Read.val_main_v29 (F := Ideal) x0) _ _ R.isLt (by omega)]

end Ref

end Cert.AttnBwdIdeal.Hand

namespace Cert.Proof

open Idealize.ShloMosaic Idealize.ShloMosaic.TcCoe Idealize.SL.Sem
open Cert.AttnBwdIdeal Cert.AttnBwdIdeal.Gen Cert.AttnBwdIdeal.Hand

/-- The attention's gradients: the kernel's four arrays are the reference's, of finite arguments. -/
theorem attn_bwd : Cert.algebraic_AttnBwdIdeal_AttnBwdRefIdeal_pre_finite_att := by
  intro m g m' g' hpre hagree
  refine ⟨fun d => arr (dqN (X0 m d) (X1 m d)), fun d => arr (dkN (X0 m d) (X1 m d)), fun d => arr (dvN (X0 m d) (X1 m d)), fun d => arr (dzN (X0 m d) (X1 m d)), ?_, ?_⟩
  · refine (θ_run _ _ _).mono (fun r h c => ?_) (θ_run_and (Cert.AttnBwdIdeal.Hand.run (F := Ideal) m g) (Cert.AttnBwdIdeal.Hand.quiet (F := Ideal) m g))
    exact ⟨((h.1 c).1 7).trans (final7 m c), ((h.1 c).1 8).trans (final8 m c), ((h.1 c).1 9).trans (final9 m c), ((h.1 c).1 10).trans (final10 m c), h.2.1 c⟩
  · refine (θ_run _ _ _).mono (fun r h c => ?_) (Cert.AttnBwdRefIdeal.Value.run (F := Ideal) m' g')
    have hf := finite_args _ _ (hpre c)
    have e0 := (hagree c).1
    have e1 := (hagree c).2
    refine ⟨(h c).1.trans ((Cert.AttnBwdRefIdeal.Read.val_main_v60_eq (F := Ideal) _).trans ?_), (h c).2.1.trans ((Cert.AttnBwdRefIdeal.Read.val_main_v61_eq (F := Ideal) _).trans ?_),
      (h c).2.2.1.trans ((Cert.AttnBwdRefIdeal.Read.val_main_v62_eq (F := Ideal) _).trans ?_), (h c).2.2.2.1.trans ((Cert.AttnBwdRefIdeal.Read.val_main_v63_eq (F := Ideal) _).trans ?_), (h c).2.2.2.2⟩
    · exact (congrArg₂ (Cert.AttnBwdRefIdeal.Read.val_main_v60 (F := Ideal)) e0 e1).trans (ref_q (X0 m c) (X1 m c) hf.1 hf.2)
    · exact (congrArg₂ (Cert.AttnBwdRefIdeal.Read.val_main_v61 (F := Ideal)) e0 e1).trans (ref_k (X0 m c) (X1 m c) hf.1 hf.2)
    · exact (congrArg₂ (Cert.AttnBwdRefIdeal.Read.val_main_v62 (F := Ideal)) e0 e1).trans (ref_v (X0 m c) (X1 m c) hf.1 hf.2)
    · exact (congrArg₂ (Cert.AttnBwdRefIdeal.Read.val_main_v63 (F := Ideal)) e0 e1).trans (ref_z (X0 m c) (X1 m c) hf.1 hf.2)

end Cert.Proof

end
-- ==== Proof.MergeBwdValue.lean ====
module

public import proofs.«01_k».proof.Defs
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Common
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MergeBwdIdeal.Hand

open Cert.MergeBwdIdeal Cert.MergeBwdIdeal.Gen Cert.Common

/-- The logistic function, as the kernel writes it. -/
def sg (g : EReal) : EReal := Ideal.div 1 (1 + Ideal.exp (0 - g))

/-- One entry of the logits' gradient: incoming gradient, branch, logit. -/
def gate (x b g : EReal) : EReal := x * b * (sg g * (1 - sg g))

/-- The branch's gradient in one tile. -/
theorem pay3_apply (x g : Vec Ideal S512x512 .bf16) (r l : Fin 512) :
    k0_pay3 x g (ix2 r l) = (x (ix2 r l) * sg (g (ix2 r l)) : EReal) := by
  unfold_payloads
  pointwise
  rfl

/-- The logits' gradient in one tile. -/
theorem pay5_apply (x g b : Vec Ideal S512x512 .bf16) (r l : Fin 512) :
    k0_pay5 x g b (ix2 r l) = gate (x (ix2 r l)) (b (ix2 r l)) (g (ix2 r l)) := by
  unfold_payloads
  pointwise
  rfl

/-- A tile's column sums of the logits' gradient. -/
theorem pay6_apply (x g b : Vec Ideal S512x512 .bf16) (l : Fin 512) :
    k0_pay6 x g b (ix2 0 l) = (∑ r : Fin 512, gate (x (ix2 r l)) (b (ix2 r l)) (g (ix2 r l)) : EReal) := by
  unfold_payloads
  pointwise
  rfl

/-- The same, added to what the earlier tiles left. -/
theorem pay7_apply (x g b : Vec Ideal S512x512 .bf16) (a : Vec Ideal S1x512 .f32) (l : Fin 512) :
    k0_pay7 x g b a (ix2 0 l) = (a (ix2 0 l) + ∑ r : Fin 512, gate (x (ix2 r l)) (b (ix2 r l)) (g (ix2 r l)) : EReal) := by
  unfold_payloads
  pointwise
  rfl

variable (m : (ℓ : Loc nD τ sig) → Buf (Elt Ideal) ℓ)

/-- What a point writes of the branch's gradient. -/
theorem outs3 (c : Dev nD) (t : Fin cfg0.N) : (outsAt0 m c t.val t.isLt).1 = k0_pay3 (iblk m c 0 t) (iblk m c 1 t) := by
  by_cases h : t.val % 8 = 0
  · rw [outsAt0_A m c t h (by omega)]
    dsimp only
    unfold out0_A_3
    refine (View.read_writes_eq_canon _ _ _ (by apply cover0_A_3)).trans ?_
    unfold kernelRun0_A
    dsimp only
    sl_unfold_words
    rw [View.canon_unit_zero hz]
    simp only [View.readAt_eq_ld, (hs0_0 t).read_unread, (hs0_1 t).read_unread, (hs0_2 t).read_unread, View.ld_unit_zero (S := S512x512) hz, View.ld_unit_zero (S := S1x512) hz]
  · rw [outsAt0_B m c t h (by omega)]
    dsimp only
    unfold out0_B_3
    refine (View.read_writes_eq_canon _ _ _ (by apply cover0_B_3)).trans ?_
    unfold kernelRun0_B
    dsimp only
    sl_unfold_words
    rw [View.canon_unit_zero hz]
    simp only [View.readAt_eq_ld, (hs0_0 t).read_unread, (hs0_1 t).read_unread, (hs0_2 t).read_unread, View.ld_unit_zero (S := S512x512) hz, View.ld_unit_zero (S := S1x512) hz]

/-- What a point writes of the logits's gradient. -/
theorem outs4 (c : Dev nD) (t : Fin cfg0.N) : (outsAt0 m c t.val t.isLt).2.1 = k0_pay5 (iblk m c 0 t) (iblk m c 1 t) (iblk m c 2 t) := by
  by_cases h : t.val % 8 = 0
  · rw [outsAt0_A m c t h (by omega)]
    dsimp only
    unfold out0_A_4
    refine (View.read_writes_eq_canon _ _ _ (by apply cover0_A_4)).trans ?_
    unfold kernelRun0_A
    dsimp only
    sl_unfold_words
    rw [View.canon_unit_zero hz]
    simp only [View.readAt_eq_ld, (hs0_0 t).read_unread, (hs0_1 t).read_unread, (hs0_2 t).read_unread, View.ld_unit_zero (S := S512x512) hz, View.ld_unit_zero (S := S1x512) hz]
  · rw [outsAt0_B m c t h (by omega)]
    dsimp only
    unfold out0_B_4
    refine (View.read_writes_eq_canon _ _ _ (by apply cover0_B_4)).trans ?_
    unfold kernelRun0_B
    dsimp only
    sl_unfold_words
    rw [View.canon_unit_zero hz]
    simp only [View.readAt_eq_ld, (hs0_0 t).read_unread, (hs0_1 t).read_unread, (hs0_2 t).read_unread, View.ld_unit_zero (S := S512x512) hz, View.ld_unit_zero (S := S1x512) hz]

/-- What the first point of a column of tiles leaves in the bias's gradient. -/
theorem outs5_A (c : Dev nD) (t : Fin cfg0.N) (h : t.val % 8 = 0) :
    (outsAt0 m c t.val t.isLt).2.2 = k0_pay6 (iblk m c 0 t) (iblk m c 1 t) (iblk m c 2 t) := by
  rw [outsAt0_A m c t h (by omega)]
  dsimp only
  unfold out0_A_5
  refine (View.read_writes_eq_canon _ _ _ (by apply cover0_A_5)).trans ?_
  unfold kernelRun0_A
  dsimp only
  sl_unfold_words
  rw [View.canon_unit_zero hz]
  simp only [View.readAt_eq_ld, (hs0_0 t).read_unread, (hs0_1 t).read_unread, (hs0_2 t).read_unread, View.ld_unit_zero (S := S512x512) hz, View.ld_unit_zero (S := S1x512) hz]

/-- What a later point leaves there. -/
theorem outs5_B (c : Dev nD) (t : Fin cfg0.N) (h : ¬t.val % 8 = 0) :
    (outsAt0 m c t.val t.isLt).2.2 = k0_pay7 (iblk m c 0 t) (iblk m c 1 t) (iblk m c 2 t) (outsAt0 m c (t.val - 1) (Nat.lt_of_le_of_lt (Nat.sub_le _ _) t.isLt)).2.2 := by
  rw [outsAt0_B m c t h (by omega)]
  dsimp only
  unfold out0_B_5
  refine (View.read_writes_eq_canon _ _ _ (by apply cover0_B_5)).trans ?_
  unfold kernelRun0_B
  dsimp only
  sl_unfold_words
  rw [View.canon_unit_zero hz]
  simp only [View.readAt_eq_ld, (hs0_0 t).read_unread, (hs0_1 t).read_unread, (hs0_2 t).read_unread, (hs0_5 t).read_unread, View.ld_unit_zero (S := S512x512) hz, View.ld_unit_zero (S := S1x512) hz]

/-- The block each window reads or writes at a point of the grid. -/
theorem idx_facts : ∀ t : Fin cfg0.N, win0_0.index t = ![t.val % 8, t.val / 8 % 4]
    ∧ win0_1.index t = ![t.val % 8, t.val / 8]
    ∧ win0_2.index t = ![t.val % 8, t.val / 8]
    ∧ win0_3.index t = ![t.val % 8, t.val / 8]
    ∧ win0_4.index t = ![t.val % 8, t.val / 8]
    ∧ win0_5.index t = ![0, t.val / 8] :=
  (by decide +kernel : ∀ t : Fin grid0.N, win0_0.index t = ![t.val % 8, t.val / 8 % 4]
    ∧ win0_1.index t = ![t.val % 8, t.val / 8]
    ∧ win0_2.index t = ![t.val % 8, t.val / 8]
    ∧ win0_3.index t = ![t.val % 8, t.val / 8]
    ∧ win0_4.index t = ![t.val % 8, t.val / 8]
    ∧ win0_5.index t = ![0, t.val / 8])

/-- The grid's size. -/
theorem lt_N (t : Fin cfg0.N) : t.val < 96 := lt_of_lt_of_eq t.isLt N_0

/-- The kernel's operands: the incoming gradient, the gates' logits, the branches. -/
abbrev DM (c : Dev nD) : Vec Ideal S4096x2048 .bf16 := V m c main_v3
abbrev LG (c : Dev nD) : Vec Ideal S4096x6144 .bf16 := V m c main_v2
abbrev BR (c : Dev nD) : Vec Ideal S4096x6144 .bf16 := V m c main_v4

/-- The array's row that row `r` of a point's tile is. -/
abbrev row (t : Fin cfg0.N) (r : Fin 512) : Fin 4096 := ⟨512 * (t.val % 8) + r.val, by omega⟩
/-- The array's column that lane `l` of a point's tile is. -/
abbrev col (t : Fin cfg0.N) (l : Fin 512) : Fin 6144 := ⟨512 * (t.val / 8) + l.val, by have := lt_N t; omega⟩
/-- The lane of the merged row that a column gates. -/
abbrev lane (C : Fin 6144) : Fin 2048 := ⟨C.val % 2048, by omega⟩

/-- A tile of the incoming gradient. -/
theorem iblk0_apply (c : Dev nD) (t : Fin cfg0.N) (r : Fin 512) (l : Fin 512) :
    (iblk m c 0 t : Vec Ideal S512x512 .bf16) (ix2 r l) = DM m c (ix2 (row t r) (lane (col t l))) := by
  have hi := (idx_facts t).1
  have ht := lt_N t
  unfold iblk
  rw [View.read_apply]
  refine congrArg (DM m c) ?_
  refine Shape.idx_ext₂ ?_ ?_
  · show win0_0.index t 0 * 512 + 1 * r.val = 512 * (t.val % 8) + r.val
    rw [hi]; show t.val % 8 * 512 + 1 * r.val = 512 * (t.val % 8) + r.val; omega
  · show win0_0.index t 1 * 512 + 1 * l.val = (512 * (t.val / 8) + l.val) % 2048
    rw [hi]; show t.val / 8 % 4 * 512 + 1 * l.val = (512 * (t.val / 8) + l.val) % 2048; omega

/-- A tile of the logits. -/
theorem iblk1_apply (c : Dev nD) (t : Fin cfg0.N) (r : Fin 512) (l : Fin 512) :
    (iblk m c 1 t : Vec Ideal S512x512 .bf16) (ix2 r l) = LG m c (ix2 (row t r) (col t l)) := by
  have hi := (idx_facts t).2.1
  have ht := lt_N t
  unfold iblk
  rw [View.read_apply]
  refine congrArg (LG m c) ?_
  refine Shape.idx_ext₂ ?_ ?_
  · show win0_1.index t 0 * 512 + 1 * r.val = 512 * (t.val % 8) + r.val
    rw [hi]; show t.val % 8 * 512 + 1 * r.val = 512 * (t.val % 8) + r.val; omega
  · show win0_1.index t 1 * 512 + 1 * l.val = 512 * (t.val / 8) + l.val
    rw [hi]; show t.val / 8 * 512 + 1 * l.val = 512 * (t.val / 8) + l.val; omega

/-- A tile of the branches. -/
theorem iblk2_apply (c : Dev nD) (t : Fin cfg0.N) (r : Fin 512) (l : Fin 512) :
    (iblk m c 2 t : Vec Ideal S512x512 .bf16) (ix2 r l) = BR m c (ix2 (row t r) (col t l)) := by
  have hi := (idx_facts t).2.2.1
  have ht := lt_N t
  unfold iblk
  rw [View.read_apply]
  refine congrArg (BR m c) ?_
  refine Shape.idx_ext₂ ?_ ?_
  · show win0_2.index t 0 * 512 + 1 * r.val = 512 * (t.val % 8) + r.val
    rw [hi]; show t.val % 8 * 512 + 1 * r.val = 512 * (t.val % 8) + r.val; omega
  · show win0_2.index t 1 * 512 + 1 * l.val = 512 * (t.val / 8) + l.val
    rw [hi]; show t.val / 8 * 512 + 1 * l.val = 512 * (t.val / 8) + l.val; omega

/-- One row's part of a column's bias gradient, which is the logit's gradient there. -/
def part (c : Dev nD) (C : Fin 6144) (k : Fin 4096) : EReal := gate (DM m c (ix2 k (lane C))) (BR m c (ix2 k C)) (LG m c (ix2 k C))

/-- The branches' gradient. -/
def dbst (c : Dev nD) : Vec Ideal S4096x6144 .bf16 := fun i => (DM m c (ix2 (i 0) (lane (i 1))) * sg (LG m c (ix2 (i 0) (i 1))) : EReal)
/-- The logits' gradient. -/
def dgl (c : Dev nD) : Vec Ideal S4096x6144 .bf16 := fun i => part m c (i 1) (i 0)
/-- The bias's gradient. -/
def dbias (c : Dev nD) : Vec Ideal S1x6144 .f32 := fun i => (∑ k : Fin 4096, part m c (i 1) k : EReal)

/-- A tile's column sum is the sum of the parts of its rows. -/
theorem tile_eq (c : Dev nD) (t : Fin cfg0.N) (l : Fin 512) (C : Fin 6144) (hC : C = col t l) :
    (k0_pay6 (iblk m c 0 t) (iblk m c 1 t) (iblk m c 2 t) (ix2 0 l) : EReal) = ∑ r : Fin 512, ext (part m c C) (512 * (t.val % 8) + r) := by
  rw [pay6_apply]
  refine Finset.sum_congr rfl fun r _ => ?_
  rw [ext_of_lt _ (show 512 * (t.val % 8) + r.val < 4096 by omega), iblk0_apply, iblk1_apply, iblk2_apply, hC]
  rfl

/-- The bias's gradient after a point: the rows of the tiles so far. -/
theorem outs5 (c : Dev nD) (l : Fin 512) (C : Fin 6144) : ∀ (n : ℕ) (h : n < cfg0.N), C.val = 512 * (n / 8) + l.val →
    ((outsAt0 m c n h).2.2 (ix2 0 l) : EReal) = ∑ s ∈ Finset.range (n % 8 + 1), ∑ r : Fin 512, ext (part m c C) (512 * s + r)
  | 0, h, hC => by
    rw [outs5_A m c ⟨0, h⟩ rfl, Finset.sum_range_one]
    exact tile_eq m c ⟨0, h⟩ l C (Fin.ext hC)
  | n + 1, h, hC => by
    by_cases h0 : (n + 1) % 8 = 0
    · rw [outs5_A m c ⟨n + 1, h⟩ h0, h0, Finset.sum_range_one, tile_eq m c ⟨n + 1, h⟩ l C (Fin.ext hC)]
      dsimp only
      rw [h0]
    · rw [outs5_B m c ⟨n + 1, h⟩ h0, Finset.sum_range_succ, pay7_apply, ← pay6_apply, tile_eq m c ⟨n + 1, h⟩ l C (Fin.ext hC)]
      have e : (n + 1) % 8 = n % 8 + 1 := by omega
      have := outs5 c l C n (Nat.lt_of_succ_lt h) (by omega)
      rw [e]
      exact congrArg (· + _) this

/-- The array the kernel leaves: the branches' gradient. -/
theorem final3 (c : Dev nD) : (dats m 0 c).arrAt 3 cfg0.N = dbst m c := by
  refine (dats m 0 c).arrAt_eq_of_cover 3 (dbst m c) (fun t hf => ?_) fun i => ?_
  · have hi := (idx_facts t).2.2.2.1
    have ht := lt_N t
    rw [Value.flushed3]
    funext y
    rw [View.read_apply]
    obtain ⟨r, l, rfl⟩ : ∃ (r : Fin 512) (l : Fin 512), y = ix2 r l := ⟨y 0, y 1, by funext a; match a with | ⟨0, _⟩ => rfl | ⟨1, _⟩ => rfl⟩
    have e : (((cfg0.win 3).blk t).view.emb (ix2 r l) : S4096x6144.Idx) = ix2 (row t r) (col t l) := by
      refine Shape.idx_ext₂ ?_ ?_
      · show win0_3.index t 0 * 512 + 1 * r.val = 512 * (t.val % 8) + r.val
        rw [hi]; show t.val % 8 * 512 + 1 * r.val = 512 * (t.val % 8) + r.val; omega
      · show win0_3.index t 1 * 512 + 1 * l.val = 512 * (t.val / 8) + l.val
        rw [hi]; show t.val / 8 * 512 + 1 * l.val = 512 * (t.val / 8) + l.val; omega
    show _ = dbst m c (((cfg0.win 3).blk t).view.emb (ix2 r l))
    rw [e]
    show (outsAt0 m c t.val t.isLt).1 (ix2 r l) = _
    rw [outs3, pay3_apply, iblk0_apply, iblk1_apply]
    rfl
  · have hN : cfg0.N = 96 := N_0
    have h0 : (i 0 : ℕ) < 4096 := (i 0).isLt
    have h1 : (i 1 : ℕ) < 6144 := (i 1).isLt
    obtain ⟨t, ht⟩ : ∃ t : Fin cfg0.N, t.val = 8 * ((i 1 : ℕ) / 512) + (i 0 : ℕ) / 512 := ⟨⟨8 * ((i 1 : ℕ) / 512) + (i 0 : ℕ) / 512, by omega⟩, rfl⟩
    refine ⟨t, flush0_3 t, ?_⟩
    show i ∈ ((View.whole main_v5_0).slice (win0_3.rect t)).set
    rw [View.set_slice_whole, Rect.mem_set_unit]
    have hi := (idx_facts t).2.2.2.1
    intro a
    match a with
    | ⟨0, _⟩ =>
      show win0_3.index t 0 * 512 ≤ (i 0 : ℕ) ∧ (i 0 : ℕ) < win0_3.index t 0 * 512 + 512
      rw [hi]; show t.val % 8 * 512 ≤ (i 0 : ℕ) ∧ (i 0 : ℕ) < t.val % 8 * 512 + 512; omega
    | ⟨1, _⟩ =>
      show win0_3.index t 1 * 512 ≤ (i 1 : ℕ) ∧ (i 1 : ℕ) < win0_3.index t 1 * 512 + 512
      rw [hi]; show t.val / 8 * 512 ≤ (i 1 : ℕ) ∧ (i 1 : ℕ) < t.val / 8 * 512 + 512; omega

/-- The array the kernel leaves: the logits' gradient. -/
theorem final4 (c : Dev nD) : (dats m 0 c).arrAt 4 cfg0.N = dgl m c := by
  refine (dats m 0 c).arrAt_eq_of_cover 4 (dgl m c) (fun t hf => ?_) fun i => ?_
  · have hi := (idx_facts t).2.2.2.2.1
    have ht := lt_N t
    rw [Value.flushed4]
    funext y
    rw [View.read_apply]
    obtain ⟨r, l, rfl⟩ : ∃ (r : Fin 512) (l : Fin 512), y = ix2 r l := ⟨y 0, y 1, by funext a; match a with | ⟨0, _⟩ => rfl | ⟨1, _⟩ => rfl⟩
    have e : (((cfg0.win 4).blk t).view.emb (ix2 r l) : S4096x6144.Idx) = ix2 (row t r) (col t l) := by
      refine Shape.idx_ext₂ ?_ ?_
      · show win0_4.index t 0 * 512 + 1 * r.val = 512 * (t.val % 8) + r.val
        rw [hi]; show t.val % 8 * 512 + 1 * r.val = 512 * (t.val % 8) + r.val; omega
      · show win0_4.index t 1 * 512 + 1 * l.val = 512 * (t.val / 8) + l.val
        rw [hi]; show t.val / 8 * 512 + 1 * l.val = 512 * (t.val / 8) + l.val; omega
    show _ = dgl m c (((cfg0.win 4).blk t).view.emb (ix2 r l))
    rw [e]
    show (outsAt0 m c t.val t.isLt).2.1 (ix2 r l) = _
    rw [outs4, pay5_apply, iblk0_apply, iblk1_apply, iblk2_apply]
    rfl
  · have hN : cfg0.N = 96 := N_0
    have h0 : (i 0 : ℕ) < 4096 := (i 0).isLt
    have h1 : (i 1 : ℕ) < 6144 := (i 1).isLt
    obtain ⟨t, ht⟩ : ∃ t : Fin cfg0.N, t.val = 8 * ((i 1 : ℕ) / 512) + (i 0 : ℕ) / 512 := ⟨⟨8 * ((i 1 : ℕ) / 512) + (i 0 : ℕ) / 512, by omega⟩, rfl⟩
    refine ⟨t, flush0_4 t, ?_⟩
    show i ∈ ((View.whole main_v5_1).slice (win0_4.rect t)).set
    rw [View.set_slice_whole, Rect.mem_set_unit]
    have hi := (idx_facts t).2.2.2.2.1
    intro a
    match a with
    | ⟨0, _⟩ =>
      show win0_4.index t 0 * 512 ≤ (i 0 : ℕ) ∧ (i 0 : ℕ) < win0_4.index t 0 * 512 + 512
      rw [hi]; show t.val % 8 * 512 ≤ (i 0 : ℕ) ∧ (i 0 : ℕ) < t.val % 8 * 512 + 512; omega
    | ⟨1, _⟩ =>
      show win0_4.index t 1 * 512 ≤ (i 1 : ℕ) ∧ (i 1 : ℕ) < win0_4.index t 1 * 512 + 512
      rw [hi]; show t.val / 8 * 512 ≤ (i 1 : ℕ) ∧ (i 1 : ℕ) < t.val / 8 * 512 + 512; omega

/-- The array the kernel leaves: the bias's gradient. -/
theorem final5 (c : Dev nD) : (dats m 0 c).arrAt 5 cfg0.N = dbias m c := by
  refine (dats m 0 c).arrAt_eq_of_cover 5 (dbias m c) (fun t hf => ?_) fun i => ?_
  · have hi := (idx_facts t).2.2.2.2.2
    have ht := lt_N t
    rw [Value.flushed5]
    funext y
    rw [View.read_apply]
    obtain ⟨l, rfl⟩ : ∃ (l : Fin 512), y = ix2 (0 : Fin 1) l := ⟨y 1, by funext a; match a with | ⟨0, _⟩ => exact Fin.fin_one_eq_zero _ | ⟨1, _⟩ => rfl⟩
    have e : (((cfg0.win 5).blk t).view.emb (ix2 (0 : Fin 1) l) : S1x6144.Idx) = ix2 0 (col t l) := by
      refine Shape.idx_ext₂ ?_ ?_
      · show win0_5.index t 0 * 1 + 1 * 0 = 0
        rw [hi]; show 0 * 1 + 1 * 0 = 0; omega
      · show win0_5.index t 1 * 512 + 1 * l.val = 512 * (t.val / 8) + l.val
        rw [hi]; show t.val / 8 * 512 + 1 * l.val = 512 * (t.val / 8) + l.val; omega
    show _ = dbias m c (((cfg0.win 5).blk t).view.emb (ix2 (0 : Fin 1) l))
    rw [e]
    show (outsAt0 m c t.val t.isLt).2.2 (ix2 0 l) = _
    rw [outs5 m c l (col t l) t.val t.isLt rfl, show t.val % 8 + 1 = 8 by have := (flush0_5 t).mp hf; omega]
    exact sum_tiles (part m c (col t l)) 8 512 (by norm_num)
  · have hN : cfg0.N = 96 := N_0
    have h0 : (i 0 : ℕ) < 1 := (i 0).isLt
    have h1 : (i 1 : ℕ) < 6144 := (i 1).isLt
    obtain ⟨t, ht⟩ : ∃ t : Fin cfg0.N, t.val = 8 * ((i 1 : ℕ) / 512) + 7 := ⟨⟨8 * ((i 1 : ℕ) / 512) + 7, by omega⟩, rfl⟩
    refine ⟨t, (flush0_5 t).mpr (by omega), ?_⟩
    show i ∈ ((View.whole main_v5_2).slice (win0_5.rect t)).set
    rw [View.set_slice_whole, Rect.mem_set_unit]
    have hi := (idx_facts t).2.2.2.2.2
    intro a
    match a with
    | ⟨0, _⟩ =>
      show win0_5.index t 0 * 1 ≤ (i 0 : ℕ) ∧ (i 0 : ℕ) < win0_5.index t 0 * 1 + 1
      rw [hi]; show 0 * 1 ≤ (i 0 : ℕ) ∧ (i 0 : ℕ) < 0 * 1 + 1; omega
    | ⟨1, _⟩ =>
      show win0_5.index t 1 * 512 ≤ (i 1 : ℕ) ∧ (i 1 : ℕ) < win0_5.index t 1 * 512 + 512
      rw [hi]; show t.val / 8 * 512 ≤ (i 1 : ℕ) ∧ (i 1 : ℕ) < t.val / 8 * 512 + 512; omega

/-- The kernel's operands are the arguments; the logits are the projection plus the bias. -/
theorem DM_apply (c : Dev nD) (R : Fin 4096) (l : Fin 2048) : DM m c (ix2 R l) = m ((c : Thread nD τ).loc main_arg3) (ix2 R l) := by
  have : V m c main_v3 = (truncf .bf16 (m ((c.tc : Thread nD τ).loc main_arg3) : FVec Ideal S4096x2048 .f32) bitsLt_bf16_f32 : FVec Ideal S4096x2048 .bf16) := by
    unfold V hostOps0
    after_results <;> rfl
  unfold DM
  rw [this]
  pointwise
theorem BR_apply (c : Dev nD) (R : Fin 4096) (C : Fin 6144) : BR m c (ix2 R C) = m ((c : Thread nD τ).loc main_arg2) (ix2 R C) := by
  have : V m c main_v4 = (truncf .bf16 (m ((c.tc : Thread nD τ).loc main_arg2) : FVec Ideal S4096x6144 .f32) bitsLt_bf16_f32 : FVec Ideal S4096x6144 .bf16) := by
    unfold V hostOps0
    after_results <;> rfl
  unfold BR
  rw [this]
  pointwise
/-- The projection and the bias. -/
abbrev A0 (c : Dev nD) : FVec Ideal S4096x6144 .f32 := m ((c : Thread nD τ).loc main_arg0)
abbrev A1 (c : Dev nD) : FVec Ideal S1x6144 .f32 := m ((c : Thread nD τ).loc main_arg1)
/-- The logits are the projection plus the bias. -/
theorem LG_apply (c : Dev nD) (R : Fin 4096) (C : Fin 6144) :
    LG m c (ix2 R C) = (A0 m c (ix2 R C) + A1 m c (ix2 0 C) : EReal) := by
  have : V m c main_v2 = (truncf .bf16 (addf (m ((c.tc : Thread nD τ).loc main_arg0)) (broadcastInDim S4096x6144 ![0, 1] bcast_S1x6144_S4096x6144_0_1 (m ((c.tc : Thread nD τ).loc main_arg1))) : FVec Ideal S4096x6144 .f32) bitsLt_bf16_f32 : FVec Ideal S4096x6144 .bf16) := by
    unfold V hostOps0
    after_results <;> rfl
  unfold LG
  rw [this]
  pointwise

end Cert.MergeBwdIdeal.Hand

namespace Cert.MergeBwdRefIdeal.Hand

open Cert.MergeBwdRefIdeal Cert.MergeBwdRefIdeal.Gen Cert.MergeBwdRefIdeal.Read Cert.MergeBwdIdeal.Hand

section
variable (x0 : FVec Ideal S4096x6144 .f32) (x1 : FVec Ideal S1x6144 .f32) (x2 : FVec Ideal S4096x6144 .f32) (x3 : FVec Ideal S4096x2048 .f32) (k : Fin 4096) (C : Fin 6144)

/-- The reference's gate. -/
theorem v7_eq : val_main_v7 (F := Ideal) x0 x1 (ix2 k C) = sg (x0 (ix2 k C) + x1 (ix2 0 C)) := by
  unfold val_main_v7 val_main_v6 val_main_v5 val_main_v4 val_main_v3 val_main_v2 val_main_v1 val_main_v0 val_main_cst val_main_cst_0
  pointwise
  unfold sg
  rw [zero_sub]

/-- The three gates of a row, as slices of the gates. -/
theorem v14_eq (l : Fin 2048) : val_main_v14 (F := Ideal) x0 x1 (ix2 k l) = val_main_v7 (F := Ideal) x0 x1 (ix2 k ⟨l.val, by omega⟩) := by
  unfold val_main_v14 val_main_v13 val_main_v11
  pointwise
theorem v19_eq (l : Fin 2048) : val_main_v19 (F := Ideal) x0 x1 (ix2 k l) = val_main_v7 (F := Ideal) x0 x1 (ix2 k ⟨2048 + l.val, by omega⟩) := by
  unfold val_main_v19 val_main_v18 val_main_v11
  pointwise
theorem v25_eq (l : Fin 2048) : val_main_v25 (F := Ideal) x0 x1 (ix2 k l) = val_main_v7 (F := Ideal) x0 x1 (ix2 k ⟨4096 + l.val, by omega⟩) := by
  unfold val_main_v25 val_main_v24 val_main_v11
  pointwise
/-- The three branches of a row. -/
theorem v16_eq (l : Fin 2048) : val_main_v16 (F := Ideal) x2 (ix2 k l) = x2 (ix2 k ⟨l.val, by omega⟩) := by
  unfold val_main_v16 val_main_v15 val_main_v12
  pointwise
theorem v21_eq (l : Fin 2048) : val_main_v21 (F := Ideal) x2 (ix2 k l) = x2 (ix2 k ⟨2048 + l.val, by omega⟩) := by
  unfold val_main_v21 val_main_v20 val_main_v12
  pointwise
theorem v27_eq (l : Fin 2048) : val_main_v27 (F := Ideal) x2 (ix2 k l) = x2 (ix2 k ⟨4096 + l.val, by omega⟩) := by
  unfold val_main_v27 val_main_v26 val_main_v12
  pointwise
/-- The part of branch 2, padded with zeros. -/
theorem v35_eq (b : Fin 3) (l : Fin 2048) : val_main_v35 (F := Ideal) x0 x1 x3 (ix3 k b l)
    = if b.val = 2 then (x3 (ix2 k l) * val_main_v7 (F := Ideal) x0 x1 (ix2 k ⟨4096 + l.val, by omega⟩) : EReal) else 0 := by
  have hl := l.isLt
  unfold val_main_v35 val_main_v34 val_main_v32 val_main_v31 val_main_cst_2
  pointwise
  by_cases hb : b.val = 2
  · rw [if_pos hb, dif_pos (by omega), v25_eq, mul_comm]
  · rw [if_neg hb, dif_neg (by omega)]
    trace_state
/-- The part of branch 1, padded with zeros. -/
theorem v41_eq (b : Fin 3) (l : Fin 2048) : val_main_v41 (F := Ideal) x0 x1 x3 (ix3 k b l)
    = if b.val = 1 then (x3 (ix2 k l) * val_main_v7 (F := Ideal) x0 x1 (ix2 k ⟨2048 + l.val, by omega⟩) : EReal) else 0 := by
  have hl := l.isLt
  unfold val_main_v41 val_main_v40 val_main_v38 val_main_v30 val_main_cst_4
  pointwise
  by_cases hb : b.val = 1
  · rw [if_pos hb, dif_pos (by omega), v19_eq, mul_comm]
  · rw [if_neg hb, dif_neg (by omega)]
    trace_state
/-- The part of branch 0, padded with zeros. -/
theorem v49_eq (b : Fin 3) (l : Fin 2048) : val_main_v49 (F := Ideal) x0 x1 x3 (ix3 k b l)
    = if b.val = 0 then (x3 (ix2 k l) * val_main_v7 (F := Ideal) x0 x1 (ix2 k ⟨l.val, by omega⟩) : EReal) else 0 := by
  have hl := l.isLt
  unfold val_main_v49 val_main_v48 val_main_v46 val_main_v30 val_main_cst_6
  pointwise
  by_cases hb : b.val = 0
  · rw [if_pos hb, dif_pos (by omega), v14_eq, mul_comm]
  · rw [if_neg hb, dif_neg (by omega)]
    trace_state
/-- The gates' part of branch 2, padded with zeros. -/
theorem v37_eq (b : Fin 3) (l : Fin 2048) : val_main_v37 (F := Ideal) x2 x3 (ix3 k b l)
    = if b.val = 2 then (x3 (ix2 k l) * x2 (ix2 k ⟨4096 + l.val, by omega⟩) : EReal) else 0 := by
  have hl := l.isLt
  unfold val_main_v37 val_main_v36 val_main_v33 val_main_v31 val_main_cst_3
  pointwise
  by_cases hb : b.val = 2
  · rw [if_pos hb, dif_pos (by omega), v27_eq]
  · rw [if_neg hb, dif_neg (by omega)]
/-- The gates' part of branch 1, padded with zeros. -/
theorem v44_eq (b : Fin 3) (l : Fin 2048) : val_main_v44 (F := Ideal) x2 x3 (ix3 k b l)
    = if b.val = 1 then (x3 (ix2 k l) * x2 (ix2 k ⟨2048 + l.val, by omega⟩) : EReal) else 0 := by
  have hl := l.isLt
  unfold val_main_v44 val_main_v43 val_main_v39 val_main_v30 val_main_cst_5
  pointwise
  by_cases hb : b.val = 1
  · rw [if_pos hb, dif_pos (by omega), v21_eq]
  · rw [if_neg hb, dif_neg (by omega)]
/-- The gates' part of branch 0, padded with zeros. -/
theorem v52_eq (b : Fin 3) (l : Fin 2048) : val_main_v52 (F := Ideal) x2 x3 (ix3 k b l)
    = if b.val = 0 then (x3 (ix2 k l) * x2 (ix2 k ⟨l.val, by omega⟩) : EReal) else 0 := by
  have hl := l.isLt
  unfold val_main_v52 val_main_v51 val_main_v47 val_main_v30 val_main_cst_7
  pointwise
  by_cases hb : b.val = 0
  · rw [if_pos hb, dif_pos (by omega), v16_eq]
  · rw [if_neg hb, dif_neg (by omega)]
/-- Of the three padded parts of a column only its own branch's is not zero there. -/
theorem pick (f : Fin 6144 → EReal) : (((if C.val / 2048 = 2 then f ⟨4096 + C.val % 2048, by omega⟩ else 0)
    + if C.val / 2048 = 1 then f ⟨2048 + C.val % 2048, by omega⟩ else 0) + if C.val / 2048 = 0 then f ⟨C.val % 2048, by omega⟩ else 0) = f C := by
  rcases (show C.val / 2048 = 0 ∨ C.val / 2048 = 1 ∨ C.val / 2048 = 2 by omega) with h | h | h
  · rw [if_neg (by omega), if_neg (by omega), if_pos h, zero_add, zero_add]
    exact congrArg f (Fin.ext (show C.val % 2048 = C.val by omega))
  · rw [if_neg (by omega), if_pos h, if_neg (by omega), zero_add, add_zero]
    exact congrArg f (Fin.ext (show 2048 + C.val % 2048 = C.val by omega))
  · rw [if_pos h, if_neg (by omega), if_neg (by omega), add_zero, add_zero]
    exact congrArg f (Fin.ext (show 4096 + C.val % 2048 = C.val by omega))

/-- The reference's gradient of a branch. -/
theorem v59_eq : val_main_v59 (F := Ideal) x0 x1 x3 (ix2 k C) = (x3 (ix2 k (lane C)) * sg (x0 (ix2 k C) + x1 (ix2 0 C)) : EReal) := by
  rw [← v7_eq]
  unfold val_main_v59 val_main_v54 val_main_v50 val_main_v42
  pointwise
  rw [v35_eq, v41_eq, v49_eq]
  exact pick C fun D => x3 (ix2 k (lane C)) * val_main_v7 (F := Ideal) x0 x1 (ix2 k D)

/-- The reference's gradient of a logit. -/
theorem v56_eq : val_main_v56 (F := Ideal) x0 x1 x2 x3 (ix2 k C) = gate (x3 (ix2 k (lane C))) (x2 (ix2 k C)) (x0 (ix2 k C) + x1 (ix2 0 C)) := by
  unfold gate
  rw [← v7_eq]
  unfold val_main_v56 val_main_v55 val_main_v53 val_main_v45 val_main_v10 val_main_v9 val_main_v8 val_main_cst_1
  pointwise
  rw [v37_eq, v44_eq, v52_eq]
  exact congrArg (· * _) (pick C fun D => x3 (ix2 k (lane C)) * x2 (ix2 k D))

/-- The same, rounded, which changes nothing here. -/
theorem v60_eq : val_main_v60 (F := Ideal) x0 x1 x2 x3 (ix2 k C) = gate (x3 (ix2 k (lane C))) (x2 (ix2 k C)) (x0 (ix2 k C) + x1 (ix2 0 C)) := by
  rw [← v56_eq]
  unfold val_main_v60
  pointwise

/-- The reference's gradient of the bias. -/
theorem v58_eq : val_main_v58 (F := Ideal) x0 x1 x2 x3 (ix2 (0 : Fin 1) C) = (∑ k : Fin 4096, gate (x3 (ix2 k (lane C))) (x2 (ix2 k C)) (x0 (ix2 k C) + x1 (ix2 0 C)) : EReal) := by
  unfold val_main_v58 val_main_v57 val_main_cst_8
  pointwise
  simp only [v56_eq]
end

variable (m : (ℓ : Loc Cert.MergeBwdIdeal.nD Cert.MergeBwdIdeal.τ Cert.MergeBwdIdeal.sig) → Buf (Elt Ideal) ℓ) (c : Dev Cert.MergeBwdIdeal.nD)
abbrev A2 : FVec Ideal S4096x6144 .f32 := m ((c : Thread Cert.MergeBwdIdeal.nD Cert.MergeBwdIdeal.τ).loc Cert.MergeBwdIdeal.main_arg2)
abbrev A3 : FVec Ideal S4096x2048 .f32 := m ((c : Thread Cert.MergeBwdIdeal.nD Cert.MergeBwdIdeal.τ).loc Cert.MergeBwdIdeal.main_arg3)

/-- The reference's three arrays, of the same arguments, are the kernel's. -/
theorem ref59 : val_main_v59 (F := Ideal) (A0 m c) (A1 m c) (A3 m c) = dbst m c := by
  funext i
  obtain ⟨R, C, rfl⟩ : ∃ (R : Fin 4096) (C : Fin 6144), i = ix2 R C := ⟨i 0, i 1, eq_ix2 i⟩
  refine (v59_eq _ _ _ R C).trans ?_
  show _ = (DM m c (ix2 R (lane C)) * sg (LG m c (ix2 R C)) : EReal)
  rw [DM_apply, LG_apply]
theorem ref60 : val_main_v60 (F := Ideal) (A0 m c) (A1 m c) (A2 m c) (A3 m c) = dgl m c := by
  funext i
  obtain ⟨R, C, rfl⟩ : ∃ (R : Fin 4096) (C : Fin 6144), i = ix2 R C := ⟨i 0, i 1, eq_ix2 i⟩
  refine (v60_eq _ _ _ _ R C).trans ?_
  show _ = gate (DM m c (ix2 R (lane C))) (BR m c (ix2 R C)) (LG m c (ix2 R C))
  rw [DM_apply, LG_apply, BR_apply]
theorem ref58 : val_main_v58 (F := Ideal) (A0 m c) (A1 m c) (A2 m c) (A3 m c) = dbias m c := by
  funext i
  obtain ⟨C, rfl⟩ : ∃ (C : Fin 6144), i = ix2 (0 : Fin 1) C := ⟨i 1, by funext a; match a with | ⟨0, _⟩ => exact Fin.fin_one_eq_zero _ | ⟨1, _⟩ => rfl⟩
  refine (v58_eq _ _ _ _ C).trans (Finset.sum_congr rfl fun k _ => ?_)
  show _ = gate (DM m c (ix2 k (lane C))) (BR m c (ix2 k C)) (LG m c (ix2 k C))
  rw [DM_apply, LG_apply, BR_apply]

end Cert.MergeBwdRefIdeal.Hand

namespace Cert.Proof

open Cert.MergeBwdIdeal.Hand Cert.MergeBwdRefIdeal.Hand

/-- The gradients of the merge: the kernel's three arrays are the reference's. -/
theorem merge_bwd : Cert.algebraic_MergeBwdIdeal_MergeBwdRefIdeal := by
  intro m g m' g' _ hagree
  refine ⟨dbst m, dgl m, dbias m, ?_, ?_⟩
  · refine (θ_run _ _ _).mono (fun r h c => ?_) (Cert.MergeBwdIdeal.Value.run_blocks (F := Ideal) m g)
    exact ⟨(h c).1.trans (final3 m c), (h c).2.1.trans (final4 m c), (h c).2.2.1.trans (final5 m c), (h c).2.2.2⟩
  · refine (θ_run _ _ _).mono (fun r h c => ?_) (Cert.MergeBwdRefIdeal.Value.run (F := Ideal) m' g')
    refine ⟨(h c).1.trans ((Cert.MergeBwdRefIdeal.Read.val_main_v59_eq (F := Ideal) _ _ _).trans ?_), (h c).2.1.trans ((Cert.MergeBwdRefIdeal.Read.val_main_v60_eq (F := Ideal) _ _ _ _).trans ?_),
      (h c).2.2.1.trans ((Cert.MergeBwdRefIdeal.Read.val_main_v58_eq (F := Ideal) _ _ _ _).trans ?_), (h c).2.2.2⟩
    · rw [(hagree c).1, (hagree c).2.1, (hagree c).2.2.2]
      exact ref59 m c
    · rw [(hagree c).1, (hagree c).2.1, (hagree c).2.2.1, (hagree c).2.2.2]
      exact ref60 m c
    · rw [(hagree c).1, (hagree c).2.1, (hagree c).2.2.1, (hagree c).2.2.2]
      exact ref58 m c

end Cert.Proof

end
-- ==== Proof.Norm.lean ====
module

public import proofs.«01_k».proof.Proof.Reals

@[expose] public section

noncomputable section

namespace Cert.Common

open Idealize.ShloMosaic

/-! ## The root mean square norm of a row, and its gradient -/

/-- The row's length, as the float the programs write. -/
def dim : EReal := Ideal.ofBits .f32 0x45000000#32
/-- The norm's epsilon, as the float the programs write. -/
def eps : EReal := Ideal.ofBits .f32 0x358637BD#32
/-- Minus one half, as the float the reference writes. -/
def mhalf : EReal := Ideal.ofBits .f32 0xBF000000#32

theorem dim_eq : dim = ((2048 : ℝ) : EReal) := by
  unfold dim
  simp [Ideal.ofBits, Ideal.ieee]
  rw [← EReal.coe_mul]
  norm_num
theorem mhalf_eq : mhalf = ((-(1 / 2) : ℝ) : EReal) := by
  unfold mhalf
  simp [Ideal.ofBits, Ideal.ieee]
  rw [← EReal.coe_mul]
  norm_num
theorem eps_pos : ∃ e : ℝ, 0 < e ∧ eps = (e : EReal) := by
  unfold eps
  refine ⟨8796093 * (2 : ℝ) ^ (-43 : ℤ), by positivity, ?_⟩
  simp [Ideal.ofBits, Ideal.ieee]

/-- The mean square of a row, with the epsilon added. -/
def msq (x : Fin 2048 → EReal) : EReal := Ideal.div (∑ k, x k * x k) dim + eps
/-- One over the row's root mean square. -/
def rms (x : Fin 2048 → EReal) : EReal := Ideal.rsqrt (msq x)
/-- The gradient of the normalised row against the weights `w`, as the kernels write it. -/
def normGrad (x w : Fin 2048 → EReal) (l : Fin 2048) : EReal :=
  rms x * (w l - x l * rms x * Ideal.div (∑ k, w k * (x k * rms x)) dim)
/-- The factor of the row itself in its gradient, as the reference writes it. -/
def rowFactor (x w : Fin 2048 → EReal) : EReal := Ideal.div ((∑ k, x k * w k) * (mhalf * Ideal.div (rms x) (msq x))) dim

/-- The mean square of a row of reals is a positive real. -/
theorem msq_real (x : Fin 2048 → ℝ) : ∃ s : ℝ, 0 < s ∧ msq (fun k => (x k : EReal)) = (s : EReal) := by
  obtain ⟨e, he, h⟩ := eps_pos
  refine ⟨(∑ k, x k * x k) * (1 / 2048) + e, ?_, ?_⟩
  · have : 0 ≤ ∑ k, x k * x k := Finset.sum_nonneg fun k _ => mul_self_nonneg _
    positivity
  · unfold msq
    rw [h, dim_eq, Ideal.div_coe (by norm_num), EReal.coe_add, EReal.coe_mul, coe_sum]
    simp only [EReal.coe_mul]

theorem rms_real (s : ℝ) (hs : 0 < s) : Ideal.rsqrt (s : EReal) = (((Real.sqrt s)⁻¹ : ℝ) : EReal) := by
  rw [Ideal.rsqrt_coe, if_neg (by linarith), if_neg (by linarith)]

/-- The inverse root mean square of reals is real. -/
theorem isR_rms (x : Fin 2048 → EReal) (hx : ∀ k, IsR (x k)) : IsR (rms x) := by
  choose a ha using hx
  obtain rfl : x = fun k => (a k : EReal) := funext ha
  obtain ⟨s, hs, h⟩ := msq_real a
  unfold rms
  rw [h, rms_real s hs]
  exact isR_coe _

/-- The kernels' form of the gradient is the reference's three summands. -/
theorem normGrad_eq (x w : Fin 2048 → EReal) (hx : ∀ k, IsR (x k)) (hw : ∀ k, IsR (w k)) (l : Fin 2048) :
    normGrad x w l = w l * rms x + (x l * rowFactor x w + rowFactor x w * x l) := by
  choose a ha using hx
  choose b hb using hw
  obtain rfl : x = fun k => (a k : EReal) := funext ha
  obtain rfl : w = fun k => (b k : EReal) := funext hb
  obtain ⟨s, hs, h⟩ := msq_real a
  have hr : rms (fun k => (a k : EReal)) = (((Real.sqrt s)⁻¹ : ℝ) : EReal) := by unfold rms; rw [h, rms_real s hs]
  unfold normGrad rowFactor
  rw [hr, h, dim_eq, mhalf_eq]
  simp only [Ideal.div_coe hs.ne', Ideal.div_coe (show (2048 : ℝ) ≠ 0 by norm_num), ← EReal.coe_mul, ← coe_sum, ← EReal.coe_sub, ← EReal.coe_add]
  refine congrArg _ ?_
  have e1 : ∑ k, b k * (a k * (Real.sqrt s)⁻¹) = (∑ k, a k * b k) * (Real.sqrt s)⁻¹ := by
    rw [Finset.sum_mul]; exact Finset.sum_congr rfl fun k _ => by ring
  rw [e1]
  have e2 : 1 / s = (Real.sqrt s)⁻¹ * (Real.sqrt s)⁻¹ := by
    rw [← mul_inv, Real.mul_self_sqrt hs.le, one_div]
  rw [e2]
  ring

end Cert.Common

end
-- ==== Proof.LossHeadValue.lean ====
module

public import proofs.«01_k».proof.Defs
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Common
public import proofs.«01_k».proof.Proof.Norm
public import proofs.«01_k».proof.Proof.Finite
public import proofs.«01_k».proof.Proof.Gen.Pre_finite_loss
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.LossHeadIdeal.Hand

open Cert.LossHeadIdeal Cert.LossHeadIdeal.Gen Cert.Common

/-- One over the row's length, as the float the kernel writes. -/
def invDim : EReal := Ideal.ofBits .f32 0x3A000000#32
/-- Half of it, as the float the kernel writes. -/
def halfInvDim : EReal := Ideal.ofBits .f32 0x39800000#32

theorem invDim_eq : invDim = ((1 / 2048 : ℝ) : EReal) := by
  unfold invDim
  simp [Ideal.ofBits, Ideal.ieee]
  rw [← EReal.coe_mul]
  norm_num
theorem halfInvDim_eq : halfInvDim = ((1 / 4096 : ℝ) : EReal) := by
  unfold halfInvDim
  simp [Ideal.ofBits, Ideal.ieee]
  rw [← EReal.coe_mul]
  norm_num
theorem half_eq : Ideal.ofBits .f32 0x3F000000#32 = ((1 / 2 : ℝ) : EReal) := by
  simp [Ideal.ofBits, Ideal.ieee]
  rw [← EReal.coe_mul]
  norm_num
theorem two_eq : Ideal.ofBits .f32 0x40000000#32 = ((2 : ℝ) : EReal) := by
  simp [Ideal.ofBits, Ideal.ieee]
  rw [← EReal.coe_mul]
  norm_num

/-- A row's error against its target at a lane. -/
def err (x t g : Fin 2048 → EReal) (l : Fin 2048) : EReal := x l * rms x * g l - t l

/-- The row's gradient in one tile. -/
theorem pay10_apply (x t : Vec Ideal S512x2048 .f32) (g : Vec Ideal S1x2048 .f32) (r : Fin 512) (l : Fin 2048) :
    k0_pay10 x g t g (ix2 r l) = (normGrad (fun k => x (ix2 r k)) (fun k => err (fun k => x (ix2 r k)) (fun k => t (ix2 r k)) (fun k => g (ix2 0 k)) k * invDim * g (ix2 0 k)) l : EReal) := by
  unfold_payloads
  pointwise
  rfl
/-- A tile's part of the loss. -/
theorem pay8_apply (x t : Vec Ideal S512x2048 .f32) (g : Vec Ideal S1x2048 .f32) :
    k0_pay8 x g t (ix2 0 0) = (halfInvDim * ∑ r : Fin 512, ∑ l : Fin 2048, err (fun k => x (ix2 r k)) (fun k => t (ix2 r k)) (fun k => g (ix2 0 k)) l * err (fun k => x (ix2 r k)) (fun k => t (ix2 r k)) (fun k => g (ix2 0 k)) l : EReal) := by
  unfold_payloads
  pointwise
  rfl
/-- The first tile's part fills the loss's block. -/
theorem pay2_apply (v : Vec Ideal S1x1 .f32) (i : Fin 8) (j : Fin 128) : k0_pay2 (F := Ideal) v (ix2 i j) = (v (ix2 0 0) : EReal) := by
  unfold_payloads
  pointwise
/-- A later tile's part is added to every entry. -/
theorem pay3_apply (v : Vec Ideal S1x1 .f32) (a : Vec Ideal S8x128 .f32) (i : Fin 8) (j : Fin 128) : k0_pay3 v a (ix2 i j) = (a (ix2 i j) + v (ix2 0 0) : EReal) := by
  unfold_payloads
  pointwise
/-- A tile's part of the gain's gradient. -/
theorem pay1_apply (x t : Vec Ideal S512x2048 .f32) (g : Vec Ideal S1x2048 .f32) (l : Fin 2048) :
    k0_pay1 (k0_pay6 x) (k0_pay9 x g t) (ix2 0 l) = (∑ r : Fin 512, err (fun k => x (ix2 r k)) (fun k => t (ix2 r k)) (fun k => g (ix2 0 k)) l * invDim * (x (ix2 r l) * rms (fun k => x (ix2 r k))) : EReal) := by
  unfold_payloads
  pointwise
  rfl
/-- The same, added to what the earlier tiles left. -/
theorem pay4_apply (u v : Vec Ideal S512x2048 .f32) (a : Vec Ideal S1x2048 .f32) (l : Fin 2048) :
    k0_pay4 (F := Ideal) u v a (ix2 0 l) = (a (ix2 0 l) + k0_pay1 (F := Ideal) u v (ix2 0 l) : EReal) := by
  unfold_payloads
  pointwise

variable (m : (ℓ : Loc nD τ sig) → Buf (Elt Ideal) ℓ)

/-- The block each window reads or writes at a point of the grid. -/
theorem idx_facts : ∀ t : Fin cfg0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![0, 0] :=
  (by decide +kernel : ∀ t : Fin grid0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![0, 0])

/-- The grid's size. -/
theorem lt_N (t : Fin cfg0.N) : t.val < 8 := lt_of_lt_of_eq t.isLt N_0

/-- What a point writes of the rows' gradient. -/
theorem outs3 (c : Dev nD) (t : Fin cfg0.N) : (outsAt0 m c t.val t.isLt).1 = k0_pay10 (iblk m c 0 t) (iblk m c 2 t) (iblk m c 1 t) (iblk m c 2 t) := by
  by_cases h : t.val % 8 = 0
  · rw [outsAt0_A m c t h (by have := lt_N t; omega)]
    dsimp only
    unfold out0_A_3
    refine (View.read_writes_eq_canon _ _ _ (by apply cover0_A_3)).trans ?_
    unfold kernelRun0_A
    dsimp only
    sl_unfold_words
    rw [View.canon_unit_zero hz]
    simp only [View.readAt_eq_ld, (hs0_0 t).read_unread, (hs0_1 t).read_unread, (hs0_2 t).read_unread, View.ld_unit_zero (S := S512x2048) hz, View.ld_unit_zero (S := S1x2048) hz]
  · rw [outsAt0_B m c t h (by omega)]
    dsimp only
    unfold out0_B_3
    refine (View.read_writes_eq_canon _ _ _ (by apply cover0_B_3)).trans ?_
    unfold kernelRun0_B
    dsimp only
    sl_unfold_words
    rw [View.canon_unit_zero hz]
    simp only [View.readAt_eq_ld, (hs0_0 t).read_unread, (hs0_1 t).read_unread, (hs0_2 t).read_unread, View.ld_unit_zero (S := S512x2048) hz, View.ld_unit_zero (S := S1x2048) hz]

/-- What a point leaves of the loss: the first point of a sum. -/
theorem outs4_A (c : Dev nD) (t : Fin cfg0.N) (h : t.val % 8 = 0) : (outsAt0 m c t.val t.isLt).2.1 = k0_pay2 (k0_pay8 (iblk m c 0 t) (iblk m c 2 t) (iblk m c 1 t)) := by
  rw [outsAt0_A m c t h (by have := lt_N t; omega)]
  dsimp only
  unfold out0_A_4
  refine (View.read_writes_eq_canon _ _ _ (by apply cover0_A_4)).trans ?_
  unfold kernelRun0_A
  dsimp only
  sl_unfold_words
  rw [View.canon_unit_zero hz]
  simp only [View.readAt_eq_ld, (hs0_0 t).read_unread, (hs0_1 t).read_unread, (hs0_2 t).read_unread, View.ld_unit_zero (S := S512x2048) hz, View.ld_unit_zero (S := S1x2048) hz, View.ld_unit_zero (S := S8x128) hz]
/-- What a point leaves of the loss: a later point. -/
theorem outs4_B (c : Dev nD) (t : Fin cfg0.N) (h : ¬t.val % 8 = 0) : (outsAt0 m c t.val t.isLt).2.1 = k0_pay3 (k0_pay8 (iblk m c 0 t) (iblk m c 2 t) (iblk m c 1 t)) (outsAt0 m c (t.val - 1) (Nat.lt_of_le_of_lt (Nat.sub_le _ _) t.isLt)).2.1 := by
  rw [outsAt0_B m c t h (by omega)]
  dsimp only
  unfold out0_B_4
  refine (View.read_writes_eq_canon _ _ _ (by apply cover0_B_4)).trans ?_
  unfold kernelRun0_B
  dsimp only
  sl_unfold_words
  rw [View.canon_unit_zero hz]
  simp only [View.readAt_eq_ld, (hs0_0 t).read_unread, (hs0_1 t).read_unread, (hs0_2 t).read_unread, (hs0_4 t).read_unread, View.ld_unit_zero (S := S512x2048) hz, View.ld_unit_zero (S := S1x2048) hz, View.ld_unit_zero (S := S8x128) hz]

/-- What a point leaves of the gain's gradient: the first point of a sum. -/
theorem outs5_A (c : Dev nD) (t : Fin cfg0.N) (h : t.val % 8 = 0) : (outsAt0 m c t.val t.isLt).2.2 = k0_pay1 (k0_pay6 (iblk m c 0 t)) (k0_pay9 (iblk m c 0 t) (iblk m c 2 t) (iblk m c 1 t)) := by
  rw [outsAt0_A m c t h (by have := lt_N t; omega)]
  dsimp only
  unfold out0_A_5
  refine (View.read_writes_eq_canon _ _ _ (by apply cover0_A_5)).trans ?_
  unfold kernelRun0_A
  dsimp only
  sl_unfold_words
  rw [View.canon_unit_zero hz]
  simp only [View.readAt_eq_ld, (hs0_0 t).read_unread, (hs0_1 t).read_unread, (hs0_2 t).read_unread, View.ld_unit_zero (S := S512x2048) hz, View.ld_unit_zero (S := S1x2048) hz]
/-- What a point leaves of the gain's gradient: a later point. -/
theorem outs5_B (c : Dev nD) (t : Fin cfg0.N) (h : ¬t.val % 8 = 0) : (outsAt0 m c t.val t.isLt).2.2 = k0_pay4 (k0_pay6 (iblk m c 0 t)) (k0_pay9 (iblk m c 0 t) (iblk m c 2 t) (iblk m c 1 t)) (outsAt0 m c (t.val - 1) (Nat.lt_of_le_of_lt (Nat.sub_le _ _) t.isLt)).2.2 := by
  rw [outsAt0_B m c t h (by omega)]
  dsimp only
  unfold out0_B_5
  refine (View.read_writes_eq_canon _ _ _ (by apply cover0_B_5)).trans ?_
  unfold kernelRun0_B
  dsimp only
  sl_unfold_words
  rw [View.canon_unit_zero hz]
  simp only [View.readAt_eq_ld, (hs0_0 t).read_unread, (hs0_1 t).read_unread, (hs0_2 t).read_unread, (hs0_5 t).read_unread, View.ld_unit_zero (S := S512x2048) hz, View.ld_unit_zero (S := S1x2048) hz]

/-- The kernel's operands: the rows, the targets, the gain. -/
abbrev X (c : Dev nD) : Vec Ideal S4096x2048 .f32 := V m c main_arg0
abbrev TG (c : Dev nD) : Vec Ideal S4096x2048 .f32 := V m c main_arg1
abbrev G (c : Dev nD) : Vec Ideal S1x2048 .f32 := V m c main_v0

/-- The array's row that row `r` of a point's tile is. -/
abbrev row (t : Fin cfg0.N) (r : Fin 512) : Fin 4096 := ⟨512 * t.val + r.val, by have := lt_N t; omega⟩

/-- A tile of the rows. -/
theorem iblk0_apply (c : Dev nD) (t : Fin cfg0.N) (r : Fin 512) (l : Fin 2048) :
    (iblk m c 0 t : Vec Ideal S512x2048 .f32) (ix2 r l) = X m c (ix2 (row t r) l) := by
  have hi := (idx_facts t).1
  have ht := lt_N t
  unfold iblk
  rw [View.read_apply]
  refine congrArg (X m c) ?_
  refine Shape.idx_ext₂ ?_ ?_
  · show win0_0.index t 0 * 512 + 1 * r.val = 512 * t.val + r.val
    rw [hi]; show t.val * 512 + 1 * r.val = 512 * t.val + r.val; omega
  · show win0_0.index t 1 * 2048 + 1 * l.val = l.val
    rw [hi]; show 0 * 2048 + 1 * l.val = l.val; omega

/-- A tile of the targets. -/
theorem iblk1_apply (c : Dev nD) (t : Fin cfg0.N) (r : Fin 512) (l : Fin 2048) :
    (iblk m c 1 t : Vec Ideal S512x2048 .f32) (ix2 r l) = TG m c (ix2 (row t r) l) := by
  have hi := (idx_facts t).2.1
  have ht := lt_N t
  unfold iblk
  rw [View.read_apply]
  refine congrArg (TG m c) ?_
  refine Shape.idx_ext₂ ?_ ?_
  · show win0_1.index t 0 * 512 + 1 * r.val = 512 * t.val + r.val
    rw [hi]; show t.val * 512 + 1 * r.val = 512 * t.val + r.val; omega
  · show win0_1.index t 1 * 2048 + 1 * l.val = l.val
    rw [hi]; show 0 * 2048 + 1 * l.val = l.val; omega

/-- The gain at a point. -/
theorem iblk2_apply (c : Dev nD) (t : Fin cfg0.N) (l : Fin 2048) :
    (iblk m c 2 t : Vec Ideal S1x2048 .f32) (ix2 (0 : Fin 1) l) = G m c (ix2 0 l) := by
  have hi := (idx_facts t).2.2.1
  have ht := lt_N t
  unfold iblk
  rw [View.read_apply]
  refine congrArg (G m c) ?_
  refine Shape.idx_ext₂ ?_ ?_
  · show win0_2.index t 0 * 1 + 1 * 0 = 0
    rw [hi]; show 0 * 1 + 1 * 0 = 0; omega
  · show win0_2.index t 1 * 2048 + 1 * l.val = l.val
    rw [hi]; show 0 * 2048 + 1 * l.val = l.val; omega

/-- A row of the input. -/
abbrev xrow (c : Dev nD) (k : Fin 4096) : Fin 2048 → EReal := fun l => X m c (ix2 k l)
/-- A row's error. -/
def er (c : Dev nD) (k : Fin 4096) : Fin 2048 → EReal := err (xrow m c k) (fun l => TG m c (ix2 k l)) (fun l => G m c (ix2 0 l))
/-- A row's squared error. -/
def sqr (c : Dev nD) (k : Fin 4096) : EReal := ∑ l : Fin 2048, er m c k l * er m c k l
/-- One row's part of the gain's gradient. -/
def part (c : Dev nD) (l : Fin 2048) (k : Fin 4096) : EReal := er m c k l * invDim * (X m c (ix2 k l) * rms (xrow m c k))

/-- The rows' gradient. -/
def dx (c : Dev nD) : Vec Ideal S4096x2048 .f32 := fun i => (normGrad (xrow m c (i 0)) (fun k => er m c (i 0) k * invDim * G m c (ix2 0 k)) (i 1) : EReal)
/-- The loss, tile by tile, in every entry of its block. -/
def loss (c : Dev nD) : Vec Ideal S8x128 .f32 := fun _ => (∑ s ∈ Finset.range 8, halfInvDim * ∑ r : Fin 512, ext (sqr m c) (512 * s + r) : EReal)
/-- The gain's gradient. -/
def dg (c : Dev nD) : Vec Ideal S1x2048 .f32 := fun i => (∑ k : Fin 4096, part m c (i 1) k : EReal)

/-- The error in a tile is the array's. -/
theorem err_tile (c : Dev nD) (t : Fin cfg0.N) (r : Fin 512) (l : Fin 2048) :
    err (fun k => (iblk m c 0 t : Vec Ideal S512x2048 .f32) (ix2 r k)) (fun k => (iblk m c 1 t : Vec Ideal S512x2048 .f32) (ix2 r k)) (fun k => (iblk m c 2 t : Vec Ideal S1x2048 .f32) (ix2 0 k)) l = er m c (row t r) l := by
  simp only [iblk0_apply, iblk1_apply, iblk2_apply]
  rfl

/-- A tile's part of the loss, by the array's rows. -/
theorem tile4 (c : Dev nD) (t : Fin cfg0.N) : (k0_pay8 (iblk m c 0 t) (iblk m c 2 t) (iblk m c 1 t) (ix2 0 0) : EReal) = halfInvDim * ∑ r : Fin 512, ext (sqr m c) (512 * t.val + r) := by
  rw [pay8_apply]
  refine congrArg (halfInvDim * ·) (Finset.sum_congr rfl fun r _ => ?_)
  rw [ext_of_lt _ (row t r).isLt]
  exact Finset.sum_congr rfl fun l _ => by rw [err_tile]
/-- A tile's part of the gain's gradient, by the array's rows. -/
theorem tile5 (c : Dev nD) (t : Fin cfg0.N) (l : Fin 2048) : (k0_pay1 (k0_pay6 (iblk m c 0 t)) (k0_pay9 (iblk m c 0 t) (iblk m c 2 t) (iblk m c 1 t)) (ix2 0 l) : EReal) = ∑ r : Fin 512, ext (part m c l) (512 * t.val + r) := by
  rw [pay1_apply]
  refine Finset.sum_congr rfl fun r _ => ?_
  rw [ext_of_lt _ (row t r).isLt, err_tile]
  simp only [iblk0_apply]
  rfl
/-- The loss after a point: the tiles so far. -/
theorem sums4 (c : Dev nD) (i : Fin 8) (j : Fin 128) (n : ℕ) (h : n < cfg0.N) : ((outsAt0 m c n h).2.1 (ix2 i j) : EReal) =
    ∑ s ∈ Finset.range (n % 8 + 1), halfInvDim * ∑ r : Fin 512, ext (sqr m c) (512 * (8 * (n / 8) + s) + r) := by
  refine run_sum (fun n h => ((outsAt0 m c n h).2.1 (ix2 i j) : EReal)) (fun s => halfInvDim * ∑ r : Fin 512, ext (sqr m c) (512 * s + r)) (fun n h h0 => ?_) (fun n h h0 => ?_) n h
  · exact (congrFun (outs4_A m c ⟨n, h⟩ h0) _).trans ((pay2_apply _ i j).trans (tile4 m c ⟨n, h⟩))
  · exact (congrFun (outs4_B m c ⟨n + 1, h⟩ h0) _).trans ((pay3_apply _ _ i j).trans (congrArg (HAdd.hAdd _) (tile4 m c ⟨n + 1, h⟩)))
/-- The gain's gradient after a point: the rows of the tiles so far. -/
theorem sums5 (c : Dev nD) (l : Fin 2048) (n : ℕ) (h : n < cfg0.N) : ((outsAt0 m c n h).2.2 (ix2 0 l) : EReal) =
    ∑ s ∈ Finset.range (n % 8 + 1), ∑ r : Fin 512, ext (part m c l) (512 * (8 * (n / 8) + s) + r) := by
  refine run_sum (fun n h => ((outsAt0 m c n h).2.2 (ix2 0 l) : EReal)) (fun s => ∑ r : Fin 512, ext (part m c l) (512 * s + r)) (fun n h h0 => ?_) (fun n h h0 => ?_) n h
  · exact (congrFun (outs5_A m c ⟨n, h⟩ h0) _).trans (tile5 m c ⟨n, h⟩ l)
  · exact (congrFun (outs5_B m c ⟨n + 1, h⟩ h0) _).trans ((pay4_apply _ _ _ l).trans (congrArg (HAdd.hAdd _) (tile5 m c ⟨n + 1, h⟩ l)))

/-- The array the kernel leaves: the rows' gradient. -/
theorem final3 (c : Dev nD) : (dats m 0 c).arrAt 3 cfg0.N = dx m c := by
  refine (dats m 0 c).arrAt_eq_of_cover 3 (dx m c) (fun t hf => ?_) fun i => ?_
  · have hi := (idx_facts t).2.2.2.1
    have ht := lt_N t
    rw [Value.flushed3]
    funext y
    rw [View.read_apply]
    obtain ⟨r, l, rfl⟩ : ∃ (r : Fin 512) (l : Fin 2048), y = ix2 r l := ⟨y 0, y 1, by funext a; match a with | ⟨0, _⟩ => rfl | ⟨1, _⟩ => rfl⟩
    have e : (((cfg0.win 3).blk t).view.emb (ix2 r l) : S4096x2048.Idx) = ix2 (row t r) l := by
      refine Shape.idx_ext₂ ?_ ?_
      · show win0_3.index t 0 * 512 + 1 * r.val = 512 * t.val + r.val
        rw [hi]; show t.val * 512 + 1 * r.val = 512 * t.val + r.val; omega
      · show win0_3.index t 1 * 2048 + 1 * l.val = l.val
        rw [hi]; show 0 * 2048 + 1 * l.val = l.val; omega
    show _ = dx m c (((cfg0.win 3).blk t).view.emb (ix2 r l))
    rw [e]
    show (outsAt0 m c t.val t.isLt).1 (ix2 r l) = _
    rw [outs3, pay10_apply]
    simp only [err_tile]
    simp only [iblk0_apply, iblk2_apply]
    rfl
  · have hN : cfg0.N = 8 := N_0
    have h0 : (i 0 : ℕ) < 4096 := (i 0).isLt
    have h1 : (i 1 : ℕ) < 2048 := (i 1).isLt
    obtain ⟨t, ht⟩ : ∃ t : Fin cfg0.N, t.val = (i 0 : ℕ) / 512 := ⟨⟨(i 0 : ℕ) / 512, by omega⟩, rfl⟩
    refine ⟨t, flush0_3 t, ?_⟩
    show i ∈ ((View.whole main_v1_0).slice (win0_3.rect t)).set
    rw [View.set_slice_whole, Rect.mem_set_unit]
    have hi := (idx_facts t).2.2.2.1
    intro a
    match a with
    | ⟨0, _⟩ =>
      show win0_3.index t 0 * 512 ≤ (i 0 : ℕ) ∧ (i 0 : ℕ) < win0_3.index t 0 * 512 + 512
      rw [hi]; show t.val * 512 ≤ (i 0 : ℕ) ∧ (i 0 : ℕ) < t.val * 512 + 512; omega
    | ⟨1, _⟩ =>
      show win0_3.index t 1 * 2048 ≤ (i 1 : ℕ) ∧ (i 1 : ℕ) < win0_3.index t 1 * 2048 + 2048
      rw [hi]; show 0 * 2048 ≤ (i 1 : ℕ) ∧ (i 1 : ℕ) < 0 * 2048 + 2048; omega

/-- The array the kernel leaves: the loss. -/
theorem final4 (c : Dev nD) : (dats m 0 c).arrAt 4 cfg0.N = loss m c := by
  refine (dats m 0 c).arrAt_eq_of_cover 4 (loss m c) (fun t hf => ?_) fun i => ?_
  · have hi := (idx_facts t).2.2.2.2.1
    have ht := lt_N t
    rw [Value.flushed4]
    funext y
    rw [View.read_apply]
    obtain ⟨i, j, rfl⟩ : ∃ (i : Fin 8) (j : Fin 128), y = ix2 i j := ⟨y 0, y 1, by funext a; match a with | ⟨0, _⟩ => rfl | ⟨1, _⟩ => rfl⟩
    have e : (((cfg0.win 4).blk t).view.emb (ix2 i j) : S8x128.Idx) = ix2 i j := by
      refine Shape.idx_ext₂ ?_ ?_
      · show win0_4.index t 0 * 8 + 1 * i.val = i.val
        rw [hi]; show 0 * 8 + 1 * i.val = i.val; omega
      · show win0_4.index t 1 * 128 + 1 * j.val = j.val
        rw [hi]; show 0 * 128 + 1 * j.val = j.val; omega
    show _ = loss m c (((cfg0.win 4).blk t).view.emb (ix2 i j))
    rw [e]
    show (outsAt0 m c t.val t.isLt).2.1 (ix2 i j) = _
    have h7 := (flush0_4 t).mp hf
    rw [sums4 m c i j t.val t.isLt, show t.val % 8 + 1 = 8 by omega, show 8 * (t.val / 8) = 0 by omega]
    simp only [Nat.zero_add]
    rfl
  · have hN : cfg0.N = 8 := N_0
    have h0 : (i 0 : ℕ) < 8 := (i 0).isLt
    have h1 : (i 1 : ℕ) < 128 := (i 1).isLt
    obtain ⟨t, ht⟩ : ∃ t : Fin cfg0.N, t.val = 7 := ⟨⟨7, by omega⟩, rfl⟩
    refine ⟨t, (flush0_4 t).mpr (by omega), ?_⟩
    show i ∈ ((View.whole main_v1_1).slice (win0_4.rect t)).set
    rw [View.set_slice_whole, Rect.mem_set_unit]
    have hi := (idx_facts t).2.2.2.2.1
    intro a
    match a with
    | ⟨0, _⟩ =>
      show win0_4.index t 0 * 8 ≤ (i 0 : ℕ) ∧ (i 0 : ℕ) < win0_4.index t 0 * 8 + 8
      rw [hi]; show 0 * 8 ≤ (i 0 : ℕ) ∧ (i 0 : ℕ) < 0 * 8 + 8; omega
    | ⟨1, _⟩ =>
      show win0_4.index t 1 * 128 ≤ (i 1 : ℕ) ∧ (i 1 : ℕ) < win0_4.index t 1 * 128 + 128
      rw [hi]; show 0 * 128 ≤ (i 1 : ℕ) ∧ (i 1 : ℕ) < 0 * 128 + 128; omega

/-- The array the kernel leaves: the gain's gradient. -/
theorem final5 (c : Dev nD) : (dats m 0 c).arrAt 5 cfg0.N = dg m c := by
  refine (dats m 0 c).arrAt_eq_of_cover 5 (dg m c) (fun t hf => ?_) fun i => ?_
  · have hi := (idx_facts t).2.2.2.2.2
    have ht := lt_N t
    rw [Value.flushed5]
    funext y
    rw [View.read_apply]
    obtain ⟨l, rfl⟩ : ∃ (l : Fin 2048), y = ix2 (0 : Fin 1) l := ⟨y 1, by funext a; match a with | ⟨0, _⟩ => exact Fin.fin_one_eq_zero _ | ⟨1, _⟩ => rfl⟩
    have e : (((cfg0.win 5).blk t).view.emb (ix2 (0 : Fin 1) l) : S1x2048.Idx) = ix2 0 l := by
      refine Shape.idx_ext₂ ?_ ?_
      · show win0_5.index t 0 * 1 + 1 * 0 = 0
        rw [hi]; show 0 * 1 + 1 * 0 = 0; omega
      · show win0_5.index t 1 * 2048 + 1 * l.val = l.val
        rw [hi]; show 0 * 2048 + 1 * l.val = l.val; omega
    show _ = dg m c (((cfg0.win 5).blk t).view.emb (ix2 (0 : Fin 1) l))
    rw [e]
    show (outsAt0 m c t.val t.isLt).2.2 (ix2 0 l) = _
    have h7 := (flush0_5 t).mp hf
    rw [sums5 m c l t.val t.isLt, show t.val % 8 + 1 = 8 by omega, show 8 * (t.val / 8) = 0 by omega]
    simp only [Nat.zero_add]
    exact sum_tiles (part m c l) 8 512 (by norm_num)
  · have hN : cfg0.N = 8 := N_0
    have h0 : (i 0 : ℕ) < 1 := (i 0).isLt
    have h1 : (i 1 : ℕ) < 2048 := (i 1).isLt
    obtain ⟨t, ht⟩ : ∃ t : Fin cfg0.N, t.val = 7 := ⟨⟨7, by omega⟩, rfl⟩
    refine ⟨t, (flush0_5 t).mpr (by omega), ?_⟩
    show i ∈ ((View.whole main_v1_2).slice (win0_5.rect t)).set
    rw [View.set_slice_whole, Rect.mem_set_unit]
    have hi := (idx_facts t).2.2.2.2.2
    intro a
    match a with
    | ⟨0, _⟩ =>
      show win0_5.index t 0 * 1 ≤ (i 0 : ℕ) ∧ (i 0 : ℕ) < win0_5.index t 0 * 1 + 1
      rw [hi]; show 0 * 1 ≤ (i 0 : ℕ) ∧ (i 0 : ℕ) < 0 * 1 + 1; omega
    | ⟨1, _⟩ =>
      show win0_5.index t 1 * 2048 ≤ (i 1 : ℕ) ∧ (i 1 : ℕ) < win0_5.index t 1 * 2048 + 2048
      rw [hi]; show 0 * 2048 ≤ (i 1 : ℕ) ∧ (i 1 : ℕ) < 0 * 2048 + 2048; omega

/-- The program's arguments: rows, targets, gain. -/
abbrev A0 (c : Dev nD) : FVec Ideal S4096x2048 .f32 := m ((c : Thread nD τ).loc main_arg0)
abbrev A1 (c : Dev nD) : FVec Ideal S4096x2048 .f32 := m ((c : Thread nD τ).loc main_arg1)
abbrev A2 (c : Dev nD) : FVec Ideal S2048 .f32 := m ((c : Thread nD τ).loc main_arg2)

/-- The kernel's gain is the argument as one row. -/
theorem G_apply (c : Dev nD) (l : Fin 2048) : G m c (ix2 0 l) = (A2 m c (ix1 l) : EReal) := by
  have : V m c main_v0 = (broadcastInDim S1x2048 ![1] bcast_S2048_S1x2048_1 (m ((c.tc : Thread nD τ).loc main_arg2) : FVec Ideal S2048 .f32) : FVec Ideal S1x2048 .f32) := by
    unfold V hostOps0
    after_results <;> rfl
  unfold G
  rw [this]
  pointwise
/-- The rows are read as they are passed. -/
theorem X_eq (c : Dev nD) : X m c = A0 m c := by
  unfold X V hostOps0
  after_results
/-- The targets are read as they are passed. -/
theorem TG_eq (c : Dev nD) : TG m c = A1 m c := by
  unfold TG V hostOps0
  after_results
/-- A row's error, from the arguments. -/
theorem er_eq (c : Dev nD) (k : Fin 4096) : er m c k = err (fun l => A0 m c (ix2 k l)) (fun l => A1 m c (ix2 k l)) (fun l => A2 m c (ix1 l)) := by
  unfold er xrow
  rw [X_eq, TG_eq]
  exact congrArg (err _ _) (funext fun l => G_apply m c l)

end Cert.LossHeadIdeal.Hand

namespace Cert.LossHeadRefIdeal.Hand

open Cert.LossHeadRefIdeal Cert.LossHeadRefIdeal.Gen Cert.LossHeadRefIdeal.Read Cert.LossHeadIdeal.Hand Cert.Common

section
variable (x0 x1 : FVec Ideal S4096x2048 .f32) (x2 : FVec Ideal S2048 .f32) (k : Fin 4096) (l : Fin 2048)

/-- A row's error in the reference. -/
abbrev E (k : Fin 4096) : Fin 2048 → EReal := err (fun l => x0 (ix2 k l)) (fun l => x1 (ix2 k l)) (fun l => x2 (ix1 l))

/-- The reference's error. -/
theorem v16_eq : val_main_v16 (F := Ideal) x0 x1 x2 (ix2 k l) = E x0 x1 x2 k l := by
  unfold val_main_v16 val_main_v15 val_main_v14 val_main_v13 val_main_v12 val_main_v11 val_main_v7 val_main_v6 val_main_v5 val_main_v4 val_main_v3 val_main_v2 val_main_v1 val_main_v0 val_main_cst val_main_cst_1
  pointwise
  rfl
/-- The gradient that reaches the normalised row: the error over the row's length. -/
theorem v30_eq : val_main_v30 (F := Ideal) x0 x1 x2 (ix2 k l) = E x0 x1 x2 k l * invDim := by
  have e : val_main_v30 (F := Ideal) x0 x1 x2 (ix2 k l) = (Ideal.div (Ideal.ofBits .f32 0x3F000000#32 * 1) dim * (Ideal.ofBits .f32 0x40000000#32 * val_main_v16 (F := Ideal) x0 x1 x2 (ix2 k l)) : EReal) := by
    unfold val_main_v30 val_main_v29 val_main_v28 val_main_v27 val_main_v26 val_main_v25 val_main_v19 val_main_v18 val_main_cst_3 val_main_cst_8 val_main_cst_9 val_main_cst_10
    pointwise
    rfl
  rw [e, v16_eq, half_eq, two_eq, dim_eq, invDim_eq, mul_one, Ideal.div_coe (by norm_num), ← mul_assoc, mul_comm (E x0 x1 x2 k l), ← EReal.coe_mul, ← EReal.coe_mul]
  norm_num
/-- The gradient of the row's weights. -/
theorem v35_eq : val_main_v35 (F := Ideal) x0 x1 x2 (ix2 k l) = (E x0 x1 x2 k l * invDim * x2 (ix1 l) : EReal) := by
  rw [← v30_eq]
  unfold val_main_v35 val_main_v34 val_main_v13
  pointwise
/-- The reference's gradient of the rows. -/
theorem v50_eq : val_main_v50 (F := Ideal) x0 x1 x2 (ix2 k l) = (val_main_v35 (F := Ideal) x0 x1 x2 (ix2 k l) * rms (fun l => x0 (ix2 k l))
    + x0 (ix2 k l) * rowFactor (fun l => x0 (ix2 k l)) (fun l => val_main_v35 (F := Ideal) x0 x1 x2 (ix2 k l))
    + rowFactor (fun l => x0 (ix2 k l)) (fun l => val_main_v35 (F := Ideal) x0 x1 x2 (ix2 k l)) * x0 (ix2 k l) : EReal) := by
  unfold val_main_v50 val_main_v49 val_main_v48 val_main_v47 val_main_v46 val_main_v45 val_main_v44 val_main_v43 val_main_v42 val_main_v41 val_main_v40 val_main_v39 val_main_v38 val_main_v37 val_main_v10 val_main_v9 val_main_v8 val_main_v7 val_main_v6 val_main_v5 val_main_v4 val_main_v3 val_main_v2 val_main_v1 val_main_v0 val_main_cst val_main_cst_1 val_main_cst_2 val_main_cst_13 val_main_cst_14 val_main_cst_15
  pointwise
  simp only [Fin.sum_univ_one]
  rfl
/-- The reference's gradient of the gain. -/
theorem v52_eq : val_main_v52 (F := Ideal) x0 x1 x2 (ix2 0 l) = (∑ k : Fin 4096, x0 (ix2 k l) * rms (fun l => x0 (ix2 k l)) * val_main_v30 (F := Ideal) x0 x1 x2 (ix2 k l) : EReal) := by
  unfold val_main_v52 val_main_v36 val_main_v33 val_main_v32 val_main_v31 val_main_v12 val_main_v11 val_main_v7 val_main_v6 val_main_v5 val_main_v4 val_main_v3 val_main_v2 val_main_v1 val_main_v0 val_main_cst val_main_cst_1 val_main_cst_11 val_main_cst_12
  pointwise
  simp only [Fin.sum_univ_one]
  rfl
/-- The reference's loss. -/
theorem v51_eq (i : Fin 8) (j : Fin 128) : val_main_v51 (F := Ideal) x0 x1 x2 (ix2 i j) = (Ideal.ofBits .f32 0x3F000000#32 * ∑ k : Fin 4096, Ideal.div (∑ l : Fin 2048, val_main_v16 (F := Ideal) x0 x1 x2 (ix2 k l) * val_main_v16 (F := Ideal) x0 x1 x2 (ix2 k l)) dim : EReal) := by
  unfold val_main_v51 val_main_v24 val_main_v23 val_main_v22 val_main_v21 val_main_v20 val_main_v17 val_main_cst_4 val_main_cst_5 val_main_cst_6 val_main_cst_7
  pointwise
  rfl

end

/-- A real factor of a sum of reals goes to its terms. -/
theorem mul_sum_real {n : ℕ} (r : ℝ) (f : Fin n → EReal) (h : ∀ i, IsR (f i)) : (r : EReal) * ∑ i, f i = ∑ i, (r : EReal) * f i := by
  choose a ha using h
  simp only [ha, ← EReal.coe_mul, ← coe_sum, Finset.mul_sum]

variable (m : (ℓ : Loc Cert.LossHeadIdeal.nD Cert.LossHeadIdeal.τ Cert.LossHeadIdeal.sig) → Buf (Elt Ideal) ℓ) (c : Dev Cert.LossHeadIdeal.nD)
  (h0 : ∀ i, IsR (A0 m c i)) (h1 : ∀ i, IsR (A1 m c i)) (h2 : ∀ i, IsR (A2 m c i))

include h0 h1 h2 in
/-- The errors are real. -/
theorem isR_er (k : Fin 4096) (l : Fin 2048) : IsR (er m c k l) := by
  rw [er_eq]
  exact (((h0 _).mul (isR_rms _ fun _ => h0 _)).mul (h2 _)).sub (h1 _)

include h0 h1 h2 in
/-- The reference's gradient of the rows is the kernel's, of finite arguments. -/
theorem ref50 : val_main_v50 (F := Ideal) (A0 m c) (A1 m c) (A2 m c) = dx m c := by
  funext i
  obtain ⟨R, C, rfl⟩ : ∃ (R : Fin 4096) (C : Fin 2048), i = ix2 R C := ⟨i 0, i 1, eq_ix2 i⟩
  have hi : IsR invDim := invDim_eq ▸ isR_coe _
  have hw : ∀ k, IsR (val_main_v35 (F := Ideal) (A0 m c) (A1 m c) (A2 m c) (ix2 R k)) := fun k => by
    rw [v35_eq, E, ← er_eq m c R]
    exact ((isR_er m c h0 h1 h2 R k).mul hi).mul (h2 _)
  rw [v50_eq, add_assoc, ← normGrad_eq (fun l => A0 m c (ix2 R l)) _ (fun k => h0 _) hw]
  show _ = (normGrad (xrow m c R) (fun k => er m c R k * invDim * G m c (ix2 0 k)) C : EReal)
  unfold xrow
  rw [X_eq]
  refine congrArg (fun f => normGrad _ f C) (funext fun k => ?_)
  rw [G_apply, v35_eq, E, ← er_eq m c R]

/-- The reference's gradient of the gain is the kernel's. -/
theorem ref52 : val_main_v52 (F := Ideal) (A0 m c) (A1 m c) (A2 m c) = dg m c := by
  funext i
  obtain ⟨C, rfl⟩ : ∃ C : Fin 2048, i = ix2 (0 : Fin 1) C := ⟨i 1, by funext a; match a with | ⟨0, _⟩ => exact Fin.fin_one_eq_zero _ | ⟨1, _⟩ => rfl⟩
  rw [v52_eq]
  refine Finset.sum_congr rfl fun k _ => ?_
  show _ = part m c C k
  unfold part xrow
  rw [X_eq, v30_eq, E, ← er_eq m c k, mul_comm]

include h0 h1 h2 in
/-- The reference's loss is the kernel's, of finite arguments. -/
theorem ref51 : val_main_v51 (F := Ideal) (A0 m c) (A1 m c) (A2 m c) = loss m c := by
  funext i
  obtain ⟨R, C, rfl⟩ : ∃ (R : Fin 8) (C : Fin 128), i = ix2 R C := ⟨i 0, i 1, eq_ix2 i⟩
  have hq : ∀ k, IsR (sqr m c k) := fun k => isR_sum _ _ fun l _ => (isR_er m c h0 h1 h2 k l).mul (isR_er m c h0 h1 h2 k l)
  rw [v51_eq]
  have e : ∀ k, (∑ l : Fin 2048, val_main_v16 (F := Ideal) (A0 m c) (A1 m c) (A2 m c) (ix2 k l) * val_main_v16 (F := Ideal) (A0 m c) (A1 m c) (A2 m c) (ix2 k l) : EReal) = sqr m c k := fun k => by
    unfold sqr
    refine Finset.sum_congr rfl fun l _ => ?_
    rw [v16_eq, E, ← er_eq m c k]
  simp only [e]
  have e1 : ∀ k, Ideal.div (sqr m c k) dim = ((1 / 2048 : ℝ) : EReal) * sqr m c k := fun k => by
    rw [dim_eq, Ideal.div_coe (by norm_num), mul_comm]
  simp only [e1]
  rw [half_eq, mul_sum_real _ _ fun k => (isR_coe _).mul (hq k)]
  show _ = (∑ s ∈ Finset.range 8, halfInvDim * ∑ r : Fin 512, ext (sqr m c) (512 * s + r) : EReal)
  rw [← sum_tiles (fun k => ((1 / 2 : ℝ) : EReal) * (((1 / 2048 : ℝ) : EReal) * sqr m c k)) 8 512 (by norm_num)]
  refine Finset.sum_congr rfl fun s hs => ?_
  have hs8 := Finset.mem_range.mp hs
  have hl : ∀ r : Fin 512, 512 * s + r.val < 4096 := fun r => by omega
  rw [halfInvDim_eq, mul_sum_real _ _ fun r => by rw [ext_of_lt _ (hl r)]; exact hq _]
  refine Finset.sum_congr rfl fun r _ => ?_
  rw [ext_of_lt _ (hl r), ext_of_lt _ (hl r), ← mul_assoc, ← EReal.coe_mul]
  norm_num

/-- What the precondition says of the arguments. -/
theorem finite_args (x0 x1 : FVec Ideal S4096x2048 .f32) (x2 : FVec Ideal S2048 .f32) (h : Cert.Pre_finite_loss.fn (F := Ideal) x0 x1 x2 = fun _ => 1#1) :
    (∀ i, IsR (x0 i)) ∧ (∀ i, IsR (x1 i)) ∧ ∀ i, IsR (x2 i) := by
  have h0 := congrFun h ix0
  unfold Cert.Pre_finite_loss.fn at h0
  have h1 := and_one h0
  have h2 := and_one h1.1
  exact ⟨fun i => real_of_reduce x0 _ (fun _ => rfl) _ _ _ _ h2.1 i, fun i => real_of_reduce x1 _ (fun _ => rfl) _ _ _ _ h2.2 i, fun i => real_of_reduce x2 _ (fun _ => rfl) _ _ _ _ h1.2 i⟩

end Cert.LossHeadRefIdeal.Hand

namespace Cert.Proof

open Cert.LossHeadIdeal.Hand Cert.LossHeadRefIdeal.Hand

/-- The loss and its gradients: the kernel's three arrays are the reference's, of finite arguments. -/
theorem loss_head : Cert.algebraic_LossHeadIdeal_LossHeadRefIdeal_pre_finite_loss := by
  intro m g m' g' hpre hagree
  refine ⟨dx m, loss m, dg m, ?_, ?_⟩
  · refine (θ_run _ _ _).mono (fun r h c => ?_) (Cert.LossHeadIdeal.Value.run_blocks (F := Ideal) m g)
    exact ⟨(h c).1.trans (final3 m c), (h c).2.1.trans (final4 m c), (h c).2.2.1.trans (final5 m c), (h c).2.2.2⟩
  · refine (θ_run _ _ _).mono (fun r h c => ?_) (Cert.LossHeadRefIdeal.Value.run (F := Ideal) m' g')
    have hf := finite_args _ _ _ (hpre c)
    obtain ⟨a0, a1, a2⟩ := hagree c
    refine ⟨(h c).1.trans ((Cert.LossHeadRefIdeal.Read.val_main_v50_eq (F := Ideal) _ _).trans ?_), (h c).2.1.trans ((Cert.LossHeadRefIdeal.Read.val_main_v51_eq (F := Ideal) _ _ _).trans ?_),
      (h c).2.2.1.trans ((Cert.LossHeadRefIdeal.Read.val_main_v52_eq (F := Ideal) _ _ _).trans ?_), (h c).2.2.2⟩
    · rw [a0, a1, a2]
      exact ref50 m c hf.1 hf.2.1 hf.2.2
    · rw [a0, a1, a2]
      exact ref51 m c hf.1 hf.2.1 hf.2.2
    · rw [a0, a1, a2]
      exact ref52 m c

end Cert.Proof

end
-- ==== Proof.PrenormBwdValue.lean ====
module

public import proofs.«01_k».proof.Defs
public import proofs.«01_k».proof.Proof.Gen.PrenormBwdIdeal.Value
public import proofs.«01_k».proof.Proof.Gen.PrenormBwdRefIdeal.Run
public import proofs.«01_k».proof.Proof.Gen.PrenormBwdRefIdeal.Read
public import proofs.«01_k».proof.Proof.Common
public import proofs.«01_k».proof.Proof.Norm
public import proofs.«01_k».proof.Proof.Finite
public import proofs.«01_k».proof.Proof.Gen.Pre_finite_pren
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.PrenormBwdIdeal.Hand

open Cert.PrenormBwdIdeal Cert.PrenormBwdIdeal.Gen Cert.Common

/-- The row's gradient in one tile: what comes past the norm, and the norm's own. -/
theorem pay9_apply (x dh o : Vec Ideal S512x2048 .f32) (g s : Vec Ideal S1x2048 .f32) (r : Fin 512) (l : Fin 2048) :
    k0_pay9 x dh g s o (ix2 r l) = (o (ix2 r l) + normGrad (fun k => x (ix2 r k)) (fun k => dh (ix2 r k) * (g (ix2 0 k) * (1 + s (ix2 0 k)))) l : EReal) := by
  unfold_payloads
  pointwise
  rfl

/-- A tile's part of the gain's gradient. -/
theorem pay1_apply (x dh : Vec Ideal S512x2048 .f32) (s a : Vec Ideal S1x2048 .f32) (l : Fin 2048) :
    k0_pay1 (k0_pay10 x dh) (k0_pay11 s) (Scalar.ofBits .f32 0x3F800000#32) (ix2 0 l) = (∑ r : Fin 512, dh (ix2 r l) * (x (ix2 r l) * rms (fun k => x (ix2 r k))) * (1 + s (ix2 0 l)) : EReal) := by
  unfold_payloads
  pointwise
  try rfl

/-- A tile's part of the scale's gradient. -/
theorem pay2_apply (x dh : Vec Ideal S512x2048 .f32) (s a : Vec Ideal S1x2048 .f32) (l : Fin 2048) :
    k0_pay2 (k0_pay10 x dh) s (ix2 0 l) = (∑ r : Fin 512, dh (ix2 r l) * (x (ix2 r l) * rms (fun k => x (ix2 r k))) * s (ix2 0 l) : EReal) := by
  unfold_payloads
  pointwise
  try rfl

/-- A tile's part of the shift's gradient. -/
theorem pay3_apply (x dh : Vec Ideal S512x2048 .f32) (s a : Vec Ideal S1x2048 .f32) (l : Fin 2048) :
    k0_pay3 dh (ix2 0 l) = (∑ r : Fin 512, dh (ix2 r l) : EReal) := by
  unfold_payloads
  pointwise
  try rfl

/-- A tile's part of the gain's gradient, added to what the earlier tiles left. -/
theorem pay4_apply (x dh : Vec Ideal S512x2048 .f32) (s a : Vec Ideal S1x2048 .f32) (l : Fin 2048) :
    k0_pay4 (k0_pay10 x dh) (k0_pay11 s) (Scalar.ofBits .f32 0x3F800000#32) a (ix2 0 l) = (a (ix2 0 l) + ∑ r : Fin 512, dh (ix2 r l) * (x (ix2 r l) * rms (fun k => x (ix2 r k))) * (1 + s (ix2 0 l)) : EReal) := by
  unfold_payloads
  pointwise
  try rfl

/-- A tile's part of the scale's gradient, added to what the earlier tiles left. -/
theorem pay5_apply (x dh : Vec Ideal S512x2048 .f32) (s a : Vec Ideal S1x2048 .f32) (l : Fin 2048) :
    k0_pay5 (k0_pay10 x dh) s a (ix2 0 l) = (a (ix2 0 l) + ∑ r : Fin 512, dh (ix2 r l) * (x (ix2 r l) * rms (fun k => x (ix2 r k))) * s (ix2 0 l) : EReal) := by
  unfold_payloads
  pointwise
  try rfl

/-- A tile's part of the shift's gradient, added to what the earlier tiles left. -/
theorem pay6_apply (x dh : Vec Ideal S512x2048 .f32) (s a : Vec Ideal S1x2048 .f32) (l : Fin 2048) :
    k0_pay6 dh a (ix2 0 l) = (a (ix2 0 l) + ∑ r : Fin 512, dh (ix2 r l) : EReal) := by
  unfold_payloads
  pointwise
  try rfl

variable (m : (ℓ : Loc nD τ sig) → Buf (Elt Ideal) ℓ)

/-- The block each window reads or writes at a point of the grid. -/
theorem idx_facts : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![0, 0]
    ∧ win0_8.index t = ![0, 0] :=
  (by decide +kernel : ∀ t : Fin grid0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![0, 0]
    ∧ win0_8.index t = ![0, 0])

/-- The grid's size. -/
theorem lt_N (t : Fin cfg0.N) : t.val < 8 := lt_of_lt_of_eq t.isLt N_0

/-- What a point writes of the row's gradient. -/
theorem outs5 (c : Dev nD) (t : Fin cfg0.N) : (outsAt0 m c t.val t.isLt).1 = k0_pay9 (iblk m c 1 t) (iblk m c 0 t) (iblk m c 3 t) (iblk m c 4 t) (iblk m c 2 t) := by
  by_cases h : t.val % 8 = 0
  · rw [outsAt0_A m c t h (by have := lt_N t; omega)]
    dsimp only
    unfold out0_A_5
    refine (View.read_writes_eq_canon _ _ _ (by apply cover0_A_5)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, View.ld_unit_zero (S := S512x2048) hz, View.ld_unit_zero (S := S1x2048) hz]
  · rw [outsAt0_B m c t h (by omega)]
    dsimp only
    unfold out0_B_5
    refine (View.read_writes_eq_canon _ _ _ (by apply cover0_B_5)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, View.ld_unit_zero (S := S512x2048) hz, View.ld_unit_zero (S := S1x2048) hz]

/-- What a point leaves of the gain's gradient: the first point of a sum. -/
theorem outs6_A (c : Dev nD) (t : Fin cfg0.N) (h : t.val % 8 = 0) : (outsAt0 m c t.val t.isLt).2.1 = k0_pay1 (k0_pay10 (iblk m c 1 t) (iblk m c 0 t)) (k0_pay11 (iblk m c 4 t)) (Scalar.ofBits .f32 0x3F800000#32) := by
  rw [outsAt0_A m c t h (by have := lt_N t; omega)]
  dsimp only
  unfold out0_A_6
  refine (View.read_writes_eq_canon _ _ _ (by apply cover0_A_6)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, View.ld_unit_zero (S := S512x2048) hz, View.ld_unit_zero (S := S1x2048) hz]
/-- What a point leaves of the gain's gradient: a later point. -/
theorem outs6_B (c : Dev nD) (t : Fin cfg0.N) (h : ¬t.val % 8 = 0) : (outsAt0 m c t.val t.isLt).2.1 = k0_pay4 (k0_pay10 (iblk m c 1 t) (iblk m c 0 t)) (k0_pay11 (iblk m c 4 t)) (Scalar.ofBits .f32 0x3F800000#32) (outsAt0 m c (t.val - 1) (Nat.lt_of_le_of_lt (Nat.sub_le _ _) t.isLt)).2.1 := by
  rw [outsAt0_B m c t h (by omega)]
  dsimp only
  unfold out0_B_6
  refine (View.read_writes_eq_canon _ _ _ (by apply cover0_B_6)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_6 t).read_unread, View.ld_unit_zero (S := S512x2048) hz, View.ld_unit_zero (S := S1x2048) hz]

/-- What a point leaves of the scale's gradient: the first point of a sum. -/
theorem outs7_A (c : Dev nD) (t : Fin cfg0.N) (h : t.val % 8 = 0) : (outsAt0 m c t.val t.isLt).2.2.1 = k0_pay2 (k0_pay10 (iblk m c 1 t) (iblk m c 0 t)) (iblk m c 3 t) := by
  rw [outsAt0_A m c t h (by have := lt_N t; omega)]
  dsimp only
  unfold out0_A_7
  refine (View.read_writes_eq_canon _ _ _ (by apply cover0_A_7)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, View.ld_unit_zero (S := S512x2048) hz, View.ld_unit_zero (S := S1x2048) hz]
/-- What a point leaves of the scale's gradient: a later point. -/
theorem outs7_B (c : Dev nD) (t : Fin cfg0.N) (h : ¬t.val % 8 = 0) : (outsAt0 m c t.val t.isLt).2.2.1 = k0_pay5 (k0_pay10 (iblk m c 1 t) (iblk m c 0 t)) (iblk m c 3 t) (outsAt0 m c (t.val - 1) (Nat.lt_of_le_of_lt (Nat.sub_le _ _) t.isLt)).2.2.1 := by
  rw [outsAt0_B m c t h (by omega)]
  dsimp only
  unfold out0_B_7
  refine (View.read_writes_eq_canon _ _ _ (by apply cover0_B_7)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_7 t).read_unread, View.ld_unit_zero (S := S512x2048) hz, View.ld_unit_zero (S := S1x2048) hz]

/-- What a point leaves of the shift's gradient: the first point of a sum. -/
theorem outs8_A (c : Dev nD) (t : Fin cfg0.N) (h : t.val % 8 = 0) : (outsAt0 m c t.val t.isLt).2.2.2 = k0_pay3 (iblk m c 0 t) := by
  rw [outsAt0_A m c t h (by have := lt_N t; omega)]
  dsimp only
  unfold out0_A_8
  refine (View.read_writes_eq_canon _ _ _ (by apply cover0_A_8)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, View.ld_unit_zero (S := S512x2048) hz, View.ld_unit_zero (S := S1x2048) hz]
/-- What a point leaves of the shift's gradient: a later point. -/
theorem outs8_B (c : Dev nD) (t : Fin cfg0.N) (h : ¬t.val % 8 = 0) : (outsAt0 m c t.val t.isLt).2.2.2 = k0_pay6 (iblk m c 0 t) (outsAt0 m c (t.val - 1) (Nat.lt_of_le_of_lt (Nat.sub_le _ _) t.isLt)).2.2.2 := by
  rw [outsAt0_B m c t h (by omega)]
  dsimp only
  unfold out0_B_8
  refine (View.read_writes_eq_canon _ _ _ (by apply cover0_B_8)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_8 t).read_unread, View.ld_unit_zero (S := S512x2048) hz, View.ld_unit_zero (S := S1x2048) hz]

/-- The kernel's operands: the gradient of the layer's input, the rows, the gradient past the norm, the gain, the scale. -/
abbrev DH (c : Dev nD) : Vec Ideal S4096x2048 .f32 := V m c main_arg4
abbrev X (c : Dev nD) : Vec Ideal S4096x2048 .f32 := V m c main_arg0
abbrev DO (c : Dev nD) : Vec Ideal S4096x2048 .f32 := V m c main_arg5
abbrev G (c : Dev nD) : Vec Ideal S1x2048 .f32 := V m c main_v0
abbrev SC (c : Dev nD) : Vec Ideal S1x2048 .f32 := V m c main_v1

/-- The array's row that row `r` of a point's tile is. -/
abbrev row (t : Fin cfg0.N) (r : Fin 512) : Fin 4096 := ⟨512 * t.val + r.val, by have := lt_N t; omega⟩

/-- A tile of the incoming gradient. -/
theorem iblk0_apply (c : Dev nD) (t : Fin cfg0.N) (r : Fin 512) (l : Fin 2048) :
    (iblk m c 0 t : Vec Ideal S512x2048 .f32) (ix2 r l) = DH m c (ix2 (row t r) l) := by
  have hi := (idx_facts t).1
  have ht := lt_N t
  unfold iblk
  rw [View.read_apply]
  refine congrArg (DH m c) ?_
  refine Shape.idx_ext₂ ?_ ?_
  · show win0_0.index t 0 * 512 + 1 * r.val = 512 * t.val + r.val
    rw [hi]; show t.val * 512 + 1 * r.val = 512 * t.val + r.val; omega
  · show win0_0.index t 1 * 2048 + 1 * l.val = l.val
    rw [hi]; show 0 * 2048 + 1 * l.val = l.val; omega

/-- A tile of the rows. -/
theorem iblk1_apply (c : Dev nD) (t : Fin cfg0.N) (r : Fin 512) (l : Fin 2048) :
    (iblk m c 1 t : Vec Ideal S512x2048 .f32) (ix2 r l) = X m c (ix2 (row t r) l) := by
  have hi := (idx_facts t).2.1
  have ht := lt_N t
  unfold iblk
  rw [View.read_apply]
  refine congrArg (X m c) ?_
  refine Shape.idx_ext₂ ?_ ?_
  · show win0_1.index t 0 * 512 + 1 * r.val = 512 * t.val + r.val
    rw [hi]; show t.val * 512 + 1 * r.val = 512 * t.val + r.val; omega
  · show win0_1.index t 1 * 2048 + 1 * l.val = l.val
    rw [hi]; show 0 * 2048 + 1 * l.val = l.val; omega

/-- A tile of the gradient past the norm. -/
theorem iblk2_apply (c : Dev nD) (t : Fin cfg0.N) (r : Fin 512) (l : Fin 2048) :
    (iblk m c 2 t : Vec Ideal S512x2048 .f32) (ix2 r l) = DO m c (ix2 (row t r) l) := by
  have hi := (idx_facts t).2.2.1
  have ht := lt_N t
  unfold iblk
  rw [View.read_apply]
  refine congrArg (DO m c) ?_
  refine Shape.idx_ext₂ ?_ ?_
  · show win0_2.index t 0 * 512 + 1 * r.val = 512 * t.val + r.val
    rw [hi]; show t.val * 512 + 1 * r.val = 512 * t.val + r.val; omega
  · show win0_2.index t 1 * 2048 + 1 * l.val = l.val
    rw [hi]; show 0 * 2048 + 1 * l.val = l.val; omega

/-- The gain at a point. -/
theorem iblk3_apply (c : Dev nD) (t : Fin cfg0.N) (l : Fin 2048) :
    (iblk m c 3 t : Vec Ideal S1x2048 .f32) (ix2 (0 : Fin 1) l) = G m c (ix2 0 l) := by
  have hi := (idx_facts t).2.2.2.1
  have ht := lt_N t
  unfold iblk
  rw [View.read_apply]
  refine congrArg (G m c) ?_
  refine Shape.idx_ext₂ ?_ ?_
  · show win0_3.index t 0 * 1 + 1 * 0 = 0
    rw [hi]; show 0 * 1 + 1 * 0 = 0; omega
  · show win0_3.index t 1 * 2048 + 1 * l.val = l.val
    rw [hi]; show 0 * 2048 + 1 * l.val = l.val; omega

/-- The scale at a point. -/
theorem iblk4_apply (c : Dev nD) (t : Fin cfg0.N) (l : Fin 2048) :
    (iblk m c 4 t : Vec Ideal S1x2048 .f32) (ix2 (0 : Fin 1) l) = SC m c (ix2 0 l) := by
  have hi := (idx_facts t).2.2.2.2.1
  have ht := lt_N t
  unfold iblk
  rw [View.read_apply]
  refine congrArg (SC m c) ?_
  refine Shape.idx_ext₂ ?_ ?_
  · show win0_4.index t 0 * 1 + 1 * 0 = 0
    rw [hi]; show 0 * 1 + 1 * 0 = 0; omega
  · show win0_4.index t 1 * 2048 + 1 * l.val = l.val
    rw [hi]; show 0 * 2048 + 1 * l.val = l.val; omega

/-- A row of the input. -/
abbrev xrow (c : Dev nD) (k : Fin 4096) : Fin 2048 → EReal := fun l => X m c (ix2 k l)
/-- One row's part of the gain's gradient. -/
def part6 (c : Dev nD) (l : Fin 2048) (k : Fin 4096) : EReal := DH m c (ix2 k l) * (X m c (ix2 k l) * rms (xrow m c k)) * (1 + SC m c (ix2 0 l))
/-- One row's part of the scale's gradient. -/
def part7 (c : Dev nD) (l : Fin 2048) (k : Fin 4096) : EReal := DH m c (ix2 k l) * (X m c (ix2 k l) * rms (xrow m c k)) * G m c (ix2 0 l)
/-- One row's part of the shift's gradient. -/
def part8 (c : Dev nD) (l : Fin 2048) (k : Fin 4096) : EReal := DH m c (ix2 k l)

/-- The rows' gradient. -/
def dx (c : Dev nD) : Vec Ideal S4096x2048 .f32 := fun i =>
  (DO m c i + normGrad (xrow m c (i 0)) (fun k => DH m c (ix2 (i 0) k) * (G m c (ix2 0 k) * (1 + SC m c (ix2 0 k)))) (i 1) : EReal)

/-- The gain's gradient. -/
def sum6 (c : Dev nD) : Vec Ideal S1x2048 .f32 := fun i => (∑ k : Fin 4096, part6 m c (i 1) k : EReal)

/-- A tile's part of the gain's gradient is the sum of its rows' parts. -/
theorem tile6 (c : Dev nD) (t : Fin cfg0.N) (l : Fin 2048) : (k0_pay1 (k0_pay10 (iblk m c 1 t) (iblk m c 0 t)) (k0_pay11 (iblk m c 4 t)) (Scalar.ofBits .f32 0x3F800000#32) (ix2 0 l) : EReal) = ∑ r : Fin 512, ext (part6 m c l) (512 * t.val + r) := by
  rw [pay1_apply _ _ _ (iblk m c 3 t)]
  refine Finset.sum_congr rfl fun r _ => ?_
  rw [ext_of_lt _ (row t r).isLt, iblk0_apply, iblk1_apply, iblk4_apply]
  simp only [iblk1_apply]
  rfl

/-- The gain's gradient after a point: the rows of the tiles so far. -/
theorem sums6 (c : Dev nD) (l : Fin 2048) (n : ℕ) (h : n < cfg0.N) : ((outsAt0 m c n h).2.1 (ix2 0 l) : EReal) =
    ∑ s ∈ Finset.range (n % 8 + 1), ∑ r : Fin 512, ext (part6 m c l) (512 * (8 * (n / 8) + s) + r) := by
  refine run_sum (fun n h => ((outsAt0 m c n h).2.1 (ix2 0 l) : EReal)) (fun s => ∑ r : Fin 512, ext (part6 m c l) (512 * s + r)) (fun n h h0 => ?_) (fun n h h0 => ?_) n h
  · exact (congrFun (outs6_A m c ⟨n, h⟩ h0) _).trans (tile6 m c ⟨n, h⟩ l)
  · refine (congrFun (outs6_B m c ⟨n + 1, h⟩ h0) _).trans ?_
    rw [pay4_apply]
    exact congrArg (HAdd.hAdd _) ((pay1_apply _ _ _ (iblk m c 3 ⟨n + 1, h⟩) l).symm.trans (tile6 m c ⟨n + 1, h⟩ l))

/-- The scale's gradient. -/
def sum7 (c : Dev nD) : Vec Ideal S1x2048 .f32 := fun i => (∑ k : Fin 4096, part7 m c (i 1) k : EReal)

/-- A tile's part of the scale's gradient is the sum of its rows' parts. -/
theorem tile7 (c : Dev nD) (t : Fin cfg0.N) (l : Fin 2048) : (k0_pay2 (k0_pay10 (iblk m c 1 t) (iblk m c 0 t)) (iblk m c 3 t) (ix2 0 l) : EReal) = ∑ r : Fin 512, ext (part7 m c l) (512 * t.val + r) := by
  rw [pay2_apply _ _ _ (iblk m c 3 t)]
  refine Finset.sum_congr rfl fun r _ => ?_
  rw [ext_of_lt _ (row t r).isLt, iblk0_apply, iblk1_apply, iblk3_apply]
  simp only [iblk1_apply]
  rfl

/-- The scale's gradient after a point: the rows of the tiles so far. -/
theorem sums7 (c : Dev nD) (l : Fin 2048) (n : ℕ) (h : n < cfg0.N) : ((outsAt0 m c n h).2.2.1 (ix2 0 l) : EReal) =
    ∑ s ∈ Finset.range (n % 8 + 1), ∑ r : Fin 512, ext (part7 m c l) (512 * (8 * (n / 8) + s) + r) := by
  refine run_sum (fun n h => ((outsAt0 m c n h).2.2.1 (ix2 0 l) : EReal)) (fun s => ∑ r : Fin 512, ext (part7 m c l) (512 * s + r)) (fun n h h0 => ?_) (fun n h h0 => ?_) n h
  · exact (congrFun (outs7_A m c ⟨n, h⟩ h0) _).trans (tile7 m c ⟨n, h⟩ l)
  · refine (congrFun (outs7_B m c ⟨n + 1, h⟩ h0) _).trans ?_
    rw [pay5_apply]
    exact congrArg (HAdd.hAdd _) ((pay2_apply _ _ _ (iblk m c 3 ⟨n + 1, h⟩) l).symm.trans (tile7 m c ⟨n + 1, h⟩ l))

/-- The shift's gradient. -/
def sum8 (c : Dev nD) : Vec Ideal S1x2048 .f32 := fun i => (∑ k : Fin 4096, part8 m c (i 1) k : EReal)

/-- A tile's part of the shift's gradient is the sum of its rows' parts. -/
theorem tile8 (c : Dev nD) (t : Fin cfg0.N) (l : Fin 2048) : (k0_pay3 (iblk m c 0 t) (ix2 0 l) : EReal) = ∑ r : Fin 512, ext (part8 m c l) (512 * t.val + r) := by
  rw [pay3_apply (iblk m c 0 t) _ (iblk m c 3 t) (iblk m c 3 t)]
  refine Finset.sum_congr rfl fun r _ => ?_
  rw [ext_of_lt _ (row t r).isLt, iblk0_apply]

  rfl

/-- The shift's gradient after a point: the rows of the tiles so far. -/
theorem sums8 (c : Dev nD) (l : Fin 2048) (n : ℕ) (h : n < cfg0.N) : ((outsAt0 m c n h).2.2.2 (ix2 0 l) : EReal) =
    ∑ s ∈ Finset.range (n % 8 + 1), ∑ r : Fin 512, ext (part8 m c l) (512 * (8 * (n / 8) + s) + r) := by
  refine run_sum (fun n h => ((outsAt0 m c n h).2.2.2 (ix2 0 l) : EReal)) (fun s => ∑ r : Fin 512, ext (part8 m c l) (512 * s + r)) (fun n h h0 => ?_) (fun n h h0 => ?_) n h
  · exact (congrFun (outs8_A m c ⟨n, h⟩ h0) _).trans (tile8 m c ⟨n, h⟩ l)
  · refine (congrFun (outs8_B m c ⟨n + 1, h⟩ h0) _).trans ?_
    rw [pay6_apply (iblk m c 0 ⟨n + 1, h⟩) _ (iblk m c 3 ⟨n + 1, h⟩)]
    exact congrArg (HAdd.hAdd _) ((pay3_apply (iblk m c 0 ⟨n + 1, h⟩) _ (iblk m c 3 ⟨n + 1, h⟩) (iblk m c 3 ⟨n + 1, h⟩) l).symm.trans (tile8 m c ⟨n + 1, h⟩ l))

/-- The array the kernel leaves: the rows' gradient. -/
theorem final5 (c : Dev nD) : (dats m 0 c).arrAt 5 cfg0.N = dx m c := by
  refine (dats m 0 c).arrAt_eq_of_cover 5 (dx m c) (fun t hf => ?_) fun i => ?_
  · have hi := (idx_facts t).2.2.2.2.2.1
    have ht := lt_N t
    rw [Value.flushed5]
    funext y
    rw [View.read_apply]
    obtain ⟨r, l, rfl⟩ : ∃ (r : Fin 512) (l : Fin 2048), y = ix2 r l := ⟨y 0, y 1, by funext a; match a with | ⟨0, _⟩ => rfl | ⟨1, _⟩ => rfl⟩
    have e : (((cfg0.win 5).blk t).view.emb (ix2 r l) : S4096x2048.Idx) = ix2 (row t r) l := by
      refine Shape.idx_ext₂ ?_ ?_
      · show win0_5.index t 0 * 512 + 1 * r.val = 512 * t.val + r.val
        rw [hi]; show t.val * 512 + 1 * r.val = 512 * t.val + r.val; omega
      · show win0_5.index t 1 * 2048 + 1 * l.val = l.val
        rw [hi]; show 0 * 2048 + 1 * l.val = l.val; omega
    show _ = dx m c (((cfg0.win 5).blk t).view.emb (ix2 r l))
    rw [e]
    show (outsAt0 m c t.val t.isLt).1 (ix2 r l) = _
    rw [outs5, pay9_apply, iblk2_apply]
    simp only [iblk0_apply, iblk1_apply, iblk3_apply, iblk4_apply]
    rfl
  · have hN : cfg0.N = 8 := N_0
    have h0 : (i 0 : ℕ) < 4096 := (i 0).isLt
    have h1 : (i 1 : ℕ) < 2048 := (i 1).isLt
    obtain ⟨t, ht⟩ : ∃ t : Fin cfg0.N, t.val = (i 0 : ℕ) / 512 := ⟨⟨(i 0 : ℕ) / 512, by omega⟩, rfl⟩
    refine ⟨t, flush0_5 t, ?_⟩
    show i ∈ ((View.whole main_v2_0).slice (win0_5.rect t)).set
    rw [View.set_slice_whole, Rect.mem_set_unit]
    have hi := (idx_facts t).2.2.2.2.2.1
    intro a
    match a with
    | ⟨0, _⟩ =>
      show win0_5.index t 0 * 512 ≤ (i 0 : ℕ) ∧ (i 0 : ℕ) < win0_5.index t 0 * 512 + 512
      rw [hi]; show t.val * 512 ≤ (i 0 : ℕ) ∧ (i 0 : ℕ) < t.val * 512 + 512; omega
    | ⟨1, _⟩ =>
      show win0_5.index t 1 * 2048 ≤ (i 1 : ℕ) ∧ (i 1 : ℕ) < win0_5.index t 1 * 2048 + 2048
      rw [hi]; show 0 * 2048 ≤ (i 1 : ℕ) ∧ (i 1 : ℕ) < 0 * 2048 + 2048; omega

/-- The array the kernel leaves: the gain's gradient. -/
theorem final6 (c : Dev nD) : (dats m 0 c).arrAt 6 cfg0.N = sum6 m c := by
  refine (dats m 0 c).arrAt_eq_of_cover 6 (sum6 m c) (fun t hf => ?_) fun i => ?_
  · have hi := (idx_facts t).2.2.2.2.2.2.1
    have ht := lt_N t
    rw [Value.flushed6]
    funext y
    rw [View.read_apply]
    obtain ⟨l, rfl⟩ : ∃ (l : Fin 2048), y = ix2 (0 : Fin 1) l := ⟨y 1, by funext a; match a with | ⟨0, _⟩ => exact Fin.fin_one_eq_zero _ | ⟨1, _⟩ => rfl⟩
    have e : (((cfg0.win 6).blk t).view.emb (ix2 (0 : Fin 1) l) : S1x2048.Idx) = ix2 0 l := by
      refine Shape.idx_ext₂ ?_ ?_
      · show win0_6.index t 0 * 1 + 1 * 0 = 0
        rw [hi]; show 0 * 1 + 1 * 0 = 0; omega
      · show win0_6.index t 1 * 2048 + 1 * l.val = l.val
        rw [hi]; show 0 * 2048 + 1 * l.val = l.val; omega
    show _ = sum6 m c (((cfg0.win 6).blk t).view.emb (ix2 (0 : Fin 1) l))
    rw [e]
    show (outsAt0 m c t.val t.isLt).2.1 (ix2 0 l) = _
    have h7 := (flush0_6 t).mp hf
    rw [sums6 m c l t.val t.isLt, show t.val % 8 + 1 = 8 by omega, show 8 * (t.val / 8) = 0 by omega]
    simp only [Nat.zero_add]
    exact sum_tiles (part6 m c l) 8 512 (by norm_num)
  · have hN : cfg0.N = 8 := N_0
    have h0 : (i 0 : ℕ) < 1 := (i 0).isLt
    have h1 : (i 1 : ℕ) < 2048 := (i 1).isLt
    obtain ⟨t, ht⟩ : ∃ t : Fin cfg0.N, t.val = 7 := ⟨⟨7, by omega⟩, rfl⟩
    refine ⟨t, (flush0_6 t).mpr (by omega), ?_⟩
    show i ∈ ((View.whole main_v2_1).slice (win0_6.rect t)).set
    rw [View.set_slice_whole, Rect.mem_set_unit]
    have hi := (idx_facts t).2.2.2.2.2.2.1
    intro a
    match a with
    | ⟨0, _⟩ =>
      show win0_6.index t 0 * 1 ≤ (i 0 : ℕ) ∧ (i 0 : ℕ) < win0_6.index t 0 * 1 + 1
      rw [hi]; show 0 * 1 ≤ (i 0 : ℕ) ∧ (i 0 : ℕ) < 0 * 1 + 1; omega
    | ⟨1, _⟩ =>
      show win0_6.index t 1 * 2048 ≤ (i 1 : ℕ) ∧ (i 1 : ℕ) < win0_6.index t 1 * 2048 + 2048
      rw [hi]; show 0 * 2048 ≤ (i 1 : ℕ) ∧ (i 1 : ℕ) < 0 * 2048 + 2048; omega

/-- The array the kernel leaves: the scale's gradient. -/
theorem final7 (c : Dev nD) : (dats m 0 c).arrAt 7 cfg0.N = sum7 m c := by
  refine (dats m 0 c).arrAt_eq_of_cover 7 (sum7 m c) (fun t hf => ?_) fun i => ?_
  · have hi := (idx_facts t).2.2.2.2.2.2.2.1
    have ht := lt_N t
    rw [Value.flushed7]
    funext y
    rw [View.read_apply]
    obtain ⟨l, rfl⟩ : ∃ (l : Fin 2048), y = ix2 (0 : Fin 1) l := ⟨y 1, by funext a; match a with | ⟨0, _⟩ => exact Fin.fin_one_eq_zero _ | ⟨1, _⟩ => rfl⟩
    have e : (((cfg0.win 7).blk t).view.emb (ix2 (0 : Fin 1) l) : S1x2048.Idx) = ix2 0 l := by
      refine Shape.idx_ext₂ ?_ ?_
      · show win0_7.index t 0 * 1 + 1 * 0 = 0
        rw [hi]; show 0 * 1 + 1 * 0 = 0; omega
      · show win0_7.index t 1 * 2048 + 1 * l.val = l.val
        rw [hi]; show 0 * 2048 + 1 * l.val = l.val; omega
    show _ = sum7 m c (((cfg0.win 7).blk t).view.emb (ix2 (0 : Fin 1) l))
    rw [e]
    show (outsAt0 m c t.val t.isLt).2.2.1 (ix2 0 l) = _
    have h7 := (flush0_7 t).mp hf
    rw [sums7 m c l t.val t.isLt, show t.val % 8 + 1 = 8 by omega, show 8 * (t.val / 8) = 0 by omega]
    simp only [Nat.zero_add]
    exact sum_tiles (part7 m c l) 8 512 (by norm_num)
  · have hN : cfg0.N = 8 := N_0
    have h0 : (i 0 : ℕ) < 1 := (i 0).isLt
    have h1 : (i 1 : ℕ) < 2048 := (i 1).isLt
    obtain ⟨t, ht⟩ : ∃ t : Fin cfg0.N, t.val = 7 := ⟨⟨7, by omega⟩, rfl⟩
    refine ⟨t, (flush0_7 t).mpr (by omega), ?_⟩
    show i ∈ ((View.whole main_v2_2).slice (win0_7.rect t)).set
    rw [View.set_slice_whole, Rect.mem_set_unit]
    have hi := (idx_facts t).2.2.2.2.2.2.2.1
    intro a
    match a with
    | ⟨0, _⟩ =>
      show win0_7.index t 0 * 1 ≤ (i 0 : ℕ) ∧ (i 0 : ℕ) < win0_7.index t 0 * 1 + 1
      rw [hi]; show 0 * 1 ≤ (i 0 : ℕ) ∧ (i 0 : ℕ) < 0 * 1 + 1; omega
    | ⟨1, _⟩ =>
      show win0_7.index t 1 * 2048 ≤ (i 1 : ℕ) ∧ (i 1 : ℕ) < win0_7.index t 1 * 2048 + 2048
      rw [hi]; show 0 * 2048 ≤ (i 1 : ℕ) ∧ (i 1 : ℕ) < 0 * 2048 + 2048; omega

/-- The array the kernel leaves: the shift's gradient. -/
theorem final8 (c : Dev nD) : (dats m 0 c).arrAt 8 cfg0.N = sum8 m c := by
  refine (dats m 0 c).arrAt_eq_of_cover 8 (sum8 m c) (fun t hf => ?_) fun i => ?_
  · have hi := (idx_facts t).2.2.2.2.2.2.2.2
    have ht := lt_N t
    rw [Value.flushed8]
    funext y
    rw [View.read_apply]
    obtain ⟨l, rfl⟩ : ∃ (l : Fin 2048), y = ix2 (0 : Fin 1) l := ⟨y 1, by funext a; match a with | ⟨0, _⟩ => exact Fin.fin_one_eq_zero _ | ⟨1, _⟩ => rfl⟩
    have e : (((cfg0.win 8).blk t).view.emb (ix2 (0 : Fin 1) l) : S1x2048.Idx) = ix2 0 l := by
      refine Shape.idx_ext₂ ?_ ?_
      · show win0_8.index t 0 * 1 + 1 * 0 = 0
        rw [hi]; show 0 * 1 + 1 * 0 = 0; omega
      · show win0_8.index t 1 * 2048 + 1 * l.val = l.val
        rw [hi]; show 0 * 2048 + 1 * l.val = l.val; omega
    show _ = sum8 m c (((cfg0.win 8).blk t).view.emb (ix2 (0 : Fin 1) l))
    rw [e]
    show (outsAt0 m c t.val t.isLt).2.2.2 (ix2 0 l) = _
    have h7 := (flush0_8 t).mp hf
    rw [sums8 m c l t.val t.isLt, show t.val % 8 + 1 = 8 by omega, show 8 * (t.val / 8) = 0 by omega]
    simp only [Nat.zero_add]
    exact sum_tiles (part8 m c l) 8 512 (by norm_num)
  · have hN : cfg0.N = 8 := N_0
    have h0 : (i 0 : ℕ) < 1 := (i 0).isLt
    have h1 : (i 1 : ℕ) < 2048 := (i 1).isLt
    obtain ⟨t, ht⟩ : ∃ t : Fin cfg0.N, t.val = 7 := ⟨⟨7, by omega⟩, rfl⟩
    refine ⟨t, (flush0_8 t).mpr (by omega), ?_⟩
    show i ∈ ((View.whole main_v2_3).slice (win0_8.rect t)).set
    rw [View.set_slice_whole, Rect.mem_set_unit]
    have hi := (idx_facts t).2.2.2.2.2.2.2.2
    intro a
    match a with
    | ⟨0, _⟩ =>
      show win0_8.index t 0 * 1 ≤ (i 0 : ℕ) ∧ (i 0 : ℕ) < win0_8.index t 0 * 1 + 1
      rw [hi]; show 0 * 1 ≤ (i 0 : ℕ) ∧ (i 0 : ℕ) < 0 * 1 + 1; omega
    | ⟨1, _⟩ =>
      show win0_8.index t 1 * 2048 ≤ (i 1 : ℕ) ∧ (i 1 : ℕ) < win0_8.index t 1 * 2048 + 2048
      rw [hi]; show 0 * 2048 ≤ (i 1 : ℕ) ∧ (i 1 : ℕ) < 0 * 2048 + 2048; omega

/-- The program's arguments: rows, gain, scale, the incoming gradient, the gradient past the norm. -/
abbrev A0 (c : Dev nD) : FVec Ideal S4096x2048 .f32 := m ((c : Thread nD τ).loc main_arg0)
abbrev A1 (c : Dev nD) : FVec Ideal S2048 .f32 := m ((c : Thread nD τ).loc main_arg1)
abbrev A2 (c : Dev nD) : FVec Ideal S2048 .f32 := m ((c : Thread nD τ).loc main_arg2)
abbrev A4 (c : Dev nD) : FVec Ideal S4096x2048 .f32 := m ((c : Thread nD τ).loc main_arg4)
abbrev A5 (c : Dev nD) : FVec Ideal S4096x2048 .f32 := m ((c : Thread nD τ).loc main_arg5)

/-- The kernel's gain is the argument as one row. -/
theorem G_apply (c : Dev nD) (l : Fin 2048) : G m c (ix2 0 l) = (A1 m c (ix1 l) : EReal) := by
  have : V m c main_v0 = (broadcastInDim S1x2048 ![1] bcast_S2048_S1x2048_1 (m ((c.tc : Thread nD τ).loc main_arg1) : FVec Ideal S2048 .f32) : FVec Ideal S1x2048 .f32) := by
    unfold V hostOps0
    after_results <;> rfl
  unfold G
  rw [this]
  pointwise
/-- The kernel's scale is the argument as one row. -/
theorem SC_apply (c : Dev nD) (l : Fin 2048) : SC m c (ix2 0 l) = (A2 m c (ix1 l) : EReal) := by
  have : V m c main_v1 = (broadcastInDim S1x2048 ![1] bcast_S2048_S1x2048_1 (m ((c.tc : Thread nD τ).loc main_arg2) : FVec Ideal S2048 .f32) : FVec Ideal S1x2048 .f32) := by
    unfold V hostOps0
    after_results <;> rfl
  unfold SC
  rw [this]
  pointwise
/-- An array the kernel reads as it is passed. -/
theorem X_eq (c : Dev nD) : X m c = A0 m c := by
  unfold X V hostOps0
  after_results
/-- An array the kernel reads as it is passed. -/
theorem DH_eq (c : Dev nD) : DH m c = A4 m c := by
  unfold DH V hostOps0
  after_results
/-- An array the kernel reads as it is passed. -/
theorem DO_eq (c : Dev nD) : DO m c = A5 m c := by
  unfold DO V hostOps0
  after_results

end Cert.PrenormBwdIdeal.Hand

namespace Cert.PrenormBwdRefIdeal.Hand

open Cert.PrenormBwdRefIdeal Cert.PrenormBwdRefIdeal.Gen Cert.PrenormBwdRefIdeal.Read Cert.PrenormBwdIdeal.Hand Cert.Common

section
variable (x0 : FVec Ideal S4096x2048 .f32) (x1 x2 : FVec Ideal S2048 .f32) (x4 x5 : FVec Ideal S4096x2048 .f32) (k : Fin 4096) (l : Fin 2048)

/-- The reference's gradient of the rows. -/
theorem v54_eq : val_main_v54 (F := Ideal) x0 x1 x2 x4 x5 (ix2 k l) = (x5 (ix2 k l) + x4 (ix2 k l) * (1 + x2 (ix1 l)) * x1 (ix1 l) * rms (fun l => x0 (ix2 k l))
    + x0 (ix2 k l) * rowFactor (fun l => x0 (ix2 k l)) (fun l => x4 (ix2 k l) * (1 + x2 (ix1 l)) * x1 (ix1 l))
    + rowFactor (fun l => x0 (ix2 k l)) (fun l => x4 (ix2 k l) * (1 + x2 (ix1 l)) * x1 (ix1 l)) * x0 (ix2 k l) : EReal) := by
  unfold val_main_v54 val_main_v53 val_main_v52 val_main_v51 val_main_v50 val_main_v49 val_main_v48 val_main_v47 val_main_v46 val_main_v45 val_main_v44 val_main_v43 val_main_v42 val_main_v41 val_main_v40 val_main_v38 val_main_v37 val_main_v32 val_main_v31 val_main_v24 val_main_v18 val_main_v17 val_main_v16 val_main_v13 val_main_v10 val_main_v9 val_main_v8 val_main_v7 val_main_v6 val_main_v5 val_main_v4 val_main_v3 val_main_v2 val_main_v1 val_main_v0 val_main_cst val_main_cst_1 val_main_cst_2 val_main_cst_3 val_main_cst_10 val_main_cst_11 val_main_cst_12
  pointwise
  simp only [Fin.sum_univ_one]
  rfl
/-- The reference's gradient of the gain. -/
theorem v55_eq : val_main_v55 (F := Ideal) x0 x2 x4 (ix2 0 l) = (∑ k : Fin 4096, x0 (ix2 k l) * rms (fun l => x0 (ix2 k l)) * (x4 (ix2 k l) * (1 + x2 (ix1 l))) : EReal) := by
  unfold val_main_v55 val_main_v39 val_main_v36 val_main_v35 val_main_v34 val_main_v32 val_main_v31 val_main_v24 val_main_v12 val_main_v11 val_main_v18 val_main_v17 val_main_v16 val_main_v7 val_main_v6 val_main_v5 val_main_v4 val_main_v3 val_main_v2 val_main_v1 val_main_v0 val_main_cst val_main_cst_1 val_main_cst_3 val_main_cst_8 val_main_cst_9
  pointwise
  simp only [Fin.sum_univ_one]
  rfl
/-- The reference's gradient of the scale. -/
theorem v56_eq : val_main_v56 (F := Ideal) x0 x1 x4 (ix2 0 l) = (∑ k : Fin 4096, x0 (ix2 k l) * rms (fun l => x0 (ix2 k l)) * x1 (ix1 l) * x4 (ix2 k l) : EReal) := by
  unfold val_main_v56 val_main_v33 val_main_v30 val_main_v29 val_main_v28 val_main_v24 val_main_v15 val_main_v14 val_main_v13 val_main_v12 val_main_v11 val_main_v7 val_main_v6 val_main_v5 val_main_v4 val_main_v3 val_main_v2 val_main_v1 val_main_v0 val_main_cst val_main_cst_1 val_main_cst_6 val_main_cst_7
  pointwise
  simp only [Fin.sum_univ_one]
  rfl
/-- The reference's gradient of the shift. -/
theorem v57_eq : val_main_v57 (F := Ideal) x4 (ix2 0 l) = (∑ k : Fin 4096, x4 (ix2 k l) : EReal) := by
  unfold val_main_v57 val_main_v27 val_main_v26 val_main_v25 val_main_cst_4 val_main_cst_5
  pointwise
  simp only [Fin.sum_univ_one]

end

variable (m : (ℓ : Loc Cert.PrenormBwdIdeal.nD Cert.PrenormBwdIdeal.τ Cert.PrenormBwdIdeal.sig) → Buf (Elt Ideal) ℓ) (c : Dev Cert.PrenormBwdIdeal.nD)

/-- The reference's gradient of the rows is the kernel's, of finite arguments. -/
theorem ref54 (h0 : ∀ i, IsR (A0 m c i)) (h1 : ∀ i, IsR (A1 m c i)) (h2 : ∀ i, IsR (A2 m c i)) (h4 : ∀ i, IsR (A4 m c i)) :
    val_main_v54 (F := Ideal) (A0 m c) (A1 m c) (A2 m c) (A4 m c) (A5 m c) = dx m c := by
  funext i
  obtain ⟨R, C, rfl⟩ : ∃ (R : Fin 4096) (C : Fin 2048), i = ix2 R C := ⟨i 0, i 1, eq_ix2 i⟩
  rw [v54_eq, add_assoc, add_assoc (A5 m c (ix2 R C) : EReal), ← normGrad_eq (fun l => A0 m c (ix2 R l)) _ (fun k => h0 _)
    (fun k => ((h4 (ix2 R k)).mul (isR_one.add (h2 _))).mul (h1 _))]
  show _ = (DO m c (ix2 R C) + normGrad (xrow m c R) (fun k => DH m c (ix2 R k) * (G m c (ix2 0 k) * (1 + SC m c (ix2 0 k)))) C : EReal)
  unfold xrow
  rw [X_eq, DH_eq, DO_eq]
  refine congrArg (fun f => A5 m c (ix2 R C) + normGrad _ f C) (funext fun k => ?_)
  rw [G_apply, SC_apply, mul_assoc, mul_comm (1 + (A2 m c (ix1 k) : EReal))]

/-- The reference's gradient of the gain is the kernel's. -/
theorem ref55 : val_main_v55 (F := Ideal) (A0 m c) (A2 m c) (A4 m c) = sum6 m c := by
  funext i
  obtain ⟨C, rfl⟩ : ∃ C : Fin 2048, i = ix2 (0 : Fin 1) C := ⟨i 1, by funext a; match a with | ⟨0, _⟩ => exact Fin.fin_one_eq_zero _ | ⟨1, _⟩ => rfl⟩
  rw [v55_eq]
  refine Finset.sum_congr rfl fun k _ => ?_
  show _ = part6 m c C k
  unfold part6 xrow
  rw [X_eq, DH_eq, SC_apply, ← mul_assoc, mul_comm (A4 m c (ix2 k C) : EReal)]

/-- The reference's gradient of the scale is the kernel's. -/
theorem ref56 : val_main_v56 (F := Ideal) (A0 m c) (A1 m c) (A4 m c) = sum7 m c := by
  funext i
  obtain ⟨C, rfl⟩ : ∃ C : Fin 2048, i = ix2 (0 : Fin 1) C := ⟨i 1, by funext a; match a with | ⟨0, _⟩ => exact Fin.fin_one_eq_zero _ | ⟨1, _⟩ => rfl⟩
  rw [v56_eq]
  refine Finset.sum_congr rfl fun k _ => ?_
  show _ = part7 m c C k
  unfold part7 xrow
  rw [X_eq, DH_eq, G_apply, mul_comm _ (A4 m c (ix2 k C) : EReal), mul_assoc (A4 m c (ix2 k C) : EReal)]

/-- The reference's gradient of the shift is the kernel's. -/
theorem ref57 : val_main_v57 (F := Ideal) (A4 m c) = sum8 m c := by
  funext i
  obtain ⟨C, rfl⟩ : ∃ C : Fin 2048, i = ix2 (0 : Fin 1) C := ⟨i 1, by funext a; match a with | ⟨0, _⟩ => exact Fin.fin_one_eq_zero _ | ⟨1, _⟩ => rfl⟩
  rw [v57_eq]
  refine Finset.sum_congr rfl fun k _ => ?_
  show _ = part8 m c C k
  unfold part8
  rw [DH_eq]

/-- What the precondition says of the arguments. -/
theorem finite_args (x0 : FVec Ideal S4096x2048 .f32) (x1 x2 x3 : FVec Ideal S2048 .f32) (x4 x5 : FVec Ideal S4096x2048 .f32)
    (h : Cert.Pre_finite_pren.fn (F := Ideal) x0 x1 x2 x3 x4 x5 = fun _ => 1#1) :
    (∀ i, IsR (x0 i)) ∧ (∀ i, IsR (x1 i)) ∧ (∀ i, IsR (x2 i)) ∧ ∀ i, IsR (x4 i) := by
  have h0 := congrFun h ix0
  unfold Cert.Pre_finite_pren.fn at h0
  have h1 := and_one h0
  have h2 := and_one h1.1
  have h3 := and_one h2.1
  exact ⟨fun i => real_of_reduce x0 _ (fun _ => rfl) _ _ _ _ h3.1 i, fun i => real_of_reduce x1 _ (fun _ => rfl) _ _ _ _ h3.2 i,
    fun i => real_of_reduce x2 _ (fun _ => rfl) _ _ _ _ h2.2 i, fun i => real_of_reduce x4 _ (fun _ => rfl) _ _ _ _ h1.2 i⟩

end Cert.PrenormBwdRefIdeal.Hand

namespace Cert.Proof

open Cert.PrenormBwdIdeal.Hand Cert.PrenormBwdRefIdeal.Hand

/-- The gradients of the modulated norm: the kernel's four arrays are the reference's, of finite arguments. -/
theorem prenorm_bwd : Cert.algebraic_PrenormBwdIdeal_PrenormBwdRefIdeal_pre_finite_pren := by
  intro m g m' g' hpre hagree
  refine ⟨dx m, sum6 m, sum7 m, sum8 m, ?_, ?_⟩
  · refine (θ_run _ _ _).mono (fun r h c => ?_) (Cert.PrenormBwdIdeal.Value.run_blocks (F := Ideal) m g)
    exact ⟨(h c).1.trans (final5 m c), (h c).2.1.trans (final6 m c), (h c).2.2.1.trans (final7 m c), (h c).2.2.2.1.trans (final8 m c), (h c).2.2.2.2⟩
  · refine (θ_run _ _ _).mono (fun r h c => ?_) (Cert.PrenormBwdRefIdeal.Value.run (F := Ideal) m' g')
    have hf := finite_args _ _ _ _ _ _ (hpre c)
    obtain ⟨a0, a1, a2, a3, a4, a5⟩ := hagree c
    refine ⟨(h c).1.trans ((Cert.PrenormBwdRefIdeal.Read.val_main_v54_eq (F := Ideal) _ _).trans ?_), (h c).2.1.trans ((Cert.PrenormBwdRefIdeal.Read.val_main_v55_eq (F := Ideal) _ _ _).trans ?_),
      (h c).2.2.1.trans ((Cert.PrenormBwdRefIdeal.Read.val_main_v56_eq (F := Ideal) _ _ _).trans ?_), (h c).2.2.2.1.trans ((Cert.PrenormBwdRefIdeal.Read.val_main_v57_eq (F := Ideal) _).trans ?_), (h c).2.2.2.2⟩
    · rw [a0, a1, a2, a4, a5]
      exact ref54 m c hf.1 hf.2.1 hf.2.2.1 hf.2.2.2
    · rw [a0, a2, a4]
      exact ref55 m c
    · rw [a0, a1, a4]
      exact ref56 m c
    · rw [a4]
      exact ref57 m c

end Cert.Proof

end
-- ==== Proof.ConvBwdValue.lean ====
module

public import proofs.«01_k».proof.Defs
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Common
public import proofs.«01_k».proof.Proof.Finite
public import proofs.«01_k».proof.Proof.Gen.Pre_finite_conv
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ConvBwdIdeal.Hand

open Cert.ConvBwdIdeal Cert.ConvBwdIdeal.Gen Cert.Common

/-- The gate's sigmoid. -/
def sg (z : EReal) : EReal := Ideal.div 1 (1 + Ideal.exp (0 - z))

/-- A family delayed by `k` rows, zero before its first. -/
def back (f : Fin 4096 → EReal) (k n : ℕ) : EReal := if n < k then 0 else ext f (n - k)

theorem back_shift (f : Fin 4096 → EReal) (k a n : ℕ) : back f (k + a) (n + a) = back f k n := by
  unfold back
  by_cases h : n < k
  · rw [if_pos h, if_pos (by omega)]
  · rw [if_neg h, if_neg (by omega)]
    exact congrArg _ (by omega)

theorem back_zero (f : Fin 4096 → EReal) (n : Fin 4096) : back f 0 n.val = f n := by
  unfold back
  rw [if_neg (by omega)]
  exact ext_of_lt f n.isLt

/-- The columns of the projection that hold the four inputs of the convolution. -/
abbrev cu (C : Fin 1024) : Fin 14336 := ⟨10240 + C.val, by omega⟩
abbrev cb (C : Fin 1024) : Fin 14336 := ⟨11264 + C.val, by omega⟩
abbrev cc (C : Fin 1024) : Fin 14336 := ⟨12288 + C.val, by omega⟩
abbrev cz (C : Fin 1024) : Fin 14336 := ⟨13312 + C.val, by omega⟩

/-- The gated input of the convolution along one column. -/
def vcol (p : Vec Ideal S4096x14336 .bf16) (C : Fin 1024) (R : Fin 4096) : EReal := p (ix2 R (cu C)) * p (ix2 R (cc C))
/-- The incoming gradient through both gates, along one column: the gradient of the convolution's output. -/
def dcol (p : Vec Ideal S4096x14336 .bf16) (y : Vec Ideal S4096x1024 .bf16) (C : Fin 1024) (R : Fin 4096) : EReal :=
  y (ix2 R C) * p (ix2 R (cb C)) * (p (ix2 R (cz C)) * sg (p (ix2 R (cz C))))
/-- The convolution's output. -/
def conv (p : Vec Ideal S4096x14336 .bf16) (w : Vec Ideal S3x1024 .f32) (R : Fin 4096) (C : Fin 1024) : EReal :=
  w (ix2 0 C) * back (vcol p C) 2 R.val + w (ix2 1 C) * back (vcol p C) 1 R.val + w (ix2 2 C) * vcol p C R
/-- The gradient of the convolution's input. -/
def dconv (p : Vec Ideal S4096x14336 .bf16) (w : Vec Ideal S3x1024 .f32) (y : Vec Ideal S4096x1024 .bf16) (R : Fin 4096) (C : Fin 1024) : EReal :=
  w (ix2 2 C) * dcol p y C R + w (ix2 1 C) * ext (dcol p y C) (1 + R.val) + w (ix2 0 C) * ext (dcol p y C) (2 + R.val)
/-- One row's part of the taps' gradient. -/
def tap (p : Vec Ideal S4096x14336 .bf16) (y : Vec Ideal S4096x1024 .bf16) (ρ : Fin 8) (C : Fin 1024) (R : Fin 4096) : EReal :=
  if ρ.val = 0 then dcol p y C R * back (vcol p C) 2 R.val else if ρ.val = 1 then dcol p y C R * back (vcol p C) 1 R.val
    else if ρ.val = 2 then dcol p y C R * vcol p C R else 0

section
variable (i : grid0.Coords) (u v : Vec Ideal S512x256 .bf16) (up vp : Vec Ideal S16x256 .bf16) (w : Vec Ideal S8x256 .f32)

/-- The gated input behind the sixteen rows of the tile before. -/
theorem pay6_apply (r : Fin 528) (l : Fin 256) : k0_pay6 i u v up vp (ix2 r l) = (if h : r.val < 16 then
      Scalar.select (Scalar.cmpi CmpIPredicate.eq (BitVec.ofNat 32 (i 1).val) 0#32) 0 (up (ix2 ⟨r.val, h⟩ l) * vp (ix2 ⟨r.val, h⟩ l))
    else u (ix2 ⟨r.val - 16, by omega⟩ l) * v (ix2 ⟨r.val - 16, by omega⟩ l) : EReal) := by
  unfold_payloads
  pointwise

/-- The gated input 2 rows earlier. -/
theorem pay7_apply (r : Fin 512) (l : Fin 256) : k0_pay7 i u v up vp (ix2 r l) = (k0_pay6 i u v up vp (ix2 ⟨(16 + r.val + 528 - 2) % 528, Nat.mod_lt _ (by norm_num)⟩ l) : EReal) := by
  unfold k0_pay7
  pointwise

/-- The gated input 1 row earlier. -/
theorem pay8_apply (r : Fin 512) (l : Fin 256) : k0_pay8 i u v up vp (ix2 r l) = (k0_pay6 i u v up vp (ix2 ⟨(16 + r.val + 528 - 1) % 528, Nat.mod_lt _ (by norm_num)⟩ l) : EReal) := by
  unfold k0_pay8
  pointwise

/-- The convolution of a tile. -/
theorem pay10_apply (r : Fin 512) (l : Fin 256) : k0_pay10 i u v up vp w (ix2 r l) = (w (ix2 0 l) * k0_pay7 i u v up vp (ix2 r l)
      + w (ix2 1 l) * k0_pay8 i u v up vp (ix2 r l) + w (ix2 2 l) * (u (ix2 r l) * v (ix2 r l)) : EReal) := by
  unfold k0_pay10 k0_pay9 k0_pay5 k0_pay3 k0_pay4
  pointwise

variable (K : BitVec 1) (z b y : Vec Ideal S512x256 .bf16) (zn bn yn : Vec Ideal S16x256 .bf16)

/-- The output gate before the sixteen rows of the tile after. -/
theorem pay18_apply (r : Fin 528) (l : Fin 256) : k0_pay18 K (k0_pay11 z) zn (ix2 r l) =
    (if h : r.val < 512 then z (ix2 ⟨r.val, h⟩ l) else Scalar.select K 0 (zn (ix2 ⟨r.val - 512, by omega⟩ l)) : EReal) := by
  unfold_payloads
  pointwise

/-- The incoming gradient times the gate before the sixteen rows of the tile after. -/
theorem pay19_apply (r : Fin 528) (l : Fin 256) : k0_pay19 K b y yn bn (ix2 r l) =
    ((if h : r.val < 512 then y (ix2 ⟨r.val, h⟩ l) else Scalar.select K 0 (yn (ix2 ⟨r.val - 512, by omega⟩ l)))
      * (if h : r.val < 512 then b (ix2 ⟨r.val, h⟩ l) else Scalar.select K 0 (bn (ix2 ⟨r.val - 512, by omega⟩ l))) : EReal) := by
  unfold_payloads
  pointwise

variable (Z D : FVec Ideal S528x256 .f32) (a : FVec Ideal S512x256 .f32)

/-- The gradient of the convolution's output from the gates. -/
theorem pay20_apply (r : Fin 528) (l : Fin 256) : k0_pay20 Z D (ix2 r l) = (D (ix2 r l) * (Z (ix2 r l) * sg (Z (ix2 r l))) : EReal) := by
  unfold_payloads
  pointwise
  rfl

/-- The gradient of the convolution's input in a tile. -/
theorem pay22_apply (r : Fin 512) (l : Fin 256) : k0_pay22 (k0_pay9 w) Z D (ix2 r l) = (w (ix2 2 l) * k0_pay20 Z D (ix2 ⟨r.val, by omega⟩ l)
      + w (ix2 1 l) * k0_pay20 Z D (ix2 ⟨(r.val + 528 - 527) % 528, Nat.mod_lt _ (by norm_num)⟩ l)
      + w (ix2 0 l) * k0_pay20 Z D (ix2 ⟨(r.val + 528 - 526) % 528, Nat.mod_lt _ (by norm_num)⟩ l) : EReal) := by
  unfold k0_pay22 k0_pay21 k0_pay9
  pointwise

/-- The gradient of one factor of the gated input. -/
theorem pay23_apply (r : Fin 512) (l : Fin 256) : k0_pay23 (k0_pay4 v) (k0_pay9 w) Z D (ix2 r l) = (k0_pay22 (k0_pay9 w) Z D (ix2 r l) * v (ix2 r l) : EReal) := by
  unfold k0_pay23 k0_pay4
  pointwise
/-- The gradient of the other factor. -/
theorem pay24_apply (r : Fin 512) (l : Fin 256) : k0_pay24 (k0_pay3 u) (k0_pay9 w) Z D (ix2 r l) = (k0_pay22 (k0_pay9 w) Z D (ix2 r l) * u (ix2 r l) : EReal) := by
  unfold k0_pay24 k0_pay3
  pointwise
/-- The gradient of the output gate. -/
theorem pay16_apply (r : Fin 512) (l : Fin 256) : k0_pay16 a (k0_pay11 z) (k0_pay12 z) b y (ix2 r l) =
    (y (ix2 r l) * b (ix2 r l) * a (ix2 r l) * (sg (z (ix2 r l)) * (1 + z (ix2 r l) * (1 - sg (z (ix2 r l))))) : EReal) := by
  unfold_payloads
  pointwise
  rfl
/-- The gradient of the gate behind the convolution. -/
theorem pay17_apply (r : Fin 512) (l : Fin 256) : k0_pay17 a (k0_pay11 z) (k0_pay12 z) y (ix2 r l) =
    (y (ix2 r l) * a (ix2 r l) * (z (ix2 r l) * sg (z (ix2 r l))) : EReal) := by
  unfold_payloads
  pointwise
  rfl
/-- A tile's part of one tap's gradient. -/
theorem pay25_apply (l : Fin 256) : k0_pay25 a Z D (ix2 0 l) = (∑ r : Fin 512, k0_pay20 Z D (ix2 ⟨r.val, by omega⟩ l) * a (ix2 r l) : EReal) := by
  unfold k0_pay25 k0_pay21
  pointwise
theorem pay26_apply (l : Fin 256) : k0_pay26 a Z D (ix2 0 l) = (∑ r : Fin 512, k0_pay20 Z D (ix2 ⟨r.val, by omega⟩ l) * a (ix2 r l) : EReal) := by
  unfold k0_pay26 k0_pay21
  pointwise
theorem pay27_apply (l : Fin 256) : k0_pay27 (k0_pay5 u v) Z D (ix2 0 l) = (∑ r : Fin 512, k0_pay20 Z D (ix2 ⟨r.val, by omega⟩ l) * (u (ix2 r l) * v (ix2 r l)) : EReal) := by
  unfold k0_pay27 k0_pay21 k0_pay5 k0_pay4 k0_pay3
  pointwise

/-- The three taps' rows in a block of eight. -/
theorem pay1_apply (A B C : FVec Ideal S1x256 .f32) (r : Fin 8) (l : Fin 256) :
    k0_pay1 A B C (iota Kind.tc S8x256 32 [0] iota_S8x256_d0_w32) k0_pay28 k0_pay29 (ix2 r l) =
      (if r.val = 0 then A (ix2 0 l) else if r.val = 1 then B (ix2 0 l) else if r.val = 2 then C (ix2 0 l) else 0 : EReal) := by
  unfold_payloads
  pointwise
  fin_cases r <;> rfl
theorem pay2_apply (A B C : FVec Ideal S1x256 .f32) (E : Vec Ideal S8x256 .f32) (r : Fin 8) (l : Fin 256) :
    k0_pay2 A B C (iota Kind.tc S8x256 32 [0] iota_S8x256_d0_w32) k0_pay28 k0_pay29 E (ix2 r l) =
      (E (ix2 r l) + k0_pay1 A B C (iota Kind.tc S8x256 32 [0] iota_S8x256_d0_w32) k0_pay28 k0_pay29 (ix2 r l) : EReal) := by
  unfold k0_pay2
  pointwise
end

variable (m : (ℓ : Loc nD τ sig) → Buf (Elt Ideal) ℓ)

/-- The block each window reads or writes at a point of the grid. -/
theorem idx_facts : ∀ t : Fin cfg0.N, win0_0.index t = ![(t.val % 8), (40 + t.val / 8)]
    ∧ win0_1.index t = ![(t.val % 8 * 32 - 1), (40 + t.val / 8)]
    ∧ win0_2.index t = ![(t.val % 8), (48 + t.val / 8)]
    ∧ win0_3.index t = ![(t.val % 8 * 32 - 1), (48 + t.val / 8)]
    ∧ win0_4.index t = ![(t.val % 8), (44 + t.val / 8)]
    ∧ win0_5.index t = ![(min ((t.val % 8 + 1) * 32) 255), (44 + t.val / 8)]
    ∧ win0_6.index t = ![(t.val % 8), (52 + t.val / 8)]
    ∧ win0_7.index t = ![(min ((t.val % 8 + 1) * 32) 255), (52 + t.val / 8)]
    ∧ win0_8.index t = ![(t.val % 8), (t.val / 8)]
    ∧ win0_9.index t = ![(min ((t.val % 8 + 1) * 32) 255), (t.val / 8)]
    ∧ win0_10.index t = ![0, (t.val / 8)]
    ∧ win0_11.index t = ![(t.val % 8), (t.val / 8)]
    ∧ win0_12.index t = ![(t.val % 8), (t.val / 8)]
    ∧ win0_13.index t = ![(t.val % 8), (t.val / 8)]
    ∧ win0_14.index t = ![(t.val % 8), (t.val / 8)]
    ∧ win0_15.index t = ![0, (t.val / 8)] :=
  (by decide +kernel : ∀ t : Fin grid0.N, win0_0.index t = ![(t.val % 8), (40 + t.val / 8)]
    ∧ win0_1.index t = ![(t.val % 8 * 32 - 1), (40 + t.val / 8)]
    ∧ win0_2.index t = ![(t.val % 8), (48 + t.val / 8)]
    ∧ win0_3.index t = ![(t.val % 8 * 32 - 1), (48 + t.val / 8)]
    ∧ win0_4.index t = ![(t.val % 8), (44 + t.val / 8)]
    ∧ win0_5.index t = ![(min ((t.val % 8 + 1) * 32) 255), (44 + t.val / 8)]
    ∧ win0_6.index t = ![(t.val % 8), (52 + t.val / 8)]
    ∧ win0_7.index t = ![(min ((t.val % 8 + 1) * 32) 255), (52 + t.val / 8)]
    ∧ win0_8.index t = ![(t.val % 8), (t.val / 8)]
    ∧ win0_9.index t = ![(min ((t.val % 8 + 1) * 32) 255), (t.val / 8)]
    ∧ win0_10.index t = ![0, (t.val / 8)]
    ∧ win0_11.index t = ![(t.val % 8), (t.val / 8)]
    ∧ win0_12.index t = ![(t.val % 8), (t.val / 8)]
    ∧ win0_13.index t = ![(t.val % 8), (t.val / 8)]
    ∧ win0_14.index t = ![(t.val % 8), (t.val / 8)]
    ∧ win0_15.index t = ![0, (t.val / 8)])

/-- The grid's size. -/
theorem lt_N (t : Fin cfg0.N) : t.val < 32 := lt_of_lt_of_eq t.isLt N_0

/-- The first tile of a column of tiles has none before it, the last none after it. -/
theorem flags : ∀ t : Fin cfg0.N, Scalar.cmpi CmpIPredicate.eq (BitVec.ofNat 32 (grid0.coords t 1).val) 0#32 = (if t.val % 8 = 0 then 1#1 else 0#1)
    ∧ Scalar.cmpi CmpIPredicate.eq (BitVec.ofNat 32 (grid0.coords t 1).val) 7#32 = (if t.val % 8 = 7 then 1#1 else 0#1) :=
  (by decide +kernel : ∀ t : Fin grid0.N, Scalar.cmpi CmpIPredicate.eq (BitVec.ofNat 32 (grid0.coords t 1).val) 0#32 = (if t.val % 8 = 0 then 1#1 else 0#1)
    ∧ Scalar.cmpi CmpIPredicate.eq (BitVec.ofNat 32 (grid0.coords t 1).val) 7#32 = (if t.val % 8 = 7 then 1#1 else 0#1))

/-- The program's arguments: the projection, the taps, the incoming gradient. -/
abbrev PJ (c : Dev nD) : Vec Ideal S4096x14336 .bf16 := m ((c : Thread nD τ).loc main_arg0)
abbrev CW (c : Dev nD) : Vec Ideal S3x1024 .f32 := m ((c : Thread nD τ).loc main_arg1)
abbrev DY (c : Dev nD) : Vec Ideal S4096x1024 .bf16 := m ((c : Thread nD τ).loc main_arg2)

/-- What the kernel reads: the projection, the incoming gradient, the taps in a block of eight rows. -/
abbrev KP (c : Dev nD) : Vec Ideal S4096x14336 .bf16 := V m c main_arg0
abbrev KY (c : Dev nD) : Vec Ideal S4096x1024 .bf16 := V m c main_arg2
abbrev KW (c : Dev nD) : Vec Ideal S8x1024 .f32 := V m c main_v0

/-- An array the kernel reads as it is passed. -/
theorem KP_eq (c : Dev nD) : KP m c = PJ m c := by
  unfold KP V hostOps0 hostOps0_1
  simp only [List.flatten_cons, List.flatten_nil, List.cons_append, List.nil_append, List.append_nil]
  after_results
/-- An array the kernel reads as it is passed. -/
theorem KY_eq (c : Dev nD) : KY m c = DY m c := by
  unfold KY V hostOps0 hostOps0_1
  simp only [List.flatten_cons, List.flatten_nil, List.cons_append, List.nil_append, List.append_nil]
  after_results
/-- The first three rows of the padded taps are the taps. -/
theorem pad_taps (x : FVec Ideal S3x1024 .f32) (v : FVec Ideal S_ .f32) (r : Fin 8) (l : Fin 1024) (h : r.val < 3) :
    pad S8x1024 ![0, 0] ![5, 0] ![0, 0] x v pads_S3x1024_S8x1024_050_000 h_S_ (ix2 r l) = x (ix2 ⟨r.val, h⟩ l) := by
  pointwise
  rw [dif_pos h]
/-- The taps' rows in the block. -/
theorem KW_apply (c : Dev nD) (l : Fin 1024) : KW m c (ix2 0 l) = CW m c (ix2 0 l) ∧ KW m c (ix2 1 l) = CW m c (ix2 1 l) ∧ KW m c (ix2 2 l) = CW m c (ix2 2 l) := by
  have : V m c main_v0 = (pad S8x1024 ![0, 0] ![5, 0] ![0, 0] (m ((c.tc : Thread nD τ).loc main_arg1) : FVec Ideal S3x1024 .f32) (sitofp .f32 (constantI S_ 32 0#32) : FVec Ideal S_ .f32) pads_S3x1024_S8x1024_050_000 h_S_ : FVec Ideal S8x1024 .f32) := by
    unfold V hostOps0 hostOps0_1
    simp only [List.flatten_cons, List.flatten_nil, List.cons_append, List.nil_append, List.append_nil]
    after_results <;> rfl
  unfold KW
  rw [this]
  exact ⟨pad_taps _ _ 0 l (by norm_num), pad_taps _ _ 1 l (by norm_num), pad_taps _ _ 2 l (by norm_num)⟩

/-- The array's row and column of a tile's. -/
abbrev row (t : Fin cfg0.N) (r : Fin 512) : Fin 4096 := ⟨512 * (t.val % 8) + r.val, by omega⟩
abbrev prow (t : Fin cfg0.N) (r : Fin 16) : Fin 4096 := ⟨16 * (t.val % 8 * 32 - 1) + r.val, by omega⟩
abbrev nrow (t : Fin cfg0.N) (r : Fin 16) : Fin 4096 := ⟨16 * (min ((t.val % 8 + 1) * 32) 255) + r.val, by omega⟩
abbrev col (t : Fin cfg0.N) (l : Fin 256) : Fin 1024 := ⟨256 * (t.val / 8) + l.val, by have := lt_N t; omega⟩

/-- A tile of the first factor of the gated input. -/
theorem iblk0_apply (c : Dev nD) (t : Fin cfg0.N) (r : Fin 512) (l : Fin 256) :
    (iblk m c 0 t : Vec Ideal S512x256 .bf16) (ix2 r l) = KP m c (ix2 (row t r) (cu (col t l))) := by
  have hi := (idx_facts t).1
  have ht := lt_N t
  unfold iblk
  rw [View.read_apply]
  refine congrArg (KP m c) ?_
  refine Shape.idx_ext₂ ?_ ?_
  · show win0_0.index t 0 * 512 + 1 * r.val = 512 * (t.val % 8) + r.val
    rw [hi]; show (t.val % 8) * 512 + 1 * r.val = 512 * (t.val % 8) + r.val; omega
  · show win0_0.index t 1 * 256 + 1 * l.val = 10240 + (256 * (t.val / 8) + l.val)
    rw [hi]; show (40 + t.val / 8) * 256 + 1 * l.val = 10240 + (256 * (t.val / 8) + l.val); omega

/-- A tile of the first factor of the gated input, the rows before. -/
theorem iblk1_apply (c : Dev nD) (t : Fin cfg0.N) (r : Fin 16) (l : Fin 256) :
    (iblk m c 1 t : Vec Ideal S16x256 .bf16) (ix2 r l) = KP m c (ix2 (prow t r) (cu (col t l))) := by
  have hi := (idx_facts t).2.1
  have ht := lt_N t
  unfold iblk
  rw [View.read_apply]
  refine congrArg (KP m c) ?_
  refine Shape.idx_ext₂ ?_ ?_
  · show win0_1.index t 0 * 16 + 1 * r.val = 16 * (t.val % 8 * 32 - 1) + r.val
    rw [hi]; show (t.val % 8 * 32 - 1) * 16 + 1 * r.val = 16 * (t.val % 8 * 32 - 1) + r.val; omega
  · show win0_1.index t 1 * 256 + 1 * l.val = 10240 + (256 * (t.val / 8) + l.val)
    rw [hi]; show (40 + t.val / 8) * 256 + 1 * l.val = 10240 + (256 * (t.val / 8) + l.val); omega

/-- A tile of the second factor. -/
theorem iblk2_apply (c : Dev nD) (t : Fin cfg0.N) (r : Fin 512) (l : Fin 256) :
    (iblk m c 2 t : Vec Ideal S512x256 .bf16) (ix2 r l) = KP m c (ix2 (row t r) (cc (col t l))) := by
  have hi := (idx_facts t).2.2.1
  have ht := lt_N t
  unfold iblk
  rw [View.read_apply]
  refine congrArg (KP m c) ?_
  refine Shape.idx_ext₂ ?_ ?_
  · show win0_2.index t 0 * 512 + 1 * r.val = 512 * (t.val % 8) + r.val
    rw [hi]; show (t.val % 8) * 512 + 1 * r.val = 512 * (t.val % 8) + r.val; omega
  · show win0_2.index t 1 * 256 + 1 * l.val = 12288 + (256 * (t.val / 8) + l.val)
    rw [hi]; show (48 + t.val / 8) * 256 + 1 * l.val = 12288 + (256 * (t.val / 8) + l.val); omega

/-- A tile of the second factor, the rows before. -/
theorem iblk3_apply (c : Dev nD) (t : Fin cfg0.N) (r : Fin 16) (l : Fin 256) :
    (iblk m c 3 t : Vec Ideal S16x256 .bf16) (ix2 r l) = KP m c (ix2 (prow t r) (cc (col t l))) := by
  have hi := (idx_facts t).2.2.2.1
  have ht := lt_N t
  unfold iblk
  rw [View.read_apply]
  refine congrArg (KP m c) ?_
  refine Shape.idx_ext₂ ?_ ?_
  · show win0_3.index t 0 * 16 + 1 * r.val = 16 * (t.val % 8 * 32 - 1) + r.val
    rw [hi]; show (t.val % 8 * 32 - 1) * 16 + 1 * r.val = 16 * (t.val % 8 * 32 - 1) + r.val; omega
  · show win0_3.index t 1 * 256 + 1 * l.val = 12288 + (256 * (t.val / 8) + l.val)
    rw [hi]; show (48 + t.val / 8) * 256 + 1 * l.val = 12288 + (256 * (t.val / 8) + l.val); omega

/-- A tile of the gate behind the convolution. -/
theorem iblk4_apply (c : Dev nD) (t : Fin cfg0.N) (r : Fin 512) (l : Fin 256) :
    (iblk m c 4 t : Vec Ideal S512x256 .bf16) (ix2 r l) = KP m c (ix2 (row t r) (cb (col t l))) := by
  have hi := (idx_facts t).2.2.2.2.1
  have ht := lt_N t
  unfold iblk
  rw [View.read_apply]
  refine congrArg (KP m c) ?_
  refine Shape.idx_ext₂ ?_ ?_
  · show win0_4.index t 0 * 512 + 1 * r.val = 512 * (t.val % 8) + r.val
    rw [hi]; show (t.val % 8) * 512 + 1 * r.val = 512 * (t.val % 8) + r.val; omega
  · show win0_4.index t 1 * 256 + 1 * l.val = 11264 + (256 * (t.val / 8) + l.val)
    rw [hi]; show (44 + t.val / 8) * 256 + 1 * l.val = 11264 + (256 * (t.val / 8) + l.val); omega

/-- A tile of the gate behind the convolution, the rows after. -/
theorem iblk5_apply (c : Dev nD) (t : Fin cfg0.N) (r : Fin 16) (l : Fin 256) :
    (iblk m c 5 t : Vec Ideal S16x256 .bf16) (ix2 r l) = KP m c (ix2 (nrow t r) (cb (col t l))) := by
  have hi := (idx_facts t).2.2.2.2.2.1
  have ht := lt_N t
  unfold iblk
  rw [View.read_apply]
  refine congrArg (KP m c) ?_
  refine Shape.idx_ext₂ ?_ ?_
  · show win0_5.index t 0 * 16 + 1 * r.val = 16 * (min ((t.val % 8 + 1) * 32) 255) + r.val
    rw [hi]; show (min ((t.val % 8 + 1) * 32) 255) * 16 + 1 * r.val = 16 * (min ((t.val % 8 + 1) * 32) 255) + r.val; omega
  · show win0_5.index t 1 * 256 + 1 * l.val = 11264 + (256 * (t.val / 8) + l.val)
    rw [hi]; show (44 + t.val / 8) * 256 + 1 * l.val = 11264 + (256 * (t.val / 8) + l.val); omega

/-- A tile of the output gate. -/
theorem iblk6_apply (c : Dev nD) (t : Fin cfg0.N) (r : Fin 512) (l : Fin 256) :
    (iblk m c 6 t : Vec Ideal S512x256 .bf16) (ix2 r l) = KP m c (ix2 (row t r) (cz (col t l))) := by
  have hi := (idx_facts t).2.2.2.2.2.2.1
  have ht := lt_N t
  unfold iblk
  rw [View.read_apply]
  refine congrArg (KP m c) ?_
  refine Shape.idx_ext₂ ?_ ?_
  · show win0_6.index t 0 * 512 + 1 * r.val = 512 * (t.val % 8) + r.val
    rw [hi]; show (t.val % 8) * 512 + 1 * r.val = 512 * (t.val % 8) + r.val; omega
  · show win0_6.index t 1 * 256 + 1 * l.val = 13312 + (256 * (t.val / 8) + l.val)
    rw [hi]; show (52 + t.val / 8) * 256 + 1 * l.val = 13312 + (256 * (t.val / 8) + l.val); omega

/-- A tile of the output gate, the rows after. -/
theorem iblk7_apply (c : Dev nD) (t : Fin cfg0.N) (r : Fin 16) (l : Fin 256) :
    (iblk m c 7 t : Vec Ideal S16x256 .bf16) (ix2 r l) = KP m c (ix2 (nrow t r) (cz (col t l))) := by
  have hi := (idx_facts t).2.2.2.2.2.2.2.1
  have ht := lt_N t
  unfold iblk
  rw [View.read_apply]
  refine congrArg (KP m c) ?_
  refine Shape.idx_ext₂ ?_ ?_
  · show win0_7.index t 0 * 16 + 1 * r.val = 16 * (min ((t.val % 8 + 1) * 32) 255) + r.val
    rw [hi]; show (min ((t.val % 8 + 1) * 32) 255) * 16 + 1 * r.val = 16 * (min ((t.val % 8 + 1) * 32) 255) + r.val; omega
  · show win0_7.index t 1 * 256 + 1 * l.val = 13312 + (256 * (t.val / 8) + l.val)
    rw [hi]; show (52 + t.val / 8) * 256 + 1 * l.val = 13312 + (256 * (t.val / 8) + l.val); omega

/-- A tile of the incoming gradient. -/
theorem iblk8_apply (c : Dev nD) (t : Fin cfg0.N) (r : Fin 512) (l : Fin 256) :
    (iblk m c 8 t : Vec Ideal S512x256 .bf16) (ix2 r l) = KY m c (ix2 (row t r) ( (col t l))) := by
  have hi := (idx_facts t).2.2.2.2.2.2.2.2.1
  have ht := lt_N t
  unfold iblk
  rw [View.read_apply]
  refine congrArg (KY m c) ?_
  refine Shape.idx_ext₂ ?_ ?_
  · show win0_8.index t 0 * 512 + 1 * r.val = 512 * (t.val % 8) + r.val
    rw [hi]; show (t.val % 8) * 512 + 1 * r.val = 512 * (t.val % 8) + r.val; omega
  · show win0_8.index t 1 * 256 + 1 * l.val = 256 * (t.val / 8) + l.val
    rw [hi]; show (t.val / 8) * 256 + 1 * l.val = 256 * (t.val / 8) + l.val; omega

/-- A tile of the incoming gradient, the rows after. -/
theorem iblk9_apply (c : Dev nD) (t : Fin cfg0.N) (r : Fin 16) (l : Fin 256) :
    (iblk m c 9 t : Vec Ideal S16x256 .bf16) (ix2 r l) = KY m c (ix2 (nrow t r) ( (col t l))) := by
  have hi := (idx_facts t).2.2.2.2.2.2.2.2.2.1
  have ht := lt_N t
  unfold iblk
  rw [View.read_apply]
  refine congrArg (KY m c) ?_
  refine Shape.idx_ext₂ ?_ ?_
  · show win0_9.index t 0 * 16 + 1 * r.val = 16 * (min ((t.val % 8 + 1) * 32) 255) + r.val
    rw [hi]; show (min ((t.val % 8 + 1) * 32) 255) * 16 + 1 * r.val = 16 * (min ((t.val % 8 + 1) * 32) 255) + r.val; omega
  · show win0_9.index t 1 * 256 + 1 * l.val = 256 * (t.val / 8) + l.val
    rw [hi]; show (t.val / 8) * 256 + 1 * l.val = 256 * (t.val / 8) + l.val; omega

/-- The taps at a point. -/
theorem iblk10_apply (c : Dev nD) (t : Fin cfg0.N) (r : Fin 8) (l : Fin 256) :
    (iblk m c 10 t : Vec Ideal S8x256 .f32) (ix2 r l) = KW m c (ix2 r (col t l)) := by
  have hi := (idx_facts t).2.2.2.2.2.2.2.2.2.2.1
  have ht := lt_N t
  unfold iblk
  rw [View.read_apply]
  refine congrArg (KW m c) ?_
  refine Shape.idx_ext₂ ?_ ?_
  · show win0_10.index t 0 * 8 + 1 * r.val = r.val
    rw [hi]; show 0 * 8 + 1 * r.val = r.val; omega
  · show win0_10.index t 1 * 256 + 1 * l.val = 256 * (t.val / 8) + l.val
    rw [hi]; show (t.val / 8) * 256 + 1 * l.val = 256 * (t.val / 8) + l.val; omega

/-- What a point writes of the first factor's gradient. -/
theorem outs11 (c : Dev nD) (t : Fin cfg0.N) : (outsAt0 m c t.val t.isLt).1 = k0_pay23 (k0_pay4 (iblk m c 2 t)) (k0_pay9 (iblk m c 10 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t)) := by
  by_cases h : t.val % 8 = 0
  · rw [outsAt0_A m c t h (by omega)]
    dsimp only
    unfold out0_A_11
    refine (View.read_writes_eq_canon _ _ _ (by apply cover0_A_11)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S512x256) hz, View.ld_unit_zero (S := S16x256) hz, View.ld_unit_zero (S := S8x256) hz]
  · rw [outsAt0_B m c t h (by omega)]
    dsimp only
    unfold out0_B_11
    refine (View.read_writes_eq_canon _ _ _ (by apply cover0_B_11)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S512x256) hz, View.ld_unit_zero (S := S16x256) hz, View.ld_unit_zero (S := S8x256) hz]

/-- What a point writes of the inner gate's gradient. -/
theorem outs12 (c : Dev nD) (t : Fin cfg0.N) : (outsAt0 m c t.val t.isLt).2.1 = k0_pay17 (k0_pay10 (grid0.coords t) (iblk m c 0 t) (iblk m c 2 t) (iblk m c 1 t) (iblk m c 3 t) (iblk m c 10 t)) (k0_pay11 (iblk m c 6 t)) (k0_pay12 (iblk m c 6 t)) (iblk m c 8 t) := by
  by_cases h : t.val % 8 = 0
  · rw [outsAt0_A m c t h (by omega)]
    dsimp only
    unfold out0_A_12
    refine (View.read_writes_eq_canon _ _ _ (by apply cover0_A_12)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S512x256) hz, View.ld_unit_zero (S := S16x256) hz, View.ld_unit_zero (S := S8x256) hz]
  · rw [outsAt0_B m c t h (by omega)]
    dsimp only
    unfold out0_B_12
    refine (View.read_writes_eq_canon _ _ _ (by apply cover0_B_12)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S512x256) hz, View.ld_unit_zero (S := S16x256) hz, View.ld_unit_zero (S := S8x256) hz]

/-- What a point writes of the second factor's gradient. -/
theorem outs13 (c : Dev nD) (t : Fin cfg0.N) : (outsAt0 m c t.val t.isLt).2.2.1 = k0_pay24 (k0_pay3 (iblk m c 0 t)) (k0_pay9 (iblk m c 10 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t)) := by
  by_cases h : t.val % 8 = 0
  · rw [outsAt0_A m c t h (by omega)]
    dsimp only
    unfold out0_A_13
    refine (View.read_writes_eq_canon _ _ _ (by apply cover0_A_13)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S512x256) hz, View.ld_unit_zero (S := S16x256) hz, View.ld_unit_zero (S := S8x256) hz]
  · rw [outsAt0_B m c t h (by omega)]
    dsimp only
    unfold out0_B_13
    refine (View.read_writes_eq_canon _ _ _ (by apply cover0_B_13)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S512x256) hz, View.ld_unit_zero (S := S16x256) hz, View.ld_unit_zero (S := S8x256) hz]

/-- What a point writes of the output gate's gradient. -/
theorem outs14 (c : Dev nD) (t : Fin cfg0.N) : (outsAt0 m c t.val t.isLt).2.2.2.1 = k0_pay16 (k0_pay10 (grid0.coords t) (iblk m c 0 t) (iblk m c 2 t) (iblk m c 1 t) (iblk m c 3 t) (iblk m c 10 t)) (k0_pay11 (iblk m c 6 t)) (k0_pay12 (iblk m c 6 t)) (iblk m c 4 t) (iblk m c 8 t) := by
  by_cases h : t.val % 8 = 0
  · rw [outsAt0_A m c t h (by omega)]
    dsimp only
    unfold out0_A_14
    refine (View.read_writes_eq_canon _ _ _ (by apply cover0_A_14)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S512x256) hz, View.ld_unit_zero (S := S16x256) hz, View.ld_unit_zero (S := S8x256) hz]
  · rw [outsAt0_B m c t h (by omega)]
    dsimp only
    unfold out0_B_14
    refine (View.read_writes_eq_canon _ _ _ (by apply cover0_B_14)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S512x256) hz, View.ld_unit_zero (S := S16x256) hz, View.ld_unit_zero (S := S8x256) hz]

/-- What a point leaves of the taps' gradient: the first point of a sum. -/
theorem outs15_A (c : Dev nD) (t : Fin cfg0.N) (h : t.val % 8 = 0) : (outsAt0 m c t.val t.isLt).2.2.2.2 = k0_pay1 (k0_pay25 (k0_pay7 (grid0.coords t) (iblk m c 0 t) (iblk m c 2 t) (iblk m c 1 t) (iblk m c 3 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t))) (k0_pay26 (k0_pay8 (grid0.coords t) (iblk m c 0 t) (iblk m c 2 t) (iblk m c 1 t) (iblk m c 3 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t))) (k0_pay27 (k0_pay5 (iblk m c 0 t) (iblk m c 2 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t))) (iota Kind.tc S8x256 32 [0] iota_S8x256_d0_w32) k0_pay28 k0_pay29 := by
  rw [outsAt0_A m c t h (by omega)]
  dsimp only
  unfold out0_A_15
  refine (View.read_writes_eq_canon _ _ _ (by apply cover0_A_15)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S512x256) hz, View.ld_unit_zero (S := S16x256) hz, View.ld_unit_zero (S := S8x256) hz]
/-- What a point leaves of the taps' gradient: a later point. -/
theorem outs15_B (c : Dev nD) (t : Fin cfg0.N) (h : ¬t.val % 8 = 0) : (outsAt0 m c t.val t.isLt).2.2.2.2 = k0_pay2 (k0_pay25 (k0_pay7 (grid0.coords t) (iblk m c 0 t) (iblk m c 2 t) (iblk m c 1 t) (iblk m c 3 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t))) (k0_pay26 (k0_pay8 (grid0.coords t) (iblk m c 0 t) (iblk m c 2 t) (iblk m c 1 t) (iblk m c 3 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t))) (k0_pay27 (k0_pay5 (iblk m c 0 t) (iblk m c 2 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t))) (iota Kind.tc S8x256 32 [0] iota_S8x256_d0_w32) k0_pay28 k0_pay29 (outsAt0 m c (t.val - 1) (Nat.lt_of_le_of_lt (Nat.sub_le _ _) t.isLt)).2.2.2.2 := by
  rw [outsAt0_B m c t h (by omega)]
  dsimp only
  unfold out0_B_15
  refine (View.read_writes_eq_canon _ _ _ (by apply cover0_B_15)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_15 t).read_unread, View.ld_unit_zero (S := S512x256) hz, View.ld_unit_zero (S := S16x256) hz, View.ld_unit_zero (S := S8x256) hz]

/-- The gated input of a tile and of the sixteen rows before it. -/
theorem ve_apply (c : Dev nD) (t : Fin cfg0.N) (r : Fin 528) (l : Fin 256) :
    (k0_pay6 (grid0.coords t) (iblk m c 0 t) (iblk m c 2 t) (iblk m c 1 t) (iblk m c 3 t) (ix2 r l) : EReal) = back (vcol (PJ m c) (col t l)) 16 (512 * (t.val % 8) + r.val) := by
  rw [pay6_apply, (flags t).1]
  unfold back
  by_cases hr : r.val < 16
  · rw [dif_pos hr]
    by_cases h0 : t.val % 8 = 0
    · rw [if_pos h0, if_pos (by omega)]
      rfl
    · rw [if_neg h0, if_neg (by omega), ext_of_lt _ (by omega : 512 * (t.val % 8) + r.val - 16 < 4096)]
      refine (congrArg₂ (fun a b : EReal => a * b) (iblk1_apply m c t ⟨r.val, hr⟩ l) (iblk3_apply m c t ⟨r.val, hr⟩ l)).trans ?_
      rw [KP_eq, show prow t ⟨r.val, hr⟩ = ⟨512 * (t.val % 8) + r.val - 16, by omega⟩ from Fin.ext (by show 16 * (t.val % 8 * 32 - 1) + r.val = 512 * (t.val % 8) + r.val - 16; omega)]
      rfl
  · rw [dif_neg hr, if_neg (by omega), ext_of_lt _ (by omega : 512 * (t.val % 8) + r.val - 16 < 4096), iblk0_apply, iblk2_apply, KP_eq,
      show row t ⟨r.val - 16, by omega⟩ = ⟨512 * (t.val % 8) + r.val - 16, by omega⟩ from Fin.ext (by show 512 * (t.val % 8) + (r.val - 16) = 512 * (t.val % 8) + r.val - 16; omega)]
    rfl

/-- The gated input two rows earlier. -/
theorem v2_apply (c : Dev nD) (t : Fin cfg0.N) (r : Fin 512) (l : Fin 256) :
    (k0_pay7 (grid0.coords t) (iblk m c 0 t) (iblk m c 2 t) (iblk m c 1 t) (iblk m c 3 t) (ix2 r l) : EReal) = back (vcol (PJ m c) (col t l)) 2 (row t r).val := by
  rw [pay7_apply, ve_apply, ← back_shift _ 2 14]
  exact congrArg (back _ 16) (by show 512 * (t.val % 8) + (16 + r.val + 528 - 2) % 528 = 512 * (t.val % 8) + r.val + 14; omega)

/-- The gated input one row earlier. -/
theorem v1_apply (c : Dev nD) (t : Fin cfg0.N) (r : Fin 512) (l : Fin 256) :
    (k0_pay8 (grid0.coords t) (iblk m c 0 t) (iblk m c 2 t) (iblk m c 1 t) (iblk m c 3 t) (ix2 r l) : EReal) = back (vcol (PJ m c) (col t l)) 1 (row t r).val := by
  rw [pay8_apply, ve_apply, ← back_shift _ 1 15]
  exact congrArg (back _ 16) (by show 512 * (t.val % 8) + (16 + r.val + 528 - 1) % 528 = 512 * (t.val % 8) + r.val + 15; omega)

/-- The convolution of a tile is the array's. -/
theorem conv_apply (c : Dev nD) (t : Fin cfg0.N) (r : Fin 512) (l : Fin 256) :
    ((k0_pay10 (grid0.coords t) (iblk m c 0 t) (iblk m c 2 t) (iblk m c 1 t) (iblk m c 3 t) (iblk m c 10 t)) (ix2 r l) : EReal) = conv (PJ m c) (CW m c) (row t r) (col t l) := by
  rw [pay10_apply, v2_apply, v1_apply]
  simp only [iblk10_apply]
  rw [(KW_apply m c _).1, (KW_apply m c _).2.1, (KW_apply m c _).2.2, iblk0_apply, iblk2_apply, KP_eq]
  rfl

/-- The gradient of the convolution's output in a tile and in the sixteen rows after it. -/
theorem de_apply (c : Dev nD) (t : Fin cfg0.N) (r : Fin 528) (l : Fin 256) :
    (k0_pay20 (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t)) (ix2 r l) : EReal) = ext (dcol (PJ m c) (DY m c) (col t l)) (512 * (t.val % 8) + r.val) := by
  rw [pay20_apply, pay18_apply, pay19_apply, (flags t).2]
  by_cases hr : r.val < 512
  · simp only [dif_pos hr]
    rw [ext_of_lt _ (row t ⟨r.val, hr⟩).isLt, iblk8_apply, iblk4_apply, iblk6_apply, KP_eq, KY_eq]
    rfl
  · simp only [dif_neg hr]
    by_cases h7 : t.val % 8 = 7
    · rw [if_pos h7]
      unfold ext
      rw [dif_neg (by omega)]
      show (0 : EReal) * 0 * _ = 0
      rw [zero_mul, zero_mul]
    · rw [if_neg h7, ext_of_lt _ (by omega : 512 * (t.val % 8) + r.val < 4096)]
      refine (congrArg₂ (fun a b : EReal => a * b) (congrArg₂ (fun a b : EReal => a * b) (iblk9_apply m c t ⟨r.val - 512, by omega⟩ l) (iblk5_apply m c t ⟨r.val - 512, by omega⟩ l)) (congrArg (fun z : EReal => z * sg z) (iblk7_apply m c t ⟨r.val - 512, by omega⟩ l))).trans ?_
      rw [KP_eq, KY_eq, show nrow t ⟨r.val - 512, by omega⟩ = ⟨512 * (t.val % 8) + r.val, by omega⟩ from
        Fin.ext (by show 16 * (min ((t.val % 8 + 1) * 32) 255) + (r.val - 512) = 512 * (t.val % 8) + r.val; omega)]
      rfl

/-- The gradient of the convolution's input in a tile is the array's. -/
theorem dv_apply (c : Dev nD) (t : Fin cfg0.N) (r : Fin 512) (l : Fin 256) :
    (k0_pay22 (k0_pay9 (iblk m c 10 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t)) (ix2 r l) : EReal) = dconv (PJ m c) (CW m c) (DY m c) (row t r) (col t l) := by
  rw [pay22_apply]
  simp only [iblk10_apply, de_apply]
  rw [(KW_apply m c _).1, (KW_apply m c _).2.1, (KW_apply m c _).2.2, ext_of_lt _ (row t r).isLt,
    show 512 * (t.val % 8) + (r.val + 528 - 527) % 528 = 1 + (row t r).val by show _ = 1 + (512 * (t.val % 8) + r.val); omega,
    show 512 * (t.val % 8) + (r.val + 528 - 526) % 528 = 2 + (row t r).val by show _ = 2 + (512 * (t.val % 8) + r.val); omega]
  rfl

/-- The four arrays the kernel leaves of the inputs' gradients. -/
def du (c : Dev nD) : Vec Ideal S4096x1024 .bf16 := fun i => (dconv (PJ m c) (CW m c) (DY m c) (i 0) (i 1) * PJ m c (ix2 (i 0) (cc (i 1))) : EReal)
def db (c : Dev nD) : Vec Ideal S4096x1024 .bf16 := fun i =>
  (DY m c (ix2 (i 0) (i 1)) * conv (PJ m c) (CW m c) (i 0) (i 1) * (PJ m c (ix2 (i 0) (cz (i 1))) * sg (PJ m c (ix2 (i 0) (cz (i 1))))) : EReal)
def dc (c : Dev nD) : Vec Ideal S4096x1024 .bf16 := fun i => (dconv (PJ m c) (CW m c) (DY m c) (i 0) (i 1) * PJ m c (ix2 (i 0) (cu (i 1))) : EReal)
def dz (c : Dev nD) : Vec Ideal S4096x1024 .bf16 := fun i =>
  (DY m c (ix2 (i 0) (i 1)) * PJ m c (ix2 (i 0) (cb (i 1))) * conv (PJ m c) (CW m c) (i 0) (i 1)
    * (sg (PJ m c (ix2 (i 0) (cz (i 1)))) * (1 + PJ m c (ix2 (i 0) (cz (i 1))) * (1 - sg (PJ m c (ix2 (i 0) (cz (i 1))))))) : EReal)
/-- The taps' gradient. -/
def dw (c : Dev nD) : Vec Ideal S8x1024 .f32 := fun i => (∑ R : Fin 4096, tap (PJ m c) (DY m c) (i 0) (i 1) R : EReal)

/-- A tile's part of the taps' gradient is the sum of its rows' parts. -/
theorem tile15 (c : Dev nD) (t : Fin cfg0.N) (r : Fin 8) (l : Fin 256) : (k0_pay1 (k0_pay25 (k0_pay7 (grid0.coords t) (iblk m c 0 t) (iblk m c 2 t) (iblk m c 1 t) (iblk m c 3 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t))) (k0_pay26 (k0_pay8 (grid0.coords t) (iblk m c 0 t) (iblk m c 2 t) (iblk m c 1 t) (iblk m c 3 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t))) (k0_pay27 (k0_pay5 (iblk m c 0 t) (iblk m c 2 t)) (k0_pay18 (Scalar.cmpi CmpIPredicate.eq (BitVec.ofNat 32 (grid0.coords t 1).val) 7#32) (k0_pay11 (iblk m c 6 t)) (iblk m c 7 t)) (k0_pay19 (Scalar.cmpi CmpIPredicate.eq (BitVec.ofNat 32 (grid0.coords t 1).val) 7#32) (iblk m c 4 t) (iblk m c 8 t) (iblk m c 9 t) (iblk m c 5 t))) (iota Kind.tc S8x256 32 [0] iota_S8x256_d0_w32) k0_pay28 k0_pay29 (ix2 r l) : EReal) =
    ∑ k : Fin 512, ext (tap (PJ m c) (DY m c) r (col t l)) (512 * (t.val % 8) + k) := by
  rw [pay1_apply, pay25_apply, pay26_apply, pay27_apply]
  have e : ∀ k : Fin 512, ext (tap (PJ m c) (DY m c) r (col t l)) (512 * (t.val % 8) + k) = tap (PJ m c) (DY m c) r (col t l) (row t k) :=
    fun k => ext_of_lt _ (row t k).isLt
  have d : ∀ k : Fin 512, ext (dcol (PJ m c) (DY m c) (col t l)) (512 * (t.val % 8) + k.val) = dcol (PJ m c) (DY m c) (col t l) (row t k) :=
    fun k => ext_of_lt _ (row t k).isLt
  simp only [e, de_apply, d, v1_apply, v2_apply, iblk0_apply, iblk2_apply, KP_eq]
  unfold tap
  by_cases h0 : r.val = 0
  · simp only [if_pos h0]
  simp only [if_neg h0]
  by_cases h1 : r.val = 1
  · simp only [if_pos h1]
  simp only [if_neg h1]
  by_cases h2 : r.val = 2
  · simp only [if_pos h2]
    rfl
  · simp only [if_neg h2, Finset.sum_const_zero]

/-- The column of a lane of the `n`-th tile. -/
abbrev coln (n : ℕ) (l : Fin 256) : Fin 1024 := ⟨(256 * (n / 8) + l.val) % 1024, Nat.mod_lt _ (by norm_num)⟩
theorem coln_eq (t : Fin cfg0.N) (l : Fin 256) : coln t.val l = col t l := Fin.ext (by have := lt_N t; show (256 * (t.val / 8) + l.val) % 1024 = 256 * (t.val / 8) + l.val; omega)

/-- The taps' gradient after a point: the rows of the tiles so far. -/
theorem sums15 (c : Dev nD) (r : Fin 8) (l : Fin 256) (n : ℕ) (h : n < cfg0.N) : ((outsAt0 m c n h).2.2.2.2 (ix2 r l) : EReal) =
    ∑ s ∈ Finset.range (n % 8 + 1), ∑ k : Fin 512, ext (tap (PJ m c) (DY m c) r (coln (8 * (n / 8) + s) l)) (512 * ((8 * (n / 8) + s) % 8) + k) := by
  refine run_sum (fun n h => ((outsAt0 m c n h).2.2.2.2 (ix2 r l) : EReal)) (fun s => ∑ k : Fin 512, ext (tap (PJ m c) (DY m c) r (coln s l)) (512 * (s % 8) + k)) (fun n h h0 => ?_) (fun n h h0 => ?_) n h
  · refine (congrFun (outs15_A m c ⟨n, h⟩ h0) _).trans ((tile15 m c ⟨n, h⟩ r l).trans ?_)
    rw [← coln_eq]
  · refine (congrFun (outs15_B m c ⟨n + 1, h⟩ h0) _).trans ?_
    rw [pay2_apply, tile15, ← coln_eq]
    rfl

/-- The array the kernel leaves: the first factor's gradient. -/
theorem final11 (c : Dev nD) : (dats m 0 c).arrAt 11 cfg0.N = du m c := by
  refine (dats m 0 c).arrAt_eq_of_cover 11 (du m c) (fun t hf => ?_) fun i => ?_
  · have hi := (idx_facts t).2.2.2.2.2.2.2.2.2.2.2.1
    have ht := lt_N t
    rw [Value.flushed11]
    funext y
    rw [View.read_apply]
    obtain ⟨r, l, rfl⟩ : ∃ (r : Fin 512) (l : Fin 256), y = ix2 r l := ⟨y 0, y 1, by funext a; match a with | ⟨0, _⟩ => rfl | ⟨1, _⟩ => rfl⟩
    have e : (((cfg0.win 11).blk t).view.emb (ix2 r l) : S4096x1024.Idx) = ix2 (row t r) (col t l) := by
      refine Shape.idx_ext₂ ?_ ?_
      · show win0_11.index t 0 * 512 + 1 * r.val = 512 * (t.val % 8) + r.val
        rw [hi]; show (t.val % 8) * 512 + 1 * r.val = 512 * (t.val % 8) + r.val; omega
      · show win0_11.index t 1 * 256 + 1 * l.val = 256 * (t.val / 8) + l.val
        rw [hi]; show (t.val / 8) * 256 + 1 * l.val = 256 * (t.val / 8) + l.val; omega
    show _ = du m c (((cfg0.win 11).blk t).view.emb (ix2 r l))
    rw [e]
    show (outsAt0 m c t.val t.isLt).1 (ix2 r l) = _
    rw [outs11, pay23_apply, dv_apply, iblk2_apply, KP_eq]
    rfl
  · have hN : cfg0.N = 32 := N_0
    have h0 : (i 0 : ℕ) < 4096 := (i 0).isLt
    have h1 : (i 1 : ℕ) < 1024 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_11 t, ?_⟩
    show i ∈ ((View.whole main_v1_0).slice (win0_11.rect t)).set
    rw [View.set_slice_whole, Rect.mem_set_unit]
    have hi := (idx_facts t).2.2.2.2.2.2.2.2.2.2.2.1
    intro a
    match a with
    | ⟨0, _⟩ =>
      show win0_11.index t 0 * 512 ≤ (i 0 : ℕ) ∧ (i 0 : ℕ) < win0_11.index t 0 * 512 + 512
      rw [hi]; show (t.val % 8) * 512 ≤ (i 0 : ℕ) ∧ (i 0 : ℕ) < (t.val % 8) * 512 + 512; omega
    | ⟨1, _⟩ =>
      show win0_11.index t 1 * 256 ≤ (i 1 : ℕ) ∧ (i 1 : ℕ) < win0_11.index t 1 * 256 + 256
      rw [hi]; show (t.val / 8) * 256 ≤ (i 1 : ℕ) ∧ (i 1 : ℕ) < (t.val / 8) * 256 + 256; omega

/-- The array the kernel leaves: the inner gate's gradient. -/
theorem final12 (c : Dev nD) : (dats m 0 c).arrAt 12 cfg0.N = db m c := by
  refine (dats m 0 c).arrAt_eq_of_cover 12 (db m c) (fun t hf => ?_) fun i => ?_
  · have hi := (idx_facts t).2.2.2.2.2.2.2.2.2.2.2.2.1
    have ht := lt_N t
    rw [Value.flushed12]
    funext y
    rw [View.read_apply]
    obtain ⟨r, l, rfl⟩ : ∃ (r : Fin 512) (l : Fin 256), y = ix2 r l := ⟨y 0, y 1, by funext a; match a with | ⟨0, _⟩ => rfl | ⟨1, _⟩ => rfl⟩
    have e : (((cfg0.win 12).blk t).view.emb (ix2 r l) : S4096x1024.Idx) = ix2 (row t r) (col t l) := by
      refine Shape.idx_ext₂ ?_ ?_
      · show win0_12.index t 0 * 512 + 1 * r.val = 512 * (t.val % 8) + r.val
        rw [hi]; show (t.val % 8) * 512 + 1 * r.val = 512 * (t.val % 8) + r.val; omega
      · show win0_12.index t 1 * 256 + 1 * l.val = 256 * (t.val / 8) + l.val
        rw [hi]; show (t.val / 8) * 256 + 1 * l.val = 256 * (t.val / 8) + l.val; omega
    show _ = db m c (((cfg0.win 12).blk t).view.emb (ix2 r l))
    rw [e]
    show (outsAt0 m c t.val t.isLt).2.1 (ix2 r l) = _
    rw [outs12, pay17_apply, conv_apply, iblk6_apply, iblk8_apply, KP_eq, KY_eq]
    rfl
  · have hN : cfg0.N = 32 := N_0
    have h0 : (i 0 : ℕ) < 4096 := (i 0).isLt
    have h1 : (i 1 : ℕ) < 1024 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_12 t, ?_⟩
    show i ∈ ((View.whole main_v1_1).slice (win0_12.rect t)).set
    rw [View.set_slice_whole, Rect.mem_set_unit]
    have hi := (idx_facts t).2.2.2.2.2.2.2.2.2.2.2.2.1
    intro a
    match a with
    | ⟨0, _⟩ =>
      show win0_12.index t 0 * 512 ≤ (i 0 : ℕ) ∧ (i 0 : ℕ) < win0_12.index t 0 * 512 + 512
      rw [hi]; show (t.val % 8) * 512 ≤ (i 0 : ℕ) ∧ (i 0 : ℕ) < (t.val % 8) * 512 + 512; omega
    | ⟨1, _⟩ =>
      show win0_12.index t 1 * 256 ≤ (i 1 : ℕ) ∧ (i 1 : ℕ) < win0_12.index t 1 * 256 + 256
      rw [hi]; show (t.val / 8) * 256 ≤ (i 1 : ℕ) ∧ (i 1 : ℕ) < (t.val / 8) * 256 + 256; omega

/-- The array the kernel leaves: the second factor's gradient. -/
theorem final13 (c : Dev nD) : (dats m 0 c).arrAt 13 cfg0.N = dc m c := by
  refine (dats m 0 c).arrAt_eq_of_cover 13 (dc m c) (fun t hf => ?_) fun i => ?_
  · have hi := (idx_facts t).2.2.2.2.2.2.2.2.2.2.2.2.2.1
    have ht := lt_N t
    rw [Value.flushed13]
    funext y
    rw [View.read_apply]
    obtain ⟨r, l, rfl⟩ : ∃ (r : Fin 512) (l : Fin 256), y = ix2 r l := ⟨y 0, y 1, by funext a; match a with | ⟨0, _⟩ => rfl | ⟨1, _⟩ => rfl⟩
    have e : (((cfg0.win 13).blk t).view.emb (ix2 r l) : S4096x1024.Idx) = ix2 (row t r) (col t l) := by
      refine Shape.idx_ext₂ ?_ ?_
      · show win0_13.index t 0 * 512 + 1 * r.val = 512 * (t.val % 8) + r.val
        rw [hi]; show (t.val % 8) * 512 + 1 * r.val = 512 * (t.val % 8) + r.val; omega
      · show win0_13.index t 1 * 256 + 1 * l.val = 256 * (t.val / 8) + l.val
        rw [hi]; show (t.val / 8) * 256 + 1 * l.val = 256 * (t.val / 8) + l.val; omega
    show _ = dc m c (((cfg0.win 13).blk t).view.emb (ix2 r l))
    rw [e]
    show (outsAt0 m c t.val t.isLt).2.2.1 (ix2 r l) = _
    rw [outs13, pay24_apply, dv_apply, iblk0_apply, KP_eq]
    rfl
  · have hN : cfg0.N = 32 := N_0
    have h0 : (i 0 : ℕ) < 4096 := (i 0).isLt
    have h1 : (i 1 : ℕ) < 1024 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_13 t, ?_⟩
    show i ∈ ((View.whole main_v1_2).slice (win0_13.rect t)).set
    rw [View.set_slice_whole, Rect.mem_set_unit]
    have hi := (idx_facts t).2.2.2.2.2.2.2.2.2.2.2.2.2.1
    intro a
    match a with
    | ⟨0, _⟩ =>
      show win0_13.index t 0 * 512 ≤ (i 0 : ℕ) ∧ (i 0 : ℕ) < win0_13.index t 0 * 512 + 512
      rw [hi]; show (t.val % 8) * 512 ≤ (i 0 : ℕ) ∧ (i 0 : ℕ) < (t.val % 8) * 512 + 512; omega
    | ⟨1, _⟩ =>
      show win0_13.index t 1 * 256 ≤ (i 1 : ℕ) ∧ (i 1 : ℕ) < win0_13.index t 1 * 256 + 256
      rw [hi]; show (t.val / 8) * 256 ≤ (i 1 : ℕ) ∧ (i 1 : ℕ) < (t.val / 8) * 256 + 256; omega

/-- The array the kernel leaves: the output gate's gradient. -/
theorem final14 (c : Dev nD) : (dats m 0 c).arrAt 14 cfg0.N = dz m c := by
  refine (dats m 0 c).arrAt_eq_of_cover 14 (dz m c) (fun t hf => ?_) fun i => ?_
  · have hi := (idx_facts t).2.2.2.2.2.2.2.2.2.2.2.2.2.2.1
    have ht := lt_N t
    rw [Value.flushed14]
    funext y
    rw [View.read_apply]
    obtain ⟨r, l, rfl⟩ : ∃ (r : Fin 512) (l : Fin 256), y = ix2 r l := ⟨y 0, y 1, by funext a; match a with | ⟨0, _⟩ => rfl | ⟨1, _⟩ => rfl⟩
    have e : (((cfg0.win 14).blk t).view.emb (ix2 r l) : S4096x1024.Idx) = ix2 (row t r) (col t l) := by
      refine Shape.idx_ext₂ ?_ ?_
      · show win0_14.index t 0 * 512 + 1 * r.val = 512 * (t.val % 8) + r.val
        rw [hi]; show (t.val % 8) * 512 + 1 * r.val = 512 * (t.val % 8) + r.val; omega
      · show win0_14.index t 1 * 256 + 1 * l.val = 256 * (t.val / 8) + l.val
        rw [hi]; show (t.val / 8) * 256 + 1 * l.val = 256 * (t.val / 8) + l.val; omega
    show _ = dz m c (((cfg0.win 14).blk t).view.emb (ix2 r l))
    rw [e]
    show (outsAt0 m c t.val t.isLt).2.2.2.1 (ix2 r l) = _
    rw [outs14, pay16_apply, conv_apply, iblk6_apply, iblk8_apply, iblk4_apply, KP_eq, KY_eq]
    rfl
  · have hN : cfg0.N = 32 := N_0
    have h0 : (i 0 : ℕ) < 4096 := (i 0).isLt
    have h1 : (i 1 : ℕ) < 1024 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_14 t, ?_⟩
    show i ∈ ((View.whole main_v1_3).slice (win0_14.rect t)).set
    rw [View.set_slice_whole, Rect.mem_set_unit]
    have hi := (idx_facts t).2.2.2.2.2.2.2.2.2.2.2.2.2.2.1
    intro a
    match a with
    | ⟨0, _⟩ =>
      show win0_14.index t 0 * 512 ≤ (i 0 : ℕ) ∧ (i 0 : ℕ) < win0_14.index t 0 * 512 + 512
      rw [hi]; show (t.val % 8) * 512 ≤ (i 0 : ℕ) ∧ (i 0 : ℕ) < (t.val % 8) * 512 + 512; omega
    | ⟨1, _⟩ =>
      show win0_14.index t 1 * 256 ≤ (i 1 : ℕ) ∧ (i 1 : ℕ) < win0_14.index t 1 * 256 + 256
      rw [hi]; show (t.val / 8) * 256 ≤ (i 1 : ℕ) ∧ (i 1 : ℕ) < (t.val / 8) * 256 + 256; omega

/-- The array the kernel leaves: the taps' gradient. -/
theorem final15 (c : Dev nD) : (dats m 0 c).arrAt 15 cfg0.N = dw m c := by
  refine (dats m 0 c).arrAt_eq_of_cover 15 (dw m c) (fun t hf => ?_) fun i => ?_
  · have hi := (idx_facts t).2.2.2.2.2.2.2.2.2.2.2.2.2.2.2
    have ht := lt_N t
    rw [Value.flushed15]
    funext y
    rw [View.read_apply]
    obtain ⟨r, l, rfl⟩ : ∃ (r : Fin 8) (l : Fin 256), y = ix2 r l := ⟨y 0, y 1, by funext a; match a with | ⟨0, _⟩ => rfl | ⟨1, _⟩ => rfl⟩
    have e : (((cfg0.win 15).blk t).view.emb (ix2 r l) : S8x1024.Idx) = ix2 r (col t l) := by
      refine Shape.idx_ext₂ ?_ ?_
      · show win0_15.index t 0 * 8 + 1 * r.val = r.val
        rw [hi]; show 0 * 8 + 1 * r.val = r.val; omega
      · show win0_15.index t 1 * 256 + 1 * l.val = 256 * (t.val / 8) + l.val
        rw [hi]; show (t.val / 8) * 256 + 1 * l.val = 256 * (t.val / 8) + l.val; omega
    show _ = dw m c (((cfg0.win 15).blk t).view.emb (ix2 r l))
    rw [e]
    show (outsAt0 m c t.val t.isLt).2.2.2.2 (ix2 r l) = _
    have h7 := (flush0_15 t).mp hf
    rw [sums15 m c r l t.val t.isLt, show t.val % 8 + 1 = 8 by omega]
    refine (Finset.sum_congr rfl fun s hs => ?_).trans (sum_tiles (tap (PJ m c) (DY m c) r (col t l)) 8 512 (by norm_num))
    have hs8 := Finset.mem_range.mp hs
    rw [show coln (8 * (t.val / 8) + s) l = col t l from Fin.ext (by show (256 * ((8 * (t.val / 8) + s) / 8) + l.val) % 1024 = 256 * (t.val / 8) + l.val; omega),
      show (8 * (t.val / 8) + s) % 8 = s by omega]
  · have hN : cfg0.N = 32 := N_0
    have h0 : (i 0 : ℕ) < 8 := (i 0).isLt
    have h1 : (i 1 : ℕ) < 1024 := (i 1).isLt
    obtain ⟨t, ht⟩ : ∃ t : Fin cfg0.N, t.val = 8 * ((i 1 : ℕ) / 256) + 7 := ⟨⟨8 * ((i 1 : ℕ) / 256) + 7, by omega⟩, rfl⟩
    refine ⟨t, (flush0_15 t).mpr (by omega), ?_⟩
    show i ∈ ((View.whole main_v1_4).slice (win0_15.rect t)).set
    rw [View.set_slice_whole, Rect.mem_set_unit]
    have hi := (idx_facts t).2.2.2.2.2.2.2.2.2.2.2.2.2.2.2
    intro a
    match a with
    | ⟨0, _⟩ =>
      show win0_15.index t 0 * 8 ≤ (i 0 : ℕ) ∧ (i 0 : ℕ) < win0_15.index t 0 * 8 + 8
      rw [hi]; show 0 * 8 ≤ (i 0 : ℕ) ∧ (i 0 : ℕ) < 0 * 8 + 8; omega
    | ⟨1, _⟩ =>
      show win0_15.index t 1 * 256 ≤ (i 1 : ℕ) ∧ (i 1 : ℕ) < win0_15.index t 1 * 256 + 256
      rw [hi]; show (t.val / 8) * 256 ≤ (i 1 : ℕ) ∧ (i 1 : ℕ) < (t.val / 8) * 256 + 256; omega

end Cert.ConvBwdIdeal.Hand

namespace Cert.ConvBwdRefIdeal.Hand

open Cert.ConvBwdRefIdeal Cert.ConvBwdRefIdeal.Gen Cert.ConvBwdRefIdeal.Read Cert.ConvBwdIdeal.Hand Cert.Common

section
variable (x0 : FVec Ideal S4096x14336 .bf16) (x1 : FVec Ideal S3x1024 .f32) (x2 : FVec Ideal S4096x1024 .bf16) (R : Fin 4096) (C : Fin 1024)

/-- The reference's gated input behind two rows of zeros. -/
theorem v10_eq (n : Fin 4098) : val_main_v10 (F := Ideal) x0 (ix2 n C) = back (vcol x0 C) 2 n.val := by
  unfold val_main_v10 val_main_v9 val_main_cst val_main_v8 val_main_v5 val_main_v4 val_main_v1 val_main_v0
  pointwise
  unfold back
  by_cases h : n.val < 2
  · rw [dif_pos h, if_pos h]
  · rw [dif_neg h, if_neg h, ext_of_lt _ (by omega : n.val - 2 < 4096)]
    exact mul_comm _ _

/-- The reference's convolution. -/
theorem v31_eq : val_main_v31 (F := Ideal) x0 x1 (ix2 R C) = conv x0 x1 R C := by
  unfold val_main_v31 val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12
  pointwise
  simp only [v10_eq]
  unfold conv
  rw [← back_zero (vcol x0 C) R, ← back_shift _ 1 1, ← back_shift _ 0 2, Nat.add_comm R.val 1, Nat.add_comm R.val 2]

/-- The reference's gradient of the convolution's output. -/
theorem v39_eq : val_main_v39 (F := Ideal) x0 x2 (ix2 R C) = dcol x0 x2 C R := by
  unfold val_main_v39 val_main_v37 val_main_v35 val_main_v3 val_main_v2 val_main_v33_0 val_main_v7 val_main_v6 val_main_v33_2 val_main_call0_v4 val_main_call0_v3 val_main_call0_v2 val_main_call0_v1 val_main_call0_v0 val_main_v7 val_main_v6 val_main_call0_cst val_main_call0_cst_0
  pointwise
  unfold dcol sg
  rw [zero_sub, mul_left_comm, mul_assoc]

/-- The reference's gradient of the convolution's input. -/
theorem v73_eq : val_main_v73 (F := Ideal) x0 x1 x2 (ix2 R C) = dconv x0 x1 x2 R C := by
  unfold val_main_v73 val_main_v68 val_main_v67 val_main_v62 val_main_v61 val_main_v57 val_main_v56 val_main_v51 val_main_v50 val_main_v47 val_main_v42 val_main_v41 val_main_v28 val_main_v26 val_main_v25 val_main_v21 val_main_v19 val_main_v18 val_main_v15 val_main_v13 val_main_v12 val_main_cst_3 val_main_cst_7 val_main_cst_11
  pointwise
  simp only [v39_eq]
  unfold dconv
  refine congrArg₂ (· + ·) (congrArg₂ (· + ·) rfl ?_) ?_
  · by_cases h : 1 + R.val < 4096
    · rw [dif_pos (by omega), ext_of_lt _ h]
      exact congrArg (fun n => x1 (ix2 1 C) * dcol x0 x2 C n) (Fin.ext (by show 2 + R.val - 1 = 1 + R.val; omega))
    · unfold ext
      rw [dif_neg (by omega), dif_neg h, mul_zero]
  · by_cases h : 2 + R.val < 4096
    · rw [dif_pos h, ext_of_lt _ h]
    · unfold ext
      rw [dif_neg h, dif_neg h, mul_zero]

/-- The reference's gradient of the taps. -/
theorem v80_eq (r : Fin 8) : val_main_v80 (F := Ideal) x0 x2 (ix2 r C) = (∑ R : Fin 4096, tap x0 x2 r C R : EReal) := by
  unfold val_main_v80 val_main_v71 val_main_v70 val_main_v69 val_main_v66 val_main_v65 val_main_v64 val_main_v63 val_main_v60 val_main_v59 val_main_v58 val_main_v55 val_main_v54 val_main_v53 val_main_v52 val_main_v49 val_main_v48 val_main_v46 val_main_v45 val_main_v44 val_main_v43 val_main_v27 val_main_v20 val_main_v14 val_main_call2_v0 val_main_c val_main_cst_1 val_main_cst_2 val_main_cst_4 val_main_cst_5 val_main_cst_6 val_main_cst_8 val_main_cst_9 val_main_cst_10 val_main_cst_12
  pointwise
  simp only [Fin.sum_univ_one, v39_eq, v10_eq]
  unfold tap
  have e2 : ∀ n : Fin 4096, back (vcol x0 C) 2 (2 + n.val) = vcol x0 C n := fun n => by rw [Nat.add_comm, back_shift _ 0 2, back_zero]
  have e1 : ∀ n : Fin 4096, back (vcol x0 C) 2 (1 + n.val) = back (vcol x0 C) 1 n.val := fun n => by rw [Nat.add_comm, back_shift _ 1 1]
  simp only [e1, e2]
  by_cases h0 : r.val = 0
  · simp only [if_pos h0]
    rw [dif_pos (by omega), dif_neg (by omega), dif_neg (by omega), dif_pos (by omega), zero_add, zero_add]
  simp only [if_neg h0]
  by_cases h1 : r.val = 1
  · simp only [if_pos h1]
    rw [dif_pos (by omega), dif_neg (by omega), dif_pos (by omega), dif_neg (by omega), zero_add, add_zero]
  simp only [if_neg h1]
  by_cases h2 : r.val = 2
  · simp only [if_pos h2]
    rw [dif_pos (by omega), dif_pos (by omega), dif_neg (by omega), dif_neg (by omega), add_zero, add_zero]
  · simp only [if_neg h2, Finset.sum_const_zero]
    rw [dif_neg (by omega)]
    exact by norm_num [FloatOps.sitofp]

/-- The reference's gradient of the first factor. -/
theorem v76_eq : val_main_v76 (F := Ideal) x0 x1 x2 (ix2 R C) = (dconv x0 x1 x2 R C * x0 (ix2 R (cc C)) : EReal) := by
  unfold val_main_v76 val_main_v74 val_main_v5 val_main_v4
  pointwise
  rw [v73_eq]
  exact mul_comm _ _
/-- The reference's gradient of the inner gate. -/
theorem v77_eq : val_main_v77 (F := Ideal) x0 x1 x2 (ix2 R C) = (x2 (ix2 R C) * conv x0 x1 R C * (x0 (ix2 R (cz C)) * sg (x0 (ix2 R (cz C)))) : EReal) := by
  unfold val_main_v77 val_main_v40 val_main_v37 val_main_v35 val_main_v33_0 val_main_v7 val_main_v6 val_main_v33_2 val_main_call0_v4 val_main_call0_v3 val_main_call0_v2 val_main_call0_v1 val_main_call0_v0 val_main_v7 val_main_v6 val_main_call0_cst val_main_call0_cst_0
  pointwise
  rw [v31_eq]
  unfold sg
  rw [zero_sub]
  exact mul_right_comm _ _ _
/-- The reference's gradient of the second factor. -/
theorem v78_eq : val_main_v78 (F := Ideal) x0 x1 x2 (ix2 R C) = (dconv x0 x1 x2 R C * x0 (ix2 R (cu C)) : EReal) := by
  unfold val_main_v78 val_main_v75 val_main_v1 val_main_v0
  pointwise
  rw [v73_eq]
/-- The reference's gradient of the output gate. -/
theorem v79_eq : val_main_v79 (F := Ideal) x0 x1 x2 (ix2 R C) = (x0 (ix2 R (cb C)) * conv x0 x1 R C * x2 (ix2 R C) * sg (x0 (ix2 R (cz C)))
    + x0 (ix2 R (cz C)) * (x0 (ix2 R (cb C)) * conv x0 x1 R C * x2 (ix2 R C)) * (sg (x0 (ix2 R (cz C))) * (1 - sg (x0 (ix2 R (cz C))))) : EReal) := by
  unfold val_main_v79 val_main_v38 val_main_call1_v2 val_main_call1_v1 val_main_call1_v0 val_main_v36 val_main_v35 val_main_v33_1 val_main_call0_v7 val_main_call0_v6 val_main_v33_2 val_main_call0_v4 val_main_call0_v3 val_main_call0_v2 val_main_call0_v1 val_main_call0_v0 val_main_v7 val_main_v6 val_main_call0_cst val_main_call0_cst_0 val_main_call0_cst_1 val_main_v32 val_main_v3 val_main_v2
  pointwise
  rw [v31_eq]
  unfold sg
  rw [zero_sub]

/-- The sigmoid of a real number is one. -/
theorem isR_sg {z : EReal} (h : IsR z) : IsR (sg z) := by
  obtain ⟨z, rfl⟩ := h
  unfold sg
  rw [zero_sub, ← EReal.coe_neg, Ideal.exp_coe, ← EReal.coe_one, ← EReal.coe_add, Ideal.div_coe (by positivity)]
  exact (isR_coe 1).mul (isR_coe _)
/-- The gated input of finite arguments is finite, delayed or not. -/
theorem isR_back (h0 : ∀ i, IsR (x0 i)) (k n : ℕ) : IsR (back (vcol x0 C) k n) := by
  unfold back
  refine IsR.ite isR_zero ?_
  unfold ext
  by_cases h : n - k < 4096
  · rw [dif_pos h]
    exact (h0 _).mul (h0 _)
  · rw [dif_neg h]
    exact isR_zero
/-- The convolution of finite arguments is finite. -/
theorem isR_conv (h0 : ∀ i, IsR (x0 i)) (h1 : ∀ i, IsR (x1 i)) : IsR (conv x0 x1 R C) :=
  (((h1 _).mul (isR_back x0 C h0 2 _)).add ((h1 _).mul (isR_back x0 C h0 1 _))).add ((h1 _).mul ((h0 _).mul (h0 _)))
/-- The product rule of `z` times its sigmoid, the two summands in one. -/
theorem silu_rule {y b v s z : EReal} (hy : IsR y) (hb : IsR b) (hv : IsR v) (hs : IsR s) (hz : IsR z) :
    b * v * y * s + z * (b * v * y) * (s * (1 - s)) = y * b * v * (s * (1 + z * (1 - s))) := by
  obtain ⟨y, rfl⟩ := hy; obtain ⟨b, rfl⟩ := hb; obtain ⟨v, rfl⟩ := hv; obtain ⟨s, rfl⟩ := hs; obtain ⟨z, rfl⟩ := hz
  norm_cast
  ring
end

variable (m : (ℓ : Loc Cert.ConvBwdIdeal.nD Cert.ConvBwdIdeal.τ Cert.ConvBwdIdeal.sig) → Buf (Elt Ideal) ℓ) (c : Dev Cert.ConvBwdIdeal.nD)

/-- The reference's gradient of the first factor is the kernel's. -/
theorem ref76 : val_main_v76 (F := Ideal) (PJ m c) (CW m c) (DY m c) = du m c := by
  funext i
  obtain ⟨R, C, rfl⟩ : ∃ (R : Fin 4096) (C : Fin 1024), i = ix2 R C := ⟨i 0, i 1, eq_ix2 i⟩
  rw [v76_eq]
  rfl

/-- The reference's gradient of the inner gate is the kernel's. -/
theorem ref77 : val_main_v77 (F := Ideal) (PJ m c) (CW m c) (DY m c) = db m c := by
  funext i
  obtain ⟨R, C, rfl⟩ : ∃ (R : Fin 4096) (C : Fin 1024), i = ix2 R C := ⟨i 0, i 1, eq_ix2 i⟩
  rw [v77_eq]
  rfl

/-- The reference's gradient of the second factor is the kernel's. -/
theorem ref78 : val_main_v78 (F := Ideal) (PJ m c) (CW m c) (DY m c) = dc m c := by
  funext i
  obtain ⟨R, C, rfl⟩ : ∃ (R : Fin 4096) (C : Fin 1024), i = ix2 R C := ⟨i 0, i 1, eq_ix2 i⟩
  rw [v78_eq]
  rfl

/-- The reference's gradient of the output gate is the kernel's. -/
theorem ref79 (h0 : ∀ i, IsR (PJ m c i)) (h1 : ∀ i, IsR (CW m c i)) (h2 : ∀ i, IsR (DY m c i)) : val_main_v79 (F := Ideal) (PJ m c) (CW m c) (DY m c) = dz m c := by
  funext i
  obtain ⟨R, C, rfl⟩ : ∃ (R : Fin 4096) (C : Fin 1024), i = ix2 R C := ⟨i 0, i 1, eq_ix2 i⟩
  rw [v79_eq, silu_rule (h2 _) (h0 _) (isR_conv _ _ R C h0 h1) (isR_sg (h0 _)) (h0 _)]
  rfl

/-- The reference's gradient of the taps is the kernel's. -/
theorem ref80 : val_main_v80 (F := Ideal) (PJ m c) (DY m c) = dw m c := by
  funext i
  obtain ⟨R, C, rfl⟩ : ∃ (R : Fin 8) (C : Fin 1024), i = ix2 R C := ⟨i 0, i 1, eq_ix2 i⟩
  rw [v80_eq]
  rfl

/-- What the precondition says of the arguments. -/
theorem finite_args (x0 : FVec Ideal S4096x14336 .bf16) (x1 : FVec Ideal S3x1024 .f32) (x2 : FVec Ideal S4096x1024 .bf16)
    (h : Cert.Pre_finite_conv.fn (F := Ideal) x0 x1 x2 = fun _ => 1#1) : (∀ i, IsR (x0 i)) ∧ (∀ i, IsR (x1 i)) ∧ ∀ i, IsR (x2 i) := by
  have h0 := congrFun h ix0
  unfold Cert.Pre_finite_conv.fn at h0
  have h1 := and_one h0
  have h2 := and_one h1.1
  exact ⟨fun i => real_of_reduce (extf .f32 x0 bitsLt_bf16_f32) _ (fun _ => rfl) _ _ _ _ h2.1 i, fun i => real_of_reduce x1 _ (fun _ => rfl) _ _ _ _ h2.2 i,
    fun i => real_of_reduce (extf .f32 x2 bitsLt_bf16_f32) _ (fun _ => rfl) _ _ _ _ h1.2 i⟩

end Cert.ConvBwdRefIdeal.Hand

namespace Cert.Proof

open Cert.ConvBwdIdeal.Hand Cert.ConvBwdRefIdeal.Hand

/-- The gradients of the short gated convolution: the kernel's five arrays are the reference's, of finite arguments. -/
theorem conv_bwd : Cert.algebraic_ConvBwdIdeal_ConvBwdRefIdeal_pre_finite_conv := by
  intro m g m' g' hpre hagree
  refine ⟨du m, db m, dc m, dz m, dw m, ?_, ?_⟩
  · refine (θ_run _ _ _).mono (fun r h c => ?_) (Cert.ConvBwdIdeal.Value.run_blocks (F := Ideal) m g)
    exact ⟨(h c).1.trans (final11 m c), (h c).2.1.trans (final12 m c), (h c).2.2.1.trans (final13 m c), (h c).2.2.2.1.trans (final14 m c), (h c).2.2.2.2.1.trans (final15 m c), (h c).2.2.2.2.2⟩
  · refine (θ_run _ _ _).mono (fun r h c => ?_) (Cert.ConvBwdRefIdeal.Value.run (F := Ideal) m' g')
    have hf := finite_args _ _ _ (hpre c)
    obtain ⟨a0, a1, a2⟩ := hagree c
    refine ⟨(h c).1.trans ((Cert.ConvBwdRefIdeal.Read.val_main_v76_eq (F := Ideal) _ _ _).trans ?_), (h c).2.1.trans ((Cert.ConvBwdRefIdeal.Read.val_main_v77_eq (F := Ideal) _ _ _).trans ?_),
      (h c).2.2.1.trans ((Cert.ConvBwdRefIdeal.Read.val_main_v78_eq (F := Ideal) _ _ _).trans ?_), (h c).2.2.2.1.trans ((Cert.ConvBwdRefIdeal.Read.val_main_v79_eq (F := Ideal) _ _).trans ?_),
      (h c).2.2.2.2.1.trans ((Cert.ConvBwdRefIdeal.Read.val_main_v80_eq (F := Ideal) _ _).trans ?_), (h c).2.2.2.2.2⟩
    · rw [a0, a1, a2]
      exact ref76 m c
    · rw [a0, a1, a2]
      exact ref77 m c
    · rw [a0, a1, a2]
      exact ref78 m c
    · rw [a0, a1, a2]
      exact ref79 m c hf.1 hf.2.1 hf.2.2
    · rw [a0, a2]
      exact ref80 m c

end Cert.Proof

end
-- ==== Proof.PoolOps.lean ====
module

public import proofs.«01_k».proof.Defs
public import proofs.«01_k».proof.Proof.Common
public import Idealize.ShloMosaic.Lib.Pointwise
public import Idealize.ShloMosaic.Lib.ValueIdx
public import Idealize.ShloMosaic.Lib.Tactic

/-! The running sums, the picking of rows and the adding into rows that the pool's reference prints, read at an index. -/

@[expose] public section

set_option maxRecDepth 16384

noncomputable section

open Idealize.ShloMosaic Idealize.ShloMosaic.Pointwise

namespace Cert.PoolOps

open Cert.PoolBwdRefIdeal

/-- A fold that adds one term per member starts from its initial value plus the terms' sum. -/
theorem foldl_sum {N : ℕ} (f : Fin N → EReal) (v : EReal) : (List.finRange N).foldl (fun r n => r + f n) v = v + ∑ n, f n := by
  rw [← List.sum_ofFn, List.ofFn_eq_map]
  generalize List.finRange N = l
  induction l generalizing v with
  | nil => simp
  | cons a l ih => rw [List.foldl_cons, ih, List.map_cons, List.sum_cons, add_assoc]

/-- A window of the whole height at row `t`, `lo` rows of zeros above: the sum over its rows. -/
theorem window_sum (lo hi : ℕ) (x : S4096x4x256.Idx → EReal)
    (h : S4096x4x256.ReduceWindows ![4096, 1, 1] ![1, 1, 1] ![lo, 0, 0] ![hi, 0, 0] S4096x4x256) (t : Fin 4096) (g : Fin 4) (l : Fin 256) :
    Ideal.hostReduceWindowAdd ![4096, 1, 1] ![1, 1, 1] ![lo, 0, 0] ![hi, 0, 0] h x 0 (ix3 t g l)
      = ∑ n : Fin 4096, if k : lo ≤ t.val + n.val ∧ t.val + n.val - lo < 4096 then x (ix3 ⟨t.val + n.val - lo, k.2⟩ g l) else 0 := by
  unfold Ideal.hostReduceWindowAdd Host.reduceWindow
  dsimp only
  refine (foldl_sum _ _).trans ?_
  rw [zero_add, ← Equiv.sum_comp (Shape.rowMajor (⟨3, ![4096, 1, 1]⟩ : Shape))]
  refine (sum_idx3 (n0 := 4096) (n1 := 1) (n2 := 1) _).trans ?_
  refine Finset.sum_congr rfl fun n _ => ?_
  rw [Fin.sum_univ_one, Fin.sum_univ_one]
  simp only [Equiv.symm_apply_apply]
  by_cases k : lo ≤ t.val + n.val ∧ t.val + n.val - lo < 4096
  · rw [dif_pos k, dif_pos (fun a => by
      match a with
      | ⟨0, _⟩ => exact ⟨show lo ≤ t.val * 1 + n.val by omega, show t.val * 1 + n.val - lo < 4096 by omega⟩
      | ⟨1, _⟩ => exact ⟨Nat.zero_le _, show g.val * 1 + 0 - 0 < 4 by omega⟩
      | ⟨2, _⟩ => exact ⟨Nat.zero_le _, show l.val * 1 + 0 - 0 < 256 by omega⟩)]
    refine congrArg x (funext fun a => Fin.ext ?_)
    match a with
    | ⟨0, _⟩ => show t.val * 1 + n.val - lo = t.val + n.val - lo; omega
    | ⟨1, _⟩ => show g.val * 1 + 0 - 0 = g.val; omega
    | ⟨2, _⟩ => show l.val * 1 + 0 - 0 = l.val; omega
  · rw [dif_neg k, dif_neg (fun H => k (by
      have := H 0
      change lo ≤ t.val * 1 + n.val ∧ t.val * 1 + n.val - lo < 4096 at this
      rwa [Nat.mul_one] at this))]

/-- The running sum down the rows: row `t` holds the sum of the rows up to it. -/
theorem cumsum_apply (x : S4096x4x256.Idx → EReal)
    (h : S4096x4x256.ReduceWindows ![4096, 1, 1] ![1, 1, 1] ![4095, 0, 0] ![0, 0, 0] S4096x4x256) (t : Fin 4096) (g : Fin 4) (l : Fin 256) :
    Ideal.hostReduceWindowAdd ![4096, 1, 1] ![1, 1, 1] ![4095, 0, 0] ![0, 0, 0] h x 0 (ix3 t g l)
      = ∑ k : Fin 4096, if k.val ≤ t.val then x (ix3 k g l) else 0 := by
  rw [window_sum, ← Finset.sum_filter_add_sum_filter_not _ (fun n : Fin 4096 => 4095 ≤ t.val + n.val), Finset.sum_eq_zero (s := Finset.univ.filter fun n : Fin 4096 => ¬ 4095 ≤ t.val + n.val)
    (fun n hn => dif_neg (fun k => (Finset.mem_filter.1 hn).2 k.1)), add_zero, ← Finset.sum_filter]
  refine Finset.sum_bij (fun n hn => ⟨t.val + n.val - 4095, by omega⟩) ?_ ?_ ?_ ?_
  · intro n hn
    refine Finset.mem_filter.2 ⟨Finset.mem_univ _, ?_⟩
    show t.val + n.val - 4095 ≤ t.val
    omega
  · intro a ha b hb e
    have h1 := (Finset.mem_filter.1 ha).2
    have h2 := (Finset.mem_filter.1 hb).2
    simp only [Fin.mk.injEq] at e
    exact Fin.ext (by omega)
  · intro k hk
    have h1 := (Finset.mem_filter.1 hk).2
    refine ⟨⟨k.val + 4095 - t.val, by omega⟩, Finset.mem_filter.2 ⟨Finset.mem_univ _, ?_⟩, Fin.ext ?_⟩
    · show 4095 ≤ t.val + (k.val + 4095 - t.val)
      omega
    · show t.val + (k.val + 4095 - t.val) - 4095 = k.val
      omega
  · intro n hn
    exact dif_pos ⟨(Finset.mem_filter.1 hn).2, by omega⟩

/-- The running sum up the rows: row `t` holds the sum of the rows from it on. -/
theorem revsum_apply (x : S4096x4x256.Idx → EReal)
    (h : S4096x4x256.ReduceWindows ![4096, 1, 1] ![1, 1, 1] ![0, 0, 0] ![4095, 0, 0] S4096x4x256) (t : Fin 4096) (g : Fin 4) (l : Fin 256) :
    Ideal.hostReduceWindowAdd ![4096, 1, 1] ![1, 1, 1] ![0, 0, 0] ![4095, 0, 0] h x 0 (ix3 t g l)
      = ∑ k : Fin 4096, if t.val ≤ k.val then x (ix3 k g l) else 0 := by
  rw [window_sum, ← Finset.sum_filter_add_sum_filter_not _ (fun n : Fin 4096 => t.val + n.val < 4096), Finset.sum_eq_zero (s := Finset.univ.filter fun n : Fin 4096 => ¬ t.val + n.val < 4096)
    (fun n hn => dif_neg (fun k => (Finset.mem_filter.1 hn).2 (by have := k.2; omega))), add_zero, ← Finset.sum_filter]
  refine Finset.sum_bij (fun n hn => ⟨t.val + n.val, (Finset.mem_filter.1 hn).2⟩) ?_ ?_ ?_ ?_
  · intro n hn
    refine Finset.mem_filter.2 ⟨Finset.mem_univ _, ?_⟩
    show t.val ≤ t.val + n.val
    omega
  · intro a ha b hb e
    have : t.val + a.val = t.val + b.val := congrArg Fin.val e
    exact Fin.ext (by omega)
  · intro k hk
    have h1 := (Finset.mem_filter.1 hk).2
    refine ⟨⟨k.val - t.val, by omega⟩, Finset.mem_filter.2 ⟨Finset.mem_univ _, ?_⟩, Fin.ext ?_⟩
    · show t.val + (k.val - t.val) < 4096
      omega
    · show t.val + (k.val - t.val) = k.val
      omega
  · intro n hn
    have := (Finset.mem_filter.1 hn).2
    exact dif_pos ⟨Nat.zero_le _, by omega⟩

section
variable [Facts₀] (idx : IVec S4096x2 32) (s : Fin 4096 → Fin 4097) (g : Fin 4)
variable (hs : ∀ t, (idx (ix2 t 0)).toInt = ((s t).val : ℤ)) (hg : ∀ t, (idx (ix2 t 1)).toInt = (g.val : ℤ))

include hs hg in
/-- Row `t` of the picked rows is the row the index array names. -/
theorem gather_apply (x : S4097x4x256.Idx → EReal) (t : Fin 4096) (l : Fin 256) :
    Host.gather gather_S4097x4x256_S4096x2_S4096x256_1_01_n_n_01_1_11256 x idx (ix2 t l) = x (ix3 (s t) g l) := by
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (by simp [gather_S4097x4x256_S4096x2_S4096x256_1_01_n_n_01_1_11256]))]
    unfold GatherDims.start
    rw [dif_pos (show (0 : Fin 3) ∈ gather_S4097x4x256_S4096x2_S4096x256_1_01_n_n_01_1_11256.startIndexMap from (by decide : (0 : Fin 3) ∈ ([0, 1] : List (Fin 3))))]
    have hsi : GatherDims.siIdx gather_S4097x4x256_S4096x2_S4096x256_1_01_n_n_01_1_11256 (ix2 t l) ⟨0, show 0 < 2 by decide⟩ = ix2 t 0 := by
      funext b
      refine Fin.ext ?_
      match b with
      | ⟨0, _⟩ => rfl
      | ⟨1, _⟩ => rfl
    have e := hs t
    rw [← hsi] at e
    refine (congrArg (fun z : ℤ => min z.toNat 4096 + 0 + 0) e).trans ?_
    show min (s t).val 4096 + 0 + 0 = (s t).val
    omega
  · rw [GatherDims.offCoord_eq_zero _ _ _ (fun h => ((GatherDims.mem_sKept _ _).mp h).1 (by simp [gather_S4097x4x256_S4096x2_S4096x256_1_01_n_n_01_1_11256]))]
    unfold GatherDims.start
    rw [dif_pos (show (1 : Fin 3) ∈ gather_S4097x4x256_S4096x2_S4096x256_1_01_n_n_01_1_11256.startIndexMap from (by decide : (1 : Fin 3) ∈ ([0, 1] : List (Fin 3))))]
    have hsi : GatherDims.siIdx gather_S4097x4x256_S4096x2_S4096x256_1_01_n_n_01_1_11256 (ix2 t l) ⟨1, show 1 < 2 by decide⟩ = ix2 t 1 := by
      funext b
      refine Fin.ext ?_
      match b with
      | ⟨0, _⟩ => rfl
      | ⟨1, _⟩ => rfl
    have e := hg t
    rw [← hsi] at e
    refine (congrArg (fun z : ℤ => min z.toNat 3 + 0 + 0) e).trans ?_
    show min g.val 3 + 0 + 0 = g.val
    omega
  · unfold GatherDims.start
    rw [dif_neg (show ¬ (2 : Fin 3) ∈ gather_S4097x4x256_S4096x2_S4096x256_1_01_n_n_01_1_11256.startIndexMap from (by decide : ¬ (2 : Fin 3) ∈ ([0, 1] : List (Fin 3))))]
    show 0 + 0 + l.val = l.val
    omega

include hs hg in
/-- The update at row `t` lands in the row the index array names. -/
theorem lands (t : Fin 4096) (l : Fin 256) :
    scatter_S4097x4x256_S4096x2_S4096x256_1_01_01_1.resultIdx? (ix2 t l) idx = some (ix3 (s t) g l) := by
  have h0 : scatter_S4097x4x256_S4096x2_S4096x256_1_01_01_1.start (ix2 t l) idx 0 = ((s t).val : ℤ) := by
    unfold ScatterDims.start
    rw [dif_pos (show (0 : Fin 3) ∈ scatter_S4097x4x256_S4096x2_S4096x256_1_01_01_1.scatterDimsToOperandDims from (by decide : (0 : Fin 3) ∈ ([0, 1] : List (Fin 3))))]
    refine Eq.trans (congrArg (fun y => (idx y).toInt) (funext fun b => Fin.ext ?_)) (hs t)
    match b with
    | ⟨0, _⟩ => rfl
    | ⟨1, _⟩ => rfl
  have h1 : scatter_S4097x4x256_S4096x2_S4096x256_1_01_01_1.start (ix2 t l) idx 1 = (g.val : ℤ) := by
    unfold ScatterDims.start
    rw [dif_pos (show (1 : Fin 3) ∈ scatter_S4097x4x256_S4096x2_S4096x256_1_01_01_1.scatterDimsToOperandDims from (by decide : (1 : Fin 3) ∈ ([0, 1] : List (Fin 3))))]
    refine Eq.trans (congrArg (fun y => (idx y).toInt) (funext fun b => Fin.ext ?_)) (hg t)
    match b with
    | ⟨0, _⟩ => rfl
    | ⟨1, _⟩ => rfl
  have h2 : scatter_S4097x4x256_S4096x2_S4096x256_1_01_01_1.start (ix2 t l) idx 2 = 0 := by
    unfold ScatterDims.start
    rw [dif_neg (show ¬ (2 : Fin 3) ∈ scatter_S4097x4x256_S4096x2_S4096x256_1_01_01_1.scatterDimsToOperandDims from (by decide : ¬ (2 : Fin 3) ∈ ([0, 1] : List (Fin 3))))]
  have w0 : scatter_S4097x4x256_S4096x2_S4096x256_1_01_01_1.window (ix2 t l) 0 = 0 := rfl
  have w1 : scatter_S4097x4x256_S4096x2_S4096x256_1_01_01_1.window (ix2 t l) 1 = 0 := rfl
  have w2 : scatter_S4097x4x256_S4096x2_S4096x256_1_01_01_1.window (ix2 t l) 2 = l.val := rfl
  unfold ScatterDims.resultIdx?
  have b0 := (s t).isLt
  have b1 := g.isLt
  have b2 := l.isLt
  rw [dif_pos (fun a => by
    match a with
    | ⟨0, _⟩ => rw [show (⟨0, _⟩ : Fin 3) = 0 from rfl, h0, w0]; exact ⟨by omega, show ((s t).val : ℤ) + (0 : ℕ) < (4097 : ℕ) by omega⟩
    | ⟨1, _⟩ => rw [show (⟨1, _⟩ : Fin 3) = 1 from rfl, h1, w1]; exact ⟨by omega, show (g.val : ℤ) + (0 : ℕ) < (4 : ℕ) by omega⟩
    | ⟨2, _⟩ => rw [show (⟨2, _⟩ : Fin 3) = 2 from rfl, h2, w2]; exact ⟨by omega, show (0 : ℤ) + (l.val : ℕ) < (256 : ℕ) by omega⟩)]
  refine congrArg some (funext fun a => Fin.ext ?_)
  match a with
  | ⟨0, _⟩ => exact (congrArg Int.toNat (congrArg₂ (fun (a : ℤ) (b : ℕ) => a + b) h0 w0)).trans (show (((s t).val : ℤ) + (0 : ℕ)).toNat = (s t).val by omega)
  | ⟨1, _⟩ => exact (congrArg Int.toNat (congrArg₂ (fun (a : ℤ) (b : ℕ) => a + b) h1 w1)).trans (show ((g.val : ℤ) + (0 : ℕ)).toNat = g.val by omega)
  | ⟨2, _⟩ => exact (congrArg Int.toNat (congrArg₂ (fun (a : ℤ) (b : ℕ) => a + b) h2 w2)).trans (show ((0 : ℤ) + (l.val : ℕ)).toNat = l.val by omega)

include hs hg in
/-- Adding rows into the rows the index array names, read in that array's own column block. -/
theorem scatter_apply (x : S4097x4x256.Idx → EReal) (u : S4096x256.Idx → EReal) (n : Fin 4097) (l : Fin 256) :
    Ideal.hostScatterAdd scatter_S4097x4x256_S4096x2_S4096x256_1_01_01_1 x idx u (ix3 n g l)
      = x (ix3 n g l) + ∑ t : Fin 4096, if s t = n then u (ix2 t l) else 0 := by
  unfold Ideal.hostScatterAdd
  refine congrArg (x (ix3 n g l) + ·) ?_
  rw [Finset.sum_filter]
  refine (sum_idx2 (n0 := 4096) (n1 := 256) _).trans (Finset.sum_congr rfl fun t _ => ?_)
  rw [Finset.sum_eq_single l (fun l' _ hl => if_neg ?_) (fun h => absurd (Finset.mem_univ _) h)]
  · rw [lands idx s g hs hg]
    by_cases e : s t = n
    · rw [if_pos e, if_pos (by rw [e])]
    · rw [if_neg e, if_neg (fun h => e ?_)]
      exact congrFun (Option.some.inj h) 0
  · rw [lands idx s g hs hg]
    exact fun h => hl (congrFun (Option.some.inj h) 2)

include hs hg in
/-- The same in another column block: nothing is added. -/
theorem scatter_other (x : S4097x4x256.Idx → EReal) (u : S4096x256.Idx → EReal) (n : Fin 4097) (g' : Fin 4) (hne : g' ≠ g) (l : Fin 256) :
    Ideal.hostScatterAdd scatter_S4097x4x256_S4096x2_S4096x256_1_01_01_1 x idx u (ix3 n g' l) = x (ix3 n g' l) := by
  unfold Ideal.hostScatterAdd
  rw [Finset.sum_filter]
  refine (congrArg (x (ix3 n g' l) + ·) ?_).trans (add_zero _)
  refine (sum_idx2 (n0 := 4096) (n1 := 256) _).trans (Finset.sum_eq_zero fun t _ => Finset.sum_eq_zero fun l' _ => if_neg ?_)
  rw [lands idx s g hs hg]
  exact fun h => hne (congrFun (Option.some.inj h) 1).symm
end

end Cert.PoolOps
-- ==== Proof.PoolRef.lean ====
module

public import proofs.«01_k».proof.Defs
public import proofs.«01_k».proof.Proof.Gen.PoolBwdRefIdeal.Read
public import proofs.«01_k».proof.Proof.Common
public import proofs.«01_k».proof.Proof.Reals
public import proofs.«01_k».proof.Proof.PoolOps
public import Idealize.ShloMosaic.Lib.Pointwise
public import Idealize.ShloMosaic.Lib.ValueIdx
public import Idealize.ShloMosaic.Lib.Tactic

/-! The gradients of the multiscale pool in closed form, and the reference's stages read in it. -/

@[expose] public section

set_option maxRecDepth 16384

noncomputable section

open Idealize.ShloMosaic

namespace Cert.PoolBwdRefIdeal.Hand

open Cert.PoolBwdRefIdeal Cert.PoolBwdRefIdeal.Gen Cert.PoolBwdRefIdeal.Read Cert.Common Cert.PoolOps

/-- The gate's sigmoid. -/
def sg (z : EReal) : EReal := Ideal.div 1 (1 + Ideal.exp (0 - z))

/-- A family delayed by `k` rows, zero before its first. -/
def back (f : Fin 4096 → EReal) (k n : ℕ) : EReal := if n < k then 0 else ext f (n - k)

/-- The rows a group's window spans. -/
def width (g : Fin 4) : ℕ := 2 * 2 ^ g.val
/-- One over the number of rows in a window that ends at row `n`. -/
def icnt (w n : ℕ) : EReal := ((1 / ((min (n + 1) w : ℕ) : ℝ) : ℝ) : EReal)
/-- The column of lane `l` of group `g`, in the pooled columns, in the projection, and of its gate. -/
abbrev cg (g : Fin 4) (l : Fin 256) : Fin 1024 := ⟨g.val * 256 + l.val, by omega⟩
abbrev cx (g : Fin 4) (l : Fin 256) : Fin 14336 := ⟨g.val * 256 + l.val, by omega⟩
abbrev cz (g : Fin 4) (l : Fin 256) : Fin 14336 := ⟨1024 + (g.val * 256 + l.val), by omega⟩

section
variable (x0 : FVec Ideal S4096x14336 .bf16) (x1 : FVec Ideal S4x256x256 .f32) (x2 : FVec Ideal S1024 .f32) (x3 : FVec Ideal S4096x1024 .bf16)

/-- One column of a group's input. -/
def xcol (g : Fin 4) (l : Fin 256) (R : Fin 4096) : EReal := x0 (ix2 R (cx g l))
/-- The mean over the window's rows less the row itself. -/
def mix (R : Fin 4096) (g : Fin 4) (l : Fin 256) : EReal :=
  (∑ j ∈ Finset.range (width g), back (xcol x0 g l) j R.val) * icnt (width g) R.val - xcol x0 g l R
/-- The group's product with its matrix. -/
def ypre (R : Fin 4096) (g : Fin 4) (l : Fin 256) : EReal := ∑ k : Fin 256, mix x0 R g k * x1 (ix3 g k l)
/-- The incoming gradient through the gate. -/
def dyz (R : Fin 4096) (g : Fin 4) (l : Fin 256) : EReal := x3 (ix2 R (cg g l)) * (x0 (ix2 R (cz g l)) * sg (x0 (ix2 R (cz g l))))
/-- The gradient of the group's product. -/
def dyp (R : Fin 4096) (g : Fin 4) (l : Fin 256) : EReal := dyz x0 x3 R g l * x2 (ix1 (cg g l))
/-- The gradient of the mean less the row. -/
def dm (g : Fin 4) (k : Fin 256) (R : Fin 4096) : EReal := ∑ l : Fin 256, dyp x0 x2 x3 R g l * x1 (ix3 g k l)
/-- The same over the number of rows in the window. -/
def qc (g : Fin 4) (k : Fin 256) (R : Fin 4096) : EReal := dm x0 x1 x2 x3 g k R * icnt (width g) R.val
/-- The gradient of the input. -/
def gxa (R : Fin 4096) (g : Fin 4) (k : Fin 256) : EReal :=
  ∑ j ∈ Finset.range (width g), ext (qc x0 x1 x2 x3 g k) (R.val + j) - dm x0 x1 x2 x3 g k R
/-- The gradient of the gate. -/
def gza (R : Fin 4096) (g : Fin 4) (l : Fin 256) : EReal := x3 (ix2 R (cg g l)) * (ypre x0 x1 R g l * x2 (ix1 (cg g l)))
  * (sg (x0 (ix2 R (cz g l))) * (1 + x0 (ix2 R (cz g l)) * (1 - sg (x0 (ix2 R (cz g l))))))
/-- The gradient of the matrices. -/
def gw (g : Fin 4) (k l : Fin 256) : EReal := ∑ R : Fin 4096, mix x0 R g k * dyp x0 x2 x3 R g l
/-- The gradient of the scale. -/
def gps (g : Fin 4) (l : Fin 256) : EReal := ∑ R : Fin 4096, dyz x0 x3 R g l * ypre x0 x1 R g l

/-! ## Sums over a window of rows -/

/-- Two indices of three coordinates are equal where the coordinates are. -/
theorem idx3_ext {a b c : ℕ} {x y : (⟨3, ![a, b, c]⟩ : Shape).Idx} (h0 : (x 0).val = (y 0).val) (h1 : (x 1).val = (y 1).val) (h2 : (x 2).val = (y 2).val) : x = y :=
  funext fun i => Fin.ext (match i with | ⟨0, _⟩ => h0 | ⟨1, _⟩ => h1 | ⟨2, _⟩ => h2)

/-- A window's first row. -/
abbrev st (w : ℕ) (h : 0 < w) (t : Fin 4096) : Fin 4097 := ⟨t.val + 1 - w, by omega⟩

theorem isR_ext {f : Fin 4096 → EReal} (hf : ∀ R, IsR (f R)) (n : ℕ) : IsR (ext f n) := by
  unfold ext
  by_cases h : n < 4096
  · rw [dif_pos h]; exact hf _
  · rw [dif_neg h]; exact isR_zero

/-- A running sum less the running sum before the window is the window's sum. -/
theorem window_diff {f : Fin 4096 → EReal} (hf : ∀ R, IsR (f R)) (w R : ℕ) :
    (∑ k ∈ Finset.range (R + 1), ext f k) - ∑ k ∈ Finset.range (R + 1 - w), ext f k = ∑ j ∈ Finset.range w, back f j R := by
  obtain ⟨s, hs⟩ := isR_sum (Finset.range (R + 1 - w)) (ext f) fun k _ => isR_ext hf k
  have e : ∑ k ∈ Finset.range (R + 1), ext f k = ∑ k ∈ Finset.range (R + 1 - w), ext f k + ∑ j ∈ Finset.range w, back f j R := by
    rcases Nat.le_total w (R + 1) with h | h
    · conv_lhs => rw [show R + 1 = R + 1 - w + w by omega, Finset.sum_range_add]
      refine congrArg _ ?_
      rw [← Finset.sum_range_reflect]
      refine Finset.sum_congr rfl fun j hj => ?_
      have hj := Finset.mem_range.1 hj
      unfold back
      rw [if_neg (by omega)]
      exact congrArg _ (by omega)
    · rw [show R + 1 - w = 0 by omega, Finset.sum_range_zero, zero_add]
      obtain ⟨d, rfl⟩ : ∃ d, w = R + 1 + d := ⟨w - (R + 1), by omega⟩
      conv_rhs => rw [Finset.sum_range_add, Finset.sum_eq_zero (s := Finset.range d) (f := fun x => back f (R + 1 + x) R) (fun j _ => if_pos (by omega)), add_zero]
      rw [← Finset.sum_range_reflect]
      refine Finset.sum_congr rfl fun j hj => ?_
      have hj := Finset.mem_range.1 hj
      unfold back
      rw [if_neg (by omega)]
      exact congrArg _ (by omega)
  rw [e, hs, add_comm]
  generalize (∑ j ∈ Finset.range w, back f j R) = a
  induction a with
  | bot => rfl
  | top => rfl
  | coe r => rw [← EReal.coe_add, ← EReal.coe_sub, add_sub_cancel_right]

/-- A number's running sum up the rows of what each row gets and what later windows take away. -/
theorem ahead_sum {q : Fin 4096 → EReal} (hq : ∀ R, IsR (q R)) (w : ℕ) (hw : 0 < w) (R : Fin 4096) :
    (∑ k : Fin 4096, if R.val ≤ k.val then (∑ t : Fin 4096, if st w hw t = ⟨k.val + 1, by omega⟩ then -q t else 0) + q k else 0)
      = ∑ j ∈ Finset.range w, ext q (R.val + j) := by
  have e1 : ∀ k : Fin 4096, (if R.val ≤ k.val then (∑ t : Fin 4096, if st w hw t = ⟨k.val + 1, by omega⟩ then -q t else 0) + q k else 0)
      = (∑ t : Fin 4096, if R.val ≤ k.val ∧ t.val + 1 - w = k.val + 1 then -q t else 0) + if R.val ≤ k.val then q k else 0 := fun k => by
    by_cases h : R.val ≤ k.val
    · rw [if_pos h, if_pos h]
      exact congrArg (· + q k) (Finset.sum_congr rfl fun t _ => if_congr (by rw [Fin.ext_iff]; exact ⟨fun e => ⟨h, e⟩, fun e => e.2⟩) rfl rfl)
    · simp only [if_neg h, h, false_and, if_false, Finset.sum_const_zero, add_zero]
  rw [Finset.sum_congr rfl fun k _ => e1 k, Finset.sum_add_distrib, Finset.sum_comm, ← Finset.sum_add_distrib]
  have e2 : ∀ t : Fin 4096, (∑ k : Fin 4096, if R.val ≤ k.val ∧ t.val + 1 - w = k.val + 1 then -q t else 0) + (if R.val ≤ t.val then q t else 0)
      = if R.val ≤ t.val ∧ t.val < R.val + w then q t else 0 := fun t => by
    by_cases h : R.val + w ≤ t.val
    · rw [Finset.sum_eq_single (⟨t.val - w, by omega⟩ : Fin 4096) (fun k _ hk => if_neg (fun hh => hk (Fin.ext (by show k.val = t.val - w; omega))))
        (fun hh => absurd (Finset.mem_univ _) hh), if_pos ⟨by show R.val ≤ t.val - w; omega, by show t.val + 1 - w = t.val - w + 1; omega⟩, if_pos (by omega), if_neg (by omega)]
      obtain ⟨a, ha⟩ := hq t
      rw [ha, ← EReal.coe_neg, ← EReal.coe_add, neg_add_cancel]
      rfl
    · rw [Finset.sum_eq_zero (fun k _ => if_neg (by omega)), zero_add]
      by_cases h2 : R.val ≤ t.val
      · rw [if_pos h2, if_pos ⟨h2, by omega⟩]
      · rw [if_neg h2, if_neg (fun hh => h2 hh.1)]
  rw [Finset.sum_congr rfl fun t _ => e2 t]
  have e3 : ∀ t : Fin 4096, (if R.val ≤ t.val ∧ t.val < R.val + w then q t else 0) = (fun n => if R.val ≤ n ∧ n < R.val + w then ext q n else 0) t.val := fun t => by
    dsimp only
    rw [ext_of_lt q t.isLt]
  rw [Finset.sum_congr rfl fun t _ => e3 t, Fin.sum_univ_eq_sum_range (fun n => if R.val ≤ n ∧ n < R.val + w then ext q n else 0) 4096]
  have e4 : ∀ n, 4096 ≤ n → (if R.val ≤ n ∧ n < R.val + w then ext q n else 0) = 0 := fun n hn => by
    unfold ext
    rw [dif_neg (by omega), ite_self]
  have big : ∀ d, ∑ n ∈ Finset.range (4096 + d), (if R.val ≤ n ∧ n < R.val + w then ext q n else 0) = ∑ n ∈ Finset.range 4096, (if R.val ≤ n ∧ n < R.val + w then ext q n else 0) := fun d => by
    rw [Finset.sum_range_add, Finset.sum_eq_zero (s := Finset.range d) (fun n _ => e4 _ (by omega)), add_zero]
  rw [← big (R.val + w), show 4096 + (R.val + w) = R.val + (w + 4096) by omega, Finset.sum_range_add, Finset.sum_range_add,
    Finset.sum_eq_zero (s := Finset.range R.val) (fun n hn => if_neg (fun hh => by have := Finset.mem_range.1 hn; omega)),
    Finset.sum_eq_zero (s := Finset.range 4096) (fun n hn => if_neg (fun hh => by omega)), zero_add, add_zero]
  refine Finset.sum_congr rfl fun j hj => if_pos ⟨by omega, ?_⟩
  have := Finset.mem_range.1 hj
  omega

/-! ## The reference's stages -/

/-- The input's columns in groups. -/
theorem v4_eq (g : Fin 4) (l : Fin 256) (t : Fin 4096) : val_main_v4 (F := Ideal) x0 (ix3 t g l) = xcol x0 g l t := by
  unfold val_main_v4 val_main_v1 val_main_v0
  pointwise
  rfl

/-- The running sum. -/
theorem v6_eq (g : Fin 4) (l : Fin 256) (t : Fin 4096) : val_main_v6 (F := Ideal) x0 (ix3 t g l) = ∑ k ∈ Finset.range (t.val + 1), ext (xcol x0 g l) k := by
  unfold val_main_v6 val_main_call0_call0_v0 val_main_call0_call0_cst Host.reduceWindowAdd
  have e : (broadcastInDim S_ ![] bcast_S_S_ (constant (F := Ideal) S_ FTy.f32 0#32) (Shape.Idx.first h_S_) : EReal) = 0 := by
    show Ideal.ofBits .f32 0#32 = 0
    simp [Ideal.ofBits, Ideal.ieee]
  rw [e]
  refine (cumsum_apply (val_main_v4 (F := Ideal) x0) _ t g l).trans ?_
  have e3 : ∀ k : Fin 4096, (if k.val ≤ t.val then val_main_v4 (F := Ideal) x0 (ix3 k g l) else 0) = (fun n => if n ≤ t.val then ext (xcol x0 g l) n else 0) k.val := fun k => by
    dsimp only
    rw [ext_of_lt _ k.isLt, v4_eq]
  rw [Finset.sum_congr rfl fun k _ => e3 k, Fin.sum_univ_eq_sum_range (fun n => if n ≤ t.val then ext (xcol x0 g l) n else 0) 4096, ← Finset.sum_filter]
  refine Finset.sum_congr (Finset.ext fun n => ?_) fun _ _ => rfl
  rw [Finset.mem_filter, Finset.mem_range, Finset.mem_range]
  omega

/-- The running sum behind a row of zeros. -/
theorem v7_eq (g : Fin 4) (l : Fin 256) (n : Fin 4097) : val_main_v7 (F := Ideal) x0 (ix3 n g l) = ∑ k ∈ Finset.range n.val, ext (xcol x0 g l) k := by
  unfold val_main_v7 val_main_v5 val_main_cst
  pointwise
  by_cases h : n.val < 1
  · rw [dif_pos h, show n.val = 0 by omega, Finset.sum_range_zero]
  · rw [dif_neg h, v6_eq]
    exact congrArg (fun a => ∑ k ∈ Finset.range a, ext (xcol x0 g l) k) (by show n.val - 1 + 1 = n.val; omega)

/-! The windows of 2 rows. -/

theorem idx2_0 : ∀ t : Fin 4096, (val_main_v31 (F := Ideal) (ix2 t 0)).toInt = ((st 2 (by norm_num) t).val : ℤ) := by
  intro t
  unfold val_main_v31 val_main_v29 val_main_v26 val_main_v25 val_main_v24 val_main_v23 val_main_v22 val_main_v15 val_main_v14 val_main_v13 val_main_v12 val_main_v11 val_main_v10 val_main_v9 val_main_c val_main_c_1 val_main_c_2 val_main_c_4 val_main_c_5
  pointwise
  revert t
  decide +kernel
theorem idx2_1 (t : Fin 4096) : (val_main_v31 (F := Ideal) (ix2 t 1)).toInt = ((0 : Fin 4).val : ℤ) := by
  unfold val_main_v31 val_main_v30 val_main_v28 val_main_v27 val_main_c_6
  pointwise
  rfl
/-- The number of rows in the window. -/
theorem cnt2 (t : Fin 4096) : val_main_v19 (F := Ideal) (ix1 t) = (((min (t.val + 1) 2 : ℕ) : ℝ) : EReal) := by
  have h : ∀ t : Fin 4096, (val_main_v18 (F := Ideal) (ix1 t)).toInt = ((min (t.val + 1) 2 : ℕ) : ℤ) := by
    intro t
    unfold val_main_v18 val_main_v17 val_main_v16 val_main_v15 val_main_v14 val_main_v13 val_main_v12 val_main_v11 val_main_v10 val_main_v9 val_main_c val_main_c_1 val_main_c_2 val_main_c_3
    pointwise
    revert t
    decide +kernel
  unfold val_main_v19
  show (((val_main_v18 (F := Ideal) (ix1 t)).toInt : ℝ) : EReal) = _
  rw [h]
  norm_cast
/-- A number over the number of rows is the number times one over it. -/
theorem div2 (a : EReal) (t : Fin 4096) : Ideal.div a (val_main_v19 (F := Ideal) (ix1 t)) = a * icnt (width 0) t.val := by
  have h : 0 < min (t.val + 1) 2 := by omega
  rw [cnt2, Ideal.div_coe (by exact_mod_cast h.ne')]
  rfl
/-- The mean over the window. -/
theorem mean2 (h0 : ∀ i, IsR (x0 i)) (l : Fin 256) (t : Fin 4096) :
    val_main_v36 (F := Ideal) x0 (ix2 t l) = (∑ j ∈ Finset.range (width 0), back (xcol x0 0 l) j t.val) * icnt (width 0) t.val := by
  have e21 : val_main_v21 (F := Ideal) x0 (ix2 t l) = val_main_v7 (F := Ideal) x0 (ix3 ⟨1 + t.val, by omega⟩ 0 l) := by
    unfold val_main_v21 val_main_v20
    pointwise
  have e32 : val_main_v32 (F := Ideal) x0 (ix2 t l) = val_main_v7 (F := Ideal) x0 (ix3 (st 2 (by norm_num) t) 0 l) :=
    gather_apply _ _ _ idx2_0 idx2_1 _ t l
  unfold val_main_v36 val_main_v35 val_main_v34 val_main_v33
  pointwise
  rw [e21, e32, v7_eq, v7_eq, div2]
  refine congrArg (· * icnt (width 0) t.val) ?_
  rw [← window_diff (f := xcol x0 0 l) (fun R => h0 _) (width 0) t.val]
  exact congrArg (fun n => ∑ k ∈ Finset.range n, ext (xcol x0 0 l) k - _) (Nat.add_comm _ _)

/-! The windows of 4 rows. -/

theorem idx4_0 : ∀ t : Fin 4096, (val_main_v58 (F := Ideal) (ix2 t 0)).toInt = ((st 4 (by norm_num) t).val : ℤ) := by
  intro t
  unfold val_main_v58 val_main_v56 val_main_v53 val_main_v52 val_main_v51 val_main_v50 val_main_v49 val_main_v42 val_main_v41 val_main_v40 val_main_v39 val_main_v38 val_main_v37 val_main_v9 val_main_c_7 val_main_c_8 val_main_c_9 val_main_c_11 val_main_c_12
  pointwise
  revert t
  decide +kernel
theorem idx4_1 (t : Fin 4096) : (val_main_v58 (F := Ideal) (ix2 t 1)).toInt = ((1 : Fin 4).val : ℤ) := by
  unfold val_main_v58 val_main_v57 val_main_v55 val_main_v54 val_main_c_13
  pointwise
  rfl
/-- The number of rows in the window. -/
theorem cnt4 (t : Fin 4096) : val_main_v46 (F := Ideal) (ix1 t) = (((min (t.val + 1) 4 : ℕ) : ℝ) : EReal) := by
  have h : ∀ t : Fin 4096, (val_main_v45 (F := Ideal) (ix1 t)).toInt = ((min (t.val + 1) 4 : ℕ) : ℤ) := by
    intro t
    unfold val_main_v45 val_main_v44 val_main_v43 val_main_v42 val_main_v41 val_main_v40 val_main_v39 val_main_v38 val_main_v37 val_main_v9 val_main_c_7 val_main_c_8 val_main_c_9 val_main_c_10
    pointwise
    revert t
    decide +kernel
  unfold val_main_v46
  show (((val_main_v45 (F := Ideal) (ix1 t)).toInt : ℝ) : EReal) = _
  rw [h]
  norm_cast
/-- A number over the number of rows is the number times one over it. -/
theorem div4 (a : EReal) (t : Fin 4096) : Ideal.div a (val_main_v46 (F := Ideal) (ix1 t)) = a * icnt (width 1) t.val := by
  have h : 0 < min (t.val + 1) 4 := by omega
  rw [cnt4, Ideal.div_coe (by exact_mod_cast h.ne')]
  rfl
/-- The mean over the window. -/
theorem mean4 (h0 : ∀ i, IsR (x0 i)) (l : Fin 256) (t : Fin 4096) :
    val_main_v63 (F := Ideal) x0 (ix2 t l) = (∑ j ∈ Finset.range (width 1), back (xcol x0 1 l) j t.val) * icnt (width 1) t.val := by
  have e21 : val_main_v48 (F := Ideal) x0 (ix2 t l) = val_main_v7 (F := Ideal) x0 (ix3 ⟨1 + t.val, by omega⟩ 1 l) := by
    unfold val_main_v48 val_main_v47
    pointwise
  have e32 : val_main_v59 (F := Ideal) x0 (ix2 t l) = val_main_v7 (F := Ideal) x0 (ix3 (st 4 (by norm_num) t) 1 l) :=
    gather_apply _ _ _ idx4_0 idx4_1 _ t l
  unfold val_main_v63 val_main_v62 val_main_v61 val_main_v60
  pointwise
  rw [e21, e32, v7_eq, v7_eq, div4]
  refine congrArg (· * icnt (width 1) t.val) ?_
  rw [← window_diff (f := xcol x0 1 l) (fun R => h0 _) (width 1) t.val]
  exact congrArg (fun n => ∑ k ∈ Finset.range n, ext (xcol x0 1 l) k - _) (Nat.add_comm _ _)

/-! The windows of 8 rows. -/

theorem idx8_0 : ∀ t : Fin 4096, (val_main_v85 (F := Ideal) (ix2 t 0)).toInt = ((st 8 (by norm_num) t).val : ℤ) := by
  intro t
  unfold val_main_v85 val_main_v83 val_main_v80 val_main_v79 val_main_v78 val_main_v77 val_main_v76 val_main_v69 val_main_v68 val_main_v67 val_main_v66 val_main_v65 val_main_v64 val_main_v9 val_main_c_14 val_main_c_15 val_main_c_16 val_main_c_18 val_main_c_19
  pointwise
  revert t
  decide +kernel
theorem idx8_1 (t : Fin 4096) : (val_main_v85 (F := Ideal) (ix2 t 1)).toInt = ((2 : Fin 4).val : ℤ) := by
  unfold val_main_v85 val_main_v84 val_main_v82 val_main_v81 val_main_c_20
  pointwise
  rfl
/-- The number of rows in the window. -/
theorem cnt8 (t : Fin 4096) : val_main_v73 (F := Ideal) (ix1 t) = (((min (t.val + 1) 8 : ℕ) : ℝ) : EReal) := by
  have h : ∀ t : Fin 4096, (val_main_v72 (F := Ideal) (ix1 t)).toInt = ((min (t.val + 1) 8 : ℕ) : ℤ) := by
    intro t
    unfold val_main_v72 val_main_v71 val_main_v70 val_main_v69 val_main_v68 val_main_v67 val_main_v66 val_main_v65 val_main_v64 val_main_v9 val_main_c_14 val_main_c_15 val_main_c_16 val_main_c_17
    pointwise
    revert t
    decide +kernel
  unfold val_main_v73
  show (((val_main_v72 (F := Ideal) (ix1 t)).toInt : ℝ) : EReal) = _
  rw [h]
  norm_cast
/-- A number over the number of rows is the number times one over it. -/
theorem div8 (a : EReal) (t : Fin 4096) : Ideal.div a (val_main_v73 (F := Ideal) (ix1 t)) = a * icnt (width 2) t.val := by
  have h : 0 < min (t.val + 1) 8 := by omega
  rw [cnt8, Ideal.div_coe (by exact_mod_cast h.ne')]
  rfl
/-- The mean over the window. -/
theorem mean8 (h0 : ∀ i, IsR (x0 i)) (l : Fin 256) (t : Fin 4096) :
    val_main_v90 (F := Ideal) x0 (ix2 t l) = (∑ j ∈ Finset.range (width 2), back (xcol x0 2 l) j t.val) * icnt (width 2) t.val := by
  have e21 : val_main_v75 (F := Ideal) x0 (ix2 t l) = val_main_v7 (F := Ideal) x0 (ix3 ⟨1 + t.val, by omega⟩ 2 l) := by
    unfold val_main_v75 val_main_v74
    pointwise
  have e32 : val_main_v86 (F := Ideal) x0 (ix2 t l) = val_main_v7 (F := Ideal) x0 (ix3 (st 8 (by norm_num) t) 2 l) :=
    gather_apply _ _ _ idx8_0 idx8_1 _ t l
  unfold val_main_v90 val_main_v89 val_main_v88 val_main_v87
  pointwise
  rw [e21, e32, v7_eq, v7_eq, div8]
  refine congrArg (· * icnt (width 2) t.val) ?_
  rw [← window_diff (f := xcol x0 2 l) (fun R => h0 _) (width 2) t.val]
  exact congrArg (fun n => ∑ k ∈ Finset.range n, ext (xcol x0 2 l) k - _) (Nat.add_comm _ _)

/-! The windows of 16 rows. -/

theorem idx16_0 : ∀ t : Fin 4096, (val_main_v112 (F := Ideal) (ix2 t 0)).toInt = ((st 16 (by norm_num) t).val : ℤ) := by
  intro t
  unfold val_main_v112 val_main_v110 val_main_v107 val_main_v106 val_main_v105 val_main_v104 val_main_v103 val_main_v96 val_main_v95 val_main_v94 val_main_v93 val_main_v92 val_main_v91 val_main_v9 val_main_c_21 val_main_c_22 val_main_c_23 val_main_c_25 val_main_c_26
  pointwise
  revert t
  decide +kernel
theorem idx16_1 (t : Fin 4096) : (val_main_v112 (F := Ideal) (ix2 t 1)).toInt = ((3 : Fin 4).val : ℤ) := by
  unfold val_main_v112 val_main_v111 val_main_v109 val_main_v108 val_main_c_27
  pointwise
  rfl
/-- The number of rows in the window. -/
theorem cnt16 (t : Fin 4096) : val_main_v100 (F := Ideal) (ix1 t) = (((min (t.val + 1) 16 : ℕ) : ℝ) : EReal) := by
  have h : ∀ t : Fin 4096, (val_main_v99 (F := Ideal) (ix1 t)).toInt = ((min (t.val + 1) 16 : ℕ) : ℤ) := by
    intro t
    unfold val_main_v99 val_main_v98 val_main_v97 val_main_v96 val_main_v95 val_main_v94 val_main_v93 val_main_v92 val_main_v91 val_main_v9 val_main_c_21 val_main_c_22 val_main_c_23 val_main_c_24
    pointwise
    revert t
    decide +kernel
  unfold val_main_v100
  show (((val_main_v99 (F := Ideal) (ix1 t)).toInt : ℝ) : EReal) = _
  rw [h]
  norm_cast
/-- A number over the number of rows is the number times one over it. -/
theorem div16 (a : EReal) (t : Fin 4096) : Ideal.div a (val_main_v100 (F := Ideal) (ix1 t)) = a * icnt (width 3) t.val := by
  have h : 0 < min (t.val + 1) 16 := by omega
  rw [cnt16, Ideal.div_coe (by exact_mod_cast h.ne')]
  rfl
/-- The mean over the window. -/
theorem mean16 (h0 : ∀ i, IsR (x0 i)) (l : Fin 256) (t : Fin 4096) :
    val_main_v117 (F := Ideal) x0 (ix2 t l) = (∑ j ∈ Finset.range (width 3), back (xcol x0 3 l) j t.val) * icnt (width 3) t.val := by
  have e21 : val_main_v102 (F := Ideal) x0 (ix2 t l) = val_main_v7 (F := Ideal) x0 (ix3 ⟨1 + t.val, by omega⟩ 3 l) := by
    unfold val_main_v102 val_main_v101
    pointwise
  have e32 : val_main_v113 (F := Ideal) x0 (ix2 t l) = val_main_v7 (F := Ideal) x0 (ix3 (st 16 (by norm_num) t) 3 l) :=
    gather_apply _ _ _ idx16_0 idx16_1 _ t l
  unfold val_main_v117 val_main_v116 val_main_v115 val_main_v114
  pointwise
  rw [e21, e32, v7_eq, v7_eq, div16]
  refine congrArg (· * icnt (width 3) t.val) ?_
  rw [← window_diff (f := xcol x0 3 l) (fun R => h0 _) (width 3) t.val]
  exact congrArg (fun n => ∑ k ∈ Finset.range n, ext (xcol x0 3 l) k - _) (Nat.add_comm _ _)

/-- The mean over each group's window less the row itself. -/
theorem v123_eq (h0 : ∀ i, IsR (x0 i)) (g : Fin 4) (l : Fin 256) (t : Fin 4096) : val_main_v123 (F := Ideal) x0 (ix3 t g l) = mix x0 t g l := by
  unfold val_main_v123 val_main_v122 val_main_v121 val_main_v120 val_main_v119 val_main_v118
  pointwise
  rw [v4_eq, mean2 x0 h0, mean4 x0 h0, mean8 x0 h0, mean16 x0 h0]
  unfold mix
  fin_cases g <;> rfl

/-- The product with the group's matrix. -/
theorem v125_eq (h0 : ∀ i, IsR (x0 i)) (g : Fin 4) (l : Fin 256) (t : Fin 4096) : val_main_v125 (F := Ideal) x0 x1 (ix3 t g l) = ypre x0 x1 t g l := by
  unfold val_main_v125 val_main_v124
  pointwise
  simp only [v123_eq x0 h0]
  exact Finset.sum_congr rfl fun k _ => mul_comm _ _
theorem v126_eq (h0 : ∀ i, IsR (x0 i)) (g : Fin 4) (l : Fin 256) (t : Fin 4096) : val_main_v126 (F := Ideal) x0 x1 (ix2 t (cg g l)) = ypre x0 x1 t g l := by
  unfold val_main_v126
  pointwise
  rw [← v125_eq x0 x1 h0]
  refine congrArg (val_main_v125 (F := Ideal) x0 x1) ?_
  refine idx3_ext ?_ ?_ ?_
  · rfl
  · show (g.val * 256 + l.val) / 256 = g.val
    omega
  · show (g.val * 256 + l.val) % 256 = l.val
    omega
/-- The incoming gradient through the gate. -/
theorem v134_eq (g : Fin 4) (l : Fin 256) (t : Fin 4096) : val_main_v134 (F := Ideal) x0 x3 (ix2 t (cg g l)) = dyz x0 x3 t g l := by
  unfold val_main_v134 val_main_v132 val_main_v130_0 val_main_v130_2 val_main_call1_v4 val_main_call1_v3 val_main_call1_v2 val_main_call1_v1 val_main_call1_v0 val_main_call1_cst val_main_call1_cst_0 val_main_v3 val_main_v2
  pointwise
  unfold dyz sg
  rw [zero_sub]
/-- The gradient of the product. -/
theorem v142_eq (g : Fin 4) (l : Fin 256) (t : Fin 4096) : val_main_v142 (F := Ideal) x0 x2 x3 (ix3 t g l) = dyp x0 x2 x3 t g l := by
  unfold val_main_v142 val_main_v140 val_main_v139 val_main_v127
  pointwise
  rw [v134_eq]
  rfl
/-- The gradient of the mean less the row. -/
theorem v145_eq (g : Fin 4) (k : Fin 256) (t : Fin 4096) : val_main_v145 (F := Ideal) x0 x1 x2 x3 (ix3 t g k) = dm x0 x1 x2 x3 g k t := by
  unfold val_main_v145 val_main_v144 val_main_v143
  pointwise
  simp only [v142_eq]
  rfl
/-- The gradient of the matrices. -/
theorem v147_eq (h0 : ∀ i, IsR (x0 i)) (g : Fin 4) (k l : Fin 256) : val_main_v147 (F := Ideal) x0 x2 x3 (ix3 g k l) = gw x0 x2 x3 g k l := by
  unfold val_main_v147 val_main_v146 val_main_v143
  pointwise
  simp only [v142_eq, v123_eq x0 h0]
  exact Finset.sum_congr rfl fun k _ => mul_comm _ _
/-- The gradient of the scale. -/
theorem v199_eq (h0 : ∀ i, IsR (x0 i)) (g : Fin 4) (l : Fin 256) : val_main_v199 (F := Ideal) x0 x1 x3 (ix2 0 (cg g l)) = gps x0 x1 x3 g l := by
  unfold val_main_v199 val_main_v141 val_main_v138 val_main_v137 val_main_v136 val_main_cst_28 val_main_cst_29
  pointwise
  simp only [Fin.sum_univ_one, v134_eq, v126_eq x0 x1 h0]
  exact Finset.sum_congr rfl fun k _ => mul_comm _ _
/-- The gradient of the gate, in the two summands of the product rule. -/
theorem v198_eq (h0 : ∀ i, IsR (x0 i)) (g : Fin 4) (l : Fin 256) (t : Fin 4096) : val_main_v198 (F := Ideal) x0 x1 x2 x3 (ix2 t (cg g l)) =
    (ypre x0 x1 t g l * x2 (ix1 (cg g l)) * x3 (ix2 t (cg g l)) * sg (x0 (ix2 t (cz g l)))
      + x0 (ix2 t (cz g l)) * (ypre x0 x1 t g l * x2 (ix1 (cg g l)) * x3 (ix2 t (cg g l))) * (sg (x0 (ix2 t (cz g l))) * (1 - sg (x0 (ix2 t (cz g l))))) : EReal) := by
  unfold val_main_v198 val_main_v135 val_main_call2_v2 val_main_call2_v1 val_main_call2_v0 val_main_v133 val_main_v132 val_main_v130_1 val_main_call1_v7 val_main_call1_v6 val_main_v130_2 val_main_call1_v4 val_main_call1_v3 val_main_call1_v2 val_main_call1_v1 val_main_call1_v0 val_main_call1_cst val_main_call1_cst_0 val_main_call1_cst_1 val_main_v129 val_main_v128 val_main_v127 val_main_v3 val_main_v2
  pointwise
  rw [v126_eq x0 x1 h0]
  unfold sg
  rw [zero_sub]

/-- The gradient over the number of rows, windows of 2. -/
theorem v184_eq (k : Fin 256) (t : Fin 4096) : val_main_v184 (F := Ideal) x0 x1 x2 x3 (ix2 t k) = qc x0 x1 x2 x3 0 k t := by
  unfold val_main_v184 val_main_v183 val_main_v34 val_main_v150 val_main_v149
  pointwise
  rw [v145_eq, div2]
  rfl
/-- What each row takes away before its window. -/
theorem v187_eq (n : Fin 4097) (k : Fin 256) : val_main_v187 (F := Ideal) x0 x1 x2 x3 (ix3 n 0 k) =
    ∑ t : Fin 4096, if st 2 (by norm_num) t = n then -qc x0 x1 x2 x3 0 k t else 0 := by
  unfold val_main_v187
  refine (scatter_apply (val_main_v31 (F := Ideal)) _ 0 idx2_0 idx2_1 (val_main_v186 (F := Ideal)) (val_main_v185 (F := Ideal) x0 x1 x2 x3) n k).trans ?_
  have e : val_main_v186 (F := Ideal) (ix3 n 0 k) = (0 : EReal) := by
    unfold val_main_v186 val_main_cst_36
    pointwise
  rw [e, zero_add]
  refine Finset.sum_congr rfl fun t _ => ?_
  unfold val_main_v185
  pointwise
  rw [v184_eq]
theorem v187_other (n : Fin 4097) (g' : Fin 4) (hg : g' ≠ 0) (k : Fin 256) : val_main_v187 (F := Ideal) x0 x1 x2 x3 (ix3 n g' k) = 0 := by
  unfold val_main_v187
  refine (scatter_other (val_main_v31 (F := Ideal)) _ 0 idx2_0 idx2_1 (val_main_v186 (F := Ideal)) (val_main_v185 (F := Ideal) x0 x1 x2 x3) n g' hg k).trans ?_
  unfold val_main_v186 val_main_cst_36
  pointwise
/-- What each row gives at its window's end. -/
theorem v190_eq (t : Fin 4096) (k : Fin 256) : val_main_v190 (F := Ideal) x0 x1 x2 x3 (ix3 ⟨t.val + 1, by omega⟩ 0 k) = qc x0 x1 x2 x3 0 k t := by
  unfold val_main_v190 val_main_v189 val_main_cst_37
  pointwise
  exact (dif_pos (show t.val + 1 - 1 < 4096 by omega)).trans (v184_eq x0 x1 x2 x3 k t)
theorem v190_other (n : Fin 4097) (g' : Fin 4) (hg : g' ≠ 0) (k : Fin 256) : val_main_v190 (F := Ideal) x0 x1 x2 x3 (ix3 n g' k) = 0 := by
  unfold val_main_v190 val_main_v189 val_main_cst_37
  pointwise
  have hv : g'.val ≠ 0 := fun h => hg (Fin.ext h)
  exact dif_neg (by omega)

/-- The gradient over the number of rows, windows of 4. -/
theorem v175_eq (k : Fin 256) (t : Fin 4096) : val_main_v175 (F := Ideal) x0 x1 x2 x3 (ix2 t k) = qc x0 x1 x2 x3 1 k t := by
  unfold val_main_v175 val_main_v174 val_main_v61 val_main_v152 val_main_v151
  pointwise
  rw [v145_eq, div4]
  rfl
/-- What each row takes away before its window. -/
theorem v178_eq (n : Fin 4097) (k : Fin 256) : val_main_v178 (F := Ideal) x0 x1 x2 x3 (ix3 n 1 k) =
    ∑ t : Fin 4096, if st 4 (by norm_num) t = n then -qc x0 x1 x2 x3 1 k t else 0 := by
  unfold val_main_v178
  refine (scatter_apply (val_main_v58 (F := Ideal)) _ 1 idx4_0 idx4_1 (val_main_v177 (F := Ideal)) (val_main_v176 (F := Ideal) x0 x1 x2 x3) n k).trans ?_
  have e : val_main_v177 (F := Ideal) (ix3 n 1 k) = (0 : EReal) := by
    unfold val_main_v177 val_main_cst_34
    pointwise
  rw [e, zero_add]
  refine Finset.sum_congr rfl fun t _ => ?_
  unfold val_main_v176
  pointwise
  rw [v175_eq]
theorem v178_other (n : Fin 4097) (g' : Fin 4) (hg : g' ≠ 1) (k : Fin 256) : val_main_v178 (F := Ideal) x0 x1 x2 x3 (ix3 n g' k) = 0 := by
  unfold val_main_v178
  refine (scatter_other (val_main_v58 (F := Ideal)) _ 1 idx4_0 idx4_1 (val_main_v177 (F := Ideal)) (val_main_v176 (F := Ideal) x0 x1 x2 x3) n g' hg k).trans ?_
  unfold val_main_v177 val_main_cst_34
  pointwise
/-- What each row gives at its window's end. -/
theorem v181_eq (t : Fin 4096) (k : Fin 256) : val_main_v181 (F := Ideal) x0 x1 x2 x3 (ix3 ⟨t.val + 1, by omega⟩ 1 k) = qc x0 x1 x2 x3 1 k t := by
  unfold val_main_v181 val_main_v180 val_main_cst_35
  pointwise
  exact (dif_pos (show t.val + 1 - 1 < 4096 by omega)).trans (v175_eq x0 x1 x2 x3 k t)
theorem v181_other (n : Fin 4097) (g' : Fin 4) (hg : g' ≠ 1) (k : Fin 256) : val_main_v181 (F := Ideal) x0 x1 x2 x3 (ix3 n g' k) = 0 := by
  unfold val_main_v181 val_main_v180 val_main_cst_35
  pointwise
  have hv : g'.val ≠ 1 := fun h => hg (Fin.ext h)
  exact dif_neg (by omega)

/-- The gradient over the number of rows, windows of 8. -/
theorem v166_eq (k : Fin 256) (t : Fin 4096) : val_main_v166 (F := Ideal) x0 x1 x2 x3 (ix2 t k) = qc x0 x1 x2 x3 2 k t := by
  unfold val_main_v166 val_main_v165 val_main_v88 val_main_v154 val_main_v153
  pointwise
  rw [v145_eq, div8]
  rfl
/-- What each row takes away before its window. -/
theorem v169_eq (n : Fin 4097) (k : Fin 256) : val_main_v169 (F := Ideal) x0 x1 x2 x3 (ix3 n 2 k) =
    ∑ t : Fin 4096, if st 8 (by norm_num) t = n then -qc x0 x1 x2 x3 2 k t else 0 := by
  unfold val_main_v169
  refine (scatter_apply (val_main_v85 (F := Ideal)) _ 2 idx8_0 idx8_1 (val_main_v168 (F := Ideal)) (val_main_v167 (F := Ideal) x0 x1 x2 x3) n k).trans ?_
  have e : val_main_v168 (F := Ideal) (ix3 n 2 k) = (0 : EReal) := by
    unfold val_main_v168 val_main_cst_32
    pointwise
  rw [e, zero_add]
  refine Finset.sum_congr rfl fun t _ => ?_
  unfold val_main_v167
  pointwise
  rw [v166_eq]
theorem v169_other (n : Fin 4097) (g' : Fin 4) (hg : g' ≠ 2) (k : Fin 256) : val_main_v169 (F := Ideal) x0 x1 x2 x3 (ix3 n g' k) = 0 := by
  unfold val_main_v169
  refine (scatter_other (val_main_v85 (F := Ideal)) _ 2 idx8_0 idx8_1 (val_main_v168 (F := Ideal)) (val_main_v167 (F := Ideal) x0 x1 x2 x3) n g' hg k).trans ?_
  unfold val_main_v168 val_main_cst_32
  pointwise
/-- What each row gives at its window's end. -/
theorem v172_eq (t : Fin 4096) (k : Fin 256) : val_main_v172 (F := Ideal) x0 x1 x2 x3 (ix3 ⟨t.val + 1, by omega⟩ 2 k) = qc x0 x1 x2 x3 2 k t := by
  unfold val_main_v172 val_main_v171 val_main_cst_33
  pointwise
  exact (dif_pos (show t.val + 1 - 1 < 4096 by omega)).trans (v166_eq x0 x1 x2 x3 k t)
theorem v172_other (n : Fin 4097) (g' : Fin 4) (hg : g' ≠ 2) (k : Fin 256) : val_main_v172 (F := Ideal) x0 x1 x2 x3 (ix3 n g' k) = 0 := by
  unfold val_main_v172 val_main_v171 val_main_cst_33
  pointwise
  have hv : g'.val ≠ 2 := fun h => hg (Fin.ext h)
  exact dif_neg (by omega)

/-- The gradient over the number of rows, windows of 16. -/
theorem v158_eq (k : Fin 256) (t : Fin 4096) : val_main_v158 (F := Ideal) x0 x1 x2 x3 (ix2 t k) = qc x0 x1 x2 x3 3 k t := by
  unfold val_main_v158 val_main_v157 val_main_v115 val_main_v156 val_main_v155
  pointwise
  rw [v145_eq, div16]
  rfl
/-- What each row takes away before its window. -/
theorem v161_eq (n : Fin 4097) (k : Fin 256) : val_main_v161 (F := Ideal) x0 x1 x2 x3 (ix3 n 3 k) =
    ∑ t : Fin 4096, if st 16 (by norm_num) t = n then -qc x0 x1 x2 x3 3 k t else 0 := by
  unfold val_main_v161
  refine (scatter_apply (val_main_v112 (F := Ideal)) _ 3 idx16_0 idx16_1 (val_main_v160 (F := Ideal)) (val_main_v159 (F := Ideal) x0 x1 x2 x3) n k).trans ?_
  have e : val_main_v160 (F := Ideal) (ix3 n 3 k) = (0 : EReal) := by
    unfold val_main_v160 val_main_cst_30
    pointwise
  rw [e, zero_add]
  refine Finset.sum_congr rfl fun t _ => ?_
  unfold val_main_v159
  pointwise
  rw [v158_eq]
theorem v161_other (n : Fin 4097) (g' : Fin 4) (hg : g' ≠ 3) (k : Fin 256) : val_main_v161 (F := Ideal) x0 x1 x2 x3 (ix3 n g' k) = 0 := by
  unfold val_main_v161
  refine (scatter_other (val_main_v112 (F := Ideal)) _ 3 idx16_0 idx16_1 (val_main_v160 (F := Ideal)) (val_main_v159 (F := Ideal) x0 x1 x2 x3) n g' hg k).trans ?_
  unfold val_main_v160 val_main_cst_30
  pointwise
/-- What each row gives at its window's end. -/
theorem v163_eq (t : Fin 4096) (k : Fin 256) : val_main_v163 (F := Ideal) x0 x1 x2 x3 (ix3 ⟨t.val + 1, by omega⟩ 3 k) = qc x0 x1 x2 x3 3 k t := by
  unfold val_main_v163 val_main_v162 val_main_cst_31
  pointwise
  exact (dif_pos (show t.val + 1 - 1 < 4096 by omega)).trans (v158_eq x0 x1 x2 x3 k t)
theorem v163_other (n : Fin 4097) (g' : Fin 4) (hg : g' ≠ 3) (k : Fin 256) : val_main_v163 (F := Ideal) x0 x1 x2 x3 (ix3 n g' k) = 0 := by
  unfold val_main_v163 val_main_v162 val_main_cst_31
  pointwise
  have hv : g'.val ≠ 3 := fun h => hg (Fin.ext h)
  exact dif_neg (by omega)

/-- What each row gives and takes away, all groups. -/
theorem v191_eq (t : Fin 4096) (g : Fin 4) (k : Fin 256) : val_main_v191 (F := Ideal) x0 x1 x2 x3 (ix3 ⟨t.val + 1, by omega⟩ g k) =
    (∑ u : Fin 4096, if st (width g) (by unfold width; positivity) u = ⟨t.val + 1, by omega⟩ then -qc x0 x1 x2 x3 g k u else 0) + qc x0 x1 x2 x3 g k t := by
  unfold val_main_v191 val_main_v188 val_main_v182 val_main_v179 val_main_v173 val_main_v170 val_main_v164
  pointwise
  fin_cases g
  · refine (show _ = _ from ?_ : (val_main_v161 (F := Ideal) x0 x1 x2 x3 (ix3 ⟨t.val + 1, by omega⟩ 0 k) + val_main_v163 (F := Ideal) x0 x1 x2 x3 (ix3 ⟨t.val + 1, by omega⟩ 0 k)
      + val_main_v169 (F := Ideal) x0 x1 x2 x3 (ix3 ⟨t.val + 1, by omega⟩ 0 k) + val_main_v172 (F := Ideal) x0 x1 x2 x3 (ix3 ⟨t.val + 1, by omega⟩ 0 k)
      + val_main_v178 (F := Ideal) x0 x1 x2 x3 (ix3 ⟨t.val + 1, by omega⟩ 0 k) + val_main_v181 (F := Ideal) x0 x1 x2 x3 (ix3 ⟨t.val + 1, by omega⟩ 0 k)
      + val_main_v187 (F := Ideal) x0 x1 x2 x3 (ix3 ⟨t.val + 1, by omega⟩ 0 k) + val_main_v190 (F := Ideal) x0 x1 x2 x3 (ix3 ⟨t.val + 1, by omega⟩ 0 k) : EReal) = _)
    rw [v161_other x0 x1 x2 x3 _ 0 (by decide), v163_other x0 x1 x2 x3 _ 0 (by decide), v169_other x0 x1 x2 x3 _ 0 (by decide), v172_other x0 x1 x2 x3 _ 0 (by decide), v178_other x0 x1 x2 x3 _ 0 (by decide), v181_other x0 x1 x2 x3 _ 0 (by decide), v187_eq, v190_eq]
    simp only [zero_add, add_zero]
    rfl
  · refine (show _ = _ from ?_ : (val_main_v161 (F := Ideal) x0 x1 x2 x3 (ix3 ⟨t.val + 1, by omega⟩ 1 k) + val_main_v163 (F := Ideal) x0 x1 x2 x3 (ix3 ⟨t.val + 1, by omega⟩ 1 k)
      + val_main_v169 (F := Ideal) x0 x1 x2 x3 (ix3 ⟨t.val + 1, by omega⟩ 1 k) + val_main_v172 (F := Ideal) x0 x1 x2 x3 (ix3 ⟨t.val + 1, by omega⟩ 1 k)
      + val_main_v178 (F := Ideal) x0 x1 x2 x3 (ix3 ⟨t.val + 1, by omega⟩ 1 k) + val_main_v181 (F := Ideal) x0 x1 x2 x3 (ix3 ⟨t.val + 1, by omega⟩ 1 k)
      + val_main_v187 (F := Ideal) x0 x1 x2 x3 (ix3 ⟨t.val + 1, by omega⟩ 1 k) + val_main_v190 (F := Ideal) x0 x1 x2 x3 (ix3 ⟨t.val + 1, by omega⟩ 1 k) : EReal) = _)
    rw [v161_other x0 x1 x2 x3 _ 1 (by decide), v163_other x0 x1 x2 x3 _ 1 (by decide), v169_other x0 x1 x2 x3 _ 1 (by decide), v172_other x0 x1 x2 x3 _ 1 (by decide), v178_eq, v181_eq, v187_other x0 x1 x2 x3 _ 1 (by decide), v190_other x0 x1 x2 x3 _ 1 (by decide)]
    simp only [zero_add, add_zero]
    rfl
  · refine (show _ = _ from ?_ : (val_main_v161 (F := Ideal) x0 x1 x2 x3 (ix3 ⟨t.val + 1, by omega⟩ 2 k) + val_main_v163 (F := Ideal) x0 x1 x2 x3 (ix3 ⟨t.val + 1, by omega⟩ 2 k)
      + val_main_v169 (F := Ideal) x0 x1 x2 x3 (ix3 ⟨t.val + 1, by omega⟩ 2 k) + val_main_v172 (F := Ideal) x0 x1 x2 x3 (ix3 ⟨t.val + 1, by omega⟩ 2 k)
      + val_main_v178 (F := Ideal) x0 x1 x2 x3 (ix3 ⟨t.val + 1, by omega⟩ 2 k) + val_main_v181 (F := Ideal) x0 x1 x2 x3 (ix3 ⟨t.val + 1, by omega⟩ 2 k)
      + val_main_v187 (F := Ideal) x0 x1 x2 x3 (ix3 ⟨t.val + 1, by omega⟩ 2 k) + val_main_v190 (F := Ideal) x0 x1 x2 x3 (ix3 ⟨t.val + 1, by omega⟩ 2 k) : EReal) = _)
    rw [v161_other x0 x1 x2 x3 _ 2 (by decide), v163_other x0 x1 x2 x3 _ 2 (by decide), v169_eq, v172_eq, v178_other x0 x1 x2 x3 _ 2 (by decide), v181_other x0 x1 x2 x3 _ 2 (by decide), v187_other x0 x1 x2 x3 _ 2 (by decide), v190_other x0 x1 x2 x3 _ 2 (by decide)]
    simp only [zero_add, add_zero]
    rfl
  · refine (show _ = _ from ?_ : (val_main_v161 (F := Ideal) x0 x1 x2 x3 (ix3 ⟨t.val + 1, by omega⟩ 3 k) + val_main_v163 (F := Ideal) x0 x1 x2 x3 (ix3 ⟨t.val + 1, by omega⟩ 3 k)
      + val_main_v169 (F := Ideal) x0 x1 x2 x3 (ix3 ⟨t.val + 1, by omega⟩ 3 k) + val_main_v172 (F := Ideal) x0 x1 x2 x3 (ix3 ⟨t.val + 1, by omega⟩ 3 k)
      + val_main_v178 (F := Ideal) x0 x1 x2 x3 (ix3 ⟨t.val + 1, by omega⟩ 3 k) + val_main_v181 (F := Ideal) x0 x1 x2 x3 (ix3 ⟨t.val + 1, by omega⟩ 3 k)
      + val_main_v187 (F := Ideal) x0 x1 x2 x3 (ix3 ⟨t.val + 1, by omega⟩ 3 k) + val_main_v190 (F := Ideal) x0 x1 x2 x3 (ix3 ⟨t.val + 1, by omega⟩ 3 k) : EReal) = _)
    rw [v161_eq, v163_eq, v169_other x0 x1 x2 x3 _ 3 (by decide), v172_other x0 x1 x2 x3 _ 3 (by decide), v178_other x0 x1 x2 x3 _ 3 (by decide), v181_other x0 x1 x2 x3 _ 3 (by decide), v187_other x0 x1 x2 x3 _ 3 (by decide), v190_other x0 x1 x2 x3 _ 3 (by decide)]
    simp only [zero_add, add_zero]
    rfl

/-- The gradient of the input. -/
theorem v195_eq (h : ∀ g k R, IsR (dm x0 x1 x2 x3 g k R)) (t : Fin 4096) (g : Fin 4) (k : Fin 256) : val_main_v195 (F := Ideal) x0 x1 x2 x3 (ix3 t g k) = gxa x0 x1 x2 x3 t g k := by
  have e194 : val_main_v194 (F := Ideal) x0 x1 x2 x3 (ix3 t g k) = ∑ j ∈ Finset.range (width g), ext (qc x0 x1 x2 x3 g k) (t.val + j) := by
    unfold val_main_v194 val_main_call3_call0_v0 val_main_call3_call0_cst Host.reduceWindowAdd
    have e : (broadcastInDim S_ ![] bcast_S_S_ (constant (F := Ideal) S_ FTy.f32 0#32) (Shape.Idx.first h_S_) : EReal) = 0 := by
      show Ideal.ofBits .f32 0#32 = 0
      simp [Ideal.ofBits, Ideal.ieee]
    rw [e]
    refine (revsum_apply (val_main_v193 (F := Ideal) x0 x1 x2 x3) _ t g k).trans ?_
    rw [← ahead_sum (q := qc x0 x1 x2 x3 g k) (fun R => (h g k R).mul (isR_coe _)) (width g) (by unfold width; positivity) t]
    refine Finset.sum_congr rfl fun u _ => ?_
    have e193 : val_main_v193 (F := Ideal) x0 x1 x2 x3 (ix3 u g k) = val_main_v191 (F := Ideal) x0 x1 x2 x3 (ix3 ⟨u.val + 1, by omega⟩ g k) := by
      unfold val_main_v193
      pointwise
      exact congrArg (fun n => val_main_v191 (F := Ideal) x0 x1 x2 x3 (ix3 n g k)) (Fin.ext (Nat.add_comm _ _))
    rw [e193, v191_eq]
  unfold val_main_v195 val_main_v148
  pointwise
  rw [e194, v145_eq]
  unfold gxa
  rw [add_comm, sub_eq_add_neg]
theorem v197_eq (h : ∀ g k R, IsR (dm x0 x1 x2 x3 g k R)) (t : Fin 4096) (g : Fin 4) (k : Fin 256) : val_main_v197 (F := Ideal) x0 x1 x2 x3 (ix2 t (cg g k)) = gxa x0 x1 x2 x3 t g k := by
  unfold val_main_v197 val_main_v196
  pointwise
  rw [← v195_eq x0 x1 x2 x3 h]
  refine congrArg (val_main_v195 (F := Ideal) x0 x1 x2 x3) ?_
  refine idx3_ext ?_ ?_ ?_
  · rfl
  · show (g.val * 256 + k.val) / 256 = g.val
    omega
  · show (g.val * 256 + k.val) % 256 = k.val
    omega

/-! ## Finite arguments -/

/-- The sigmoid of a real number is one. -/
theorem isR_sg {z : EReal} (h : IsR z) : IsR (sg z) := by
  obtain ⟨z, rfl⟩ := h
  unfold sg
  rw [zero_sub, ← EReal.coe_neg, Ideal.exp_coe, ← EReal.coe_one, ← EReal.coe_add, Ideal.div_coe (by positivity)]
  exact (isR_coe 1).mul (isR_coe _)
/-- The product rule of `z` times its sigmoid, the two summands in one. -/
theorem gate_rule {y b d s z : EReal} (hy : IsR y) (hb : IsR b) (hd : IsR d) (hs : IsR s) (hz : IsR z) :
    y * b * d * s + z * (y * b * d) * (s * (1 - s)) = d * (y * b) * (s * (1 + z * (1 - s))) := by
  obtain ⟨y, rfl⟩ := hy; obtain ⟨b, rfl⟩ := hb; obtain ⟨d, rfl⟩ := hd; obtain ⟨s, rfl⟩ := hs; obtain ⟨z, rfl⟩ := hz
  norm_cast
  ring
variable (h0 : ∀ i, IsR (x0 i)) (h1 : ∀ i, IsR (x1 i)) (h2 : ∀ i, IsR (x2 i)) (h3 : ∀ i, IsR (x3 i))

include h0 h1 h2 h3 in
/-- The gradient of the mean less the row is finite. -/
theorem isR_dm (g : Fin 4) (k : Fin 256) (R : Fin 4096) : IsR (dm x0 x1 x2 x3 g k R) :=
  isR_sum _ _ fun l _ => (((h3 _).mul ((h0 _).mul (isR_sg (h0 _)))).mul (h2 _)).mul (h1 _)
include h0 h1 in
/-- The product with the group's matrix is finite. -/
theorem isR_ypre (R : Fin 4096) (g : Fin 4) (l : Fin 256) : IsR (ypre x0 x1 R g l) :=
  isR_sum _ _ fun k _ => (((isR_sum _ _ fun j _ => IsR.ite isR_zero (isR_ext (fun R => h0 _) _)).mul (isR_coe _)).sub (h0 _)).mul (h1 _)
include h0 h1 h2 h3 in
/-- The gradient of the gate. -/
theorem gza_eq (g : Fin 4) (l : Fin 256) (t : Fin 4096) : val_main_v198 (F := Ideal) x0 x1 x2 x3 (ix2 t (cg g l)) = gza x0 x1 x2 x3 t g l := by
  rw [v198_eq x0 x1 x2 x3 h0]
  unfold gza
  exact gate_rule (isR_ypre x0 x1 h0 h1 t g l) (h2 _) (h3 _) (isR_sg (h0 _)) (h0 _)
end

end Cert.PoolBwdRefIdeal.Hand

end
-- ==== Proof.PoolBwdValue.lean ====
module

public import proofs.«01_k».proof.Defs
public import proofs.«01_k».proof.Proof.Gen.PoolBwdIdeal.Value
public import proofs.«01_k».proof.Proof.Gen.PoolBwdRefIdeal.Run
public import proofs.«01_k».proof.Proof.Gen.PoolBwdRefIdeal.Read
public import proofs.«01_k».proof.Proof.Common
public import proofs.«01_k».proof.Proof.Finite
public import proofs.«01_k».proof.Proof.PoolRef
public import proofs.«01_k».proof.Proof.Gen.Pre_finite_pool
public import Idealize.ShloMosaic.Lib.KernelVsHost
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.PoolBwdIdeal.Hand

open Cert.PoolBwdIdeal Cert.PoolBwdIdeal.Gen Cert.PoolBwdRefIdeal.Hand Cert.Common

/-- Offsets `![0, 0, 0]` are the zero offsets. -/
theorem hz3 : (![0, 0, 0] : Fin 3 → Nat) = fun _ => 0 := funext fun a => by fin_cases a <;> rfl

/-- A delay moved along with its row. -/
theorem back_shift (f : Fin 4096 → EReal) (k a n : ℕ) : back f (k + a) (n + a) = back f k n := by
  unfold back
  by_cases h : n < k
  · rw [if_pos h, if_pos (by omega)]
  · rw [if_neg h, if_neg (by omega)]
    exact congrArg _ (by omega)

/-! ## The sums over a window by doubling -/

/-- Rows plus the rows a rotation brings. -/
def dbl (k : BitVec 32) (v : FVec Ideal S528x256 .f32) : FVec Ideal S528x256 .f32 := addf v (dynamicRotate 0 k none v rotates_S528x256_d0)

/-- A row of the doubling. -/
theorem dbl_apply (k : BitVec 32) (hk : k.toNat < 528) (v : FVec Ideal S528x256 .f32) (ρ : Fin 528) (l : Fin 256) :
    dbl k v (ix2 ρ l) = (v (ix2 ρ l) + v (ix2 ⟨(ρ.val + 528 - k.toNat) % 528, Nat.mod_lt _ (by norm_num)⟩ l) : EReal) := by
  unfold dbl
  refine congrArg (fun z : EReal => (v (ix2 ρ l) : EReal) + z) ?_
  refine dynamicRotate_apply (s := S528x256) 0 k v _ (ix2 ρ l) (ix2 ⟨(ρ.val + 528 - k.toNat) % 528, Nat.mod_lt _ (by norm_num)⟩ l) ?_
  intro b
  match b with
  | ⟨0, _⟩ =>
    show (ρ.val + 528 - k.toNat) % 528 = (ρ.val + 528 - k.toNat % 528) % 528
    rw [Nat.mod_eq_of_lt hk]
  | ⟨1, _⟩ => rfl

/-- Doubling rows that hold the sums of `a` rows back gives the sums of twice as many. -/
theorem dbl_back (f : Fin 4096 → EReal) (a n : ℕ) (k : BitVec 32) (hk : k.toNat = a) (ha : a < 528) (D : FVec Ideal S528x256 .f32) (l : Fin 256)
    (h : ∀ ρ : Fin 528, a ≤ ρ.val + 1 → (D (ix2 ρ l) : EReal) = ∑ j ∈ Finset.range a, back f (16 + j) (n + ρ.val)) (ρ : Fin 528) (hρ : a + a ≤ ρ.val + 1) :
    (dbl k D (ix2 ρ l) : EReal) = ∑ j ∈ Finset.range (a + a), back f (16 + j) (n + ρ.val) := by
  rw [dbl_apply k (by omega), h ρ (by omega), Finset.sum_range_add]
  refine congrArg _ ?_
  rw [h _ (by show a ≤ (ρ.val + 528 - k.toNat) % 528 + 1; omega)]
  refine Finset.sum_congr rfl fun j _ => ?_
  rw [← back_shift f (16 + j) a]
  exact congrArg₂ (back f) (by omega) (by show n + (ρ.val + 528 - k.toNat) % 528 + a = n + ρ.val; omega)

/-- Doubling rows that hold the sums of `a` rows ahead gives the sums of twice as many. -/
theorem dbl_ahead (f : Fin 4096 → EReal) (a n : ℕ) (k : BitVec 32) (hk : k.toNat + a = 528) (ha : 0 < a) (D : FVec Ideal S528x256 .f32) (l : Fin 256)
    (h : ∀ ρ : Fin 528, ρ.val + a ≤ 528 → (D (ix2 ρ l) : EReal) = ∑ j ∈ Finset.range a, ext f (n + ρ.val + j)) (ρ : Fin 528) (hρ : ρ.val + (a + a) ≤ 528) :
    (dbl k D (ix2 ρ l) : EReal) = ∑ j ∈ Finset.range (a + a), ext f (n + ρ.val + j) := by
  rw [dbl_apply k (by omega), h ρ (by omega), Finset.sum_range_add]
  refine congrArg _ ?_
  rw [h _ (by show (ρ.val + 528 - k.toNat) % 528 + a ≤ 528; omega)]
  refine Finset.sum_congr rfl fun j _ => ?_
  exact congrArg (ext f) (by show n + (ρ.val + 528 - k.toNat) % 528 + j = n + ρ.val + (a + j); omega)

/-! ## The kernel's values, row by row -/

/-- The number of rows in the window that ends at a tile's row. -/
def cnt (A B : BitVec 32) (n : ℕ) : BitVec 32 := Scalar.minsi (Scalar.addi (Scalar.addi (Scalar.muli B 512#32) (BitVec.ofNat 32 n)) 1#32) (Scalar.shli 2#32 A)
/-- One over it. -/
def inv (A B : BitVec 32) (n : ℕ) : EReal := Ideal.div 1 (((cnt A B n).toInt : ℝ) : EReal)

section
variable (i : grid0.Coords) (x : Vec Ideal S512x256 .bf16) (xp : Vec Ideal S16x256 .bf16)

/-- A tile behind the sixteen rows before it. -/
def xe : FVec Ideal S528x256 .f32 :=
  concatenate S528x256 0 [⟨S16x256, Scalar.select (Scalar.cmpi .eq (BitVec.ofNat 32 (i 1).val) 0#32) (broadcast S16x256 (Scalar.ofBits .f32 0x00000000#32)) (extf .f32 xp bitsLt_bf16_f32)⟩,
    ⟨S512x256, extf .f32 x bitsLt_bf16_f32⟩] concatenates_S16x256_S512x256_S528x256_d0
/-- A row of it. -/
theorem xe_apply (r : Fin 528) (l : Fin 256) : xe i x xp (ix2 r l) = (if h : r.val < 16 then
      Scalar.select (Scalar.cmpi CmpIPredicate.eq (BitVec.ofNat 32 (i 1).val) 0#32) 0 (xp (ix2 ⟨r.val, h⟩ l))
    else x (ix2 ⟨r.val - 16, by omega⟩ l) : EReal) := by
  unfold xe
  pointwise

/-- The mean over the window less the row, from the four sums. -/
def pool (A B : BitVec 32) (D1 D2 D3 D4 : FVec Ideal S528x256 .f32) : FVec Ideal S512x256 .bf16 :=
  truncf .bf16 (subf (mulf (extractStridedSlice S512x256 ![16, 0] (Scalar.select (Scalar.cmpi .eq A 0#32) D1 (Scalar.select (Scalar.cmpi .eq A 1#32) D2 (Scalar.select (Scalar.cmpi .eq A 2#32) D3 D4))) slices_S528x256_o16_0_S512x256)
    (divf (broadcast S512x256 (Scalar.ofBits .f32 0x3F800000#32)) (sitofp .f32 (minsi (addi (addi (broadcast S512x256 (Scalar.muli B 512#32)) (iota .tc S512x256 32 [0] iota_S512x256_d0_w32)) (broadcast S512x256 1#32)) (broadcast S512x256 (Scalar.shli 2#32 A))))))
    (extf .f32 x bitsLt_bf16_f32)) bitsLt_bf16_f32
/-- A row of it. -/
theorem pool_apply (A B : BitVec 32) (D1 D2 D3 D4 : FVec Ideal S528x256 .f32) (r : Fin 512) (l : Fin 256) : pool x A B D1 D2 D3 D4 (ix2 r l) =
    (Scalar.select (Scalar.cmpi CmpIPredicate.eq A 0#32) (D1 (ix2 ⟨16 + r.val, by omega⟩ l)) (Scalar.select (Scalar.cmpi CmpIPredicate.eq A 1#32) (D2 (ix2 ⟨16 + r.val, by omega⟩ l))
      (Scalar.select (Scalar.cmpi CmpIPredicate.eq A 2#32) (D3 (ix2 ⟨16 + r.val, by omega⟩ l)) (D4 (ix2 ⟨16 + r.val, by omega⟩ l)))) * inv A B r.val - x (ix2 r l) : EReal) := by
  unfold pool inv cnt
  pointwise
  rfl
/-- The kernel's mean less the row is that of the doubled rows. -/
theorem pay7_eq : k0_pay7 i x xp = pool x (BitVec.ofNat 32 (i 0).val) (BitVec.ofNat 32 (i 1).val) (dbl 1#32 (xe i x xp)) (dbl 2#32 (dbl 1#32 (xe i x xp)))
    (dbl 4#32 (dbl 2#32 (dbl 1#32 (xe i x xp)))) (dbl 8#32 (dbl 4#32 (dbl 2#32 (dbl 1#32 (xe i x xp))))) := rfl

variable (w : Vec Ideal S1x256x256 .bf16) (z y : Vec Ideal S512x256 .bf16) (zn yn : Vec Ideal S16x256 .bf16) (s : Vec Ideal S1x256 .f32) (K : BitVec 1)
  (v38 : FVec Ideal S512x256 .bf16) (a b : FVec Ideal S512x256 .f32)

/-- The group's product. -/
theorem pay8_apply (r : Fin 512) (l : Fin 256) : k0_pay8 v38 w (ix2 r l) = (∑ k : Fin 256, v38 (ix2 r k) * w (ix3 0 k l) : EReal) := by
  unfold_payloads
  pointwise
/-- The gradient of the gate. -/
theorem pay12_apply (r : Fin 512) (l : Fin 256) : k0_pay12 v38 w z y s (ix2 r l) =
    (y (ix2 r l) * (k0_pay8 v38 w (ix2 r l) * s (ix2 0 l)) * (sg (z (ix2 r l)) * (1 + z (ix2 r l) * (1 - sg (z (ix2 r l))))) : EReal) := by
  unfold k0_pay12 k0_pay11 k0_pay10 k0_pay9
  pointwise
  rfl
/-- The incoming gradient through the gate. -/
theorem pay13_apply (r : Fin 512) (l : Fin 256) : k0_pay13 z y (ix2 r l) = (y (ix2 r l) * (z (ix2 r l) * sg (z (ix2 r l))) : EReal) := by
  unfold_payloads
  pointwise
  rfl
/-- The gradient of the group's product in a tile and in the sixteen rows after it. -/
theorem pay16_apply (r : Fin 528) (l : Fin 256) : k0_pay16 K (k0_pay11 y) (k0_pay14 K z zn) (k0_pay15 yn) (Scalar.ofBits .f32 0x00000000#32) s (ix2 r l) =
    ((if h : r.val < 512 then y (ix2 ⟨r.val, h⟩ l) else Scalar.select K 0 (yn (ix2 ⟨r.val - 512, by omega⟩ l)))
      * ((if h : r.val < 512 then z (ix2 ⟨r.val, h⟩ l) else Scalar.select K 0 (zn (ix2 ⟨r.val - 512, by omega⟩ l)))
        * sg (if h : r.val < 512 then z (ix2 ⟨r.val, h⟩ l) else Scalar.select K 0 (zn (ix2 ⟨r.val - 512, by omega⟩ l)))) * s (ix2 0 l) : EReal) := by
  unfold_payloads
  pointwise
  rfl

variable (e : FVec Ideal S528x256 .bf16) (v0 : BitVec 1) (v52 : FVec Ideal S512x256 .f32) (v73 : FVec Ideal S528x256 .f32) (v75 : FVec Ideal S16x256 .f32) (z0 : Ideal .f32) (A B : BitVec 32)

/-- The gradient of the mean less the row. -/
theorem pay17_apply (r : Fin 528) (k : Fin 256) : k0_pay17 v0 v52 v73 v75 z0 s w (ix2 r k) = (∑ l : Fin 256, k0_pay16 v0 v52 v73 v75 z0 s (ix2 r l) * w (ix3 0 k l) : EReal) := by
  unfold k0_pay17
  pointwise
/-- The same over the number of rows in the window. -/
def quot (v : FVec Ideal S528x256 .f32) : FVec Ideal S528x256 .f32 :=
  mulf v (divf (broadcast S528x256 (Scalar.ofBits .f32 0x3F800000#32)) (sitofp .f32 (minsi (addi (addi (broadcast S528x256 (Scalar.muli B 512#32)) (iota .tc S528x256 32 [0] iota_S528x256_d0_w32)) (broadcast S528x256 1#32)) (broadcast S528x256 (Scalar.shli 2#32 A)))))
/-- A row of it. -/
theorem quot_apply (v : FVec Ideal S528x256 .f32) (r : Fin 528) (l : Fin 256) : quot A B v (ix2 r l) = (v (ix2 r l) * inv A B r.val : EReal) := by
  unfold quot inv cnt
  pointwise
  rfl
/-- The kernel's sums ahead are the doubled rows. -/
theorem pay18_eq : k0_pay18 A B v0 v52 v73 v75 z0 s w = dbl 527#32 (quot A B (k0_pay17 v0 v52 v73 v75 z0 s w)) := rfl
theorem pay19_eq : k0_pay19 A B v0 v52 v73 v75 z0 s w = dbl 526#32 (k0_pay18 A B v0 v52 v73 v75 z0 s w) := rfl
theorem pay20_eq : k0_pay20 A B v0 v52 v73 v75 z0 s w = dbl 524#32 (k0_pay19 A B v0 v52 v73 v75 z0 s w) := rfl
theorem pay21_eq : k0_pay21 A B v0 v52 v73 v75 z0 s w = dbl 520#32 (k0_pay20 A B v0 v52 v73 v75 z0 s w) := rfl

/-- The gradient of the input from the four sums ahead. -/
theorem pay1_apply (D D1 D2 D3 D4 : FVec Ideal S528x256 .f32) (r : Fin 512) (l : Fin 256) : k0_pay1 A D D1 D2 D3 D4 (Scalar.cmpi CmpIPredicate.eq A 0#32) (ix2 r l) =
    (Scalar.select (Scalar.cmpi CmpIPredicate.eq A 0#32) (D1 (ix2 ⟨r.val, by omega⟩ l)) (Scalar.select (Scalar.cmpi CmpIPredicate.eq A 1#32) (D2 (ix2 ⟨r.val, by omega⟩ l))
      (Scalar.select (Scalar.cmpi CmpIPredicate.eq A 2#32) (D3 (ix2 ⟨r.val, by omega⟩ l)) (D4 (ix2 ⟨r.val, by omega⟩ l)))) - D (ix2 ⟨r.val, by omega⟩ l) : EReal) := by
  unfold_payloads
  pointwise
/-- A tile's part of the matrix's gradient. -/
theorem pay4_apply (k l : Fin 256) : k0_pay4 v38 e (ix3 0 k l) = (∑ r : Fin 512, v38 (ix2 r k) * e (ix2 ⟨r.val, by omega⟩ l) : EReal) := by
  unfold_payloads
  pointwise
/-- A tile's part of it, added. -/
theorem pay5_apply (E : Vec Ideal S1x256x256 .f32) (k l : Fin 256) : k0_pay5 v38 e E (ix3 0 k l) = (E (ix3 0 k l) + k0_pay4 v38 e (ix3 0 k l) : EReal) := by
  unfold_payloads
  pointwise
/-- A tile's part of the scale's gradient. -/
theorem pay3_apply (l : Fin 256) : k0_pay3 a b (ix2 0 l) = (∑ r : Fin 512, b (ix2 r l) * a (ix2 r l) : EReal) := by
  unfold_payloads
  pointwise
/-- A tile's part of it, added. -/
theorem pay6_apply (E : Vec Ideal S1x256 .f32) (l : Fin 256) : k0_pay6 a b E (ix2 0 l) = (E (ix2 0 l) + k0_pay3 a b (ix2 0 l) : EReal) := by
  unfold_payloads
  pointwise
end

variable (m : (ℓ : Loc nD τ sig) → Buf (Elt Ideal) ℓ)

/-- The block each window reads or writes at a point of the grid. -/
theorem idx_facts : ∀ t : Fin cfg0.N, win0_0.index t = ![(t.val % 8), (t.val / 8)]
    ∧ win0_1.index t = ![(t.val % 8 * 32 - 1), (t.val / 8)]
    ∧ win0_2.index t = ![(t.val % 8), (4 + t.val / 8)]
    ∧ win0_3.index t = ![(min ((t.val % 8 + 1) * 32) 255), (4 + t.val / 8)]
    ∧ win0_4.index t = ![(t.val % 8), (t.val / 8)]
    ∧ win0_5.index t = ![(min ((t.val % 8 + 1) * 32) 255), (t.val / 8)]
    ∧ win0_6.index t = ![(t.val / 8), 0, 0]
    ∧ win0_7.index t = ![0, (t.val / 8)]
    ∧ win0_8.index t = ![(t.val % 8), (t.val / 8)]
    ∧ win0_9.index t = ![(t.val % 8), (t.val / 8)]
    ∧ win0_10.index t = ![(t.val / 8), 0, 0]
    ∧ win0_11.index t = ![0, (t.val / 8)] :=
  (by decide +kernel : ∀ t : Fin grid0.N, win0_0.index t = ![(t.val % 8), (t.val / 8)]
    ∧ win0_1.index t = ![(t.val % 8 * 32 - 1), (t.val / 8)]
    ∧ win0_2.index t = ![(t.val % 8), (4 + t.val / 8)]
    ∧ win0_3.index t = ![(min ((t.val % 8 + 1) * 32) 255), (4 + t.val / 8)]
    ∧ win0_4.index t = ![(t.val % 8), (t.val / 8)]
    ∧ win0_5.index t = ![(min ((t.val % 8 + 1) * 32) 255), (t.val / 8)]
    ∧ win0_6.index t = ![(t.val / 8), 0, 0]
    ∧ win0_7.index t = ![0, (t.val / 8)]
    ∧ win0_8.index t = ![(t.val % 8), (t.val / 8)]
    ∧ win0_9.index t = ![(t.val % 8), (t.val / 8)]
    ∧ win0_10.index t = ![(t.val / 8), 0, 0]
    ∧ win0_11.index t = ![0, (t.val / 8)])

/-- The grid's size. -/
theorem lt_N (t : Fin cfg0.N) : t.val < 32 := lt_of_lt_of_eq t.isLt N_0

/-- Which tile and which group a point is at. -/
theorem flags : ∀ t : Fin cfg0.N, Scalar.cmpi CmpIPredicate.eq (BitVec.ofNat 32 (grid0.coords t 1).val) 0#32 = (if t.val % 8 = 0 then 1#1 else 0#1)
    ∧ Scalar.cmpi CmpIPredicate.eq (BitVec.ofNat 32 (grid0.coords t 1).val) 7#32 = (if t.val % 8 = 7 then 1#1 else 0#1)
    ∧ Scalar.cmpi CmpIPredicate.eq (BitVec.ofNat 32 (grid0.coords t 0).val) 0#32 = (if t.val / 8 = 0 then 1#1 else 0#1)
    ∧ Scalar.cmpi CmpIPredicate.eq (BitVec.ofNat 32 (grid0.coords t 0).val) 1#32 = (if t.val / 8 = 1 then 1#1 else 0#1)
    ∧ Scalar.cmpi CmpIPredicate.eq (BitVec.ofNat 32 (grid0.coords t 0).val) 2#32 = (if t.val / 8 = 2 then 1#1 else 0#1) :=
  (by decide +kernel : ∀ t : Fin grid0.N, Scalar.cmpi CmpIPredicate.eq (BitVec.ofNat 32 (grid0.coords t 1).val) 0#32 = (if t.val % 8 = 0 then 1#1 else 0#1)
    ∧ Scalar.cmpi CmpIPredicate.eq (BitVec.ofNat 32 (grid0.coords t 1).val) 7#32 = (if t.val % 8 = 7 then 1#1 else 0#1)
    ∧ Scalar.cmpi CmpIPredicate.eq (BitVec.ofNat 32 (grid0.coords t 0).val) 0#32 = (if t.val / 8 = 0 then 1#1 else 0#1)
    ∧ Scalar.cmpi CmpIPredicate.eq (BitVec.ofNat 32 (grid0.coords t 0).val) 1#32 = (if t.val / 8 = 1 then 1#1 else 0#1)
    ∧ Scalar.cmpi CmpIPredicate.eq (BitVec.ofNat 32 (grid0.coords t 0).val) 2#32 = (if t.val / 8 = 2 then 1#1 else 0#1))
/-- The number of rows in a window, counted. -/
theorem cnt_eq : ∀ (t : Fin cfg0.N) (r : Fin 528), (cnt (BitVec.ofNat 32 (grid0.coords t 0).val) (BitVec.ofNat 32 (grid0.coords t 1).val) r.val).toInt = ((min (512 * (t.val % 8) + r.val + 1) (2 * 2 ^ (t.val / 8)) : ℕ) : ℤ) :=
  (by decide +kernel : ∀ (t : Fin grid0.N) (r : Fin 528), (cnt (BitVec.ofNat 32 (grid0.coords t 0).val) (BitVec.ofNat 32 (grid0.coords t 1).val) r.val).toInt = ((min (512 * (t.val % 8) + r.val + 1) (2 * 2 ^ (t.val / 8)) : ℕ) : ℤ))

/-- The group of a point, the array's rows of a tile, and of the sixteen before and after it. -/
abbrev gi (t : Fin cfg0.N) : Fin 4 := ⟨t.val / 8, by have := lt_N t; omega⟩
abbrev row (t : Fin cfg0.N) (r : Fin 512) : Fin 4096 := ⟨512 * (t.val % 8) + r.val, by omega⟩
abbrev prow (t : Fin cfg0.N) (r : Fin 16) : Fin 4096 := ⟨16 * (t.val % 8 * 32 - 1) + r.val, by omega⟩
abbrev nrow (t : Fin cfg0.N) (r : Fin 16) : Fin 4096 := ⟨16 * (min ((t.val % 8 + 1) * 32) 255) + r.val, by omega⟩

/-- One over the count is the closed form's. -/
theorem inv_eq (t : Fin cfg0.N) (r : Fin 528) : inv (BitVec.ofNat 32 (grid0.coords t 0).val) (BitVec.ofNat 32 (grid0.coords t 1).val) r.val = icnt (width (gi t)) (512 * (t.val % 8) + r.val) := by
  unfold inv icnt
  rw [cnt_eq]
  have h : ((min (512 * (t.val % 8) + r.val + 1) (2 * 2 ^ (t.val / 8)) : ℕ) : ℝ) ≠ 0 := by
    have : 0 < 2 * 2 ^ (t.val / 8) := by positivity
    have : 0 < min (512 * (t.val % 8) + r.val + 1) (2 * 2 ^ (t.val / 8)) := by omega
    exact_mod_cast this.ne'
  rw [Int.cast_natCast, Ideal.div_coe h, one_mul]
  rfl

/-- The sum over the group's window is the one of four. -/
theorem pick_sum (t : Fin cfg0.N) (F : ℕ → EReal) {a b c d : EReal} (ha : a = ∑ j ∈ Finset.range 2, F j) (hb : b = ∑ j ∈ Finset.range 4, F j)
    (hc : c = ∑ j ∈ Finset.range 8, F j) (hd : d = ∑ j ∈ Finset.range 16, F j) :
    Scalar.select (Scalar.cmpi CmpIPredicate.eq (BitVec.ofNat 32 (grid0.coords t 0).val) 0#32) a (Scalar.select (Scalar.cmpi CmpIPredicate.eq (BitVec.ofNat 32 (grid0.coords t 0).val) 1#32) b (Scalar.select (Scalar.cmpi CmpIPredicate.eq (BitVec.ofNat 32 (grid0.coords t 0).val) 2#32) c d)) = ∑ j ∈ Finset.range (width (gi t)), F j := by
  have ht := lt_N t
  rw [(flags t).2.2.1, (flags t).2.2.2.1, (flags t).2.2.2.2]
  obtain h | h | h | h : t.val / 8 = 0 ∨ t.val / 8 = 1 ∨ t.val / 8 = 2 ∨ t.val / 8 = 3 := by omega
  · rw [show width (gi t) = 2 by show 2 * 2 ^ (t.val / 8) = 2; rw [h]; norm_num, if_pos h]
    exact ha
  · rw [show width (gi t) = 4 by show 2 * 2 ^ (t.val / 8) = 4; rw [h]; norm_num, if_neg (by omega), if_pos h]
    exact hb
  · rw [show width (gi t) = 8 by show 2 * 2 ^ (t.val / 8) = 8; rw [h]; norm_num, if_neg (by omega), if_neg (by omega), if_pos h]
    exact hc
  · rw [show width (gi t) = 16 by show 2 * 2 ^ (t.val / 8) = 16; rw [h]; norm_num, if_neg (by omega), if_neg (by omega), if_neg (by omega)]
    exact hd

/-- The program's arguments: the projection, the matrices, the scale, the incoming gradient. -/
abbrev PJ (c : Dev nD) : Vec Ideal S4096x14336 .bf16 := m ((c : Thread nD τ).loc main_arg0)
abbrev PW (c : Dev nD) : Vec Ideal S4x256x256 .f32 := m ((c : Thread nD τ).loc main_arg1)
abbrev PS (c : Dev nD) : Vec Ideal S1024 .f32 := m ((c : Thread nD τ).loc main_arg2)
abbrev DY (c : Dev nD) : Vec Ideal S4096x1024 .bf16 := m ((c : Thread nD τ).loc main_arg3)

/-- What the kernel reads: the projection, the incoming gradient, the matrices, the scale as a row. -/
abbrev KP (c : Dev nD) : Vec Ideal S4096x14336 .bf16 := V m c main_arg0
abbrev KY (c : Dev nD) : Vec Ideal S4096x1024 .bf16 := V m c main_arg3
abbrev KW (c : Dev nD) : Vec Ideal S4x256x256 .bf16 := V m c main_v0
abbrev KS (c : Dev nD) : Vec Ideal S1x1024 .f32 := V m c main_v1

/-- An array the kernel reads as it is passed. -/
theorem KP_eq (c : Dev nD) : KP m c = PJ m c := by
  unfold KP V hostOps0
  after_results
/-- An array the kernel reads as it is passed. -/
theorem KY_eq (c : Dev nD) : KY m c = DY m c := by
  unfold KY V hostOps0
  after_results
/-- The matrices, their entries unchanged. -/
theorem KW_apply (c : Dev nD) (g : Fin 4) (k l : Fin 256) : (KW m c (ix3 g k l) : EReal) = PW m c (ix3 g k l) := by
  have : V m c main_v0 = (truncf .bf16 (m ((c.tc : Thread nD τ).loc main_arg1) : FVec Ideal S4x256x256 .f32) bitsLt_bf16_f32 : FVec Ideal S4x256x256 .bf16) := by
    unfold V hostOps0
    after_results <;> rfl
  unfold KW
  rw [this]
  rfl
/-- The scale's row. -/
theorem KS_apply (c : Dev nD) (C : Fin 1024) : KS m c (ix2 0 C) = PS m c (ix1 C) := by
  have : V m c main_v1 = (broadcastInDim S1x1024 ![1] bcast_S1024_S1x1024_1 (m ((c.tc : Thread nD τ).loc main_arg2) : FVec Ideal S1024 .f32) : FVec Ideal S1x1024 .f32) := by
    unfold V hostOps0
    after_results <;> rfl
  unfold KS
  rw [this]
  pointwise

/-- A tile of the input. -/
theorem iblk0_apply (c : Dev nD) (t : Fin cfg0.N) (r : Fin 512) (l : Fin 256) :
    (iblk m c 0 t : Vec Ideal S512x256 .bf16) (ix2 r l) = KP m c (ix2 (row t r) (cx (gi t) l)) := by
  have hi := (idx_facts t).1
  have ht := lt_N t
  unfold iblk
  rw [View.read_apply]
  refine congrArg (KP m c) ?_
  refine Shape.idx_ext₂ ?_ ?_
  · show win0_0.index t 0 * 512 + 1 * r.val = 512 * (t.val % 8) + r.val
    rw [hi]; show (t.val % 8) * 512 + 1 * r.val = 512 * (t.val % 8) + r.val; omega
  · show win0_0.index t 1 * 256 + 1 * l.val = t.val / 8 * 256 + l.val
    rw [hi]; show (t.val / 8) * 256 + 1 * l.val = t.val / 8 * 256 + l.val; omega

/-- A tile of the input, the rows before. -/
theorem iblk1_apply (c : Dev nD) (t : Fin cfg0.N) (r : Fin 16) (l : Fin 256) :
    (iblk m c 1 t : Vec Ideal S16x256 .bf16) (ix2 r l) = KP m c (ix2 (prow t r) (cx (gi t) l)) := by
  have hi := (idx_facts t).2.1
  have ht := lt_N t
  unfold iblk
  rw [View.read_apply]
  refine congrArg (KP m c) ?_
  refine Shape.idx_ext₂ ?_ ?_
  · show win0_1.index t 0 * 16 + 1 * r.val = 16 * (t.val % 8 * 32 - 1) + r.val
    rw [hi]; show (t.val % 8 * 32 - 1) * 16 + 1 * r.val = 16 * (t.val % 8 * 32 - 1) + r.val; omega
  · show win0_1.index t 1 * 256 + 1 * l.val = t.val / 8 * 256 + l.val
    rw [hi]; show (t.val / 8) * 256 + 1 * l.val = t.val / 8 * 256 + l.val; omega

/-- A tile of the gate. -/
theorem iblk2_apply (c : Dev nD) (t : Fin cfg0.N) (r : Fin 512) (l : Fin 256) :
    (iblk m c 2 t : Vec Ideal S512x256 .bf16) (ix2 r l) = KP m c (ix2 (row t r) (cz (gi t) l)) := by
  have hi := (idx_facts t).2.2.1
  have ht := lt_N t
  unfold iblk
  rw [View.read_apply]
  refine congrArg (KP m c) ?_
  refine Shape.idx_ext₂ ?_ ?_
  · show win0_2.index t 0 * 512 + 1 * r.val = 512 * (t.val % 8) + r.val
    rw [hi]; show (t.val % 8) * 512 + 1 * r.val = 512 * (t.val % 8) + r.val; omega
  · show win0_2.index t 1 * 256 + 1 * l.val = 1024 + (t.val / 8 * 256 + l.val)
    rw [hi]; show (4 + t.val / 8) * 256 + 1 * l.val = 1024 + (t.val / 8 * 256 + l.val); omega

/-- A tile of the gate, the rows after. -/
theorem iblk3_apply (c : Dev nD) (t : Fin cfg0.N) (r : Fin 16) (l : Fin 256) :
    (iblk m c 3 t : Vec Ideal S16x256 .bf16) (ix2 r l) = KP m c (ix2 (nrow t r) (cz (gi t) l)) := by
  have hi := (idx_facts t).2.2.2.1
  have ht := lt_N t
  unfold iblk
  rw [View.read_apply]
  refine congrArg (KP m c) ?_
  refine Shape.idx_ext₂ ?_ ?_
  · show win0_3.index t 0 * 16 + 1 * r.val = 16 * (min ((t.val % 8 + 1) * 32) 255) + r.val
    rw [hi]; show (min ((t.val % 8 + 1) * 32) 255) * 16 + 1 * r.val = 16 * (min ((t.val % 8 + 1) * 32) 255) + r.val; omega
  · show win0_3.index t 1 * 256 + 1 * l.val = 1024 + (t.val / 8 * 256 + l.val)
    rw [hi]; show (4 + t.val / 8) * 256 + 1 * l.val = 1024 + (t.val / 8 * 256 + l.val); omega

/-- A tile of the incoming gradient. -/
theorem iblk4_apply (c : Dev nD) (t : Fin cfg0.N) (r : Fin 512) (l : Fin 256) :
    (iblk m c 4 t : Vec Ideal S512x256 .bf16) (ix2 r l) = KY m c (ix2 (row t r) (cg (gi t) l)) := by
  have hi := (idx_facts t).2.2.2.2.1
  have ht := lt_N t
  unfold iblk
  rw [View.read_apply]
  refine congrArg (KY m c) ?_
  refine Shape.idx_ext₂ ?_ ?_
  · show win0_4.index t 0 * 512 + 1 * r.val = 512 * (t.val % 8) + r.val
    rw [hi]; show (t.val % 8) * 512 + 1 * r.val = 512 * (t.val % 8) + r.val; omega
  · show win0_4.index t 1 * 256 + 1 * l.val = t.val / 8 * 256 + l.val
    rw [hi]; show (t.val / 8) * 256 + 1 * l.val = t.val / 8 * 256 + l.val; omega

/-- A tile of the incoming gradient, the rows after. -/
theorem iblk5_apply (c : Dev nD) (t : Fin cfg0.N) (r : Fin 16) (l : Fin 256) :
    (iblk m c 5 t : Vec Ideal S16x256 .bf16) (ix2 r l) = KY m c (ix2 (nrow t r) (cg (gi t) l)) := by
  have hi := (idx_facts t).2.2.2.2.2.1
  have ht := lt_N t
  unfold iblk
  rw [View.read_apply]
  refine congrArg (KY m c) ?_
  refine Shape.idx_ext₂ ?_ ?_
  · show win0_5.index t 0 * 16 + 1 * r.val = 16 * (min ((t.val % 8 + 1) * 32) 255) + r.val
    rw [hi]; show (min ((t.val % 8 + 1) * 32) 255) * 16 + 1 * r.val = 16 * (min ((t.val % 8 + 1) * 32) 255) + r.val; omega
  · show win0_5.index t 1 * 256 + 1 * l.val = t.val / 8 * 256 + l.val
    rw [hi]; show (t.val / 8) * 256 + 1 * l.val = t.val / 8 * 256 + l.val; omega

/-- The group's matrix. -/
theorem iblk6_apply (c : Dev nD) (t : Fin cfg0.N) (k : Fin 256) (l : Fin 256) :
    (iblk m c 6 t : Vec Ideal S1x256x256 .bf16) (ix3 (0 : Fin 1) k l) = KW m c (ix3 (gi t) k l) := by
  have hi := (idx_facts t).2.2.2.2.2.2.1
  have ht := lt_N t
  unfold iblk
  rw [View.read_apply]
  refine congrArg (KW m c) ?_
  refine idx3_ext ?_ ?_ ?_
  · show win0_6.index t 0 * 1 + 1 * 0 = t.val / 8
    rw [hi]; show (t.val / 8) * 1 + 1 * 0 = t.val / 8; omega
  · show win0_6.index t 1 * 256 + 1 * k.val = k.val
    rw [hi]; show 0 * 256 + 1 * k.val = k.val; omega
  · show win0_6.index t 2 * 256 + 1 * l.val = l.val
    rw [hi]; show 0 * 256 + 1 * l.val = l.val; omega

/-- The group's scale. -/
theorem iblk7_apply (c : Dev nD) (t : Fin cfg0.N) (l : Fin 256) :
    (iblk m c 7 t : Vec Ideal S1x256 .f32) (ix2 (0 : Fin 1) l) = KS m c (ix2 0 (cg (gi t) l)) := by
  have hi := (idx_facts t).2.2.2.2.2.2.2.1
  have ht := lt_N t
  unfold iblk
  rw [View.read_apply]
  refine congrArg (KS m c) ?_
  refine Shape.idx_ext₂ ?_ ?_
  · show win0_7.index t 0 * 1 + 1 * 0 = 0
    rw [hi]; show 0 * 1 + 1 * 0 = 0; omega
  · show win0_7.index t 1 * 256 + 1 * l.val = t.val / 8 * 256 + l.val
    rw [hi]; show (t.val / 8) * 256 + 1 * l.val = t.val / 8 * 256 + l.val; omega

/-- What a point writes of the input's gradient. -/
theorem outs8 (c : Dev nD) (t : Fin cfg0.N) : (outsAt0 m c t.val t.isLt).1 = k0_pay1 (BitVec.ofNat 32 (grid0.coords t 0).val) (k0_pay17 (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (k0_pay18 (BitVec.ofNat 32 (grid0.coords t 0).val) (BitVec.ofNat 32 (grid0.coords t 1).val) (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (k0_pay19 (BitVec.ofNat 32 (grid0.coords t 0).val) (BitVec.ofNat 32 (grid0.coords t 1).val) (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (k0_pay20 (BitVec.ofNat 32 (grid0.coords t 0).val) (BitVec.ofNat 32 (grid0.coords t 1).val) (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (k0_pay21 (BitVec.ofNat 32 (grid0.coords t 0).val) (BitVec.ofNat 32 (grid0.coords t 1).val) (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (Scalar.cmpi CmpIPredicate.eq (BitVec.ofNat 32 (grid0.coords t 0).val) 0#32) := by
  by_cases h : t.val % 8 = 0
  · rw [outsAt0_A m c t h (by omega)]
    dsimp only
    unfold out0_A_8
    refine (View.read_writes_eq_canon _ _ _ (by apply cover0_A_8)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x256) hz, View.ld_unit_zero (S := S16x256) hz, View.ld_unit_zero (S := S1x256) hz, View.ld_unit_zero (S := S1x256x256) hz3]
  · rw [outsAt0_B m c t h (by omega)]
    dsimp only
    unfold out0_B_8
    refine (View.read_writes_eq_canon _ _ _ (by apply cover0_B_8)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x256) hz, View.ld_unit_zero (S := S16x256) hz, View.ld_unit_zero (S := S1x256) hz, View.ld_unit_zero (S := S1x256x256) hz3]

/-- What a point writes of the gate's gradient. -/
theorem outs9 (c : Dev nD) (t : Fin cfg0.N) : (outsAt0 m c t.val t.isLt).2.1 = k0_pay12 (k0_pay7 (grid0.coords t) (iblk m c 0 t) (iblk m c 1 t)) (iblk m c 6 t) (iblk m c 2 t) (iblk m c 4 t) (iblk m c 7 t) := by
  by_cases h : t.val % 8 = 0
  · rw [outsAt0_A m c t h (by omega)]
    dsimp only
    unfold out0_A_9
    refine (View.read_writes_eq_canon _ _ _ (by apply cover0_A_9)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x256) hz, View.ld_unit_zero (S := S16x256) hz, View.ld_unit_zero (S := S1x256) hz, View.ld_unit_zero (S := S1x256x256) hz3]
  · rw [outsAt0_B m c t h (by omega)]
    dsimp only
    unfold out0_B_9
    refine (View.read_writes_eq_canon _ _ _ (by apply cover0_B_9)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x256) hz, View.ld_unit_zero (S := S16x256) hz, View.ld_unit_zero (S := S1x256) hz, View.ld_unit_zero (S := S1x256x256) hz3]

/-- What a point leaves of the matrix's gradient: the first point of a sum. -/
theorem outs10_A (c : Dev nD) (t : Fin cfg0.N) (h : t.val % 8 = 0) : (outsAt0 m c t.val t.isLt).2.2.1 = k0_pay4 (k0_pay7 (grid0.coords t) (iblk m c 0 t) (iblk m c 1 t)) (k0_pay16 (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t)) := by
  rw [outsAt0_A m c t h (by omega)]
  dsimp only
  unfold out0_A_10
  refine (View.read_writes_eq_canon _ _ _ (by apply cover0_A_10)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x256) hz, View.ld_unit_zero (S := S16x256) hz, View.ld_unit_zero (S := S1x256) hz, View.ld_unit_zero (S := S1x256x256) hz3]
/-- What a point leaves of the matrix's gradient: a later point. -/
theorem outs10_B (c : Dev nD) (t : Fin cfg0.N) (h : ¬t.val % 8 = 0) : (outsAt0 m c t.val t.isLt).2.2.1 = k0_pay5 (k0_pay7 (grid0.coords t) (iblk m c 0 t) (iblk m c 1 t)) (k0_pay16 (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t)) (outsAt0 m c (t.val - 1) (Nat.lt_of_le_of_lt (Nat.sub_le _ _) t.isLt)).2.2.1 := by
  rw [outsAt0_B m c t h (by omega)]
  dsimp only
  unfold out0_B_10
  refine (View.read_writes_eq_canon _ _ _ (by apply cover0_B_10)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_10 t).read_unread, View.ld_unit_zero (S := S512x256) hz, View.ld_unit_zero (S := S16x256) hz, View.ld_unit_zero (S := S1x256) hz, View.ld_unit_zero (S := S1x256x256) hz3]

/-- What a point leaves of the scale's gradient: the first point of a sum. -/
theorem outs11_A (c : Dev nD) (t : Fin cfg0.N) (h : t.val % 8 = 0) : (outsAt0 m c t.val t.isLt).2.2.2 = k0_pay3 (k0_pay8 (k0_pay7 (grid0.coords t) (iblk m c 0 t) (iblk m c 1 t)) (iblk m c 6 t)) (k0_pay13 (iblk m c 2 t) (iblk m c 4 t)) := by
  rw [outsAt0_A m c t h (by omega)]
  dsimp only
  unfold out0_A_11
  refine (View.read_writes_eq_canon _ _ _ (by apply cover0_A_11)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S512x256) hz, View.ld_unit_zero (S := S16x256) hz, View.ld_unit_zero (S := S1x256) hz, View.ld_unit_zero (S := S1x256x256) hz3]
/-- What a point leaves of the scale's gradient: a later point. -/
theorem outs11_B (c : Dev nD) (t : Fin cfg0.N) (h : ¬t.val % 8 = 0) : (outsAt0 m c t.val t.isLt).2.2.2 = k0_pay6 (k0_pay8 (k0_pay7 (grid0.coords t) (iblk m c 0 t) (iblk m c 1 t)) (iblk m c 6 t)) (k0_pay13 (iblk m c 2 t) (iblk m c 4 t)) (outsAt0 m c (t.val - 1) (Nat.lt_of_le_of_lt (Nat.sub_le _ _) t.isLt)).2.2.2 := by
  rw [outsAt0_B m c t h (by omega)]
  dsimp only
  unfold out0_B_11
  refine (View.read_writes_eq_canon _ _ _ (by apply cover0_B_11)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_11 t).read_unread, View.ld_unit_zero (S := S512x256) hz, View.ld_unit_zero (S := S16x256) hz, View.ld_unit_zero (S := S1x256) hz, View.ld_unit_zero (S := S1x256x256) hz3]

/-- A tile of the input and the sixteen rows before it. -/
theorem xt_apply (c : Dev nD) (t : Fin cfg0.N) (r : Fin 528) (l : Fin 256) :
    (xe (grid0.coords t) (iblk m c 0 t) (iblk m c 1 t) (ix2 r l) : EReal) = back (xcol (PJ m c) (gi t) l) 16 (512 * (t.val % 8) + r.val) := by
  rw [xe_apply, (flags t).1]
  unfold back
  by_cases hr : r.val < 16
  · rw [dif_pos hr]
    by_cases h0 : t.val % 8 = 0
    · rw [if_pos h0, if_pos (by omega)]
      rfl
    · rw [if_neg h0, if_neg (by omega), ext_of_lt _ (by omega : 512 * (t.val % 8) + r.val - 16 < 4096)]
      refine (iblk1_apply m c t ⟨r.val, hr⟩ l).trans ?_
      rw [KP_eq, show prow t ⟨r.val, hr⟩ = ⟨512 * (t.val % 8) + r.val - 16, by omega⟩ from Fin.ext (by show 16 * (t.val % 8 * 32 - 1) + r.val = 512 * (t.val % 8) + r.val - 16; omega)]
      rfl
  · rw [dif_neg hr, if_neg (by omega), ext_of_lt _ (by omega : 512 * (t.val % 8) + r.val - 16 < 4096), iblk0_apply, KP_eq,
      show row t ⟨r.val - 16, by omega⟩ = ⟨512 * (t.val % 8) + r.val - 16, by omega⟩ from Fin.ext (by show 512 * (t.val % 8) + (r.val - 16) = 512 * (t.val % 8) + r.val - 16; omega)]
    rfl

/-- The kernel's mean less the row is the closed form's. -/
theorem mix_apply (c : Dev nD) (t : Fin cfg0.N) (r : Fin 512) (l : Fin 256) : ((k0_pay7 (grid0.coords t) (iblk m c 0 t) (iblk m c 1 t)) (ix2 r l) : EReal) = mix (PJ m c) (row t r) (gi t) l := by
  have e1 : ∀ ρ : Fin 528, 1 ≤ ρ.val + 1 → (xe (grid0.coords t) (iblk m c 0 t) (iblk m c 1 t) (ix2 ρ l) : EReal) = ∑ j ∈ Finset.range 1, back (xcol (PJ m c) (gi t) l) (16 + j) (512 * (t.val % 8) + ρ.val) := fun ρ _ => by
    rw [xt_apply, Finset.sum_range_one]
  have e2 := dbl_back _ 1 _ 1#32 rfl (by norm_num) _ l e1
  have e4 := dbl_back _ 2 _ 2#32 rfl (by norm_num) _ l e2
  have e8 := dbl_back _ 4 _ 4#32 rfl (by norm_num) _ l e4
  have e16 := dbl_back _ 8 _ 8#32 rfl (by norm_num) _ l e8
  have hr := r.isLt
  rw [pay7_eq, pool_apply, pick_sum t (fun j => back (xcol (PJ m c) (gi t) l) (16 + j) (512 * (t.val % 8) + (16 + r.val))) (e2 ⟨16 + r.val, by omega⟩ (by show 1 + 1 ≤ 16 + r.val + 1; omega))
    (e4 ⟨16 + r.val, by omega⟩ (by show 2 + 2 ≤ 16 + r.val + 1; omega)) (e8 ⟨16 + r.val, by omega⟩ (by show 4 + 4 ≤ 16 + r.val + 1; omega)) (e16 ⟨16 + r.val, by omega⟩ (by show 8 + 8 ≤ 16 + r.val + 1; omega)),
    inv_eq t ⟨r.val, by omega⟩, iblk0_apply, KP_eq]
  unfold mix
  refine congrArg (fun z : EReal => z * _ - _) (Finset.sum_congr rfl fun j _ => ?_)
  rw [← back_shift _ j 16]
  exact congrArg₂ (back _) (by omega) (by show 512 * (t.val % 8) + (16 + r.val) = 512 * (t.val % 8) + r.val + 16; omega)

/-- The kernel's group product is the closed form's. -/
theorem y_apply (c : Dev nD) (t : Fin cfg0.N) (r : Fin 512) (l : Fin 256) : ((k0_pay8 (k0_pay7 (grid0.coords t) (iblk m c 0 t) (iblk m c 1 t)) (iblk m c 6 t)) (ix2 r l) : EReal) = ypre (PJ m c) (PW m c) (row t r) (gi t) l := by
  rw [pay8_apply]
  unfold ypre
  refine Finset.sum_congr rfl fun k _ => congrArg₂ (fun a b : EReal => a * b) (mix_apply m c t r k) ((iblk6_apply m c t k l).trans (KW_apply m c _ k l))

/-- The incoming gradient through the gate is the closed form's. -/
theorem dz_apply (c : Dev nD) (t : Fin cfg0.N) (r : Fin 512) (l : Fin 256) : ((k0_pay13 (iblk m c 2 t) (iblk m c 4 t)) (ix2 r l) : EReal) = dyz (PJ m c) (DY m c) (row t r) (gi t) l := by
  rw [pay13_apply, iblk2_apply, iblk4_apply, KP_eq, KY_eq]
  rfl

/-- The gradient of the group's product in a tile and in the sixteen rows after it. -/
theorem de_apply (c : Dev nD) (t : Fin cfg0.N) (r : Fin 528) (l : Fin 256) :
    ((k0_pay16 (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t)) (ix2 r l) : EReal) = ext (fun R => dyp (PJ m c) (PS m c) (DY m c) R (gi t) l) (512 * (t.val % 8) + r.val) := by
  rw [pay16_apply, (flags t).2.1]
  by_cases hr : r.val < 512
  · simp only [dif_pos hr]
    rw [ext_of_lt _ (row t ⟨r.val, hr⟩).isLt, iblk2_apply, iblk4_apply, iblk7_apply, KP_eq, KY_eq, KS_apply]
    rfl
  · simp only [dif_neg hr]
    by_cases h7 : t.val % 8 = 7
    · rw [if_pos h7]
      unfold ext
      rw [dif_neg (by omega)]
      show (0 : EReal) * _ * _ = 0
      rw [zero_mul, zero_mul]
    · rw [if_neg h7, ext_of_lt _ (by omega : 512 * (t.val % 8) + r.val < 4096)]
      refine (congrArg₂ (fun a b : EReal => a * b) (congrArg₂ (fun a b : EReal => a * b) (iblk5_apply m c t ⟨r.val - 512, by omega⟩ l) (congrArg (fun z : EReal => z * sg z) (iblk3_apply m c t ⟨r.val - 512, by omega⟩ l))) ((iblk7_apply m c t l).trans (KS_apply m c _))).trans ?_
      rw [KP_eq, KY_eq, show nrow t ⟨r.val - 512, by omega⟩ = ⟨512 * (t.val % 8) + r.val, by omega⟩ from
        Fin.ext (by show 16 * (min ((t.val % 8 + 1) * 32) 255) + (r.val - 512) = 512 * (t.val % 8) + r.val; omega)]
      rfl

/-- The gradient of the mean less the row, there. -/
theorem dm_apply (c : Dev nD) (t : Fin cfg0.N) (r : Fin 528) (k : Fin 256) : ((k0_pay17 (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (ix2 r k) : EReal) = ext (dm (PJ m c) (PW m c) (PS m c) (DY m c) (gi t) k) (512 * (t.val % 8) + r.val) := by
  rw [pay17_apply]
  refine (Finset.sum_congr rfl fun l _ => congrArg₂ (fun a b : EReal => a * b) (de_apply m c t r l) ((iblk6_apply m c t k l).trans (KW_apply m c _ k l))).trans ?_
  by_cases h : 512 * (t.val % 8) + r.val < 4096
  · simp only [ext_of_lt _ h]
    rfl
  · unfold ext
    simp only [dif_neg h, zero_mul, Finset.sum_const_zero]

/-- The same over the number of rows in the window. -/
theorem q_apply (c : Dev nD) (t : Fin cfg0.N) (r : Fin 528) (k : Fin 256) : (quot (BitVec.ofNat 32 (grid0.coords t 0).val) (BitVec.ofNat 32 (grid0.coords t 1).val) (k0_pay17 (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (ix2 r k) : EReal) = ext (qc (PJ m c) (PW m c) (PS m c) (DY m c) (gi t) k) (512 * (t.val % 8) + r.val) := by
  rw [quot_apply, dm_apply, inv_eq]
  by_cases h : 512 * (t.val % 8) + r.val < 4096
  · simp only [ext_of_lt _ h]
    rfl
  · unfold ext
    simp only [dif_neg h, zero_mul]

/-- The gradient of the input is the closed form's. -/
theorem dx_apply (c : Dev nD) (t : Fin cfg0.N) (r : Fin 512) (k : Fin 256) :
    (k0_pay1 (BitVec.ofNat 32 (grid0.coords t 0).val) (k0_pay17 (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (k0_pay18 (BitVec.ofNat 32 (grid0.coords t 0).val) (BitVec.ofNat 32 (grid0.coords t 1).val) (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (k0_pay19 (BitVec.ofNat 32 (grid0.coords t 0).val) (BitVec.ofNat 32 (grid0.coords t 1).val) (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (k0_pay20 (BitVec.ofNat 32 (grid0.coords t 0).val) (BitVec.ofNat 32 (grid0.coords t 1).val) (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (k0_pay21 (BitVec.ofNat 32 (grid0.coords t 0).val) (BitVec.ofNat 32 (grid0.coords t 1).val) (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (Scalar.cmpi CmpIPredicate.eq (BitVec.ofNat 32 (grid0.coords t 0).val) 0#32) (ix2 r k) : EReal) = gxa (PJ m c) (PW m c) (PS m c) (DY m c) (row t r) (gi t) k := by
  have e1 : ∀ ρ : Fin 528, ρ.val + 1 ≤ 528 → (quot (BitVec.ofNat 32 (grid0.coords t 0).val) (BitVec.ofNat 32 (grid0.coords t 1).val) (k0_pay17 (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t) (iblk m c 6 t)) (ix2 ρ k) : EReal) = ∑ j ∈ Finset.range 1, ext (qc (PJ m c) (PW m c) (PS m c) (DY m c) (gi t) k) (512 * (t.val % 8) + ρ.val + j) := fun ρ _ => by
    rw [q_apply, Finset.sum_range_one]
    rfl
  have e2 := dbl_ahead _ 1 _ 527#32 rfl (by norm_num) _ k e1
  have e4 := dbl_ahead _ 2 _ 526#32 rfl (by norm_num) _ k e2
  have e8 := dbl_ahead _ 4 _ 524#32 rfl (by norm_num) _ k e4
  have e16 := dbl_ahead _ 8 _ 520#32 rfl (by norm_num) _ k e8
  have hr := r.isLt
  rw [pay1_apply, pay21_eq, pay20_eq, pay19_eq, pay18_eq, pick_sum t (fun j => ext (qc (PJ m c) (PW m c) (PS m c) (DY m c) (gi t) k) (512 * (t.val % 8) + r.val + j)) (e2 ⟨r.val, by omega⟩ (by show r.val + (1 + 1) ≤ 528; omega))
    (e4 ⟨r.val, by omega⟩ (by show r.val + (2 + 2) ≤ 528; omega)) (e8 ⟨r.val, by omega⟩ (by show r.val + (4 + 4) ≤ 528; omega)) (e16 ⟨r.val, by omega⟩ (by show r.val + (8 + 8) ≤ 528; omega)),
    dm_apply, ext_of_lt _ (row t r).isLt]
  rfl

/-! ## The arrays the kernel leaves -/

/-- The group and the lane of a column. -/
def gd (C : Fin 1024) : Fin 4 := ⟨C.val / 256, by omega⟩
def ld (C : Fin 1024) : Fin 256 := ⟨C.val % 256, by omega⟩
theorem gd_cg (g : Fin 4) (l : Fin 256) : gd (cg g l) = g := Fin.ext (by show (g.val * 256 + l.val) / 256 = g.val; omega)
theorem ld_cg (g : Fin 4) (l : Fin 256) : ld (cg g l) = l := Fin.ext (by show (g.val * 256 + l.val) % 256 = l.val; omega)
theorem cg_gd (C : Fin 1024) : cg (gd C) (ld C) = C := Fin.ext (by show C.val / 256 * 256 + C.val % 256 = C.val; omega)

/-- The input's gradient, the gate's, the matrices' and the scale's. -/
def dxa (c : Dev nD) : Vec Ideal S4096x1024 .bf16 := fun i => (gxa (PJ m c) (PW m c) (PS m c) (DY m c) (i 0) (gd (i 1)) (ld (i 1)) : EReal)
def dza (c : Dev nD) : Vec Ideal S4096x1024 .bf16 := fun i => (gza (PJ m c) (PW m c) (PS m c) (DY m c) (i 0) (gd (i 1)) (ld (i 1)) : EReal)
def dwa (c : Dev nD) : Vec Ideal S4x256x256 .f32 := fun i => (gw (PJ m c) (PS m c) (DY m c) (i 0) (i 1) (i 2) : EReal)
def dsa (c : Dev nD) : Vec Ideal S1x1024 .f32 := fun i => (gps (PJ m c) (PW m c) (DY m c) (gd (i 1)) (ld (i 1)) : EReal)
theorem dxa_apply (c : Dev nD) (R : Fin 4096) (g : Fin 4) (l : Fin 256) : (dxa m c (ix2 R (cg g l)) : EReal) = gxa (PJ m c) (PW m c) (PS m c) (DY m c) R g l := by
  show gxa (PJ m c) (PW m c) (PS m c) (DY m c) R (gd (cg g l)) (ld (cg g l)) = _
  rw [gd_cg, ld_cg]
theorem dza_apply (c : Dev nD) (R : Fin 4096) (g : Fin 4) (l : Fin 256) : (dza m c (ix2 R (cg g l)) : EReal) = gza (PJ m c) (PW m c) (PS m c) (DY m c) R g l := by
  show gza (PJ m c) (PW m c) (PS m c) (DY m c) R (gd (cg g l)) (ld (cg g l)) = _
  rw [gd_cg, ld_cg]
theorem dsa_apply (c : Dev nD) (g : Fin 4) (l : Fin 256) : (dsa m c (ix2 0 (cg g l)) : EReal) = gps (PJ m c) (PW m c) (DY m c) g l := by
  show gps (PJ m c) (PW m c) (DY m c) (gd (cg g l)) (ld (cg g l)) = _
  rw [gd_cg, ld_cg]

/-- One row's part of the matrices' gradient, and of the scale's. -/
def wrow (c : Dev nD) (g : Fin 4) (k l : Fin 256) (R : Fin 4096) : EReal := mix (PJ m c) R g k * dyp (PJ m c) (PS m c) (DY m c) R g l
def srow (c : Dev nD) (g : Fin 4) (l : Fin 256) (R : Fin 4096) : EReal := dyz (PJ m c) (DY m c) R g l * ypre (PJ m c) (PW m c) R g l
/-- The group of the `n`-th point. -/
abbrev gn (n : ℕ) : Fin 4 := ⟨n / 8 % 4, by omega⟩
theorem gn_eq (t : Fin cfg0.N) : gn t.val = gi t := Fin.ext (by have := lt_N t; show t.val / 8 % 4 = t.val / 8; omega)

/-- A tile's part of the matrix's gradient is the sum of its rows' parts. -/
theorem tile10 (c : Dev nD) (t : Fin cfg0.N) (k l : Fin 256) : (k0_pay4 (k0_pay7 (grid0.coords t) (iblk m c 0 t) (iblk m c 1 t)) (k0_pay16 (Scalar.cmpi CmpIPredicate.eq (BitVec.ofNat 32 (grid0.coords t 1).val) 7#32) (k0_pay11 (iblk m c 4 t)) (k0_pay14 (Scalar.cmpi CmpIPredicate.eq (BitVec.ofNat 32 (grid0.coords t 1).val) 7#32) (iblk m c 2 t) (iblk m c 3 t)) (k0_pay15 (iblk m c 5 t)) (Scalar.ofBits .f32 0x00000000#32) (iblk m c 7 t)) (ix3 0 k l) : EReal) = ∑ r : Fin 512, ext (wrow m c (gi t) k l) (512 * (t.val % 8) + r) := by
  rw [pay4_apply]
  refine Finset.sum_congr rfl fun r _ => (congrArg₂ (fun a b : EReal => a * b) (mix_apply m c t r k) (de_apply m c t ⟨r.val, by omega⟩ l)).trans ?_
  rw [ext_of_lt _ (row t r).isLt, ext_of_lt _ (row t r).isLt]
  rfl
/-- A tile's part of the scale's gradient is the sum of its rows' parts. -/
theorem tile11 (c : Dev nD) (t : Fin cfg0.N) (l : Fin 256) : (k0_pay3 (k0_pay8 (k0_pay7 (grid0.coords t) (iblk m c 0 t) (iblk m c 1 t)) (iblk m c 6 t)) (k0_pay13 (iblk m c 2 t) (iblk m c 4 t)) (ix2 0 l) : EReal) = ∑ r : Fin 512, ext (srow m c (gi t) l) (512 * (t.val % 8) + r) := by
  rw [pay3_apply]
  refine Finset.sum_congr rfl fun r _ => (congrArg₂ (fun a b : EReal => a * b) (dz_apply m c t r l) (y_apply m c t r l)).trans ?_
  rw [ext_of_lt _ (row t r).isLt]
  rfl

/-- The matrix's gradient after a point: the rows of the tiles so far. -/
theorem sums10 (c : Dev nD) (k l : Fin 256) (n : ℕ) (h : n < cfg0.N) : ((outsAt0 m c n h).2.2.1 (ix3 0 k l) : EReal) =
    ∑ s ∈ Finset.range (n % 8 + 1), ∑ r : Fin 512, ext (wrow m c (gn (8 * (n / 8) + s)) k l) (512 * ((8 * (n / 8) + s) % 8) + r) := by
  refine run_sum (fun n h => ((outsAt0 m c n h).2.2.1 (ix3 0 k l) : EReal)) (fun s => ∑ r : Fin 512, ext (wrow m c (gn s) k l) (512 * (s % 8) + r)) (fun n h h0 => ?_) (fun n h h0 => ?_) n h
  · refine (congrFun (outs10_A m c ⟨n, h⟩ h0) _).trans ((tile10 m c ⟨n, h⟩ k l).trans ?_)
    rw [← gn_eq]
  · refine (congrFun (outs10_B m c ⟨n + 1, h⟩ h0) _).trans ?_
    rw [pay5_apply, tile10, ← gn_eq]
    rfl

/-- The scale's gradient after a point: the rows of the tiles so far. -/
theorem sums11 (c : Dev nD) (l : Fin 256) (n : ℕ) (h : n < cfg0.N) : ((outsAt0 m c n h).2.2.2 (ix2 0 l) : EReal) =
    ∑ s ∈ Finset.range (n % 8 + 1), ∑ r : Fin 512, ext (srow m c (gn (8 * (n / 8) + s)) l) (512 * ((8 * (n / 8) + s) % 8) + r) := by
  refine run_sum (fun n h => ((outsAt0 m c n h).2.2.2 (ix2 0 l) : EReal)) (fun s => ∑ r : Fin 512, ext (srow m c (gn s) l) (512 * (s % 8) + r)) (fun n h h0 => ?_) (fun n h h0 => ?_) n h
  · refine (congrFun (outs11_A m c ⟨n, h⟩ h0) _).trans ((tile11 m c ⟨n, h⟩ l).trans ?_)
    rw [← gn_eq]
  · refine (congrFun (outs11_B m c ⟨n + 1, h⟩ h0) _).trans ?_
    rw [pay6_apply, tile11, ← gn_eq]
    rfl

/-- The array the kernel leaves: the input's gradient. -/
theorem final8 (c : Dev nD) : (dats m 0 c).arrAt 8 cfg0.N = dxa m c := by
  refine (dats m 0 c).arrAt_eq_of_cover 8 (dxa m c) (fun t hf => ?_) fun i => ?_
  · have hi := (idx_facts t).2.2.2.2.2.2.2.2.1
    have ht := lt_N t
    rw [Value.flushed8]
    funext y
    rw [View.read_apply]
    obtain ⟨r, l, rfl⟩ : ∃ (r : Fin 512) (l : Fin 256), y = ix2 r l := ⟨y 0, y 1, by funext a; match a with | ⟨0, _⟩ => rfl | ⟨1, _⟩ => rfl⟩
    have e : (((cfg0.win 8).blk t).view.emb (ix2 r l) : S4096x1024.Idx) = ix2 (row t r) (cg (gi t) l) := by
      refine Shape.idx_ext₂ ?_ ?_
      · show win0_8.index t 0 * 512 + 1 * r.val = 512 * (t.val % 8) + r.val
        rw [hi]; show (t.val % 8) * 512 + 1 * r.val = 512 * (t.val % 8) + r.val; omega
      · show win0_8.index t 1 * 256 + 1 * l.val = t.val / 8 * 256 + l.val
        rw [hi]; show (t.val / 8) * 256 + 1 * l.val = t.val / 8 * 256 + l.val; omega
    show _ = dxa m c (((cfg0.win 8).blk t).view.emb (ix2 r l))
    rw [e]
    show (outsAt0 m c t.val t.isLt).1 (ix2 r l) = _
    rw [outs8, dx_apply]
    exact (dxa_apply m c _ _ _).symm
  · have hN : cfg0.N = 32 := N_0
    have h0 : (i 0 : ℕ) < 4096 := (i 0).isLt
    have h1 : (i 1 : ℕ) < 1024 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_8 t, ?_⟩
    show i ∈ ((View.whole main_v2_0).slice (win0_8.rect t)).set
    rw [View.set_slice_whole, Rect.mem_set_unit]
    have hi := (idx_facts t).2.2.2.2.2.2.2.2.1
    intro a
    match a with
    | ⟨0, _⟩ =>
      show win0_8.index t 0 * 512 ≤ (i 0 : ℕ) ∧ (i 0 : ℕ) < win0_8.index t 0 * 512 + 512
      rw [hi]; show (t.val % 8) * 512 ≤ (i 0 : ℕ) ∧ (i 0 : ℕ) < (t.val % 8) * 512 + 512; omega
    | ⟨1, _⟩ =>
      show win0_8.index t 1 * 256 ≤ (i 1 : ℕ) ∧ (i 1 : ℕ) < win0_8.index t 1 * 256 + 256
      rw [hi]; show (t.val / 8) * 256 ≤ (i 1 : ℕ) ∧ (i 1 : ℕ) < (t.val / 8) * 256 + 256; omega

/-- The array the kernel leaves: the gate's gradient. -/
theorem final9 (c : Dev nD) : (dats m 0 c).arrAt 9 cfg0.N = dza m c := by
  refine (dats m 0 c).arrAt_eq_of_cover 9 (dza m c) (fun t hf => ?_) fun i => ?_
  · have hi := (idx_facts t).2.2.2.2.2.2.2.2.2.1
    have ht := lt_N t
    rw [Value.flushed9]
    funext y
    rw [View.read_apply]
    obtain ⟨r, l, rfl⟩ : ∃ (r : Fin 512) (l : Fin 256), y = ix2 r l := ⟨y 0, y 1, by funext a; match a with | ⟨0, _⟩ => rfl | ⟨1, _⟩ => rfl⟩
    have e : (((cfg0.win 9).blk t).view.emb (ix2 r l) : S4096x1024.Idx) = ix2 (row t r) (cg (gi t) l) := by
      refine Shape.idx_ext₂ ?_ ?_
      · show win0_9.index t 0 * 512 + 1 * r.val = 512 * (t.val % 8) + r.val
        rw [hi]; show (t.val % 8) * 512 + 1 * r.val = 512 * (t.val % 8) + r.val; omega
      · show win0_9.index t 1 * 256 + 1 * l.val = t.val / 8 * 256 + l.val
        rw [hi]; show (t.val / 8) * 256 + 1 * l.val = t.val / 8 * 256 + l.val; omega
    show _ = dza m c (((cfg0.win 9).blk t).view.emb (ix2 r l))
    rw [e]
    show (outsAt0 m c t.val t.isLt).2.1 (ix2 r l) = _
    rw [outs9, pay12_apply, y_apply, iblk2_apply, iblk4_apply, iblk7_apply, KP_eq, KY_eq, KS_apply]
    exact (dza_apply m c _ _ _).symm
  · have hN : cfg0.N = 32 := N_0
    have h0 : (i 0 : ℕ) < 4096 := (i 0).isLt
    have h1 : (i 1 : ℕ) < 1024 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_9 t, ?_⟩
    show i ∈ ((View.whole main_v2_1).slice (win0_9.rect t)).set
    rw [View.set_slice_whole, Rect.mem_set_unit]
    have hi := (idx_facts t).2.2.2.2.2.2.2.2.2.1
    intro a
    match a with
    | ⟨0, _⟩ =>
      show win0_9.index t 0 * 512 ≤ (i 0 : ℕ) ∧ (i 0 : ℕ) < win0_9.index t 0 * 512 + 512
      rw [hi]; show (t.val % 8) * 512 ≤ (i 0 : ℕ) ∧ (i 0 : ℕ) < (t.val % 8) * 512 + 512; omega
    | ⟨1, _⟩ =>
      show win0_9.index t 1 * 256 ≤ (i 1 : ℕ) ∧ (i 1 : ℕ) < win0_9.index t 1 * 256 + 256
      rw [hi]; show (t.val / 8) * 256 ≤ (i 1 : ℕ) ∧ (i 1 : ℕ) < (t.val / 8) * 256 + 256; omega

/-- The array the kernel leaves: the matrices' gradient. -/
theorem final10 (c : Dev nD) : (dats m 0 c).arrAt 10 cfg0.N = dwa m c := by
  refine (dats m 0 c).arrAt_eq_of_cover 10 (dwa m c) (fun t hf => ?_) fun i => ?_
  · have hi := (idx_facts t).2.2.2.2.2.2.2.2.2.2.1
    have ht := lt_N t
    rw [Value.flushed10]
    funext y
    rw [View.read_apply]
    obtain ⟨k, l, rfl⟩ : ∃ (k : Fin 256) (l : Fin 256), y = ix3 (0 : Fin 1) k l := ⟨y 1, y 2, by funext a; match a with | ⟨0, _⟩ => exact Fin.fin_one_eq_zero _ | ⟨1, _⟩ => rfl | ⟨2, _⟩ => rfl⟩
    have e : (((cfg0.win 10).blk t).view.emb (ix3 (0 : Fin 1) k l) : S4x256x256.Idx) = ix3 (gi t) k l := by
      refine idx3_ext ?_ ?_ ?_
      · show win0_10.index t 0 * 1 + 1 * 0 = t.val / 8
        rw [hi]; show (t.val / 8) * 1 + 1 * 0 = t.val / 8; omega
      · show win0_10.index t 1 * 256 + 1 * k.val = k.val
        rw [hi]; show 0 * 256 + 1 * k.val = k.val; omega
      · show win0_10.index t 2 * 256 + 1 * l.val = l.val
        rw [hi]; show 0 * 256 + 1 * l.val = l.val; omega
    show _ = dwa m c (((cfg0.win 10).blk t).view.emb (ix3 (0 : Fin 1) k l))
    rw [e]
    show ((outsAt0 m c t.val t.isLt).2.2.1 (ix3 0 k l) : EReal) = _
    have h7 := (flush0_10 t).mp hf
    rw [sums10 m c k l t.val t.isLt, show t.val % 8 + 1 = 8 by omega]
    refine ((Finset.sum_congr rfl fun s hs => ?_).trans (sum_tiles (wrow m c (gi t) k l) 8 512 (by norm_num))).trans rfl
    have hs8 := Finset.mem_range.mp hs
    rw [show gn (8 * (t.val / 8) + s) = gi t from Fin.ext (by show (8 * (t.val / 8) + s) / 8 % 4 = t.val / 8; omega),
      show (8 * (t.val / 8) + s) % 8 = s by omega]
  · have hN : cfg0.N = 32 := N_0
    have h0 : (i 0 : ℕ) < 4 := (i 0).isLt
    have h1 : (i 1 : ℕ) < 256 := (i 1).isLt
    have h2 : (i 2 : ℕ) < 256 := (i 2).isLt
    obtain ⟨t, ht⟩ : ∃ t : Fin cfg0.N, t.val = 8 * (i 0 : ℕ) + 7 := ⟨⟨8 * (i 0 : ℕ) + 7, by omega⟩, rfl⟩
    refine ⟨t, (flush0_10 t).mpr (by omega), ?_⟩
    show i ∈ ((View.whole main_v2_2).slice (win0_10.rect t)).set
    rw [View.set_slice_whole, Rect.mem_set_unit]
    have hi := (idx_facts t).2.2.2.2.2.2.2.2.2.2.1
    intro a
    match a with
    | ⟨0, _⟩ =>
      show win0_10.index t 0 * 1 ≤ (i 0 : ℕ) ∧ (i 0 : ℕ) < win0_10.index t 0 * 1 + 1
      rw [hi]; show (t.val / 8) * 1 ≤ (i 0 : ℕ) ∧ (i 0 : ℕ) < (t.val / 8) * 1 + 1; omega
    | ⟨1, _⟩ =>
      show win0_10.index t 1 * 256 ≤ (i 1 : ℕ) ∧ (i 1 : ℕ) < win0_10.index t 1 * 256 + 256
      rw [hi]; show 0 * 256 ≤ (i 1 : ℕ) ∧ (i 1 : ℕ) < 0 * 256 + 256; omega
    | ⟨2, _⟩ =>
      show win0_10.index t 2 * 256 ≤ (i 2 : ℕ) ∧ (i 2 : ℕ) < win0_10.index t 2 * 256 + 256
      rw [hi]; show 0 * 256 ≤ (i 2 : ℕ) ∧ (i 2 : ℕ) < 0 * 256 + 256; omega

/-- The array the kernel leaves: the scale's gradient. -/
theorem final11 (c : Dev nD) : (dats m 0 c).arrAt 11 cfg0.N = dsa m c := by
  refine (dats m 0 c).arrAt_eq_of_cover 11 (dsa m c) (fun t hf => ?_) fun i => ?_
  · have hi := (idx_facts t).2.2.2.2.2.2.2.2.2.2.2
    have ht := lt_N t
    rw [Value.flushed11]
    funext y
    rw [View.read_apply]
    obtain ⟨l, rfl⟩ : ∃ (l : Fin 256), y = ix2 (0 : Fin 1) l := ⟨y 1, by funext a; match a with | ⟨0, _⟩ => exact Fin.fin_one_eq_zero _ | ⟨1, _⟩ => rfl⟩
    have e : (((cfg0.win 11).blk t).view.emb (ix2 (0 : Fin 1) l) : S1x1024.Idx) = ix2 0 (cg (gi t) l) := by
      refine Shape.idx_ext₂ ?_ ?_
      · show win0_11.index t 0 * 1 + 1 * 0 = 0
        rw [hi]; show 0 * 1 + 1 * 0 = 0; omega
      · show win0_11.index t 1 * 256 + 1 * l.val = t.val / 8 * 256 + l.val
        rw [hi]; show (t.val / 8) * 256 + 1 * l.val = t.val / 8 * 256 + l.val; omega
    show _ = dsa m c (((cfg0.win 11).blk t).view.emb (ix2 (0 : Fin 1) l))
    rw [e]
    show ((outsAt0 m c t.val t.isLt).2.2.2 (ix2 0 l) : EReal) = _
    have h7 := (flush0_11 t).mp hf
    rw [sums11 m c l t.val t.isLt, show t.val % 8 + 1 = 8 by omega]
    refine ((Finset.sum_congr rfl fun s hs => ?_).trans (sum_tiles (srow m c (gi t) l) 8 512 (by norm_num))).trans (dsa_apply m c _ _).symm
    have hs8 := Finset.mem_range.mp hs
    rw [show gn (8 * (t.val / 8) + s) = gi t from Fin.ext (by show (8 * (t.val / 8) + s) / 8 % 4 = t.val / 8; omega),
      show (8 * (t.val / 8) + s) % 8 = s by omega]
  · have hN : cfg0.N = 32 := N_0
    have h0 : (i 0 : ℕ) < 1 := (i 0).isLt
    have h1 : (i 1 : ℕ) < 1024 := (i 1).isLt
    obtain ⟨t, ht⟩ : ∃ t : Fin cfg0.N, t.val = 8 * ((i 1 : ℕ) / 256) + 7 := ⟨⟨8 * ((i 1 : ℕ) / 256) + 7, by omega⟩, rfl⟩
    refine ⟨t, (flush0_11 t).mpr (by omega), ?_⟩
    show i ∈ ((View.whole main_v2_3).slice (win0_11.rect t)).set
    rw [View.set_slice_whole, Rect.mem_set_unit]
    have hi := (idx_facts t).2.2.2.2.2.2.2.2.2.2.2
    intro a
    match a with
    | ⟨0, _⟩ =>
      show win0_11.index t 0 * 1 ≤ (i 0 : ℕ) ∧ (i 0 : ℕ) < win0_11.index t 0 * 1 + 1
      rw [hi]; show 0 * 1 ≤ (i 0 : ℕ) ∧ (i 0 : ℕ) < 0 * 1 + 1; omega
    | ⟨1, _⟩ =>
      show win0_11.index t 1 * 256 ≤ (i 1 : ℕ) ∧ (i 1 : ℕ) < win0_11.index t 1 * 256 + 256
      rw [hi]; show (t.val / 8) * 256 ≤ (i 1 : ℕ) ∧ (i 1 : ℕ) < (t.val / 8) * 256 + 256; omega

end Cert.PoolBwdIdeal.Hand

namespace Cert.PoolBwdRefIdeal.Hand

open Cert.PoolBwdRefIdeal Cert.PoolBwdRefIdeal.Gen Cert.PoolBwdRefIdeal.Read Cert.PoolBwdIdeal.Hand Cert.Common

variable (m : (ℓ : Loc Cert.PoolBwdIdeal.nD Cert.PoolBwdIdeal.τ Cert.PoolBwdIdeal.sig) → Buf (Elt Ideal) ℓ) (c : Dev Cert.PoolBwdIdeal.nD)
  (h0 : ∀ i, IsR (PJ m c i)) (h1 : ∀ i, IsR (PW m c i)) (h2 : ∀ i, IsR (PS m c i)) (h3 : ∀ i, IsR (DY m c i))

include h0 h1 h2 h3

/-- The reference's gradient of the input is the kernel's. -/
theorem ref197 : val_main_v197 (F := Ideal) (PJ m c) (PW m c) (PS m c) (DY m c) = dxa m c := by
  funext i
  obtain ⟨R, C, rfl⟩ : ∃ (R : Fin 4096) (C : Fin 1024), i = ix2 R C := ⟨i 0, i 1, eq_ix2 i⟩
  rw [← cg_gd C]
  refine (v197_eq _ _ _ _ (isR_dm _ _ _ _ h0 h1 h2 h3) R _ _).trans (dxa_apply m c _ _ _).symm

/-- The reference's gradient of the gate is the kernel's. -/
theorem ref198 : val_main_v198 (F := Ideal) (PJ m c) (PW m c) (PS m c) (DY m c) = dza m c := by
  funext i
  obtain ⟨R, C, rfl⟩ : ∃ (R : Fin 4096) (C : Fin 1024), i = ix2 R C := ⟨i 0, i 1, eq_ix2 i⟩
  rw [← cg_gd C]
  refine (gza_eq _ _ _ _ h0 h1 h2 h3 _ _ R).trans (dza_apply m c _ _ _).symm

omit h1 h2 h3
/-- The reference's gradient of the matrices is the kernel's. -/
theorem ref147 : val_main_v147 (F := Ideal) (PJ m c) (PS m c) (DY m c) = dwa m c := by
  funext i
  obtain ⟨g, k, l, rfl⟩ : ∃ (g : Fin 4) (k l : Fin 256), i = ix3 g k l := ⟨i 0, i 1, i 2, eq_ix3 i⟩
  exact v147_eq _ _ _ h0 g k l
/-- The reference's gradient of the scale is the kernel's. -/
theorem ref199 : val_main_v199 (F := Ideal) (PJ m c) (PW m c) (DY m c) = dsa m c := by
  funext i
  obtain ⟨z, C, rfl⟩ : ∃ (z : Fin 1) (C : Fin 1024), i = ix2 z C := ⟨i 0, i 1, eq_ix2 i⟩
  rw [Fin.fin_one_eq_zero z, ← cg_gd C]
  exact (v199_eq _ _ _ h0 _ _).trans (dsa_apply m c _ _).symm
omit h0
/-- What the precondition says of the arguments. -/
theorem finite_args (x0 : FVec Ideal S4096x14336 .bf16) (x1 : FVec Ideal S4x256x256 .f32) (x2 : FVec Ideal S1024 .f32) (x3 : FVec Ideal S4096x1024 .bf16)
    (h : Cert.Pre_finite_pool.fn (F := Ideal) x0 x1 x2 x3 = fun _ => 1#1) : (∀ i, IsR (x0 i)) ∧ (∀ i, IsR (x1 i)) ∧ (∀ i, IsR (x2 i)) ∧ ∀ i, IsR (x3 i) := by
  have h0 := congrFun h ix0
  unfold Cert.Pre_finite_pool.fn at h0
  have h1 := and_one h0
  have h2 := and_one h1.1
  have h3 := and_one h2.1
  exact ⟨fun i => real_of_reduce (extf .f32 x0 bitsLt_bf16_f32) _ (fun _ => rfl) _ _ _ _ h3.1 i, fun i => real_of_reduce x1 _ (fun _ => rfl) _ _ _ _ h3.2 i,
    fun i => real_of_reduce x2 _ (fun _ => rfl) _ _ _ _ h2.2 i, fun i => real_of_reduce (extf .f32 x3 bitsLt_bf16_f32) _ (fun _ => rfl) _ _ _ _ h1.2 i⟩

end Cert.PoolBwdRefIdeal.Hand

namespace Cert.Proof

open Cert.PoolBwdIdeal.Hand Cert.PoolBwdRefIdeal.Hand

/-- The gradients of the multiscale pool: the kernel's four arrays are the reference's, of finite arguments. -/
theorem pool_bwd : Cert.algebraic_PoolBwdIdeal_PoolBwdRefIdeal_pre_finite_pool := by
  intro m g m' g' hpre hagree
  refine ⟨dxa m, dza m, dwa m, dsa m, ?_, ?_⟩
  · refine (θ_run _ _ _).mono (fun r h c => ?_) (Cert.PoolBwdIdeal.Value.run_blocks (F := Ideal) m g)
    exact ⟨(h c).1.trans (final8 m c), (h c).2.1.trans (final9 m c), (h c).2.2.1.trans (final10 m c), (h c).2.2.2.1.trans (final11 m c), (h c).2.2.2.2⟩
  · refine (θ_run _ _ _).mono (fun r h c => ?_) (Cert.PoolBwdRefIdeal.Value.run (F := Ideal) m' g')
    have hf := finite_args _ _ _ _ (hpre c)
    obtain ⟨a0, a1, a2, a3⟩ := hagree c
    refine ⟨(h c).1.trans ((Cert.PoolBwdRefIdeal.Read.val_main_v197_eq (F := Ideal) _).trans ?_), (h c).2.1.trans ((Cert.PoolBwdRefIdeal.Read.val_main_v198_eq (F := Ideal) _).trans ?_),
      (h c).2.2.1.trans ((Cert.PoolBwdRefIdeal.Read.val_main_v147_eq (F := Ideal) _).trans ?_), (h c).2.2.2.1.trans ((Cert.PoolBwdRefIdeal.Read.val_main_v199_eq (F := Ideal) _).trans ?_), (h c).2.2.2.2⟩
    · refine Eq.trans ?_ (ref197 m c hf.1 hf.2.1 hf.2.2.1 hf.2.2.2)
      exact congr (congr (congr (congrArg (Cert.PoolBwdRefIdeal.Read.val_main_v197 (F := Ideal)) a0) a1) a2) a3
    · refine Eq.trans ?_ (ref198 m c hf.1 hf.2.1 hf.2.2.1 hf.2.2.2)
      exact congr (congr (congr (congrArg (Cert.PoolBwdRefIdeal.Read.val_main_v198 (F := Ideal)) a0) a1) a2) a3
    · refine Eq.trans ?_ (ref147 m c hf.1)
      exact congr (congr (congrArg (Cert.PoolBwdRefIdeal.Read.val_main_v147 (F := Ideal)) a0) a2) a3
    · refine Eq.trans ?_ (ref199 m c hf.1)
      exact congr (congr (congrArg (Cert.PoolBwdRefIdeal.Read.val_main_v199 (F := Ideal)) a0) a1) a3

end Cert.Proof

end
-- ==== Proof.AttnFwdTrip.lean ====
module

public import proofs.«01_k».proof.Proof.Gen.AttnFwdIdeal.Frame
public import proofs.«01_k».proof.Proof.Gen.AttnFwdIdeal.Loops
public import proofs.«01_k».proof.Proof.Gen.AttnFwdIdeal.Points
public import Idealize.ShloMosaic.Lib.VecWindow
public import Idealize.ShloMosaic.Lib.Tactic

@[expose] public section

set_option maxRecDepth 16384

noncomputable section

namespace Cert.AttnFwdIdeal.Hand

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Where the body reads -/

/-- The loop runs once for every two key blocks before the diagonal one. -/
theorem trips1 : ∀ i : grid0.Coords, (k0_t1_loop i).trips = (i 1).val / 2 := by decide +kernel
/-- The remainder loop never runs. -/
theorem trips2 : ∀ i : grid0.Coords, (k0_t2_loop i).trips = 0 := by decide +kernel
/-- The last branch runs at the odd tiles. -/
theorem cond_odd : ∀ i : grid0.Coords, k0_cond1 i = 1#1 ↔ (i 1).val % 2 = 1 := by decide +kernel

theorem off1_eq : ∀ i : grid0.Coords, k0_off1 i = ![512 * (i 1).val, 0] := by decide +kernel
theorem off2_eq : ∀ i : grid0.Coords, k0_off2 i = ![512 * (i 1).val, 0] := by decide +kernel
theorem off3_eq : ∀ i : grid0.Coords, k0_off3 i = ![512 * (i 1).val, 128] := by decide +kernel
theorem off4_eq : ∀ i : grid0.Coords, k0_off4 i = ![512 * (i 1).val, 128] := by decide +kernel
theorem off5_a : ∀ (i : grid0.Coords) (k : Fin (k0_t1_loop i).trips), k0_off5 i k 1#32 = ![512 * ((i 1).val - 1 - 2 * k.val), 0] := by decide +kernel
theorem off5_b : ∀ (i : grid0.Coords) (k : Fin (k0_t1_loop i).trips), k0_off5 i k 2#32 = ![512 * ((i 1).val - 2 - 2 * k.val), 0] := by decide +kernel
theorem off6_a : ∀ (i : grid0.Coords) (k : Fin (k0_t1_loop i).trips), k0_off6 i k 1#32 = ![512 * ((i 1).val - 1 - 2 * k.val), 128] := by decide +kernel
theorem off6_b : ∀ (i : grid0.Coords) (k : Fin (k0_t1_loop i).trips), k0_off6 i k 2#32 = ![512 * ((i 1).val - 2 - 2 * k.val), 128] := by decide +kernel

/-! ## Blocks of the arrays -/

/-- A block number, from a counter. -/
abbrev fin8 (n : ℕ) : Fin 8 := ⟨n % 8, Nat.mod_lt _ (by decide)⟩

/-- The rectangle of one head's lanes in one block of 512 rows lies within the array. -/
theorem blk_inb (n : Fin 8) (h : Fin 2) : ∀ a, (![512 * n.val, 128 * h.val] : Fin 2 → ℕ) a + S512x128.size a ≤ S4096x256.size a := by
  revert n h; decide
/-- Block `n`'s rows of head `h`'s lanes. -/
abbrev blk {α : Type} (x : S4096x256.Idx → α) (n : Fin 8) (h : Fin 2) : S512x128.Idx → α :=
  VecWindow.window x ![512 * n.val, 128 * h.val] S512x128.size (blk_inb n h)
theorem win_inb (n : Fin 8) (h : Fin 2) : ∀ a, (![512 * n.val, 128 * h.val] : Fin 2 → ℕ) a + S256x128.size a ≤ S4096x256.size a := by
  revert n h; decide
/-- The first 256 of block `n`'s rows, of head `h`'s lanes. -/
abbrev win {α : Type} (x : S4096x256.Idx → α) (n : Fin 8) (h : Fin 2) : S256x128.Idx → α :=
  VecWindow.window x ![512 * n.val, 128 * h.val] S256x128.size (win_inb n h)
theorem half_inb (h : Fin 2) : ∀ a, (![0, 128 * h.val] : Fin 2 → ℕ) a + S512x128.size a ≤ S512x256.size a := by
  revert h; decide
/-- One head's lanes of a query tile. -/
abbrev half {α : Type} (x : S512x256.Idx → α) (h : Fin 2) : S512x128.Idx → α :=
  VecWindow.window x ![0, 128 * h.val] S512x128.size (half_inb h)

/-- A load at an offset that is a block's corner reads that block. -/
theorem load_blk {e : EltTy} {sp : Space} (M : Memref sig .tc sp S4096x256 e) (f : M.view.ty.Contents (Elt F)) {off : Fin 2 → ℕ}
    (inb : ∀ a, off a + S512x128.size a ≤ S4096x256.size a) (n : Fin 8) (h : Fin 2) (e' : off = ![512 * n.val, 128 * h.val]) :
    M.view.readAt (Elt F) (Rect.unit (s := S4096x256) off S512x128.size inb).toLoadRect f = blk (M.view.read (Elt F) f) n h :=
  View.readAt_unit M.view f inb e' (blk_inb n h)
/-- Likewise for the first half of a block. -/
theorem load_win {e : EltTy} {sp : Space} (M : Memref sig .tc sp S4096x256 e) (f : M.view.ty.Contents (Elt F)) {off : Fin 2 → ℕ}
    (inb : ∀ a, off a + S256x128.size a ≤ S4096x256.size a) (n : Fin 8) (h : Fin 2) (e' : off = ![512 * n.val, 128 * h.val]) :
    M.view.readAt (Elt F) (Rect.unit (s := S4096x256) off S256x128.size inb).toLoadRect f = win (M.view.read (Elt F) f) n h :=
  View.readAt_unit M.view f inb e' (win_inb n h)
/-- Likewise for one head's lanes of a tile. -/
theorem load_half {e : EltTy} {sp : Space} (M : Memref sig .tc sp S512x256 e) (f : M.view.ty.Contents (Elt F)) {off : Fin 2 → ℕ}
    (inb : ∀ a, off a + S512x128.size a ≤ S512x256.size a) (h : Fin 2) (e' : off = ![0, 128 * h.val]) :
    M.view.readAt (Elt F) (Rect.unit (s := S512x256) off S512x128.size inb).toLoadRect f = half (M.view.read (Elt F) f) h :=
  View.readAt_unit M.view f inb e' (half_inb h)

/-! ## One head's sweep over the key blocks, as functions of its values -/

/-- What a head carries: its output's rows, and the running sum of softplus. -/
abbrev Hd (F : FTy → Type) [FloatOps F] : Type := FVec F S512x128 .f32 × FVec F S512x1 .f32

/-- One key block. -/
def stepH (q : FVec F S512x128 .bf16) (t : FVec F S256x256 .bf16) (k v : FVec F S512x128 .bf16) (p : Hd F) : Hd F :=
  (k0_pay14 p.1 (k0_pay13 q t p.2 k) v, k0_pay12 q t p.2 k)

/-- The row numbers of the diagonal's upper half. -/
abbrev rows : IVec S256x256 32 := iota .tc S256x256 32 [0] iota_S256x256_d0_w32

/-- The diagonal block: its first 256 rows see the first half of the keys, the others all of them. -/
def diagH (q : FVec F S512x128 .bf16) (t : FVec F S256x256 .bf16) (kA vA : FVec F S256x128 .bf16) (kB vB : FVec F S512x128 .bf16) : Hd F :=
  (k0_pay102 t (k0_pay89 q t k0_pay81 k0_pay82 rows 0#32 kA vA) (k0_pay90 k0_pay79) (k0_pay91 k0_pay80) k0_pay92 (k0_pay93 q) kB vB,
    k0_pay103 t (k0_pay88 q t k0_pay82 rows 0#32 kA) (k0_pay91 k0_pay80) k0_pay92 (k0_pay93 q) kB)

/-- The sweep of tile `n`: the diagonal block, then `j` blocks downwards. -/
def sweepH (q : FVec F S512x128 .bf16) (t : FVec F S256x256 .bf16) (x3 x4 : FVec F S4096x256 .bf16) (h : Fin 2) (n : ℕ) (p : Hd F) : ℕ → Hd F
  | 0 => p
  | j + 1 => stepH q t (blk x3 (fin8 (n - 1 - j)) h) (blk x4 (fin8 (n - 1 - j)) h) (sweepH q t x3 x4 h n p j)

/-- What the loop carries: both heads. -/
abbrev Carry (F : FTy → Type) [FloatOps F] : Type := FVec F S512x128 .f32 × FVec F S512x1 .f32 × FVec F S512x128 .f32 × FVec F S512x1 .f32
/-- Two heads, as the loop carries them. -/
abbrev pair (a b : Hd F) : Carry F := (a.1, a.2, b.1, b.2)

section Loop

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .bf16) (harg5 : arg5.IsWhole)
  (arg6 : Memref sig .tc .vmem S512x256 .bf16) (harg6 : arg6.IsWhole) (arg7 : Memref sig .tc .vmem S512x256 .bf16) (harg7 : arg7.IsWhole)
  (arg8 : Memref sig .tc .vmem S512x256 .f32) (harg8 : arg8.IsWhole)
  (v4 v9 : FVec F S512x128 .bf16) (v16 : FVec F S256x256 .bf16) (v19 : BitVec 32) (v30 : BitVec 1)
  (v130 : FVec F S512x128 .f32) (v131 : FVec F S512x1 .f32) (v228 : FVec F S512x128 .f32) (v229 : FVec F S512x1 .f32) (c2 v230 : BitVec 32)
  (X3 : BufTy.Contents (Elt F) arg3.view.ty) (X4 : BufTy.Contents (Elt F) arg4.view.ty)

/-- One trip is two key blocks of each head. -/
theorem trip_eq (k : Fin (k0_t1_loop i).trips) (a b : Hd F) :
    tripR_k0_t1 (F := F) Variants.none c none i arg2 harg2 arg3 harg3 arg4 harg4 arg5 harg5 arg6 harg6 arg7 harg7 arg8 harg8 v4 v9 v16 v19 v30 v130 v131 v228 v229 c2 v230 X3 X4 k (pair a b)
      = pair
        (stepH v4 v16 (arg3.view.readAt (Elt F) (Rect.unit (s := S4096x256) (k0_off5 i k 2#32) S512x128.size (k0_off5_inb i k 1)).toLoadRect X3)
            (arg4.view.readAt (Elt F) (Rect.unit (s := S4096x256) (k0_off5 i k 2#32) S512x128.size (k0_off5_inb i k 1)).toLoadRect X4)
          (stepH v4 v16 (arg3.view.readAt (Elt F) (Rect.unit (s := S4096x256) (k0_off5 i k 1#32) S512x128.size (k0_off5_inb i k 0)).toLoadRect X3)
            (arg4.view.readAt (Elt F) (Rect.unit (s := S4096x256) (k0_off5 i k 1#32) S512x128.size (k0_off5_inb i k 0)).toLoadRect X4) a))
        (stepH v9 v16 (arg3.view.readAt (Elt F) (Rect.unit (s := S4096x256) (k0_off6 i k 2#32) S512x128.size (k0_off6_inb i k 1)).toLoadRect X3)
            (arg4.view.readAt (Elt F) (Rect.unit (s := S4096x256) (k0_off6 i k 2#32) S512x128.size (k0_off6_inb i k 1)).toLoadRect X4)
          (stepH v9 v16 (arg3.view.readAt (Elt F) (Rect.unit (s := S4096x256) (k0_off6 i k 1#32) S512x128.size (k0_off6_inb i k 0)).toLoadRect X3)
            (arg4.view.readAt (Elt F) (Rect.unit (s := S4096x256) (k0_off6 i k 1#32) S512x128.size (k0_off6_inb i k 0)).toLoadRect X4) b)) := by
  unfold tripR_k0_t1 trip_k0_t1
  rfl

theorem trip_lt (k : Fin (k0_t1_loop i).trips) : 2 * k.val + 2 ≤ (i 1).val ∧ (i 1).val < 8 := by
  have h1 := k.isLt
  have h2 := trips1 i
  have h3 : (i 1).val < 8 := (i 1).isLt
  omega

/-- The loop's carried values before trip `k` are the sweeps' after `2 k` blocks. -/
theorem state_eq (a b : Hd F) (k : ℕ) (hk : k ≤ (k0_t1_loop i).trips) :
    st_k0_t1 (F := F) Variants.none c none i arg2 harg2 arg3 harg3 arg4 harg4 arg5 harg5 arg6 harg6 arg7 harg7 arg8 harg8 v4 v9 v16 v19 v30 v130 v131 v228 v229 c2 v230 X3 X4 (pair a b) k
      = pair (sweepH v4 v16 (arg3.view.read (Elt F) X3) (arg4.view.read (Elt F) X4) 0 (i 1).val a (2 * k))
          (sweepH v9 v16 (arg3.view.read (Elt F) X3) (arg4.view.read (Elt F) X4) 1 (i 1).val b (2 * k)) := by
  induction k with
  | zero => exact st_k0_t1_zero (F := F) ..
  | succ k ih =>
    have hlt : k < (k0_t1_loop i).trips := hk
    obtain ⟨h1, h2⟩ := trip_lt i ⟨k, hlt⟩
    dsimp only at h1
    have e1 : (fin8 ((i 1).val - 1 - 2 * k)).val = (i 1).val - 1 - 2 * k := by show ((i 1).val - 1 - 2 * k) % 8 = _; omega
    have e2 : (fin8 ((i 1).val - 1 - (2 * k + 1))).val = (i 1).val - 2 - 2 * k := by show ((i 1).val - 1 - (2 * k + 1)) % 8 = _; omega
    have o5a : k0_off5 i ⟨k, hlt⟩ 1#32 = ![512 * (fin8 ((i 1).val - 1 - 2 * k)).val, 128 * (0 : Fin 2).val] := by rw [e1]; exact off5_a i ⟨k, hlt⟩
    have o5b : k0_off5 i ⟨k, hlt⟩ 2#32 = ![512 * (fin8 ((i 1).val - 1 - (2 * k + 1))).val, 128 * (0 : Fin 2).val] := by rw [e2]; exact off5_b i ⟨k, hlt⟩
    have o6a : k0_off6 i ⟨k, hlt⟩ 1#32 = ![512 * (fin8 ((i 1).val - 1 - 2 * k)).val, 128 * (1 : Fin 2).val] := by rw [e1]; exact off6_a i ⟨k, hlt⟩
    have o6b : k0_off6 i ⟨k, hlt⟩ 2#32 = ![512 * (fin8 ((i 1).val - 1 - (2 * k + 1))).val, 128 * (1 : Fin 2).val] := by rw [e2]; exact off6_b i ⟨k, hlt⟩
    refine (st_k0_t1_succ (F := F) (k := ⟨k, hlt⟩) ..).trans ?_
    rw [show (⟨k, hlt⟩ : Fin (k0_t1_loop i).trips).val = k from rfl, ih (Nat.le_of_lt hlt), trip_eq,
      load_blk arg3 X3 _ _ _ o5a, load_blk arg3 X3 _ _ _ o5b, load_blk arg3 X3 _ _ _ o6a, load_blk arg3 X3 _ _ _ o6b,
      load_blk arg4 X4 _ _ _ o5a, load_blk arg4 X4 _ _ _ o5b, load_blk arg4 X4 _ _ _ o6a, load_blk arg4 X4 _ _ _ o6b]
    rfl

end Loop

end Cert.AttnFwdIdeal.Hand

end
-- ==== Proof.AttnFwdBody.lean ====
module

public import proofs.«01_k».proof.Proof.AttnFwdTrip
public import Idealize.ShloMosaic.Lib.Pointwise

@[expose] public section

set_option maxRecDepth 16384

noncomputable section

namespace Cert.AttnFwdIdeal.Hand

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The body's results, as functions of its inputs -/

/-- Two heads' lanes side by side. -/
def cat2 {α : Type} (a b : S512x128.Idx → α) : S512x256.Idx → α :=
  fun y => if h : (y 1).val < 128 then a (ix2 (n0 := 512) (n1 := 128) ⟨(y 0).val, (y 0).isLt⟩ ⟨(y 1).val, h⟩)
    else b (ix2 (n0 := 512) (n1 := 128) ⟨(y 0).val, (y 0).isLt⟩ ⟨(y 1).val - 128, by have h1 : (y 1).val < 256 := (y 1).isLt; omega⟩)

theorem read_cat2 {e : EltTy} (M : Memref sig .tc .vmem S512x256 e) (f : M.view.ty.Contents (Elt F)) (a b : S512x128.Idx → Elt F e) :
    M.view.read (Elt F) (M.view.writes (Elt F) f [⟨Rect.unit (s := S512x256) ![0, 128] S512x128.size inb_S512x256_S512x128_0_128, b⟩,
      ⟨Rect.unit (s := S512x256) ![0, 0] S512x128.size inb_S512x256_S512x128_0_0, a⟩]) = cat2 a b := by
  have e1 := View.read_writes_cons_put M.view f inb_S512x256_S512x128_0_128 b [⟨Rect.unit (s := S512x256) ![0, 0] S512x128.size inb_S512x256_S512x128_0_0, a⟩] rfl
  have e2 := View.read_writes_cons_put M.view f inb_S512x256_S512x128_0_0 a [] rfl
  rw [e1, e2]
  funext y
  have h0 : (y 0).val < 512 := (y 0).isLt
  have h1 : (y 1).val < 256 := (y 1).isLt
  unfold cat2 VecWindow.put
  by_cases h : (y 1).val < 128
  · rw [dif_neg (by intro hh; have := (hh 1).1; simp at this; omega), dif_pos (by intro k; fin_cases k <;> simp <;> omega), dif_pos h]
    refine congrArg a (funext fun k => Fin.ext ?_)
    fin_cases k <;> rfl
  · rw [dif_pos (by intro k; fin_cases k <;> simp <;> omega), dif_neg h]
    refine congrArg b (funext fun k => Fin.ext ?_)
    fin_cases k <;> rfl

section Outs
variable (x2 : FVec F S512x256 .bf16) (x3 x4 : FVec F S4096x256 .bf16) (x5 : FVec F S512x256 .bf16)

/-- Head `h`'s scaled queries. -/
abbrev qOf (h : Fin 2) : FVec F S512x128 .bf16 := k0_pay76 (half x2 h)
/-- Head `h` after tile `n`'s diagonal block. -/
def startH (h : Fin 2) (n : ℕ) : Hd F :=
  diagH (qOf x2 h) k0_pay78 (win x3 (fin8 n) h) (win x4 (fin8 n) h) (blk x3 (fin8 n) h) (blk x4 (fin8 n) h)
/-- Head `h` after `j` further blocks. -/
def atH (h : Fin 2) (n j : ℕ) : Hd F := sweepH (qOf x2 h) k0_pay78 x3 x4 h n (startH x2 x3 x4 h n) j

/-- The attention's output tile. -/
def outO (n : ℕ) : FVec F S512x256 .bf16 := cat2 (k0_pay151 (atH x2 x3 x4 0 n n).1) (k0_pay151 (atH x2 x3 x4 1 n n).1)
/-- The gated output's tile. -/
def outY (n : ℕ) : FVec F S512x256 .bf16 := cat2 (k0_pay4 (atH x2 x3 x4 0 n n).1 (half x5 0)) (k0_pay4 (atH x2 x3 x4 1 n n).1 (half x5 1))
/-- The rows' totals, spread over the lanes. -/
def outT (n : ℕ) : FVec F S512x256 .f32 := cat2 (k0_pay152 (atH x2 x3 x4 0 n n).2) (k0_pay152 (atH x2 x3 x4 1 n n).2)
end Outs

section Fin

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .bf16) (harg5 : arg5.IsWhole)
  (arg6 : Memref sig .tc .vmem S512x256 .bf16) (harg6 : arg6.IsWhole) (arg7 : Memref sig .tc .vmem S512x256 .bf16) (harg7 : arg7.IsWhole)
  (arg8 : Memref sig .tc .vmem S512x256 .f32) (harg8 : arg8.IsWhole)
  (x2 : FVec F S512x256 .bf16) (x3 x4 : FVec F S4096x256 .bf16)

/-- The whole tile's load of one head's lanes. -/
abbrev ldq (M : Memref sig .tc .vmem S512x256 .bf16) (f : M.view.ty.Contents (Elt F)) (h : Fin 2) : FVec F S512x128 .bf16 :=
  M.view.readAt (Elt F) (Rect.unit (s := S512x256) ![0, 128 * h.val] S512x128.size (half_inb h)).toLoadRect f
/-- A load of 512 rows. -/
abbrev ldB (M : Memref sig .tc .vmem S4096x256 .bf16) (f : M.view.ty.Contents (Elt F)) (off : Fin 2 → ℕ) (inb : ∀ a, off a + S512x128.size a ≤ S4096x256.size a) : FVec F S512x128 .bf16 :=
  M.view.readAt (Elt F) (Rect.unit (s := S4096x256) off S512x128.size inb).toLoadRect f
/-- A load of 256 rows. -/
abbrev ldA (M : Memref sig .tc .vmem S4096x256 .bf16) (f : M.view.ty.Contents (Elt F)) (off : Fin 2 → ℕ) (inb : ∀ a, off a + S256x128.size a ≤ S4096x256.size a) : FVec F S256x128 .bf16 :=
  M.view.readAt (Elt F) (Rect.unit (s := S4096x256) off S256x128.size inb).toLoadRect f

/-- A head after the diagonal block, as the body loads it. -/
abbrev rawStart (h : Fin 2) (oA oB : Fin 2 → ℕ) (iA : ∀ a, oA a + S256x128.size a ≤ S4096x256.size a) (iB : ∀ a, oB a + S512x128.size a ≤ S4096x256.size a) : Hd F :=
  diagH (k0_pay76 (ldq arg2 (harg2.unread x2) h)) k0_pay78 (ldA arg3 (harg3.unread x3) oA iA) (ldA arg4 (harg4.unread x4) oA iA)
    (ldB arg3 (harg3.unread x3) oB iB) (ldB arg4 (harg4.unread x4) oB iB)

theorem rawStart_eq (h : Fin 2) (n : Fin 8) (oA oB : Fin 2 → ℕ) (iA iB) (eA : oA = ![512 * n.val, 128 * h.val]) (eB : oB = ![512 * n.val, 128 * h.val]) :
    rawStart arg2 harg2 arg3 harg3 arg4 harg4 x2 x3 x4 h oA oB iA iB = startH x2 x3 x4 h n.val := by
  have e : fin8 n.val = n := Fin.ext (Nat.mod_eq_of_lt n.isLt)
  unfold rawStart startH ldA ldB ldq
  rw [load_half arg2 _ _ h rfl, load_win arg3 _ _ n h eA, load_win arg4 _ _ n h eA, load_blk arg3 _ _ n h eB, load_blk arg4 _ _ n h eB, e,
    harg2.read_unread, harg3.read_unread, harg4.read_unread]

/-- What the loops leave, from what the diagonal blocks left. -/
theorem loops_eq (v19 : BitVec 32) (v30 : BitVec 1) (v130 : FVec F S512x128 .f32) (v131 : FVec F S512x1 .f32) (v228 : FVec F S512x128 .f32) (v229 : FVec F S512x1 .f32)
    (c2 v230 v251 : BitVec 32) (i1 i2 i3 i4) :
    st_k0_t2 (F := F) Variants.none c none i arg2 harg2 arg3 harg3 arg4 harg4 arg5 harg5 arg6 harg6 arg7 harg7 arg8 harg8 (k0_pay76 (ldq arg2 (harg2.unread x2) 0)) (k0_pay76 (ldq arg2 (harg2.unread x2) 1)) k0_pay78 v19 v30 v130 v131 v228 v229 c2 v230 v251 (harg3.unread x3) (harg4.unread x4)
      (st_k0_t1 (F := F) Variants.none c none i arg2 harg2 arg3 harg3 arg4 harg4 arg5 harg5 arg6 harg6 arg7 harg7 arg8 harg8 (k0_pay76 (ldq arg2 (harg2.unread x2) 0)) (k0_pay76 (ldq arg2 (harg2.unread x2) 1)) k0_pay78 v19 v30 v130 v131 v228 v229 c2 v230 (harg3.unread x3) (harg4.unread x4)
        (pair (rawStart arg2 harg2 arg3 harg3 arg4 harg4 x2 x3 x4 0 (k0_off1 i) (k0_off2 i) i1 i2) (rawStart arg2 harg2 arg3 harg3 arg4 harg4 x2 x3 x4 1 (k0_off3 i) (k0_off4 i) i3 i4))
        (Scf.trips (k0_t1_loop i).lb (k0_t1_loop i).ub (k0_t1_loop i).st))
      (Scf.trips (k0_t2_loop i).lb (k0_t2_loop i).ub (k0_t2_loop i).st)
    = pair (atH x2 x3 x4 0 (i 1).val (2 * ((i 1).val / 2))) (atH x2 x3 x4 1 (i 1).val (2 * ((i 1).val / 2))) := by
  have e1 : Scf.trips (k0_t1_loop i).lb (k0_t1_loop i).ub (k0_t1_loop i).st = (i 1).val / 2 := trips1 i
  have e2 : Scf.trips (k0_t2_loop i).lb (k0_t2_loop i).ub (k0_t2_loop i).st = 0 := trips2 i
  rw [e1, e2, st_k0_t2_zero, state_eq _ _ _ _ _ _ _ _ _ _ _ _ _ _ _ _ _ _ _ _ _ _ _ _ _ _ _ _ _ _ _ _ (le_of_eq (trips1 i).symm),
    rawStart_eq arg2 harg2 arg3 harg3 arg4 harg4 x2 x3 x4 0 ⟨(i 1).val, (i 1).isLt⟩ _ _ _ _ (off1_eq i) (off2_eq i),
    rawStart_eq arg2 harg2 arg3 harg3 arg4 harg4 x2 x3 x4 1 ⟨(i 1).val, (i 1).isLt⟩ _ _ _ _ (off3_eq i) (off4_eq i),
    harg3.read_unread, harg4.read_unread]
  unfold ldq
  rw [load_half arg2 _ _ 0 rfl, load_half arg2 _ _ 1 rfl, harg2.read_unread]
  rfl

/-- The last block of an odd tile, from what the loops leave. -/
theorem odd_eq (hp : (i 1).val % 2 = 1) (h : Fin 2) (ik) (s : Hd F) (es : s = atH x2 x3 x4 h (i 1).val (2 * ((i 1).val / 2))) :
    stepH (k0_pay76 (ldq arg2 (harg2.unread x2) h)) k0_pay78 (ldB arg3 (harg3.unread x3) ![0, 128 * h.val] ik) (ldB arg4 (harg4.unread x4) ![0, 128 * h.val] ik) s
      = atH x2 x3 x4 h (i 1).val (i 1).val := by
  obtain ⟨j, hj⟩ : ∃ j, (i 1).val = 2 * j + 1 := ⟨(i 1).val / 2, by omega⟩
  have h2 : 2 * ((i 1).val / 2) = 2 * j := by omega
  have ez : fin8 ((i 1).val - 1 - 2 * j) = 0 := Fin.ext (by show ((i 1).val - 1 - 2 * j) % 8 = 0; omega)
  rw [es, h2]
  unfold ldq ldB
  rw [load_half arg2 _ _ h rfl, load_blk (off := ![0, 128 * h.val]) arg3 _ _ 0 h rfl, load_blk (off := ![0, 128 * h.val]) arg4 _ _ 0 h rfl, harg2.read_unread, harg3.read_unread, harg4.read_unread]
  conv_rhs => unfold atH; arg 8; rw [hj]
  show _ = stepH _ _ (blk x3 (fin8 ((i 1).val - 1 - 2 * j)) h) (blk x4 (fin8 ((i 1).val - 1 - 2 * j)) h) _
  rw [ez]
  rfl

/-- The stored tiles, from the two heads' final values. -/
theorem outs_eq (n : ℕ) (x5 : FVec F S512x256 .bf16) (a b : Hd F) (ea : a = atH x2 x3 x4 0 n n) (eb : b = atH x2 x3 x4 1 n n) :
    cat2 (k0_pay151 a.1) (k0_pay2 b.1) = outO x2 x3 x4 n
      ∧ cat2 (k0_pay1 a.1 (k0_pay153 (ldq arg5 (harg5.unread x5) 0)) (k0_pay154 (ldq arg5 (harg5.unread x5) 0)) (FloatOps.ofBits FTy.f32 1065353216#32)) (k0_pay4 b.1 (ldq arg5 (harg5.unread x5) 1)) = outY x2 x3 x4 x5 n
      ∧ cat2 (k0_pay152 a.2) (k0_pay3 b.2) = outT x2 x3 x4 n := by
  subst ea eb
  unfold ldq
  rw [load_half arg5 _ _ 0 rfl, load_half arg5 _ _ 1 rfl, harg5.read_unread]
  exact ⟨rfl, rfl, rfl⟩

end Fin

section Body

variable (c : Dev nD) (i : grid0.Coords)
  (arg2 : Memref sig .tc .vmem S512x256 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S512x256 .bf16) (harg5 : arg5.IsWhole)
  (arg6 : Memref sig .tc .vmem S512x256 .bf16) (harg6 : arg6.IsWhole) (arg7 : Memref sig .tc .vmem S512x256 .bf16) (harg7 : arg7.IsWhole)
  (arg8 : Memref sig .tc .vmem S512x256 .f32) (harg8 : arg8.IsWhole)
variable (x2 : FVec F S512x256 .bf16) (x3 x4 : FVec F S4096x256 .bf16) (x5 : FVec F S512x256 .bf16)

set_option maxHeartbeats 8000000 in
/-- The body's run at a grid point. -/
theorem body (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (outO x2 x3 x4 (i 1).val) ∗ owns (c : Thread nD τ) arg7 fullShare (outY x2 x3 x4 x5 (i 1).val)
            ∗ owns (c : Thread nD τ) arg8 fullShare (outT x2 x3 x4 (i 1).val)) -∗ K ⟨⟩))
      ⊢ wp frame (wpE (defs₀ (F := F)) Variants.none c none) Set.univ (cc0_attn_fwd_l1 i arg2 harg2 arg3 harg3 arg4 harg4 arg5 harg5 arg6 harg6 arg7 harg7 arg8 harg8) K := by
  have hi8 : (i 1).val < 8 := (i 1).isLt
  simp only [cc0_attn_fwd_l1_eq_skeleton]; unfold cc0_attn_fwd_l1_skel
  unfold owns
  iintro ⟨⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, Hk⟩
  obtain rfl := harg2.eq_unread e2; obtain rfl := harg3.eq_unread e3; obtain rfl := harg4.eq_unread e4; obtain rfl := harg5.eq_unread e5
  rcases Nat.mod_two_eq_zero_or_one (i 1).val with hp | hp
  · have h1 : ¬ k0_cond1 i = 1#1 := fun h => by have := (cond_odd i).1 h; omega
    sl_exec_parts (disch := first | sl_exact h1)
    sl_step
    have hn : 2 * ((i 1).val / 2) = (i 1).val := by omega
    iapply Hk
    isplitl [H2]
    · iexists _; isplitr; rotate_left; · iexact H2
      ipureintro; exact harg2.read_unread _
    isplitl [H3]
    · iexists _; isplitr; rotate_left; · iexact H3
      ipureintro; exact harg3.read_unread _
    isplitl [H4]
    · iexists _; isplitr; rotate_left; · iexact H4
      ipureintro; exact harg4.read_unread _
    isplitl [H5]
    · iexists _; isplitr; rotate_left; · iexact H5
      ipureintro; exact harg5.read_unread _
    isplitl [H6]
    · iexists _; isplitr; rotate_left; · iexact H6
      ipureintro; refine (read_cat2 arg6 f6 _ _).trans ?_; exact (outs_eq arg5 harg5 x2 x3 x4 (i 1).val x5 _ _ ((congrArg (fun s => (s.1, s.2.1)) (loops_eq c i arg2 harg2 arg3 harg3 arg4 harg4 arg5 harg5 arg6 harg6 arg7 harg7 arg8 harg8 x2 x3 x4 _ _ _ _ _ _ _ _ _ _ _ _ _)).trans (by rw [hn])) ((congrArg (fun s => (s.2.2.1, s.2.2.2)) (loops_eq c i arg2 harg2 arg3 harg3 arg4 harg4 arg5 harg5 arg6 harg6 arg7 harg7 arg8 harg8 x2 x3 x4 _ _ _ _ _ _ _ _ _ _ _ _ _)).trans (by rw [hn]))).1
    isplitl [H7]
    · iexists _; isplitr; rotate_left; · iexact H7
      ipureintro; refine (read_cat2 arg7 f7 _ _).trans ?_; exact (outs_eq arg5 harg5 x2 x3 x4 (i 1).val x5 _ _ ((congrArg (fun s => (s.1, s.2.1)) (loops_eq c i arg2 harg2 arg3 harg3 arg4 harg4 arg5 harg5 arg6 harg6 arg7 harg7 arg8 harg8 x2 x3 x4 _ _ _ _ _ _ _ _ _ _ _ _ _)).trans (by rw [hn])) ((congrArg (fun s => (s.2.2.1, s.2.2.2)) (loops_eq c i arg2 harg2 arg3 harg3 arg4 harg4 arg5 harg5 arg6 harg6 arg7 harg7 arg8 harg8 x2 x3 x4 _ _ _ _ _ _ _ _ _ _ _ _ _)).trans (by rw [hn]))).2.1
    · iexists _; isplitr; rotate_left; · iexact H8
      ipureintro; refine (read_cat2 arg8 f8 _ _).trans ?_; exact (outs_eq arg5 harg5 x2 x3 x4 (i 1).val x5 _ _ ((congrArg (fun s => (s.1, s.2.1)) (loops_eq c i arg2 harg2 arg3 harg3 arg4 harg4 arg5 harg5 arg6 harg6 arg7 harg7 arg8 harg8 x2 x3 x4 _ _ _ _ _ _ _ _ _ _ _ _ _)).trans (by rw [hn])) ((congrArg (fun s => (s.2.2.1, s.2.2.2)) (loops_eq c i arg2 harg2 arg3 harg3 arg4 harg4 arg5 harg5 arg6 harg6 arg7 harg7 arg8 harg8 x2 x3 x4 _ _ _ _ _ _ _ _ _ _ _ _ _)).trans (by rw [hn]))).2.2
  · have h1 : k0_cond1 i = 1#1 := (cond_odd i).2 hp
    sl_exec_parts (disch := first | sl_exact h1)
    sl_step
    iapply Hk
    isplitl [H2]
    · iexists _; isplitr; rotate_left; · iexact H2
      ipureintro; exact harg2.read_unread _
    isplitl [H3]
    · iexists _; isplitr; rotate_left; · iexact H3
      ipureintro; exact harg3.read_unread _
    isplitl [H4]
    · iexists _; isplitr; rotate_left; · iexact H4
      ipureintro; exact harg4.read_unread _
    isplitl [H5]
    · iexists _; isplitr; rotate_left; · iexact H5
      ipureintro; exact harg5.read_unread _
    isplitl [H6]
    · iexists _; isplitr; rotate_left; · iexact H6
      ipureintro; refine (read_cat2 arg6 f6 _ _).trans ?_; exact (outs_eq arg5 harg5 x2 x3 x4 (i 1).val x5 _ _ (odd_eq i arg2 harg2 arg3 harg3 arg4 harg4 x2 x3 x4 hp 0 _ _ (congrArg (fun s => (s.1, s.2.1)) (loops_eq c i arg2 harg2 arg3 harg3 arg4 harg4 arg5 harg5 arg6 harg6 arg7 harg7 arg8 harg8 x2 x3 x4 _ _ _ _ _ _ _ _ _ _ _ _ _))) (odd_eq i arg2 harg2 arg3 harg3 arg4 harg4 x2 x3 x4 hp 1 _ _ (congrArg (fun s => (s.2.2.1, s.2.2.2)) (loops_eq c i arg2 harg2 arg3 harg3 arg4 harg4 arg5 harg5 arg6 harg6 arg7 harg7 arg8 harg8 x2 x3 x4 _ _ _ _ _ _ _ _ _ _ _ _ _)))).1
    isplitl [H7]
    · iexists _; isplitr; rotate_left; · iexact H7
      ipureintro; refine (read_cat2 arg7 f7 _ _).trans ?_; exact (outs_eq arg5 harg5 x2 x3 x4 (i 1).val x5 _ _ (odd_eq i arg2 harg2 arg3 harg3 arg4 harg4 x2 x3 x4 hp 0 _ _ (congrArg (fun s => (s.1, s.2.1)) (loops_eq c i arg2 harg2 arg3 harg3 arg4 harg4 arg5 harg5 arg6 harg6 arg7 harg7 arg8 harg8 x2 x3 x4 _ _ _ _ _ _ _ _ _ _ _ _ _))) (odd_eq i arg2 harg2 arg3 harg3 arg4 harg4 x2 x3 x4 hp 1 _ _ (congrArg (fun s => (s.2.2.1, s.2.2.2)) (loops_eq c i arg2 harg2 arg3 harg3 arg4 harg4 arg5 harg5 arg6 harg6 arg7 harg7 arg8 harg8 x2 x3 x4 _ _ _ _ _ _ _ _ _ _ _ _ _)))).2.1
    · iexists _; isplitr; rotate_left; · iexact H8
      ipureintro; refine (read_cat2 arg8 f8 _ _).trans ?_; exact (outs_eq arg5 harg5 x2 x3 x4 (i 1).val x5 _ _ (odd_eq i arg2 harg2 arg3 harg3 arg4 harg4 x2 x3 x4 hp 0 _ _ (congrArg (fun s => (s.1, s.2.1)) (loops_eq c i arg2 harg2 arg3 harg3 arg4 harg4 arg5 harg5 arg6 harg6 arg7 harg7 arg8 harg8 x2 x3 x4 _ _ _ _ _ _ _ _ _ _ _ _ _))) (odd_eq i arg2 harg2 arg3 harg3 arg4 harg4 x2 x3 x4 hp 1 _ _ (congrArg (fun s => (s.2.2.1, s.2.2.2)) (loops_eq c i arg2 harg2 arg3 harg3 arg4 harg4 arg5 harg5 arg6 harg6 arg7 harg7 arg8 harg8 x2 x3 x4 _ _ _ _ _ _ _ _ _ _ _ _ _)))).2.2

end Body

end Cert.AttnFwdIdeal.Hand

end
-- ==== Proof.AttnFwdFrame.lean ====
module

public import proofs.«01_k».proof.Proof.AttnFwdBody
public import proofs.«01_k».proof.Proof.Gen.AttnFwdIdeal.Launch
public import proofs.«01_k».proof.Proof.Gen.AttnFwdIdeal.Points
public import proofs.«01_k».proof.Proof.Gen.AttnFwdIdeal.Frame
public import Idealize.ShloMosaic.Lib.Pipeline.FrameBody
public import Idealize.ShloMosaic.Lib.Claim

@[expose] public section

set_option maxRecDepth 16384

noncomputable section

namespace Cert.AttnFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnFwdIdeal Cert.AttnFwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The query tile a point stands at. -/
abbrev tile (t : Fin cfg0.N) : ℕ := (grid0.coords t 1).val

theorem tile_eq (t : Fin cfg0.N) : tile t = t.val % 8 := by
  have e : (grid0.coords t 1).val = t.val / 1 % 8 := Pipeline.Grid.coords_val t 1 (by decide) rfl
  exact e.trans (by rw [Nat.div_one])

/-! ## The staging buffers, as the pipeline passes them -/

abbrev g0 (t : Fin cfg0.N) : Memref sig .tc .vmem S512x256 .bf16 := win0_0.stage (cfg0.slots t 0)
abbrev g1 (t : Fin cfg0.N) : Memref sig .tc .vmem S4096x256 .bf16 := win0_1.stage (cfg0.slots t 1)
abbrev g2 (t : Fin cfg0.N) : Memref sig .tc .vmem S4096x256 .bf16 := win0_2.stage (cfg0.slots t 2)
abbrev g3 (t : Fin cfg0.N) : Memref sig .tc .vmem S512x256 .bf16 := win0_3.stage (cfg0.slots t 3)
abbrev g4 (t : Fin cfg0.N) : Memref sig .tc .vmem S512x256 .bf16 := win0_4.stage (cfg0.slots t 4)
abbrev g5 (t : Fin cfg0.N) : Memref sig .tc .vmem S512x256 .bf16 := win0_5.stage (cfg0.slots t 5)
abbrev g6 (t : Fin cfg0.N) : Memref sig .tc .vmem S512x256 .f32 := win0_6.stage (cfg0.slots t 6)

/-! ## What the points leave -/

/-- The attention's output's tile at a point. -/
def tileO (c : Dev nD) (t : Fin cfg0.N) : FVec F S512x256 .bf16 := outO (iblk m c 0 t) (iblk m c 1 t) (iblk m c 2 t) (tile t)
/-- The gated output's tile at a point. -/
def tileY (c : Dev nD) (t : Fin cfg0.N) : FVec F S512x256 .bf16 := outY (iblk m c 0 t) (iblk m c 1 t) (iblk m c 2 t) (iblk m c 3 t) (tile t)
/-- The rows' totals' tile at a point. -/
def tileT (c : Dev nD) (t : Fin cfg0.N) : FVec F S512x256 .f32 := outT (iblk m c 0 t) (iblk m c 1 t) (iblk m c 2 t) (tile t)

/-- The pipeline's proof data. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => tileO m c t
    | ⟨5, _⟩ => tileY m c t
    | ⟨6, _⟩ => tileT m c t
  Φ _ := Pipeline.ΦA spec0 c
  q w := Pipeline.shareOf spec0 w
  owed _ := 0

theorem data_A (c : Dev nD) (w : Fin cfg0.W) : (data m 0 c).A w = V m c (Pipeline.arrRef spec0 w) := by dsimp only [data]

theorem a0 (c : Dev nD) (t : Fin cfg0.N) : (data m 0 c).after 0 t = iblk m c 0 t := by dsimp only [data]
theorem a1 (c : Dev nD) (t : Fin cfg0.N) : (data m 0 c).after 1 t = iblk m c 1 t := by dsimp only [data]
theorem a2 (c : Dev nD) (t : Fin cfg0.N) : (data m 0 c).after 2 t = iblk m c 2 t := by dsimp only [data]
theorem a3 (c : Dev nD) (t : Fin cfg0.N) : (data m 0 c).after 3 t = iblk m c 3 t := by dsimp only [data]
theorem a4 (c : Dev nD) (t : Fin cfg0.N) : (data m 0 c).after 4 t = tileO m c t := by dsimp only [data]
theorem a5 (c : Dev nD) (t : Fin cfg0.N) : (data m 0 c).after 5 t = tileY m c t := by dsimp only [data]
theorem a6 (c : Dev nD) (t : Fin cfg0.N) : (data m 0 c).after 6 t = tileT m c t := by dsimp only [data]

theorem b0 (c : Dev nD) (t : Fin cfg0.N) (d) : (data m 0 c).before 0 t d = iblk m c 0 t := before0_0_of m (data m 0 c) (data_A m c 0) (a0 m c) t d
theorem b1 (c : Dev nD) (t : Fin cfg0.N) (d) : (data m 0 c).before 1 t d = iblk m c 1 t := before0_1_of m (data m 0 c) (data_A m c 1) (a1 m c) t d
theorem b2 (c : Dev nD) (t : Fin cfg0.N) (d) : (data m 0 c).before 2 t d = iblk m c 2 t := before0_2_of m (data m 0 c) (data_A m c 2) (a2 m c) t d
theorem b3 (c : Dev nD) (t : Fin cfg0.N) (d) : (data m 0 c).before 3 t d = iblk m c 3 t := before0_3_of m (data m 0 c) (data_A m c 3) (a3 m c) t d

/-- A window stored into at a point is left at the proof data's contents. -/
theorem leaves_live (c : Dev nD) (w : Fin cfg0.W) (t : Fin cfg0.N) (h : cfg0.idle w (grid0.coords t) = false) :
    (data m 0 c).leavesExact w t = owns (c : Thread nD τ) ((cfg0.win w).stage (cfg0.slots t w)) fullShare ((data m 0 c).after w t) := by
  unfold Dat.leavesExact; rw [h]

/-! ## The body at a point -/

def entry (c : Dev nD) (t : Fin cfg0.N) : sProp 𝕄 :=
  iprop((data m 0 c).Φ t.castSucc ∗ (data m 0 c).owesAt () t.castSucc
    ∗ (∃ d, owns (c : Thread nD τ) (g0 t) fullShare ((data m 0 c).before 0 t d))
    ∗ (∃ d, owns (c : Thread nD τ) (g1 t) fullShare ((data m 0 c).before 1 t d))
    ∗ (∃ d, owns (c : Thread nD τ) (g2 t) fullShare ((data m 0 c).before 2 t d))
    ∗ (∃ d, owns (c : Thread nD τ) (g3 t) fullShare ((data m 0 c).before 3 t d))
    ∗ (∃ d, owns (c : Thread nD τ) (g4 t) fullShare ((data m 0 c).before 4 t d))
    ∗ (∃ d, owns (c : Thread nD τ) (g5 t) fullShare ((data m 0 c).before 5 t d))
    ∗ (∃ d, owns (c : Thread nD τ) (g6 t) fullShare ((data m 0 c).before 6 t d)))

def exit (c : Dev nD) (t : Fin cfg0.N) : sProp 𝕄 :=
  iprop((data m 0 c).Φ t.succ ∗ (data m 0 c).owesAt () t.succ
    ∗ (data m 0 c).leavesExact 0 t ∗ (data m 0 c).leavesExact 1 t ∗ (data m 0 c).leavesExact 2 t ∗ (data m 0 c).leavesExact 3 t ∗ (data m 0 c).leavesExact 4 t ∗ (data m 0 c).leavesExact 5 t ∗ (data m 0 c).leavesExact 6 t)

set_option maxHeartbeats 4800000 in
/-- The body at any point. -/
theorem sound (c : Dev nD) (t : Fin cfg0.N) : entry m c t ⊢ wp frame (wpE (defs₀ (F := F)) Variants.none c none) Set.univ (bodyAt0 t) (fun _ => exit m c t) := by
  unfold entry exit bodyAt0
  simp only [b0, b1, b2, b3]
  rw [show (data m 0 c).owesAt () t.succ = (data m 0 c).owesAt () t.castSucc from rfl,
    show (data m 0 c).Φ t.succ = Pipeline.ΦA spec0 c from rfl, show (data m 0 c).Φ t.castSucc = Pipeline.ΦA spec0 c from rfl,
    leaves_live m c 0 t rfl, leaves_live m c 1 t rfl, leaves_live m c 2 t rfl, leaves_live m c 3 t rfl, leaves_live m c 4 t rfl, leaves_live m c 5 t rfl, leaves_live m c 6 t rfl, a0, a1, a2, a3, a4, a5, a6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body c (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem table_row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, table_row]
  exact triple_restated (sound m c t) rfl .rfl fun _ => .rfl

theorem enters (c : Dev nD) : Pipeline.ΦA spec0 c ⊢ (data m 0 c).Φ 0 := by
  rw [show (data m 0 c).Φ 0 = Pipeline.ΦA spec0 c from rfl]

theorem leaves (c : Dev nD) : (data m 0 c).Φ (Fin.last cfg0.N) ⊢ Pipeline.ΦA spec0 c := by
  rw [show (data m 0 c).Φ (Fin.last cfg0.N) = Pipeline.ΦA spec0 c from rfl]

set_option backward.isDefEq.respectTransparency.types false in
/-- The run: every array of the pipeline ends as the proof data computes it, and every counter at zero. -/
theorem run_quiet : θ_run defs (onTc (τ := τ) (main (F := F))) (s₀ m ρ) (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (obligation m c).loose) (hq := fun _ _ _ => rfl)
    (howed := fun _ _ => rfl) (V := V m) (hmain := hmain m Variants.none) (hA := data_A m) (hin := enters m) (hout := leaves m)

theorem run : θ_run defs (onTc (τ := τ) (main (F := F))) (s₀ m ρ) (Pipeline.FramePost cfgs (data m) 0 (V m)) :=
  (θ_run defs _ _).mono (fun _ h => h.1) (run_quiet m ρ)

/-- The arguments end as they were, and no counter is left standing. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (data m) (data_A m) (run m ρ)) ((θ_run defs _ _).mono (fun _ h => h.2) (run_quiet m ρ))

end Cert.AttnFwdIdeal.Hand

end
-- ==== Proof.AttnFwdPays.lean ====
module

public import proofs.«01_k».proof.Proof.AttnFwdTrip
public import proofs.«01_k».proof.Proof.AttnPays

@[expose] public section

set_option maxRecDepth 16384

noncomputable section

namespace Cert.AttnFwdIdeal.Hand

open Idealize.ShloMosaic Idealize.ShloMosaic.TcCoe
open Cert.AttnFwdIdeal Cert.AttnFwdIdeal.Gen
open Cert.AttnBwdIdeal.Hand (spl zz up lo sel_slt sg)

section Block
variable (q k v : FVec Ideal S512x128 .bf16) (t : FVec Ideal S256x256 .bf16) (s : FVec Ideal S512x1 .f32)

/-- The running sum of softplus past a block: its second half, then its first. -/
theorem pay12_apply (r : Fin 512) : k0_pay12 q t s k (ix2 r 0)
    = s (ix2 r 0) + (∑ x : Fin 256, spl (zz q k r (lo x)) * t (ix2 x 0) + spl (zz q k r (lo 0)))
      + (∑ x : Fin 256, spl (zz q k r (up x)) * t (ix2 x 0) + spl (zz q k r (up 0))) := by
  unfold_payloads
  pointwise
  rfl

/-- A block's attention weights. -/
theorem pay13_apply (r c : Fin 512) : k0_pay13 q t s k (ix2 r c)
    = Ideal.exp (zz q k r c - spl (zz q k r c) -
        if h : c.val < 256 then ∑ x : Fin 256, spl (zz q k r (up x)) * t (ix2 x ⟨c.val, h⟩)
            + (s (ix2 r 0) + (∑ x : Fin 256, spl (zz q k r (lo x)) * t (ix2 x 0) + spl (zz q k r (lo 0))))
        else ∑ x : Fin 256, spl (zz q k r (lo x)) * t (ix2 x ⟨c.val - 256, by omega⟩) + s (ix2 r 0)) := by
  unfold_payloads
  pointwise
  rfl

theorem pay14_apply (o : FVec Ideal S512x128 .f32) (w : FVec Ideal S512x512 .bf16) (r : Fin 512) (l : Fin 128) : k0_pay14 o w v (ix2 r l)
    = o (ix2 r l) + ∑ c : Fin 512, w (ix2 r c) * v (ix2 c l) := by
  unfold k0_pay14
  pointwise

theorem pay76_apply (r : Fin 512) (l : Fin 128) : k0_pay76 q (ix2 r l) = q (ix2 r l) * Ideal.ofBits .f32 0x3DB504F3#32 := by
  unfold k0_pay76
  pointwise

/-- The triangle of ones below the diagonal. -/
theorem pay78_apply (r c : Fin 256) : k0_pay78 (F := Ideal) (ix2 r c) = if c.val < r.val then 1 else 0 := by
  unfold k0_pay78
  pointwise
  refine (?_ : _ = Scalar.select (IntOp.cmpi .slt (BitVec.ofNat 32 c.val) (BitVec.ofNat 32 r.val)) (1 : EReal) 0).trans (sel_slt (by omega) (by omega) _ _)
  simp [IntOp.cmpi]

theorem pay151_apply (o : FVec Ideal S512x128 .f32) (r : Fin 512) (l : Fin 128) : k0_pay151 o (ix2 r l) = o (ix2 r l) := by
  unfold k0_pay151
  pointwise

theorem pay152_apply (r : Fin 512) (l : Fin 128) : k0_pay152 s (ix2 r l) = s (ix2 r 0) := by
  unfold k0_pay152
  pointwise

theorem pay4_apply (o : FVec Ideal S512x128 .f32) (z : FVec Ideal S512x128 .bf16) (r : Fin 512) (l : Fin 128) :
    k0_pay4 o z (ix2 r l) = o (ix2 r l) * (z (ix2 r l) * sg (z (ix2 r l))) := by
  unfold k0_pay4
  pointwise
  rfl

end Block

/-! ## The diagonal block -/

/-- The mask of the upper half: a key before its query. -/
theorem mask1_apply (x y : FVec Ideal S256x256 .f32) (r c : Fin 256) : (select (k0_pay83 rows 0#32) x y : FVec Ideal S256x256 .f32) (ix2 r c) = if c.val < r.val then x (ix2 r c) else y (ix2 r c) := by
  unfold k0_pay83
  pointwise
  rw [show IntOp.addi 0#32 (BitVec.ofNat 32 r.val) = BitVec.ofNat 32 r.val from BitVec.zero_add _]
  exact sel_slt (by omega) (by omega) _ _

/-- The same mask, one lane at a time. -/
theorem mask1_sel (x y : EReal) (r c : Fin 256) : Scalar.select (k0_pay83 rows 0#32 (ix2 r c)) x y = if c.val < r.val then x else y :=
  mask1_apply (fun _ => x) (fun _ => y) r c

/-- The mask of the lower half: a key before its query. -/
theorem mask2_apply (x y : FVec Ideal S256x512 .f32) (r : Fin 256) (c : Fin 512) :
    (select k0_pay92 x y : FVec Ideal S256x512 .f32) (ix2 r c) = if c.val < 256 + r.val then x (ix2 r c) else y (ix2 r c) := by
  unfold k0_pay92
  pointwise
  rw [show IntOp.addi 256#32 (BitVec.ofNat 32 r.val) = BitVec.ofNat 32 (256 + r.val) from (BitVec.ofNat_add _ _).symm]
  exact sel_slt (by omega) (by omega) _ _

/-- The same mask, one lane at a time. -/
theorem mask2_sel (x y : EReal) (r : Fin 256) (c : Fin 512) : Scalar.select (k0_pay92 (ix2 r c)) x y = if c.val < 256 + r.val then x else y :=
  mask2_apply (fun _ => x) (fun _ => y) r c

section Diagonal
variable (q : FVec Ideal S512x128 .bf16) (kA vA : FVec Ideal S256x128 .bf16) (kB vB : FVec Ideal S512x128 .bf16) (t : FVec Ideal S256x256 .bf16)

/-- The softplus of the upper half's logits, masked. -/
abbrev spA (r c : Fin 256) : EReal := if c.val < r.val then spl (zz q kA (up r) c) else 0
/-- The softplus of the lower half's logits, masked. -/
abbrev spB (r : Fin 256) (c : Fin 512) : EReal := if c.val < 256 + r.val then spl (zz q kB (lo r) c) else 0

theorem pay88_apply (r : Fin 256) : k0_pay88 q t k0_pay82 rows 0#32 kA (ix2 r 0) = 0 + (∑ x : Fin 256, spA q kA r x * t (ix2 x 0) + spA q kA r 0) := by
  unfold k0_pay88 k0_pay87 k0_pay86 k0_pay85 k0_pay84 k0_pay82 k0_pay80
  pointwise
  simp only [mask1_sel, spA, ite_mul, zero_mul]
  rfl

theorem pay89_apply (r : Fin 256) (l : Fin 128) : k0_pay89 q t k0_pay81 k0_pay82 rows 0#32 kA vA (ix2 r l) = 0 + ∑ c : Fin 256,
    (if c.val < r.val then Ideal.exp (zz q kA (up r) c - spl (zz q kA (up r) c) - (∑ x : Fin 256, spA q kA r x * t (ix2 x c) + 0)) else 0) * vA (ix2 c l) := by
  unfold k0_pay89 k0_pay87 k0_pay86 k0_pay85 k0_pay84 k0_pay82 k0_pay81 k0_pay80 k0_pay79
  pointwise
  simp only [mask1_sel, spA, ite_mul, zero_mul]
  rfl

/-- A head's output after the diagonal block, lower half. -/
theorem diag1_lo (r : Fin 256) (l : Fin 128) : (diagH q t kA vA kB vB).1 (ix2 (lo r) l) = 0 + ∑ c : Fin 512,
    (if c.val < 256 + r.val then Ideal.exp (zz q kB (lo r) c - spl (zz q kB (lo r) c) -
      if h : c.val < 256 then ∑ x : Fin 256, spB q kB r (up x) * t (ix2 x ⟨c.val, h⟩) + (0 + (∑ x : Fin 256, spB q kB r (lo x) * t (ix2 x 0) + spB q kB r (lo 0)))
      else ∑ x : Fin 256, spB q kB r (lo x) * t (ix2 x ⟨c.val - 256, by omega⟩) + 0) else 0) * vB (ix2 c l) := by
  unfold diagH k0_pay102 k0_pay101 k0_pay100 k0_pay99 k0_pay98 k0_pay97 k0_pay96 k0_pay95 k0_pay94 k0_pay93 k0_pay91 k0_pay90 k0_pay80 k0_pay79
  pointwise
  simp only [mask2_sel, spB, ite_mul, zero_mul]
  rfl

theorem diag1_up (r : Fin 256) (l : Fin 128) : (diagH q t kA vA kB vB).1 (ix2 (up r) l) = k0_pay89 q t k0_pay81 k0_pay82 rows 0#32 kA vA (ix2 r l) := by
  unfold diagH k0_pay102
  pointwise

theorem diag2_lo (r : Fin 256) : (diagH q t kA vA kB vB).2 (ix2 (lo r) 0)
    = 0 + (∑ x : Fin 256, spB q kB r (lo x) * t (ix2 x 0) + spB q kB r (lo 0)) + (∑ x : Fin 256, spB q kB r (up x) * t (ix2 x 0) + spB q kB r (up 0)) := by
  unfold diagH k0_pay103 k0_pay101 k0_pay100 k0_pay99 k0_pay98 k0_pay97 k0_pay96 k0_pay95 k0_pay94 k0_pay93 k0_pay91 k0_pay80
  pointwise
  simp only [mask2_sel, spB, ite_mul, zero_mul]
  rfl

theorem diag2_up (r : Fin 256) : (diagH q t kA vA kB vB).2 (ix2 (up r) 0) = k0_pay88 q t k0_pay82 rows 0#32 kA (ix2 r 0) := by
  unfold diagH k0_pay103
  pointwise

end Diagonal

end Cert.AttnFwdIdeal.Hand

end
-- ==== Proof.AttnFwdHead.lean ====
module

public import proofs.«01_k».proof.Proof.AttnFwdPays
public import proofs.«01_k».proof.Proof.AttnTile

@[expose] public section

set_option maxRecDepth 16384

noncomputable section

namespace Cert.AttnFwdIdeal.Hand

open Idealize.ShloMosaic Idealize.ShloMosaic.TcCoe
open Cert.AttnFwdIdeal Cert.AttnFwdIdeal.Gen
open Cert.AttnBwdIdeal.Hand (Head KeysOk spl zz up lo sg lane z_eq sp_eq lb_eq z_up sp_up sp_lo)

/-! ## Sums from a key on -/

/-- The sum from key `n` to the last. -/
def tail (f : ℕ → EReal) (n : ℕ) : EReal := ∑ c ∈ Finset.Ico n 4096, f c

/-- A sum whose terms vanish from `n` on is zero. -/
theorem tail_zero (f : ℕ → EReal) (n : ℕ) (h : ∀ c, n ≤ c → f c = 0) : tail f n = 0 :=
  Finset.sum_eq_zero fun c hc => h c (Finset.mem_Ico.mp hc).1

/-- A block's terms before the rest. -/
theorem tail_add (f : ℕ → EReal) (b n : ℕ) (h : b + n ≤ 4096) : ∑ x : Fin n, f (b + x.val) + tail f (b + n) = tail f b := by
  unfold tail
  rw [← Finset.sum_range (fun x => f (b + x)), ← Finset.sum_Ico_consecutive f (Nat.le_add_right b n) h]
  congr 1
  rw [Finset.sum_Ico_eq_sum_range, Nat.add_sub_cancel_left]

section Tri
variable (f : ℕ → EReal) (b : ℕ) (t : FVec Ideal S256x256 .bf16) (ht : ∀ r c : Fin 256, t (ix2 r c) = if c.val < r.val then 1 else 0)

include ht in
/-- A triangle of ones sums the terms past its column. -/
theorem tri_tail (hb : b + 256 ≤ 4096) (c : Fin 256) : ∑ x : Fin 256, f (b + x.val) * t (ix2 x c) + tail f (b + 256) = tail f (b + c.val + 1) := by
  have hc := c.isLt
  simp only [ht, mul_ite, mul_one, mul_zero]
  unfold tail
  rw [← Finset.sum_range (fun x => if c.val < x then f (b + x) else 0), ← Finset.sum_Ico_consecutive f (show b + c.val + 1 ≤ b + 256 by omega) hb]
  congr 1
  rw [Finset.sum_Ico_eq_sum_range, show Finset.range 256 = Finset.range (c.val + 1 + (b + 256 - (b + c.val + 1))) by congr 1; omega, Finset.sum_range_add,
    Finset.sum_eq_zero (s := Finset.range (c.val + 1)) (fun k hk => if_neg (by rw [Finset.mem_range] at hk; omega)), zero_add]
  refine Finset.sum_congr rfl fun k _ => ?_
  rw [if_pos (by omega)]
  congr 1
  omega

include ht in
/-- The whole of a half block, by the triangle's first column and its first term. -/
theorem past1 (hb : b + 256 ≤ 4096) : tail f (b + 256) + (∑ x : Fin 256, f (b + x.val) * t (ix2 x 0) + f b) = tail f b := by
  rw [← add_assoc, add_comm (tail f (b + 256)), tri_tail f b t ht hb 0, add_comm, ← tail_add f b 1 (by omega)]
  simp

include ht in
/-- The sum from a block on, from the sum past it. -/
theorem past2 (hb : b + 512 ≤ 4096) : tail f (b + 512) + (∑ x : Fin 256, f (b + (lo x).val) * t (ix2 x 0) + f (b + (lo 0).val))
    + (∑ x : Fin 256, f (b + (up x).val) * t (ix2 x 0) + f (b + (up 0).val)) = tail f b := by
  have e := past1 f (b + 256) t ht (by omega)
  simp only [add_assoc b] at e
  refine Eq.trans ?_ (past1 f b t ht (by omega))
  congr 1

include ht in
/-- The sum past a column of a block, from the block's two triangles. -/
theorem two_tail (hb : b + 512 ≤ 4096) (c : Fin 512) :
    (if h : c.val < 256 then ∑ x : Fin 256, f (b + (up x).val) * t (ix2 x ⟨c.val, h⟩) + (tail f (b + 512) + (∑ x : Fin 256, f (b + (lo x).val) * t (ix2 x 0) + f (b + (lo 0).val)))
      else ∑ x : Fin 256, f (b + (lo x).val) * t (ix2 x ⟨c.val - 256, by omega⟩) + tail f (b + 512)) = tail f (b + c.val + 1) := by
  have e := past1 f (b + 256) t ht (by omega)
  have e2 := fun c => tri_tail f (b + 256) t ht (by omega) c
  simp only [add_assoc b] at e e2 ⊢
  split
  · next h => exact (congrArg (_ + ·) e).trans ((tri_tail f b t ht (by omega) ⟨c.val, h⟩).trans (by rw [add_assoc]))
  · next h =>
    refine (e2 ⟨c.val - 256, by omega⟩).trans ?_
    congr 1
    show b + (256 + (c.val - 256 + 1)) = b + (c.val + 1)
    omega

end Tri

/-! ## A head -/

/-- The attention weight, by the softplus of the later keys. -/
def wt (H : Head) (R c : ℕ) : EReal := if c < R then Ideal.exp (H.lb R c - tail (H.sp R) (c + 1)) else 0
/-- A key's share of the output. -/
abbrev term (H : Head) (R : ℕ) (l : Fin 128) (c : ℕ) : EReal := wt H R c * H.V c l

theorem sp_zero (H : Head) (R c : ℕ) (h : R ≤ c) : H.sp R c = 0 := if_neg (by omega)
theorem wt_zero (H : Head) (R c : ℕ) (h : R ≤ c) : wt H R c = 0 := if_neg (by omega)

/-- What a head carries of tile `i` when the keys from block `n` on are done. -/
structure Ok (H : Head) (i n : ℕ) (p : Hd Ideal) : Prop where
  ho : ∀ r l, p.1 (ix2 r l) = tail (term H (512 * i + r.val) l) (512 * n)
  hs : ∀ r, p.2 (ix2 r 0) = tail (H.sp (512 * i + r.val)) (512 * n)

section Tile
variable (H : Head) (i n : ℕ) (hi : i < 8) (q k v : FVec Ideal S512x128 .bf16) (t : FVec Ideal S256x256 .bf16)
  (hq : ∀ r l, q (ix2 r l) = H.Q (512 * i + r.val) l) (ht : ∀ r c : Fin 256, t (ix2 r c) = if c.val < r.val then 1 else 0)

section Step
variable (hk : ∀ c l, k (ix2 c l) = H.K (512 * n + c.val) l) (hv : ∀ c l, v (ix2 c l) = H.V (512 * n + c.val) l) (hn : n < i) (p : Hd Ideal) (ok : Ok H i (n + 1) p)

include hi hq ht hk hn ok in
/-- A block's attention weights. -/
theorem step_wt (r c : Fin 512) : k0_pay13 q t p.2 k (ix2 r c) = wt H (512 * i + r.val) (512 * n + c.val) := by
  rw [pay13_apply, lb_eq H i n q k hq hk]
  simp only [sp_eq H i n q k hq hk hn, ok.hs]
  unfold wt
  rw [if_pos (by omega)]
  congr 2
  exact two_tail (H.sp (512 * i + r.val)) (512 * n) t ht (by omega) c

include hi hq ht hk hv hn ok in
/-- One key block. -/
theorem ok_step : Ok H i n (stepH q t k v p) where
  ho r l := by
    show k0_pay14 p.1 (k0_pay13 q t p.2 k) v (ix2 r l) = _
    rw [pay14_apply, ok.ho]
    simp only [step_wt H i n hi q k t hq ht hk hn p ok, hv]
    rw [add_comm]
    exact tail_add (term H (512 * i + r.val) l) (512 * n) 512 (by omega)
  hs r := by
    show k0_pay12 q t p.2 k (ix2 r 0) = _
    rw [pay12_apply]
    simp only [sp_eq H i n q k hq hk hn, ok.hs]
    exact past2 (H.sp (512 * i + r.val)) (512 * n) t ht (by omega)

end Step

section Diagonal
variable (kA vA : FVec Ideal S256x128 .bf16) (hkA : ∀ c l, kA (ix2 c l) = H.K (512 * i + c.val) l) (hvA : ∀ c l, vA (ix2 c l) = H.V (512 * i + c.val) l)
  (hk : ∀ c l, k (ix2 c l) = H.K (512 * i + c.val) l) (hv : ∀ c l, v (ix2 c l) = H.V (512 * i + c.val) l)

include hi hq ht hkA hvA in
/-- The output of the diagonal block's upper half. -/
theorem diag_o_up (r : Fin 256) (l : Fin 128) : (diagH q t kA vA k v).1 (ix2 (up r) l) = tail (term H (512 * i + r.val) l) (512 * i) := by
  have z1 : tail (H.sp (512 * i + r.val)) (512 * i + 256) = 0 := tail_zero _ _ fun c hc => sp_zero H _ _ (by omega)
  have z2 : tail (term H (512 * i + r.val) l) (512 * i + 256) = 0 := tail_zero _ _ fun c hc => by rw [term, wt_zero H _ _ (by omega), zero_mul]
  rw [diag1_up, pay89_apply, ← tail_add _ _ 256 (by omega), z2, add_zero, zero_add]
  simp only [spA, sp_up H i q hq kA hkA]
  refine Finset.sum_congr rfl fun c _ => ?_
  have e := tri_tail (H.sp (512 * i + r.val)) (512 * i) t ht (by omega) c
  rw [z1] at e
  rw [hvA, z_up H i q hq kA hkA, e]
  unfold term wt
  simp only [Nat.add_lt_add_iff_left]
  rfl

include hi hq ht hkA in
/-- The running sum of the diagonal block's upper half. -/
theorem diag_s_up (r : Fin 256) : (diagH q t kA vA k v).2 (ix2 (up r) 0) = tail (H.sp (512 * i + r.val)) (512 * i) := by
  have z1 : tail (H.sp (512 * i + r.val)) (512 * i + 256) = 0 := tail_zero _ _ fun c hc => sp_zero H _ _ (by omega)
  rw [diag2_up, pay88_apply]
  simp only [spA, sp_up H i q hq kA hkA]
  rw [← z1]
  exact past1 (H.sp (512 * i + r.val)) (512 * i) t ht (by omega)

include hi hq ht hk hv in
/-- The output of the diagonal block's lower half. -/
theorem diag_o_lo (r : Fin 256) (l : Fin 128) : (diagH q t kA vA k v).1 (ix2 (lo r) l) = tail (term H (512 * i + (256 + r.val)) l) (512 * i) := by
  have z1 : tail (H.sp (512 * i + (256 + r.val))) (512 * i + 512) = 0 := tail_zero _ _ fun c hc => sp_zero H _ _ (by omega)
  have z2 : tail (term H (512 * i + (256 + r.val)) l) (512 * i + 512) = 0 := tail_zero _ _ fun c hc => by rw [term, wt_zero H _ _ (by omega), zero_mul]
  have f1 : ∀ x : Fin 256, (if x.val < 256 + r.val then spl (zz q k (lo r) (up x)) else 0) = H.sp (512 * i + (256 + r.val)) (512 * i + (up x).val) :=
    fun x => sp_lo H i q k hq hk r (up x)
  have f2 : ∀ x : Fin 256, (if 256 + x.val < 256 + r.val then spl (zz q k (lo r) (lo x)) else 0) = H.sp (512 * i + (256 + r.val)) (512 * i + (lo x).val) :=
    fun x => sp_lo H i q k hq hk r (lo x)
  rw [diag1_lo, ← tail_add _ _ 512 (by omega), z2, add_zero, zero_add]
  refine Finset.sum_congr rfl fun c _ => ?_
  have e := two_tail (H.sp (512 * i + (256 + r.val))) (512 * i) t ht (by omega) c
  rw [z1] at e
  simp only [spB, f1, f2]
  rw [hv, lb_eq H i i q k hq hk]
  unfold term wt
  simp only [Nat.add_lt_add_iff_left]
  congr 4

include hi hq ht hk in
/-- The running sum of the diagonal block's lower half. -/
theorem diag_s_lo (r : Fin 256) : (diagH q t kA vA k v).2 (ix2 (lo r) 0) = tail (H.sp (512 * i + (256 + r.val))) (512 * i) := by
  have z1 : tail (H.sp (512 * i + (256 + r.val))) (512 * i + 512) = 0 := tail_zero _ _ fun c hc => sp_zero H _ _ (by omega)
  have e := past2 (H.sp (512 * i + (256 + r.val))) (512 * i) t ht (by omega)
  have f1 : ∀ x : Fin 256, (if x.val < 256 + r.val then spl (zz q k (lo r) (up x)) else 0) = H.sp (512 * i + (256 + r.val)) (512 * i + (up x).val) :=
    fun x => sp_lo H i q k hq hk r (up x)
  have f2 : ∀ x : Fin 256, (if 256 + x.val < 256 + r.val then spl (zz q k (lo r) (lo x)) else 0) = H.sp (512 * i + (256 + r.val)) (512 * i + (lo x).val) :=
    fun x => sp_lo H i q k hq hk r (lo x)
  rw [z1] at e
  rw [diag2_lo]
  simp only [spB, f1, f2]
  exact e

include hi hq ht hkA hvA hk hv in
/-- The diagonal block. -/
theorem ok_diag : Ok H i i (diagH q t kA vA k v) where
  ho r l := by
    by_cases h : r.val < 256
    · exact diag_o_up H i hi q k v t hq ht kA vA hkA hvA ⟨r.val, h⟩ l
    · obtain ⟨r', rfl⟩ : ∃ r' : Fin 256, r = lo r' := ⟨⟨r.val - 256, by omega⟩, Fin.ext (by show r.val = 256 + (r.val - 256); omega)⟩
      exact diag_o_lo H i hi q k v t hq ht kA vA hk hv r' l
  hs r := by
    by_cases h : r.val < 256
    · exact diag_s_up H i hi q k v t hq ht kA vA hkA ⟨r.val, h⟩
    · obtain ⟨r', rfl⟩ : ∃ r' : Fin 256, r = lo r' := ⟨⟨r.val - 256, by omega⟩, Fin.ext (by show r.val = 256 + (r.val - 256); omega)⟩
      exact diag_s_lo H i hi q k v t hq ht kA vA hk r'

end Diagonal

section Sweep
variable (G : Fin 2 → Head) (x3 x4 : FVec Ideal S4096x256 .bf16) (hX : KeysOk G x3 x4) (h : Fin 2) (hqG : ∀ r l, q (ix2 r l) = (G h).Q (512 * i + r.val) l)

include hi ht hX hqG in
/-- The sweep over the blocks before the diagonal one. -/
theorem ok_sweep (p : Hd Ideal) (ok : Ok (G h) i i p) : ∀ j, j ≤ i → Ok (G h) i (i - j) (sweepH q t x3 x4 h i p j)
  | 0, _ => ok
  | j + 1, hj => by
    have en : (fin8 (i - 1 - j)).val = i - 1 - j := Nat.mod_eq_of_lt (by omega)
    have prev := ok_sweep p ok j (by omega)
    rw [show i - j = i - 1 - j + 1 by omega] at prev
    rw [show i - (j + 1) = i - 1 - j by omega]
    refine ok_step (G h) i (i - 1 - j) hi q _ _ t hqG ht (fun c l => ?_) (fun c l => ?_) (by omega) _ prev
    · exact (hX.kblk (fin8 (i - 1 - j)) h c l).trans (by rw [en])
    · exact (hX.vblk (fin8 (i - 1 - j)) h c l).trans (by rw [en])

end Sweep
end Tile

end Cert.AttnFwdIdeal.Hand

end
-- ==== Proof.AttnFwdRef.lean ====
module

public import proofs.«01_k».proof.Proof.AttnFwdHead
public import proofs.«01_k».proof.Proof.AttnRef
public import proofs.«01_k».proof.Proof.Gen.AttnFwdRefIdeal.Read

@[expose] public section

set_option maxRecDepth 16384

noncomputable section

namespace Cert.AttnFwdIdeal.Hand

open Idealize.ShloMosaic Idealize.ShloMosaic.TcCoe Idealize.ShloMosaic.Tactic
open Cert.AttnFwdIdeal Cert.AttnFwdRefIdeal.Read Cert.Common
open Cert.AttnBwdIdeal.Hand (Head spl sg ent ent_eq headOf v7_eq v10_eq v17_sel v18_eq v26_eq P_eq isR_S isR_sp isR_spl)

variable (x0 : FVec Ideal S4096x14336 .bf16)

/-- A head's numbers; the forward pass has no cotangent. -/
abbrev hd (h : ℕ) : Head := headOf x0 (fun _ => 0) h

/-- The weight by the later keys' softplus is the weight by the total less the running sum, of real numbers. -/
theorem wt_a (f0 : ∀ i, IsR (x0 i)) (h R c : ℕ) (hR : R ≤ 4096) : wt (hd x0 h) R c = (hd x0 h).a R c := by
  unfold wt Head.a
  split
  · next hc =>
    congr 2
    have e : (hd x0 h).S R (c + 1) + tail ((hd x0 h).sp R) (c + 1) = (hd x0 h).S R 4096 := by
      unfold Head.S tail
      rw [Finset.range_eq_Ico, Finset.range_eq_Ico, Finset.sum_Ico_consecutive _ (Nat.zero_le _) (by omega)]
    obtain ⟨s, hs⟩ := isR_S x0 (fun _ => 0) h R (c + 1) f0
    obtain ⟨t, ht⟩ : IsR (tail ((hd x0 h).sp R) (c + 1)) := isR_sum _ _ fun k _ => isR_sp x0 (fun _ => 0) h R k f0
    rw [P_eq, ← e, hs, ht, ← EReal.coe_add, ← EReal.coe_sub]
    congr 1
    ring
  · rfl

variable (R c : Fin 4096) (h : Fin 16) (l : Fin 128)

theorem same_o : val_main_v29 (F := Ideal) x0 = Cert.AttnBwdRefIdeal.Read.val_main_v29 (F := Ideal) x0 := rfl
theorem same_sp : val_main_v40 (F := Ideal) x0 = Cert.AttnBwdRefIdeal.Read.val_main_v18_0 (F := Ideal) x0 := rfl
theorem same_mask : val_main_v39 (F := Ideal) = Cert.AttnBwdRefIdeal.Read.val_main_v17 (F := Ideal) := rfl

/-- The attention's output. -/
theorem o_eq (f0 : ∀ i, IsR (x0 i)) : val_main_v29 (F := Ideal) x0 (ix2 R ⟨128 * h.val + l.val, by omega⟩) = tail (term (hd x0 h) R l) 0 := by
  rw [same_o]
  unfold Cert.AttnBwdRefIdeal.Read.val_main_v29 Cert.AttnBwdRefIdeal.Read.val_main_v28 Cert.AttnBwdRefIdeal.Read.val_main_v27
  pointwise
  simp only [v7_eq x0 (fun _ => 0), v26_eq x0 (fun _ => 0) _ _ _ f0]
  unfold tail
  rw [← Finset.range_eq_Ico, Finset.sum_range]
  refine Finset.sum_congr rfl fun k _ => ?_
  rw [term, wt_a x0 f0 _ _ _ (by omega)]
  exact mul_comm _ _

/-- The gated output, from the output. -/
theorem y_eq (C : Fin 2048) : val_main_v50 (F := Ideal) x0 (ix2 R C) = val_main_v29 (F := Ideal) x0 (ix2 R C) * (ent x0 R (8192 + C.val) * sg (ent x0 R (8192 + C.val))) := by
  rw [ent_eq x0 R _ R.isLt (by omega)]
  unfold val_main_v50 val_main_v49 val_main_v48 val_main_call7_v5 val_main_call7_v4 val_main_call7_v3 val_main_call7_v2 val_main_call7_v1 val_main_call7_v0 val_main_call7_cst val_main_call7_cst_0 val_main_v4 val_main_v0
  pointwise
  unfold sg
  rw [zero_sub]

/-- The rows' totals. -/
theorem tot_eq : val_main_v46 (F := Ideal) x0 (ix2 R ⟨128 * h.val + l.val, by omega⟩) = tail ((hd x0 h).sp R) 0 := by
  unfold val_main_v46 val_main_v45 val_main_v44 val_main_v43 val_main_v42 val_main_v41 val_main_call6_v2 val_main_call6_v1 val_main_call6_v0 val_main_cst_3 val_main_cst_4
  rw [same_sp, same_mask]
  pointwise
  simp only [v17_sel, v18_eq x0 (fun _ => 0)]
  unfold tail
  rw [← Finset.range_eq_Ico, Finset.sum_range]
  refine Finset.sum_congr rfl fun k _ => ?_
  unfold Head.sp
  split
  · rfl
  · exact (by simp : Ideal.ofBits .f32 0x00000000#32 = 0)

end Cert.AttnFwdIdeal.Hand

end
-- ==== Proof.AttnFwdArrays.lean ====
module

public import proofs.«01_k».proof.Proof.AttnFwdFrame
public import proofs.«01_k».proof.Proof.AttnFwdRef

@[expose] public section

set_option maxRecDepth 16384

noncomputable section

namespace Cert.AttnFwdIdeal.Hand

open Idealize.ShloMosaic Idealize.ShloMosaic.TcCoe Idealize.ShloMosaic.Tactic
open Cert.AttnFwdIdeal Cert.AttnFwdIdeal.Gen Cert.Common
open Cert.AttnBwdIdeal.Hand (Head KeysOk sg ent ent_eq ent_at headOf qs lane lan arr split_idx col_head col_lane half_apply cat2_apply)

/-! ## A tile's outputs -/

section Tile
variable (H : Fin 2 → Head) (i : ℕ) (hi : i < 8) (x2 : FVec Ideal S512x256 .bf16) (x3 x4 : FVec Ideal S4096x256 .bf16) (x5 : FVec Ideal S512x256 .bf16) (hX : KeysOk H x3 x4)
  (h2 : ∀ h r l, x2 (ix2 r (lane h l)) * Ideal.ofBits .f32 0x3DB504F3#32 = (H h).Q (512 * i + r.val) l)

include hi hX h2 in
/-- Each head ends with its rows' sums over all keys. -/
theorem at_ok (h : Fin 2) : Ok (H h) i 0 (atH x2 x3 x4 h i i) := by
  have en : (fin8 i).val = i := Nat.mod_eq_of_lt hi
  have hq : ∀ r l, qOf x2 h (ix2 r l) = (H h).Q (512 * i + r.val) l := fun r l => by
    unfold qOf
    rw [pay76_apply, ← h2]
    exact congrArg (· * _) (half_apply x2 h r l)
  have ok := ok_sweep i hi (qOf x2 h) (k0_pay78 (F := Ideal)) pay78_apply H x3 x4 hX h hq (startH x2 x3 x4 h i)
    (ok_diag (H h) i hi (qOf x2 h) _ _ _ hq pay78_apply _ _
      (fun c l => (hX.kwin (fin8 i) h c l).trans (by rw [en])) (fun c l => (hX.vwin (fin8 i) h c l).trans (by rw [en]))
      (fun c l => (hX.kblk (fin8 i) h c l).trans (by rw [en])) (fun c l => (hX.vblk (fin8 i) h c l).trans (by rw [en]))) i (le_refl i)
  rw [Nat.sub_self] at ok
  exact ok

include hi hX h2 in
/-- The output's tile. -/
theorem outO_eq (h : Fin 2) (r : Fin 512) (l : Fin 128) : outO x2 x3 x4 i (ix2 r (lane h l)) = tail (term (H h) (512 * i + r.val) l) 0 := by
  unfold outO
  refine (cat2_apply (fun h => k0_pay151 (F := Ideal) (atH x2 x3 x4 h i i).1) h r l).trans ?_
  rw [pay151_apply]
  exact (at_ok H i hi x2 x3 x4 hX h2 h).ho r l

include hi hX h2 in
/-- The gated output's tile. -/
theorem outY_eq (h : Fin 2) (r : Fin 512) (l : Fin 128) : outY x2 x3 x4 x5 i (ix2 r (lane h l))
    = tail (term (H h) (512 * i + r.val) l) 0 * (x5 (ix2 r (lane h l)) * sg (x5 (ix2 r (lane h l)))) := by
  unfold outY
  refine (cat2_apply (fun h => k0_pay4 (F := Ideal) (atH x2 x3 x4 h i i).1 (half x5 h)) h r l).trans ?_
  rw [pay4_apply, show half x5 h (ix2 r l) = x5 (ix2 r (lane h l)) from half_apply x5 h r l]
  exact congrArg (· * _) ((at_ok H i hi x2 x3 x4 hX h2 h).ho r l)

include hi hX h2 in
/-- The totals' tile. -/
theorem outT_eq (h : Fin 2) (r : Fin 512) (l : Fin 128) : outT x2 x3 x4 i (ix2 r (lane h l)) = tail ((H h).sp (512 * i + r.val)) 0 := by
  unfold outT
  refine (cat2_apply (fun h => k0_pay152 (F := Ideal) (atH x2 x3 x4 h i i).2) h r l).trans ?_
  rw [pay152_apply]
  exact (at_ok H i hi x2 x3 x4 hX h2 h).hs r

end Tile

/-! ## The grid -/

/-- The printed index maps over the points. -/
theorem idx_facts : ∀ t : Fin cfg0.N, win0_0.index t = ![t.val % 8, 8 + t.val / 8] ∧ win0_1.index t = ![0, 16 + t.val / 8] ∧ win0_2.index t = ![0, 24 + t.val / 8]
    ∧ win0_3.index t = ![t.val % 8, 32 + t.val / 8] ∧ win0_4.index t = ![t.val % 8, t.val / 8] ∧ win0_5.index t = ![t.val % 8, t.val / 8] ∧ win0_6.index t = ![t.val % 8, t.val / 8] :=
  (by decide +kernel : ∀ t : Fin grid0.N, win0_0.index t = ![t.val % 8, 8 + t.val / 8] ∧ win0_1.index t = ![0, 16 + t.val / 8] ∧ win0_2.index t = ![0, 24 + t.val / 8]
    ∧ win0_3.index t = ![t.val % 8, 32 + t.val / 8] ∧ win0_4.index t = ![t.val % 8, t.val / 8] ∧ win0_5.index t = ![t.val % 8, t.val / 8] ∧ win0_6.index t = ![t.val % 8, t.val / 8])

theorem N64 (t : Fin cfg0.N) : t.val < 64 := lt_of_lt_of_eq t.isLt N_0

variable (m : (ℓ : Loc nD τ sig) → Buf (Elt Ideal) ℓ) (d : Dev nD)

/-- The projection. -/
abbrev X0 : FVec Ideal S4096x14336 .bf16 := m ((d.tc : Thread nD τ).loc main_arg0)

/-- The two heads of a point. -/
def heads (t : Fin cfg0.N) (e : Fin 2) : Head := hd (X0 m d) (2 * (t.val / 8) + e.val)

section Blocks
variable (t : Fin cfg0.N)

theorem blk0 (r : Fin 512) (e : Fin 2) (l : Fin 128) : (iblk m d 0 t : FVec Ideal S512x256 .bf16) (ix2 r (lane e l)) = ent (X0 m d) (512 * (t.val % 8) + r.val) (2048 + 128 * (2 * (t.val / 8) + e.val) + l.val) := by
  unfold iblk
  rw [View.read_apply]
  show V m d main_arg0 _ = _
  rw [V_main_arg0]
  have hi := (idx_facts t).1
  refine (ent_at (X0 m d) _).trans (congrArg₂ (ent _) ?_ ?_)
  · show win0_0.index t 0 * 512 + 1 * r.val = 512 * (t.val % 8) + r.val
    rw [hi]; show t.val % 8 * 512 + 1 * r.val = 512 * (t.val % 8) + r.val; omega
  · show win0_0.index t 1 * 256 + 1 * (128 * e.val + l.val) = 2048 + 128 * (2 * (t.val / 8) + e.val) + l.val
    rw [hi]; show (8 + t.val / 8) * 256 + 1 * (128 * e.val + l.val) = 2048 + 128 * (2 * (t.val / 8) + e.val) + l.val; omega

theorem blk1 (R : Fin 4096) (e : Fin 2) (l : Fin 128) : (iblk m d 1 t : FVec Ideal S4096x256 .bf16) (ix2 R (lane e l)) = ent (X0 m d) (R.val) (4096 + 128 * (2 * (t.val / 8) + e.val) + l.val) := by
  unfold iblk
  rw [View.read_apply]
  show V m d main_arg0 _ = _
  rw [V_main_arg0]
  have hi := (idx_facts t).2.1
  refine (ent_at (X0 m d) _).trans (congrArg₂ (ent _) ?_ ?_)
  · show win0_1.index t 0 * 4096 + 1 * R.val = R.val
    rw [hi]; show 0 * 4096 + 1 * R.val = R.val; omega
  · show win0_1.index t 1 * 256 + 1 * (128 * e.val + l.val) = 4096 + 128 * (2 * (t.val / 8) + e.val) + l.val
    rw [hi]; show (16 + t.val / 8) * 256 + 1 * (128 * e.val + l.val) = 4096 + 128 * (2 * (t.val / 8) + e.val) + l.val; omega

theorem blk2 (R : Fin 4096) (e : Fin 2) (l : Fin 128) : (iblk m d 2 t : FVec Ideal S4096x256 .bf16) (ix2 R (lane e l)) = ent (X0 m d) (R.val) (6144 + 128 * (2 * (t.val / 8) + e.val) + l.val) := by
  unfold iblk
  rw [View.read_apply]
  show V m d main_arg0 _ = _
  rw [V_main_arg0]
  have hi := (idx_facts t).2.2.1
  refine (ent_at (X0 m d) _).trans (congrArg₂ (ent _) ?_ ?_)
  · show win0_2.index t 0 * 4096 + 1 * R.val = R.val
    rw [hi]; show 0 * 4096 + 1 * R.val = R.val; omega
  · show win0_2.index t 1 * 256 + 1 * (128 * e.val + l.val) = 6144 + 128 * (2 * (t.val / 8) + e.val) + l.val
    rw [hi]; show (24 + t.val / 8) * 256 + 1 * (128 * e.val + l.val) = 6144 + 128 * (2 * (t.val / 8) + e.val) + l.val; omega

theorem blk3 (r : Fin 512) (e : Fin 2) (l : Fin 128) : (iblk m d 3 t : FVec Ideal S512x256 .bf16) (ix2 r (lane e l)) = ent (X0 m d) (512 * (t.val % 8) + r.val) (8192 + 128 * (2 * (t.val / 8) + e.val) + l.val) := by
  unfold iblk
  rw [View.read_apply]
  show V m d main_arg0 _ = _
  rw [V_main_arg0]
  have hi := (idx_facts t).2.2.2.1
  refine (ent_at (X0 m d) _).trans (congrArg₂ (ent _) ?_ ?_)
  · show win0_3.index t 0 * 512 + 1 * r.val = 512 * (t.val % 8) + r.val
    rw [hi]; show t.val % 8 * 512 + 1 * r.val = 512 * (t.val % 8) + r.val; omega
  · show win0_3.index t 1 * 256 + 1 * (128 * e.val + l.val) = 8192 + 128 * (2 * (t.val / 8) + e.val) + l.val
    rw [hi]; show (32 + t.val / 8) * 256 + 1 * (128 * e.val + l.val) = 8192 + 128 * (2 * (t.val / 8) + e.val) + l.val; omega

theorem keys_ok : KeysOk (heads m d t) (iblk m d 1 t) (iblk m d 2 t) where
  hk e R l := blk1 m d t R e l
  hv e R l := blk2 m d t R e l

/-- The tiles of a point: queries, gates. -/
abbrev tq : FVec Ideal S512x256 .bf16 := iblk m d 0 t
abbrev tz : FVec Ideal S512x256 .bf16 := iblk m d 3 t

theorem query_ok (e : Fin 2) (r : Fin 512) (l : Fin 128) : tq m d t (ix2 r (lane e l)) * Ideal.ofBits .f32 0x3DB504F3#32
    = (heads m d t e).Q (512 * tile t + r.val) l := by
  rw [tile_eq]; exact congrArg (· * qs) (blk0 m d t r e l)

theorem tile_lt : tile t < 8 := by rw [tile_eq]; omega

end Blocks

/-! ## The final arrays -/

/-- The output, the gated output and the totals as arrays. -/
def oN (x0 : FVec Ideal S4096x14336 .bf16) (R C : ℕ) : EReal := tail (term (hd x0 (C / 128)) R (lan C)) 0
def yN (x0 : FVec Ideal S4096x14336 .bf16) (R C : ℕ) : EReal := oN x0 R C * (ent x0 R (8192 + C) * sg (ent x0 R (8192 + C)))
def tN (x0 : FVec Ideal S4096x14336 .bf16) (R C : ℕ) : EReal := tail ((hd x0 (C / 128)).sp R) 0

section Final
variable (t : Fin cfg0.N) (e : Fin 2) (r : Fin 512) (l : Fin 128)

/-- The output's tile in the array's coordinates. -/
theorem tileO_eq : tileO m d t (ix2 r (lane e l)) = oN (X0 m d) (512 * (t.val % 8) + r.val) (128 * (2 * (t.val / 8) + e.val) + l.val) := by
  unfold tileO oN
  rw [outO_eq (heads m d t) (tile t) (tile_lt t) _ _ _ (keys_ok m d t) (query_ok m d t), tile_eq, col_head _ _ _ l.isLt, col_lane]
  rfl

/-- The gated output's tile. -/
theorem tileY_eq : tileY m d t (ix2 r (lane e l)) = yN (X0 m d) (512 * (t.val % 8) + r.val) (128 * (2 * (t.val / 8) + e.val) + l.val) := by
  unfold tileY yN oN
  rw [outY_eq (heads m d t) (tile t) (tile_lt t) _ _ _ (tz m d t) (keys_ok m d t) (query_ok m d t), show tz m d t (ix2 r (lane e l)) = _ from blk3 m d t r e l, tile_eq, col_head _ _ _ l.isLt, col_lane,
    show 8192 + 128 * (2 * (t.val / 8) + e.val) + l.val = 8192 + (128 * (2 * (t.val / 8) + e.val) + l.val) by omega]
  rfl

/-- The totals' tile. -/
theorem tileT_eq : tileT m d t (ix2 r (lane e l)) = tN (X0 m d) (512 * (t.val % 8) + r.val) (128 * (2 * (t.val / 8) + e.val) + l.val) := by
  unfold tileT tN
  rw [outT_eq (heads m d t) (tile t) (tile_lt t) _ _ _ (keys_ok m d t) (query_ok m d t), tile_eq, col_head _ _ _ l.isLt]
  rfl

end Final

theorem final4 : (data m 0 d).arrAt 4 cfg0.N = arr (oN (X0 m d)) := by
  refine (data m 0 d).arrAt_eq_of_cover 4 _ (fun t hf => ?_) fun i => ?_
  · have ht := N64 t
    have hi := (idx_facts t).2.2.2.2.1
    show (cfg0.win 4).cut (grid0.coords t) ((data m 0 d).after 4 t) = _
    rw [a4]
    funext y
    rw [View.read_apply]
    obtain ⟨r, e, l, rfl⟩ := split_idx (n := 512) y
    have hr : ((((cfg0.win 4).blk t).view.emb (ix2 r (lane e l)) : S4096x2048.Idx) 0).val = 512 * (t.val % 8) + r.val := by
      show win0_4.index t 0 * 512 + 1 * r.val = 512 * (t.val % 8) + r.val
      rw [hi]; show t.val % 8 * 512 + 1 * r.val = 512 * (t.val % 8) + r.val; omega
    have hc : ((((cfg0.win 4).blk t).view.emb (ix2 r (lane e l)) : S4096x2048.Idx) 1).val = 128 * (2 * (t.val / 8) + e.val) + l.val := by
      show win0_4.index t 1 * 256 + 1 * (128 * e.val + l.val) = 128 * (2 * (t.val / 8) + e.val) + l.val
      rw [hi]; show t.val / 8 * 256 + 1 * (128 * e.val + l.val) = 128 * (2 * (t.val / 8) + e.val) + l.val; omega
    show _ = arr (oN (X0 m d)) (((cfg0.win 4).blk t).view.emb (ix2 r (lane e l)))
    unfold arr
    rw [hr, hc]
    exact tileO_eq m d t e r l
  · have hN : cfg0.N = 64 := N_0
    have hi0 : (i 0 : ℕ) < 4096 := (i 0).isLt
    have hi1 : (i 1 : ℕ) < 2048 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_4 t, ?_⟩
    show i ∈ ((View.whole main_v0_0).slice (win0_4.rect t)).set
    rw [View.set_slice_whole, Rect.mem_set_unit]
    have hi := (idx_facts t).2.2.2.2.1
    intro a
    match a with
    | ⟨0, _⟩ =>
      show win0_4.index t 0 * 512 ≤ (i 0 : ℕ) ∧ (i 0 : ℕ) < win0_4.index t 0 * 512 + 512
      rw [hi]; show t.val % 8 * 512 ≤ (i 0 : ℕ) ∧ (i 0 : ℕ) < t.val % 8 * 512 + 512; omega
    | ⟨1, _⟩ =>
      show win0_4.index t 1 * 256 ≤ (i 1 : ℕ) ∧ (i 1 : ℕ) < win0_4.index t 1 * 256 + 256
      rw [hi]; show t.val / 8 * 256 ≤ (i 1 : ℕ) ∧ (i 1 : ℕ) < t.val / 8 * 256 + 256; omega

theorem final5 : (data m 0 d).arrAt 5 cfg0.N = arr (yN (X0 m d)) := by
  refine (data m 0 d).arrAt_eq_of_cover 5 _ (fun t hf => ?_) fun i => ?_
  · have ht := N64 t
    have hi := (idx_facts t).2.2.2.2.2.1
    show (cfg0.win 5).cut (grid0.coords t) ((data m 0 d).after 5 t) = _
    rw [a5]
    funext y
    rw [View.read_apply]
    obtain ⟨r, e, l, rfl⟩ := split_idx (n := 512) y
    have hr : ((((cfg0.win 5).blk t).view.emb (ix2 r (lane e l)) : S4096x2048.Idx) 0).val = 512 * (t.val % 8) + r.val := by
      show win0_5.index t 0 * 512 + 1 * r.val = 512 * (t.val % 8) + r.val
      rw [hi]; show t.val % 8 * 512 + 1 * r.val = 512 * (t.val % 8) + r.val; omega
    have hc : ((((cfg0.win 5).blk t).view.emb (ix2 r (lane e l)) : S4096x2048.Idx) 1).val = 128 * (2 * (t.val / 8) + e.val) + l.val := by
      show win0_5.index t 1 * 256 + 1 * (128 * e.val + l.val) = 128 * (2 * (t.val / 8) + e.val) + l.val
      rw [hi]; show t.val / 8 * 256 + 1 * (128 * e.val + l.val) = 128 * (2 * (t.val / 8) + e.val) + l.val; omega
    show _ = arr (yN (X0 m d)) (((cfg0.win 5).blk t).view.emb (ix2 r (lane e l)))
    unfold arr
    rw [hr, hc]
    exact tileY_eq m d t e r l
  · have hN : cfg0.N = 64 := N_0
    have hi0 : (i 0 : ℕ) < 4096 := (i 0).isLt
    have hi1 : (i 1 : ℕ) < 2048 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_5 t, ?_⟩
    show i ∈ ((View.whole main_v0_1).slice (win0_5.rect t)).set
    rw [View.set_slice_whole, Rect.mem_set_unit]
    have hi := (idx_facts t).2.2.2.2.2.1
    intro a
    match a with
    | ⟨0, _⟩ =>
      show win0_5.index t 0 * 512 ≤ (i 0 : ℕ) ∧ (i 0 : ℕ) < win0_5.index t 0 * 512 + 512
      rw [hi]; show t.val % 8 * 512 ≤ (i 0 : ℕ) ∧ (i 0 : ℕ) < t.val % 8 * 512 + 512; omega
    | ⟨1, _⟩ =>
      show win0_5.index t 1 * 256 ≤ (i 1 : ℕ) ∧ (i 1 : ℕ) < win0_5.index t 1 * 256 + 256
      rw [hi]; show t.val / 8 * 256 ≤ (i 1 : ℕ) ∧ (i 1 : ℕ) < t.val / 8 * 256 + 256; omega

theorem final6 : (data m 0 d).arrAt 6 cfg0.N = arr (tN (X0 m d)) := by
  refine (data m 0 d).arrAt_eq_of_cover 6 _ (fun t hf => ?_) fun i => ?_
  · have ht := N64 t
    have hi := (idx_facts t).2.2.2.2.2.2
    show (cfg0.win 6).cut (grid0.coords t) ((data m 0 d).after 6 t) = _
    rw [a6]
    funext y
    rw [View.read_apply]
    obtain ⟨r, e, l, rfl⟩ := split_idx (n := 512) y
    have hr : ((((cfg0.win 6).blk t).view.emb (ix2 r (lane e l)) : S4096x2048.Idx) 0).val = 512 * (t.val % 8) + r.val := by
      show win0_6.index t 0 * 512 + 1 * r.val = 512 * (t.val % 8) + r.val
      rw [hi]; show t.val % 8 * 512 + 1 * r.val = 512 * (t.val % 8) + r.val; omega
    have hc : ((((cfg0.win 6).blk t).view.emb (ix2 r (lane e l)) : S4096x2048.Idx) 1).val = 128 * (2 * (t.val / 8) + e.val) + l.val := by
      show win0_6.index t 1 * 256 + 1 * (128 * e.val + l.val) = 128 * (2 * (t.val / 8) + e.val) + l.val
      rw [hi]; show t.val / 8 * 256 + 1 * (128 * e.val + l.val) = 128 * (2 * (t.val / 8) + e.val) + l.val; omega
    show _ = arr (tN (X0 m d)) (((cfg0.win 6).blk t).view.emb (ix2 r (lane e l)))
    unfold arr
    rw [hr, hc]
    exact tileT_eq m d t e r l
  · have hN : cfg0.N = 64 := N_0
    have hi0 : (i 0 : ℕ) < 4096 := (i 0).isLt
    have hi1 : (i 1 : ℕ) < 2048 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_6 t, ?_⟩
    show i ∈ ((View.whole main_v0_2).slice (win0_6.rect t)).set
    rw [View.set_slice_whole, Rect.mem_set_unit]
    have hi := (idx_facts t).2.2.2.2.2.2
    intro a
    match a with
    | ⟨0, _⟩ =>
      show win0_6.index t 0 * 512 ≤ (i 0 : ℕ) ∧ (i 0 : ℕ) < win0_6.index t 0 * 512 + 512
      rw [hi]; show t.val % 8 * 512 ≤ (i 0 : ℕ) ∧ (i 0 : ℕ) < t.val % 8 * 512 + 512; omega
    | ⟨1, _⟩ =>
      show win0_6.index t 1 * 256 ≤ (i 1 : ℕ) ∧ (i 1 : ℕ) < win0_6.index t 1 * 256 + 256
      rw [hi]; show t.val / 8 * 256 ≤ (i 1 : ℕ) ∧ (i 1 : ℕ) < t.val / 8 * 256 + 256; omega

end Cert.AttnFwdIdeal.Hand

end
-- ==== Proof.AttnFwdValue.lean ====
module

public import proofs.«01_k».proof.Proof.AttnFwdArrays
public import proofs.«01_k».proof.Proof.Finite
public import proofs.«01_k».proof.Proof.Gen.AttnFwdRefIdeal.Run
public import proofs.«01_k».proof.Proof.Gen.Pre_finite_attf
public import proofs.«01_k».proof.Defs

@[expose] public section

set_option maxRecDepth 16384

noncomputable section

namespace Cert.AttnFwdIdeal.Hand

open Idealize.ShloMosaic Idealize.ShloMosaic.TcCoe Idealize.ShloMosaic.Tactic Idealize.SL.Sem
open Cert.AttnFwdIdeal Cert.AttnFwdIdeal.Gen Cert.Common
open Cert.AttnBwdIdeal.Hand (ent_eq arr arr_ext head_lane lane_lane)

/-- A finite projection holds real numbers. -/
theorem finite_args (x0 : FVec Ideal S4096x14336 .bf16) (h : Cert.Pre_finite_attf.fn (F := Ideal) x0 = fun _ => 1#1) : ∀ i, IsR (x0 i) := by
  have h0 := congrFun h ix0
  unfold Cert.Pre_finite_attf.fn at h0
  exact fun i => real_of_reduce (extf .f32 x0 bitsLt_bf16_f32) _ (fun _ => rfl) _ _ _ _ h0 i

section Ref
variable (x0 : FVec Ideal S4096x14336 .bf16) (f0 : ∀ i, IsR (x0 i))

include f0 in
/-- The reference's output. -/
theorem ref_o : Cert.AttnFwdRefIdeal.Read.val_main_v47 (F := Ideal) x0 = arr (oN x0) := arr_ext _ _ fun R e l => by
  unfold oN
  rw [head_lane _ _ l.isLt, lane_lane]
  exact o_eq x0 R e l f0

include f0 in
/-- The reference's gated output. -/
theorem ref_y : Cert.AttnFwdRefIdeal.Read.val_main_v50 (F := Ideal) x0 = arr (yN x0) := arr_ext _ _ fun R e l => by
  unfold yN oN
  rw [head_lane _ _ l.isLt, lane_lane, y_eq, o_eq x0 R e l f0]

/-- The reference's totals. -/
theorem ref_t : (Cert.AttnFwdRefIdeal.Read.val_main_v46 (F := Ideal) x0 : FVec Ideal S4096x2048 .f32) = arr (tN x0) := arr_ext (tN x0) (Cert.AttnFwdRefIdeal.Read.val_main_v46 (F := Ideal) x0) fun R e l => by
  unfold tN
  rw [head_lane _ _ l.isLt]
  exact tot_eq x0 R e l

end Ref

end Cert.AttnFwdIdeal.Hand

namespace Cert.Proof

open Idealize.ShloMosaic Idealize.ShloMosaic.TcCoe Idealize.SL.Sem
open Cert.AttnFwdIdeal Cert.AttnFwdIdeal.Gen Cert.AttnFwdIdeal.Hand
open Cert.AttnBwdIdeal.Hand (arr)

/-- The attention: the kernel's three arrays are the reference's, of a finite projection. -/
theorem attn_fwd : Cert.algebraic_AttnFwdIdeal_AttnFwdRefIdeal_pre_finite_attf := by
  intro m g m' g' hpre hagree
  refine ⟨fun d => arr (oN (X0 m d)), fun d => arr (yN (X0 m d)), fun d => arr (tN (X0 m d)), ?_, ?_⟩
  · refine (θ_run _ _ _).mono (fun r h c => ?_) (θ_run_and (Cert.AttnFwdIdeal.Hand.run (F := Ideal) m g) (Cert.AttnFwdIdeal.Hand.quiet (F := Ideal) m g))
    exact ⟨((h.1 c).1 4).trans (final4 m c), ((h.1 c).1 5).trans (final5 m c), ((h.1 c).1 6).trans (final6 m c), h.2.1 c⟩
  · refine (θ_run _ _ _).mono (fun r h c => ?_) (Cert.AttnFwdRefIdeal.Value.run (F := Ideal) m' g')
    have hf := finite_args _ (hpre c)
    have e0 := hagree c
    refine ⟨(h c).1.trans ((Cert.AttnFwdRefIdeal.Read.val_main_v47_eq (F := Ideal) m' c).trans ?_), (h c).2.1.trans ((Cert.AttnFwdRefIdeal.Read.val_main_v50_eq (F := Ideal) m' c).trans ?_),
      (h c).2.2.1.trans ((Cert.AttnFwdRefIdeal.Read.val_main_v46_eq (F := Ideal) m' c).trans ?_), (h c).2.2.2⟩
    · exact (congrArg (Cert.AttnFwdRefIdeal.Read.val_main_v47 (F := Ideal)) e0).trans (ref_o (X0 m c) hf)
    · exact (congrArg (Cert.AttnFwdRefIdeal.Read.val_main_v50 (F := Ideal)) e0).trans (ref_y (X0 m c) hf)
    · exact (congrArg (Cert.AttnFwdRefIdeal.Read.val_main_v46 (F := Ideal)) e0).trans (ref_t (X0 m c))

end Cert.Proof

end
-- ==== Proof.ConvFwdValue.lean ====
module

public import proofs.«01_k».proof.Defs
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Common
public import proofs.«01_k».proof.Proof.ConvBwdValue
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ConvFwdIdeal.Hand

open Cert.ConvFwdIdeal Cert.ConvFwdIdeal.Gen Cert.Common
open Cert.ConvBwdIdeal.Hand (sg back back_shift back_zero cu cb cc cz vcol conv pad_taps)

section
variable (i : grid0.Coords) (u v b z : Vec Ideal S512x256 .bf16) (up vp : Vec Ideal S16x256 .bf16) (w : Vec Ideal S8x256 .f32) (A : FVec Ideal S512x256 .f32)

/-- The gate behind the convolution times the convolution, which is the backward call's. -/
theorem pay3_apply (r : Fin 512) (l : Fin 256) :
    k0_pay3 i u v up vp w b (ix2 r l) = (b (ix2 r l) * Cert.ConvBwdIdeal.Gen.k0_pay10 i u v up vp w (ix2 r l) : EReal) := rfl

/-- The output gate. -/
theorem pay1_apply (r : Fin 512) (l : Fin 256) :
    k0_pay1 (k0_pay2 z) A (k0_pay4 z) (ix2 r l) = (A (ix2 r l) * (z (ix2 r l) * sg (z (ix2 r l))) : EReal) := by
  unfold_payloads
  pointwise
  rfl

end

variable (m : (ℓ : Loc nD τ sig) → Buf (Elt Ideal) ℓ)

/-- The block each window reads or writes at a point of the grid. -/
theorem idx_facts : ∀ t : Fin cfg0.N, win0_0.index t = ![t.val % 8, 40 + t.val / 8] ∧ win0_1.index t = ![t.val % 8 * 32 - 1, 40 + t.val / 8]
    ∧ win0_2.index t = ![t.val % 8, 48 + t.val / 8] ∧ win0_3.index t = ![t.val % 8 * 32 - 1, 48 + t.val / 8]
    ∧ win0_4.index t = ![t.val % 8, 44 + t.val / 8] ∧ win0_5.index t = ![t.val % 8, 52 + t.val / 8]
    ∧ win0_6.index t = ![0, t.val / 8] ∧ win0_7.index t = ![t.val % 8, t.val / 8] :=
  (by decide +kernel : ∀ t : Fin grid0.N, win0_0.index t = ![t.val % 8, 40 + t.val / 8] ∧ win0_1.index t = ![t.val % 8 * 32 - 1, 40 + t.val / 8]
    ∧ win0_2.index t = ![t.val % 8, 48 + t.val / 8] ∧ win0_3.index t = ![t.val % 8 * 32 - 1, 48 + t.val / 8]
    ∧ win0_4.index t = ![t.val % 8, 44 + t.val / 8] ∧ win0_5.index t = ![t.val % 8, 52 + t.val / 8]
    ∧ win0_6.index t = ![0, t.val / 8] ∧ win0_7.index t = ![t.val % 8, t.val / 8])

/-- The grid's size. -/
theorem lt_N (t : Fin cfg0.N) : t.val < 32 := lt_of_lt_of_eq t.isLt N_0

/-- The first tile of a column of tiles has none before it. -/
theorem first : ∀ t : Fin cfg0.N, Scalar.cmpi CmpIPredicate.eq (BitVec.ofNat 32 (grid0.coords t 1).val) 0#32 = (if t.val % 8 = 0 then 1#1 else 0#1) :=
  (by decide +kernel : ∀ t : Fin grid0.N, Scalar.cmpi CmpIPredicate.eq (BitVec.ofNat 32 (grid0.coords t 1).val) 0#32 = (if t.val % 8 = 0 then 1#1 else 0#1))

/-- The arguments: the projection, the taps. -/
abbrev PJ (c : Dev nD) : Vec Ideal S4096x14336 .bf16 := m ((c : Thread nD τ).loc main_arg0)
abbrev CW (c : Dev nD) : Vec Ideal S3x1024 .f32 := m ((c : Thread nD τ).loc main_arg1)
/-- The taps in a block of eight rows, as the kernel reads them. -/
abbrev KW (c : Dev nD) : Vec Ideal S8x1024 .f32 := V m c main_v0

/-- The taps' rows in the block. -/
theorem KW_apply (c : Dev nD) (l : Fin 1024) : KW m c (ix2 0 l) = CW m c (ix2 0 l) ∧ KW m c (ix2 1 l) = CW m c (ix2 1 l) ∧ KW m c (ix2 2 l) = CW m c (ix2 2 l) := by
  have : V m c main_v0 = (pad S8x1024 ![0, 0] ![5, 0] ![0, 0] (m ((c.tc : Thread nD τ).loc main_arg1) : FVec Ideal S3x1024 .f32) (sitofp .f32 (constantI S_ 32 0#32) : FVec Ideal S_ .f32) pads_S3x1024_S8x1024_050_000 h_S_ : FVec Ideal S8x1024 .f32) := by
    unfold V hostOps0 hostOps0_1
    simp only [List.flatten_cons, List.flatten_nil, List.cons_append, List.nil_append, List.append_nil]
    after_results <;> rfl
  unfold KW
  rw [this]
  exact ⟨pad_taps _ _ 0 l (by norm_num), pad_taps _ _ 1 l (by norm_num), pad_taps _ _ 2 l (by norm_num)⟩

/-- The array's row and column of a tile's, and the row among the sixteen before the tile. -/
abbrev row (t : Fin cfg0.N) (r : Fin 512) : Fin 4096 := ⟨512 * (t.val % 8) + r.val, by omega⟩
abbrev prow (t : Fin cfg0.N) (r : Fin 16) : Fin 4096 := ⟨16 * (t.val % 8 * 32 - 1) + r.val, by omega⟩
abbrev col (t : Fin cfg0.N) (l : Fin 256) : Fin 1024 := ⟨256 * (t.val / 8) + l.val, by have := lt_N t; omega⟩

/-- An entry of the projection at a place of a tile: `k` counts the tile's columns, `C` is the column it is. -/
theorem at_cur (A : Vec Ideal S4096x14336 .bf16) (t : Fin cfg0.N) (r : Fin 512) (l : Fin 256) (k : ℕ) (C : Fin 14336) (w : Fin 2 → ℕ) (i : S4096x14336.Idx)
    (hw : w = ![t.val % 8, k + t.val / 8]) (hC : C.val = 256 * k + (col t l).val) (h0 : (i 0).val = w 0 * 512 + 1 * r.val) (h1 : (i 1).val = w 1 * 256 + 1 * l.val) :
    A i = A (ix2 (row t r) C) := by
  subst hw
  refine congrArg A (Shape.idx_ext₂ ?_ ?_)
  · show (i 0).val = 512 * (t.val % 8) + r.val
    rw [h0]; show t.val % 8 * 512 + 1 * r.val = _; omega
  · show (i 1).val = C.val
    rw [h1, hC]; show (k + t.val / 8) * 256 + 1 * l.val = 256 * k + (256 * (t.val / 8) + l.val); omega
/-- The same in the sixteen rows before the tile. -/
theorem at_prev (A : Vec Ideal S4096x14336 .bf16) (t : Fin cfg0.N) (r : Fin 16) (l : Fin 256) (k : ℕ) (C : Fin 14336) (w : Fin 2 → ℕ) (i : S4096x14336.Idx)
    (hw : w = ![t.val % 8 * 32 - 1, k + t.val / 8]) (hC : C.val = 256 * k + (col t l).val) (h0 : (i 0).val = w 0 * 16 + 1 * r.val) (h1 : (i 1).val = w 1 * 256 + 1 * l.val) :
    A i = A (ix2 (prow t r) C) := by
  subst hw
  refine congrArg A (Shape.idx_ext₂ ?_ ?_)
  · show (i 0).val = 16 * (t.val % 8 * 32 - 1) + r.val
    rw [h0]; show (t.val % 8 * 32 - 1) * 16 + 1 * r.val = _; omega
  · show (i 1).val = C.val
    rw [h1, hC]; show (k + t.val / 8) * 256 + 1 * l.val = 256 * k + (256 * (t.val / 8) + l.val); omega

/-- The tiles the kernel reads of the projection. -/
theorem iblk0_apply (c : Dev nD) (t : Fin cfg0.N) (r : Fin 512) (l : Fin 256) : (iblk m c 0 t : Vec Ideal S512x256 .bf16) (ix2 r l) = PJ m c (ix2 (row t r) (cu (col t l))) := by
  unfold iblk
  rw [View.read_apply]
  show V m c main_arg0 _ = _
  rw [V_main_arg0]
  exact at_cur (PJ m c) t r l 40 _ _ _ (idx_facts t).1 rfl rfl rfl
theorem iblk1_apply (c : Dev nD) (t : Fin cfg0.N) (r : Fin 16) (l : Fin 256) : (iblk m c 1 t : Vec Ideal S16x256 .bf16) (ix2 r l) = PJ m c (ix2 (prow t r) (cu (col t l))) := by
  unfold iblk
  rw [View.read_apply]
  show V m c main_arg0 _ = _
  rw [V_main_arg0]
  exact at_prev (PJ m c) t r l 40 _ _ _ (idx_facts t).2.1 rfl rfl rfl
theorem iblk2_apply (c : Dev nD) (t : Fin cfg0.N) (r : Fin 512) (l : Fin 256) : (iblk m c 2 t : Vec Ideal S512x256 .bf16) (ix2 r l) = PJ m c (ix2 (row t r) (cc (col t l))) := by
  unfold iblk
  rw [View.read_apply]
  show V m c main_arg0 _ = _
  rw [V_main_arg0]
  exact at_cur (PJ m c) t r l 48 _ _ _ (idx_facts t).2.2.1 rfl rfl rfl
theorem iblk3_apply (c : Dev nD) (t : Fin cfg0.N) (r : Fin 16) (l : Fin 256) : (iblk m c 3 t : Vec Ideal S16x256 .bf16) (ix2 r l) = PJ m c (ix2 (prow t r) (cc (col t l))) := by
  unfold iblk
  rw [View.read_apply]
  show V m c main_arg0 _ = _
  rw [V_main_arg0]
  exact at_prev (PJ m c) t r l 48 _ _ _ (idx_facts t).2.2.2.1 rfl rfl rfl
theorem iblk4_apply (c : Dev nD) (t : Fin cfg0.N) (r : Fin 512) (l : Fin 256) : (iblk m c 4 t : Vec Ideal S512x256 .bf16) (ix2 r l) = PJ m c (ix2 (row t r) (cb (col t l))) := by
  unfold iblk
  rw [View.read_apply]
  show V m c main_arg0 _ = _
  rw [V_main_arg0]
  exact at_cur (PJ m c) t r l 44 _ _ _ (idx_facts t).2.2.2.2.1 rfl rfl rfl
theorem iblk5_apply (c : Dev nD) (t : Fin cfg0.N) (r : Fin 512) (l : Fin 256) : (iblk m c 5 t : Vec Ideal S512x256 .bf16) (ix2 r l) = PJ m c (ix2 (row t r) (cz (col t l))) := by
  unfold iblk
  rw [View.read_apply]
  show V m c main_arg0 _ = _
  rw [V_main_arg0]
  exact at_cur (PJ m c) t r l 52 _ _ _ (idx_facts t).2.2.2.2.2.1 rfl rfl rfl
/-- The taps at a point. -/
theorem iblk6_apply (c : Dev nD) (t : Fin cfg0.N) (r : Fin 8) (l : Fin 256) : (iblk m c 6 t : Vec Ideal S8x256 .f32) (ix2 r l) = KW m c (ix2 r (col t l)) := by
  have hi := (idx_facts t).2.2.2.2.2.2.1
  unfold iblk
  rw [View.read_apply]
  refine congrArg (KW m c) (Shape.idx_ext₂ ?_ ?_)
  · show win0_6.index t 0 * 8 + 1 * r.val = r.val
    rw [hi]; show 0 * 8 + 1 * r.val = r.val; omega
  · show win0_6.index t 1 * 256 + 1 * l.val = 256 * (t.val / 8) + l.val
    rw [hi]; show t.val / 8 * 256 + 1 * l.val = _; omega

/-- The gated input of a tile and of the sixteen rows before it. -/
theorem ve_apply (c : Dev nD) (t : Fin cfg0.N) (r : Fin 528) (l : Fin 256) :
    (Cert.ConvBwdIdeal.Gen.k0_pay6 (F := Ideal) (grid0.coords t) (iblk m c 0 t) (iblk m c 2 t) (iblk m c 1 t) (iblk m c 3 t) (ix2 r l) : EReal) = back (vcol (PJ m c) (col t l)) 16 (512 * (t.val % 8) + r.val) := by
  rw [Cert.ConvBwdIdeal.Hand.pay6_apply, first t]
  unfold back
  by_cases hr : r.val < 16
  · rw [dif_pos hr]
    by_cases h0 : t.val % 8 = 0
    · rw [if_pos h0, if_pos (by omega)]
      rfl
    · rw [if_neg h0, if_neg (by omega), ext_of_lt _ (by omega : 512 * (t.val % 8) + r.val - 16 < 4096)]
      refine (congrArg₂ (fun a b : EReal => a * b) (iblk1_apply m c t ⟨r.val, hr⟩ l) (iblk3_apply m c t ⟨r.val, hr⟩ l)).trans ?_
      rw [show prow t ⟨r.val, hr⟩ = ⟨512 * (t.val % 8) + r.val - 16, by omega⟩ from Fin.ext (by show 16 * (t.val % 8 * 32 - 1) + r.val = 512 * (t.val % 8) + r.val - 16; omega)]
      rfl
  · rw [dif_neg hr, if_neg (by omega), ext_of_lt _ (by omega : 512 * (t.val % 8) + r.val - 16 < 4096), iblk0_apply, iblk2_apply,
      show row t ⟨r.val - 16, by omega⟩ = ⟨512 * (t.val % 8) + r.val - 16, by omega⟩ from Fin.ext (by show 512 * (t.val % 8) + (r.val - 16) = 512 * (t.val % 8) + r.val - 16; omega)]
    rfl

/-- The convolution of a tile is the array's. -/
theorem conv_apply (c : Dev nD) (t : Fin cfg0.N) (r : Fin 512) (l : Fin 256) :
    (Cert.ConvBwdIdeal.Gen.k0_pay10 (F := Ideal) (grid0.coords t) (iblk m c 0 t) (iblk m c 2 t) (iblk m c 1 t) (iblk m c 3 t) (iblk m c 6 t) (ix2 r l) : EReal) = conv (PJ m c) (CW m c) (row t r) (col t l) := by
  rw [Cert.ConvBwdIdeal.Hand.pay10_apply, Cert.ConvBwdIdeal.Hand.pay7_apply, Cert.ConvBwdIdeal.Hand.pay8_apply, ve_apply, ve_apply, iblk6_apply, iblk6_apply, iblk6_apply,
    (KW_apply m c _).1, (KW_apply m c _).2.1, (KW_apply m c _).2.2, iblk0_apply, iblk2_apply]
  unfold conv
  rw [← back_shift _ 2 14, ← back_shift _ 1 15]
  rw [show 512 * (t.val % 8) + (16 + r.val + 528 - 2) % 528 = (row t r).val + 14 by show _ = 512 * (t.val % 8) + r.val + 14; omega,
    show 512 * (t.val % 8) + (16 + r.val + 528 - 1) % 528 = (row t r).val + 15 by show _ = 512 * (t.val % 8) + r.val + 15; omega]
  rfl

/-- The gated convolution. -/
def outc (c : Dev nD) : Vec Ideal S4096x1024 .bf16 := fun i =>
  (PJ m c (ix2 (i 0) (cb (i 1))) * conv (PJ m c) (CW m c) (i 0) (i 1) * (PJ m c (ix2 (i 0) (cz (i 1))) * sg (PJ m c (ix2 (i 0) (cz (i 1))))) : EReal)

/-- The array the kernel leaves. -/
theorem final7 (c : Dev nD) : (dats m 0 c).arrAt 7 cfg0.N = outc m c := by
  refine (dats m 0 c).arrAt_eq_of_cover 7 (outc m c) (fun t hf => ?_) fun i => ?_
  · have hi := (idx_facts t).2.2.2.2.2.2.2
    have ht := lt_N t
    rw [Value.flushed7]
    funext y
    rw [View.read_apply]
    obtain ⟨r, l, rfl⟩ : ∃ (r : Fin 512) (l : Fin 256), y = ix2 r l := ⟨y 0, y 1, by funext a; match a with | ⟨0, _⟩ => rfl | ⟨1, _⟩ => rfl⟩
    have e : (((cfg0.win 7).blk t).view.emb (ix2 r l) : S4096x1024.Idx) = ix2 (row t r) (col t l) := by
      refine Shape.idx_ext₂ ?_ ?_
      · show win0_7.index t 0 * 512 + 1 * r.val = 512 * (t.val % 8) + r.val
        rw [hi]; show t.val % 8 * 512 + 1 * r.val = _; omega
      · show win0_7.index t 1 * 256 + 1 * l.val = 256 * (t.val / 8) + l.val
        rw [hi]; show t.val / 8 * 256 + 1 * l.val = _; omega
    show _ = outc m c (((cfg0.win 7).blk t).view.emb (ix2 r l))
    rw [e]
    show out0_7 (grid0.coords t) (iblk m c 0 t) (iblk m c 1 t) (iblk m c 2 t) (iblk m c 3 t) (iblk m c 4 t) (iblk m c 5 t) (iblk m c 6 t) (ix2 r l) = _
    unfold out0_7 r0_0 r0_1 r0_2
    rw [View.canon_unit_zero hz]
    simp only [View.ld_unit_zero (S := S512x256) hz, View.ld_unit_zero (S := S16x256) hz, View.ld_unit_zero (S := S8x256) hz]
    rw [pay1_apply, pay3_apply, conv_apply, iblk4_apply, iblk5_apply]
    rfl
  · have hN : cfg0.N = 32 := N_0
    have h0 : (i 0 : ℕ) < 4096 := (i 0).isLt
    have h1 : (i 1 : ℕ) < 1024 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_7 t, ?_⟩
    show i ∈ ((View.whole main_v1).slice (win0_7.rect t)).set
    rw [View.set_slice_whole, Rect.mem_set_unit]
    have hi := (idx_facts t).2.2.2.2.2.2.2
    intro a
    match a with
    | ⟨0, _⟩ =>
      show win0_7.index t 0 * 512 ≤ (i 0 : ℕ) ∧ (i 0 : ℕ) < win0_7.index t 0 * 512 + 512
      rw [hi]; show t.val % 8 * 512 ≤ (i 0 : ℕ) ∧ (i 0 : ℕ) < t.val % 8 * 512 + 512; omega
    | ⟨1, _⟩ =>
      show win0_7.index t 1 * 256 ≤ (i 1 : ℕ) ∧ (i 1 : ℕ) < win0_7.index t 1 * 256 + 256
      rw [hi]; show t.val / 8 * 256 ≤ (i 1 : ℕ) ∧ (i 1 : ℕ) < t.val / 8 * 256 + 256; omega

end Cert.ConvFwdIdeal.Hand

namespace Cert.ConvFwdRefIdeal.Hand

open Cert.ConvFwdRefIdeal Cert.ConvFwdRefIdeal.Gen Cert.ConvFwdRefIdeal.Read Cert.ConvFwdIdeal.Hand Cert.Common
open Cert.ConvBwdIdeal.Hand (sg back back_shift back_zero cu cb cc cz vcol conv)

section
variable (x0 : FVec Ideal S4096x14336 .bf16) (x1 : FVec Ideal S3x1024 .f32) (R : Fin 4096) (C : Fin 1024)

/-- The reference's gated input behind two rows of zeros. -/
theorem v10_eq (n : Fin 4098) : val_main_v10 (F := Ideal) x0 (ix2 n C) = back (vcol x0 C) 2 n.val := by
  unfold val_main_v10 val_main_v9 val_main_cst val_main_v8 val_main_v5 val_main_v4 val_main_v1 val_main_v0
  pointwise
  unfold back
  by_cases h : n.val < 2
  · rw [dif_pos h, if_pos h]
  · rw [dif_neg h, if_neg h, ext_of_lt _ (by omega : n.val - 2 < 4096)]
    exact mul_comm _ _

/-- The reference's convolution. -/
theorem v30_eq : val_main_v30 (F := Ideal) x0 x1 (ix2 R C) = conv x0 x1 R C := by
  unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11
  pointwise
  simp only [v10_eq]
  unfold conv
  rw [← back_zero (vcol x0 C) R, ← back_shift _ 1 1, ← back_shift _ 0 2, Nat.add_comm R.val 1, Nat.add_comm R.val 2]

end

/-- The reference's gated convolution is the kernel's. -/
theorem ref34 (m : (ℓ : Loc Cert.ConvFwdIdeal.nD Cert.ConvFwdIdeal.τ Cert.ConvFwdIdeal.sig) → Buf (Elt Ideal) ℓ) (c : Dev Cert.ConvFwdIdeal.nD) :
    val_main_v34 (F := Ideal) (PJ m c) (CW m c) = outc m c := by
  funext i
  obtain ⟨R, C, rfl⟩ : ∃ (R : Fin 4096) (C : Fin 1024), i = ix2 R C := ⟨i 0, i 1, eq_ix2 i⟩
  unfold val_main_v34 val_main_v33 val_main_v32 val_main_v31 val_main_call0_v5 val_main_call0_v4 val_main_call0_v3 val_main_call0_v2 val_main_call0_v1 val_main_call0_v0 val_main_call0_cst val_main_call0_cst_0 val_main_v7 val_main_v6 val_main_v3 val_main_v2
  pointwise
  rw [v30_eq]
  unfold outc sg
  rw [zero_sub]
  rfl

end Cert.ConvFwdRefIdeal.Hand

namespace Cert.Proof

open Cert.ConvFwdIdeal.Hand Cert.ConvFwdRefIdeal.Hand

/-- The short gated convolution: the kernel's rows are the reference's. -/
theorem conv_fwd : Cert.algebraic_ConvFwdIdeal_ConvFwdRefIdeal := by
  intro m g m' g' _ hagree
  refine ⟨outc m, ?_, ?_⟩
  · refine (θ_run _ _ _).mono (fun r h c => ?_) (Cert.ConvFwdIdeal.Value.run_blocks (F := Ideal) m g)
    exact ⟨(h c).1.trans (final7 m c), (h c).2⟩
  · refine (θ_run _ _ _).mono (fun r h c => ?_) (Cert.ConvFwdRefIdeal.Value.run (F := Ideal) m' g')
    refine ⟨(h c).1.trans ((Cert.ConvFwdRefIdeal.Read.val_main_v34_eq (F := Ideal) _ _).trans ?_), (h c).2⟩
    rw [(hagree c).1, (hagree c).2]
    exact ref34 m c

end Cert.Proof

end
-- ==== Proof.PoolFwdValue.lean ====
module

public import proofs.«01_k».proof.Defs
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Proof.Common
public import proofs.«01_k».proof.Proof.Finite
public import proofs.«01_k».proof.Proof.PoolBwdValue
public import proofs.«01_k».proof.Proof.Gen.Pre_finite_plf
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.PoolFwdIdeal.Hand

open Cert.PoolFwdIdeal Cert.PoolFwdIdeal.Gen Cert.Common
open Cert.PoolBwdIdeal.Hand (xe xe_apply dbl dbl_back pool pool_apply inv gd ld gd_cg ld_cg cg_gd back_shift hz3)
open Cert.PoolBwdRefIdeal.Hand (sg back width icnt cg cx cz xcol mix ypre idx3_ext)

section
variable (i : grid0.Coords) (x z : Vec Ideal S512x256 .bf16) (xp : Vec Ideal S16x256 .bf16) (w : Vec Ideal S1x256x256 .bf16) (s : Vec Ideal S1x256 .f32) (v : FVec Ideal S512x256 .bf16)

/-- The kernel's mean less the row is that of the doubled rows. -/
theorem pay2_eq : k0_pay2 i x xp = pool x (BitVec.ofNat 32 (i 0).val) (BitVec.ofNat 32 (i 1).val) (dbl 1#32 (xe i x xp)) (dbl 2#32 (dbl 1#32 (xe i x xp)))
    (dbl 4#32 (dbl 2#32 (dbl 1#32 (xe i x xp)))) (dbl 8#32 (dbl 4#32 (dbl 2#32 (dbl 1#32 (xe i x xp))))) := rfl

/-- The group's product, scaled and gated. -/
theorem pay1_apply (r : Fin 512) (l : Fin 256) : k0_pay1 v w z s (ix2 r l) =
    ((∑ k : Fin 256, v (ix2 r k) * w (ix3 0 k l)) * s (ix2 0 l) * (z (ix2 r l) * sg (z (ix2 r l))) : EReal) := by
  unfold_payloads
  pointwise
  rfl

end

variable (m : (ℓ : Loc nD τ sig) → Buf (Elt Ideal) ℓ)

/-- The block each window reads or writes at a point of the grid, and the point's coordinates. -/
theorem idx_facts : ∀ t : Fin cfg0.N, win0_0.index t = ![t.val % 8, t.val / 8] ∧ win0_1.index t = ![t.val % 8 * 32 - 1, t.val / 8]
    ∧ win0_2.index t = ![t.val % 8, 4 + t.val / 8] ∧ win0_3.index t = ![t.val / 8, 0, 0] ∧ win0_4.index t = ![0, t.val / 8] ∧ win0_5.index t = ![t.val % 8, t.val / 8] :=
  (by decide +kernel : ∀ t : Fin grid0.N, win0_0.index t = ![t.val % 8, t.val / 8] ∧ win0_1.index t = ![t.val % 8 * 32 - 1, t.val / 8]
    ∧ win0_2.index t = ![t.val % 8, 4 + t.val / 8] ∧ win0_3.index t = ![t.val / 8, 0, 0] ∧ win0_4.index t = ![0, t.val / 8] ∧ win0_5.index t = ![t.val % 8, t.val / 8])
theorem coords : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)
/-- The backward call's points have the same. -/
theorem coords_bwd : ∀ t : Fin Cert.PoolBwdIdeal.cfg0.N, (Cert.PoolBwdIdeal.grid0.coords t 0).val = t.val / 8 ∧ (Cert.PoolBwdIdeal.grid0.coords t 1).val = t.val % 8 :=
  (by decide +kernel : ∀ t : Fin Cert.PoolBwdIdeal.grid0.N, (Cert.PoolBwdIdeal.grid0.coords t 0).val = t.val / 8 ∧ (Cert.PoolBwdIdeal.grid0.coords t 1).val = t.val % 8)

/-- The grid's size. -/
theorem lt_N (t : Fin cfg0.N) : t.val < 32 := lt_of_lt_of_eq t.isLt N_0
/-- The backward call's point. -/
abbrev tb (t : Fin cfg0.N) : Fin Cert.PoolBwdIdeal.cfg0.N := ⟨t.val, lt_of_lt_of_eq (lt_N t) Cert.PoolBwdIdeal.Gen.N_0.symm⟩
/-- The group of a point, the array's rows of a tile, and of the sixteen before it. -/
abbrev gi (t : Fin cfg0.N) : Fin 4 := ⟨t.val / 8, by have := lt_N t; omega⟩
abbrev row (t : Fin cfg0.N) (r : Fin 512) : Fin 4096 := ⟨512 * (t.val % 8) + r.val, by omega⟩
abbrev prow (t : Fin cfg0.N) (r : Fin 16) : Fin 4096 := ⟨16 * (t.val % 8 * 32 - 1) + r.val, by omega⟩

/-- One over the count is the closed form's. -/
theorem inv_eq (t : Fin cfg0.N) (r : Fin 528) : inv (BitVec.ofNat 32 (t.val / 8)) (BitVec.ofNat 32 (t.val % 8)) r.val = icnt (width (gi t)) (512 * (t.val % 8) + r.val) := by
  have h := Cert.PoolBwdIdeal.Hand.inv_eq (tb t) r
  rw [(coords_bwd (tb t)).1, (coords_bwd (tb t)).2] at h
  exact h
/-- The sum over the group's window is the one of four. -/
theorem pick_sum (t : Fin cfg0.N) (F : ℕ → EReal) {a b c d : EReal} (ha : a = ∑ j ∈ Finset.range 2, F j) (hb : b = ∑ j ∈ Finset.range 4, F j)
    (hc : c = ∑ j ∈ Finset.range 8, F j) (hd : d = ∑ j ∈ Finset.range 16, F j) :
    Scalar.select (Scalar.cmpi CmpIPredicate.eq (BitVec.ofNat 32 (t.val / 8)) 0#32) a (Scalar.select (Scalar.cmpi CmpIPredicate.eq (BitVec.ofNat 32 (t.val / 8)) 1#32) b (Scalar.select (Scalar.cmpi CmpIPredicate.eq (BitVec.ofNat 32 (t.val / 8)) 2#32) c d)) = ∑ j ∈ Finset.range (width (gi t)), F j := by
  have h := Cert.PoolBwdIdeal.Hand.pick_sum (tb t) F ha hb hc hd
  rw [(coords_bwd (tb t)).1] at h
  exact h
/-- The first tile of a column of tiles has none before it. -/
theorem first (t : Fin cfg0.N) : Scalar.cmpi CmpIPredicate.eq (BitVec.ofNat 32 (t.val % 8)) 0#32 = (if t.val % 8 = 0 then 1#1 else 0#1) := by
  have h := (Cert.PoolBwdIdeal.Hand.flags (tb t)).1
  rw [(coords_bwd (tb t)).2] at h
  exact h

/-- The program's arguments: the projection, the matrices, the scale. -/
abbrev PJ (c : Dev nD) : Vec Ideal S4096x14336 .bf16 := m ((c : Thread nD τ).loc main_arg0)
abbrev PW (c : Dev nD) : Vec Ideal S4x256x256 .f32 := m ((c : Thread nD τ).loc main_arg1)
abbrev PS (c : Dev nD) : Vec Ideal S1024 .f32 := m ((c : Thread nD τ).loc main_arg2)

/-- The matrices and the scale's row as the kernel reads them. -/
theorem V_v0 (c : Dev nD) : V m c main_v0 = (truncf .bf16 (PW m c : FVec Ideal S4x256x256 .f32) bitsLt_bf16_f32 : FVec Ideal S4x256x256 .bf16) := by
  unfold V hostOps0
  after_results <;> rfl
theorem V_v1 (c : Dev nD) : V m c main_v1 = (broadcastInDim S1x1024 ![1] bcast_S1024_S1x1024_1 (PS m c : FVec Ideal S1024 .f32) : FVec Ideal S1x1024 .f32) := by
  unfold V hostOps0
  after_results <;> rfl

/-- A tile of the input, the sixteen rows before it, a tile of the gate. -/
theorem iblk0_apply (c : Dev nD) (t : Fin cfg0.N) (r : Fin 512) (l : Fin 256) : (iblk m c 0 t : Vec Ideal S512x256 .bf16) (ix2 r l) = PJ m c (ix2 (row t r) (cx (gi t) l)) := by
  have hi := (idx_facts t).1
  unfold iblk
  rw [View.read_apply]
  show V m c main_arg0 _ = _
  rw [V_main_arg0]
  refine congrArg (PJ m c) (Shape.idx_ext₂ ?_ ?_)
  · show win0_0.index t 0 * 512 + 1 * r.val = 512 * (t.val % 8) + r.val
    rw [hi]; show t.val % 8 * 512 + 1 * r.val = _; omega
  · show win0_0.index t 1 * 256 + 1 * l.val = t.val / 8 * 256 + l.val
    rw [hi]; show t.val / 8 * 256 + 1 * l.val = _; omega
theorem iblk1_apply (c : Dev nD) (t : Fin cfg0.N) (r : Fin 16) (l : Fin 256) : (iblk m c 1 t : Vec Ideal S16x256 .bf16) (ix2 r l) = PJ m c (ix2 (prow t r) (cx (gi t) l)) := by
  have hi := (idx_facts t).2.1
  unfold iblk
  rw [View.read_apply]
  show V m c main_arg0 _ = _
  rw [V_main_arg0]
  refine congrArg (PJ m c) (Shape.idx_ext₂ ?_ ?_)
  · show win0_1.index t 0 * 16 + 1 * r.val = 16 * (t.val % 8 * 32 - 1) + r.val
    rw [hi]; show (t.val % 8 * 32 - 1) * 16 + 1 * r.val = _; omega
  · show win0_1.index t 1 * 256 + 1 * l.val = t.val / 8 * 256 + l.val
    rw [hi]; show t.val / 8 * 256 + 1 * l.val = _; omega
theorem iblk2_apply (c : Dev nD) (t : Fin cfg0.N) (r : Fin 512) (l : Fin 256) : (iblk m c 2 t : Vec Ideal S512x256 .bf16) (ix2 r l) = PJ m c (ix2 (row t r) (cz (gi t) l)) := by
  have hi := (idx_facts t).2.2.1
  unfold iblk
  rw [View.read_apply]
  show V m c main_arg0 _ = _
  rw [V_main_arg0]
  refine congrArg (PJ m c) (Shape.idx_ext₂ ?_ ?_)
  · show win0_2.index t 0 * 512 + 1 * r.val = 512 * (t.val % 8) + r.val
    rw [hi]; show t.val % 8 * 512 + 1 * r.val = _; omega
  · show win0_2.index t 1 * 256 + 1 * l.val = 1024 + (t.val / 8 * 256 + l.val)
    rw [hi]; show (4 + t.val / 8) * 256 + 1 * l.val = _; omega
/-- The group's matrix and its scale. -/
theorem iblk3_apply (c : Dev nD) (t : Fin cfg0.N) (k l : Fin 256) : (iblk m c 3 t : Vec Ideal S1x256x256 .bf16) (ix3 (0 : Fin 1) k l) = PW m c (ix3 (gi t) k l) := by
  have hi := (idx_facts t).2.2.2.1
  unfold iblk
  rw [View.read_apply]
  show V m c main_v0 _ = _
  rw [V_v0]
  refine congrArg (PW m c) (idx3_ext ?_ ?_ ?_)
  · show win0_3.index t 0 * 1 + 1 * 0 = t.val / 8
    rw [hi]; show t.val / 8 * 1 + 1 * 0 = _; omega
  · show win0_3.index t 1 * 256 + 1 * k.val = k.val
    rw [hi]; show 0 * 256 + 1 * k.val = _; omega
  · show win0_3.index t 2 * 256 + 1 * l.val = l.val
    rw [hi]; show 0 * 256 + 1 * l.val = _; omega
theorem iblk4_apply (c : Dev nD) (t : Fin cfg0.N) (l : Fin 256) : (iblk m c 4 t : Vec Ideal S1x256 .f32) (ix2 (0 : Fin 1) l) = PS m c (ix1 (cg (gi t) l)) := by
  unfold iblk
  rw [View.read_apply]
  show V m c main_v1 _ = _
  rw [V_v1]
  have e : (((cfg0.win 4).blk t).view.emb (ix2 (0 : Fin 1) l) : S1x1024.Idx) = ix2 (0 : Fin 1) (cg (gi t) l) := by
    have hi := (idx_facts t).2.2.2.2.1
    refine Shape.idx_ext₂ ?_ ?_
    · show win0_4.index t 0 * 1 + 1 * 0 = 0
      rw [hi]; show 0 * 1 + 1 * 0 = 0; omega
    · show win0_4.index t 1 * 256 + 1 * l.val = t.val / 8 * 256 + l.val
      rw [hi]; show t.val / 8 * 256 + 1 * l.val = _; omega
  refine (congrArg (broadcastInDim S1x1024 ![1] bcast_S1024_S1x1024_1 (PS m c : FVec Ideal S1024 .f32)) e).trans ?_
  pointwise

/-- A tile of the input and the sixteen rows before it. -/
theorem xt_apply (c : Dev nD) (t : Fin cfg0.N) (r : Fin 528) (l : Fin 256) :
    (xe (grid0.coords t) (iblk m c 0 t) (iblk m c 1 t) (ix2 r l) : EReal) = back (xcol (PJ m c) (gi t) l) 16 (512 * (t.val % 8) + r.val) := by
  refine (xe_apply (grid0.coords t) (iblk m c 0 t) (iblk m c 1 t) r l).trans ?_
  rw [(coords t).2, first t]
  unfold back
  by_cases hr : r.val < 16
  · rw [dif_pos hr]
    by_cases h0 : t.val % 8 = 0
    · rw [if_pos h0, if_pos (by omega)]
      rfl
    · rw [if_neg h0, if_neg (by omega), ext_of_lt _ (by omega : 512 * (t.val % 8) + r.val - 16 < 4096)]
      refine (iblk1_apply m c t ⟨r.val, hr⟩ l).trans ?_
      rw [show prow t ⟨r.val, hr⟩ = ⟨512 * (t.val % 8) + r.val - 16, by omega⟩ from Fin.ext (by show 16 * (t.val % 8 * 32 - 1) + r.val = 512 * (t.val % 8) + r.val - 16; omega)]
      rfl
  · rw [dif_neg hr, if_neg (by omega), ext_of_lt _ (by omega : 512 * (t.val % 8) + r.val - 16 < 4096)]
    refine (iblk0_apply m c t ⟨r.val - 16, by omega⟩ l).trans ?_
    rw [show row t ⟨r.val - 16, by omega⟩ = ⟨512 * (t.val % 8) + r.val - 16, by omega⟩ from Fin.ext (by show 512 * (t.val % 8) + (r.val - 16) = 512 * (t.val % 8) + r.val - 16; omega)]
    rfl

/-- The kernel's mean less the row is the closed form's. -/
theorem mix_apply (c : Dev nD) (t : Fin cfg0.N) (r : Fin 512) (l : Fin 256) : ((k0_pay2 (grid0.coords t) (iblk m c 0 t) (iblk m c 1 t)) (ix2 r l) : EReal) = mix (PJ m c) (row t r) (gi t) l := by
  have e1 : ∀ ρ : Fin 528, 1 ≤ ρ.val + 1 → (xe (grid0.coords t) (iblk m c 0 t) (iblk m c 1 t) (ix2 ρ l) : EReal) = ∑ j ∈ Finset.range 1, back (xcol (PJ m c) (gi t) l) (16 + j) (512 * (t.val % 8) + ρ.val) := fun ρ _ => by
    rw [xt_apply, Finset.sum_range_one]
  have e2 := dbl_back _ 1 _ 1#32 rfl (by norm_num) _ l e1
  have e4 := dbl_back _ 2 _ 2#32 rfl (by norm_num) _ l e2
  have e8 := dbl_back _ 4 _ 4#32 rfl (by norm_num) _ l e4
  have e16 := dbl_back _ 8 _ 8#32 rfl (by norm_num) _ l e8
  have hr := r.isLt
  rw [pay2_eq, (coords t).1, (coords t).2]
  refine (pool_apply (iblk m c 0 t) _ _ _ _ _ _ r l).trans ?_
  rw [pick_sum t (fun j => back (xcol (PJ m c) (gi t) l) (16 + j) (512 * (t.val % 8) + (16 + r.val))) (e2 ⟨16 + r.val, by omega⟩ (by show 1 + 1 ≤ 16 + r.val + 1; omega))
    (e4 ⟨16 + r.val, by omega⟩ (by show 2 + 2 ≤ 16 + r.val + 1; omega)) (e8 ⟨16 + r.val, by omega⟩ (by show 4 + 4 ≤ 16 + r.val + 1; omega)) (e16 ⟨16 + r.val, by omega⟩ (by show 8 + 8 ≤ 16 + r.val + 1; omega)),
    inv_eq t ⟨r.val, by omega⟩]
  refine (congrArg (fun q : EReal => _ - q) (iblk0_apply m c t r l)).trans ?_
  unfold mix
  refine congrArg (fun z : EReal => z * _ - _) (Finset.sum_congr rfl fun j _ => ?_)
  rw [← back_shift _ j 16]
  exact congrArg₂ (back _) (by omega) (by show 512 * (t.val % 8) + (16 + r.val) = 512 * (t.val % 8) + r.val + 16; omega)

/-- The pooled, scaled and gated rows: one entry, and the array. -/
def pooled (x0 : Vec Ideal S4096x14336 .bf16) (x1 : Vec Ideal S4x256x256 .f32) (x2 : Vec Ideal S1024 .f32) (R : Fin 4096) (g : Fin 4) (l : Fin 256) : EReal :=
  ypre x0 x1 R g l * x2 (ix1 (cg g l)) * (x0 (ix2 R (cz g l)) * sg (x0 (ix2 R (cz g l))))
def outp (c : Dev nD) : Vec Ideal S4096x1024 .bf16 := fun i => (pooled (PJ m c) (PW m c) (PS m c) (i 0) (gd (i 1)) (ld (i 1)) : EReal)
theorem outp_apply (c : Dev nD) (R : Fin 4096) (g : Fin 4) (l : Fin 256) : (outp m c (ix2 R (cg g l)) : EReal) = pooled (PJ m c) (PW m c) (PS m c) R g l := by
  show pooled (PJ m c) (PW m c) (PS m c) R (gd (cg g l)) (ld (cg g l)) = _
  rw [gd_cg, ld_cg]

/-- The array the kernel leaves. -/
theorem final5 (c : Dev nD) : (dats m 0 c).arrAt 5 cfg0.N = outp m c := by
  refine (dats m 0 c).arrAt_eq_of_cover 5 (outp m c) (fun t hf => ?_) fun i => ?_
  · have hi := (idx_facts t).2.2.2.2.2
    rw [Value.flushed5]
    funext y
    rw [View.read_apply]
    obtain ⟨r, l, rfl⟩ : ∃ (r : Fin 512) (l : Fin 256), y = ix2 r l := ⟨y 0, y 1, by funext a; match a with | ⟨0, _⟩ => rfl | ⟨1, _⟩ => rfl⟩
    have e : (((cfg0.win 5).blk t).view.emb (ix2 r l) : S4096x1024.Idx) = ix2 (row t r) (cg (gi t) l) := by
      refine Shape.idx_ext₂ ?_ ?_
      · show win0_5.index t 0 * 512 + 1 * r.val = 512 * (t.val % 8) + r.val
        rw [hi]; show t.val % 8 * 512 + 1 * r.val = _; omega
      · show win0_5.index t 1 * 256 + 1 * l.val = t.val / 8 * 256 + l.val
        rw [hi]; show t.val / 8 * 256 + 1 * l.val = _; omega
    show _ = outp m c (((cfg0.win 5).blk t).view.emb (ix2 r l))
    rw [e]
    show out0_5 (grid0.coords t) (iblk m c 0 t) (iblk m c 1 t) (iblk m c 2 t) (iblk m c 3 t) (iblk m c 4 t) (ix2 r l) = _
    unfold out0_5 r0_0 r0_1 r0_2 r0_3
    rw [View.canon_unit_zero hz]
    simp only [View.ld_unit_zero (S := S512x256) hz, View.ld_unit_zero (S := S16x256) hz, View.ld_unit_zero (S := S1x256) hz, View.ld_unit_zero (S := S1x256x256) hz3]
    refine Eq.trans ?_ (outp_apply m c _ _ _).symm
    rw [pay1_apply, iblk2_apply, iblk4_apply, show (∑ k : Fin 256, k0_pay2 (grid0.coords t) (iblk m c 0 t) (iblk m c 1 t) (ix2 r k) * (iblk m c 3 t : Vec Ideal S1x256x256 .bf16) (ix3 0 k l) : EReal) = ypre (PJ m c) (PW m c) (row t r) (gi t) l from
      Finset.sum_congr rfl fun k _ => congrArg₂ (fun a b : EReal => a * b) (mix_apply m c t r k) (iblk3_apply m c t k l)]
    rfl
  · have hN : cfg0.N = 32 := N_0
    have h0 : (i 0 : ℕ) < 4096 := (i 0).isLt
    have h1 : (i 1 : ℕ) < 1024 := (i 1).isLt
    obtain ⟨t, ht⟩ : ∃ t : Fin cfg0.N, t.val = 8 * ((i 1 : ℕ) / 256) + (i 0 : ℕ) / 512 := ⟨⟨8 * ((i 1 : ℕ) / 256) + (i 0 : ℕ) / 512, by omega⟩, rfl⟩
    refine ⟨t, flush0_5 t, ?_⟩
    show i ∈ ((View.whole main_v2).slice (win0_5.rect t)).set
    rw [View.set_slice_whole, Rect.mem_set_unit]
    have hi := (idx_facts t).2.2.2.2.2
    intro a
    match a with
    | ⟨0, _⟩ =>
      show win0_5.index t 0 * 512 ≤ (i 0 : ℕ) ∧ (i 0 : ℕ) < win0_5.index t 0 * 512 + 512
      rw [hi]; show t.val % 8 * 512 ≤ (i 0 : ℕ) ∧ (i 0 : ℕ) < t.val % 8 * 512 + 512; omega
    | ⟨1, _⟩ =>
      show win0_5.index t 1 * 256 ≤ (i 1 : ℕ) ∧ (i 1 : ℕ) < win0_5.index t 1 * 256 + 256
      rw [hi]; show t.val / 8 * 256 ≤ (i 1 : ℕ) ∧ (i 1 : ℕ) < t.val / 8 * 256 + 256; omega

end Cert.PoolFwdIdeal.Hand

namespace Cert.PoolFwdRefIdeal.Hand

open Cert.PoolFwdRefIdeal Cert.PoolFwdRefIdeal.Gen Cert.PoolFwdRefIdeal.Read Cert.PoolFwdIdeal.Hand Cert.Common
open Cert.PoolBwdIdeal.Hand (cg_gd gd ld)
open Cert.PoolBwdRefIdeal.Hand (sg cg cz ypre)

section
variable (x0 : FVec Ideal S4096x14336 .bf16) (x1 : FVec Ideal S4x256x256 .f32) (x2 : FVec Ideal S1024 .f32)

/-- The pool's forward lines are those of the gradient's reference, operation by operation. -/
theorem v4_bwd : val_main_v4 (F := Ideal) x0 = Cert.PoolBwdRefIdeal.Read.val_main_v4 (F := Ideal) x0 := rfl
theorem v7_bwd : val_main_v7 (F := Ideal) x0 = Cert.PoolBwdRefIdeal.Read.val_main_v7 (F := Ideal) x0 := rfl
theorem v35_bwd : val_main_v35 (F := Ideal) x0 = Cert.PoolBwdRefIdeal.Read.val_main_v36 (F := Ideal) x0 := rfl
theorem v62_bwd : val_main_v62 (F := Ideal) x0 = Cert.PoolBwdRefIdeal.Read.val_main_v63 (F := Ideal) x0 := rfl
theorem v89_bwd : val_main_v89 (F := Ideal) x0 = Cert.PoolBwdRefIdeal.Read.val_main_v90 (F := Ideal) x0 := rfl
theorem v116_bwd : val_main_v116 (F := Ideal) x0 = Cert.PoolBwdRefIdeal.Read.val_main_v117 (F := Ideal) x0 := rfl
theorem v125_bwd : val_main_v125 (F := Ideal) x0 x1 = Cert.PoolBwdRefIdeal.Read.val_main_v126 (F := Ideal) x0 x1 := by
  unfold val_main_v125 val_main_v124 val_main_v123 val_main_v122 val_main_v121 val_main_v120 val_main_v119 val_main_v118 val_main_v117
  rw [v4_bwd, v35_bwd, v62_bwd, v89_bwd, v116_bwd]
  rfl

/-- The reference's entry. -/
theorem v131_eq (h0 : ∀ i, IsR (x0 i)) (g : Fin 4) (l : Fin 256) (t : Fin 4096) : val_main_v131 (F := Ideal) x0 x1 x2 (ix2 t (cg g l)) = pooled x0 x1 x2 t g l := by
  unfold val_main_v131 val_main_v130 val_main_v129 val_main_v128 val_main_v127 val_main_v126 val_main_call1_v5 val_main_call1_v4 val_main_call1_v3 val_main_call1_v2 val_main_call1_v1 val_main_call1_v0 val_main_call1_cst val_main_call1_cst_0 val_main_v3 val_main_v2
  pointwise
  rw [v125_bwd]
  refine (congrArg (fun q : EReal => q * _ * _) (Cert.PoolBwdRefIdeal.Hand.v126_eq x0 x1 h0 g l t)).trans ?_
  unfold pooled sg
  rw [zero_sub]
end

/-- What the precondition says of the projected rows. -/
theorem finite_args (x0 : FVec Ideal S4096x14336 .bf16) (x1 : FVec Ideal S4x256x256 .f32) (x2 : FVec Ideal S1024 .f32)
    (h : Cert.Pre_finite_plf.fn (F := Ideal) x0 x1 x2 = fun _ => 1#1) (i : S4096x14336.Idx) : IsR (x0 i) := by
  have h0 := congrFun h ix0
  unfold Cert.Pre_finite_plf.fn at h0
  exact real_of_reduce (extf .f32 x0 bitsLt_bf16_f32) _ (fun _ => rfl) _ _ _ _ h0 i

/-- The reference's pooled rows are the kernel's. -/
theorem ref131 (m : (ℓ : Loc Cert.PoolFwdIdeal.nD Cert.PoolFwdIdeal.τ Cert.PoolFwdIdeal.sig) → Buf (Elt Ideal) ℓ) (c : Dev Cert.PoolFwdIdeal.nD)
    (h0 : ∀ i, IsR (PJ m c i)) : val_main_v131 (F := Ideal) (PJ m c) (PW m c) (PS m c) = outp m c := by
  funext i
  obtain ⟨R, C, rfl⟩ : ∃ (R : Fin 4096) (C : Fin 1024), i = ix2 R C := ⟨i 0, i 1, eq_ix2 i⟩
  rw [← cg_gd C]
  exact (v131_eq _ _ _ h0 _ _ R).trans (outp_apply m c _ _ _).symm

end Cert.PoolFwdRefIdeal.Hand

namespace Cert.Proof

open Cert.PoolFwdIdeal.Hand Cert.PoolFwdRefIdeal.Hand

/-- The multiscale pool: the kernel's rows are the reference's, of finite projected rows. -/
theorem pool_fwd : Cert.algebraic_PoolFwdIdeal_PoolFwdRefIdeal_pre_finite_plf := by
  intro m g m' g' hpre hagree
  refine ⟨outp m, ?_, ?_⟩
  · refine (θ_run _ _ _).mono (fun r h c => ?_) (Cert.PoolFwdIdeal.Value.run_blocks (F := Ideal) m g)
    exact ⟨(h c).1.trans (final5 m c), (h c).2⟩
  · refine (θ_run _ _ _).mono (fun r h c => ?_) (Cert.PoolFwdRefIdeal.Value.run (F := Ideal) m' g')
    obtain ⟨a0, a1, a2⟩ := hagree c
    refine ⟨(h c).1.trans ((Cert.PoolFwdRefIdeal.Read.val_main_v131_eq (F := Ideal) _ _).trans ?_), (h c).2⟩
    refine Eq.trans ?_ (ref131 m c (finite_args _ _ _ (hpre c)))
    exact congr (congr (congrArg (Cert.PoolFwdRefIdeal.Read.val_main_v131 (F := Ideal)) a0) a1) a2

end Cert.Proof

end
-- ==== Proof.MergeFwdValue.lean ====
module

public import proofs.«01_k».proof.Defs
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Common
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MergeFwdIdeal.Hand

open Cert.MergeFwdIdeal Cert.MergeFwdIdeal.Gen Cert.Common

/-- The logistic function, as the kernel writes it. -/
def sg (g : EReal) : EReal := Ideal.div 1 (1 + Ideal.exp (0 - g))

/-- The three branches of a tile, each times its gate, added up. -/
theorem pay_apply (g0 g1 g2 b0 b1 b2 : Vec Ideal S512x512 .bf16) (r l : Fin 512) :
    k0_pay1 (k0_pay2 g0 b0 g1 b1) (k0_pay3 g2) b2 (ix2 r l)
      = (sg (g0 (ix2 r l)) * b0 (ix2 r l) + sg (g1 (ix2 r l)) * b1 (ix2 r l) + sg (g2 (ix2 r l)) * b2 (ix2 r l) : EReal) := by
  unfold_payloads
  pointwise
  rfl

variable (m : (ℓ : Loc nD τ sig) → Buf (Elt Ideal) ℓ)

/-- The block each window reads or writes at a point of the grid. -/
theorem idx_facts : ∀ t : Fin cfg0.N, win0_0.index t = ![t.val / 4, 0 + t.val % 4] ∧ win0_1.index t = ![t.val / 4, 4 + t.val % 4]
    ∧ win0_2.index t = ![t.val / 4, 8 + t.val % 4] ∧ win0_3.index t = ![t.val / 4, 0 + t.val % 4]
    ∧ win0_4.index t = ![t.val / 4, 4 + t.val % 4] ∧ win0_5.index t = ![t.val / 4, 8 + t.val % 4] ∧ win0_6.index t = ![t.val / 4, t.val % 4] :=
  (by decide +kernel : ∀ t : Fin grid0.N, win0_0.index t = ![t.val / 4, 0 + t.val % 4] ∧ win0_1.index t = ![t.val / 4, 4 + t.val % 4]
    ∧ win0_2.index t = ![t.val / 4, 8 + t.val % 4] ∧ win0_3.index t = ![t.val / 4, 0 + t.val % 4]
    ∧ win0_4.index t = ![t.val / 4, 4 + t.val % 4] ∧ win0_5.index t = ![t.val / 4, 8 + t.val % 4] ∧ win0_6.index t = ![t.val / 4, t.val % 4])

/-- The grid's size. -/
theorem lt_N (t : Fin cfg0.N) : t.val < 32 := lt_of_lt_of_eq t.isLt N_0

/-- The kernel's operands: the gates' logits and the branches. -/
abbrev LG (c : Dev nD) : Vec Ideal S4096x6144 .bf16 := V m c main_v2
abbrev BR (c : Dev nD) : Vec Ideal S4096x6144 .bf16 := V m c main_v3

/-- The array's row that row `r` of a point's tile is, and the lane that lane `l` is. -/
abbrev row (t : Fin cfg0.N) (r : Fin 512) : Fin 4096 := ⟨512 * (t.val / 4) + r.val, by have := lt_N t; omega⟩
abbrev lane (t : Fin cfg0.N) (l : Fin 512) : Fin 2048 := ⟨512 * (t.val % 4) + l.val, by omega⟩
/-- The column of branch `b` at a lane. -/
abbrev col (b : Fin 3) (l : Fin 2048) : Fin 6144 := ⟨2048 * b.val + l.val, by omega⟩

/-- An entry of an array at a place of a point's block of branch `b`. -/
theorem at_blk (A : Vec Ideal S4096x6144 .bf16) (t : Fin cfg0.N) (r l : Fin 512) (b : Fin 3) (w : Fin 2 → ℕ) (i : S4096x6144.Idx)
    (hw : w = ![t.val / 4, 4 * b.val + t.val % 4]) (h0 : (i 0).val = w 0 * 512 + 1 * r.val) (h1 : (i 1).val = w 1 * 512 + 1 * l.val) :
    A i = A (ix2 (row t r) (col b (lane t l))) := by
  subst hw
  refine congrArg A (Shape.idx_ext₂ ?_ ?_)
  · show (i 0).val = 512 * (t.val / 4) + r.val
    rw [h0]; show t.val / 4 * 512 + 1 * r.val = _; omega
  · show (i 1).val = 2048 * b.val + (512 * (t.val % 4) + l.val)
    rw [h1]; show (4 * b.val + t.val % 4) * 512 + 1 * l.val = _; omega

/-- The tiles of the logits. -/
theorem iblk0_apply (c : Dev nD) (t : Fin cfg0.N) (r l : Fin 512) :
    (iblk m c 0 t : Vec Ideal S512x512 .bf16) (ix2 r l) = LG m c (ix2 (row t r) (col 0 (lane t l))) := by
  unfold iblk
  rw [View.read_apply]
  exact at_blk (LG m c) t r l 0 _ _ (idx_facts t).1 rfl rfl
theorem iblk1_apply (c : Dev nD) (t : Fin cfg0.N) (r l : Fin 512) :
    (iblk m c 1 t : Vec Ideal S512x512 .bf16) (ix2 r l) = LG m c (ix2 (row t r) (col 1 (lane t l))) := by
  unfold iblk
  rw [View.read_apply]
  exact at_blk (LG m c) t r l 1 _ _ (idx_facts t).2.1 rfl rfl
theorem iblk2_apply (c : Dev nD) (t : Fin cfg0.N) (r l : Fin 512) :
    (iblk m c 2 t : Vec Ideal S512x512 .bf16) (ix2 r l) = LG m c (ix2 (row t r) (col 2 (lane t l))) := by
  unfold iblk
  rw [View.read_apply]
  exact at_blk (LG m c) t r l 2 _ _ (idx_facts t).2.2.1 rfl rfl
/-- The tiles of the branches. -/
theorem iblk3_apply (c : Dev nD) (t : Fin cfg0.N) (r l : Fin 512) :
    (iblk m c 3 t : Vec Ideal S512x512 .bf16) (ix2 r l) = BR m c (ix2 (row t r) (col 0 (lane t l))) := by
  unfold iblk
  rw [View.read_apply]
  exact at_blk (BR m c) t r l 0 _ _ (idx_facts t).2.2.2.1 rfl rfl
theorem iblk4_apply (c : Dev nD) (t : Fin cfg0.N) (r l : Fin 512) :
    (iblk m c 4 t : Vec Ideal S512x512 .bf16) (ix2 r l) = BR m c (ix2 (row t r) (col 1 (lane t l))) := by
  unfold iblk
  rw [View.read_apply]
  exact at_blk (BR m c) t r l 1 _ _ (idx_facts t).2.2.2.2.1 rfl rfl
theorem iblk5_apply (c : Dev nD) (t : Fin cfg0.N) (r l : Fin 512) :
    (iblk m c 5 t : Vec Ideal S512x512 .bf16) (ix2 r l) = BR m c (ix2 (row t r) (col 2 (lane t l))) := by
  unfold iblk
  rw [View.read_apply]
  exact at_blk (BR m c) t r l 2 _ _ (idx_facts t).2.2.2.2.2.1 rfl rfl

/-- One branch's part of the merged row. -/
def gated (c : Dev nD) (R : Fin 4096) (C : Fin 6144) : EReal := sg (LG m c (ix2 R C)) * BR m c (ix2 R C)
/-- The merged rows. -/
def merged (c : Dev nD) : Vec Ideal S4096x2048 .bf16 :=
  fun i => (gated m c (i 0) (col 0 (i 1)) + gated m c (i 0) (col 1 (i 1)) + gated m c (i 0) (col 2 (i 1)) : EReal)

/-- The array the kernel leaves. -/
theorem final6 (c : Dev nD) : (dats m 0 c).arrAt 6 cfg0.N = merged m c := by
  refine (dats m 0 c).arrAt_eq_of_cover 6 (merged m c) (fun t hf => ?_) fun i => ?_
  · have hi := (idx_facts t).2.2.2.2.2.2
    have ht := lt_N t
    rw [Value.flushed6]
    funext y
    rw [View.read_apply]
    obtain ⟨r, l, rfl⟩ : ∃ (r : Fin 512) (l : Fin 512), y = ix2 r l := ⟨y 0, y 1, by funext a; match a with | ⟨0, _⟩ => rfl | ⟨1, _⟩ => rfl⟩
    have e : (((cfg0.win 6).blk t).view.emb (ix2 r l) : S4096x2048.Idx) = ix2 (row t r) (lane t l) := by
      refine Shape.idx_ext₂ ?_ ?_
      · show win0_6.index t 0 * 512 + 1 * r.val = 512 * (t.val / 4) + r.val
        rw [hi]; show t.val / 4 * 512 + 1 * r.val = _; omega
      · show win0_6.index t 1 * 512 + 1 * l.val = 512 * (t.val % 4) + l.val
        rw [hi]; show t.val % 4 * 512 + 1 * l.val = _; omega
    show _ = merged m c (((cfg0.win 6).blk t).view.emb (ix2 r l))
    rw [e]
    show out0_6 (iblk m c 0 t) (iblk m c 1 t) (iblk m c 2 t) (iblk m c 3 t) (iblk m c 4 t) (iblk m c 5 t) (ix2 r l) = _
    unfold out0_6 r0_0
    rw [View.canon_unit_zero hz]
    simp only [View.ld_unit_zero (S := S512x512) hz]
    rw [pay_apply, iblk0_apply, iblk1_apply, iblk2_apply, iblk3_apply, iblk4_apply, iblk5_apply]
    rfl
  · have hN : cfg0.N = 32 := N_0
    have h0 : (i 0 : ℕ) < 4096 := (i 0).isLt
    have h1 : (i 1 : ℕ) < 2048 := (i 1).isLt
    obtain ⟨t, ht⟩ : ∃ t : Fin cfg0.N, t.val = 4 * ((i 0 : ℕ) / 512) + (i 1 : ℕ) / 512 := ⟨⟨4 * ((i 0 : ℕ) / 512) + (i 1 : ℕ) / 512, by omega⟩, rfl⟩
    refine ⟨t, flush0_6 t, ?_⟩
    show i ∈ ((View.whole main_v4).slice (win0_6.rect t)).set
    rw [View.set_slice_whole, Rect.mem_set_unit]
    have hi := (idx_facts t).2.2.2.2.2.2
    intro a
    match a with
    | ⟨0, _⟩ =>
      show win0_6.index t 0 * 512 ≤ (i 0 : ℕ) ∧ (i 0 : ℕ) < win0_6.index t 0 * 512 + 512
      rw [hi]; show t.val / 4 * 512 ≤ (i 0 : ℕ) ∧ (i 0 : ℕ) < t.val / 4 * 512 + 512; omega
    | ⟨1, _⟩ =>
      show win0_6.index t 1 * 512 ≤ (i 1 : ℕ) ∧ (i 1 : ℕ) < win0_6.index t 1 * 512 + 512
      rw [hi]; show t.val % 4 * 512 ≤ (i 1 : ℕ) ∧ (i 1 : ℕ) < t.val % 4 * 512 + 512; omega

/-- The arguments: the projection, the bias, the branches. -/
abbrev A0 (c : Dev nD) : FVec Ideal S4096x6144 .f32 := m ((c : Thread nD τ).loc main_arg0)
abbrev A1 (c : Dev nD) : FVec Ideal S1x6144 .f32 := m ((c : Thread nD τ).loc main_arg1)
abbrev A2 (c : Dev nD) : FVec Ideal S4096x6144 .f32 := m ((c : Thread nD τ).loc main_arg2)

/-- The branches are the argument. -/
theorem BR_apply (c : Dev nD) (R : Fin 4096) (C : Fin 6144) : BR m c (ix2 R C) = A2 m c (ix2 R C) := by
  have : V m c main_v3 = (truncf .bf16 (m ((c.tc : Thread nD τ).loc main_arg2) : FVec Ideal S4096x6144 .f32) bitsLt_bf16_f32 : FVec Ideal S4096x6144 .bf16) := by
    unfold V hostOps0
    after_results <;> rfl
  unfold BR
  rw [this]
  pointwise
/-- The logits are the projection plus the bias. -/
theorem LG_apply (c : Dev nD) (R : Fin 4096) (C : Fin 6144) : LG m c (ix2 R C) = (A0 m c (ix2 R C) + A1 m c (ix2 0 C) : EReal) := by
  have : V m c main_v2 = (truncf .bf16 (addf (m ((c.tc : Thread nD τ).loc main_arg0)) (broadcastInDim S4096x6144 ![0, 1] bcast_S1x6144_S4096x6144_0_1 (m ((c.tc : Thread nD τ).loc main_arg1))) : FVec Ideal S4096x6144 .f32) bitsLt_bf16_f32 : FVec Ideal S4096x6144 .bf16) := by
    unfold V hostOps0
    after_results <;> rfl
  unfold LG
  rw [this]
  pointwise

end Cert.MergeFwdIdeal.Hand

namespace Cert.MergeFwdRefIdeal.Hand

open Cert.MergeFwdRefIdeal Cert.MergeFwdRefIdeal.Gen Cert.MergeFwdRefIdeal.Read Cert.MergeFwdIdeal.Hand

section
variable (x0 : FVec Ideal S4096x6144 .f32) (x1 : FVec Ideal S1x6144 .f32) (x2 : FVec Ideal S4096x6144 .f32) (k : Fin 4096) (l : Fin 2048)

/-- The reference's gate. -/
theorem v7_eq (C : Fin 6144) : val_main_v7 (F := Ideal) x0 x1 (ix2 k C) = sg (x0 (ix2 k C) + x1 (ix2 0 C)) := by
  unfold val_main_v7 val_main_v6 val_main_v5 val_main_v4 val_main_v3 val_main_v2 val_main_v1 val_main_v0 val_main_cst val_main_cst_0
  pointwise
  unfold sg
  rw [zero_sub]

/-- The three gates of a row, as slices of the gates. -/
theorem v11_eq : val_main_v11 (F := Ideal) x0 x1 (ix2 k l) = val_main_v7 (F := Ideal) x0 x1 (ix2 k ⟨l.val, by omega⟩) := by
  unfold val_main_v11 val_main_v10 val_main_v8
  pointwise
theorem v16_eq : val_main_v16 (F := Ideal) x0 x1 (ix2 k l) = val_main_v7 (F := Ideal) x0 x1 (ix2 k ⟨2048 + l.val, by omega⟩) := by
  unfold val_main_v16 val_main_v15 val_main_v8
  pointwise
theorem v22_eq : val_main_v22 (F := Ideal) x0 x1 (ix2 k l) = val_main_v7 (F := Ideal) x0 x1 (ix2 k ⟨4096 + l.val, by omega⟩) := by
  unfold val_main_v22 val_main_v21 val_main_v8
  pointwise
/-- The three branches of a row. -/
theorem v13_eq : val_main_v13 (F := Ideal) x2 (ix2 k l) = x2 (ix2 k ⟨l.val, by omega⟩) := by
  unfold val_main_v13 val_main_v12 val_main_v9
  pointwise
theorem v18_eq : val_main_v18 (F := Ideal) x2 (ix2 k l) = x2 (ix2 k ⟨2048 + l.val, by omega⟩) := by
  unfold val_main_v18 val_main_v17 val_main_v9
  pointwise
theorem v24_eq : val_main_v24 (F := Ideal) x2 (ix2 k l) = x2 (ix2 k ⟨4096 + l.val, by omega⟩) := by
  unfold val_main_v24 val_main_v23 val_main_v9
  pointwise

end

/-- The reference's merged rows are the kernel's. -/
theorem ref27 (m : (ℓ : Loc Cert.MergeFwdIdeal.nD Cert.MergeFwdIdeal.τ Cert.MergeFwdIdeal.sig) → Buf (Elt Ideal) ℓ) (c : Dev Cert.MergeFwdIdeal.nD) :
    val_main_v27 (F := Ideal) (A0 m c) (A1 m c) (A2 m c) = merged m c := by
  funext i
  obtain ⟨k, l, rfl⟩ : ∃ (k : Fin 4096) (l : Fin 2048), i = ix2 k l := ⟨i 0, i 1, eq_ix2 i⟩
  unfold val_main_v27 val_main_v26 val_main_v25 val_main_v20 val_main_v19 val_main_v14
  pointwise
  rw [v11_eq, v16_eq, v22_eq, v13_eq, v18_eq, v24_eq, v7_eq, v7_eq, v7_eq]
  have e : (⟨l.val, by omega⟩ : Fin 6144) = col 0 l := Fin.ext (show l.val = 2048 * 0 + l.val by omega)
  rw [e]
  show _ = (gated m c k (col 0 l) + gated m c k (col 1 l) + gated m c k (col 2 l) : EReal)
  unfold gated
  rw [LG_apply, LG_apply, LG_apply, BR_apply, BR_apply, BR_apply]
  rfl

end Cert.MergeFwdRefIdeal.Hand

namespace Cert.Proof

open Cert.MergeFwdIdeal.Hand Cert.MergeFwdRefIdeal.Hand

/-- The merge of the branches: the kernel's rows are the reference's. -/
theorem merge_fwd : Cert.algebraic_MergeFwdIdeal_MergeFwdRefIdeal := by
  intro m g m' g' _ hagree
  refine ⟨merged m, ?_, ?_⟩
  · refine (θ_run _ _ _).mono (fun r h c => ?_) (Cert.MergeFwdIdeal.Value.run_blocks (F := Ideal) m g)
    exact ⟨(h c).1.trans (final6 m c), (h c).2⟩
  · refine (θ_run _ _ _).mono (fun r h c => ?_) (Cert.MergeFwdRefIdeal.Value.run (F := Ideal) m' g')
    refine ⟨(h c).1.trans ((Cert.MergeFwdRefIdeal.Read.val_main_v27_eq (F := Ideal) _ _ _).trans ?_), (h c).2⟩
    rw [(hagree c).1, (hagree c).2.1, (hagree c).2.2]
    exact ref27 m c

end Cert.Proof

end
-- ==== Proof.PrenormFwdValue.lean ====
module

public import proofs.«01_k».proof.Defs
public import proofs.«01_k».proof.Proof.Gen.PrenormFwdIdeal.Value
public import proofs.«01_k».proof.Proof.Gen.PrenormFwdRefIdeal.Run
public import proofs.«01_k».proof.Proof.Gen.PrenormFwdRefIdeal.Read
public import proofs.«01_k».proof.Proof.Common
public import proofs.«01_k».proof.Proof.Norm
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.PrenormFwdIdeal.Hand

open Cert.PrenormFwdIdeal Cert.PrenormFwdIdeal.Gen Cert.Common

/-- One entry of the modulated norm: the row, its lane, the gain, the scale, the shift. -/
def mod (x : Fin 2048 → EReal) (l : Fin 2048) (g s h : EReal) : EReal := x l * rms x * g * (1 + s) + h

/-- The modulated norm of a tile's rows. -/
theorem pay1_apply (x : Vec Ideal S512x2048 .f32) (g s h : Vec Ideal S1x2048 .f32) (r : Fin 512) (l : Fin 2048) :
    k0_pay1 x g s h (ix2 r l) = mod (fun k => x (ix2 r k)) l (g (ix2 0 l)) (s (ix2 0 l)) (h (ix2 0 l)) := by
  unfold_payloads
  pointwise
  rfl

variable (m : (ℓ : Loc nD τ sig) → Buf (Elt Ideal) ℓ)

/-- The block each window reads or writes at a point of the grid. -/
theorem idx_facts : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0])

/-- The grid's size. -/
theorem lt_N (t : Fin cfg0.N) : t.val < 8 := lt_of_lt_of_eq t.isLt N_0

/-- The array's row that row `r` of a point's tile is. -/
abbrev row (t : Fin cfg0.N) (r : Fin 512) : Fin 4096 := ⟨512 * t.val + r.val, by have := lt_N t; omega⟩

/-- The arguments: the rows, the gain, the scale, the shift. -/
abbrev X (c : Dev nD) : FVec Ideal S4096x2048 .f32 := m ((c : Thread nD τ).loc main_arg0)
abbrev G (c : Dev nD) : FVec Ideal S2048 .f32 := m ((c : Thread nD τ).loc main_arg1)
abbrev SC (c : Dev nD) : FVec Ideal S2048 .f32 := m ((c : Thread nD τ).loc main_arg2)
abbrev SH (c : Dev nD) : FVec Ideal S2048 .f32 := m ((c : Thread nD τ).loc main_arg3)

/-- A vector laid out as one row. -/
theorem as_row (x : FVec Ideal S2048 .f32) (i : S1x2048.Idx) (l : Fin 2048) (h1 : (i 1).val = l.val) :
    broadcastInDim S1x2048 ![1] bcast_S2048_S1x2048_1 x i = x (ix1 l) := by
  have e : i = ix2 (0 : Fin 1) l := Shape.idx_ext₂ (by have h : (i 0).val < 1 := (i 0).isLt; show (i 0).val = 0; omega) h1
  rw [e]
  pointwise

/-- The row's operands are the arguments. -/
theorem V_v0 (c : Dev nD) : V m c main_v0 = broadcastInDim S1x2048 ![1] bcast_S2048_S1x2048_1 (G m c) := by
  unfold V hostOps0
  after_results <;> rfl
theorem V_v1 (c : Dev nD) : V m c main_v1 = broadcastInDim S1x2048 ![1] bcast_S2048_S1x2048_1 (SC m c) := by
  unfold V hostOps0
  after_results <;> rfl
theorem V_v2 (c : Dev nD) : V m c main_v2 = broadcastInDim S1x2048 ![1] bcast_S2048_S1x2048_1 (SH m c) := by
  unfold V hostOps0
  after_results <;> rfl

/-- A tile of the rows. -/
theorem iblk0_apply (c : Dev nD) (t : Fin cfg0.N) (r : Fin 512) (l : Fin 2048) :
    (iblk m c 0 t : Vec Ideal S512x2048 .f32) (ix2 r l) = X m c (ix2 (row t r) l) := by
  unfold iblk
  rw [View.read_apply]
  show V m c main_arg0 _ = _
  rw [V_main_arg0]
  have hi := (idx_facts t).1
  refine congrArg (X m c) (Shape.idx_ext₂ ?_ ?_)
  · show win0_0.index t 0 * 512 + 1 * r.val = 512 * t.val + r.val
    rw [hi]; show t.val * 512 + 1 * r.val = _; omega
  · show win0_0.index t 1 * 2048 + 1 * l.val = l.val
    rw [hi]; show 0 * 2048 + 1 * l.val = _; omega

/-- The blocks of the gain, the scale and the shift. -/
theorem iblk1_apply (c : Dev nD) (t : Fin cfg0.N) (l : Fin 2048) : (iblk m c 1 t : Vec Ideal S1x2048 .f32) (ix2 0 l) = G m c (ix1 l) := by
  unfold iblk
  rw [View.read_apply]
  show V m c main_v0 _ = _
  rw [V_v0]
  refine as_row _ _ l ?_
  show win0_1.index t 1 * 2048 + 1 * l.val = l.val
  rw [(idx_facts t).2.1]; show 0 * 2048 + 1 * l.val = _; omega
theorem iblk2_apply (c : Dev nD) (t : Fin cfg0.N) (l : Fin 2048) : (iblk m c 2 t : Vec Ideal S1x2048 .f32) (ix2 0 l) = SC m c (ix1 l) := by
  unfold iblk
  rw [View.read_apply]
  show V m c main_v1 _ = _
  rw [V_v1]
  refine as_row _ _ l ?_
  show win0_2.index t 1 * 2048 + 1 * l.val = l.val
  rw [(idx_facts t).2.2.1]; show 0 * 2048 + 1 * l.val = _; omega
theorem iblk3_apply (c : Dev nD) (t : Fin cfg0.N) (l : Fin 2048) : (iblk m c 3 t : Vec Ideal S1x2048 .f32) (ix2 0 l) = SH m c (ix1 l) := by
  unfold iblk
  rw [View.read_apply]
  show V m c main_v2 _ = _
  rw [V_v2]
  refine as_row _ _ l ?_
  show win0_3.index t 1 * 2048 + 1 * l.val = l.val
  rw [(idx_facts t).2.2.2.1]; show 0 * 2048 + 1 * l.val = _; omega

/-- The modulated norm of all rows. -/
def normed (c : Dev nD) : Vec Ideal S4096x2048 .bf16 :=
  fun i => mod (fun k => X m c (ix2 (i 0) k)) (i 1) (G m c (ix1 (i 1))) (SC m c (ix1 (i 1))) (SH m c (ix1 (i 1)))

/-- The array the kernel leaves. -/
theorem final4 (c : Dev nD) : (dats m 0 c).arrAt 4 cfg0.N = normed m c := by
  refine (dats m 0 c).arrAt_eq_of_cover 4 (normed m c) (fun t _ => ?_) fun i => ?_
  · rw [Value.flushed4]
    funext y
    rw [View.read_apply]
    have hi := (idx_facts t).2.2.2.2
    obtain ⟨r, l, rfl⟩ : ∃ (r : Fin 512) (l : Fin 2048), y = ix2 r l := ⟨y 0, y 1, by funext a; match a with | ⟨0, _⟩ => rfl | ⟨1, _⟩ => rfl⟩
    have e : (((cfg0.win 4).blk t).view.emb (ix2 r l) : S4096x2048.Idx) = ix2 (row t r) l := by
      refine Shape.idx_ext₂ ?_ ?_
      · show win0_4.index t 0 * 512 + 1 * r.val = 512 * t.val + r.val
        rw [hi]; show t.val * 512 + 1 * r.val = _; omega
      · show win0_4.index t 1 * 2048 + 1 * l.val = l.val
        rw [hi]; show 0 * 2048 + 1 * l.val = _; omega
    show _ = normed m c (((cfg0.win 4).blk t).view.emb (ix2 r l))
    rw [e]
    show out0_4 (iblk m c 0 t) (iblk m c 1 t) (iblk m c 2 t) (iblk m c 3 t) (ix2 r l) = _
    unfold out0_4 r0_0 r0_1
    rw [View.canon_unit_zero hz]
    simp only [View.ld_unit_zero (S := S512x2048) hz, View.ld_unit_zero (S := S1x2048) hz]
    rw [pay1_apply, iblk1_apply, iblk2_apply, iblk3_apply, show (fun k : Fin 2048 => (iblk m c 0 t : Vec Ideal S512x2048 .f32) (ix2 r k)) = fun k => X m c (ix2 (row t r) k) from funext fun k => iblk0_apply m c t r k]
    rfl
  · have hN : cfg0.N = 8 := N_0
    have hi0 : (i 0 : ℕ) < 4096 := (i 0).isLt
    have hi1 : (i 1 : ℕ) < 2048 := (i 1).isLt
    obtain ⟨t, ht⟩ : ∃ t : Fin cfg0.N, t.val = (i 0 : ℕ) / 512 := ⟨⟨(i 0 : ℕ) / 512, by omega⟩, rfl⟩
    refine ⟨t, flush0_4 t, ?_⟩
    show i ∈ ((View.whole main_v3).slice (win0_4.rect t)).set
    rw [View.set_slice_whole, Rect.mem_set_unit]
    have hi := (idx_facts t).2.2.2.2
    intro a
    match a with
    | ⟨0, _⟩ =>
      show win0_4.index t 0 * 512 ≤ (i 0 : ℕ) ∧ (i 0 : ℕ) < win0_4.index t 0 * 512 + 512
      rw [hi]; show t.val * 512 ≤ (i 0 : ℕ) ∧ (i 0 : ℕ) < t.val * 512 + 512; omega
    | ⟨1, _⟩ =>
      show win0_4.index t 1 * 2048 ≤ (i 1 : ℕ) ∧ (i 1 : ℕ) < win0_4.index t 1 * 2048 + 2048
      rw [hi]; show 0 * 2048 ≤ (i 1 : ℕ) ∧ (i 1 : ℕ) < 0 * 2048 + 2048; omega

end Cert.PrenormFwdIdeal.Hand

namespace Cert.PrenormFwdRefIdeal.Hand

open Cert.PrenormFwdRefIdeal Cert.PrenormFwdRefIdeal.Gen Cert.PrenormFwdRefIdeal.Read Cert.PrenormFwdIdeal.Hand Cert.Common

/-- The reference's modulated norm is the kernel's. -/
theorem ref21 (m : (ℓ : Loc Cert.PrenormFwdIdeal.nD Cert.PrenormFwdIdeal.τ Cert.PrenormFwdIdeal.sig) → Buf (Elt Ideal) ℓ) (c : Dev Cert.PrenormFwdIdeal.nD) :
    val_main_v21 (F := Ideal) (X m c) (G m c) (SC m c) (SH m c) = normed m c := by
  funext i
  obtain ⟨k, l, rfl⟩ : ∃ (k : Fin 4096) (l : Fin 2048), i = ix2 k l := ⟨i 0, i 1, eq_ix2 i⟩
  unfold val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise
  rfl

end Cert.PrenormFwdRefIdeal.Hand

namespace Cert.Proof

open Cert.PrenormFwdIdeal.Hand Cert.PrenormFwdRefIdeal.Hand

/-- The modulated norm: the kernel's rows are the reference's. -/
theorem prenorm_fwd : Cert.algebraic_PrenormFwdIdeal_PrenormFwdRefIdeal := by
  intro m g m' g' _ hagree
  refine ⟨normed m, ?_, ?_⟩
  · refine (θ_run _ _ _).mono (fun r h c => ?_) (Cert.PrenormFwdIdeal.Value.run_blocks (F := Ideal) m g)
    exact ⟨(h c).1.trans (final4 m c), (h c).2⟩
  · refine (θ_run _ _ _).mono (fun r h c => ?_) (Cert.PrenormFwdRefIdeal.Value.run (F := Ideal) m' g')
    refine ⟨(h c).1.trans ((Cert.PrenormFwdRefIdeal.Read.val_main_v21_eq (F := Ideal) _ _ _ _).trans ?_), (h c).2⟩
    rw [(hagree c).1, (hagree c).2.1, (hagree c).2.2.1, (hagree c).2.2.2]
    exact ref21 m c

end Cert.Proof

end
-- ==== Proof.OutFwdValue.lean ====
module

public import proofs.«01_k».proof.Defs
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Common
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutFwdIdeal.Hand

open Cert.OutFwdIdeal Cert.OutFwdIdeal.Gen Cert.Common

/-- The product of a tile's rows with the matrix. -/
theorem pay2_apply (a : Vec Ideal S512x2048 .bf16) (w : Vec Ideal S2048x2048 .bf16) (r : Fin 512) (l : Fin 2048) :
    k0_pay2 a w (ix2 r l) = (∑ k : Fin 2048, a (ix2 r k) * w (ix2 k l) : EReal) := by
  unfold_payloads
  pointwise
/-- The rows with the gated product added. -/
theorem pay3_apply (a : Vec Ideal S512x2048 .bf16) (w : Vec Ideal S2048x2048 .bf16) (x : Vec Ideal S512x2048 .f32) (g : Vec Ideal S1x2048 .f32) (r : Fin 512) (l : Fin 2048) :
    k0_pay3 a w x g (ix2 r l) = (x (ix2 r l) + g (ix2 0 l) * ∑ k : Fin 2048, a (ix2 r k) * w (ix2 k l) : EReal) := by
  unfold_payloads
  pointwise

variable (m : (ℓ : Loc nD τ sig) → Buf (Elt Ideal) ℓ)

/-- The block each window reads or writes at a point of the grid. -/
theorem idx_facts : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0])

/-- The grid's size. -/
theorem lt_N (t : Fin cfg0.N) : t.val < 8 := lt_of_lt_of_eq t.isLt N_0

/-- The array's row that row `r` of a point's tile is. -/
abbrev row (t : Fin cfg0.N) (r : Fin 512) : Fin 4096 := ⟨512 * t.val + r.val, by have := lt_N t; omega⟩

/-- The arguments: the merged rows, the matrix, the rows, the gate. -/
abbrev MG (c : Dev nD) : FVec Ideal S4096x2048 .bf16 := m ((c : Thread nD τ).loc main_arg0)
abbrev W (c : Dev nD) : FVec Ideal S2048x2048 .f32 := m ((c : Thread nD τ).loc main_arg1)
abbrev X (c : Dev nD) : FVec Ideal S4096x2048 .f32 := m ((c : Thread nD τ).loc main_arg2)
abbrev RG (c : Dev nD) : FVec Ideal S2048 .f32 := m ((c : Thread nD τ).loc main_arg3)

/-- The matrix and the gate's row as the kernel reads them. -/
theorem V_v0 (c : Dev nD) : V m c main_v0 = (truncf .bf16 (W m c) bitsLt_bf16_f32 : FVec Ideal S2048x2048 .bf16) := by
  unfold V hostOps0
  after_results <;> rfl
theorem V_v1 (c : Dev nD) : V m c main_v1 = broadcastInDim S1x2048 ![1] bcast_S2048_S1x2048_1 (RG m c) := by
  unfold V hostOps0
  after_results <;> rfl

/-- An entry of an array at a place of a tile of its rows. -/
theorem at_blk {f : FTy} (A : FVec Ideal S4096x2048 f) (t : Fin cfg0.N) (r : Fin 512) (l : Fin 2048) (w : Fin 2 → ℕ) (i : S4096x2048.Idx)
    (hw : w = ![t.val, 0]) (h0 : (i 0).val = w 0 * 512 + 1 * r.val) (h1 : (i 1).val = w 1 * 2048 + 1 * l.val) : A i = A (ix2 (row t r) l) := by
  subst hw
  refine congrArg A (Shape.idx_ext₂ ?_ ?_)
  · show (i 0).val = 512 * t.val + r.val
    rw [h0]; show t.val * 512 + 1 * r.val = _; omega
  · show (i 1).val = l.val
    rw [h1]; show 0 * 2048 + 1 * l.val = _; omega

/-- A tile of the merged rows, the matrix, a tile of the rows, the gate. -/
theorem iblk0_apply (c : Dev nD) (t : Fin cfg0.N) (r : Fin 512) (l : Fin 2048) : (iblk m c 0 t : Vec Ideal S512x2048 .bf16) (ix2 r l) = MG m c (ix2 (row t r) l) := by
  unfold iblk
  rw [View.read_apply]
  show V m c main_arg0 _ = _
  rw [V_main_arg0]
  exact at_blk (MG m c) t r l _ _ (idx_facts t).1 rfl rfl
theorem iblk1_apply (c : Dev nD) (t : Fin cfg0.N) (k l : Fin 2048) : (iblk m c 1 t : Vec Ideal S2048x2048 .bf16) (ix2 k l) = W m c (ix2 k l) := by
  have hi := (idx_facts t).2.1
  unfold iblk
  rw [View.read_apply]
  show V m c main_v0 _ = _
  rw [V_v0]
  refine congrArg (W m c) (Shape.idx_ext₂ ?_ ?_)
  · show win0_1.index t 0 * 2048 + 1 * k.val = k.val
    rw [hi]; show 0 * 2048 + 1 * k.val = _; omega
  · show win0_1.index t 1 * 2048 + 1 * l.val = l.val
    rw [hi]; show 0 * 2048 + 1 * l.val = _; omega
theorem iblk2_apply (c : Dev nD) (t : Fin cfg0.N) (r : Fin 512) (l : Fin 2048) : (iblk m c 2 t : Vec Ideal S512x2048 .f32) (ix2 r l) = X m c (ix2 (row t r) l) := by
  unfold iblk
  rw [View.read_apply]
  show V m c main_arg2 _ = _
  rw [V_main_arg2]
  exact at_blk (X m c) t r l _ _ (idx_facts t).2.2.1 rfl rfl
theorem iblk3_apply (c : Dev nD) (t : Fin cfg0.N) (l : Fin 2048) : (iblk m c 3 t : Vec Ideal S1x2048 .f32) (ix2 0 l) = RG m c (ix1 l) := by
  unfold iblk
  rw [View.read_apply]
  show V m c main_v1 _ = _
  rw [V_v1]
  have e : (((cfg0.win 3).blk t).view.emb (ix2 (0 : Fin 1) l) : S1x2048.Idx) = ix2 (0 : Fin 1) l := by
    have hi := (idx_facts t).2.2.2.1
    refine Shape.idx_ext₂ ?_ ?_
    · show win0_3.index t 0 * 1 + 1 * 0 = 0
      rw [hi]; show 0 * 1 + 1 * 0 = 0; omega
    · show win0_3.index t 1 * 2048 + 1 * l.val = l.val
      rw [hi]; show 0 * 2048 + 1 * l.val = _; omega
  refine (congrArg (broadcastInDim S1x2048 ![1] bcast_S2048_S1x2048_1 (RG m c)) e).trans ?_
  pointwise

/-- The product, and the rows with the gated product added. -/
def mo (c : Dev nD) : Vec Ideal S4096x2048 .bf16 := fun i => (∑ k : Fin 2048, MG m c (ix2 (i 0) k) * W m c (ix2 k (i 1)) : EReal)
def xo (c : Dev nD) : Vec Ideal S4096x2048 .f32 := fun i => (X m c i + RG m c (ix1 (i 1)) * ∑ k : Fin 2048, MG m c (ix2 (i 0) k) * W m c (ix2 k (i 1)) : EReal)

/-- The product's sum at a place of a tile. -/
theorem sum_apply (c : Dev nD) (t : Fin cfg0.N) (r : Fin 512) (l : Fin 2048) (a : Vec Ideal S512x2048 .bf16) (w : Vec Ideal S2048x2048 .bf16) (ha : a = iblk m c 0 t) (hw : w = iblk m c 1 t) :
    (∑ k : Fin 2048, a (ix2 r k) * w (ix2 k l) : EReal) = ∑ k : Fin 2048, MG m c (ix2 (row t r) k) * W m c (ix2 k l) := by
  subst ha hw
  exact Finset.sum_congr rfl fun k _ => congrArg₂ (fun a b : EReal => a * b) (iblk0_apply m c t r k) (iblk1_apply m c t k l)

/-- The point whose tile has a place of the array. -/
theorem cover (i : S4096x2048.Idx) (w : Fin cfg0.N → Fin 2 → ℕ) (hw : ∀ t, w t = ![t.val, 0]) :
    ∃ t : Fin cfg0.N, ∀ a : Fin 2, w t a * S512x2048.size a ≤ (i a : ℕ) ∧ (i a : ℕ) < w t a * S512x2048.size a + S512x2048.size a := by
  have hN : cfg0.N = 8 := N_0
  have hi0 : (i 0 : ℕ) < 4096 := (i 0).isLt
  have hi1 : (i 1 : ℕ) < 2048 := (i 1).isLt
  obtain ⟨t, ht⟩ : ∃ t : Fin cfg0.N, t.val = (i 0 : ℕ) / 512 := ⟨⟨(i 0 : ℕ) / 512, by omega⟩, rfl⟩
  refine ⟨t, fun a => ?_⟩
  rw [hw]
  match a with
  | ⟨0, _⟩ => show t.val * 512 ≤ (i 0 : ℕ) ∧ (i 0 : ℕ) < t.val * 512 + 512; omega
  | ⟨1, _⟩ => show 0 * 2048 ≤ (i 1 : ℕ) ∧ (i 1 : ℕ) < 0 * 2048 + 2048; omega

/-- The arrays the kernel leaves. -/
theorem final4 (c : Dev nD) : (dats m 0 c).arrAt 4 cfg0.N = xo m c := by
  refine (dats m 0 c).arrAt_eq_of_cover 4 (xo m c) (fun t _ => ?_) fun i => ?_
  · rw [Value.flushed4]
    funext y
    rw [View.read_apply]
    obtain ⟨r, l, rfl⟩ : ∃ (r : Fin 512) (l : Fin 2048), y = ix2 r l := ⟨y 0, y 1, by funext a; match a with | ⟨0, _⟩ => rfl | ⟨1, _⟩ => rfl⟩
    show _ = xo m c (((cfg0.win 4).blk t).view.emb (ix2 r l))
    refine Eq.trans ?_ (at_blk (f := .f32) (xo m c) t r l _ _ (idx_facts t).2.2.2.2.1 rfl rfl).symm
    show out0_4 (iblk m c 0 t) (iblk m c 1 t) (iblk m c 2 t) (iblk m c 3 t) (ix2 r l) = _
    unfold out0_4 r0_0 r0_1 r0_2
    rw [View.canon_unit_zero hz]
    simp only [View.ld_unit_zero (S := S512x2048) hz, View.ld_unit_zero (S := S1x2048) hz, View.ld_unit_zero (S := S2048x2048) hz]
    rw [pay3_apply, iblk2_apply, iblk3_apply, sum_apply m c t r l _ _ rfl rfl]
    rfl
  · obtain ⟨t, ht⟩ := cover i win0_4.index fun t => (idx_facts t).2.2.2.2.1
    refine ⟨t, flush0_4 t, ?_⟩
    show i ∈ ((View.whole main_v2_0).slice (win0_4.rect t)).set
    rw [View.set_slice_whole, Rect.mem_set_unit]
    exact ht
theorem final5 (c : Dev nD) : (dats m 0 c).arrAt 5 cfg0.N = mo m c := by
  refine (dats m 0 c).arrAt_eq_of_cover 5 (mo m c) (fun t _ => ?_) fun i => ?_
  · rw [Value.flushed5]
    funext y
    rw [View.read_apply]
    obtain ⟨r, l, rfl⟩ : ∃ (r : Fin 512) (l : Fin 2048), y = ix2 r l := ⟨y 0, y 1, by funext a; match a with | ⟨0, _⟩ => rfl | ⟨1, _⟩ => rfl⟩
    show _ = mo m c (((cfg0.win 5).blk t).view.emb (ix2 r l))
    refine Eq.trans ?_ (at_blk (f := .bf16) (mo m c) t r l _ _ (idx_facts t).2.2.2.2.2 rfl rfl).symm
    show out0_5 (iblk m c 0 t) (iblk m c 1 t) (iblk m c 2 t) (iblk m c 3 t) (ix2 r l) = _
    unfold out0_5 r0_0 r0_1
    rw [View.canon_unit_zero hz]
    simp only [View.ld_unit_zero (S := S512x2048) hz, View.ld_unit_zero (S := S2048x2048) hz]
    rw [pay2_apply, sum_apply m c t r l _ _ rfl rfl]
    rfl
  · obtain ⟨t, ht⟩ := cover i win0_5.index fun t => (idx_facts t).2.2.2.2.2
    refine ⟨t, flush0_5 t, ?_⟩
    show i ∈ ((View.whole main_v2_1).slice (win0_5.rect t)).set
    rw [View.set_slice_whole, Rect.mem_set_unit]
    exact ht

end Cert.OutFwdIdeal.Hand

namespace Cert.OutFwdRefIdeal.Hand

open Cert.OutFwdRefIdeal Cert.OutFwdRefIdeal.Gen Cert.OutFwdRefIdeal.Read Cert.OutFwdIdeal.Hand Cert.Common

variable (m : (ℓ : Loc Cert.OutFwdIdeal.nD Cert.OutFwdIdeal.τ Cert.OutFwdIdeal.sig) → Buf (Elt Ideal) ℓ) (c : Dev Cert.OutFwdIdeal.nD)

/-- The reference's rows are the kernel's. -/
theorem ref5 : val_main_v5 (F := Ideal) (MG m c) (W m c) (X m c) (RG m c) = xo m c := by
  funext i
  obtain ⟨k, l, rfl⟩ : ∃ (k : Fin 4096) (l : Fin 2048), i = ix2 k l := ⟨i 0, i 1, eq_ix2 i⟩
  unfold val_main_v5 val_main_v4 val_main_v3 val_main_v2 val_main_v1 val_main_v0
  pointwise
  rfl
/-- The reference's product is the kernel's. -/
theorem ref6 : val_main_v6 (F := Ideal) (MG m c) (W m c) = mo m c := by
  funext i
  obtain ⟨k, l, rfl⟩ : ∃ (k : Fin 4096) (l : Fin 2048), i = ix2 k l := ⟨i 0, i 1, eq_ix2 i⟩
  unfold val_main_v6 val_main_v1 val_main_v0
  pointwise
  rfl

end Cert.OutFwdRefIdeal.Hand

namespace Cert.Proof

open Cert.OutFwdIdeal.Hand Cert.OutFwdRefIdeal.Hand

/-- The gated output: the kernel's two arrays are the reference's. -/
theorem out_fwd : Cert.algebraic_OutFwdIdeal_OutFwdRefIdeal := by
  intro m g m' g' _ hagree
  refine ⟨xo m, mo m, ?_, ?_⟩
  · refine (θ_run _ _ _).mono (fun r h c => ?_) (Cert.OutFwdIdeal.Value.run_blocks (F := Ideal) m g)
    exact ⟨(h c).1.trans (final4 m c), (h c).2.1.trans (final5 m c), (h c).2.2⟩
  · refine (θ_run _ _ _).mono (fun r h c => ?_) (Cert.OutFwdRefIdeal.Value.run (F := Ideal) m' g')
    refine ⟨(h c).1.trans ((Cert.OutFwdRefIdeal.Read.val_main_v5_eq (F := Ideal) _ _ _ _).trans ?_), (h c).2.1.trans ((Cert.OutFwdRefIdeal.Read.val_main_v6_eq (F := Ideal) _ _).trans ?_), (h c).2.2⟩
    · rw [(hagree c).1, (hagree c).2.1, (hagree c).2.2.1, (hagree c).2.2.2]
      exact ref5 m c
    · rw [(hagree c).1, (hagree c).2.1]
      exact ref6 m c

end Cert.Proof

end
-- ==== Proof.InProjValue.lean ====
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import proofs.«01_k».proof.Proof.Common
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen Cert.Common

/-- Two indices of rank three with the same coordinates are equal. -/
theorem ext3 {a b c : ℕ} {i j : (⟨3, ![a, b, c]⟩ : Shape).Idx} (h0 : (i 0).val = (j 0).val) (h1 : (i 1).val = (j 1).val) (h2 : (i 2).val = (j 2).val) : i = j := by
  funext e; exact Fin.ext (match e with | ⟨0, _⟩ => h0 | ⟨1, _⟩ => h1 | ⟨2, _⟩ => h2)

/-- The product of a tile's rows with one block of the matrix. -/
theorem pay1_apply (a : Vec Ideal S512x2048 .bf16) (w : Vec Ideal S1x2048x1792 .bf16) (r : Fin 512) (l : Fin 1792) :
    k0_pay1 a w (ix2 r l) = (∑ k : Fin 2048, a (ix2 r k) * w (ix3 0 k l) : EReal) := by
  unfold_payloads
  pointwise

variable (m : (ℓ : Loc nD τ sig) → Buf (Elt Ideal) ℓ)

/-- The block each window reads or writes at a point of the grid. -/
theorem idx_facts : ∀ t : Fin cfg0.N, win0_0.index t = ![t.val % 8, 0] ∧ win0_1.index t = ![t.val / 8, 0, 0] ∧ win0_2.index t = ![t.val % 8, t.val / 8] :=
  (by decide +kernel : ∀ t : Fin grid0.N, win0_0.index t = ![t.val % 8, 0] ∧ win0_1.index t = ![t.val / 8, 0, 0] ∧ win0_2.index t = ![t.val % 8, t.val / 8])

/-- The grid's size. -/
theorem lt_N (t : Fin cfg0.N) : t.val < 64 := lt_of_lt_of_eq t.isLt N_0

/-- The array's row and column that row `r` and column `l` of a point's tile are. -/
abbrev row (t : Fin cfg0.N) (r : Fin 512) : Fin 4096 := ⟨512 * (t.val % 8) + r.val, by omega⟩
abbrev col (t : Fin cfg0.N) (l : Fin 1792) : Fin 14336 := ⟨1792 * (t.val / 8) + l.val, by have := lt_N t; omega⟩

/-- The arguments: the rows and the matrix. -/
abbrev A (c : Dev nD) : FVec Ideal S4096x2048 .bf16 := m ((c : Thread nD τ).loc main_arg0)
abbrev W (c : Dev nD) : FVec Ideal S2048x14336 .f32 := m ((c : Thread nD τ).loc main_arg1)

/-- The matrix in blocks of columns, as the kernel reads it. -/
theorem V_v2 (c : Dev nD) : V m c main_v2 = transpose S8x2048x1792 [1, 0, 2] (shapeCast S2048x8x1792 (truncf .bf16 (W m c) bitsLt_bf16_f32 : FVec Ideal S2048x14336 .bf16) shapeCasts_S2048x14336_S2048x8x1792) transposes_S2048x8x1792_S8x2048x1792_1_0_2 := by
  unfold V hostOps0
  after_results <;> rfl

/-- A block of the matrix, at one of its places. -/
theorem v2_apply (c : Dev nD) (j : Fin 8) (k : Fin 2048) (l : Fin 1792) :
    (V m c main_v2 : Vec Ideal S8x2048x1792 .bf16) (ix3 j k l) = W m c (ix2 k ⟨1792 * j.val + l.val, by omega⟩) := by
  rw [V_v2]
  refine (transpose_apply _ _ _ _ (ix3 k j l : S2048x8x1792.Idx) fun b => by match b with | ⟨0, _⟩ => rfl | ⟨1, _⟩ => rfl | ⟨2, _⟩ => rfl).trans ?_
  refine (shapeCast_apply _ _ _ (ix2 k ⟨1792 * j.val + l.val, by omega⟩ : S2048x14336.Idx) ?_).trans ?_
  · simp [Shape.rowMajor_val_two, Shape.rowMajor_val_three]
    omega
  · rfl

/-- A tile of the rows and a block of the matrix. -/
theorem iblk0_apply (c : Dev nD) (t : Fin cfg0.N) (r : Fin 512) (k : Fin 2048) : (iblk m c 0 t : Vec Ideal S512x2048 .bf16) (ix2 r k) = A m c (ix2 (row t r) k) := by
  have hi := (idx_facts t).1
  unfold iblk
  rw [View.read_apply]
  show V m c main_arg0 _ = _
  rw [V_main_arg0]
  refine congrArg (A m c) (Shape.idx_ext₂ ?_ ?_)
  · show win0_0.index t 0 * 512 + 1 * r.val = 512 * (t.val % 8) + r.val
    rw [hi]; show t.val % 8 * 512 + 1 * r.val = _; omega
  · show win0_0.index t 1 * 2048 + 1 * k.val = k.val
    rw [hi]; show 0 * 2048 + 1 * k.val = _; omega
theorem iblk1_apply (c : Dev nD) (t : Fin cfg0.N) (k : Fin 2048) (l : Fin 1792) : (iblk m c 1 t : Vec Ideal S1x2048x1792 .bf16) (ix3 0 k l) = W m c (ix2 k (col t l)) := by
  have hi := (idx_facts t).2.1
  have ht := lt_N t
  unfold iblk
  rw [View.read_apply]
  show V m c main_v2 _ = _
  refine Eq.trans (congrArg (V m c main_v2) (?_ : _ = (ix3 (⟨t.val / 8, by omega⟩ : Fin 8) k l : S8x2048x1792.Idx))) (v2_apply m c _ k l)
  refine ext3 ?_ ?_ ?_
  · show win0_1.index t 0 * 1 + 1 * 0 = t.val / 8
    rw [hi]; show t.val / 8 * 1 + 1 * 0 = _; omega
  · show win0_1.index t 1 * 2048 + 1 * k.val = k.val
    rw [hi]; show 0 * 2048 + 1 * k.val = _; omega
  · show win0_1.index t 2 * 1792 + 1 * l.val = l.val
    rw [hi]; show 0 * 1792 + 1 * l.val = _; omega

/-- The product. -/
def proj (c : Dev nD) : Vec Ideal S4096x14336 .bf16 := fun i => (∑ k : Fin 2048, A m c (ix2 (i 0) k) * W m c (ix2 k (i 1)) : EReal)

/-- The product's sum at a place of a tile. -/
theorem sum_apply (c : Dev nD) (t : Fin cfg0.N) (r : Fin 512) (l : Fin 1792) (a : Vec Ideal S512x2048 .bf16) (w : Vec Ideal S1x2048x1792 .bf16) (ha : a = iblk m c 0 t) (hw : w = iblk m c 1 t) :
    (∑ k : Fin 2048, a (ix2 r k) * w (ix3 0 k l) : EReal) = ∑ k : Fin 2048, A m c (ix2 (row t r) k) * W m c (ix2 k (col t l)) := by
  subst ha hw
  exact Finset.sum_congr rfl fun k _ => congrArg₂ (fun a b : EReal => a * b) (iblk0_apply m c t r k) (iblk1_apply m c t k l)

/-- The array the kernel leaves. -/
theorem final2 (c : Dev nD) : (dats m 0 c).arrAt 2 cfg0.N = proj m c := by
  refine (dats m 0 c).arrAt_eq_of_cover 2 (proj m c) (fun t _ => ?_) fun i => ?_
  · have hi := (idx_facts t).2.2
    rw [Value.flushed2]
    funext y
    rw [View.read_apply]
    obtain ⟨r, l, rfl⟩ : ∃ (r : Fin 512) (l : Fin 1792), y = ix2 r l := ⟨y 0, y 1, by funext a; match a with | ⟨0, _⟩ => rfl | ⟨1, _⟩ => rfl⟩
    show _ = proj m c (((cfg0.win 2).blk t).view.emb (ix2 r l))
    have e : (((cfg0.win 2).blk t).view.emb (ix2 r l) : S4096x14336.Idx) = ix2 (row t r) (col t l) := by
      refine Shape.idx_ext₂ ?_ ?_
      · show win0_2.index t 0 * 512 + 1 * r.val = 512 * (t.val % 8) + r.val
        rw [hi]; show t.val % 8 * 512 + 1 * r.val = _; omega
      · show win0_2.index t 1 * 1792 + 1 * l.val = 1792 * (t.val / 8) + l.val
        rw [hi]; show t.val / 8 * 1792 + 1 * l.val = _; omega
    refine Eq.trans ?_ (congrArg (proj m c) e).symm
    show out0_2 (iblk m c 0 t) (iblk m c 1 t) (ix2 r l) = _
    unfold out0_2 r0_0 r0_1 r0_2
    rw [View.canon_unit_zero hz]
    simp only [View.ld_unit_zero (S := S512x2048) hz, View.ld_unit_zero (S := S1x2048x1792) (show (![0, 0, 0] : Fin 3 → Nat) = fun _ => 0 from funext fun a => by fin_cases a <;> rfl)]
    rw [pay1_apply, sum_apply m c t r l _ _ rfl rfl]
    rfl
  · have hi0 : (i 0 : ℕ) < 4096 := (i 0).isLt
    have hi1 : (i 1 : ℕ) < 14336 := (i 1).isLt
    have hN : cfg0.N = 64 := N_0
    obtain ⟨t, ht⟩ : ∃ t : Fin cfg0.N, t.val = 8 * ((i 1 : ℕ) / 1792) + (i 0 : ℕ) / 512 := ⟨⟨8 * ((i 1 : ℕ) / 1792) + (i 0 : ℕ) / 512, by omega⟩, rfl⟩
    refine ⟨t, flush0_2 t, ?_⟩
    show i ∈ ((View.whole main_v3).slice (win0_2.rect t)).set
    rw [View.set_slice_whole, Rect.mem_set_unit]
    intro a
    show win0_2.index t a * S512x1792.size a ≤ (i a : ℕ) ∧ (i a : ℕ) < win0_2.index t a * S512x1792.size a + S512x1792.size a
    rw [(idx_facts t).2.2]
    match a with
    | ⟨0, _⟩ => show t.val % 8 * 512 ≤ (i 0 : ℕ) ∧ (i 0 : ℕ) < t.val % 8 * 512 + 512; omega
    | ⟨1, _⟩ => show t.val / 8 * 1792 ≤ (i 1 : ℕ) ∧ (i 1 : ℕ) < t.val / 8 * 1792 + 1792; omega

end Cert.InProjIdeal.Hand

namespace Cert.Proof

open Cert.InProjIdeal.Hand

/-- The reference's product is the kernel's. -/
theorem ref_in_proj (m : (ℓ : Loc Cert.InProjIdeal.nD Cert.InProjIdeal.τ Cert.InProjIdeal.sig) → Buf (Elt Ideal) ℓ) (c : Dev Cert.InProjIdeal.nD) :
    Cert.InProjRefIdeal.Read.val_main_v2 (F := Ideal) (A m c) (W m c) = proj m c := by
  funext i
  obtain ⟨k, l, rfl⟩ : ∃ (k : Fin 4096) (l : Fin 14336), i = ix2 k l := ⟨i 0, i 1, eq_ix2 i⟩
  unfold Cert.InProjRefIdeal.Read.val_main_v2 Cert.InProjRefIdeal.Read.val_main_v1 Cert.InProjRefIdeal.Read.val_main_v0
  pointwise
  rfl

/-- The projection of the rows: the kernel's array is the reference's. -/
theorem in_proj : Cert.algebraic_InProjIdeal_InProjRefIdeal := by
  intro m g m' g' _ hagree
  refine ⟨proj m, ?_, ?_⟩
  · refine (θ_run _ _ _).mono (fun r h c => ?_) (Cert.InProjIdeal.Value.run_blocks (F := Ideal) m g)
    exact ⟨(h c).1.trans (final2 m c), (h c).2⟩
  · refine (θ_run _ _ _).mono (fun r h c => ?_) (Cert.InProjRefIdeal.Value.run (F := Ideal) m' g')
    refine ⟨(h c).1.trans ((Cert.InProjRefIdeal.Read.val_main_v2_eq (F := Ideal) _ _).trans ?_), (h c).2⟩
    rw [(hagree c).1, (hagree c).2]
    exact ref_in_proj m c

end Cert.Proof

end
-- ==== Proof.MergedGradValue.lean ====
module

public import proofs.«01_k».proof.Defs
public import proofs.«01_k».proof.Proof.Gen.MergedGradIdeal.Value
public import proofs.«01_k».proof.Proof.Gen.MergedGradRefIdeal.Run
public import proofs.«01_k».proof.Proof.Gen.MergedGradRefIdeal.Read
public import proofs.«01_k».proof.Proof.Common
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MergedGradIdeal.Hand

open Cert.MergedGradIdeal Cert.MergedGradIdeal.Gen Cert.Common

/-- Two indices of rank three with the same coordinates are equal. -/
theorem ext3 {a b c : ℕ} {i j : (⟨3, ![a, b, c]⟩ : Shape).Idx} (h0 : (i 0).val = (j 0).val) (h1 : (i 1).val = (j 1).val) (h2 : (i 2).val = (j 2).val) : i = j := by
  funext e; exact Fin.ext (match e with | ⟨0, _⟩ => h0 | ⟨1, _⟩ => h1 | ⟨2, _⟩ => h2)

/-- The product of a tile's rows with the matrix's rows. -/
theorem pay4_apply (a : Vec Ideal S512x2048 .bf16) (w : Vec Ideal S1x2048x2048 .bf16) (r : Fin 512) (l : Fin 2048) :
    k0_pay4 (k0_pay2 a w) (ix2 r l) = (∑ k : Fin 2048, a (ix2 r k) * w (ix3 0 l k) : EReal) := by
  unfold_payloads
  pointwise

variable (m : (ℓ : Loc nD τ sig) → Buf (Elt Ideal) ℓ)

/-- The block each window reads or writes at a point of the grid. -/
theorem idx_facts : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

/-- The grid's size. -/
theorem lt_N (t : Fin cfg0.N) : t.val < 8 := lt_of_lt_of_eq t.isLt N_0

/-- The array's row that row `r` of a point's tile is. -/
abbrev row (t : Fin cfg0.N) (r : Fin 512) : Fin 4096 := ⟨512 * t.val + r.val, by have := lt_N t; omega⟩

/-- The arguments: the incoming gradient and the matrix. -/
abbrev A (c : Dev nD) : FVec Ideal S4096x2048 .bf16 := m ((c : Thread nD τ).loc main_arg0)
abbrev W (c : Dev nD) : FVec Ideal S2048x2048 .f32 := m ((c : Thread nD τ).loc main_arg1)

/-- The matrix as the kernel reads it. -/
theorem V_v1 (c : Dev nD) : V m c main_v1 = broadcastInDim S1x2048x2048 ![1, 2] bcast_S2048x2048_S1x2048x2048_1_2 (truncf .bf16 (W m c) bitsLt_bf16_f32 : FVec Ideal S2048x2048 .bf16) := by
  unfold V hostOps0
  after_results <;> rfl

/-- The matrix at one of its places. -/
theorem v1_apply (c : Dev nD) (k l : Fin 2048) : (V m c main_v1 : Vec Ideal S1x2048x2048 .bf16) (ix3 0 k l) = W m c (ix2 k l) := by
  rw [V_v1]
  refine congrArg (W m c) ?_
  funext a; match a with | ⟨0, _⟩ => rfl | ⟨1, _⟩ => rfl

/-- What a point writes: the stored product read back and cast. -/
theorem outs2 (c : Dev nD) (t : Fin cfg0.N) : outsAt0 m c t = k0_pay4 (k0_pay2 (iblk m c 0 t) (iblk m c 1 t)) := by
  unfold outsAt0 out0_A_2
  refine (View.read_writes_eq_canon _ _ _ (by apply cover0_A_2)).trans ?_
  unfold kernelRun0_A
  dsimp only
  sl_unfold_words
  rw [View.canon_unit_zero hz]
  simp only [View.readAt_eq_ld, (hs0_0 t).read_unread, (hs0_1 t).read_unread, View.ld_unit_zero (S := S512x2048) hz, View.ld_unit_zero (S := S1x2048x2048) (show (![0, 0, 0] : Fin 3 → Nat) = fun _ => 0 from funext fun a => by fin_cases a <;> rfl)]
  exact congrArg k0_pay4 (View.readCov_unit_zero _ hz _ _)

/-- A tile of the incoming gradient, and the matrix. -/
theorem iblk0_apply (c : Dev nD) (t : Fin cfg0.N) (r : Fin 512) (k : Fin 2048) : (iblk m c 0 t : Vec Ideal S512x2048 .bf16) (ix2 r k) = A m c (ix2 (row t r) k) := by
  have hi := (idx_facts t).1
  unfold iblk
  rw [View.read_apply]
  show V m c main_arg0 _ = _
  rw [V_main_arg0]
  refine congrArg (A m c) (Shape.idx_ext₂ ?_ ?_)
  · show win0_0.index t 0 * 512 + 1 * r.val = 512 * t.val + r.val
    rw [hi]; show t.val * 512 + 1 * r.val = _; omega
  · show win0_0.index t 1 * 2048 + 1 * k.val = k.val
    rw [hi]; show 0 * 2048 + 1 * k.val = _; omega
theorem iblk1_apply (c : Dev nD) (t : Fin cfg0.N) (k l : Fin 2048) : (iblk m c 1 t : Vec Ideal S1x2048x2048 .bf16) (ix3 0 k l) = W m c (ix2 k l) := by
  have hi := (idx_facts t).2.1
  unfold iblk
  rw [View.read_apply]
  show V m c main_v1 _ = _
  refine Eq.trans (congrArg (V m c main_v1) (?_ : _ = (ix3 0 k l : S1x2048x2048.Idx))) (v1_apply m c k l)
  refine ext3 ?_ ?_ ?_
  · show win0_1.index t 0 * 1 + 1 * 0 = 0
    rw [hi]; rfl
  · show win0_1.index t 1 * 2048 + 1 * k.val = k.val
    rw [hi]; show 0 * 2048 + 1 * k.val = _; omega
  · show win0_1.index t 2 * 2048 + 1 * l.val = l.val
    rw [hi]; show 0 * 2048 + 1 * l.val = _; omega

/-- The product. -/
def dm (c : Dev nD) : Vec Ideal S4096x2048 .bf16 := fun i => (∑ k : Fin 2048, A m c (ix2 (i 0) k) * W m c (ix2 (i 1) k) : EReal)

/-- The product's sum at a place of a tile. -/
theorem sum_apply (c : Dev nD) (t : Fin cfg0.N) (r : Fin 512) (l : Fin 2048) (a : Vec Ideal S512x2048 .bf16) (w : Vec Ideal S1x2048x2048 .bf16) (ha : a = iblk m c 0 t) (hw : w = iblk m c 1 t) :
    (∑ k : Fin 2048, a (ix2 r k) * w (ix3 0 l k) : EReal) = ∑ k : Fin 2048, A m c (ix2 (row t r) k) * W m c (ix2 l k) := by
  subst ha hw
  exact Finset.sum_congr rfl fun k _ => congrArg₂ (fun a b : EReal => a * b) (iblk0_apply m c t r k) (iblk1_apply m c t l k)

/-- The array the kernel leaves. -/
theorem final2 (c : Dev nD) : (dats m 0 c).arrAt 2 cfg0.N = dm m c := by
  refine (dats m 0 c).arrAt_eq_of_cover 2 (dm m c) (fun t _ => ?_) fun i => ?_
  · have hi := (idx_facts t).2.2
    rw [Value.flushed2]
    funext y
    rw [View.read_apply]
    obtain ⟨r, l, rfl⟩ : ∃ (r : Fin 512) (l : Fin 2048), y = ix2 r l := ⟨y 0, y 1, by funext a; match a with | ⟨0, _⟩ => rfl | ⟨1, _⟩ => rfl⟩
    show _ = dm m c (((cfg0.win 2).blk t).view.emb (ix2 r l))
    have e : (((cfg0.win 2).blk t).view.emb (ix2 r l) : S4096x2048.Idx) = ix2 (row t r) l := by
      refine Shape.idx_ext₂ ?_ ?_
      · show win0_2.index t 0 * 512 + 1 * r.val = 512 * t.val + r.val
        rw [hi]; show t.val * 512 + 1 * r.val = _; omega
      · show win0_2.index t 1 * 2048 + 1 * l.val = l.val
        rw [hi]; show 0 * 2048 + 1 * l.val = _; omega
    refine Eq.trans ?_ (congrArg (dm m c) e).symm
    show outsAt0 m c t (ix2 r l) = _
    rw [outs2, pay4_apply, sum_apply m c t r l _ _ rfl rfl]
    rfl
  · have hi0 : (i 0 : ℕ) < 4096 := (i 0).isLt
    have hi1 : (i 1 : ℕ) < 2048 := (i 1).isLt
    have hN : cfg0.N = 8 := N_0
    obtain ⟨t, ht⟩ : ∃ t : Fin cfg0.N, t.val = (i 0 : ℕ) / 512 := ⟨⟨(i 0 : ℕ) / 512, by omega⟩, rfl⟩
    refine ⟨t, flush0_2 t, ?_⟩
    show i ∈ ((View.whole main_v2).slice (win0_2.rect t)).set
    rw [View.set_slice_whole, Rect.mem_set_unit]
    intro a
    show win0_2.index t a * S512x2048.size a ≤ (i a : ℕ) ∧ (i a : ℕ) < win0_2.index t a * S512x2048.size a + S512x2048.size a
    rw [(idx_facts t).2.2]
    match a with
    | ⟨0, _⟩ => show t.val * 512 ≤ (i 0 : ℕ) ∧ (i 0 : ℕ) < t.val * 512 + 512; omega
    | ⟨1, _⟩ => show 0 * 2048 ≤ (i 1 : ℕ) ∧ (i 1 : ℕ) < 0 * 2048 + 2048; omega

end Cert.MergedGradIdeal.Hand

namespace Cert.Proof

open Cert.MergedGradIdeal.Hand

/-- The reference's product is the kernel's. -/
theorem ref_merged_grad (m : (ℓ : Loc Cert.MergedGradIdeal.nD Cert.MergedGradIdeal.τ Cert.MergedGradIdeal.sig) → Buf (Elt Ideal) ℓ) (c : Dev Cert.MergedGradIdeal.nD) :
    Cert.MergedGradRefIdeal.Read.val_main_v3 (F := Ideal) (A m c) (W m c) = dm m c := by
  funext i
  obtain ⟨k, l, rfl⟩ : ∃ (k : Fin 4096) (l : Fin 2048), i = ix2 k l := ⟨i 0, i 1, eq_ix2 i⟩
  unfold Cert.MergedGradRefIdeal.Read.val_main_v3 Cert.MergedGradRefIdeal.Read.val_main_v2 Cert.MergedGradRefIdeal.Read.val_main_v1 Cert.MergedGradRefIdeal.Read.val_main_v0
  pointwise
  rfl

/-- The gradient of the merged rows: the kernel's array is the reference's. -/
theorem merged_grad : Cert.algebraic_MergedGradIdeal_MergedGradRefIdeal := by
  intro m g m' g' _ hagree
  refine ⟨dm m, ?_, ?_⟩
  · refine (θ_run _ _ _).mono (fun r h c => ?_) (Cert.MergedGradIdeal.Value.run_blocks (F := Ideal) m g)
    exact ⟨(h c).1.trans (final2 m c), (h c).2⟩
  · refine (θ_run _ _ _).mono (fun r h c => ?_) (Cert.MergedGradRefIdeal.Value.run (F := Ideal) m' g')
    refine ⟨(h c).1.trans ((Cert.MergedGradRefIdeal.Read.val_main_v3_eq (F := Ideal) _ _).trans ?_), (h c).2⟩
    rw [(hagree c).1, (hagree c).2]
    exact ref_merged_grad m c

end Cert.Proof

end
-- ==== Proof.InProjGradValue.lean ====
module

public import proofs.«01_k».proof.Defs
public import proofs.«01_k».proof.Proof.Gen.InProjGradIdeal.Value
public import proofs.«01_k».proof.Proof.Gen.InProjGradRefIdeal.Run
public import proofs.«01_k».proof.Proof.Gen.InProjGradRefIdeal.Read
public import proofs.«01_k».proof.Proof.Common
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.InProjGradIdeal.Hand

open Cert.InProjGradIdeal Cert.InProjGradIdeal.Gen Cert.Common

/-- Two indices of rank three with the same coordinates are equal. -/
theorem ext3 {a b c : ℕ} {i j : (⟨3, ![a, b, c]⟩ : Shape).Idx} (h0 : (i 0).val = (j 0).val) (h1 : (i 1).val = (j 1).val) (h2 : (i 2).val = (j 2).val) : i = j := by
  funext e; exact Fin.ext (match e with | ⟨0, _⟩ => h0 | ⟨1, _⟩ => h1 | ⟨2, _⟩ => h2)

/-- A value that starts anew at every fourth step and adds a summand at every other one is the sum since the last start. -/
theorem run_sum4 {N : ℕ} (f : (n : ℕ) → n < N → EReal) (g : ℕ → EReal) (hA : ∀ n h, n % 4 = 0 → f n h = g n)
    (hB : ∀ n (h : n + 1 < N), ¬(n + 1) % 4 = 0 → f (n + 1) h = f n (Nat.lt_of_succ_lt h) + g (n + 1)) :
    ∀ n h, f n h = ∑ s ∈ Finset.range (n % 4 + 1), g (4 * (n / 4) + s)
  | 0, h => by rw [hA 0 h rfl, Finset.sum_range_one]
  | n + 1, h => by
    by_cases h0 : (n + 1) % 4 = 0
    · rw [hA _ h h0, h0, Finset.sum_range_one]
      exact congrArg g (by omega)
    · rw [hB n h h0, run_sum4 f g hA hB n _, show (n + 1) % 4 = n % 4 + 1 by omega, show (n + 1) / 4 = n / 4 by omega, Finset.sum_range_succ _ (n % 4 + 1)]
      have e : n + 1 = 4 * (n / 4) + (n % 4 + 1) := by omega
      exact congrArg (HAdd.hAdd _) (congrArg g e)

/-- The product of two tiles over their rows, stored. -/
theorem pay2_apply (a : Vec Ideal S1024x1024 .bf16) (w : Vec Ideal S1024x1792 .bf16) (r : Fin 1024) (l : Fin 1792) :
    k0_pay2 a w (ix2 r l) = (∑ k : Fin 1024, a (ix2 k r) * w (ix2 k l) : EReal) := by
  unfold_payloads
  pointwise

/-- The product of two tiles over their rows, added to what was stored. -/
theorem pay3_apply (a : Vec Ideal S1024x1024 .bf16) (w : Vec Ideal S1024x1792 .bf16) (v : Vec Ideal S1024x1792 .f32) (r : Fin 1024) (l : Fin 1792) :
    k0_pay3 a w v (ix2 r l) = (v (ix2 r l) + ∑ k : Fin 1024, a (ix2 k r) * w (ix2 k l) : EReal) := by
  unfold_payloads
  pointwise

/-- What is stored, cast and written. -/
theorem pay4_apply (v : Vec Ideal S1024x1792 .f32) (r : Fin 1024) (l : Fin 1792) :
    k0_pay4 v (ix3 0 r l) = (v (ix2 r l) : EReal) := by
  unfold_payloads
  pointwise

variable (m : (ℓ : Loc nD τ sig) → Buf (Elt Ideal) ℓ)

/-- The block each window reads or writes at a point of the grid. -/
theorem idx_facts : ∀ t : Fin cfg0.N, win0_0.index t = ![t.val % 4, t.val / 4 % 2] ∧ win0_1.index t = ![t.val % 4, t.val / 8] ∧ win0_2.index t = ![t.val / 8, t.val / 4 % 2, 0] :=
  (by decide +kernel : ∀ t : Fin grid0.N, win0_0.index t = ![t.val % 4, t.val / 4 % 2] ∧ win0_1.index t = ![t.val % 4, t.val / 8] ∧ win0_2.index t = ![t.val / 8, t.val / 4 % 2, 0])

/-- The grid's size. -/
theorem lt_N (t : Fin cfg0.N) : t.val < 64 := lt_of_lt_of_eq t.isLt N_0

/-- The arguments: the rows and the incoming gradient. -/
abbrev A (c : Dev nD) : FVec Ideal S4096x2048 .bf16 := m ((c : Thread nD τ).loc main_arg0)
abbrev G (c : Dev nD) : FVec Ideal S4096x14336 .bf16 := m ((c : Thread nD τ).loc main_arg1)

/-- What the first point of a sum leaves in the scratch. -/
theorem outs_A (c : Dev nD) (t : Fin cfg0.N) (h : t.val % 4 = 0) : (outsAt0 m c t.val t.isLt).2 = k0_pay2 (iblk m c 0 t) (iblk m c 1 t) := by
  rw [outsAt0_A m c t h (by omega) (by omega)]
  dsimp only
  unfold sout0_A_0
  refine (View.read_writes_eq_canon _ _ _ (by apply scover0_A_0)).trans ?_
  unfold kernelRun0_A
  dsimp only
  sl_unfold_words
  rw [View.canon_unit_zero hz]
  simp only [View.readAt_eq_ld, (hs0_0 t).read_unread, (hs0_1 t).read_unread, View.ld_unit_zero (S := S1024x1024) hz, View.ld_unit_zero (S := S1024x1792) hz]

/-- What a later point leaves in the scratch. -/
theorem outs_B (c : Dev nD) (t : Fin cfg0.N) (h : ¬t.val % 4 = 0) : (outsAt0 m c t.val t.isLt).2 = k0_pay3 (iblk m c 0 t) (iblk m c 1 t) (outsAt0 m c (t.val - 1) (Nat.lt_of_le_of_lt (Nat.sub_le _ _) t.isLt)).2 := by
  by_cases h3 : t.val % 4 = 3
  · rw [outsAt0_C m c t h (by omega) h3]
    dsimp only
    unfold sout0_C_0
    refine (View.read_writes_eq_canon _ _ _ (by apply scover0_C_0)).trans ?_
    unfold kernelRun0_C
    dsimp only
    sl_unfold_words
    rw [View.canon_unit_zero hz]
    simp only [View.readAt_eq_ld, (hs0_0 t).read_unread, (hs0_1 t).read_unread, (Memref.isWhole_whole cc0_scratch0).read_unread, View.ld_unit_zero (S := S1024x1024) hz, View.ld_unit_zero (S := S1024x1792) hz]
  · rw [outsAt0_B m c t h (by omega) h3]
    dsimp only
    unfold sout0_B_0
    refine (View.read_writes_eq_canon _ _ _ (by apply scover0_B_0)).trans ?_
    unfold kernelRun0_B
    dsimp only
    sl_unfold_words
    rw [View.canon_unit_zero hz]
    simp only [View.readAt_eq_ld, (hs0_0 t).read_unread, (hs0_1 t).read_unread, (Memref.isWhole_whole cc0_scratch0).read_unread, View.ld_unit_zero (S := S1024x1024) hz, View.ld_unit_zero (S := S1024x1792) hz]

/-- What the last point of a sum writes: the scratch it leaves, cast. -/
theorem outs_C (c : Dev nD) (t : Fin cfg0.N) (h : t.val % 4 = 3) : (outsAt0 m c t.val t.isLt).1 = k0_pay4 (outsAt0 m c t.val t.isLt).2 := by
  rw [outs_B m c t (by omega)]
  rw [outsAt0_C m c t (by omega) (by omega) h]
  dsimp only
  unfold out0_C_2
  refine (View.read_writes_eq_canon _ _ _ (by apply cover0_C_2)).trans ?_
  unfold kernelRun0_C
  dsimp only
  sl_unfold_words
  rw [View.canon_unit_zero (show (![0, 0, 0] : Fin 3 → Nat) = fun _ => 0 from funext fun a => by fin_cases a <;> rfl)]
  simp only [View.readAt_eq_ld, (hs0_0 t).read_unread, (hs0_1 t).read_unread, (Memref.isWhole_whole cc0_scratch0).read_unread, View.ld_unit_zero (S := S1024x1024) hz, View.ld_unit_zero (S := S1024x1792) hz]
  exact congrArg k0_pay4 (View.readCov_unit_zero _ hz _ _)

/-- A tile of the rows and one of the incoming gradient. -/
theorem iblk0_apply (c : Dev nD) (t : Fin cfg0.N) (k r : Fin 1024) : (iblk m c 0 t : Vec Ideal S1024x1024 .bf16) (ix2 k r) = A m c (ix2 ⟨1024 * (t.val % 4) + k.val, by omega⟩ ⟨1024 * (t.val / 4 % 2) + r.val, by omega⟩) := by
  have hi := (idx_facts t).1
  unfold iblk
  rw [View.read_apply]
  show V m c main_arg0 _ = _
  rw [V_main_arg0]
  refine congrArg (A m c) (Shape.idx_ext₂ ?_ ?_)
  · show win0_0.index t 0 * 1024 + 1 * k.val = 1024 * (t.val % 4) + k.val
    rw [hi]; show t.val % 4 * 1024 + 1 * k.val = _; omega
  · show win0_0.index t 1 * 1024 + 1 * r.val = 1024 * (t.val / 4 % 2) + r.val
    rw [hi]; show t.val / 4 % 2 * 1024 + 1 * r.val = _; omega
theorem iblk1_apply (c : Dev nD) (t : Fin cfg0.N) (k : Fin 1024) (l : Fin 1792) : (iblk m c 1 t : Vec Ideal S1024x1792 .bf16) (ix2 k l) = G m c (ix2 ⟨1024 * (t.val % 4) + k.val, by omega⟩ ⟨1792 * (t.val / 8) + l.val, by have := lt_N t; omega⟩) := by
  have hi := (idx_facts t).2.1
  unfold iblk
  rw [View.read_apply]
  show V m c main_arg1 _ = _
  rw [V_main_arg1]
  refine congrArg (G m c) (Shape.idx_ext₂ ?_ ?_)
  · show win0_1.index t 0 * 1024 + 1 * k.val = 1024 * (t.val % 4) + k.val
    rw [hi]; show t.val % 4 * 1024 + 1 * k.val = _; omega
  · show win0_1.index t 1 * 1792 + 1 * l.val = 1792 * (t.val / 8) + l.val
    rw [hi]; show t.val / 8 * 1792 + 1 * l.val = _; omega

/-- One row's part of the product at a place. -/
def part (c : Dev nD) (p : Fin 2048) (q : Fin 14336) (k : Fin 4096) : EReal := A m c (ix2 k p) * G m c (ix2 k q)

/-- The product at the place of row `r` and column `l` of the tile of a position of the grid, one tile's part. -/
def tile (c : Dev nD) (r : Fin 1024) (l : Fin 1792) (n : ℕ) : EReal :=
  ∑ k : Fin 1024, ext (part m c ⟨1024 * (n / 4 % 2) + r.val, by omega⟩ ⟨1792 * (n / 8 % 8) + l.val, by omega⟩) (1024 * (n % 4) + k.val)

/-- The sum of a tile is its part of the product. -/
theorem tile_apply (c : Dev nD) (t : Fin cfg0.N) (r : Fin 1024) (l : Fin 1792) (a : Vec Ideal S1024x1024 .bf16) (w : Vec Ideal S1024x1792 .bf16) (ha : a = iblk m c 0 t) (hw : w = iblk m c 1 t) :
    (∑ k : Fin 1024, a (ix2 k r) * w (ix2 k l) : EReal) = tile m c r l t.val := by
  subst ha hw
  have ht := lt_N t
  refine Finset.sum_congr rfl fun k _ => ?_
  rw [ext_of_lt _ (show 1024 * (t.val % 4) + k.val < 4096 by omega)]
  refine congrArg₂ (fun a b : EReal => a * b) (iblk0_apply m c t k r) ((iblk1_apply m c t k l).trans (congrArg (G m c) (Shape.idx_ext₂ rfl ?_)))
  show 1792 * (t.val / 8) + l.val = 1792 * (t.val / 8 % 8) + l.val
  omega

/-- What the scratch holds after a point: the sum since the last start. -/
theorem sums (c : Dev nD) (r : Fin 1024) (l : Fin 1792) : ∀ n h, (outsAt0 m c n h).2 (ix2 r l) = ∑ s ∈ Finset.range (n % 4 + 1), tile m c r l (4 * (n / 4) + s) := by
  refine run_sum4 (fun n h => (outsAt0 m c n h).2 (ix2 r l)) (tile m c r l) (fun n h h0 => ?_) (fun n h h0 => ?_)
  · show (outsAt0 m c n h).2 (ix2 r l) = _
    rw [outs_A m c ⟨n, h⟩ h0, pay2_apply, tile_apply m c ⟨n, h⟩ r l _ _ rfl rfl]
  · show (outsAt0 m c (n + 1) h).2 (ix2 r l) = _
    rw [outs_B m c ⟨n + 1, h⟩ h0, pay3_apply, tile_apply m c ⟨n + 1, h⟩ r l _ _ rfl rfl]
    rfl

/-- The product, in blocks of columns. -/
def dw (c : Dev nD) : Vec Ideal S8x2048x1792 .bf16 := fun i => (∑ k : Fin 4096, part m c (i 1) ⟨1792 * (i 0).val + (i 2).val, by have h0 : (i 0 : ℕ) < 8 := (i 0).isLt; have h2 : (i 2 : ℕ) < 1792 := (i 2).isLt; omega⟩ k : EReal)

/-- The array the kernel leaves. -/
theorem final2 (c : Dev nD) : (dats m 0 c).arrAt 2 cfg0.N = dw m c := by
  refine (dats m 0 c).arrAt_eq_of_cover 2 (dw m c) (fun t hf => ?_) fun i => ?_
  · have hi := (idx_facts t).2.2
    have ht := lt_N t
    rw [Value.flushed2]
    funext y
    rw [View.read_apply]
    obtain ⟨r, l, rfl⟩ : ∃ (r : Fin 1024) (l : Fin 1792), y = ix3 (0 : Fin 1) r l := ⟨y 1, y 2, by funext a; match a with | ⟨0, _⟩ => exact Fin.fin_one_eq_zero _ | ⟨1, _⟩ => rfl | ⟨2, _⟩ => rfl⟩
    show _ = dw m c (((cfg0.win 2).blk t).view.emb (ix3 (0 : Fin 1) r l))
    have e : (((cfg0.win 2).blk t).view.emb (ix3 (0 : Fin 1) r l) : S8x2048x1792.Idx) = ix3 ⟨t.val / 8, by omega⟩ ⟨1024 * (t.val / 4 % 2) + r.val, by omega⟩ l := by
      refine ext3 ?_ ?_ ?_
      · show win0_2.index t 0 * 1 + 1 * 0 = t.val / 8
        rw [hi]; show t.val / 8 * 1 + 1 * 0 = _; omega
      · show win0_2.index t 1 * 1024 + 1 * r.val = 1024 * (t.val / 4 % 2) + r.val
        rw [hi]; show t.val / 4 % 2 * 1024 + 1 * r.val = _; omega
      · show win0_2.index t 2 * 1792 + 1 * l.val = l.val
        rw [hi]; show 0 * 1792 + 1 * l.val = _; omega
    refine Eq.trans ?_ (congrArg (dw m c) e).symm
    show (outsAt0 m c t.val t.isLt).1 (ix3 0 r l) = _
    have h3 := (flush0_2 t).mp hf
    rw [outs_C m c t h3, pay4_apply, sums m c r l t.val t.isLt, h3]
    refine Eq.trans (Finset.sum_congr rfl fun s hs => ?_) (sum_tiles (part m c ⟨1024 * (t.val / 4 % 2) + r.val, by omega⟩ ⟨1792 * (t.val / 8) + l.val, by omega⟩) 4 1024 (by norm_num))
    have hs4 : s < 4 := Finset.mem_range.mp hs
    unfold tile
    have e1 : (4 * (t.val / 4) + s) / 4 % 2 = t.val / 4 % 2 := by omega
    have e2 : (4 * (t.val / 4) + s) / 8 % 8 = t.val / 8 := by omega
    have e3 : (4 * (t.val / 4) + s) % 4 = s := by omega
    simp only [e1, e2, e3]
  · have hi0 : (i 0 : ℕ) < 8 := (i 0).isLt
    have hi1 : (i 1 : ℕ) < 2048 := (i 1).isLt
    have hi2 : (i 2 : ℕ) < 1792 := (i 2).isLt
    have hN : cfg0.N = 64 := N_0
    obtain ⟨t, ht⟩ : ∃ t : Fin cfg0.N, t.val = 8 * (i 0 : ℕ) + 4 * ((i 1 : ℕ) / 1024) + 3 := ⟨⟨8 * (i 0 : ℕ) + 4 * ((i 1 : ℕ) / 1024) + 3, by omega⟩, rfl⟩
    refine ⟨t, (flush0_2 t).mpr (by omega), ?_⟩
    show i ∈ ((View.whole main_v0).slice (win0_2.rect t)).set
    rw [View.set_slice_whole, Rect.mem_set_unit]
    intro a
    show win0_2.index t a * S1x1024x1792.size a ≤ (i a : ℕ) ∧ (i a : ℕ) < win0_2.index t a * S1x1024x1792.size a + S1x1024x1792.size a
    rw [(idx_facts t).2.2]
    match a with
    | ⟨0, _⟩ => show t.val / 8 * 1 ≤ (i 0 : ℕ) ∧ (i 0 : ℕ) < t.val / 8 * 1 + 1; omega
    | ⟨1, _⟩ => show t.val / 4 % 2 * 1024 ≤ (i 1 : ℕ) ∧ (i 1 : ℕ) < t.val / 4 % 2 * 1024 + 1024; omega
    | ⟨2, _⟩ => show 0 * 1792 ≤ (i 2 : ℕ) ∧ (i 2 : ℕ) < 0 * 1792 + 1792; omega

end Cert.InProjGradIdeal.Hand

namespace Cert.Proof

open Cert.InProjGradIdeal.Hand

/-- The reference's product, before it is put in blocks of columns. -/
theorem ref_in_proj_grad_rows (x0 : Vec Ideal Cert.InProjGradRefIdeal.S4096x2048 .bf16) (x1 : Vec Ideal Cert.InProjGradRefIdeal.S4096x14336 .bf16) (p : Fin 2048) (q : Fin 14336) :
    Cert.InProjGradRefIdeal.Read.val_main_v4 (F := Ideal) x0 x1 (ix2 p q) = (∑ k : Fin 4096, x0 (ix2 k p) * x1 (ix2 k q) : EReal) := by
  unfold Cert.InProjGradRefIdeal.Read.val_main_v4 Cert.InProjGradRefIdeal.Read.val_main_v3 Cert.InProjGradRefIdeal.Read.val_main_v2 Cert.InProjGradRefIdeal.Read.val_main_v1 Cert.InProjGradRefIdeal.Read.val_main_v0
  pointwise

/-- The reference's product is the kernel's. -/
theorem ref_in_proj_grad (m : (ℓ : Loc Cert.InProjGradIdeal.nD Cert.InProjGradIdeal.τ Cert.InProjGradIdeal.sig) → Buf (Elt Ideal) ℓ) (c : Dev Cert.InProjGradIdeal.nD) :
    Cert.InProjGradRefIdeal.Read.val_main_v6 (F := Ideal) (A m c) (G m c) = dw m c := by
  funext i
  obtain ⟨j, k, l, rfl⟩ : ∃ (j : Fin 8) (k : Fin 2048) (l : Fin 1792), i = ix3 j k l := ⟨i 0, i 1, i 2, eq_ix3 i⟩
  unfold Cert.InProjGradRefIdeal.Read.val_main_v6 Cert.InProjGradRefIdeal.Read.val_main_v5
  refine (transpose_apply _ _ _ _ (ix3 k j l : Cert.InProjGradRefIdeal.S2048x8x1792.Idx) fun b => by match b with | ⟨0, _⟩ => rfl | ⟨1, _⟩ => rfl | ⟨2, _⟩ => rfl).trans ?_
  refine (shapeCast_apply _ _ _ (ix2 k ⟨1792 * j.val + l.val, by omega⟩ : Cert.InProjGradRefIdeal.S2048x14336.Idx) ?_).trans ?_
  · simp [Shape.rowMajor_val_two, Shape.rowMajor_val_three]
    omega
  · exact ref_in_proj_grad_rows _ _ k _

/-- The gradient of the projection's matrix: the kernel's array is the reference's. -/
theorem in_proj_grad : Cert.algebraic_InProjGradIdeal_InProjGradRefIdeal := by
  intro m g m' g' _ hagree
  refine ⟨dw m, ?_, ?_⟩
  · refine (θ_run _ _ _).mono (fun r h c => ?_) (Cert.InProjGradIdeal.Value.run_blocks (F := Ideal) m g)
    exact ⟨(h c).1.trans (final2 m c), (h c).2⟩
  · refine (θ_run _ _ _).mono (fun r h c => ?_) (Cert.InProjGradRefIdeal.Value.run (F := Ideal) m' g')
    refine ⟨(h c).1.trans ((Cert.InProjGradRefIdeal.Read.val_main_v6_eq (F := Ideal) _ _).trans ?_), (h c).2⟩
    rw [(hagree c).1, (hagree c).2]
    exact ref_in_proj_grad m c

end Cert.Proof

end
-- ==== Proof.RowsGradValue.lean ====
module

public import proofs.«01_k».proof.Defs
public import proofs.«01_k».proof.Proof.Gen.RowsGradIdeal.Value
public import proofs.«01_k».proof.Proof.Gen.RowsGradRefIdeal.Run
public import proofs.«01_k».proof.Proof.Gen.RowsGradRefIdeal.Read
public import proofs.«01_k».proof.Proof.Common
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.RowsGradIdeal.Hand

open Cert.RowsGradIdeal Cert.RowsGradIdeal.Gen Cert.Common

/-- Two indices of rank three with the same coordinates are equal. -/
theorem ext3 {a b c : ℕ} {i j : (⟨3, ![a, b, c]⟩ : Shape).Idx} (h0 : (i 0).val = (j 0).val) (h1 : (i 1).val = (j 1).val) (h2 : (i 2).val = (j 2).val) : i = j := by
  funext e; exact Fin.ext (match e with | ⟨0, _⟩ => h0 | ⟨1, _⟩ => h1 | ⟨2, _⟩ => h2)

/-- A value that starts anew at every sixteenth step and adds a summand at every other one is the sum since the last start. -/
theorem run_sum16 {N : ℕ} (f : (n : ℕ) → n < N → EReal) (g : ℕ → EReal) (hA : ∀ n h, n % 16 = 0 → f n h = g n)
    (hB : ∀ n (h : n + 1 < N), ¬(n + 1) % 16 = 0 → f (n + 1) h = f n (Nat.lt_of_succ_lt h) + g (n + 1)) :
    ∀ n h, f n h = ∑ s ∈ Finset.range (n % 16 + 1), g (16 * (n / 16) + s)
  | 0, h => by rw [hA 0 h rfl, Finset.sum_range_one]
  | n + 1, h => by
    by_cases h0 : (n + 1) % 16 = 0
    · rw [hA _ h h0, h0, Finset.sum_range_one]
      exact congrArg g (by omega)
    · rw [hB n h h0, run_sum16 f g hA hB n _, show (n + 1) % 16 = n % 16 + 1 by omega, show (n + 1) / 16 = n / 16 by omega, Finset.sum_range_succ _ (n % 16 + 1)]
      have e : n + 1 = 16 * (n / 16) + (n % 16 + 1) := by omega
      exact congrArg (HAdd.hAdd _) (congrArg g e)

/-- The product of a tile's rows with the rows of a block of the first matrix. -/
theorem pay1_apply (a : Vec Ideal S512x1792 .bf16) (w : Vec Ideal S1x2048x1792 .bf16) (r : Fin 512) (l : Fin 2048) :
    k0_pay1 a w (ix2 r l) = (∑ k : Fin 1792, a (ix2 r k) * w (ix3 0 l k) : EReal) := by
  unfold_payloads
  pointwise

/-- The same, added to what the block held. -/
theorem pay2_apply (v : Vec Ideal S512x2048 .f32) (a : Vec Ideal S512x1792 .bf16) (w : Vec Ideal S1x2048x1792 .bf16) (r : Fin 512) (l : Fin 2048) :
    k0_pay2 v a w (ix2 r l) = (v (ix2 r l) + ∑ k : Fin 1792, a (ix2 r k) * w (ix3 0 l k) : EReal) := by
  unfold_payloads
  pointwise

/-- The product with a block of the second matrix, added to what the block held. -/
theorem pay3_apply (v : Vec Ideal S512x2048 .f32) (a : Vec Ideal S512x768 .bf16) (w : Vec Ideal S1x2048x768 .bf16) (r : Fin 512) (l : Fin 2048) :
    k0_pay3 v a w (ix2 r l) = (v (ix2 r l) + ∑ k : Fin 768, a (ix2 r k) * w (ix3 0 l k) : EReal) := by
  unfold_payloads
  pointwise

variable (m : (ℓ : Loc nD τ sig) → Buf (Elt Ideal) ℓ)

/-- The block each window reads or writes at a point of the grid. -/
theorem idx_facts : ∀ t : Fin cfg0.N, win0_0.index t = ![t.val / 16, min (t.val % 16) 7] ∧ win0_1.index t = ![min (t.val % 16) 7, 0, 0] ∧ win0_2.index t = ![t.val / 16, t.val % 16 - 8] ∧ win0_3.index t = ![t.val % 16 - 8, 0, 0] ∧ win0_4.index t = ![t.val / 16, 0] :=
  (by decide +kernel : ∀ t : Fin grid0.N, win0_0.index t = ![t.val / 16, min (t.val % 16) 7] ∧ win0_1.index t = ![min (t.val % 16) 7, 0, 0] ∧ win0_2.index t = ![t.val / 16, t.val % 16 - 8] ∧ win0_3.index t = ![t.val % 16 - 8, 0, 0] ∧ win0_4.index t = ![t.val / 16, 0])

/-- The grid's size. -/
theorem lt_N (t : Fin cfg0.N) : t.val < 128 := lt_of_lt_of_eq t.isLt N_0

/-- The array's row that row `r` of the tile of a position of the grid is. -/
abbrev row (n : ℕ) (r : Fin 512) : Fin 4096 := ⟨512 * (n / 16 % 8) + r.val, by omega⟩

/-- The arguments: the two incoming gradients and the two matrices. -/
abbrev A (c : Dev nD) : FVec Ideal S4096x14336 .bf16 := m ((c : Thread nD τ).loc main_arg0)
abbrev W (c : Dev nD) : FVec Ideal S2048x14336 .f32 := m ((c : Thread nD τ).loc main_arg1)
abbrev B (c : Dev nD) : FVec Ideal S4096x6144 .bf16 := m ((c : Thread nD τ).loc main_arg2)
abbrev X (c : Dev nD) : FVec Ideal S2048x6144 .f32 := m ((c : Thread nD τ).loc main_arg3)

/-- The matrices in blocks of columns, as the kernel reads them. -/
theorem V_v2 (c : Dev nD) : V m c main_v2 = transpose S8x2048x1792 [1, 0, 2] (shapeCast S2048x8x1792 (truncf .bf16 (W m c) bitsLt_bf16_f32 : FVec Ideal S2048x14336 .bf16) shapeCasts_S2048x14336_S2048x8x1792) transposes_S2048x8x1792_S8x2048x1792_1_0_2 := by
  unfold V hostOps0
  after_results <;> rfl
theorem V_v5 (c : Dev nD) : V m c main_v5 = transpose S8x2048x768 [1, 0, 2] (shapeCast S2048x8x768 (truncf .bf16 (X m c) bitsLt_bf16_f32 : FVec Ideal S2048x6144 .bf16) shapeCasts_S2048x6144_S2048x8x768) transposes_S2048x8x768_S8x2048x768_1_0_2 := by
  unfold V hostOps0
  after_results <;> rfl

/-- A block of each matrix, at one of its places. -/
theorem v2_apply (c : Dev nD) (j : Fin 8) (k : Fin 2048) (l : Fin 1792) :
    (V m c main_v2 : Vec Ideal S8x2048x1792 .bf16) (ix3 j k l) = W m c (ix2 k ⟨1792 * j.val + l.val, by omega⟩) := by
  rw [V_v2]
  refine (transpose_apply _ _ _ _ (ix3 k j l : S2048x8x1792.Idx) fun b => by match b with | ⟨0, _⟩ => rfl | ⟨1, _⟩ => rfl | ⟨2, _⟩ => rfl).trans ?_
  refine (shapeCast_apply _ _ _ (ix2 k ⟨1792 * j.val + l.val, by omega⟩ : S2048x14336.Idx) ?_).trans ?_
  · simp [Shape.rowMajor_val_two, Shape.rowMajor_val_three]
    omega
  · rfl
theorem v5_apply (c : Dev nD) (j : Fin 8) (k : Fin 2048) (l : Fin 768) :
    (V m c main_v5 : Vec Ideal S8x2048x768 .bf16) (ix3 j k l) = X m c (ix2 k ⟨768 * j.val + l.val, by omega⟩) := by
  rw [V_v5]
  refine (transpose_apply _ _ _ _ (ix3 k j l : S2048x8x768.Idx) fun b => by match b with | ⟨0, _⟩ => rfl | ⟨1, _⟩ => rfl | ⟨2, _⟩ => rfl).trans ?_
  refine (shapeCast_apply _ _ _ (ix2 k ⟨768 * j.val + l.val, by omega⟩ : S2048x6144.Idx) ?_).trans ?_
  · simp [Shape.rowMajor_val_two, Shape.rowMajor_val_three]
    omega
  · rfl

/-- What the first point of a sum leaves. -/
theorem outs_A (c : Dev nD) (t : Fin cfg0.N) (h : t.val % 16 = 0) : outsAt0 m c t.val t.isLt = k0_pay1 (iblk m c 0 t) (iblk m c 1 t) := by
  rw [outsAt0_A m c t h (by omega) (by omega)]
  unfold out0_A_4
  refine (View.read_writes_eq_canon _ _ _ (by apply cover0_A_4)).trans ?_
  unfold kernelRun0_A
  dsimp only
  sl_unfold_words
  rw [View.canon_unit_zero hz]
  simp only [View.readAt_eq_ld, (hs0_0 t).read_unread, (hs0_1 t).read_unread, View.ld_unit_zero (S := S512x2048) hz, View.ld_unit_zero (S := S512x1792) hz, View.ld_unit_zero (S := S512x768) hz, View.ld_unit_zero (S := S1x2048x1792) (show (![0, 0, 0] : Fin 3 → Nat) = fun _ => 0 from funext fun a => by fin_cases a <;> rfl), View.ld_unit_zero (S := S1x2048x768) (show (![0, 0, 0] : Fin 3 → Nat) = fun _ => 0 from funext fun a => by fin_cases a <;> rfl)]

/-- What a point of the first product leaves, after the first. -/
theorem outs_B (c : Dev nD) (t : Fin cfg0.N) (h : ¬t.val % 16 = 0) (h7 : t.val % 16 ≤ 7) : outsAt0 m c t.val t.isLt = k0_pay2 (outsAt0 m c (t.val - 1) (Nat.lt_of_le_of_lt (Nat.sub_le _ _) t.isLt)) (iblk m c 0 t) (iblk m c 1 t) := by
  rw [outsAt0_B m c t h (by omega) (by omega)]
  unfold out0_B_4
  refine (View.read_writes_eq_canon _ _ _ (by apply cover0_B_4)).trans ?_
  unfold kernelRun0_B
  dsimp only
  sl_unfold_words
  rw [View.canon_unit_zero hz]
  simp only [View.readAt_eq_ld, (hs0_0 t).read_unread, (hs0_1 t).read_unread, (hs0_4 t).read_unread, View.ld_unit_zero (S := S512x2048) hz, View.ld_unit_zero (S := S512x1792) hz, View.ld_unit_zero (S := S512x768) hz, View.ld_unit_zero (S := S1x2048x1792) (show (![0, 0, 0] : Fin 3 → Nat) = fun _ => 0 from funext fun a => by fin_cases a <;> rfl), View.ld_unit_zero (S := S1x2048x768) (show (![0, 0, 0] : Fin 3 → Nat) = fun _ => 0 from funext fun a => by fin_cases a <;> rfl)]

/-- What a point of the second product leaves. -/
theorem outs_C (c : Dev nD) (t : Fin cfg0.N) (h : 8 ≤ t.val % 16) : outsAt0 m c t.val t.isLt = k0_pay3 (outsAt0 m c (t.val - 1) (Nat.lt_of_le_of_lt (Nat.sub_le _ _) t.isLt)) (iblk m c 2 t) (iblk m c 3 t) := by
  rw [outsAt0_C m c t (by omega) (by omega) h]
  unfold out0_C_4
  refine (View.read_writes_eq_canon _ _ _ (by apply cover0_C_4)).trans ?_
  unfold kernelRun0_C
  dsimp only
  sl_unfold_words
  rw [View.canon_unit_zero hz]
  simp only [View.readAt_eq_ld, (hs0_2 t).read_unread, (hs0_3 t).read_unread, (hs0_4 t).read_unread, View.ld_unit_zero (S := S512x2048) hz, View.ld_unit_zero (S := S512x1792) hz, View.ld_unit_zero (S := S512x768) hz, View.ld_unit_zero (S := S1x2048x1792) (show (![0, 0, 0] : Fin 3 → Nat) = fun _ => 0 from funext fun a => by fin_cases a <;> rfl), View.ld_unit_zero (S := S1x2048x768) (show (![0, 0, 0] : Fin 3 → Nat) = fun _ => 0 from funext fun a => by fin_cases a <;> rfl)]

/-- A tile of the first gradient and a block of the first matrix, at a point of the first product. -/
theorem iblk0_apply (c : Dev nD) (t : Fin cfg0.N) (h : t.val % 16 ≤ 7) (r : Fin 512) (k : Fin 1792) : (iblk m c 0 t : Vec Ideal S512x1792 .bf16) (ix2 r k) = A m c (ix2 (row t.val r) ⟨1792 * (t.val % 16) + k.val, by omega⟩) := by
  have hi := (idx_facts t).1
  have ht := lt_N t
  unfold iblk
  rw [View.read_apply]
  show V m c main_arg0 _ = _
  rw [V_main_arg0]
  refine congrArg (A m c) (Shape.idx_ext₂ ?_ ?_)
  · show win0_0.index t 0 * 512 + 1 * r.val = 512 * (t.val / 16 % 8) + r.val
    rw [hi]; show t.val / 16 * 512 + 1 * r.val = _; omega
  · show win0_0.index t 1 * 1792 + 1 * k.val = 1792 * (t.val % 16) + k.val
    rw [hi]; show min (t.val % 16) 7 * 1792 + 1 * k.val = _; omega
theorem iblk1_apply (c : Dev nD) (t : Fin cfg0.N) (h : t.val % 16 ≤ 7) (l : Fin 2048) (k : Fin 1792) : (iblk m c 1 t : Vec Ideal S1x2048x1792 .bf16) (ix3 0 l k) = W m c (ix2 l ⟨1792 * (t.val % 16) + k.val, by omega⟩) := by
  have hi := (idx_facts t).2.1
  have ht := lt_N t
  unfold iblk
  rw [View.read_apply]
  show V m c main_v2 _ = _
  refine Eq.trans (congrArg (V m c main_v2) (?_ : _ = (ix3 (⟨t.val % 16, by omega⟩ : Fin 8) l k : S8x2048x1792.Idx))) (v2_apply m c _ l k)
  refine ext3 ?_ ?_ ?_
  · show win0_1.index t 0 * 1 + 1 * 0 = t.val % 16
    rw [hi]; show min (t.val % 16) 7 * 1 + 1 * 0 = _; omega
  · show win0_1.index t 1 * 2048 + 1 * l.val = l.val
    rw [hi]; show 0 * 2048 + 1 * l.val = _; omega
  · show win0_1.index t 2 * 1792 + 1 * k.val = k.val
    rw [hi]; show 0 * 1792 + 1 * k.val = _; omega

/-- A tile of the second gradient and a block of the second matrix, at a point of the second product. -/
theorem iblk2_apply (c : Dev nD) (t : Fin cfg0.N) (h : 8 ≤ t.val % 16) (r : Fin 512) (k : Fin 768) : (iblk m c 2 t : Vec Ideal S512x768 .bf16) (ix2 r k) = B m c (ix2 (row t.val r) ⟨768 * (t.val % 16 - 8) + k.val, by omega⟩) := by
  have hi := (idx_facts t).2.2.1
  have ht := lt_N t
  unfold iblk
  rw [View.read_apply]
  show V m c main_arg2 _ = _
  rw [V_main_arg2]
  refine congrArg (B m c) (Shape.idx_ext₂ ?_ ?_)
  · show win0_2.index t 0 * 512 + 1 * r.val = 512 * (t.val / 16 % 8) + r.val
    rw [hi]; show t.val / 16 * 512 + 1 * r.val = _; omega
  · show win0_2.index t 1 * 768 + 1 * k.val = 768 * (t.val % 16 - 8) + k.val
    rw [hi]; show (t.val % 16 - 8) * 768 + 1 * k.val = _; omega
theorem iblk3_apply (c : Dev nD) (t : Fin cfg0.N) (h : 8 ≤ t.val % 16) (l : Fin 2048) (k : Fin 768) : (iblk m c 3 t : Vec Ideal S1x2048x768 .bf16) (ix3 0 l k) = X m c (ix2 l ⟨768 * (t.val % 16 - 8) + k.val, by omega⟩) := by
  have hi := (idx_facts t).2.2.2.1
  have ht := lt_N t
  unfold iblk
  rw [View.read_apply]
  show V m c main_v5 _ = _
  refine Eq.trans (congrArg (V m c main_v5) (?_ : _ = (ix3 (⟨t.val % 16 - 8, by omega⟩ : Fin 8) l k : S8x2048x768.Idx))) (v5_apply m c _ l k)
  refine ext3 ?_ ?_ ?_
  · show win0_3.index t 0 * 1 + 1 * 0 = t.val % 16 - 8
    rw [hi]; show (t.val % 16 - 8) * 1 + 1 * 0 = _; omega
  · show win0_3.index t 1 * 2048 + 1 * l.val = l.val
    rw [hi]; show 0 * 2048 + 1 * l.val = _; omega
  · show win0_3.index t 2 * 768 + 1 * k.val = k.val
    rw [hi]; show 0 * 768 + 1 * k.val = _; omega

/-- One column's part of each product at a place. -/
def partA (c : Dev nD) (p : Fin 4096) (l : Fin 2048) (k : Fin 14336) : EReal := A m c (ix2 p k) * W m c (ix2 l k)
def partB (c : Dev nD) (p : Fin 4096) (l : Fin 2048) (k : Fin 6144) : EReal := B m c (ix2 p k) * X m c (ix2 l k)

/-- What the tiles of a position of the grid give at row `r` and column `l` of its block: of the first product, then of the second. -/
def tile (c : Dev nD) (r : Fin 512) (l : Fin 2048) (n : ℕ) : EReal :=
  if n % 16 ≤ 7 then ∑ k : Fin 1792, ext (partA m c (row n r) l) (1792 * (n % 16) + k.val)
  else ∑ k : Fin 768, ext (partB m c (row n r) l) (768 * (n % 16 - 8) + k.val)

/-- The sum over the tiles of the first product. -/
theorem tileA (c : Dev nD) (t : Fin cfg0.N) (h : t.val % 16 ≤ 7) (r : Fin 512) (l : Fin 2048) (a : Vec Ideal S512x1792 .bf16) (w : Vec Ideal S1x2048x1792 .bf16) (ha : a = iblk m c 0 t) (hw : w = iblk m c 1 t) :
    (∑ k : Fin 1792, a (ix2 r k) * w (ix3 0 l k) : EReal) = tile m c r l t.val := by
  subst ha hw
  unfold tile
  rw [if_pos h]
  refine Finset.sum_congr rfl fun k _ => ?_
  rw [ext_of_lt _ (show 1792 * (t.val % 16) + k.val < 14336 by omega)]
  exact congrArg₂ (fun a b : EReal => a * b) (iblk0_apply m c t h r k) (iblk1_apply m c t h l k)

/-- The sum over the tiles of the second product. -/
theorem tileB (c : Dev nD) (t : Fin cfg0.N) (h : 8 ≤ t.val % 16) (r : Fin 512) (l : Fin 2048) (a : Vec Ideal S512x768 .bf16) (w : Vec Ideal S1x2048x768 .bf16) (ha : a = iblk m c 2 t) (hw : w = iblk m c 3 t) :
    (∑ k : Fin 768, a (ix2 r k) * w (ix3 0 l k) : EReal) = tile m c r l t.val := by
  subst ha hw
  unfold tile
  rw [if_neg (by omega)]
  refine Finset.sum_congr rfl fun k _ => ?_
  rw [ext_of_lt _ (show 768 * (t.val % 16 - 8) + k.val < 6144 by omega)]
  exact congrArg₂ (fun a b : EReal => a * b) (iblk2_apply m c t h r k) (iblk3_apply m c t h l k)

/-- What the block holds after a point: the sum since the last start. -/
theorem sums (c : Dev nD) (r : Fin 512) (l : Fin 2048) : ∀ n h, outsAt0 m c n h (ix2 r l) = ∑ s ∈ Finset.range (n % 16 + 1), tile m c r l (16 * (n / 16) + s) := by
  refine run_sum16 (fun n h => outsAt0 m c n h (ix2 r l)) (tile m c r l) (fun n h h0 => ?_) (fun n h h0 => ?_)
  · show outsAt0 m c n h (ix2 r l) = _
    rw [outs_A m c ⟨n, h⟩ h0, pay1_apply, tileA m c ⟨n, h⟩ (by show n % 16 ≤ 7; omega) r l _ _ rfl rfl]
  · show outsAt0 m c (n + 1) h (ix2 r l) = _
    by_cases h7 : (n + 1) % 16 ≤ 7
    · rw [outs_B m c ⟨n + 1, h⟩ h0 h7, pay2_apply, tileA m c ⟨n + 1, h⟩ h7 r l _ _ rfl rfl]
      rfl
    · have h8 : 8 ≤ (n + 1) % 16 := by omega
      rw [outs_C m c ⟨n + 1, h⟩ h8, pay3_apply, tileB m c ⟨n + 1, h⟩ h8 r l _ _ rfl rfl]
      rfl

/-- The sum of the two products. -/
def dh (c : Dev nD) : Vec Ideal S4096x2048 .f32 := fun i => ((∑ k : Fin 14336, partA m c (i 0) (i 1) k) + ∑ k : Fin 6144, partB m c (i 0) (i 1) k : EReal)

/-- The sixteen tiles of a block are the two products. -/
theorem all_tiles (c : Dev nD) (t : Fin cfg0.N) (r : Fin 512) (l : Fin 2048) :
    ∑ s ∈ Finset.range (8 + 8), tile m c r l (16 * (t.val / 16) + s) = ((∑ k : Fin 14336, partA m c (row t.val r) l k) + ∑ k : Fin 6144, partB m c (row t.val r) l k : EReal) := by
  have ht := lt_N t
  rw [Finset.sum_range_add, ← sum_tiles (partA m c (row t.val r) l) 8 1792 (by norm_num), ← sum_tiles (partB m c (row t.val r) l) 8 768 (by norm_num)]
  refine congrArg₂ (fun a b : EReal => a + b) (Finset.sum_congr rfl fun s hs => ?_) (Finset.sum_congr rfl fun s hs => ?_)
  · have hs8 : s < 8 := Finset.mem_range.mp hs
    unfold tile
    have e1 : (16 * (t.val / 16) + s) / 16 % 8 = t.val / 16 % 8 := by omega
    have e2 : (16 * (t.val / 16) + s) % 16 = s := by omega
    rw [if_pos (by omega)]
    simp only [row, e1, e2]
  · have hs8 : s < 8 := Finset.mem_range.mp hs
    unfold tile
    have e1 : (16 * (t.val / 16) + (8 + s)) / 16 % 8 = t.val / 16 % 8 := by omega
    have e2 : (16 * (t.val / 16) + (8 + s)) % 16 - 8 = s := by omega
    rw [if_neg (by omega)]
    simp only [row, e1, e2]

/-- The array the kernel leaves. -/
theorem final4 (c : Dev nD) : (dats m 0 c).arrAt 4 cfg0.N = dh m c := by
  refine (dats m 0 c).arrAt_eq_of_cover 4 (dh m c) (fun t hf => ?_) fun i => ?_
  · have hi := (idx_facts t).2.2.2.2
    have ht := lt_N t
    rw [Value.flushed4]
    funext y
    rw [View.read_apply]
    obtain ⟨r, l, rfl⟩ : ∃ (r : Fin 512) (l : Fin 2048), y = ix2 r l := ⟨y 0, y 1, by funext a; match a with | ⟨0, _⟩ => rfl | ⟨1, _⟩ => rfl⟩
    show _ = dh m c (((cfg0.win 4).blk t).view.emb (ix2 r l))
    have e : (((cfg0.win 4).blk t).view.emb (ix2 r l) : S4096x2048.Idx) = ix2 (row t.val r) l := by
      refine Shape.idx_ext₂ ?_ ?_
      · show win0_4.index t 0 * 512 + 1 * r.val = 512 * (t.val / 16 % 8) + r.val
        rw [hi]; show t.val / 16 * 512 + 1 * r.val = _; omega
      · show win0_4.index t 1 * 2048 + 1 * l.val = l.val
        rw [hi]; show 0 * 2048 + 1 * l.val = _; omega
    refine Eq.trans ?_ (congrArg (dh m c) e).symm
    show outsAt0 m c t.val t.isLt (ix2 r l) = _
    rw [sums m c r l t.val t.isLt, (flush0_4 t).mp hf]
    exact all_tiles m c t r l
  · have hi0 : (i 0 : ℕ) < 4096 := (i 0).isLt
    have hi1 : (i 1 : ℕ) < 2048 := (i 1).isLt
    have hN : cfg0.N = 128 := N_0
    obtain ⟨t, ht⟩ : ∃ t : Fin cfg0.N, t.val = 16 * ((i 0 : ℕ) / 512) + 15 := ⟨⟨16 * ((i 0 : ℕ) / 512) + 15, by omega⟩, rfl⟩
    refine ⟨t, (flush0_4 t).mpr (by omega), ?_⟩
    show i ∈ ((View.whole main_v6).slice (win0_4.rect t)).set
    rw [View.set_slice_whole, Rect.mem_set_unit]
    intro a
    show win0_4.index t a * S512x2048.size a ≤ (i a : ℕ) ∧ (i a : ℕ) < win0_4.index t a * S512x2048.size a + S512x2048.size a
    rw [(idx_facts t).2.2.2.2]
    match a with
    | ⟨0, _⟩ => show t.val / 16 * 512 ≤ (i 0 : ℕ) ∧ (i 0 : ℕ) < t.val / 16 * 512 + 512; omega
    | ⟨1, _⟩ => show 0 * 2048 ≤ (i 1 : ℕ) ∧ (i 1 : ℕ) < 0 * 2048 + 2048; omega

end Cert.RowsGradIdeal.Hand

namespace Cert.Proof

open Cert.RowsGradIdeal.Hand

/-- The reference's sum of two products is the kernel's. -/
theorem ref_rows_grad (m : (ℓ : Loc Cert.RowsGradIdeal.nD Cert.RowsGradIdeal.τ Cert.RowsGradIdeal.sig) → Buf (Elt Ideal) ℓ) (c : Dev Cert.RowsGradIdeal.nD) :
    Cert.RowsGradRefIdeal.Read.val_main_v6 (F := Ideal) (A m c) (W m c) (B m c) (X m c) = dh m c := by
  funext i
  obtain ⟨k, l, rfl⟩ : ∃ (k : Fin 4096) (l : Fin 2048), i = ix2 k l := ⟨i 0, i 1, eq_ix2 i⟩
  unfold Cert.RowsGradRefIdeal.Read.val_main_v6 Cert.RowsGradRefIdeal.Read.val_main_v5 Cert.RowsGradRefIdeal.Read.val_main_v4 Cert.RowsGradRefIdeal.Read.val_main_v3 Cert.RowsGradRefIdeal.Read.val_main_v2 Cert.RowsGradRefIdeal.Read.val_main_v1 Cert.RowsGradRefIdeal.Read.val_main_v0
  pointwise
  rfl

/-- The gradient of the normed rows: the kernel's array is the reference's. -/
theorem rows_grad : Cert.algebraic_RowsGradIdeal_RowsGradRefIdeal := by
  intro m g m' g' _ hagree
  refine ⟨dh m, ?_, ?_⟩
  · refine (θ_run _ _ _).mono (fun r h c => ?_) (Cert.RowsGradIdeal.Value.run_blocks (F := Ideal) m g)
    exact ⟨(h c).1.trans (final4 m c), (h c).2⟩
  · refine (θ_run _ _ _).mono (fun r h c => ?_) (Cert.RowsGradRefIdeal.Value.run (F := Ideal) m' g')
    refine ⟨(h c).1.trans ((Cert.RowsGradRefIdeal.Read.val_main_v6_eq (F := Ideal) _ _ _ _).trans ?_), (h c).2⟩
    rw [(hagree c).1, (hagree c).2.1, (hagree c).2.2.1, (hagree c).2.2.2]
    exact ref_rows_grad m c

end Cert.Proof

end
-- ==== Proof.AdaBwdValue.lean ====
module

public import proofs.«01_k».proof.Defs
public import proofs.«01_k».proof.Proof.Gen.AdaBwdIdeal.Value
public import proofs.«01_k».proof.Proof.Gen.AdaBwdRefIdeal.Run
public import proofs.«01_k».proof.Proof.Gen.AdaBwdRefIdeal.Read
public import proofs.«01_k».proof.Proof.Common
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AdaBwdIdeal.Hand

open Cert.AdaBwdIdeal Cert.AdaBwdIdeal.Gen Cert.Common

/-- Two indices of rank three with the same coordinates are equal. -/
theorem ext3 {a b c : ℕ} {i j : (⟨3, ![a, b, c]⟩ : Shape).Idx} (h0 : (i 0).val = (j 0).val) (h1 : (i 1).val = (j 1).val) (h2 : (i 2).val = (j 2).val) : i = j := by
  funext e; exact Fin.ext (match e with | ⟨0, _⟩ => h0 | ⟨1, _⟩ => h1 | ⟨2, _⟩ => h2)

/-- The sum over the devices' rows of the products of a conditioning entry and a gradient entry, in the first and in the second layer. -/
theorem pay1_apply (s : Vec Ideal S8x2048 .f32) (d : Vec Ideal S1x8x768 .f32) (k : Fin 2048) (l : Fin 768) :
    k0_pay1 s d (ix3 0 k l) = (∑ j : Fin 8, s (ix2 j k) * d (ix3 0 j l) : EReal) := by
  unfold_payloads
  pointwise
theorem pay2_apply (s : Vec Ideal S8x2048 .f32) (d : Vec Ideal S1x8x768 .f32) (k : Fin 2048) (l : Fin 768) :
    k0_pay2 s d (ix3 0 k l) = (∑ j : Fin 8, s (ix2 j k) * d (ix3 0 j l) : EReal) := by
  unfold_payloads
  pointwise

variable (m : (ℓ : Loc nD τ sig) → Buf (Elt Ideal) ℓ)

/-- The arguments: the conditioning's rows and the gradient of each layer's modulation. -/
abbrev SC (c : Dev nD) : FVec Ideal S8x2048 .f32 := m ((c : Thread nD τ).loc main_arg0)
abbrev DM (c : Dev nD) : FVec Ideal S2x8x768 .f32 := m ((c : Thread nD τ).loc main_arg1)

/-- The gradient from its arguments, and of the launch's arguments. -/
def grad (s : Vec Ideal S8x2048 .f32) (d : Vec Ideal S2x8x768 .f32) : Vec Ideal S2x2048x768 .f32 :=
  fun i => (∑ j : Fin 8, s (ix2 j (i 1)) * d (ix3 (i 0) j (i 2)) : EReal)

/-- What the body leaves is the gradient of its blocks. -/
theorem out_eq (s : Vec Ideal S8x2048 .f32) (d : Vec Ideal S2x8x768 .f32) : out0_2 s d = grad s d := by
  funext y
  unfold out0_2
  rw [View.ld_unit_zero (S := S8x2048) hz]
  refine View.canon_apply_of_pieces (grad s d) _ ?_ y (cover0_2 _ _ y)
  intro p hp x
  rcases List.mem_cons.mp hp with rfl | hp
  · obtain ⟨a, k, l, rfl⟩ : ∃ (a : Fin 1) (k : Fin 2048) (l : Fin 768), x = ix3 a k l := ⟨x 0, x 1, x 2, eq_ix3 x⟩
    obtain rfl : a = 0 := Subsingleton.elim _ _
    have e : (r0_4.emb (ix3 (0 : Fin 1) k l) : S2x2048x768.Idx) = ix3 (1 : Fin 2) k l := ext3 rfl (show 0 + 1 * k.val = k.val by omega) (show 0 + 1 * l.val = l.val by omega)
    refine (pay2_apply _ _ k l).trans (Eq.trans ?_ (congrArg (grad s d) e).symm)
    refine Finset.sum_congr rfl fun j _ => congrArg (fun z : EReal => s (ix2 j k) * z) ?_
    exact congrArg d (ext3 rfl (show 0 + 1 * j.val = j.val by omega) (show 0 + 1 * l.val = l.val by omega))
  rcases List.mem_cons.mp hp with rfl | hp
  · obtain ⟨a, k, l, rfl⟩ : ∃ (a : Fin 1) (k : Fin 2048) (l : Fin 768), x = ix3 a k l := ⟨x 0, x 1, x 2, eq_ix3 x⟩
    obtain rfl : a = 0 := Subsingleton.elim _ _
    have e : (r0_2.emb (ix3 (0 : Fin 1) k l) : S2x2048x768.Idx) = ix3 (0 : Fin 2) k l := ext3 rfl (show 0 + 1 * k.val = k.val by omega) (show 0 + 1 * l.val = l.val by omega)
    refine (pay1_apply _ _ k l).trans (Eq.trans ?_ (congrArg (grad s d) e).symm)
    refine Finset.sum_congr rfl fun j _ => congrArg (fun z : EReal => s (ix2 j k) * z) ?_
    exact congrArg d (ext3 rfl (show 0 + 1 * j.val = j.val by omega) (show 0 + 1 * l.val = l.val by omega))
  nomatch hp

/-- The one block of each argument is the whole of it. -/
theorem iblk0_eq (c : Dev nD) (t : Fin cfg0.N) : (iblk m c 0 t : Vec Ideal S8x2048 .f32) = SC m c := by
  funext x
  unfold iblk
  rw [View.read_apply]
  show V m c main_arg0 _ = _
  rw [V_main_arg0]
  exact congrArg (SC m c) (Shape.idx_ext₂ (show 0 * 8 + 1 * (x 0).val = (x 0).val by omega) (show 0 * 2048 + 1 * (x 1).val = (x 1).val by omega))
theorem iblk1_eq (c : Dev nD) (t : Fin cfg0.N) : (iblk m c 1 t : Vec Ideal S2x8x768 .f32) = DM m c := by
  funext x
  unfold iblk
  rw [View.read_apply]
  show V m c main_arg1 _ = _
  rw [V_main_arg1]
  exact congrArg (DM m c) (ext3 (show 0 * 2 + 1 * (x 0).val = (x 0).val by omega) (show 0 * 8 + 1 * (x 1).val = (x 1).val by omega) (show 0 * 768 + 1 * (x 2).val = (x 2).val by omega))

/-- The array the kernel leaves. -/
theorem final2 (c : Dev nD) : (dats m 0 c).arrAt 2 cfg0.N = grad (SC m c) (DM m c) := by
  refine (dats m 0 c).arrAt_eq_of_cover 2 (grad (SC m c) (DM m c)) (fun t _ => ?_) fun i => ?_
  · rw [Value.flushed2]
    funext y
    rw [View.read_apply]
    show out0_2 (iblk m c 0 t) (iblk m c 1 t) y = grad (SC m c) (DM m c) (((cfg0.win 2).blk t).view.emb y)
    have e : (((cfg0.win 2).blk t).view.emb y : S2x2048x768.Idx) = y :=
      ext3 (show 0 * 2 + 1 * (y 0).val = (y 0).val by omega) (show 0 * 2048 + 1 * (y 1).val = (y 1).val by omega) (show 0 * 768 + 1 * (y 2).val = (y 2).val by omega)
    rw [e]
    refine (congrFun (out_eq _ _) y).trans ?_
    exact congrArg₂ (fun (s : Vec Ideal S8x2048 .f32) (d : Vec Ideal S2x8x768 .f32) => grad s d y) (iblk0_eq m c t) (iblk1_eq m c t)
  · have hN : cfg0.N = 1 := N_0
    obtain ⟨t, ht⟩ : ∃ t : Fin cfg0.N, t.val = 0 := ⟨⟨0, by omega⟩, rfl⟩
    refine ⟨t, flush0_2 t, ?_⟩
    show i ∈ ((View.whole main_v0).slice (win0_2.rect t)).set
    rw [View.set_slice_whole, Rect.mem_set_unit]
    have h0 : (i 0 : ℕ) < 2 := (i 0).isLt
    have h1 : (i 1 : ℕ) < 2048 := (i 1).isLt
    have h2 : (i 2 : ℕ) < 768 := (i 2).isLt
    intro a
    match a with
    | ⟨0, _⟩ => show 0 * 2 ≤ (i 0 : ℕ) ∧ (i 0 : ℕ) < 0 * 2 + 2; omega
    | ⟨1, _⟩ => show 0 * 2048 ≤ (i 1 : ℕ) ∧ (i 1 : ℕ) < 0 * 2048 + 2048; omega
    | ⟨2, _⟩ => show 0 * 768 ≤ (i 2 : ℕ) ∧ (i 2 : ℕ) < 0 * 768 + 768; omega

end Cert.AdaBwdIdeal.Hand

namespace Cert.Proof

open Cert.AdaBwdIdeal.Hand

/-- The reference's gradient is the kernel's. -/
theorem ref_ada_bwd (m : (ℓ : Loc Cert.AdaBwdIdeal.nD Cert.AdaBwdIdeal.τ Cert.AdaBwdIdeal.sig) → Buf (Elt Ideal) ℓ) (c : Dev Cert.AdaBwdIdeal.nD) :
    Cert.AdaBwdRefIdeal.Read.val_main_v1 (F := Ideal) (SC m c) (DM m c) = grad (SC m c) (DM m c) := by
  funext i
  obtain ⟨a, k, l, rfl⟩ : ∃ (a : Fin 2) (k : Fin 2048) (l : Fin 768), i = ix3 a k l := ⟨i 0, i 1, i 2, eq_ix3 i⟩
  unfold Cert.AdaBwdRefIdeal.Read.val_main_v1 Cert.AdaBwdRefIdeal.Read.val_main_v0
  pointwise
  exact Finset.sum_congr rfl fun j _ => mul_comm _ _

/-- The gradient of the conditioning matrices: the kernel's array is the reference's. -/
theorem ada_bwd : Cert.algebraic_AdaBwdIdeal_AdaBwdRefIdeal := by
  intro m g m' g' _ hagree
  refine ⟨fun c => grad (SC m c) (DM m c), ?_, ?_⟩
  · refine (θ_run _ _ _).mono (fun r h c => ?_) (Cert.AdaBwdIdeal.Value.run_blocks (F := Ideal) m g)
    exact ⟨(h c).1.trans (final2 m c), (h c).2⟩
  · refine (θ_run _ _ _).mono (fun r h c => ?_) (Cert.AdaBwdRefIdeal.Value.run (F := Ideal) m' g')
    refine ⟨(h c).1.trans ((Cert.AdaBwdRefIdeal.Read.val_main_v1_eq (F := Ideal) _ _).trans ?_), (h c).2⟩
    rw [(hagree c).1, (hagree c).2]
    exact ref_ada_bwd m c

end Cert.Proof

end
-- ==== Proof.AdamValue.lean ====
module

public import proofs.«01_k».proof.Defs
public import proofs.«01_k».proof.Proof.Gen.AdamIdeal.Value
public import proofs.«01_k».proof.Proof.Gen.AdamRefIdeal.Run
public import proofs.«01_k».proof.Proof.Gen.AdamRefIdeal.Read
public import proofs.«01_k».proof.Proof.Common
public import Idealize.ShloMosaic.Lib.Pointwise
public import Idealize.ShloMosaic.Lib.ValueIdx
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.AdamIdeal.Hand

open Cert.AdamIdeal Cert.AdamIdeal.Gen Cert.AdamIdeal.Value Cert.Common

/-- Two indices of rank three with the same coordinates are equal. -/
theorem ext3 {a b c : ℕ} {i j : (⟨3, ![a, b, c]⟩ : Shape).Idx} (h0 : (i 0).val = (j 0).val) (h1 : (i 1).val = (j 1).val) (h2 : (i 2).val = (j 2).val) : i = j := by
  funext e; exact Fin.ext (match e with | ⟨0, _⟩ => h0 | ⟨1, _⟩ => h1 | ⟨2, _⟩ => h2)

/-- One of the eight parts of the gradient, loaded. -/
theorem ld_part (x : Vec Ideal S8x304x128 .f32) (j : Fin 8) (inb) (r : Fin 304) (l : Fin 128) :
    (View.ld x (Rect.unit (s := S8x304x128) ![j.val, 0, 0] S1x304x128.size inb) : Vec Ideal S1x304x128 .f32) (ix3 0 r l) = x (ix3 j r l) := by
  refine congrArg x (ext3 ?_ ?_ ?_)
  · show j.val + 1 * 0 = j.val; omega
  · show 0 + 1 * r.val = r.val; omega
  · show 0 + 1 * l.val = l.val; omega

/-- Adding up the eight parts, one after the other. -/
theorem pay2_apply (a b c d e f g h : Vec Ideal S1x304x128 .f32) (r : Fin 304) (l : Fin 128) :
    k0_pay2 a b c d e f g h (ix2 r l) = (a (ix3 0 r l) + b (ix3 0 r l) + c (ix3 0 r l) + d (ix3 0 r l) + e (ix3 0 r l) + f (ix3 0 r l) + g (ix3 0 r l) + h (ix3 0 r l) : EReal) := by
  unfold_payloads
  pointwise

/-- The gradient: the sum of the eight parts. -/
theorem pay12_apply (x0 x1 x2 : Vec Ideal S1x304x128 .f32) (x3 : Vec Ideal S8x304x128 .f32) (r : Fin 304) (l : Fin 128) :
    k0_pay12 x0 x1 x2 x3 (ix2 r l) = (∑ j : Fin 8, x3 (ix3 j r l) : EReal) := by
  unfold k0_pay12
  rw [pay2_apply, Fin.sum_univ_eight]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b)
    (ld_part x3 0 _ r l) (ld_part x3 1 _ r l)) (ld_part x3 2 _ r l)) (ld_part x3 3 _ r l)) (ld_part x3 4 _ r l)) (ld_part x3 5 _ r l)) (ld_part x3 6 _ r l)) (ld_part x3 7 _ r l)

/-- The first moment, loaded. -/
theorem pay13_eq (x0 x1 x2 : Vec Ideal S1x304x128 .f32) (x3 : Vec Ideal S8x304x128 .f32) : k0_pay13 x0 x1 x2 x3 = k0_pay4 x1 := by
  unfold k0_pay13
  rw [View.ld_unit_zero (S := S1x304x128) (show (![0, 0, 0] : Fin 3 → Nat) = fun _ => 0 from funext fun a => by fin_cases a <;> rfl)]

end Cert.AdamIdeal.Hand

namespace Cert.Proof

open Cert.AdamIdeal Cert.AdamIdeal.Gen Cert.AdamIdeal.Value Cert.AdamIdeal.Hand

/-- The reference's gradient at a place. -/
theorem ref_adam_grad (x3 : Vec Ideal S8x304x128 .f32) (r : Fin 304) (l : Fin 128) :
    Cert.AdamRefIdeal.Read.val_main_v1 (F := Ideal) x3 (ix3 0 r l) = (∑ j : Fin 8, x3 (ix3 j r l) : EReal) := by
  rw [Cert.AdamRefIdeal.Read.val_main_v1_apply, Cert.AdamRefIdeal.Read.val_main_v0_apply]
  refine Eq.trans (congrArg₂ (fun a b : EReal => a + b) (?_ : _ = (0 : EReal)) (Finset.sum_congr rfl fun j _ => congrArg x3 (?_ : _ = ix3 j r l))) (zero_add _)
  · exact Ideal.ofBits_zero_f32
  · exact ext3 rfl rfl rfl

variable (x0 x1 x2 : Vec Ideal S1x304x128 .f32) (x3 : Vec Ideal S8x304x128 .f32)

/-- The gradient. -/
theorem adam_4 : Cert.AdamRefIdeal.Read.val_main_v1 (F := Ideal) x3 = G4 (F := Ideal) x0 x1 x2 x3 := by
  funext i
  obtain ⟨r, l, rfl⟩ : ∃ (r : Fin 304) (l : Fin 128), i = ix3 (0 : Fin 1) r l := ⟨i 1, i 2, ext3 (by have : (i 0 : ℕ) < 1 := (i 0).isLt; show (i 0 : ℕ) = 0; omega) rfl rfl⟩
  rw [ref_adam_grad, ← pay12_apply x0 x1 x2 x3 r l]
  unfold G4
  generalize k0_pay12 x0 x1 x2 x3 = g
  unfold_payloads
  pointwise

/-- The new first moment. -/
theorem adam_6 : Cert.AdamRefIdeal.Read.val_main_v6 (F := Ideal) x1 x3 = G6 (F := Ideal) x0 x1 x2 x3 := by
  funext i
  obtain ⟨r, l, rfl⟩ : ∃ (r : Fin 304) (l : Fin 128), i = ix3 (0 : Fin 1) r l := ⟨i 1, i 2, ext3 (by have : (i 0 : ℕ) < 1 := (i 0).isLt; show (i 0 : ℕ) = 0; omega) rfl rfl⟩
  have hg := (ref_adam_grad x3 r l).trans (pay12_apply x0 x1 x2 x3 r l).symm
  unfold G6
  rw [pay13_eq]
  unfold k0_pay14
  revert hg
  generalize k0_pay12 x0 x1 x2 x3 = g
  unfold Cert.AdamRefIdeal.Read.val_main_v6 Cert.AdamRefIdeal.Read.val_main_v5 Cert.AdamRefIdeal.Read.val_main_v4 Cert.AdamRefIdeal.Read.val_main_v3 Cert.AdamRefIdeal.Read.val_main_v2 Cert.AdamRefIdeal.Read.val_main_cst_1 Cert.AdamRefIdeal.Read.val_main_cst_0
  generalize Cert.AdamRefIdeal.Read.val_main_v1 (F := Ideal) x3 = g'
  intro hg
  unfold_payloads
  pointwise
  rw [hg]

/-- The new second moment. -/
theorem adam_7 : Cert.AdamRefIdeal.Read.val_main_v12 (F := Ideal) x2 x3 = G7 (F := Ideal) x0 x1 x2 x3 := by
  funext i
  obtain ⟨r, l, rfl⟩ : ∃ (r : Fin 304) (l : Fin 128), i = ix3 (0 : Fin 1) r l := ⟨i 1, i 2, ext3 (by have : (i 0 : ℕ) < 1 := (i 0).isLt; show (i 0 : ℕ) = 0; omega) rfl rfl⟩
  have hg := (ref_adam_grad x3 r l).trans (pay12_apply x0 x1 x2 x3 r l).symm
  unfold G7
  revert hg
  generalize k0_pay12 x0 x1 x2 x3 = g
  unfold Cert.AdamRefIdeal.Read.val_main_v12 Cert.AdamRefIdeal.Read.val_main_v11 Cert.AdamRefIdeal.Read.val_main_v10 Cert.AdamRefIdeal.Read.val_main_v9 Cert.AdamRefIdeal.Read.val_main_v8 Cert.AdamRefIdeal.Read.val_main_v7 Cert.AdamRefIdeal.Read.val_main_cst_3 Cert.AdamRefIdeal.Read.val_main_cst_2
  generalize Cert.AdamRefIdeal.Read.val_main_v1 (F := Ideal) x3 = g'
  intro hg
  unfold_payloads
  pointwise
  rw [hg]

/-- The step. -/
theorem adam_5 : Cert.AdamRefIdeal.Read.val_main_v25 (F := Ideal) x0 x1 x2 x3 = G5 (F := Ideal) x0 x1 x2 x3 := by
  funext i
  obtain ⟨r, l, rfl⟩ : ∃ (r : Fin 304) (l : Fin 128), i = ix3 (0 : Fin 1) r l := ⟨i 1, i 2, ext3 (by have : (i 0 : ℕ) < 1 := (i 0).isLt; show (i 0 : ℕ) = 0; omega) rfl rfl⟩
  have hg := (ref_adam_grad x3 r l).trans (pay12_apply x0 x1 x2 x3 r l).symm
  unfold G5
  rw [pay13_eq]
  unfold k0_pay14
  revert hg
  generalize k0_pay12 x0 x1 x2 x3 = g
  unfold Cert.AdamRefIdeal.Read.val_main_v25 Cert.AdamRefIdeal.Read.val_main_v24 Cert.AdamRefIdeal.Read.val_main_v23 Cert.AdamRefIdeal.Read.val_main_v22 Cert.AdamRefIdeal.Read.val_main_v21 Cert.AdamRefIdeal.Read.val_main_v20 Cert.AdamRefIdeal.Read.val_main_v19 Cert.AdamRefIdeal.Read.val_main_v18 Cert.AdamRefIdeal.Read.val_main_v17 Cert.AdamRefIdeal.Read.val_main_v16 Cert.AdamRefIdeal.Read.val_main_v15 Cert.AdamRefIdeal.Read.val_main_v14 Cert.AdamRefIdeal.Read.val_main_v13 Cert.AdamRefIdeal.Read.val_main_v12 Cert.AdamRefIdeal.Read.val_main_v11 Cert.AdamRefIdeal.Read.val_main_v10 Cert.AdamRefIdeal.Read.val_main_v9 Cert.AdamRefIdeal.Read.val_main_v8 Cert.AdamRefIdeal.Read.val_main_v7 Cert.AdamRefIdeal.Read.val_main_v6 Cert.AdamRefIdeal.Read.val_main_v5 Cert.AdamRefIdeal.Read.val_main_v4 Cert.AdamRefIdeal.Read.val_main_v3 Cert.AdamRefIdeal.Read.val_main_v2 Cert.AdamRefIdeal.Read.val_main_cst_8 Cert.AdamRefIdeal.Read.val_main_cst_7 Cert.AdamRefIdeal.Read.val_main_cst_6 Cert.AdamRefIdeal.Read.val_main_cst_5 Cert.AdamRefIdeal.Read.val_main_cst_4 Cert.AdamRefIdeal.Read.val_main_cst_3 Cert.AdamRefIdeal.Read.val_main_cst_2 Cert.AdamRefIdeal.Read.val_main_cst_1 Cert.AdamRefIdeal.Read.val_main_cst_0
  generalize Cert.AdamRefIdeal.Read.val_main_v1 (F := Ideal) x3 = g'
  intro hg
  unfold_payloads
  pointwise
  rw [hg]

/-- The optimiser's step: the kernel's arrays are the reference's. -/
theorem adam : Cert.algebraic_AdamIdeal_AdamRefIdeal := by
  intro m g m' g' _ hagree
  refine ⟨fun c => G4 (F := Ideal) (m ((c.tc : Thread _ _).loc main_arg0)) (m ((c.tc : Thread _ _).loc main_arg1)) (m ((c.tc : Thread _ _).loc main_arg2)) (m ((c.tc : Thread _ _).loc main_arg3)),
    fun c => G5 (F := Ideal) (m ((c.tc : Thread _ _).loc main_arg0)) (m ((c.tc : Thread _ _).loc main_arg1)) (m ((c.tc : Thread _ _).loc main_arg2)) (m ((c.tc : Thread _ _).loc main_arg3)),
    fun c => G6 (F := Ideal) (m ((c.tc : Thread _ _).loc main_arg0)) (m ((c.tc : Thread _ _).loc main_arg1)) (m ((c.tc : Thread _ _).loc main_arg2)) (m ((c.tc : Thread _ _).loc main_arg3)),
    fun c => G7 (F := Ideal) (m ((c.tc : Thread _ _).loc main_arg0)) (m ((c.tc : Thread _ _).loc main_arg1)) (m ((c.tc : Thread _ _).loc main_arg2)) (m ((c.tc : Thread _ _).loc main_arg3)), ?_, ?_⟩
  · exact Cert.AdamIdeal.Value.run (F := Ideal) m g
  · refine (θ_run _ _ _).mono (fun r h c => ?_) (Cert.AdamRefIdeal.Value.run (F := Ideal) m' g')
    refine ⟨(h c).1.trans ((Cert.AdamRefIdeal.Read.val_main_v1_eq (F := Ideal) _).trans ?_), (h c).2.1.trans ((Cert.AdamRefIdeal.Read.val_main_v25_eq (F := Ideal) _ _ _ _).trans ?_), (h c).2.2.1.trans ((Cert.AdamRefIdeal.Read.val_main_v6_eq (F := Ideal) _ _).trans ?_), (h c).2.2.2.1.trans ((Cert.AdamRefIdeal.Read.val_main_v12_eq (F := Ideal) _ _).trans ?_), (h c).2.2.2.2⟩
    · rw [(hagree c).2.2.2]
      exact adam_4 _ _ _ _
    · rw [(hagree c).1, (hagree c).2.1, (hagree c).2.2.1, (hagree c).2.2.2]
      exact adam_5 _ _ _ _
    · rw [(hagree c).2.1, (hagree c).2.2.2]
      exact adam_6 _ _ _ _
    · rw [(hagree c).2.2.1, (hagree c).2.2.2]
      exact adam_7 _ _ _ _

end Cert.Proof

end
-- ==== Proof.lean ====
module

public import proofs.«01_k».proof.Defs
public import proofs.«01_k».proof.Proof.Gen.OutBwd.Frame
public import proofs.«01_k».proof.Proof.Gen.OutBwdIdeal.Value
public import proofs.«01_k».proof.Proof.Gen.OutBwdRefIdeal.Run
public import proofs.«01_k».proof.Proof.Gen.OutBwdRefIdeal.Read
public import proofs.«01_k».proof.Proof.OutBwdValue
public import proofs.«01_k».proof.Proof.Gen.AttnBwd.Launch
public import proofs.«01_k».proof.Proof.AttnFrame
public import proofs.«01_k».proof.Proof.Gen.AttnBwdRefIdeal.Run
public import proofs.«01_k».proof.Proof.Gen.AttnBwdRefIdeal.Read
public import proofs.«01_k».proof.Proof.AttnValue
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.MergeBwdValue
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.LossHeadValue
public import proofs.«01_k».proof.Proof.Gen.PrenormBwd.Frame
public import proofs.«01_k».proof.Proof.Gen.PrenormBwdIdeal.Value
public import proofs.«01_k».proof.Proof.Gen.PrenormBwdRefIdeal.Run
public import proofs.«01_k».proof.Proof.Gen.PrenormBwdRefIdeal.Read
public import proofs.«01_k».proof.Proof.PrenormBwdValue
public import proofs.«01_k».proof.Proof.Gen.ConvBwd.Frame
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.ConvBwdValue
public import proofs.«01_k».proof.Proof.Gen.PoolBwd.Frame
public import proofs.«01_k».proof.Proof.Gen.PoolBwdIdeal.Value
public import proofs.«01_k».proof.Proof.Gen.PoolBwdRefIdeal.Run
public import proofs.«01_k».proof.Proof.Gen.PoolBwdRefIdeal.Read
public import proofs.«01_k».proof.Proof.PoolBwdValue
public import proofs.«01_k».proof.Proof.Gen.AttnFwd.Launch
public import proofs.«01_k».proof.Proof.AttnFwdFrame
public import proofs.«01_k».proof.Proof.Gen.AttnFwdRefIdeal.Run
public import proofs.«01_k».proof.Proof.Gen.AttnFwdRefIdeal.Read
public import proofs.«01_k».proof.Proof.AttnFwdValue
public import proofs.«01_k».proof.Proof.Gen.ConvFwd.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.ConvFwdValue
public import proofs.«01_k».proof.Proof.Gen.PoolFwd.Frame
public import proofs.«01_k».proof.Proof.Gen.PoolFwdIdeal.Value
public import proofs.«01_k».proof.Proof.Gen.PoolFwdRefIdeal.Run
public import proofs.«01_k».proof.Proof.Gen.PoolFwdRefIdeal.Read
public import proofs.«01_k».proof.Proof.PoolFwdValue
public import proofs.«01_k».proof.Proof.Gen.MergeFwd.Frame
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.MergeFwdValue
public import proofs.«01_k».proof.Proof.Gen.PrenormFwd.Frame
public import proofs.«01_k».proof.Proof.Gen.PrenormFwdIdeal.Value
public import proofs.«01_k».proof.Proof.Gen.PrenormFwdRefIdeal.Run
public import proofs.«01_k».proof.Proof.Gen.PrenormFwdRefIdeal.Read
public import proofs.«01_k».proof.Proof.PrenormFwdValue
public import proofs.«01_k».proof.Proof.Gen.OutFwd.Frame
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.OutFwdValue
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InProjValue
public import proofs.«01_k».proof.Proof.Gen.MergedGrad.Frame
public import proofs.«01_k».proof.Proof.Gen.MergedGradIdeal.Value
public import proofs.«01_k».proof.Proof.Gen.MergedGradRefIdeal.Run
public import proofs.«01_k».proof.Proof.Gen.MergedGradRefIdeal.Read
public import proofs.«01_k».proof.Proof.MergedGradValue
public import proofs.«01_k».proof.Proof.Gen.InProjGrad.Frame
public import proofs.«01_k».proof.Proof.Gen.InProjGradIdeal.Value
public import proofs.«01_k».proof.Proof.Gen.InProjGradRefIdeal.Run
public import proofs.«01_k».proof.Proof.Gen.InProjGradRefIdeal.Read
public import proofs.«01_k».proof.Proof.InProjGradValue
public import proofs.«01_k».proof.Proof.Gen.RowsGrad.Frame
public import proofs.«01_k».proof.Proof.Gen.RowsGradIdeal.Value
public import proofs.«01_k».proof.Proof.Gen.RowsGradRefIdeal.Run
public import proofs.«01_k».proof.Proof.Gen.RowsGradRefIdeal.Read
public import proofs.«01_k».proof.Proof.RowsGradValue
public import proofs.«01_k».proof.Proof.Gen.AdaBwd.Frame
public import proofs.«01_k».proof.Proof.Gen.AdaBwdIdeal.Value
public import proofs.«01_k».proof.Proof.Gen.AdaBwdRefIdeal.Run
public import proofs.«01_k».proof.Proof.Gen.AdaBwdRefIdeal.Read
public import proofs.«01_k».proof.Proof.AdaBwdValue
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamValue
public import Idealize.ShloMosaic.Lib.Quiescent
public import Idealize.ShloMosaic.Lib.Tactic

@[expose] public section

noncomputable section

namespace Cert.Proof

open Idealize.ShloMosaic Idealize.SL.Sem

/-- The reference of `OutBwd` runs to its end, leaves its arguments alone, and has no counter. -/
theorem frame_outb_ref : Cert.quiescent_OutBwdRefIdeal := fun m ρ _ =>
  (θ_run Cert.OutBwdRefIdeal.defs _ _).mono (fun r h => ⟨fun c => (h c).2.2, sem_eq_zero_of_no_sems (by decide) r.2⟩)
    (Cert.OutBwdRefIdeal.Value.run (F := Ideal) m ρ)

/-- The reference of `AttnBwd` runs to its end, leaves its arguments alone, and has no counter. -/
theorem frame_att_ref : Cert.quiescent_AttnBwdRefIdeal := fun m ρ _ =>
  (θ_run Cert.AttnBwdRefIdeal.defs _ _).mono (fun r h => ⟨fun c => (h c).2.2.2.2, sem_eq_zero_of_no_sems (by decide) r.2⟩)
    (Cert.AttnBwdRefIdeal.Value.run (F := Ideal) m ρ)

/-- The attention's gradient program, at the machine's numbers, runs to its end: its text is the ideal program's. -/
theorem frame_att_kernel : Cert.quiescent_AttnBwd := by
  have e : (∀ (m : (ℓ : Loc Cert.AttnBwdIdeal.nD Cert.AttnBwdIdeal.τ Cert.AttnBwdIdeal.sig) → Buf (Elt Bits) ℓ) (ρ : Dev Cert.AttnBwdIdeal.nD → PrngReg),
      θ_run Cert.AttnBwdIdeal.defs (onTc (τ := Cert.AttnBwdIdeal.τ) (Cert.AttnBwdIdeal.main (F := Bits))) ⟨m, fun _ => 0, ρ⟩ (fun r => (∀ c : Dev Cert.AttnBwdIdeal.nD,
        r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
        ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1))
        ∧ r.2.sem = fun _ => 0))
      = (∀ (m : (ℓ : Loc Cert.AttnBwd.nD Cert.AttnBwd.τ Cert.AttnBwd.sig) → Buf (Elt Bits) ℓ) (ρ : Dev Cert.AttnBwd.nD → PrngReg),
      θ_run Cert.AttnBwd.defs (onTc (τ := Cert.AttnBwd.τ) (Cert.AttnBwd.main (F := Bits))) ⟨m, fun _ => 0, ρ⟩ (fun r => (∀ c : Dev Cert.AttnBwd.nD,
        r.2.mem ((c.tc : Thread Cert.AttnBwd.nD Cert.AttnBwd.τ).loc Cert.AttnBwd.main_arg0) = m ((c.tc : Thread Cert.AttnBwd.nD Cert.AttnBwd.τ).loc Cert.AttnBwd.main_arg0)
        ∧ r.2.mem ((c.tc : Thread Cert.AttnBwd.nD Cert.AttnBwd.τ).loc Cert.AttnBwd.main_arg1) = m ((c.tc : Thread Cert.AttnBwd.nD Cert.AttnBwd.τ).loc Cert.AttnBwd.main_arg1))
        ∧ r.2.sem = fun _ => 0)) := by sl_kernel_rfl
  exact fun m ρ _ => e.mp (fun m ρ => Cert.AttnBwdIdeal.Hand.quiet (F := Bits) m ρ) m ρ

/-- The reference of `MergeBwd` runs to its end, leaves its arguments alone, and has no counter. -/
theorem frame_merge_ref : Cert.quiescent_MergeBwdRefIdeal := fun m ρ _ =>
  (θ_run Cert.MergeBwdRefIdeal.defs _ _).mono (fun r h => ⟨fun c => (h c).2.2.2, sem_eq_zero_of_no_sems (by decide) r.2⟩)
    (Cert.MergeBwdRefIdeal.Value.run (F := Ideal) m ρ)

/-- The reference of `LossHead` runs to its end, leaves its arguments alone, and has no counter. -/
theorem frame_loss_ref : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

/-- The reference of `PrenormBwd` runs to its end, leaves its arguments alone, and has no counter. -/
theorem frame_pren_ref : Cert.quiescent_PrenormBwdRefIdeal := fun m ρ _ =>
  (θ_run Cert.PrenormBwdRefIdeal.defs _ _).mono (fun r h => ⟨fun c => (h c).2.2.2.2, sem_eq_zero_of_no_sems (by decide) r.2⟩)
    (Cert.PrenormBwdRefIdeal.Value.run (F := Ideal) m ρ)

/-- The reference of `ConvBwd` runs to its end, leaves its arguments alone, and has no counter. -/
theorem frame_conv_ref : Cert.quiescent_ConvBwdRefIdeal := fun m ρ _ =>
  (θ_run Cert.ConvBwdRefIdeal.defs _ _).mono (fun r h => ⟨fun c => (h c).2.2.2.2.2, sem_eq_zero_of_no_sems (by decide) r.2⟩)
    (Cert.ConvBwdRefIdeal.Value.run (F := Ideal) m ρ)

/-- The reference of `PoolBwd` runs to its end, leaves its arguments alone, and has no counter. -/
theorem frame_pool_ref : Cert.quiescent_PoolBwdRefIdeal := fun m ρ _ =>
  (θ_run Cert.PoolBwdRefIdeal.defs _ _).mono (fun r h => ⟨fun c => (h c).2.2.2.2, sem_eq_zero_of_no_sems (by decide) r.2⟩)
    (Cert.PoolBwdRefIdeal.Value.run (F := Ideal) m ρ)

/-- The reference of `AttnFwd` runs to its end, leaves its arguments alone, and has no counter. -/
theorem frame_attf_ref : Cert.quiescent_AttnFwdRefIdeal := fun m ρ _ =>
  (θ_run Cert.AttnFwdRefIdeal.defs _ _).mono (fun r h => ⟨fun c => (h c).2.2.2, sem_eq_zero_of_no_sems (by decide) r.2⟩)
    (Cert.AttnFwdRefIdeal.Value.run (F := Ideal) m ρ)

/-- The forward attention's program, at the machine's numbers, runs to its end: its text is the ideal program's. -/
theorem frame_attf_kernel : Cert.quiescent_AttnFwd := by
  have e : (∀ (m : (ℓ : Loc Cert.AttnFwdIdeal.nD Cert.AttnFwdIdeal.τ Cert.AttnFwdIdeal.sig) → Buf (Elt Bits) ℓ) (ρ : Dev Cert.AttnFwdIdeal.nD → PrngReg),
      θ_run Cert.AttnFwdIdeal.defs (onTc (τ := Cert.AttnFwdIdeal.τ) (Cert.AttnFwdIdeal.main (F := Bits))) ⟨m, fun _ => 0, ρ⟩ (fun r => (∀ c : Dev Cert.AttnFwdIdeal.nD,
        r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0))
        ∧ r.2.sem = fun _ => 0))
      = (∀ (m : (ℓ : Loc Cert.AttnFwd.nD Cert.AttnFwd.τ Cert.AttnFwd.sig) → Buf (Elt Bits) ℓ) (ρ : Dev Cert.AttnFwd.nD → PrngReg),
      θ_run Cert.AttnFwd.defs (onTc (τ := Cert.AttnFwd.τ) (Cert.AttnFwd.main (F := Bits))) ⟨m, fun _ => 0, ρ⟩ (fun r => (∀ c : Dev Cert.AttnFwd.nD,
        r.2.mem ((c.tc : Thread Cert.AttnFwd.nD Cert.AttnFwd.τ).loc Cert.AttnFwd.main_arg0) = m ((c.tc : Thread Cert.AttnFwd.nD Cert.AttnFwd.τ).loc Cert.AttnFwd.main_arg0))
        ∧ r.2.sem = fun _ => 0)) := by sl_kernel_rfl
  exact fun m ρ _ => e.mp (fun m ρ => Cert.AttnFwdIdeal.Hand.quiet (F := Bits) m ρ) m ρ

/-- The reference of `ConvFwd` runs to its end, leaves its arguments alone, and has no counter. -/
theorem frame_cnvf_ref : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)

/-- The reference of `PoolFwd` runs to its end, leaves its arguments alone, and has no counter. -/
theorem frame_plf_ref : Cert.quiescent_PoolFwdRefIdeal := fun m ρ _ =>
  (θ_run Cert.PoolFwdRefIdeal.defs _ _).mono (fun r h => ⟨fun c => (h c).2, sem_eq_zero_of_no_sems (by decide) r.2⟩)
    (Cert.PoolFwdRefIdeal.Value.run (F := Ideal) m ρ)

/-- The reference of `MergeFwd` runs to its end, leaves its arguments alone, and has no counter. -/
theorem frame_mrgf_ref : Cert.quiescent_MergeFwdRefIdeal := fun m ρ _ =>
  (θ_run Cert.MergeFwdRefIdeal.defs _ _).mono (fun r h => ⟨fun c => (h c).2, sem_eq_zero_of_no_sems (by decide) r.2⟩)
    (Cert.MergeFwdRefIdeal.Value.run (F := Ideal) m ρ)

/-- The reference of `PrenormFwd` runs to its end, leaves its arguments alone, and has no counter. -/
theorem frame_pref_ref : Cert.quiescent_PrenormFwdRefIdeal := fun m ρ _ =>
  (θ_run Cert.PrenormFwdRefIdeal.defs _ _).mono (fun r h => ⟨fun c => (h c).2, sem_eq_zero_of_no_sems (by decide) r.2⟩)
    (Cert.PrenormFwdRefIdeal.Value.run (F := Ideal) m ρ)

/-- The reference of `OutFwd` runs to its end, leaves its arguments alone, and has no counter. -/
theorem frame_outf_ref : Cert.quiescent_OutFwdRefIdeal := fun m ρ _ =>
  (θ_run Cert.OutFwdRefIdeal.defs _ _).mono (fun r h => ⟨fun c => (h c).2.2, sem_eq_zero_of_no_sems (by decide) r.2⟩)
    (Cert.OutFwdRefIdeal.Value.run (F := Ideal) m ρ)

/-- The reference of `InProj` runs to its end, leaves its arguments alone, and has no counter. -/
theorem frame_nn_ref : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- The reference of `MergedGrad` runs to its end, leaves its arguments alone, and has no counter. -/
theorem frame_nt_ref : Cert.quiescent_MergedGradRefIdeal := fun m ρ _ =>
  (θ_run Cert.MergedGradRefIdeal.defs _ _).mono (fun r h => ⟨fun c => (h c).2, sem_eq_zero_of_no_sems (by decide) r.2⟩)
    (Cert.MergedGradRefIdeal.Value.run (F := Ideal) m ρ)

/-- The reference of `InProjGrad` runs to its end, leaves its arguments alone, and has no counter. -/
theorem frame_tn_ref : Cert.quiescent_InProjGradRefIdeal := fun m ρ _ =>
  (θ_run Cert.InProjGradRefIdeal.defs _ _).mono (fun r h => ⟨fun c => (h c).2, sem_eq_zero_of_no_sems (by decide) r.2⟩)
    (Cert.InProjGradRefIdeal.Value.run (F := Ideal) m ρ)

/-- The reference of `RowsGrad` runs to its end, leaves its arguments alone, and has no counter. -/
theorem frame_pair_ref : Cert.quiescent_RowsGradRefIdeal := fun m ρ _ =>
  (θ_run Cert.RowsGradRefIdeal.defs _ _).mono (fun r h => ⟨fun c => (h c).2, sem_eq_zero_of_no_sems (by decide) r.2⟩)
    (Cert.RowsGradRefIdeal.Value.run (F := Ideal) m ρ)

/-- The reference of `AdaBwd` runs to its end, leaves its arguments alone, and has no counter. -/
theorem frame_adab_ref : Cert.quiescent_AdaBwdRefIdeal := fun m ρ _ =>
  (θ_run Cert.AdaBwdRefIdeal.defs _ _).mono (fun r h => ⟨fun c => (h c).2, sem_eq_zero_of_no_sems (by decide) r.2⟩)
    (Cert.AdaBwdRefIdeal.Value.run (F := Ideal) m ρ)

/-- The reference of `Adam` runs to its end, leaves its arguments alone, and has no counter. -/
theorem frame_adam_ref : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

/-- Every claim of the certificate. -/
theorem claim : Cert.Claim :=
  ⟨Cert.OutBwd.Gen.facts, Cert.OutBwdIdeal.Gen.facts, Cert.OutBwdRefIdeal.Gen.facts,
    Cert.AttnBwd.Gen.facts, Cert.AttnBwdIdeal.Gen.facts, Cert.AttnBwdRefIdeal.Gen.facts,
    Cert.MergeBwd.Gen.facts, Cert.MergeBwdIdeal.Gen.facts, Cert.MergeBwdRefIdeal.Gen.facts,
    Cert.LossHead.Gen.facts, Cert.LossHeadIdeal.Gen.facts, Cert.LossHeadRefIdeal.Gen.facts,
    Cert.PrenormBwd.Gen.facts, Cert.PrenormBwdIdeal.Gen.facts, Cert.PrenormBwdRefIdeal.Gen.facts,
    Cert.ConvBwd.Gen.facts, Cert.ConvBwdIdeal.Gen.facts, Cert.ConvBwdRefIdeal.Gen.facts,
    Cert.PoolBwd.Gen.facts, Cert.PoolBwdIdeal.Gen.facts, Cert.PoolBwdRefIdeal.Gen.facts,
    Cert.AttnFwd.Gen.facts, Cert.AttnFwdIdeal.Gen.facts, Cert.AttnFwdRefIdeal.Gen.facts,
    Cert.ConvFwd.Gen.facts, Cert.ConvFwdIdeal.Gen.facts, Cert.ConvFwdRefIdeal.Gen.facts,
    Cert.PoolFwd.Gen.facts, Cert.PoolFwdIdeal.Gen.facts, Cert.PoolFwdRefIdeal.Gen.facts,
    Cert.MergeFwd.Gen.facts, Cert.MergeFwdIdeal.Gen.facts, Cert.MergeFwdRefIdeal.Gen.facts,
    Cert.PrenormFwd.Gen.facts, Cert.PrenormFwdIdeal.Gen.facts, Cert.PrenormFwdRefIdeal.Gen.facts,
    Cert.OutFwd.Gen.facts, Cert.OutFwdIdeal.Gen.facts, Cert.OutFwdRefIdeal.Gen.facts,
    Cert.InProj.Gen.facts, Cert.InProjIdeal.Gen.facts, Cert.InProjRefIdeal.Gen.facts,
    Cert.MergedGrad.Gen.facts, Cert.MergedGradIdeal.Gen.facts, Cert.MergedGradRefIdeal.Gen.facts,
    Cert.InProjGrad.Gen.facts, Cert.InProjGradIdeal.Gen.facts, Cert.InProjGradRefIdeal.Gen.facts,
    Cert.RowsGrad.Gen.facts, Cert.RowsGradIdeal.Gen.facts, Cert.RowsGradRefIdeal.Gen.facts,
    Cert.AdaBwd.Gen.facts, Cert.AdaBwdIdeal.Gen.facts, Cert.AdaBwdRefIdeal.Gen.facts,
    Cert.Adam.Gen.facts, Cert.AdamIdeal.Gen.facts, Cert.AdamRefIdeal.Gen.facts,
    Cert.Pre_finite_att.Gen.facts,
    Cert.Pre_finite_loss.Gen.facts,
    Cert.Pre_finite_pren.Gen.facts,
    Cert.Pre_finite_conv.Gen.facts,
    Cert.Pre_finite_pool.Gen.facts,
    Cert.Pre_finite_attf.Gen.facts,
    Cert.Pre_finite_plf.Gen.facts,
    fun m ρ _ => Cert.OutBwd.Gen.frame m ρ,
    fun m ρ _ => Cert.OutBwdIdeal.Gen.frame m ρ,
    frame_outb_ref,
    frame_att_kernel,
    fun m ρ _ => Cert.AttnBwdIdeal.Hand.quiet (F := Ideal) m ρ,
    fun m ρ _ => Cert.AttnBwdIdeal.Hand.quiet (F := Ideal) m ρ,
    frame_att_ref,
    fun m ρ _ => frame_att_ref m ρ trivial,
    fun m ρ _ => Cert.MergeBwd.Gen.frame m ρ,
    fun m ρ _ => Cert.MergeBwdIdeal.Gen.frame m ρ,
    frame_merge_ref,
    fun m ρ _ => Cert.LossHead.Gen.frame m ρ,
    fun m ρ _ => Cert.LossHeadIdeal.Gen.frame m ρ,
    fun m ρ _ => Cert.LossHeadIdeal.Gen.frame m ρ,
    frame_loss_ref,
    fun m ρ _ => frame_loss_ref m ρ trivial,
    fun m ρ _ => Cert.PrenormBwd.Gen.frame m ρ,
    fun m ρ _ => Cert.PrenormBwdIdeal.Gen.frame m ρ,
    fun m ρ _ => Cert.PrenormBwdIdeal.Gen.frame m ρ,
    frame_pren_ref,
    fun m ρ _ => frame_pren_ref m ρ trivial,
    fun m ρ _ => Cert.ConvBwd.Gen.frame m ρ,
    fun m ρ _ => Cert.ConvBwdIdeal.Gen.frame m ρ,
    fun m ρ _ => Cert.ConvBwdIdeal.Gen.frame m ρ,
    frame_conv_ref,
    fun m ρ _ => frame_conv_ref m ρ trivial,
    fun m ρ _ => Cert.PoolBwd.Gen.frame m ρ,
    fun m ρ _ => Cert.PoolBwdIdeal.Gen.frame m ρ,
    fun m ρ _ => Cert.PoolBwdIdeal.Gen.frame m ρ,
    frame_pool_ref,
    fun m ρ _ => frame_pool_ref m ρ trivial,
    frame_attf_kernel,
    fun m ρ _ => Cert.AttnFwdIdeal.Hand.quiet (F := Ideal) m ρ,
    fun m ρ _ => Cert.AttnFwdIdeal.Hand.quiet (F := Ideal) m ρ,
    frame_attf_ref,
    fun m ρ _ => frame_attf_ref m ρ trivial,
    fun m ρ _ => Cert.ConvFwd.Gen.frame m ρ,
    fun m ρ _ => Cert.ConvFwdIdeal.Gen.frame m ρ,
    frame_cnvf_ref,
    fun m ρ _ => Cert.PoolFwd.Gen.frame m ρ,
    fun m ρ _ => Cert.PoolFwdIdeal.Gen.frame m ρ,
    fun m ρ _ => Cert.PoolFwdIdeal.Gen.frame m ρ,
    frame_plf_ref,
    fun m ρ _ => frame_plf_ref m ρ trivial,
    fun m ρ _ => Cert.MergeFwd.Gen.frame m ρ,
    fun m ρ _ => Cert.MergeFwdIdeal.Gen.frame m ρ,
    frame_mrgf_ref,
    fun m ρ _ => Cert.PrenormFwd.Gen.frame m ρ,
    fun m ρ _ => Cert.PrenormFwdIdeal.Gen.frame m ρ,
    frame_pref_ref,
    fun m ρ _ => Cert.OutFwd.Gen.frame m ρ,
    fun m ρ _ => Cert.OutFwdIdeal.Gen.frame m ρ,
    frame_outf_ref,
    fun m ρ _ => Cert.InProj.Gen.frame m ρ,
    fun m ρ _ => Cert.InProjIdeal.Gen.frame m ρ,
    frame_nn_ref,
    fun m ρ _ => Cert.MergedGrad.Gen.frame m ρ,
    fun m ρ _ => Cert.MergedGradIdeal.Gen.frame m ρ,
    frame_nt_ref,
    fun m ρ _ => Cert.InProjGrad.Gen.frame m ρ,
    fun m ρ _ => Cert.InProjGradIdeal.Gen.frame m ρ,
    frame_tn_ref,
    fun m ρ _ => Cert.RowsGrad.Gen.frame m ρ,
    fun m ρ _ => Cert.RowsGradIdeal.Gen.frame m ρ,
    frame_pair_ref,
    fun m ρ _ => Cert.AdaBwd.Gen.frame m ρ,
    fun m ρ _ => Cert.AdaBwdIdeal.Gen.frame m ρ,
    frame_adab_ref,
    fun m ρ _ => Cert.Adam.Gen.frame m ρ,
    fun m ρ _ => Cert.AdamIdeal.Gen.frame m ρ,
    frame_adam_ref,
    trivial,
    out_bwd,
    trivial,
    attn_bwd,
    trivial,
    merge_bwd,
    trivial,
    loss_head,
    trivial,
    prenorm_bwd,
    trivial,
    conv_bwd,
    trivial,
    pool_bwd,
    trivial,
    attn_fwd,
    trivial,
    conv_fwd,
    trivial,
    pool_fwd,
    trivial,
    merge_fwd,
    trivial,
    prenorm_fwd,
    trivial,
    out_fwd,
    trivial,
    in_proj,
    trivial,
    merged_grad,
    trivial,
    in_proj_grad,
    trivial,
    rows_grad,
    trivial,
    ada_bwd,
    trivial,
    adam⟩

end Cert.Proof

end
